-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite5 [hPre_finite5 : Cert.Pre_finite5.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite5 [hPre_finite5 : Cert.Pre_finite5.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7))) = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7))
      ∧ r.2.sem = fun _ => 0)

def quiescent_Kernel5Ideal_pre_finite5 [hKernel5Ideal : Cert.Kernel5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite5 m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7))
      ∧ r.2.sem = fun _ => 0)

def quiescent_Reference5Ideal_pre_finite5 [hReference5Ideal : Cert.Reference5Ideal.Facts] [hPre_finite5 : Cert.Pre_finite5.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite5 m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6)
      ∧ r.2.mem ((c.tc : Thread Cert.Kernel7.nD Cert.Kernel7.τ).loc Cert.Kernel7.main_arg7) = m ((c.tc : Thread Cert.Kernel7.nD Cert.Kernel7.τ).loc Cert.Kernel7.main_arg7))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
      ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6)
      ∧ r.2.mem ((c.tc : Thread Cert.Reference7Ideal.nD Cert.Reference7Ideal.τ).loc Cert.Reference7Ideal.main_arg7) = m ((c.tc : Thread Cert.Reference7Ideal.nD Cert.Reference7Ideal.τ).loc Cert.Reference7Ideal.main_arg7))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v5_0)) (v1 : (c : Dev Cert.KernelIdeal.nD) → Buf (Elt Ideal) ((c.tc : Thread Cert.KernelIdeal.nD Cert.KernelIdeal.τ).loc Cert.KernelIdeal.main_v5_1)) (v2 : (c : Dev Cert.KernelIdeal.nD) → Buf (Elt Ideal) ((c.tc : Thread Cert.KernelIdeal.nD Cert.KernelIdeal.τ).loc Cert.KernelIdeal.main_v5_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5_0) = v0 c
          ∧ r.2.mem ((c.tc : Thread Cert.KernelIdeal.nD Cert.KernelIdeal.τ).loc Cert.KernelIdeal.main_v5_1) = v1 c
          ∧ r.2.mem ((c.tc : Thread Cert.KernelIdeal.nD Cert.KernelIdeal.τ).loc Cert.KernelIdeal.main_v5_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v74) = v0 c
          ∧ r.2.mem ((c.tc : Thread Cert.ReferenceIdeal.nD Cert.ReferenceIdeal.τ).loc Cert.ReferenceIdeal.main_v40) = v1 c
          ∧ r.2.mem ((c.tc : Thread Cert.ReferenceIdeal.nD Cert.ReferenceIdeal.τ).loc Cert.ReferenceIdeal.main_v82) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v22_0)) (v1 : (c : Dev Cert.Kernel2Ideal.nD) → Buf (Elt Ideal) ((c.tc : Thread Cert.Kernel2Ideal.nD Cert.Kernel2Ideal.τ).loc Cert.Kernel2Ideal.main_v22_1)) (v2 : (c : Dev Cert.Kernel2Ideal.nD) → Buf (Elt Ideal) ((c.tc : Thread Cert.Kernel2Ideal.nD Cert.Kernel2Ideal.τ).loc Cert.Kernel2Ideal.main_v22_2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v22_0) = v0 c
          ∧ r.2.mem ((c.tc : Thread Cert.Kernel2Ideal.nD Cert.Kernel2Ideal.τ).loc Cert.Kernel2Ideal.main_v22_1) = v1 c
          ∧ r.2.mem ((c.tc : Thread Cert.Kernel2Ideal.nD Cert.Kernel2Ideal.τ).loc Cert.Kernel2Ideal.main_v22_2) = v2 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v65) = v0 c
          ∧ r.2.mem ((c.tc : Thread Cert.Reference2Ideal.nD Cert.Reference2Ideal.τ).loc Cert.Reference2Ideal.main_v69) = v1 c
          ∧ r.2.mem ((c.tc : Thread Cert.Reference2Ideal.nD Cert.Reference2Ideal.τ).loc Cert.Reference2Ideal.main_v73) = v2 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v0_0)) (v1 : (c : Dev Cert.Kernel3Ideal.nD) → Buf (Elt Ideal) ((c.tc : Thread Cert.Kernel3Ideal.nD Cert.Kernel3Ideal.τ).loc Cert.Kernel3Ideal.main_v0_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0_0) = v0 c
          ∧ r.2.mem ((c.tc : Thread Cert.Kernel3Ideal.nD Cert.Kernel3Ideal.τ).loc Cert.Kernel3Ideal.main_v0_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v5) = v0 c
          ∧ r.2.mem ((c.tc : Thread Cert.Reference3Ideal.nD Cert.Reference3Ideal.τ).loc Cert.Reference3Ideal.main_v14) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)) →
    ∃ (v0 : (c : Dev Cert.Kernel4Ideal.nD) → Buf (Elt Ideal) ((c.tc : Thread Cert.Kernel4Ideal.nD Cert.Kernel4Ideal.τ).loc Cert.Kernel4Ideal.main_v16_0)) (v1 : (c : Dev Cert.Kernel4Ideal.nD) → Buf (Elt Ideal) ((c.tc : Thread Cert.Kernel4Ideal.nD Cert.Kernel4Ideal.τ).loc Cert.Kernel4Ideal.main_v16_1)) (v2 : (c : Dev Cert.Kernel4Ideal.nD) → Buf (Elt Ideal) ((c.tc : Thread Cert.Kernel4Ideal.nD Cert.Kernel4Ideal.τ).loc Cert.Kernel4Ideal.main_v16_2)) (v3 : (c : Dev Cert.Kernel4Ideal.nD) → Buf (Elt Ideal) ((c.tc : Thread Cert.Kernel4Ideal.nD Cert.Kernel4Ideal.τ).loc Cert.Kernel4Ideal.main_v16_3)) (v4 : (c : Dev Cert.Kernel4Ideal.nD) → Buf (Elt Ideal) ((c.tc : Thread Cert.Kernel4Ideal.nD Cert.Kernel4Ideal.τ).loc Cert.Kernel4Ideal.main_v16_4)) (v5 : (c : Dev Cert.Kernel4Ideal.nD) → Buf (Elt Ideal) ((c.tc : Thread Cert.Kernel4Ideal.nD Cert.Kernel4Ideal.τ).loc Cert.Kernel4Ideal.main_v16_5)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v16_0) = v0 c
          ∧ r.2.mem ((c.tc : Thread Cert.Kernel4Ideal.nD Cert.Kernel4Ideal.τ).loc Cert.Kernel4Ideal.main_v16_1) = v1 c
          ∧ r.2.mem ((c.tc : Thread Cert.Kernel4Ideal.nD Cert.Kernel4Ideal.τ).loc Cert.Kernel4Ideal.main_v16_2) = v2 c
          ∧ r.2.mem ((c.tc : Thread Cert.Kernel4Ideal.nD Cert.Kernel4Ideal.τ).loc Cert.Kernel4Ideal.main_v16_3) = v3 c
          ∧ r.2.mem ((c.tc : Thread Cert.Kernel4Ideal.nD Cert.Kernel4Ideal.τ).loc Cert.Kernel4Ideal.main_v16_4) = v4 c
          ∧ r.2.mem ((c.tc : Thread Cert.Kernel4Ideal.nD Cert.Kernel4Ideal.τ).loc Cert.Kernel4Ideal.main_v16_5) = v5 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v39) = v0 c
          ∧ r.2.mem ((c.tc : Thread Cert.Reference4Ideal.nD Cert.Reference4Ideal.τ).loc Cert.Reference4Ideal.main_v42) = v1 c
          ∧ r.2.mem ((c.tc : Thread Cert.Reference4Ideal.nD Cert.Reference4Ideal.τ).loc Cert.Reference4Ideal.main_v43) = v2 c
          ∧ r.2.mem ((c.tc : Thread Cert.Reference4Ideal.nD Cert.Reference4Ideal.τ).loc Cert.Reference4Ideal.main_v45) = v3 c
          ∧ r.2.mem ((c.tc : Thread Cert.Reference4Ideal.nD Cert.Reference4Ideal.τ).loc Cert.Reference4Ideal.main_v48) = v4 c
          ∧ r.2.mem ((c.tc : Thread Cert.Reference4Ideal.nD Cert.Reference4Ideal.τ).loc Cert.Reference4Ideal.main_v51) = v5 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6))

def preserves_Kernel5_Kernel5Ideal : Prop :=
  True

def algebraic_Kernel5Ideal_Reference5Ideal_pre_finite5 [hKernel5Ideal : Cert.Kernel5Ideal.Facts] [hReference5Ideal : Cert.Reference5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite5 m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)) →
    ∃ (v0 : (c : Dev Cert.Kernel5Ideal.nD) → Buf (Elt Ideal) ((c.tc : Thread Cert.Kernel5Ideal.nD Cert.Kernel5Ideal.τ).loc Cert.Kernel5Ideal.main_v63_0)) (v1 : (c : Dev Cert.Kernel5Ideal.nD) → Buf (Elt Ideal) ((c.tc : Thread Cert.Kernel5Ideal.nD Cert.Kernel5Ideal.τ).loc Cert.Kernel5Ideal.main_v63_1)) (v2 : (c : Dev Cert.Kernel5Ideal.nD) → Buf (Elt Ideal) ((c.tc : Thread Cert.Kernel5Ideal.nD Cert.Kernel5Ideal.τ).loc Cert.Kernel5Ideal.main_v63_2)) (v3 : (c : Dev Cert.Kernel5Ideal.nD) → Buf (Elt Ideal) ((c.tc : Thread Cert.Kernel5Ideal.nD Cert.Kernel5Ideal.τ).loc Cert.Kernel5Ideal.main_v63_3)) (v4 : (c : Dev Cert.Kernel5Ideal.nD) → Buf (Elt Ideal) ((c.tc : Thread Cert.Kernel5Ideal.nD Cert.Kernel5Ideal.τ).loc Cert.Kernel5Ideal.main_v63_4)) (v5 : (c : Dev Cert.Kernel5Ideal.nD) → Buf (Elt Ideal) ((c.tc : Thread Cert.Kernel5Ideal.nD Cert.Kernel5Ideal.τ).loc Cert.Kernel5Ideal.main_v63_5)) (v6 : (c : Dev Cert.Kernel5Ideal.nD) → Buf (Elt Ideal) ((c.tc : Thread Cert.Kernel5Ideal.nD Cert.Kernel5Ideal.τ).loc Cert.Kernel5Ideal.main_v63_6)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v63_0) = v0 c
          ∧ r.2.mem ((c.tc : Thread Cert.Kernel5Ideal.nD Cert.Kernel5Ideal.τ).loc Cert.Kernel5Ideal.main_v63_1) = v1 c
          ∧ r.2.mem ((c.tc : Thread Cert.Kernel5Ideal.nD Cert.Kernel5Ideal.τ).loc Cert.Kernel5Ideal.main_v63_2) = v2 c
          ∧ r.2.mem ((c.tc : Thread Cert.Kernel5Ideal.nD Cert.Kernel5Ideal.τ).loc Cert.Kernel5Ideal.main_v63_3) = v3 c
          ∧ r.2.mem ((c.tc : Thread Cert.Kernel5Ideal.nD Cert.Kernel5Ideal.τ).loc Cert.Kernel5Ideal.main_v63_4) = v4 c
          ∧ r.2.mem ((c.tc : Thread Cert.Kernel5Ideal.nD Cert.Kernel5Ideal.τ).loc Cert.Kernel5Ideal.main_v63_5) = v5 c
          ∧ r.2.mem ((c.tc : Thread Cert.Kernel5Ideal.nD Cert.Kernel5Ideal.τ).loc Cert.Kernel5Ideal.main_v63_6) = v6 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v100) = v0 c
          ∧ r.2.mem ((c.tc : Thread Cert.Reference5Ideal.nD Cert.Reference5Ideal.τ).loc Cert.Reference5Ideal.main_v103) = v1 c
          ∧ r.2.mem ((c.tc : Thread Cert.Reference5Ideal.nD Cert.Reference5Ideal.τ).loc Cert.Reference5Ideal.main_v106) = v2 c
          ∧ r.2.mem ((c.tc : Thread Cert.Reference5Ideal.nD Cert.Reference5Ideal.τ).loc Cert.Reference5Ideal.main_v107) = v3 c
          ∧ r.2.mem ((c.tc : Thread Cert.Reference5Ideal.nD Cert.Reference5Ideal.τ).loc Cert.Reference5Ideal.main_v109) = v4 c
          ∧ r.2.mem ((c.tc : Thread Cert.Reference5Ideal.nD Cert.Reference5Ideal.τ).loc Cert.Reference5Ideal.main_v113) = v5 c
          ∧ r.2.mem ((c.tc : Thread Cert.Reference5Ideal.nD Cert.Reference5Ideal.τ).loc Cert.Reference5Ideal.main_v118) = v6 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v4_0)) (v1 : (c : Dev Cert.Kernel6Ideal.nD) → Buf (Elt Ideal) ((c.tc : Thread Cert.Kernel6Ideal.nD Cert.Kernel6Ideal.τ).loc Cert.Kernel6Ideal.main_v4_1)) (v2 : (c : Dev Cert.Kernel6Ideal.nD) → Buf (Elt Ideal) ((c.tc : Thread Cert.Kernel6Ideal.nD Cert.Kernel6Ideal.τ).loc Cert.Kernel6Ideal.main_v4_2)) (v3 : (c : Dev Cert.Kernel6Ideal.nD) → Buf (Elt Ideal) ((c.tc : Thread Cert.Kernel6Ideal.nD Cert.Kernel6Ideal.τ).loc Cert.Kernel6Ideal.main_v4_3)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v4_0) = v0 c
          ∧ r.2.mem ((c.tc : Thread Cert.Kernel6Ideal.nD Cert.Kernel6Ideal.τ).loc Cert.Kernel6Ideal.main_v4_1) = v1 c
          ∧ r.2.mem ((c.tc : Thread Cert.Kernel6Ideal.nD Cert.Kernel6Ideal.τ).loc Cert.Kernel6Ideal.main_v4_2) = v2 c
          ∧ r.2.mem ((c.tc : Thread Cert.Kernel6Ideal.nD Cert.Kernel6Ideal.τ).loc Cert.Kernel6Ideal.main_v4_3) = v3 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v591) = v0 c
          ∧ r.2.mem ((c.tc : Thread Cert.Reference6Ideal.nD Cert.Reference6Ideal.τ).loc Cert.Reference6Ideal.main_v593) = v1 c
          ∧ r.2.mem ((c.tc : Thread Cert.Reference6Ideal.nD Cert.Reference6Ideal.τ).loc Cert.Reference6Ideal.main_v596) = v2 c
          ∧ r.2.mem ((c.tc : Thread Cert.Reference6Ideal.nD Cert.Reference6Ideal.τ).loc Cert.Reference6Ideal.main_v599) = v3 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)
      ∧ m' ((c.tc : Thread Cert.Reference7Ideal.nD Cert.Reference7Ideal.τ).loc Cert.Reference7Ideal.main_arg7) = m ((c.tc : Thread Cert.Kernel7Ideal.nD Cert.Kernel7Ideal.τ).loc Cert.Kernel7Ideal.main_arg7)) →
    ∃ (v0 : (c : Dev Cert.Kernel7Ideal.nD) → Buf (Elt Ideal) ((c.tc : Thread Cert.Kernel7Ideal.nD Cert.Kernel7Ideal.τ).loc Cert.Kernel7Ideal.main_v8_0)) (v1 : (c : Dev Cert.Kernel7Ideal.nD) → Buf (Elt Ideal) ((c.tc : Thread Cert.Kernel7Ideal.nD Cert.Kernel7Ideal.τ).loc Cert.Kernel7Ideal.main_v8_1)) (v2 : (c : Dev Cert.Kernel7Ideal.nD) → Buf (Elt Ideal) ((c.tc : Thread Cert.Kernel7Ideal.nD Cert.Kernel7Ideal.τ).loc Cert.Kernel7Ideal.main_v8_2)) (v3 : (c : Dev Cert.Kernel7Ideal.nD) → Buf (Elt Ideal) ((c.tc : Thread Cert.Kernel7Ideal.nD Cert.Kernel7Ideal.τ).loc Cert.Kernel7Ideal.main_v8_3)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v8_0) = v0 c
          ∧ r.2.mem ((c.tc : Thread Cert.Kernel7Ideal.nD Cert.Kernel7Ideal.τ).loc Cert.Kernel7Ideal.main_v8_1) = v1 c
          ∧ r.2.mem ((c.tc : Thread Cert.Kernel7Ideal.nD Cert.Kernel7Ideal.τ).loc Cert.Kernel7Ideal.main_v8_2) = v2 c
          ∧ r.2.mem ((c.tc : Thread Cert.Kernel7Ideal.nD Cert.Kernel7Ideal.τ).loc Cert.Kernel7Ideal.main_v8_3) = v3 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
          ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v63) = v0 c
          ∧ r.2.mem ((c.tc : Thread Cert.Reference7Ideal.nD Cert.Reference7Ideal.τ).loc Cert.Reference7Ideal.main_v65) = v1 c
          ∧ r.2.mem ((c.tc : Thread Cert.Reference7Ideal.nD Cert.Reference7Ideal.τ).loc Cert.Reference7Ideal.main_v66) = v2 c
          ∧ r.2.mem ((c.tc : Thread Cert.Reference7Ideal.nD Cert.Reference7Ideal.τ).loc Cert.Reference7Ideal.main_v68) = v3 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6)
          ∧ r.2.mem ((c.tc : Thread Cert.Reference7Ideal.nD Cert.Reference7Ideal.τ).loc Cert.Reference7Ideal.main_arg7) = m' ((c.tc : Thread Cert.Reference7Ideal.nD Cert.Reference7Ideal.τ).loc Cert.Reference7Ideal.main_arg7))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hPre_finite : Cert.Pre_finite.Facts) (hPre_finite2 : Cert.Pre_finite2.Facts) (hPre_finite5 : Cert.Pre_finite5.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Kernel5Ideal_pre_finite5 (hKernel5Ideal := hKernel5Ideal) (hPre_finite5 := hPre_finite5)
    ∧ quiescent_Reference5Ideal (hReference5Ideal := hReference5Ideal)
    ∧ quiescent_Reference5Ideal_pre_finite5 (hReference5Ideal := hReference5Ideal) (hPre_finite5 := hPre_finite5)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal_pre_finite5 (hKernel5Ideal := hKernel5Ideal) (hReference5Ideal := hReference5Ideal) (hPre_finite5 := hPre_finite5)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
-- ==== Pre_finite.lean ====
abbrev S4x2048x1024 : Shape := ⟨3, ![4, 2048, 1024]⟩
abbrev S4x2048x512 : Shape := ⟨3, ![4, 2048, 512]⟩
abbrev S1x512 : Shape := ⟨2, ![1, 512]⟩
abbrev S1x1024x1024 : Shape := ⟨3, ![1, 1024, 1024]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S4x2048x512 : S_.BroadcastsInDim S4x2048x512 (![] : Fin 0 → Fin S4x2048x512.rank)
  reducesTo_S4x2048x512_S_d0_1_2 : S4x2048x512.ReducesTo [0, 1, 2] S_
  bcast_S_S1x512 : S_.BroadcastsInDim S1x512 (![] : Fin 0 → Fin S1x512.rank)
  reducesTo_S1x512_S_d0_1 : S1x512.ReducesTo [0, 1] S_
  bcast_S_S1x1024x1024 : S_.BroadcastsInDim S1x1024x1024 (![] : Fin 0 → Fin S1x1024x1024.rank)
  reducesTo_S1x1024x1024_S_d0_1_2 : S1x1024x1024.ReducesTo [0, 1, 2] S_

variable [Facts]

def fn_part1 {F : FTy → Type} [FloatOps F] (main_arg4 : FVec F S1x1024x1024 .f32) (main_v3 : IVec S_ 1) (main_v7 : IVec S_ 1) (main_v11 : IVec S_ 1) (main_v15 : IVec S_ 1) : IVec S_ 1 :=
  let main_v16 : FVec F S1x1024x1024 .f32 := Host.absf main_arg4
  let main_cst_6 : FVec F S_ .f32 := constant S_ .f32 0x7F800000#32
  let main_v17 : FVec F S1x1024x1024 .f32 := broadcastInDim S1x1024x1024 ![] bcast_S_S1x1024x1024 main_cst_6
  let main_v18 : IVec S1x1024x1024 1 := cmpf .olt main_v16 main_v17
  let main_c_7 : IVec S_ 1 := constantI S_ 1 1#1
  let main_v19 : IVec S_ 1 := (fun x v => Host.reduce IntOp.andi x v reducesTo_S1x1024x1024_S_d0_1_2 h_S_) main_v18 main_c_7
  let main_v20 : IVec S_ 1 := andi main_v3 main_v7
  let main_v21 : IVec S_ 1 := andi main_v20 main_v11
  let main_v22 : IVec S_ 1 := andi main_v21 main_v15
  let main_v23 : IVec S_ 1 := andi main_v22 main_v19
  main_v23

def fn {F : FTy → Type} [FloatOps F] (main_arg0 : FVec F S4x2048x1024 .f32) (main_arg1 : FVec F S4x2048x512 .f32) (main_arg2 : FVec F S1x512 .f32) (main_arg3 : FVec F S1x512 .f32) (main_arg4 : FVec F S1x1024x1024 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S4x2048x512 .f32 := Host.absf main_arg1
  let main_cst_0 : FVec F S_ .f32 := constant S_ .f32 0x7F800000#32
  let main_v5 : FVec F S4x2048x512 .f32 := broadcastInDim S4x2048x512 ![] bcast_S_S4x2048x512 main_cst_0
  let main_v6 : IVec S4x2048x512 1 := cmpf .olt main_v4 main_v5
  let main_c_1 : IVec S_ 1 := constantI S_ 1 1#1
  let main_v7 : IVec S_ 1 := (fun x v => Host.reduce IntOp.andi x v reducesTo_S4x2048x512_S_d0_1_2 h_S_) main_v6 main_c_1
  let main_v8 : FVec F S1x512 .f32 := Host.absf main_arg2
  let main_cst_2 : FVec F S_ .f32 := constant S_ .f32 0x7F800000#32
  let main_v9 : FVec F S1x512 .f32 := broadcastInDim S1x512 ![] bcast_S_S1x512 main_cst_2
  let main_v10 : IVec S1x512 1 := cmpf .olt main_v8 main_v9
  let main_c_3 : IVec S_ 1 := constantI S_ 1 1#1
  let main_v11 : IVec S_ 1 := (fun x v => Host.reduce IntOp.andi x v reducesTo_S1x512_S_d0_1 h_S_) main_v10 main_c_3
  let main_v12 : FVec F S1x512 .f32 := Host.absf main_arg3
  let main_cst_4 : FVec F S_ .f32 := constant S_ .f32 0x7F800000#32
  let main_v13 : FVec F S1x512 .f32 := broadcastInDim S1x512 ![] bcast_S_S1x512 main_cst_4
  let main_v14 : IVec S1x512 1 := cmpf .olt main_v12 main_v13
  let main_c_5 : IVec S_ 1 := constantI S_ 1 1#1
  let main_v15 : IVec S_ 1 := (fun x v => Host.reduce IntOp.andi x v reducesTo_S1x512_S_d0_1 h_S_) main_v14 main_c_5
  fn_part1 (F := F) main_arg4 main_v3 main_v7 main_v11 main_v15
-- ==== Pre_finite2.lean ====
abbrev S4x2048x1024 : Shape := ⟨3, ![4, 2048, 1024]⟩
abbrev S4x6144 : Shape := ⟨2, ![4, 6144]⟩
abbrev S1x1024 : Shape := ⟨2, ![1, 1024]⟩
abbrev S1x1024x2560 : Shape := ⟨3, ![1, 1024, 2560]⟩
abbrev S4x2048x2560 : Shape := ⟨3, ![4, 2048, 2560]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S4x6144 : S_.BroadcastsInDim S4x6144 (![] : Fin 0 → Fin S4x6144.rank)
  reducesTo_S4x6144_S_d0_1 : S4x6144.ReducesTo [0, 1] S_
  bcast_S_S1x1024 : S_.BroadcastsInDim S1x1024 (![] : Fin 0 → Fin S1x1024.rank)
  reducesTo_S1x1024_S_d0_1 : S1x1024.ReducesTo [0, 1] S_
  bcast_S_S1x1024x2560 : S_.BroadcastsInDim S1x1024x2560 (![] : Fin 0 → Fin S1x1024x2560.rank)
  reducesTo_S1x1024x2560_S_d0_1_2 : S1x1024x2560.ReducesTo [0, 1, 2] S_
  bcast_S_S4x2048x2560 : S_.BroadcastsInDim S4x2048x2560 (![] : Fin 0 → Fin S4x2048x2560.rank)
  reducesTo_S4x2048x2560_S_d0_1_2 : S4x2048x2560.ReducesTo [0, 1, 2] S_

variable [Facts]

def fn_part1 {F : FTy → Type} [FloatOps F] (main_arg4 : FVec F S4x2048x1024 .f32) (main_arg5 : FVec F S4x2048x2560 .f32) (main_v3 : IVec S_ 1) (main_v7 : IVec S_ 1) (main_v11 : IVec S_ 1) (main_v15 : IVec S_ 1) : IVec S_ 1 :=
  let main_v16 : FVec F S4x2048x1024 .f32 := Host.absf main_arg4
  let main_cst_6 : FVec F S_ .f32 := constant S_ .f32 0x7F800000#32
  let main_v17 : FVec F S4x2048x1024 .f32 := broadcastInDim S4x2048x1024 ![] bcast_S_S4x2048x1024 main_cst_6
  let main_v18 : IVec S4x2048x1024 1 := cmpf .olt main_v16 main_v17
  let main_c_7 : IVec S_ 1 := constantI S_ 1 1#1
  let main_v19 : IVec S_ 1 := (fun x v => Host.reduce IntOp.andi x v reducesTo_S4x2048x1024_S_d0_1_2 h_S_) main_v18 main_c_7
  let main_v20 : FVec F S4x2048x2560 .f32 := Host.absf main_arg5
  let main_cst_8 : FVec F S_ .f32 := constant S_ .f32 0x7F800000#32
  let main_v21 : FVec F S4x2048x2560 .f32 := broadcastInDim S4x2048x2560 ![] bcast_S_S4x2048x2560 main_cst_8
  let main_v22 : IVec S4x2048x2560 1 := cmpf .olt main_v20 main_v21
  let main_c_9 : IVec S_ 1 := constantI S_ 1 1#1
  let main_v23 : IVec S_ 1 := (fun x v => Host.reduce IntOp.andi x v reducesTo_S4x2048x2560_S_d0_1_2 h_S_) main_v22 main_c_9
  let main_v24 : IVec S_ 1 := andi main_v3 main_v7
  let main_v25 : IVec S_ 1 := andi main_v24 main_v11
  let main_v26 : IVec S_ 1 := andi main_v25 main_v15
  let main_v27 : IVec S_ 1 := andi main_v26 main_v19
  let main_v28 : IVec S_ 1 := andi main_v27 main_v23
  main_v28

def fn {F : FTy → Type} [FloatOps F] (main_arg0 : FVec F S4x2048x1024 .f32) (main_arg1 : FVec F S4x6144 .f32) (main_arg2 : FVec F S1x1024 .f32) (main_arg3 : FVec F S1x1024x2560 .f32) (main_arg4 : FVec F S4x2048x1024 .f32) (main_arg5 : FVec F S4x2048x2560 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S4x6144 .f32 := Host.absf main_arg1
  let main_cst_0 : FVec F S_ .f32 := constant S_ .f32 0x7F800000#32
  let main_v5 : FVec F S4x6144 .f32 := broadcastInDim S4x6144 ![] bcast_S_S4x6144 main_cst_0
  let main_v6 : IVec S4x6144 1 := cmpf .olt main_v4 main_v5
  let main_c_1 : IVec S_ 1 := constantI S_ 1 1#1
  let main_v7 : IVec S_ 1 := (fun x v => Host.reduce IntOp.andi x v reducesTo_S4x6144_S_d0_1 h_S_) main_v6 main_c_1
  let main_v8 : FVec F S1x1024 .f32 := Host.absf main_arg2
  let main_cst_2 : FVec F S_ .f32 := constant S_ .f32 0x7F800000#32
  let main_v9 : FVec F S1x1024 .f32 := broadcastInDim S1x1024 ![] bcast_S_S1x1024 main_cst_2
  let main_v10 : IVec S1x1024 1 := cmpf .olt main_v8 main_v9
  let main_c_3 : IVec S_ 1 := constantI S_ 1 1#1
  let main_v11 : IVec S_ 1 := (fun x v => Host.reduce IntOp.andi x v reducesTo_S1x1024_S_d0_1 h_S_) main_v10 main_c_3
  let main_v12 : FVec F S1x1024x2560 .f32 := Host.absf main_arg3
  let main_cst_4 : FVec F S_ .f32 := constant S_ .f32 0x7F800000#32
  let main_v13 : FVec F S1x1024x2560 .f32 := broadcastInDim S1x1024x2560 ![] bcast_S_S1x1024x2560 main_cst_4
  let main_v14 : IVec S1x1024x2560 1 := cmpf .olt main_v12 main_v13
  let main_c_5 : IVec S_ 1 := constantI S_ 1 1#1
  let main_v15 : IVec S_ 1 := (fun x v => Host.reduce IntOp.andi x v reducesTo_S1x1024x2560_S_d0_1_2 h_S_) main_v14 main_c_5
  fn_part1 (F := F) main_arg4 main_arg5 main_v3 main_v7 main_v11 main_v15
-- ==== Pre_finite5.lean ====
abbrev S4x2048x1024 : Shape := ⟨3, ![4, 2048, 1024]⟩
abbrev S4x6144 : Shape := ⟨2, ![4, 6144]⟩
abbrev S1x1024 : Shape := ⟨2, ![1, 1024]⟩
abbrev S1x1024x2816 : Shape := ⟨3, ![1, 1024, 2816]⟩
abbrev S1x2816x1024 : Shape := ⟨3, ![1, 2816, 1024]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S4x6144 : S_.BroadcastsInDim S4x6144 (![] : Fin 0 → Fin S4x6144.rank)
  reducesTo_S4x6144_S_d0_1 : S4x6144.ReducesTo [0, 1] S_
  bcast_S_S1x1024 : S_.BroadcastsInDim S1x1024 (![] : Fin 0 → Fin S1x1024.rank)
  reducesTo_S1x1024_S_d0_1 : S1x1024.ReducesTo [0, 1] S_
  bcast_S_S1x1024x2816 : S_.BroadcastsInDim S1x1024x2816 (![] : Fin 0 → Fin S1x1024x2816.rank)
  reducesTo_S1x1024x2816_S_d0_1_2 : S1x1024x2816.ReducesTo [0, 1, 2] S_
  bcast_S_S1x2816x1024 : S_.BroadcastsInDim S1x2816x1024 (![] : Fin 0 → Fin S1x2816x1024.rank)
  reducesTo_S1x2816x1024_S_d0_1_2 : S1x2816x1024.ReducesTo [0, 1, 2] S_

variable [Facts]

def fn_part2 {F : FTy → Type} [FloatOps F] (main_v3 : IVec S_ 1) (main_v7 : IVec S_ 1) (main_v11 : IVec S_ 1) (main_v15 : IVec S_ 1) (main_v19 : IVec S_ 1) (main_v23 : IVec S_ 1) (main_v27 : IVec S_ 1) (main_v31 : IVec S_ 1) : IVec S_ 1 :=
  let main_v32 : IVec S_ 1 := andi main_v3 main_v7
  let main_v33 : IVec S_ 1 := andi main_v32 main_v11
  let main_v34 : IVec S_ 1 := andi main_v33 main_v15
  let main_v35 : IVec S_ 1 := andi main_v34 main_v19
  let main_v36 : IVec S_ 1 := andi main_v35 main_v23
  let main_v37 : IVec S_ 1 := andi main_v36 main_v27
  let main_v38 : IVec S_ 1 := andi main_v37 main_v31
  main_v38

def fn_part1 {F : FTy → Type} [FloatOps F] (main_arg4 : FVec F S1x1024x2816 .f32) (main_arg5 : FVec F S1x1024x2816 .f32) (main_arg6 : FVec F S1x2816x1024 .f32) (main_arg7 : FVec F S4x2048x1024 .f32) (main_v3 : IVec S_ 1) (main_v7 : IVec S_ 1) (main_v11 : IVec S_ 1) (main_v15 : IVec S_ 1) : IVec S_ 1 :=
  let main_v16 : FVec F S1x1024x2816 .f32 := Host.absf main_arg4
  let main_cst_6 : FVec F S_ .f32 := constant S_ .f32 0x7F800000#32
  let main_v17 : FVec F S1x1024x2816 .f32 := broadcastInDim S1x1024x2816 ![] bcast_S_S1x1024x2816 main_cst_6
  let main_v18 : IVec S1x1024x2816 1 := cmpf .olt main_v16 main_v17
  let main_c_7 : IVec S_ 1 := constantI S_ 1 1#1
  let main_v19 : IVec S_ 1 := (fun x v => Host.reduce IntOp.andi x v reducesTo_S1x1024x2816_S_d0_1_2 h_S_) main_v18 main_c_7
  let main_v20 : FVec F S1x1024x2816 .f32 := Host.absf main_arg5
  let main_cst_8 : FVec F S_ .f32 := constant S_ .f32 0x7F800000#32
  let main_v21 : FVec F S1x1024x2816 .f32 := broadcastInDim S1x1024x2816 ![] bcast_S_S1x1024x2816 main_cst_8
  let main_v22 : IVec S1x1024x2816 1 := cmpf .olt main_v20 main_v21
  let main_c_9 : IVec S_ 1 := constantI S_ 1 1#1
  let main_v23 : IVec S_ 1 := (fun x v => Host.reduce IntOp.andi x v reducesTo_S1x1024x2816_S_d0_1_2 h_S_) main_v22 main_c_9
  let main_v24 : FVec F S1x2816x1024 .f32 := Host.absf main_arg6
  let main_cst_10 : FVec F S_ .f32 := constant S_ .f32 0x7F800000#32
  let main_v25 : FVec F S1x2816x1024 .f32 := broadcastInDim S1x2816x1024 ![] bcast_S_S1x2816x1024 main_cst_10
  let main_v26 : IVec S1x2816x1024 1 := cmpf .olt main_v24 main_v25
  let main_c_11 : IVec S_ 1 := constantI S_ 1 1#1
  let main_v27 : IVec S_ 1 := (fun x v => Host.reduce IntOp.andi x v reducesTo_S1x2816x1024_S_d0_1_2 h_S_) main_v26 main_c_11
  let main_v28 : FVec F S4x2048x1024 .f32 := Host.absf main_arg7
  let main_cst_12 : FVec F S_ .f32 := constant S_ .f32 0x7F800000#32
  let main_v29 : FVec F S4x2048x1024 .f32 := broadcastInDim S4x2048x1024 ![] bcast_S_S4x2048x1024 main_cst_12
  let main_v30 : IVec S4x2048x1024 1 := cmpf .olt main_v28 main_v29
  let main_c_13 : IVec S_ 1 := constantI S_ 1 1#1
  let main_v31 : IVec S_ 1 := (fun x v => Host.reduce IntOp.andi x v reducesTo_S4x2048x1024_S_d0_1_2 h_S_) main_v30 main_c_13
  fn_part2 (F := F) main_v3 main_v7 main_v11 main_v15 main_v19 main_v23 main_v27 main_v31

def fn {F : FTy → Type} [FloatOps F] (main_arg0 : FVec F S4x2048x1024 .f32) (main_arg1 : FVec F S4x2048x1024 .f32) (main_arg2 : FVec F S4x6144 .f32) (main_arg3 : FVec F S1x1024 .f32) (main_arg4 : FVec F S1x1024x2816 .f32) (main_arg5 : FVec F S1x1024x2816 .f32) (main_arg6 : FVec F S1x2816x1024 .f32) (main_arg7 : FVec F S4x2048x1024 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S4x2048x1024 .f32 := Host.absf main_arg1
  let main_cst_0 : FVec F S_ .f32 := constant S_ .f32 0x7F800000#32
  let main_v5 : FVec F S4x2048x1024 .f32 := broadcastInDim S4x2048x1024 ![] bcast_S_S4x2048x1024 main_cst_0
  let main_v6 : IVec S4x2048x1024 1 := cmpf .olt main_v4 main_v5
  let main_c_1 : IVec S_ 1 := constantI S_ 1 1#1
  let main_v7 : IVec S_ 1 := (fun x v => Host.reduce IntOp.andi x v reducesTo_S4x2048x1024_S_d0_1_2 h_S_) main_v6 main_c_1
  let main_v8 : FVec F S4x6144 .f32 := Host.absf main_arg2
  let main_cst_2 : FVec F S_ .f32 := constant S_ .f32 0x7F800000#32
  let main_v9 : FVec F S4x6144 .f32 := broadcastInDim S4x6144 ![] bcast_S_S4x6144 main_cst_2
  let main_v10 : IVec S4x6144 1 := cmpf .olt main_v8 main_v9
  let main_c_3 : IVec S_ 1 := constantI S_ 1 1#1
  let main_v11 : IVec S_ 1 := (fun x v => Host.reduce IntOp.andi x v reducesTo_S4x6144_S_d0_1 h_S_) main_v10 main_c_3
  let main_v12 : FVec F S1x1024 .f32 := Host.absf main_arg3
  let main_cst_4 : FVec F S_ .f32 := constant S_ .f32 0x7F800000#32
  let main_v13 : FVec F S1x1024 .f32 := broadcastInDim S1x1024 ![] bcast_S_S1x1024 main_cst_4
  let main_v14 : IVec S1x1024 1 := cmpf .olt main_v12 main_v13
  let main_c_5 : IVec S_ 1 := constantI S_ 1 1#1
  let main_v15 : IVec S_ 1 := (fun x v => Host.reduce IntOp.andi x v reducesTo_S1x1024_S_d0_1 h_S_) main_v14 main_c_5
  fn_part1 (F := F) main_arg4 main_arg5 main_arg6 main_arg7 main_v3 main_v7 main_v11 main_v15
-- ==== Kernel.lean ====
abbrev S4x2048x1024 : Shape := ⟨3, ![4, 2048, 1024]⟩
abbrev S4x2048x512 : Shape := ⟨3, ![4, 2048, 512]⟩
abbrev S1x512 : Shape := ⟨2, ![1, 512]⟩
abbrev S1x1024x1024 : Shape := ⟨3, ![1, 1024, 1024]⟩
abbrev S8192x1024 : Shape := ⟨2, ![8192, 1024]⟩
abbrev S8192x512 : Shape := ⟨2, ![8192, 512]⟩
abbrev S1024x1024 : Shape := ⟨2, ![1024, 1024]⟩
abbrev S8x512 : Shape := ⟨2, ![8, 512]⟩
abbrev S512x1024 : Shape := ⟨2, ![512, 1024]⟩
abbrev S512x512 : Shape := ⟨2, ![512, 512]⟩
abbrev S512 : Shape := ⟨1, ![512]⟩
abbrev S512x1 : Shape := ⟨2, ![512, 1]⟩

abbrev nBuf : Space → Nat
  | .hbm => 13
  | .vmem => 12
  | .smem => 0
  | _ => 0

abbrev bufTy : (tb : Table) → Fin (tcTables nBuf tb) → BufTy
  | .hbm, ⟨0, _⟩ => ⟨S4x2048x1024, .f32⟩
  | .hbm, ⟨1, _⟩ => ⟨S4x2048x512, .f32⟩
  | .hbm, ⟨2, _⟩ => ⟨S1x512, .f32⟩
  | .hbm, ⟨3, _⟩ => ⟨S1x512, .f32⟩
  | .hbm, ⟨4, _⟩ => ⟨S1x1024x1024, .f32⟩
  | .hbm, ⟨5, _⟩ => ⟨S8192x1024, .f32⟩
  | .hbm, ⟨6, _⟩ => ⟨S8192x1024, .bf16⟩
  | .hbm, ⟨7, _⟩ => ⟨S8192x512, .f32⟩
  | .hbm, ⟨8, _⟩ => ⟨S1024x1024, .f32⟩
  | .hbm, ⟨9, _⟩ => ⟨S1024x1024, .bf16⟩
  | .hbm, ⟨10, _⟩ => ⟨S8192x512, .f32⟩
  | .hbm, ⟨11, _⟩ => ⟨S8192x512, .f32⟩
  | .hbm, ⟨12, _⟩ => ⟨S8x512, .f32⟩
  | .local _ .vmem, ⟨0, _⟩ => ⟨S512x1024, .bf16⟩
  | .local _ .vmem, ⟨1, _⟩ => ⟨S512x1024, .bf16⟩
  | .local _ .vmem, ⟨2, _⟩ => ⟨S512x512, .f32⟩
  | .local _ .vmem, ⟨3, _⟩ => ⟨S512x512, .f32⟩
  | .local _ .vmem, ⟨4, _⟩ => ⟨S1x512, .f32⟩
  | .local _ .vmem, ⟨5, _⟩ => ⟨S1x512, .f32⟩
  | .local _ .vmem, ⟨6, _⟩ => ⟨S1024x1024, .bf16⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S8x512, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v5_2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S8x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== ReferenceIdeal.lean ====
abbrev S4x2048x1024 : Shape := ⟨3, ![4, 2048, 1024]⟩
abbrev S4x2048x512 : Shape := ⟨3, ![4, 2048, 512]⟩
abbrev S1x512 : Shape := ⟨2, ![1, 512]⟩
abbrev S1x1024x1024 : Shape := ⟨3, ![1, 1024, 1024]⟩
abbrev S_ : Shape := ⟨0, ![]⟩
abbrev S8192x512 : Shape := ⟨2, ![8192, 512]⟩
abbrev S512 : Shape := ⟨1, ![512]⟩
abbrev S8192 : Shape := ⟨1, ![8192]⟩
abbrev S8192x1 : Shape := ⟨2, ![8192, 1]⟩
abbrev S8192x1024 : Shape := ⟨2, ![8192, 1024]⟩
abbrev S1024x1024 : Shape := ⟨2, ![1024, 1024]⟩
abbrev S6x512 : Shape := ⟨2, ![6, 512]⟩
abbrev S8x512 : Shape := ⟨2, ![8, 512]⟩

abbrev nBuf : Space → Nat
  | .hbm => 123
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S4x2048x512, .f32⟩
  | .hbm, ⟨2, _⟩ => ⟨S1x512, .f32⟩
  | .hbm, ⟨3, _⟩ => ⟨S1x512, .f32⟩
  | .hbm, ⟨4, _⟩ => ⟨S1x1024x1024, .f32⟩
  | .hbm, ⟨5, _⟩ => ⟨S_, .f32⟩
  | .hbm, ⟨6, _⟩ => ⟨S8192x512, .f32⟩
  | .hbm, ⟨7, _⟩ => ⟨S8192x512, .f32⟩
  | .hbm, ⟨8, _⟩ => ⟨S512, .f32⟩
  | .hbm, ⟨9, _⟩ => ⟨S512, .f32⟩
  | .hbm, ⟨10, _⟩ => ⟨S_, .f32⟩
  | .hbm, ⟨11, _⟩ => ⟨S8192, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x512, .f32⟩
  | .hbm, ⟨17, _⟩ => ⟨S8192x512, .f32⟩
  | .hbm, ⟨18, _⟩ => ⟨S8192x512, .f32⟩
  | .hbm, ⟨19, _⟩ => ⟨S_, .f32⟩
  | .hbm, ⟨20, _⟩ => ⟨S8192x512, .f32⟩
  | .hbm, ⟨21, _⟩ => ⟨S8192x512, .f32⟩
  | .hbm, ⟨22, _⟩ => ⟨S_, .f32⟩
  | .hbm, ⟨23, _⟩ => ⟨S8192, .f32⟩
  | .hbm, ⟨24, _⟩ => ⟨S8192x1, .f32⟩
  | .hbm, ⟨25, _⟩ => ⟨S_, .f32⟩
  | .hbm, ⟨26, _⟩ => ⟨S8192x1, .f32⟩
  | .hbm, ⟨27, _⟩ => ⟨S8192x1, .f32⟩
  | .hbm, ⟨28, _⟩ => ⟨S8192x512, .f32⟩
  | .hbm, ⟨29, _⟩ => ⟨S8192x512, .f32⟩
  | .hbm, ⟨30, _⟩ => ⟨S_, .f32⟩
  | .hbm, ⟨31, _⟩ => ⟨S8192x1, .f32⟩
  | .hbm, ⟨32, _⟩ => ⟨S8192x1, .f32⟩
  | .hbm, ⟨33, _⟩ => ⟨S8192x1, .f32⟩
  | .hbm, ⟨34, _⟩ => ⟨S8192x1, .f32⟩
  | .hbm, ⟨35, _⟩ => ⟨S_, .f32⟩
  | .hbm, ⟨36, _⟩ => ⟨S8192x1, .f32⟩
  | .hbm, ⟨37, _⟩ => ⟨S8192x1, .f32⟩
  | .hbm, ⟨38, _⟩ => ⟨S8192x512, .f32⟩
  | .hbm, ⟨39, _⟩ => ⟨S8192x512, .f32⟩
  | .hbm, ⟨40, _⟩ => ⟨S1x512, .f32⟩
  | .hbm, ⟨41, _⟩ => ⟨S8192x512, .f32⟩
  | .hbm, ⟨42, _⟩ => ⟨S8192x512, .f32⟩
  | .hbm, ⟨43, _⟩ => ⟨S1x512, .f32⟩
  | .hbm, ⟨44, _⟩ => ⟨S8192x512, .f32⟩
  | .hbm, ⟨45, _⟩ => ⟨S8192x512, .f32⟩
  | .hbm, ⟨46, _⟩ => ⟨S8192x512, .f32⟩
  | .hbm, ⟨47, _⟩ => ⟨S8192x512, .f32⟩
  | .hbm, ⟨48, _⟩ => ⟨S_, .f32⟩
  | .hbm, ⟨49, _⟩ => ⟨S8192x512, .f32⟩
  | .hbm, ⟨50, _⟩ => ⟨S8192x512, .f32⟩
  | .hbm, ⟨51, _⟩ => ⟨S_, .f32⟩
  | .hbm, ⟨52, _⟩ => ⟨S8192x512, .f32⟩
  | .hbm, ⟨53, _⟩ => ⟨S8192x512, .f32⟩
  | .hbm, ⟨54, _⟩ => ⟨S_, .f32⟩
  | .hbm, ⟨55, _⟩ => ⟨S8192x512, .f32⟩
  | .hbm, ⟨56, _⟩ => ⟨S8192x512, .f32⟩
  | .hbm, ⟨57, _⟩ => ⟨S8192x512, .f32⟩
  | .hbm, ⟨58, _⟩ => ⟨S8192x512, .f32⟩
  | .hbm, ⟨59, _⟩ => ⟨S8192x1024, .f32⟩
  | .hbm, ⟨60, _⟩ => ⟨S1024x1024, .f32⟩
  | .hbm, ⟨61, _⟩ => ⟨S8192x1024, .f32⟩
  | .hbm, ⟨62, _⟩ => ⟨S8192x1024, .f32⟩
  | .hbm, ⟨63, _⟩ => ⟨S8192x1024, .f32⟩
  | .hbm, ⟨64, _⟩ => ⟨S8192x512, .f32⟩
  | .hbm, ⟨65, _⟩ => ⟨S8192x512, .f32⟩
  | .hbm, ⟨66, _⟩ => ⟨S8192x512, .f32⟩
  | .hbm, ⟨67, _⟩ => ⟨S8192x512, .f32⟩
  | .hbm, ⟨68, _⟩ => ⟨S8192x512, .f32⟩
  | .hbm, ⟨69, _⟩ => ⟨S8192x512, .f32⟩
  | .hbm, ⟨70, _⟩ => ⟨S_, .f32⟩
  | .hbm, ⟨71, _⟩ => ⟨S512, .f32⟩
  | .hbm, ⟨72, _⟩ => ⟨S1x512, .f32⟩
  | .hbm, ⟨73, _⟩ => ⟨S_, .f32⟩
  | .hbm, ⟨74, _⟩ => ⟨S512, .f32⟩
  | .hbm, ⟨75, _⟩ => ⟨S8192x512, .f32⟩
  | .hbm, ⟨76, _⟩ => ⟨S_, .f32⟩
  | .hbm, ⟨77, _⟩ => ⟨S512, .f32⟩
  | .hbm, ⟨78, _⟩ => ⟨S1x512, .f32⟩
  | .hbm, ⟨79, _⟩ => ⟨S8192x512, .f32⟩
  | .hbm, ⟨80, _⟩ => ⟨S8192x512, .f32⟩
  | .hbm, ⟨81, _⟩ => ⟨S_, .f32⟩
  | .hbm, ⟨82, _⟩ => ⟨S512, .f32⟩
  | .hbm, ⟨83, _⟩ => ⟨S8192x512, .f32⟩
  | .hbm, ⟨84, _⟩ => ⟨S_, .f32⟩
  | .hbm, ⟨85, _⟩ => ⟨S8192, .f32⟩
  | .hbm, ⟨86, _⟩ => ⟨S8192x1, .f32⟩
  | .hbm, ⟨87, _⟩ => ⟨S8192x512, .f32⟩
  | .hbm, ⟨88, _⟩ => ⟨S8192x512, .f32⟩
  | .hbm, ⟨89, _⟩ => ⟨S8192x1, .f32⟩
  | .hbm, ⟨90, _⟩ => ⟨S8192x512, .f32⟩
  | .hbm, ⟨91, _⟩ => ⟨S_, .f32⟩
  | .hbm, ⟨92, _⟩ => ⟨S8192, .f32⟩
  | .hbm, ⟨93, _⟩ => ⟨S8192x1, .f32⟩
  | .hbm, ⟨94, _⟩ => ⟨S_, .f32⟩
  | .hbm, ⟨95, _⟩ => ⟨S8192x1, .f32⟩
  | .hbm, ⟨96, _⟩ => ⟨S8192x1, .f32⟩
  | .hbm, ⟨97, _⟩ => ⟨S_, .f32⟩
  | .hbm, ⟨98, _⟩ => ⟨S8192, .f32⟩
  | .hbm, ⟨99, _⟩ => ⟨S8192x512, .f32⟩
  | .hbm, ⟨100, _⟩ => ⟨S8192x512, .f32⟩
  | .hbm, ⟨101, _⟩ => ⟨S8192x512, .f32⟩
  | .hbm, ⟨102, _⟩ => ⟨S_, .f32⟩
  | .hbm, ⟨103, _⟩ => ⟨S8192, .f32⟩
  | .hbm, ⟨104, _⟩ => ⟨S8192x1, .f32⟩
  | .hbm, ⟨105, _⟩ => ⟨S8192x512, .f32⟩
  | .hbm, ⟨106, _⟩ => ⟨S8192x1, .f32⟩
  | .hbm, ⟨107, _⟩ => ⟨S_, .f32⟩
  | .hbm, ⟨108, _⟩ => ⟨S8192x1, .f32⟩
  | .hbm, ⟨109, _⟩ => ⟨S8192x1, .f32⟩
  | .hbm, ⟨110, _⟩ => ⟨S_, .f32⟩
  | .hbm, ⟨111, _⟩ => ⟨S8192, .f32⟩
  | .hbm, ⟨112, _⟩ => ⟨S8192x512, .f32⟩
  | .hbm, ⟨113, _⟩ => ⟨S8192x512, .f32⟩
  | .hbm, ⟨114, _⟩ => ⟨S1x512, .f32⟩
  | .hbm, ⟨115, _⟩ => ⟨S1x512, .f32⟩
  | .hbm, ⟨116, _⟩ => ⟨S512, .f32⟩
  | .hbm, ⟨117, _⟩ => ⟨S512, .f32⟩
  | .hbm, ⟨118, _⟩ => ⟨S1x512, .f32⟩
  | .hbm, ⟨119, _⟩ => ⟨S1x512, .f32⟩
  | .hbm, ⟨120, _⟩ => ⟨S_, .f32⟩
  | .hbm, ⟨121, _⟩ => ⟨S6x512, .f32⟩
  | .hbm, ⟨122, _⟩ => ⟨S8x512, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_5 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_6 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_call0_v0 : Ref sig .tc := ⟨.hbm, 46, rfl⟩
abbrev main_call0_v1 : Ref sig .tc := ⟨.hbm, 47, rfl⟩
abbrev main_call0_cst : Ref sig .tc := ⟨.hbm, 48, rfl⟩
abbrev main_call0_v2 : Ref sig .tc := ⟨.hbm, 49, rfl⟩
abbrev main_call0_v3 : Ref sig .tc := ⟨.hbm, 50, rfl⟩
abbrev main_call0_cst_0 : Ref sig .tc := ⟨.hbm, 51, rfl⟩
abbrev main_call0_v4 : Ref sig .tc := ⟨.hbm, 52, rfl⟩
abbrev main_v33_2 : Ref sig .tc := ⟨.hbm, 53, rfl⟩
abbrev main_call0_cst_1 : Ref sig .tc := ⟨.hbm, 54, rfl⟩
abbrev main_call0_v6 : Ref sig .tc := ⟨.hbm, 55, rfl⟩
abbrev main_call0_v7 : Ref sig .tc := ⟨.hbm, 56, rfl⟩
abbrev main_v33_1 : Ref sig .tc := ⟨.hbm, 57, rfl⟩
abbrev main_v33_0 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_call1_v0 : Ref sig .tc := ⟨.hbm, 66, rfl⟩
abbrev main_call1_v1 : Ref sig .tc := ⟨.hbm, 67, rfl⟩
abbrev main_call1_v2 : Ref sig .tc := ⟨.hbm, 68, rfl⟩
abbrev main_v41 : Ref sig .tc := ⟨.hbm, 69, rfl⟩
abbrev main_cst_7 : Ref sig .tc := ⟨.hbm, 70, rfl⟩
abbrev main_v42 : Ref sig .tc := ⟨.hbm, 71, rfl⟩
abbrev main_v43 : Ref sig .tc := ⟨.hbm, 72, rfl⟩
abbrev main_cst_8 : Ref sig .tc := ⟨.hbm, 73, rfl⟩
abbrev main_v44 : Ref sig .tc := ⟨.hbm, 74, rfl⟩
abbrev main_v45 : Ref sig .tc := ⟨.hbm, 75, rfl⟩
abbrev main_cst_9 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_cst_10 : Ref sig .tc := ⟨.hbm, 81, rfl⟩
abbrev main_v50 : Ref sig .tc := ⟨.hbm, 82, rfl⟩
abbrev main_v51 : Ref sig .tc := ⟨.hbm, 83, rfl⟩
abbrev main_cst_11 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_cst_12 : Ref sig .tc := ⟨.hbm, 91, rfl⟩
abbrev main_v58 : Ref sig .tc := ⟨.hbm, 92, rfl⟩
abbrev main_v59 : Ref sig .tc := ⟨.hbm, 93, rfl⟩
abbrev main_cst_13 : Ref sig .tc := ⟨.hbm, 94, rfl⟩
abbrev main_v60 : Ref sig .tc := ⟨.hbm, 95, rfl⟩
abbrev main_v61 : Ref sig .tc := ⟨.hbm, 96, rfl⟩
abbrev main_cst_14 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_cst_15 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_cst_16 : Ref sig .tc := ⟨.hbm, 107, rfl⟩
abbrev main_v70 : Ref sig .tc := ⟨.hbm, 108, rfl⟩
abbrev main_v71 : Ref sig .tc := ⟨.hbm, 109, rfl⟩
abbrev main_cst_17 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_cst_18 : Ref sig .tc := ⟨.hbm, 120, rfl⟩
abbrev main_v81 : Ref sig .tc := ⟨.hbm, 121, rfl⟩
abbrev main_v82 : Ref sig .tc := ⟨.hbm, 122, rfl⟩

abbrev nD : Nat := 1
abbrev τ : Topo := Topo.v7x

variable {F : FTy → Type} [FloatOps F]
-- ==== Kernel2.lean ====
abbrev S4x2048x1024 : Shape := ⟨3, ![4, 2048, 1024]⟩
abbrev S4x6144 : Shape := ⟨2, ![4, 6144]⟩
abbrev S1x1024 : Shape := ⟨2, ![1, 1024]⟩
abbrev S1x1024x2560 : Shape := ⟨3, ![1, 1024, 2560]⟩
abbrev S4x2048x2560 : Shape := ⟨3, ![4, 2048, 2560]⟩
abbrev S4x6x1024 : Shape := ⟨3, ![4, 6, 1024]⟩
abbrev S_ : Shape := ⟨0, ![]⟩
abbrev S4x8x1024 : Shape := ⟨3, ![4, 8, 1024]⟩
abbrev S4x2048x512 : Shape := ⟨3, ![4, 2048, 512]⟩
abbrev S8192x512 : Shape := ⟨2, ![8192, 512]⟩
abbrev S1024x2560 : Shape := ⟨2, ![1024, 2560]⟩
abbrev S2560x1024 : Shape := ⟨2, ![2560, 1024]⟩
abbrev S8192x1024 : Shape := ⟨2, ![8192, 1024]⟩
abbrev S8x1024 : Shape := ⟨2, ![8, 1024]⟩
abbrev S512x512 : Shape := ⟨2, ![512, 512]⟩
abbrev S512x1024 : Shape := ⟨2, ![512, 1024]⟩
abbrev S1x8x1024 : Shape := ⟨3, ![1, 8, 1024]⟩
abbrev S512 : Shape := ⟨1, ![512]⟩
abbrev S512x1 : Shape := ⟨2, ![512, 1]⟩
abbrev S1x1x1024 : Shape := ⟨3, ![1, 1, 1024]⟩
abbrev S1024 : Shape := ⟨1, ![1024]⟩

abbrev nBuf : Space → Nat
  | .hbm => 33
  | .vmem => 23
  | .smem => 0
  | _ => 0

abbrev bufTy : (tb : Table) → Fin (tcTables nBuf tb) → BufTy
  | .hbm, ⟨0, _⟩ => ⟨S4x2048x1024, .f32⟩
  | .hbm, ⟨1, _⟩ => ⟨S4x6144, .f32⟩
  | .hbm, ⟨2, _⟩ => ⟨S1x1024, .f32⟩
  | .hbm, ⟨3, _⟩ => ⟨S1x1024x2560, .f32⟩
  | .hbm, ⟨4, _⟩ => ⟨S4x2048x1024, .f32⟩
  | .hbm, ⟨5, _⟩ => ⟨S4x2048x2560, .f32⟩
  | .hbm, ⟨6, _⟩ => ⟨S4x6x1024, .f32⟩
  | .hbm, ⟨7, _⟩ => ⟨S_, .i32⟩
  | .hbm, ⟨8, _⟩ => ⟨S_, .f32⟩
  | .hbm, ⟨9, _⟩ => ⟨S4x8x1024, .f32⟩
  | .hbm, ⟨10, _⟩ => ⟨S4x2048x512, .f32⟩
  | .hbm, ⟨11, _⟩ => ⟨S4x2048x512, .f32⟩
  | .hbm, ⟨12, _⟩ => ⟨S4x2048x512, .f32⟩
  | .hbm, ⟨13, _⟩ => ⟨S4x2048x512, .f32⟩
  | .hbm, ⟨14, _⟩ => ⟨S4x2048x512, .f32⟩
  | .hbm, ⟨15, _⟩ => ⟨S8192x512, .f32⟩
  | .hbm, ⟨16, _⟩ => ⟨S8192x512, .bf16⟩
  | .hbm, ⟨17, _⟩ => ⟨S8192x512, .f32⟩
  | .hbm, ⟨18, _⟩ => ⟨S8192x512, .bf16⟩
  | .hbm, ⟨19, _⟩ => ⟨S8192x512, .f32⟩
  | .hbm, ⟨20, _⟩ => ⟨S8192x512, .bf16⟩
  | .hbm, ⟨21, _⟩ => ⟨S8192x512, .f32⟩
  | .hbm, ⟨22, _⟩ => ⟨S8192x512, .bf16⟩
  | .hbm, ⟨23, _⟩ => ⟨S8192x512, .f32⟩
  | .hbm, ⟨24, _⟩ => ⟨S8192x512, .bf16⟩
  | .hbm, ⟨25, _⟩ => ⟨S1024x2560, .f32⟩
  | .hbm, ⟨26, _⟩ => ⟨S2560x1024, .f32⟩
  | .hbm, ⟨27, _⟩ => ⟨S2560x1024, .bf16⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S8x1024, .f32⟩
  | .hbm, ⟨32, _⟩ => ⟨S4x8x1024, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S2560x1024, .bf16⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S1x8x1024, .f32⟩
  | .local _ .vmem, ⟨16, _⟩ => ⟨S1x8x1024, .f32⟩
  | .local _ .vmem, ⟨17, _⟩ => ⟨S1x1024, .f32⟩
  | .local _ .vmem, ⟨18, _⟩ => ⟨S512x1024, .f32⟩
  | .local _ .vmem, ⟨19, _⟩ => ⟨S512x1024, .f32⟩
  | .local _ .vmem, ⟨20, _⟩ => ⟨S8x1024, .f32⟩
  | .local _ .vmem, ⟨21, _⟩ => ⟨S1x8x1024, .f32⟩
  | .local _ .vmem, ⟨22, _⟩ => ⟨S1x8x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_call0_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22_0 : Ref sig .tc := ⟨.hbm, 30, rfl⟩
abbrev main_v22_1 : Ref sig .tc := ⟨.hbm, 31, rfl⟩
abbrev main_v22_2 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg12_0 : Ref sig .tc := ⟨.vmem, 21, rfl⟩
abbrev cc0_stg12_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem10_0 : DmaSem sig := 18
abbrev cc0_sem10_1 : DmaSem sig := 19
abbrev cc0_sem11_0 : DmaSem sig := 20
abbrev cc0_sem12_0 : DmaSem sig := 21
abbrev cc0_sem12_1 : DmaSem sig := 22

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S2560x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x8x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S8x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S1x8x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== Reference2Ideal.lean ====
abbrev S4x2048x1024 : Shape := ⟨3, ![4, 2048, 1024]⟩
abbrev S4x6144 : Shape := ⟨2, ![4, 6144]⟩
abbrev S1x1024 : Shape := ⟨2, ![1, 1024]⟩
abbrev S1x1024x2560 : Shape := ⟨3, ![1, 1024, 2560]⟩
abbrev S4x2048x2560 : Shape := ⟨3, ![4, 2048, 2560]⟩
abbrev S4x1024 : Shape := ⟨2, ![4, 1024]⟩
abbrev S1024 : Shape := ⟨1, ![1024]⟩
abbrev S_ : Shape := ⟨0, ![]⟩
abbrev S4x2048 : Shape := ⟨2, ![4, 2048]⟩
abbrev S4x2048x1 : Shape := ⟨3, ![4, 2048, 1]⟩
abbrev S1x1x1024 : Shape := ⟨3, ![1, 1, 1024]⟩
abbrev S4x1x1024 : Shape := ⟨3, ![4, 1, 1024]⟩
abbrev S1024x2560 : Shape := ⟨2, ![1024, 2560]⟩
abbrev S8192x1024 : Shape := ⟨2, ![8192, 1024]⟩
abbrev S7x1024 : Shape := ⟨2, ![7, 1024]⟩
abbrev S8x1024 : Shape := ⟨2, ![8, 1024]⟩
abbrev S4x6x1024 : Shape := ⟨3, ![4, 6, 1024]⟩
abbrev S4x8x1024 : Shape := ⟨3, ![4, 8, 1024]⟩

abbrev nBuf : Space → Nat
  | .hbm => 96
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S4x6144, .f32⟩
  | .hbm, ⟨2, _⟩ => ⟨S1x1024, .f32⟩
  | .hbm, ⟨3, _⟩ => ⟨S1x1024x2560, .f32⟩
  | .hbm, ⟨4, _⟩ => ⟨S4x2048x1024, .f32⟩
  | .hbm, ⟨5, _⟩ => ⟨S4x2048x2560, .f32⟩
  | .hbm, ⟨6, _⟩ => ⟨S4x1024, .f32⟩
  | .hbm, ⟨7, _⟩ => ⟨S4x1024, .f32⟩
  | .hbm, ⟨8, _⟩ => ⟨S4x1024, .f32⟩
  | .hbm, ⟨9, _⟩ => ⟨S4x1024, .f32⟩
  | .hbm, ⟨10, _⟩ => ⟨S4x1024, .f32⟩
  | .hbm, ⟨11, _⟩ => ⟨S4x1024, .f32⟩
  | .hbm, ⟨12, _⟩ => ⟨S1024, .f32⟩
  | .hbm, ⟨13, _⟩ => ⟨S4x2048x1024, .f32⟩
  | .hbm, ⟨14, _⟩ => ⟨S_, .f32⟩
  | .hbm, ⟨15, _⟩ => ⟨S4x2048, .f32⟩
  | .hbm, ⟨16, _⟩ => ⟨S4x2048x1, .f32⟩
  | .hbm, ⟨17, _⟩ => ⟨S_, .f32⟩
  | .hbm, ⟨18, _⟩ => ⟨S4x2048x1, .f32⟩
  | .hbm, ⟨19, _⟩ => ⟨S4x2048x1, .f32⟩
  | .hbm, ⟨20, _⟩ => ⟨S_, .f32⟩
  | .hbm, ⟨21, _⟩ => ⟨S4x2048x1, .f32⟩
  | .hbm, ⟨22, _⟩ => ⟨S4x2048x1, .f32⟩
  | .hbm, ⟨23, _⟩ => ⟨S4x2048x1, .f32⟩
  | .hbm, ⟨24, _⟩ => ⟨S4x2048x1, .f32⟩
  | .hbm, ⟨25, _⟩ => ⟨S_, .f32⟩
  | .hbm, ⟨26, _⟩ => ⟨S4x2048x1, .f32⟩
  | .hbm, ⟨27, _⟩ => ⟨S4x2048x1, .f32⟩
  | .hbm, ⟨28, _⟩ => ⟨S4x2048x1024, .f32⟩
  | .hbm, ⟨29, _⟩ => ⟨S4x2048x1024, .f32⟩
  | .hbm, ⟨30, _⟩ => ⟨S1x1x1024, .f32⟩
  | .hbm, ⟨31, _⟩ => ⟨S4x2048x1024, .f32⟩
  | .hbm, ⟨32, _⟩ => ⟨S4x2048x1024, .f32⟩
  | .hbm, ⟨33, _⟩ => ⟨S4x1x1024, .f32⟩
  | .hbm, ⟨34, _⟩ => ⟨S4x1x1024, .f32⟩
  | .hbm, ⟨35, _⟩ => ⟨S_, .f32⟩
  | .hbm, ⟨36, _⟩ => ⟨S4x1x1024, .f32⟩
  | .hbm, ⟨37, _⟩ => ⟨S4x1x1024, .f32⟩
  | .hbm, ⟨38, _⟩ => ⟨S4x2048x1024, .f32⟩
  | .hbm, ⟨39, _⟩ => ⟨S4x2048x1024, .f32⟩
  | .hbm, ⟨40, _⟩ => ⟨S4x2048x1024, .f32⟩
  | .hbm, ⟨41, _⟩ => ⟨S4x2048x1024, .f32⟩
  | .hbm, ⟨42, _⟩ => ⟨S1024x2560, .f32⟩
  | .hbm, ⟨43, _⟩ => ⟨S4x2048x2560, .f32⟩
  | .hbm, ⟨44, _⟩ => ⟨S4x2048x1024, .f32⟩
  | .hbm, ⟨45, _⟩ => ⟨S_, .f32⟩
  | .hbm, ⟨46, _⟩ => ⟨S4x1024, .f32⟩
  | .hbm, ⟨47, _⟩ => ⟨S4x1x1024, .f32⟩
  | .hbm, ⟨48, _⟩ => ⟨S4x2048x1024, .f32⟩
  | .hbm, ⟨49, _⟩ => ⟨S_, .f32⟩
  | .hbm, ⟨50, _⟩ => ⟨S4x1024, .f32⟩
  | .hbm, ⟨51, _⟩ => ⟨S4x1x1024, .f32⟩
  | .hbm, ⟨52, _⟩ => ⟨S4x2048x1024, .f32⟩
  | .hbm, ⟨53, _⟩ => ⟨S4x2048x1024, .f32⟩
  | .hbm, ⟨54, _⟩ => ⟨S_, .f32⟩
  | .hbm, ⟨55, _⟩ => ⟨S4x1024, .f32⟩
  | .hbm, ⟨56, _⟩ => ⟨S_, .f32⟩
  | .hbm, ⟨57, _⟩ => ⟨S4x1024, .f32⟩
  | .hbm, ⟨58, _⟩ => ⟨S4x2048x1024, .f32⟩
  | .hbm, ⟨59, _⟩ => ⟨S_, .f32⟩
  | .hbm, ⟨60, _⟩ => ⟨S1024, .f32⟩
  | .hbm, ⟨61, _⟩ => ⟨S1x1x1024, .f32⟩
  | .hbm, ⟨62, _⟩ => ⟨S4x2048x1024, .f32⟩
  | .hbm, ⟨63, _⟩ => ⟨S4x2048x1024, .f32⟩
  | .hbm, ⟨64, _⟩ => ⟨S_, .f32⟩
  | .hbm, ⟨65, _⟩ => ⟨S1024, .f32⟩
  | .hbm, ⟨66, _⟩ => ⟨S4x2048x1024, .f32⟩
  | .hbm, ⟨67, _⟩ => ⟨S_, .f32⟩
  | .hbm, ⟨68, _⟩ => ⟨S4x2048, .f32⟩
  | .hbm, ⟨69, _⟩ => ⟨S4x2048x1, .f32⟩
  | .hbm, ⟨70, _⟩ => ⟨S4x2048x1024, .f32⟩
  | .hbm, ⟨71, _⟩ => ⟨S4x2048x1024, .f32⟩
  | .hbm, ⟨72, _⟩ => ⟨S4x2048x1024, .f32⟩
  | .hbm, ⟨73, _⟩ => ⟨S4x2048x1, .f32⟩
  | .hbm, ⟨74, _⟩ => ⟨S_, .f32⟩
  | .hbm, ⟨75, _⟩ => ⟨S4x2048x1, .f32⟩
  | .hbm, ⟨76, _⟩ => ⟨S4x2048x1, .f32⟩
  | .hbm, ⟨77, _⟩ => ⟨S_, .f32⟩
  | .hbm, ⟨78, _⟩ => ⟨S4x2048, .f32⟩
  | .hbm, ⟨79, _⟩ => ⟨S4x2048x1024, .f32⟩
  | .hbm, ⟨80, _⟩ => ⟨S4x2048x1024, .f32⟩
  | .hbm, ⟨81, _⟩ => ⟨S4x2048x1024, .f32⟩
  | .hbm, ⟨82, _⟩ => ⟨S4x2048x1024, .f32⟩
  | .hbm, ⟨83, _⟩ => ⟨S4x2048x1024, .f32⟩
  | .hbm, ⟨84, _⟩ => ⟨S1x1024, .f32⟩
  | .hbm, ⟨85, _⟩ => ⟨S8192x1024, .f32⟩
  | .hbm, ⟨86, _⟩ => ⟨S1024, .f32⟩
  | .hbm, ⟨87, _⟩ => ⟨S1x1024, .f32⟩
  | .hbm, ⟨88, _⟩ => ⟨S_, .f32⟩
  | .hbm, ⟨89, _⟩ => ⟨S7x1024, .f32⟩
  | .hbm, ⟨90, _⟩ => ⟨S8x1024, .f32⟩
  | .hbm, ⟨91, _⟩ => ⟨S4x1x1024, .f32⟩
  | .hbm, ⟨92, _⟩ => ⟨S4x1x1024, .f32⟩
  | .hbm, ⟨93, _⟩ => ⟨S_, .f32⟩
  | .hbm, ⟨94, _⟩ => ⟨S4x6x1024, .f32⟩
  | .hbm, ⟨95, _⟩ => ⟨S4x8x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_3 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_cst_4 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_cst_5 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_cst_6 : Ref sig .tc := ⟨.hbm, 54, rfl⟩
abbrev main_v41 : Ref sig .tc := ⟨.hbm, 55, rfl⟩
abbrev main_cst_7 : Ref sig .tc := ⟨.hbm, 56, rfl⟩
abbrev main_v42 : Ref sig .tc := ⟨.hbm, 57, rfl⟩
abbrev main_v43 : Ref sig .tc := ⟨.hbm, 58, rfl⟩
abbrev main_cst_8 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_cst_9 : Ref sig .tc := ⟨.hbm, 64, rfl⟩
abbrev main_v48 : Ref sig .tc := ⟨.hbm, 65, rfl⟩
abbrev main_v49 : Ref sig .tc := ⟨.hbm, 66, rfl⟩
abbrev main_cst_10 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_cst_11 : Ref sig .tc := ⟨.hbm, 74, rfl⟩
abbrev main_v56 : Ref sig .tc := ⟨.hbm, 75, rfl⟩
abbrev main_v57 : Ref sig .tc := ⟨.hbm, 76, rfl⟩
abbrev main_cst_12 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_cst_13 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_cst_14 : Ref sig .tc := ⟨.hbm, 93, rfl⟩
abbrev main_v72 : Ref sig .tc := ⟨.hbm, 94, rfl⟩
abbrev main_v73 : Ref sig .tc := ⟨.hbm, 95, rfl⟩

abbrev nD : Nat := 1
abbrev τ : Topo := Topo.v7x

variable {F : FTy → Type} [FloatOps F]
-- ==== Kernel3.lean ====
abbrev S32x1024 : Shape := ⟨2, ![32, 1024]⟩
abbrev S32x768 : Shape := ⟨2, ![32, 768]⟩
abbrev S32x6144 : Shape := ⟨2, ![32, 6144]⟩
abbrev S1024x768 : Shape := ⟨2, ![1024, 768]⟩
abbrev S1x6144 : Shape := ⟨2, ![1, 6144]⟩
abbrev S6144 : Shape := ⟨1, ![6144]⟩

abbrev nBuf : Space → Nat
  | .hbm => 5
  | .vmem => 5
  | .smem => 0
  | _ => 0

abbrev bufTy : (tb : Table) → Fin (tcTables nBuf tb) → BufTy
  | .hbm, ⟨0, _⟩ => ⟨S32x1024, .f32⟩
  | .hbm, ⟨1, _⟩ => ⟨S32x768, .f32⟩
  | .hbm, ⟨2, _⟩ => ⟨S32x6144, .f32⟩
  | .hbm, ⟨3, _⟩ => ⟨S1024x768, .f32⟩
  | .hbm, ⟨4, _⟩ => ⟨S1x6144, .f32⟩
  | .local _ .vmem, ⟨0, _⟩ => ⟨S32x1024, .f32⟩
  | .local _ .vmem, ⟨1, _⟩ => ⟨S32x768, .f32⟩
  | .local _ .vmem, ⟨2, _⟩ => ⟨S32x6144, .f32⟩
  | .local _ .vmem, ⟨3, _⟩ => ⟨S1024x768, .f32⟩
  | .local _ .vmem, ⟨4, _⟩ => ⟨S1x6144, .f32⟩
  | _, _ => ⟨S32x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S32x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S32x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S32x6144 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x6144 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Reference3Ideal.lean ====
abbrev S32x1024 : Shape := ⟨2, ![32, 1024]⟩
abbrev S32x768 : Shape := ⟨2, ![32, 768]⟩
abbrev S32x6144 : Shape := ⟨2, ![32, 6144]⟩
abbrev S_ : Shape := ⟨0, ![]⟩
abbrev S1024x768 : Shape := ⟨2, ![1024, 768]⟩
abbrev S1x6144 : Shape := ⟨2, ![1, 6144]⟩
abbrev S768x1024 : Shape := ⟨2, ![768, 1024]⟩
abbrev S6144 : Shape := ⟨1, ![6144]⟩

abbrev nBuf : Space → Nat
  | .hbm => 31
  | .vmem => 0
  | .smem => 0
  | _ => 0

abbrev bufTy : (tb : Table) → Fin (tcTables nBuf tb) → BufTy
  | .hbm, ⟨0, _⟩ => ⟨S32x1024, .f32⟩
  | .hbm, ⟨1, _⟩ => ⟨S32x768, .f32⟩
  | .hbm, ⟨2, _⟩ => ⟨S32x6144, .f32⟩
  | .hbm, ⟨3, _⟩ => ⟨S_, .f32⟩
  | .hbm, ⟨4, _⟩ => ⟨S1024x768, .f32⟩
  | .hbm, ⟨5, _⟩ => ⟨S_, .f32⟩
  | .hbm, ⟨6, _⟩ => ⟨S1x6144, .f32⟩
  | .hbm, ⟨7, _⟩ => ⟨S32x1024, .f32⟩
  | .hbm, ⟨8, _⟩ => ⟨S32x1024, .f32⟩
  | .hbm, ⟨9, _⟩ => ⟨S_, .f32⟩
  | .hbm, ⟨10, _⟩ => ⟨S32x1024, .f32⟩
  | .hbm, ⟨11, _⟩ => ⟨S32x1024, .f32⟩
  | .hbm, ⟨12, _⟩ => ⟨S_, .f32⟩
  | .hbm, ⟨13, _⟩ => ⟨S32x1024, .f32⟩
  | .hbm, ⟨14, _⟩ => ⟨S32x1024, .f32⟩
  | .hbm, ⟨15, _⟩ => ⟨S32x1024, .f32⟩
  | .hbm, ⟨16, _⟩ => ⟨S32x768, .f32⟩
  | .hbm, ⟨17, _⟩ => ⟨S768x1024, .f32⟩
  | .hbm, ⟨18, _⟩ => ⟨S1024x768, .f32⟩
  | .hbm, ⟨19, _⟩ => ⟨S_, .f32⟩
  | .hbm, ⟨20, _⟩ => ⟨S32x6144, .f32⟩
  | .hbm, ⟨21, _⟩ => ⟨S6144, .f32⟩
  | .hbm, ⟨22, _⟩ => ⟨S1x6144, .f32⟩
  | .hbm, ⟨23, _⟩ => ⟨S32x6144, .f32⟩
  | .hbm, ⟨24, _⟩ => ⟨S32x6144, .f32⟩
  | .hbm, ⟨25, _⟩ => ⟨S_, .f32⟩
  | .hbm, ⟨26, _⟩ => ⟨S6144, .f32⟩
  | .hbm, ⟨27, _⟩ => ⟨S1x6144, .f32⟩
  | .hbm, ⟨28, _⟩ => ⟨S_, .f32⟩
  | .hbm, ⟨29, _⟩ => ⟨S6144, .f32⟩
  | .hbm, ⟨30, _⟩ => ⟨S1x6144, .f32⟩
  | _, _ => ⟨S32x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_cst_1 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_2 : Ref sig .tc := ⟨.hbm, 25, rfl⟩
abbrev main_v11 : Ref sig .tc := ⟨.hbm, 26, rfl⟩
abbrev main_v12 : Ref sig .tc := ⟨.hbm, 27, rfl⟩
abbrev main_cst_3 : Ref sig .tc := ⟨.hbm, 28, rfl⟩
abbrev main_v13 : Ref sig .tc := ⟨.hbm, 29, rfl⟩
abbrev main_v14 : Ref sig .tc := ⟨.hbm, 30, rfl⟩

abbrev nD : Nat := 1
abbrev τ : Topo := Topo.v7x

variable {F : FTy → Type} [FloatOps F]
-- ==== Kernel4.lean ====
abbrev S4x2048x1024 : Shape := ⟨3, ![4, 2048, 1024]⟩
abbrev S4x1024 : Shape := ⟨2, ![4, 1024]⟩
abbrev S1x1024x2816 : Shape := ⟨3, ![1, 1024, 2816]⟩
abbrev S1x2816x1024 : Shape := ⟨3, ![1, 2816, 1024]⟩
abbrev S_ : Shape := ⟨0, ![]⟩
abbrev S4x5x1024 : Shape := ⟨3, ![4, 5, 1024]⟩
abbrev S4x1x1024 : Shape := ⟨3, ![4, 1, 1024]⟩
abbrev S4x2x1024 : Shape := ⟨3, ![4, 2, 1024]⟩
abbrev S4x8x1024 : Shape := ⟨3, ![4, 8, 1024]⟩
abbrev S8192x1024 : Shape := ⟨2, ![8192, 1024]⟩
abbrev S1024x2816 : Shape := ⟨2, ![1024, 2816]⟩
abbrev S2816x1024 : Shape := ⟨2, ![2816, 1024]⟩
abbrev S11x8192x256 : Shape := ⟨3, ![11, 8192, 256]⟩
abbrev S8x1024 : Shape := ⟨2, ![8, 1024]⟩
abbrev S512x1024 : Shape := ⟨2, ![512, 1024]⟩
abbrev S1x8x1024 : Shape := ⟨3, ![1, 8, 1024]⟩
abbrev S11x512x256 : Shape := ⟨3, ![11, 512, 256]⟩
abbrev S3 : Shape := ⟨1, ![3]⟩
abbrev S1 : Shape := ⟨1, ![1]⟩
abbrev S256x1024 : Shape := ⟨2, ![256, 1024]⟩
abbrev S512x256 : Shape := ⟨2, ![512, 256]⟩
abbrev S1x512x256 : Shape := ⟨3, ![1, 512, 256]⟩
abbrev S1x1x1024 : Shape := ⟨3, ![1, 1, 1024]⟩
abbrev S1x1024 : Shape := ⟨2, ![1, 1024]⟩
abbrev S1024 : Shape := ⟨1, ![1024]⟩

abbrev nBuf : Space → Nat
  | .hbm => 31
  | .vmem => 22
  | .smem => 0
  | _ => 0

abbrev bufTy : (tb : Table) → Fin (tcTables nBuf tb) → BufTy
  | .hbm, ⟨0, _⟩ => ⟨S4x2048x1024, .f32⟩
  | .hbm, ⟨1, _⟩ => ⟨S4x2048x1024, .f32⟩
  | .hbm, ⟨2, _⟩ => ⟨S4x1024, .f32⟩
  | .hbm, ⟨3, _⟩ => ⟨S1x1024x2816, .f32⟩
  | .hbm, ⟨4, _⟩ => ⟨S1x1024x2816, .f32⟩
  | .hbm, ⟨5, _⟩ => ⟨S1x2816x1024, .f32⟩
  | .hbm, ⟨6, _⟩ => ⟨S4x2048x1024, .f32⟩
  | .hbm, ⟨7, _⟩ => ⟨S_, .f32⟩
  | .hbm, ⟨8, _⟩ => ⟨S4x5x1024, .f32⟩
  | .hbm, ⟨9, _⟩ => ⟨S4x1x1024, .f32⟩
  | .hbm, ⟨10, _⟩ => ⟨S_, .f32⟩
  | .hbm, ⟨11, _⟩ => ⟨S4x2x1024, .f32⟩
  | .hbm, ⟨12, _⟩ => ⟨S4x8x1024, .f32⟩
  | .hbm, ⟨13, _⟩ => ⟨S8192x1024, .f32⟩
  | .hbm, ⟨14, _⟩ => ⟨S8192x1024, .bf16⟩
  | .hbm, ⟨15, _⟩ => ⟨S1024x2816, .f32⟩
  | .hbm, ⟨16, _⟩ => ⟨S2816x1024, .f32⟩
  | .hbm, ⟨17, _⟩ => ⟨S2816x1024, .bf16⟩
  | .hbm, ⟨18, _⟩ => ⟨S1024x2816, .f32⟩
  | .hbm, ⟨19, _⟩ => ⟨S2816x1024, .f32⟩
  | .hbm, ⟨20, _⟩ => ⟨S2816x1024, .bf16⟩
  | .hbm, ⟨21, _⟩ => ⟨S2816x1024, .f32⟩
  | .hbm, ⟨22, _⟩ => ⟨S2816x1024, .bf16⟩
  | .hbm, ⟨23, _⟩ => ⟨S8192x1024, .f32⟩
  | .hbm, ⟨24, _⟩ => ⟨S8192x1024, .f32⟩
  | .hbm, ⟨25, _⟩ => ⟨S11x8192x256, .bf16⟩
  | .hbm, ⟨26, _⟩ => ⟨S11x8192x256, .bf16⟩
  | .hbm, ⟨27, _⟩ => ⟨S8192x1024, .f32⟩
  | .hbm, ⟨28, _⟩ => ⟨S8192x1024, .bf16⟩
  | .hbm, ⟨29, _⟩ => ⟨S8x1024, .f32⟩
  | .hbm, ⟨30, _⟩ => ⟨S4x8x1024, .f32⟩
  | .local _ .vmem, ⟨0, _⟩ => ⟨S512x1024, .bf16⟩
  | .local _ .vmem, ⟨1, _⟩ => ⟨S512x1024, .bf16⟩
  | .local _ .vmem, ⟨2, _⟩ => ⟨S1x8x1024, .f32⟩
  | .local _ .vmem, ⟨3, _⟩ => ⟨S1x8x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S11x512x256, .bf16⟩
  | .local _ .vmem, ⟨9, _⟩ => ⟨S11x512x256, .bf16⟩
  | .local _ .vmem, ⟨10, _⟩ => ⟨S11x512x256, .bf16⟩
  | .local _ .vmem, ⟨11, _⟩ => ⟨S11x512x256, .bf16⟩
  | .local _ .vmem, ⟨12, _⟩ => ⟨S512x1024, .f32⟩
  | .local _ .vmem, ⟨13, _⟩ => ⟨S512x1024, .f32⟩
  | .local _ .vmem, ⟨14, _⟩ => ⟨S512x1024, .bf16⟩
  | .local _ .vmem, ⟨15, _⟩ => ⟨S512x1024, .bf16⟩
  | .local _ .vmem, ⟨16, _⟩ => ⟨S8x1024, .f32⟩
  | .local _ .vmem, ⟨17, _⟩ => ⟨S1x8x1024, .f32⟩
  | .local _ .vmem, ⟨18, _⟩ => ⟨S1x8x1024, .f32⟩
  | .local _ .vmem, ⟨19, _⟩ => ⟨S2816x1024, .bf16⟩
  | .local _ .vmem, ⟨20, _⟩ => ⟨S2816x1024, .bf16⟩
  | .local _ .vmem, ⟨21, _⟩ => ⟨S2816x1024, .bf16⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_cst_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16_0 : Ref sig .tc := ⟨.hbm, 25, rfl⟩
abbrev main_v16_1 : Ref sig .tc := ⟨.hbm, 26, rfl⟩
abbrev main_v16_2 : Ref sig .tc := ⟨.hbm, 27, rfl⟩
abbrev main_v16_3 : Ref sig .tc := ⟨.hbm, 28, rfl⟩
abbrev main_v16_4 : Ref sig .tc := ⟨.hbm, 29, rfl⟩
abbrev main_v16_5 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg9_1 : Ref sig .tc := ⟨.vmem, 18, rfl⟩
abbrev cc0_scratch0 : Ref sig .tc := ⟨.vmem, 19, rfl⟩
abbrev cc0_scratch1 : Ref sig .tc := ⟨.vmem, 20, rfl⟩
abbrev cc0_scratch2 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem9_1 : DmaSem sig := 18

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S11x512x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S11x512x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S8x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1x8x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference4Ideal.lean ====
abbrev S4x2048x1024 : Shape := ⟨3, ![4, 2048, 1024]⟩
abbrev S4x1024 : Shape := ⟨2, ![4, 1024]⟩
abbrev S1x1024x2816 : Shape := ⟨3, ![1, 1024, 2816]⟩
abbrev S1x2816x1024 : Shape := ⟨3, ![1, 2816, 1024]⟩
abbrev S_ : Shape := ⟨0, ![]⟩
abbrev S1024x2816 : Shape := ⟨2, ![1024, 2816]⟩
abbrev S4x2048x2816 : Shape := ⟨3, ![4, 2048, 2816]⟩
abbrev S2816x1024 : Shape := ⟨2, ![2816, 1024]⟩
abbrev S4x1x1024 : Shape := ⟨3, ![4, 1, 1024]⟩
abbrev S4x2048 : Shape := ⟨2, ![4, 2048]⟩
abbrev S1024 : Shape := ⟨1, ![1024]⟩
abbrev S8192x11x256 : Shape := ⟨3, ![8192, 11, 256]⟩
abbrev S11x8192x256 : Shape := ⟨3, ![11, 8192, 256]⟩
abbrev S8192x1024 : Shape := ⟨2, ![8192, 1024]⟩
abbrev S1x1024 : Shape := ⟨2, ![1, 1024]⟩
abbrev S7x1024 : Shape := ⟨2, ![7, 1024]⟩
abbrev S8x1024 : Shape := ⟨2, ![8, 1024]⟩
abbrev S4x7x1024 : Shape := ⟨3, ![4, 7, 1024]⟩
abbrev S4x8x1024 : Shape := ⟨3, ![4, 8, 1024]⟩

abbrev nBuf : Space → Nat
  | .hbm => 81
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S4x2048x1024, .f32⟩
  | .hbm, ⟨2, _⟩ => ⟨S4x1024, .f32⟩
  | .hbm, ⟨3, _⟩ => ⟨S1x1024x2816, .f32⟩
  | .hbm, ⟨4, _⟩ => ⟨S1x1024x2816, .f32⟩
  | .hbm, ⟨5, _⟩ => ⟨S1x2816x1024, .f32⟩
  | .hbm, ⟨6, _⟩ => ⟨S4x2048x1024, .f32⟩
  | .hbm, ⟨7, _⟩ => ⟨S_, .f32⟩
  | .hbm, ⟨8, _⟩ => ⟨S4x2048x1024, .f32⟩
  | .hbm, ⟨9, _⟩ => ⟨S1024x2816, .f32⟩
  | .hbm, ⟨10, _⟩ => ⟨S4x2048x2816, .f32⟩
  | .hbm, ⟨11, _⟩ => ⟨S1024x2816, .f32⟩
  | .hbm, ⟨12, _⟩ => ⟨S4x2048x2816, .f32⟩
  | .hbm, ⟨13, _⟩ => ⟨S4x2048x2816, .f32⟩
  | .hbm, ⟨14, _⟩ => ⟨S4x2048x2816, .f32⟩
  | .hbm, ⟨15, _⟩ => ⟨S_, .f32⟩
  | .hbm, ⟨16, _⟩ => ⟨S4x2048x2816, .f32⟩
  | .hbm, ⟨17, _⟩ => ⟨S4x2048x2816, .f32⟩
  | .hbm, ⟨18, _⟩ => ⟨S_, .f32⟩
  | .hbm, ⟨19, _⟩ => ⟨S4x2048x2816, .f32⟩
  | .hbm, ⟨20, _⟩ => ⟨S4x2048x2816, .f32⟩
  | .hbm, ⟨21, _⟩ => ⟨S4x2048x2816, .f32⟩
  | .hbm, ⟨22, _⟩ => ⟨S4x2048x2816, .f32⟩
  | .hbm, ⟨23, _⟩ => ⟨S2816x1024, .f32⟩
  | .hbm, ⟨24, _⟩ => ⟨S4x2048x1024, .f32⟩
  | .hbm, ⟨25, _⟩ => ⟨S4x2048x1024, .f32⟩
  | .hbm, ⟨26, _⟩ => ⟨S4x1x1024, .f32⟩
  | .hbm, ⟨27, _⟩ => ⟨S4x2048x1024, .f32⟩
  | .hbm, ⟨28, _⟩ => ⟨S4x2048x1024, .f32⟩
  | .hbm, ⟨29, _⟩ => ⟨S4x2048x1024, .f32⟩
  | .hbm, ⟨30, _⟩ => ⟨S4x2048x1024, .f32⟩
  | .hbm, ⟨31, _⟩ => ⟨S4x2048x1024, .f32⟩
  | .hbm, ⟨32, _⟩ => ⟨S4x2048x1024, .f32⟩
  | .hbm, ⟨33, _⟩ => ⟨S_, .f32⟩
  | .hbm, ⟨34, _⟩ => ⟨S4x2048x1024, .f32⟩
  | .hbm, ⟨35, _⟩ => ⟨S4x2048x1024, .f32⟩
  | .hbm, ⟨36, _⟩ => ⟨S_, .f32⟩
  | .hbm, ⟨37, _⟩ => ⟨S4x2048, .f32⟩
  | .hbm, ⟨38, _⟩ => ⟨S_, .f32⟩
  | .hbm, ⟨39, _⟩ => ⟨S4x2048, .f32⟩
  | .hbm, ⟨40, _⟩ => ⟨S4x2048, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S1024, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S4x2048, .f32⟩
  | .hbm, ⟨51, _⟩ => ⟨S_, .f32⟩
  | .hbm, ⟨52, _⟩ => ⟨S4x2048, .f32⟩
  | .hbm, ⟨53, _⟩ => ⟨S4x2048, .f32⟩
  | .hbm, ⟨54, _⟩ => ⟨S4x2048x1024, .f32⟩
  | .hbm, ⟨55, _⟩ => ⟨S4x2048x1024, .f32⟩
  | .hbm, ⟨56, _⟩ => ⟨S4x2048x1024, .f32⟩
  | .hbm, ⟨57, _⟩ => ⟨S4x2048x1024, .f32⟩
  | .hbm, ⟨58, _⟩ => ⟨S4x2048x1024, .f32⟩
  | .hbm, ⟨59, _⟩ => ⟨S_, .f32⟩
  | .hbm, ⟨60, _⟩ => ⟨S4x1024, .f32⟩
  | .hbm, ⟨61, _⟩ => ⟨S4x1x1024, .f32⟩
  | .hbm, ⟨62, _⟩ => ⟨S_, .f32⟩
  | .hbm, ⟨63, _⟩ => ⟨S4x1024, .f32⟩
  | .hbm, ⟨64, _⟩ => ⟨S8192x11x256, .f32⟩
  | .hbm, ⟨65, _⟩ => ⟨S11x8192x256, .f32⟩
  | .hbm, ⟨66, _⟩ => ⟨S11x8192x256, .bf16⟩
  | .hbm, ⟨67, _⟩ => ⟨S8192x11x256, .f32⟩
  | .hbm, ⟨68, _⟩ => ⟨S11x8192x256, .f32⟩
  | .hbm, ⟨69, _⟩ => ⟨S11x8192x256, .bf16⟩
  | .hbm, ⟨70, _⟩ => ⟨S8192x1024, .f32⟩
  | .hbm, ⟨71, _⟩ => ⟨S8192x1024, .f32⟩
  | .hbm, ⟨72, _⟩ => ⟨S8192x1024, .bf16⟩
  | .hbm, ⟨73, _⟩ => ⟨S1x1024, .f32⟩
  | .hbm, ⟨74, _⟩ => ⟨S_, .f32⟩
  | .hbm, ⟨75, _⟩ => ⟨S7x1024, .f32⟩
  | .hbm, ⟨76, _⟩ => ⟨S8x1024, .f32⟩
  | .hbm, ⟨77, _⟩ => ⟨S4x1x1024, .f32⟩
  | .hbm, ⟨78, _⟩ => ⟨S_, .f32⟩
  | .hbm, ⟨79, _⟩ => ⟨S4x7x1024, .f32⟩
  | .hbm, ⟨80, _⟩ => ⟨S4x8x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_call0_v0 : Ref sig .tc := ⟨.hbm, 13, rfl⟩
abbrev main_call0_v1 : Ref sig .tc := ⟨.hbm, 14, rfl⟩
abbrev main_call0_cst : Ref sig .tc := ⟨.hbm, 15, rfl⟩
abbrev main_call0_v2 : Ref sig .tc := ⟨.hbm, 16, rfl⟩
abbrev main_call0_v3 : Ref sig .tc := ⟨.hbm, 17, rfl⟩
abbrev main_call0_cst_0 : Ref sig .tc := ⟨.hbm, 18, rfl⟩
abbrev main_call0_v4 : Ref sig .tc := ⟨.hbm, 19, rfl⟩
abbrev main_call0_v5 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_cst_0 : Ref sig .tc := ⟨.hbm, 33, rfl⟩
abbrev main_v17 : Ref sig .tc := ⟨.hbm, 34, rfl⟩
abbrev main_v18 : Ref sig .tc := ⟨.hbm, 35, rfl⟩
abbrev main_cst_1 : Ref sig .tc := ⟨.hbm, 36, rfl⟩
abbrev main_v19 : Ref sig .tc := ⟨.hbm, 37, rfl⟩
abbrev main_cst_2 : Ref sig .tc := ⟨.hbm, 38, rfl⟩
abbrev main_v20 : Ref sig .tc := ⟨.hbm, 39, rfl⟩
abbrev main_v21 : Ref sig .tc := ⟨.hbm, 40, rfl⟩
abbrev main_cst_3 : Ref sig .tc := ⟨.hbm, 41, rfl⟩
abbrev main_v22 : Ref sig .tc := ⟨.hbm, 42, rfl⟩
abbrev main_cst_4 : Ref sig .tc := ⟨.hbm, 43, rfl⟩
abbrev main_v23 : Ref sig .tc := ⟨.hbm, 44, rfl⟩
abbrev main_cst_5 : Ref sig .tc := ⟨.hbm, 45, rfl⟩
abbrev main_v24 : Ref sig .tc := ⟨.hbm, 46, rfl⟩
abbrev main_cst_6 : Ref sig .tc := ⟨.hbm, 47, rfl⟩
abbrev main_cst_7 : Ref sig .tc := ⟨.hbm, 48, rfl⟩
abbrev main_v25 : Ref sig .tc := ⟨.hbm, 49, rfl⟩
abbrev main_v26 : Ref sig .tc := ⟨.hbm, 50, rfl⟩
abbrev main_cst_8 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_cst_9 : Ref sig .tc := ⟨.hbm, 59, rfl⟩
abbrev main_v34 : Ref sig .tc := ⟨.hbm, 60, rfl⟩
abbrev main_v35 : Ref sig .tc := ⟨.hbm, 61, rfl⟩
abbrev main_cst_10 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_cst_11 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_cst_12 : Ref sig .tc := ⟨.hbm, 78, rfl⟩
abbrev main_v50 : Ref sig .tc := ⟨.hbm, 79, rfl⟩
abbrev main_v51 : Ref sig .tc := ⟨.hbm, 80, rfl⟩

abbrev nD : Nat := 1
abbrev τ : Topo := Topo.v7x

variable {F : FTy → Type} [FloatOps F]
-- ==== Kernel5.lean ====
abbrev S4x2048x1024 : Shape := ⟨3, ![4, 2048, 1024]⟩
abbrev S4x6144 : Shape := ⟨2, ![4, 6144]⟩
abbrev S1x1024 : Shape := ⟨2, ![1, 1024]⟩
abbrev S1x1024x2816 : Shape := ⟨3, ![1, 1024, 2816]⟩
abbrev S1x2816x1024 : Shape := ⟨3, ![1, 2816, 1024]⟩
abbrev S4x6x1024 : Shape := ⟨3, ![4, 6, 1024]⟩
abbrev S_ : Shape := ⟨0, ![]⟩
abbrev S4x8x1024 : Shape := ⟨3, ![4, 8, 1024]⟩
abbrev S4x1x1024 : Shape := ⟨3, ![4, 1, 1024]⟩
abbrev S4x1024 : Shape := ⟨2, ![4, 1024]⟩
abbrev S1024 : Shape := ⟨1, ![1024]⟩
abbrev S4x2048 : Shape := ⟨2, ![4, 2048]⟩
abbrev S4x2048x1 : Shape := ⟨3, ![4, 2048, 1]⟩
abbrev S1x1x1024 : Shape := ⟨3, ![1, 1, 1024]⟩
abbrev S8192x1024 : Shape := ⟨2, ![8192, 1024]⟩
abbrev S1024x2816 : Shape := ⟨2, ![1024, 2816]⟩
abbrev S4x2048x2816 : Shape := ⟨3, ![4, 2048, 2816]⟩
abbrev S8192x11x256 : Shape := ⟨3, ![8192, 11, 256]⟩
abbrev S11x8192x256 : Shape := ⟨3, ![11, 8192, 256]⟩
abbrev S2816x1024 : Shape := ⟨2, ![2816, 1024]⟩
abbrev S8x1024 : Shape := ⟨2, ![8, 1024]⟩
abbrev S256x1024 : Shape := ⟨2, ![256, 1024]⟩
abbrev S11x256x256 : Shape := ⟨3, ![11, 256, 256]⟩
abbrev S1x8x1024 : Shape := ⟨3, ![1, 8, 1024]⟩
abbrev S3 : Shape := ⟨1, ![3]⟩
abbrev S1 : Shape := ⟨1, ![1]⟩
abbrev S256x256 : Shape := ⟨2, ![256, 256]⟩
abbrev S1x256x256 : Shape := ⟨3, ![1, 256, 256]⟩
abbrev S256 : Shape := ⟨1, ![256]⟩
abbrev S256x1 : Shape := ⟨2, ![256, 1]⟩

abbrev nBuf : Space → Nat
  | .hbm => 84
  | .vmem => 31
  | .smem => 0
  | _ => 0

abbrev bufTy : (tb : Table) → Fin (tcTables nBuf tb) → BufTy
  | .hbm, ⟨0, _⟩ => ⟨S4x2048x1024, .f32⟩
  | .hbm, ⟨1, _⟩ => ⟨S4x2048x1024, .f32⟩
  | .hbm, ⟨2, _⟩ => ⟨S4x6144, .f32⟩
  | .hbm, ⟨3, _⟩ => ⟨S1x1024, .f32⟩
  | .hbm, ⟨4, _⟩ => ⟨S1x1024x2816, .f32⟩
  | .hbm, ⟨5, _⟩ => ⟨S1x1024x2816, .f32⟩
  | .hbm, ⟨6, _⟩ => ⟨S1x2816x1024, .f32⟩
  | .hbm, ⟨7, _⟩ => ⟨S4x2048x1024, .f32⟩
  | .hbm, ⟨8, _⟩ => ⟨S4x6x1024, .f32⟩
  | .hbm, ⟨9, _⟩ => ⟨S_, .i32⟩
  | .hbm, ⟨10, _⟩ => ⟨S_, .f32⟩
  | .hbm, ⟨11, _⟩ => ⟨S4x8x1024, .f32⟩
  | .hbm, ⟨12, _⟩ => ⟨S4x1x1024, .f32⟩
  | .hbm, ⟨13, _⟩ => ⟨S4x1024, .f32⟩
  | .hbm, ⟨14, _⟩ => ⟨S4x1x1024, .f32⟩
  | .hbm, ⟨15, _⟩ => ⟨S4x1x1024, .f32⟩
  | .hbm, ⟨16, _⟩ => ⟨S4x1024, .f32⟩
  | .hbm, ⟨17, _⟩ => ⟨S4x1x1024, .f32⟩
  | .hbm, ⟨18, _⟩ => ⟨S4x1x1024, .f32⟩
  | .hbm, ⟨19, _⟩ => ⟨S4x1024, .f32⟩
  | .hbm, ⟨20, _⟩ => ⟨S4x1x1024, .f32⟩
  | .hbm, ⟨21, _⟩ => ⟨S4x1x1024, .f32⟩
  | .hbm, ⟨22, _⟩ => ⟨S4x1024, .f32⟩
  | .hbm, ⟨23, _⟩ => ⟨S4x1x1024, .f32⟩
  | .hbm, ⟨24, _⟩ => ⟨S4x2048x1024, .f32⟩
  | .hbm, ⟨25, _⟩ => ⟨S4x2048x1024, .f32⟩
  | .hbm, ⟨26, _⟩ => ⟨S4x2048x1024, .f32⟩
  | .hbm, ⟨27, _⟩ => ⟨S1024, .f32⟩
  | .hbm, ⟨28, _⟩ => ⟨S4x2048x1024, .f32⟩
  | .hbm, ⟨29, _⟩ => ⟨S_, .f32⟩
  | .hbm, ⟨30, _⟩ => ⟨S4x2048, .f32⟩
  | .hbm, ⟨31, _⟩ => ⟨S4x2048x1, .f32⟩
  | .hbm, ⟨32, _⟩ => ⟨S_, .f32⟩
  | .hbm, ⟨33, _⟩ => ⟨S4x2048x1, .f32⟩
  | .hbm, ⟨34, _⟩ => ⟨S4x2048x1, .f32⟩
  | .hbm, ⟨35, _⟩ => ⟨S_, .f32⟩
  | .hbm, ⟨36, _⟩ => ⟨S4x2048x1, .f32⟩
  | .hbm, ⟨37, _⟩ => ⟨S4x2048x1, .f32⟩
  | .hbm, ⟨38, _⟩ => ⟨S4x2048x1, .f32⟩
  | .hbm, ⟨39, _⟩ => ⟨S4x2048x1024, .f32⟩
  | .hbm, ⟨40, _⟩ => ⟨S4x2048x1024, .f32⟩
  | .hbm, ⟨41, _⟩ => ⟨S1x1x1024, .f32⟩
  | .hbm, ⟨42, _⟩ => ⟨S4x2048x1024, .f32⟩
  | .hbm, ⟨43, _⟩ => ⟨S4x2048x1024, .f32⟩
  | .hbm, ⟨44, _⟩ => ⟨S_, .f32⟩
  | .hbm, ⟨45, _⟩ => ⟨S4x1x1024, .f32⟩
  | .hbm, ⟨46, _⟩ => ⟨S4x1x1024, .f32⟩
  | .hbm, ⟨47, _⟩ => ⟨S4x2048x1024, .f32⟩
  | .hbm, ⟨48, _⟩ => ⟨S4x2048x1024, .f32⟩
  | .hbm, ⟨49, _⟩ => ⟨S4x2048x1024, .f32⟩
  | .hbm, ⟨50, _⟩ => ⟨S4x2048x1024, .f32⟩
  | .hbm, ⟨51, _⟩ => ⟨S4x2048x1024, .f32⟩
  | .hbm, ⟨52, _⟩ => ⟨S4x2048x1024, .f32⟩
  | .hbm, ⟨53, _⟩ => ⟨S8192x1024, .f32⟩
  | .hbm, ⟨54, _⟩ => ⟨S8192x1024, .bf16⟩
  | .hbm, ⟨55, _⟩ => ⟨S1024x2816, .f32⟩
  | .hbm, ⟨56, _⟩ => ⟨S4x2048x2816, .f32⟩
  | .hbm, ⟨57, _⟩ => ⟨S8192x11x256, .f32⟩
  | .hbm, ⟨58, _⟩ => ⟨S11x8192x256, .f32⟩
  | .hbm, ⟨59, _⟩ => ⟨S11x8192x256, .bf16⟩
  | .hbm, ⟨60, _⟩ => ⟨S1024x2816, .f32⟩
  | .hbm, ⟨61, _⟩ => ⟨S4x2048x2816, .f32⟩
  | .hbm, ⟨62, _⟩ => ⟨S8192x11x256, .f32⟩
  | .hbm, ⟨63, _⟩ => ⟨S11x8192x256, .f32⟩
  | .hbm, ⟨64, _⟩ => ⟨S11x8192x256, .bf16⟩
  | .hbm, ⟨65, _⟩ => ⟨S1024x2816, .f32⟩
  | .hbm, ⟨66, _⟩ => ⟨S2816x1024, .f32⟩
  | .hbm, ⟨67, _⟩ => ⟨S2816x1024, .bf16⟩
  | .hbm, ⟨68, _⟩ => ⟨S1024x2816, .f32⟩
  | .hbm, ⟨69, _⟩ => ⟨S2816x1024, .f32⟩
  | .hbm, ⟨70, _⟩ => ⟨S2816x1024, .bf16⟩
  | .hbm, ⟨71, _⟩ => ⟨S2816x1024, .f32⟩
  | .hbm, ⟨72, _⟩ => ⟨S2816x1024, .bf16⟩
  | .hbm, ⟨73, _⟩ => ⟨S8192x1024, .f32⟩
  | .hbm, ⟨74, _⟩ => ⟨S8192x1024, .f32⟩
  | .hbm, ⟨75, _⟩ => ⟨S8192x1024, .f32⟩
  | .hbm, ⟨76, _⟩ => ⟨S8192x1024, .bf16⟩
  | .hbm, ⟨77, _⟩ => ⟨S11x8192x256, .bf16⟩
  | .hbm, ⟨78, _⟩ => ⟨S11x8192x256, .bf16⟩
  | .hbm, ⟨79, _⟩ => ⟨S11x8192x256, .bf16⟩
  | .hbm, ⟨80, _⟩ => ⟨S8192x1024, .f32⟩
  | .hbm, ⟨81, _⟩ => ⟨S8192x1024, .bf16⟩
  | .hbm, ⟨82, _⟩ => ⟨S8x1024, .f32⟩
  | .hbm, ⟨83, _⟩ => ⟨S4x8x1024, .f32⟩
  | .local _ .vmem, ⟨0, _⟩ => ⟨S256x1024, .bf16⟩
  | .local _ .vmem, ⟨1, _⟩ => ⟨S256x1024, .bf16⟩
  | .local _ .vmem, ⟨2, _⟩ => ⟨S11x256x256, .bf16⟩
  | .local _ .vmem, ⟨3, _⟩ => ⟨S11x256x256, .bf16⟩
  | .local _ .vmem, ⟨4, _⟩ => ⟨S11x256x256, .bf16⟩
  | .local _ .vmem, ⟨5, _⟩ => ⟨S11x256x256, .bf16⟩
  | .local _ .vmem, ⟨6, _⟩ => ⟨S1x8x1024, .f32⟩
  | .local _ .vmem, ⟨7, _⟩ => ⟨S1x8x1024, .f32⟩
  | .local _ .vmem, ⟨8, _⟩ => ⟨S1x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .bf16⟩
  | .local _ .vmem, ⟨14, _⟩ => ⟨S256x1024, .bf16⟩
  | .local _ .vmem, ⟨15, _⟩ => ⟨S11x256x256, .bf16⟩
  | .local _ .vmem, ⟨16, _⟩ => ⟨S11x256x256, .bf16⟩
  | .local _ .vmem, ⟨17, _⟩ => ⟨S11x256x256, .bf16⟩
  | .local _ .vmem, ⟨18, _⟩ => ⟨S11x256x256, .bf16⟩
  | .local _ .vmem, ⟨19, _⟩ => ⟨S11x256x256, .bf16⟩
  | .local _ .vmem, ⟨20, _⟩ => ⟨S11x256x256, .bf16⟩
  | .local _ .vmem, ⟨21, _⟩ => ⟨S256x1024, .f32⟩
  | .local _ .vmem, ⟨22, _⟩ => ⟨S256x1024, .f32⟩
  | .local _ .vmem, ⟨23, _⟩ => ⟨S256x1024, .bf16⟩
  | .local _ .vmem, ⟨24, _⟩ => ⟨S256x1024, .bf16⟩
  | .local _ .vmem, ⟨25, _⟩ => ⟨S8x1024, .f32⟩
  | .local _ .vmem, ⟨26, _⟩ => ⟨S1x8x1024, .f32⟩
  | .local _ .vmem, ⟨27, _⟩ => ⟨S1x8x1024, .f32⟩
  | .local _ .vmem, ⟨28, _⟩ => ⟨S2816x1024, .bf16⟩
  | .local _ .vmem, ⟨29, _⟩ => ⟨S2816x1024, .bf16⟩
  | .local _ .vmem, ⟨30, _⟩ => ⟨S2816x1024, .bf16⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_call0_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst : Ref sig .tc := ⟨.hbm, 29, rfl⟩
abbrev main_v19 : Ref sig .tc := ⟨.hbm, 30, rfl⟩
abbrev main_v20 : Ref sig .tc := ⟨.hbm, 31, rfl⟩
abbrev main_cst_0 : Ref sig .tc := ⟨.hbm, 32, rfl⟩
abbrev main_v21 : Ref sig .tc := ⟨.hbm, 33, rfl⟩
abbrev main_v22 : Ref sig .tc := ⟨.hbm, 34, rfl⟩
abbrev main_cst_1 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_2 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63_0 : Ref sig .tc := ⟨.hbm, 77, rfl⟩
abbrev main_v63_1 : Ref sig .tc := ⟨.hbm, 78, rfl⟩
abbrev main_v63_2 : Ref sig .tc := ⟨.hbm, 79, rfl⟩
abbrev main_v63_3 : Ref sig .tc := ⟨.hbm, 80, rfl⟩
abbrev main_v63_4 : Ref sig .tc := ⟨.hbm, 81, rfl⟩
abbrev main_v63_5 : Ref sig .tc := ⟨.hbm, 82, rfl⟩
abbrev main_v63_6 : Ref sig .tc := ⟨.hbm, 83, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg12_1 : Ref sig .tc := ⟨.vmem, 24, rfl⟩
abbrev cc0_stg13_0 : Ref sig .tc := ⟨.vmem, 25, rfl⟩
abbrev cc0_stg14_0 : Ref sig .tc := ⟨.vmem, 26, rfl⟩
abbrev cc0_stg14_1 : Ref sig .tc := ⟨.vmem, 27, rfl⟩
abbrev cc0_scratch0 : Ref sig .tc := ⟨.vmem, 28, rfl⟩
abbrev cc0_scratch1 : Ref sig .tc := ⟨.vmem, 29, rfl⟩
abbrev cc0_scratch2 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24
abbrev cc0_sem13_0 : DmaSem sig := 25
abbrev cc0_sem14_0 : DmaSem sig := 26
abbrev cc0_sem14_1 : DmaSem sig := 27

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S11x256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S11x256x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S11x256x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S11x256x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S11x256x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S8x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S1x8x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== Reference5Ideal.lean ====
abbrev S4x2048x1024 : Shape := ⟨3, ![4, 2048, 1024]⟩
abbrev S4x6144 : Shape := ⟨2, ![4, 6144]⟩
abbrev S1x1024 : Shape := ⟨2, ![1, 1024]⟩
abbrev S1x1024x2816 : Shape := ⟨3, ![1, 1024, 2816]⟩
abbrev S1x2816x1024 : Shape := ⟨3, ![1, 2816, 1024]⟩
abbrev S4x1024 : Shape := ⟨2, ![4, 1024]⟩
abbrev S_ : Shape := ⟨0, ![]⟩
abbrev S4x2048x2816 : Shape := ⟨3, ![4, 2048, 2816]⟩
abbrev S4x1x1024 : Shape := ⟨3, ![4, 1, 1024]⟩
abbrev S1024 : Shape := ⟨1, ![1024]⟩
abbrev S4x2048 : Shape := ⟨2, ![4, 2048]⟩
abbrev S4x2048x1 : Shape := ⟨3, ![4, 2048, 1]⟩
abbrev S1x1x1024 : Shape := ⟨3, ![1, 1, 1024]⟩
abbrev S1024x2816 : Shape := ⟨2, ![1024, 2816]⟩
abbrev S2816x1024 : Shape := ⟨2, ![2816, 1024]⟩
abbrev S8192x11x256 : Shape := ⟨3, ![8192, 11, 256]⟩
abbrev S11x8192x256 : Shape := ⟨3, ![11, 8192, 256]⟩
abbrev S8192x1024 : Shape := ⟨2, ![8192, 1024]⟩
abbrev S7x1024 : Shape := ⟨2, ![7, 1024]⟩
abbrev S8x1024 : Shape := ⟨2, ![8, 1024]⟩
abbrev S4x5x1024 : Shape := ⟨3, ![4, 5, 1024]⟩
abbrev S4x8x1024 : Shape := ⟨3, ![4, 8, 1024]⟩

abbrev nBuf : Space → Nat
  | .hbm => 161
  | .vmem => 0
  | .smem => 0
  | _ => 0

abbrev hbmTy0_0 (i : Nat) : BufTy := match i % 128 with
  | 0 => ⟨S4x2048x1024, .f32⟩
  | 1 => ⟨S4x2048x1024, .f32⟩
  | 2 => ⟨S4x6144, .f32⟩
  | 3 => ⟨S1x1024, .f32⟩
  | 4 => ⟨S1x1024x2816, .f32⟩
  | 5 => ⟨S1x1024x2816, .f32⟩
  | 6 => ⟨S1x2816x1024, .f32⟩
  | 7 => ⟨S4x2048x1024, .f32⟩
  | 8 => ⟨S4x1024, .f32⟩
  | 9 => ⟨S4x1024, .f32⟩
  | 10 => ⟨S4x1024, .f32⟩
  | 11 => ⟨S4x1024, .f32⟩
  | 12 => ⟨S4x1024, .f32⟩
  | 13 => ⟨S4x1024, .f32⟩
  | 14 => ⟨S_, .f32⟩
  | 15 => ⟨S4x2048x2816, .f32⟩
  | 16 => ⟨S4x1x1024, .f32⟩
  | 17 => ⟨S4x2048x1024, .f32⟩
  | 18 => ⟨S4x2048x1024, .f32⟩
  | 19 => ⟨S4x2048x1024, .f32⟩
  | 20 => ⟨S1024, .f32⟩
  | 21 => ⟨S4x2048x1024, .f32⟩
  | 22 => ⟨S_, .f32⟩
  | 23 => ⟨S4x2048, .f32⟩
  | 24 => ⟨S4x2048x1, .f32⟩
  | 25 => ⟨S_, .f32⟩
  | 26 => ⟨S4x2048x1, .f32⟩
  | 27 => ⟨S4x2048x1, .f32⟩
  | 28 => ⟨S_, .f32⟩
  | 29 => ⟨S4x2048x1, .f32⟩
  | 30 => ⟨S4x2048x1, .f32⟩
  | 31 => ⟨S4x2048x1, .f32⟩
  | 32 => ⟨S4x2048x1, .f32⟩
  | 33 => ⟨S_, .f32⟩
  | 34 => ⟨S4x2048x1, .f32⟩
  | 35 => ⟨S4x2048x1, .f32⟩
  | 36 => ⟨S4x2048x1024, .f32⟩
  | 37 => ⟨S4x2048x1024, .f32⟩
  | 38 => ⟨S1x1x1024, .f32⟩
  | 39 => ⟨S4x2048x1024, .f32⟩
  | 40 => ⟨S4x2048x1024, .f32⟩
  | 41 => ⟨S4x1x1024, .f32⟩
  | 42 => ⟨S4x1x1024, .f32⟩
  | 43 => ⟨S_, .f32⟩
  | 44 => ⟨S4x1x1024, .f32⟩
  | 45 => ⟨S4x1x1024, .f32⟩
  | 46 => ⟨S4x2048x1024, .f32⟩
  | 47 => ⟨S4x2048x1024, .f32⟩
  | 48 => ⟨S4x2048x1024, .f32⟩
  | 49 => ⟨S4x2048x1024, .f32⟩
  | 50 => ⟨S1024x2816, .f32⟩
  | 51 => ⟨S4x2048x2816, .f32⟩
  | 52 => ⟨S4x2048x2816, .f32⟩
  | 53 => ⟨S1024x2816, .f32⟩
  | 54 => ⟨S4x2048x2816, .f32⟩
  | 55 => ⟨S4x2048x2816, .f32⟩
  | 56 => ⟨S4x2048x2816, .f32⟩
  | 57 => ⟨S4x2048x2816, .f32⟩
  | 58 => ⟨S_, .f32⟩
  | 59 => ⟨S4x2048x2816, .f32⟩
  | 60 => ⟨S4x2048x2816, .f32⟩
  | 61 => ⟨S_, .f32⟩
  | 62 => ⟨S4x2048x2816, .f32⟩
  | 63 => ⟨S4x2048x2816, .f32⟩
  | 64 => ⟨S_, .f32⟩
  | 65 => ⟨S4x2048x2816, .f32⟩
  | 66 => ⟨S4x2048x2816, .f32⟩
  | 67 => ⟨S4x2048x2816, .f32⟩
  | 68 => ⟨S4x2048x2816, .f32⟩
  | 69 => ⟨S4x2048x2816, .f32⟩
  | 70 => ⟨S4x1x1024, .f32⟩
  | 71 => ⟨S2816x1024, .f32⟩
  | 72 => ⟨S4x2048x1024, .f32⟩
  | 73 => ⟨S4x2048x1024, .f32⟩
  | 74 => ⟨S4x2048x1024, .f32⟩
  | 75 => ⟨S4x2048x1024, .f32⟩
  | 76 => ⟨S4x2048x1024, .f32⟩
  | 77 => ⟨S4x2048x1024, .f32⟩
  | 78 => ⟨S4x2048x1024, .f32⟩
  | 79 => ⟨S4x2048x1024, .f32⟩
  | 80 => ⟨S4x2048x2816, .f32⟩
  | 81 => ⟨S4x2048x2816, .f32⟩
  | 82 => ⟨S4x2048x2816, .f32⟩
  | 83 => ⟨S4x2048x2816, .f32⟩
  | 84 => ⟨S4x2048x2816, .f32⟩
  | 85 => ⟨S4x2048x2816, .f32⟩
  | 86 => ⟨S4x2048x2816, .f32⟩
  | 87 => ⟨S4x2048x1024, .f32⟩
  | 88 => ⟨S4x2048x1024, .f32⟩
  | 89 => ⟨S4x2048x1024, .f32⟩
  | 90 => ⟨S_, .f32⟩
  | 91 => ⟨S4x1024, .f32⟩
  | 92 => ⟨S4x1x1024, .f32⟩
  | 93 => ⟨S4x2048x1024, .f32⟩
  | 94 => ⟨S_, .f32⟩
  | 95 => ⟨S4x1024, .f32⟩
  | 96 => ⟨S4x1x1024, .f32⟩
  | 97 => ⟨S4x2048x1024, .f32⟩
  | 98 => ⟨S4x2048x1024, .f32⟩
  | 99 => ⟨S_, .f32⟩
  | 100 => ⟨S4x1024, .f32⟩
  | 101 => ⟨S_, .f32⟩
  | 102 => ⟨S4x1024, .f32⟩
  | 103 => ⟨S4x2048x1024, .f32⟩
  | 104 => ⟨S_, .f32⟩
  | 105 => ⟨S1024, .f32⟩
  | 106 => ⟨S1x1x1024, .f32⟩
  | 107 => ⟨S4x2048x1024, .f32⟩
  | 108 => ⟨S4x2048x1024, .f32⟩
  | 109 => ⟨S_, .f32⟩
  | 110 => ⟨S1024, .f32⟩
  | 111 => ⟨S4x2048x1024, .f32⟩
  | 112 => ⟨S_, .f32⟩
  | 113 => ⟨S4x2048, .f32⟩
  | 114 => ⟨S4x2048x1, .f32⟩
  | 115 => ⟨S4x2048x1024, .f32⟩
  | 116 => ⟨S4x2048x1024, .f32⟩
  | 117 => ⟨S4x2048x1024, .f32⟩
  | 118 => ⟨S4x2048x1, .f32⟩
  | 119 => ⟨S_, .f32⟩
  | 120 => ⟨S4x2048x1, .f32⟩
  | 121 => ⟨S4x2048x1, .f32⟩
  | 122 => ⟨S_, .f32⟩
  | 123 => ⟨S4x2048, .f32⟩
  | 124 => ⟨S4x2048x1024, .f32⟩
  | 125 => ⟨S4x2048x1024, .f32⟩
  | 126 => ⟨S4x2048x1024, .f32⟩
  | 127 => ⟨S4x2048x1024, .f32⟩
  | _ => ⟨S4x2048x1024, .f32⟩

abbrev hbmTy0_1 (i : Nat) : BufTy := match i % 128 with
  | 0 => ⟨S4x2048x1024, .f32⟩
  | 1 => ⟨S1x1024, .f32⟩
  | 2 => ⟨S4x2048x1024, .f32⟩
  | 3 => ⟨S4x2048x1024, .f32⟩
  | 4 => ⟨S4x2048x1024, .f32⟩
  | 5 => ⟨S_, .f32⟩
  | 6 => ⟨S4x1024, .f32⟩
  | 7 => ⟨S4x1x1024, .f32⟩
  | 8 => ⟨S_, .f32⟩
  | 9 => ⟨S4x1024, .f32⟩
  | 10 => ⟨S8192x11x256, .f32⟩
  | 11 => ⟨S11x8192x256, .f32⟩
  | 12 => ⟨S11x8192x256, .bf16⟩
  | 13 => ⟨S8192x11x256, .f32⟩
  | 14 => ⟨S11x8192x256, .f32⟩
  | 15 => ⟨S11x8192x256, .bf16⟩
  | 16 => ⟨S8192x11x256, .f32⟩
  | 17 => ⟨S11x8192x256, .f32⟩
  | 18 => ⟨S11x8192x256, .bf16⟩
  | 19 => ⟨S8192x1024, .f32⟩
  | 20 => ⟨S8192x1024, .f32⟩
  | 21 => ⟨S8192x1024, .bf16⟩
  | 22 => ⟨S1024, .f32⟩
  | 23 => ⟨S1x1024, .f32⟩
  | 24 => ⟨S_, .f32⟩
  | 25 => ⟨S7x1024, .f32⟩
  | 26 => ⟨S8x1024, .f32⟩
  | 27 => ⟨S4x1x1024, .f32⟩
  | 28 => ⟨S4x1x1024, .f32⟩
  | 29 => ⟨S4x1x1024, .f32⟩
  | 30 => ⟨S_, .f32⟩
  | 31 => ⟨S4x5x1024, .f32⟩
  | 32 => ⟨S4x8x1024, .f32⟩
  | _ => ⟨S4x2048x1024, .f32⟩

abbrev hbmTy (i : Nat) : BufTy := match i / 128 with
  | 0 => hbmTy0_0 i
  | 1 => hbmTy0_1 i
  | _ => ⟨S4x2048x1024, .f32⟩

abbrev bufTy : (tb : Table) → Fin (tcTables nBuf tb) → BufTy
  | .hbm, ⟨i, _⟩ => hbmTy i
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_0 : Ref sig .tc := ⟨.hbm, 22, rfl⟩
abbrev main_v13 : Ref sig .tc := ⟨.hbm, 23, rfl⟩
abbrev main_v14 : Ref sig .tc := ⟨.hbm, 24, rfl⟩
abbrev main_cst_1 : Ref sig .tc := ⟨.hbm, 25, rfl⟩
abbrev main_v15 : Ref sig .tc := ⟨.hbm, 26, rfl⟩
abbrev main_v16 : Ref sig .tc := ⟨.hbm, 27, rfl⟩
abbrev main_cst_2 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_3 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_4 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_call0_v0 : Ref sig .tc := ⟨.hbm, 56, rfl⟩
abbrev main_call0_v1 : Ref sig .tc := ⟨.hbm, 57, rfl⟩
abbrev main_call0_cst : Ref sig .tc := ⟨.hbm, 58, rfl⟩
abbrev main_call0_v2 : Ref sig .tc := ⟨.hbm, 59, rfl⟩
abbrev main_call0_v3 : Ref sig .tc := ⟨.hbm, 60, rfl⟩
abbrev main_call0_cst_0 : Ref sig .tc := ⟨.hbm, 61, rfl⟩
abbrev main_call0_v4 : Ref sig .tc := ⟨.hbm, 62, rfl⟩
abbrev main_v42_2 : Ref sig .tc := ⟨.hbm, 63, rfl⟩
abbrev main_call0_cst_1 : Ref sig .tc := ⟨.hbm, 64, rfl⟩
abbrev main_call0_v6 : Ref sig .tc := ⟨.hbm, 65, rfl⟩
abbrev main_call0_v7 : Ref sig .tc := ⟨.hbm, 66, rfl⟩
abbrev main_v42_1 : Ref sig .tc := ⟨.hbm, 67, rfl⟩
abbrev main_v42_0 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_call1_v0 : Ref sig .tc := ⟨.hbm, 83, rfl⟩
abbrev main_call1_v1 : Ref sig .tc := ⟨.hbm, 84, rfl⟩
abbrev main_call1_v2 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_cst_5 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_cst_6 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_cst_7 : Ref sig .tc := ⟨.hbm, 99, rfl⟩
abbrev main_v68 : Ref sig .tc := ⟨.hbm, 100, rfl⟩
abbrev main_cst_8 : Ref sig .tc := ⟨.hbm, 101, rfl⟩
abbrev main_v69 : Ref sig .tc := ⟨.hbm, 102, rfl⟩
abbrev main_v70 : Ref sig .tc := ⟨.hbm, 103, rfl⟩
abbrev main_cst_9 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_cst_10 : Ref sig .tc := ⟨.hbm, 109, rfl⟩
abbrev main_v75 : Ref sig .tc := ⟨.hbm, 110, rfl⟩
abbrev main_v76 : Ref sig .tc := ⟨.hbm, 111, rfl⟩
abbrev main_cst_11 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_cst_12 : Ref sig .tc := ⟨.hbm, 119, rfl⟩
abbrev main_v83 : Ref sig .tc := ⟨.hbm, 120, rfl⟩
abbrev main_v84 : Ref sig .tc := ⟨.hbm, 121, rfl⟩
abbrev main_cst_13 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_cst_14 : Ref sig .tc := ⟨.hbm, 133, rfl⟩
abbrev main_v95 : Ref sig .tc := ⟨.hbm, 134, rfl⟩
abbrev main_v96 : Ref sig .tc := ⟨.hbm, 135, rfl⟩
abbrev main_cst_15 : Ref sig .tc := ⟨.hbm, 136, rfl⟩
abbrev main_v97 : Ref sig .tc := ⟨.hbm, 137, rfl⟩
abbrev main_v98 : Ref sig .tc := ⟨.hbm, 138, rfl⟩
abbrev main_v99 : Ref sig .tc := ⟨.hbm, 139, rfl⟩
abbrev main_v100 : Ref sig .tc := ⟨.hbm, 140, rfl⟩
abbrev main_v101 : Ref sig .tc := ⟨.hbm, 141, rfl⟩
abbrev main_v102 : Ref sig .tc := ⟨.hbm, 142, rfl⟩
abbrev main_v103 : Ref sig .tc := ⟨.hbm, 143, rfl⟩
abbrev main_v104 : Ref sig .tc := ⟨.hbm, 144, rfl⟩
abbrev main_v105 : Ref sig .tc := ⟨.hbm, 145, rfl⟩
abbrev main_v106 : Ref sig .tc := ⟨.hbm, 146, rfl⟩
abbrev main_v107 : Ref sig .tc := ⟨.hbm, 147, rfl⟩
abbrev main_v108 : Ref sig .tc := ⟨.hbm, 148, rfl⟩
abbrev main_v109 : Ref sig .tc := ⟨.hbm, 149, rfl⟩
abbrev main_v110 : Ref sig .tc := ⟨.hbm, 150, rfl⟩
abbrev main_v111 : Ref sig .tc := ⟨.hbm, 151, rfl⟩
abbrev main_cst_16 : Ref sig .tc := ⟨.hbm, 152, rfl⟩
abbrev main_v112 : Ref sig .tc := ⟨.hbm, 153, rfl⟩
abbrev main_v113 : Ref sig .tc := ⟨.hbm, 154, rfl⟩
abbrev main_v114 : Ref sig .tc := ⟨.hbm, 155, rfl⟩
abbrev main_v115 : Ref sig .tc := ⟨.hbm, 156, rfl⟩
abbrev main_v116 : Ref sig .tc := ⟨.hbm, 157, rfl⟩
abbrev main_cst_17 : Ref sig .tc := ⟨.hbm, 158, rfl⟩
abbrev main_v117 : Ref sig .tc := ⟨.hbm, 159, rfl⟩
abbrev main_v118 : Ref sig .tc := ⟨.hbm, 160, rfl⟩

abbrev nD : Nat := 1
abbrev τ : Topo := Topo.v7x

variable {F : FTy → Type} [FloatOps F]
-- ==== Kernel6.lean ====
abbrev S4x2048x512 : Shape := ⟨3, ![4, 2048, 512]⟩
abbrev S4x2048x2560 : Shape := ⟨3, ![4, 2048, 2560]⟩
abbrev S1x31x512 : Shape := ⟨3, ![1, 31, 512]⟩
abbrev S8192x20x128 : Shape := ⟨3, ![8192, 20, 128]⟩
abbrev S20x8192x128 : Shape := ⟨3, ![20, 8192, 128]⟩
abbrev S20x4x2048x128 : Shape := ⟨4, ![20, 4, 2048, 128]⟩
abbrev S31x512 : Shape := ⟨2, ![31, 512]⟩
abbrev S32x512 : Shape := ⟨2, ![32, 512]⟩
abbrev S8x512 : Shape := ⟨2, ![8, 512]⟩
abbrev S1x2048x128 : Shape := ⟨3, ![1, 2048, 128]⟩
abbrev S1x1x2048x128 : Shape := ⟨4, ![1, 1, 2048, 128]⟩
abbrev S31x128 : Shape := ⟨2, ![31, 128]⟩
abbrev S32x128 : Shape := ⟨2, ![32, 128]⟩
abbrev S8x128 : Shape := ⟨2, ![8, 128]⟩
abbrev S2080x128 : Shape := ⟨2, ![2080, 128]⟩
abbrev S8x2080x128 : Shape := ⟨3, ![8, 2080, 128]⟩
abbrev S16x128 : Shape := ⟨2, ![16, 128]⟩
abbrev S2048x128 : Shape := ⟨2, ![2048, 128]⟩
abbrev S2072x128 : Shape := ⟨2, ![2072, 128]⟩
abbrev S1x2072x128 : Shape := ⟨3, ![1, 2072, 128]⟩
abbrev S1x32x128 : Shape := ⟨3, ![1, 32, 128]⟩
abbrev S1x128 : Shape := ⟨2, ![1, 128]⟩
abbrev S128 : Shape := ⟨1, ![128]⟩
abbrev S128x128 : Shape := ⟨2, ![128, 128]⟩
abbrev S1x128x128 : Shape := ⟨3, ![1, 128, 128]⟩
abbrev S1x1x128x128 : Shape := ⟨4, ![1, 1, 128, 128]⟩

abbrev nBuf : Space → Nat
  | .hbm => 11
  | .vmem => 18
  | .smem => 0
  | _ => 0

abbrev bufTy : (tb : Table) → Fin (tcTables nBuf tb) → BufTy
  | .hbm, ⟨0, _⟩ => ⟨S4x2048x512, .f32⟩
  | .hbm, ⟨1, _⟩ => ⟨S4x2048x2560, .f32⟩
  | .hbm, ⟨2, _⟩ => ⟨S1x31x512, .f32⟩
  | .hbm, ⟨3, _⟩ => ⟨S8192x20x128, .f32⟩
  | .hbm, ⟨4, _⟩ => ⟨S20x8192x128, .f32⟩
  | .hbm, ⟨5, _⟩ => ⟨S20x4x2048x128, .f32⟩
  | .hbm, ⟨6, _⟩ => ⟨S31x512, .f32⟩
  | .hbm, ⟨7, _⟩ => ⟨S4x2048x512, .bf16⟩
  | .hbm, ⟨8, _⟩ => ⟨S4x2048x512, .bf16⟩
  | .hbm, ⟨9, _⟩ => ⟨S32x512, .f32⟩
  | .hbm, ⟨10, _⟩ => ⟨S8x512, .f32⟩
  | .local _ .vmem, ⟨0, _⟩ => ⟨S1x2048x128, .f32⟩
  | .local _ .vmem, ⟨1, _⟩ => ⟨S1x2048x128, .f32⟩
  | .local _ .vmem, ⟨2, _⟩ => ⟨S1x1x2048x128, .f32⟩
  | .local _ .vmem, ⟨3, _⟩ => ⟨S1x1x2048x128, .f32⟩
  | .local _ .vmem, ⟨4, _⟩ => ⟨S1x1x2048x128, .f32⟩
  | .local _ .vmem, ⟨5, _⟩ => ⟨S1x1x2048x128, .f32⟩
  | .local _ .vmem, ⟨6, _⟩ => ⟨S31x128, .f32⟩
  | .local _ .vmem, ⟨7, _⟩ => ⟨S31x128, .f32⟩
  | .local _ .vmem, ⟨8, _⟩ => ⟨S1x2048x128, .bf16⟩
  | .local _ .vmem, ⟨9, _⟩ => ⟨S1x2048x128, .bf16⟩
  | .local _ .vmem, ⟨10, _⟩ => ⟨S1x2048x128, .bf16⟩
  | .local _ .vmem, ⟨11, _⟩ => ⟨S1x2048x128, .bf16⟩
  | .local _ .vmem, ⟨12, _⟩ => ⟨S32x128, .f32⟩
  | .local _ .vmem, ⟨13, _⟩ => ⟨S32x128, .f32⟩
  | .local _ .vmem, ⟨14, _⟩ => ⟨S8x128, .f32⟩
  | .local _ .vmem, ⟨15, _⟩ => ⟨S8x128, .f32⟩
  | .local _ .vmem, ⟨16, _⟩ => ⟨S2080x128, .f32⟩
  | .local _ .vmem, ⟨17, _⟩ => ⟨S8x2080x128, .f32⟩
  | _, _ => ⟨S4x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4_0 : Ref sig .tc := ⟨.hbm, 7, rfl⟩
abbrev main_v4_1 : Ref sig .tc := ⟨.hbm, 8, rfl⟩
abbrev main_v4_2 : Ref sig .tc := ⟨.hbm, 9, rfl⟩
abbrev main_v4_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![4, 4], ![false, false]⟩

@[reducible] def k0_t1_loop : Scf.Loop 32 :=
  let c0_i32_56 : BitVec 32 := 0#32
  let c8_i32 : BitVec 32 := 8#32
  let v65 : BitVec 32 := Scalar.addi c0_i32_56 c8_i32
  let c1_i32 : BitVec 32 := 1#32
  ⟨c0_i32_56, v65, c1_i32⟩
def k0_mult1 (k0_t1 : Fin k0_t1_loop.trips) : BitVec 32 :=
  let c0_i32_56 : BitVec 32 := 0#32
  let c1_i32 : BitVec 32 := 1#32
  let arg12 : BitVec 32 := Scf.iv c0_i32_56 c1_i32 k0_t1
  let c8_i32_282 : BitVec 32 := 8#32
  let v328 : BitVec 32 := Scalar.muli arg12 c8_i32_282
  let c0_i32_283 : BitVec 32 := 0#32
  let v329 : BitVec 32 := Scalar.addi v328 c0_i32_283
  let c32_i32 : BitVec 32 := 32#32
  let v330 : BitVec 32 := Scalar.muli v329 c32_i32
  v330
def k0_off1 (k0_t1 : Fin k0_t1_loop.trips) (c0_i32_283 : BitVec 32) : Fin 3 → Nat :=
  let c0_284 : Index := 0#32
  let c0_i32_56 : BitVec 32 := 0#32
  let c1_i32 : BitVec 32 := 1#32
  let arg12 : BitVec 32 := Scf.iv c0_i32_56 c1_i32 k0_t1
  let c8_i32_282 : BitVec 32 := 8#32
  let v328 : BitVec 32 := Scalar.muli arg12 c8_i32_282
  let v329 : BitVec 32 := Scalar.addi v328 c0_i32_283
  let c32_i32 : BitVec 32 := 32#32
  let v330 : BitVec 32 := Scalar.muli v329 c32_i32
  let v331 : BitVec 32 := v330
  let v332 : Index := Scalar.indexCast v331
  let c0_285 : Index := 0#32
  ![0, v332.toNat, 0]
def k0_off2 (k0_t1 : Fin k0_t1_loop.trips) (c0_i32_283 : BitVec 32) : Fin 3 → Nat :=
  let c1_287 : Index := 1#32
  let c0_i32_56 : BitVec 32 := 0#32
  let c1_i32 : BitVec 32 := 1#32
  let arg12 : BitVec 32 := Scf.iv c0_i32_56 c1_i32 k0_t1
  let c8_i32_282 : BitVec 32 := 8#32
  let v328 : BitVec 32 := Scalar.muli arg12 c8_i32_282
  let v329 : BitVec 32 := Scalar.addi v328 c0_i32_283
  let c32_i32 : BitVec 32 := 32#32
  let v330 : BitVec 32 := Scalar.muli v329 c32_i32
  let v331 : BitVec 32 := v330
  let c0_i32_286 : BitVec 32 := 0#32
  let v335 : BitVec 32 := Scalar.addi v331 c0_i32_286
  let v336 : Index := Scalar.indexCast v335
  let c0_288 : Index := 0#32
  ![1, v336.toNat, 0]
def k0_off3 (k0_t1 : Fin k0_t1_loop.trips) (c0_i32_283 : BitVec 32) : Fin 3 → Nat :=
  let c2_290 : Index := 2#32
  let c0_i32_56 : BitVec 32 := 0#32
  let c1_i32 : BitVec 32 := 1#32
  let arg12 : BitVec 32 := Scf.iv c0_i32_56 c1_i32 k0_t1
  let c8_i32_282 : BitVec 32 := 8#32
  let v328 : BitVec 32 := Scalar.muli arg12 c8_i32_282
  let v329 : BitVec 32 := Scalar.addi v328 c0_i32_283
  let c32_i32 : BitVec 32 := 32#32
  let v330 : BitVec 32 := Scalar.muli v329 c32_i32
  let v331 : BitVec 32 := v330
  let c0_i32_289 : BitVec 32 := 0#32
  let v341 : BitVec 32 := Scalar.addi v331 c0_i32_289
  let v342 : Index := Scalar.indexCast v341
  let c0_291 : Index := 0#32
  ![2, v342.toNat, 0]
def k0_off4 (k0_t1 : Fin k0_t1_loop.trips) (c0_i32_283 : BitVec 32) : Fin 3 → Nat :=
  let c3_293 : Index := 3#32
  let c0_i32_56 : BitVec 32 := 0#32
  let c1_i32 : BitVec 32 := 1#32
  let arg12 : BitVec 32 := Scf.iv c0_i32_56 c1_i32 k0_t1
  let c8_i32_282 : BitVec 32 := 8#32
  let v328 : BitVec 32 := Scalar.muli arg12 c8_i32_282
  let v329 : BitVec 32 := Scalar.addi v328 c0_i32_283
  let c32_i32 : BitVec 32 := 32#32
  let v330 : BitVec 32 := Scalar.muli v329 c32_i32
  let v331 : BitVec 32 := v330
  let c0_i32_292 : BitVec 32 := 0#32
  let v347 : BitVec 32 := Scalar.addi v331 c0_i32_292
  let v348 : Index := Scalar.indexCast v347
  let c0_294 : Index := 0#32
  ![3, v348.toNat, 0]
def k0_off5 (k0_t1 : Fin k0_t1_loop.trips) (c0_i32_283 : BitVec 32) : Fin 3 → Nat :=
  let c4_296 : Index := 4#32
  let c0_i32_56 : BitVec 32 := 0#32
  let c1_i32 : BitVec 32 := 1#32
  let arg12 : BitVec 32 := Scf.iv c0_i32_56 c1_i32 k0_t1
  let c8_i32_282 : BitVec 32 := 8#32
  let v328 : BitVec 32 := Scalar.muli arg12 c8_i32_282
  let v329 : BitVec 32 := Scalar.addi v328 c0_i32_283
  let c32_i32 : BitVec 32 := 32#32
  let v330 : BitVec 32 := Scalar.muli v329 c32_i32
  let v331 : BitVec 32 := v330
  let c0_i32_295 : BitVec 32 := 0#32
  let v353 : BitVec 32 := Scalar.addi v331 c0_i32_295
  let v354 : Index := Scalar.indexCast v353
  let c0_297 : Index := 0#32
  ![4, v354.toNat, 0]
def k0_off6 (k0_t1 : Fin k0_t1_loop.trips) (c0_i32_283 : BitVec 32) : Fin 3 → Nat :=
  let c5_299 : Index := 5#32
  let c0_i32_56 : BitVec 32 := 0#32
  let c1_i32 : BitVec 32 := 1#32
  let arg12 : BitVec 32 := Scf.iv c0_i32_56 c1_i32 k0_t1
  let c8_i32_282 : BitVec 32 := 8#32
  let v328 : BitVec 32 := Scalar.muli arg12 c8_i32_282
  let v329 : BitVec 32 := Scalar.addi v328 c0_i32_283
  let c32_i32 : BitVec 32 := 32#32
  let v330 : BitVec 32 := Scalar.muli v329 c32_i32
  let v331 : BitVec 32 := v330
  let c0_i32_298 : BitVec 32 := 0#32
  let v359 : BitVec 32 := Scalar.addi v331 c0_i32_298
  let v360 : Index := Scalar.indexCast v359
  let c0_300 : Index := 0#32
  ![5, v360.toNat, 0]
def k0_off7 (k0_t1 : Fin k0_t1_loop.trips) (c0_i32_283 : BitVec 32) : Fin 3 → Nat :=
  let c6_302 : Index := 6#32
  let c0_i32_56 : BitVec 32 := 0#32
  let c1_i32 : BitVec 32 := 1#32
  let arg12 : BitVec 32 := Scf.iv c0_i32_56 c1_i32 k0_t1
  let c8_i32_282 : BitVec 32 := 8#32
  let v328 : BitVec 32 := Scalar.muli arg12 c8_i32_282
  let v329 : BitVec 32 := Scalar.addi v328 c0_i32_283
  let c32_i32 : BitVec 32 := 32#32
  let v330 : BitVec 32 := Scalar.muli v329 c32_i32
  let v331 : BitVec 32 := v330
  let c0_i32_301 : BitVec 32 := 0#32
  let v365 : BitVec 32 := Scalar.addi v331 c0_i32_301
  let v366 : Index := Scalar.indexCast v365
  let c0_303 : Index := 0#32
  ![6, v366.toNat, 0]
def k0_off8 (k0_t1 : Fin k0_t1_loop.trips) (c0_i32_283 : BitVec 32) : Fin 3 → Nat :=
  let c7_305 : Index := 7#32
  let c0_i32_56 : BitVec 32 := 0#32
  let c1_i32 : BitVec 32 := 1#32
  let arg12 : BitVec 32 := Scf.iv c0_i32_56 c1_i32 k0_t1
  let c8_i32_282 : BitVec 32 := 8#32
  let v328 : BitVec 32 := Scalar.muli arg12 c8_i32_282
  let v329 : BitVec 32 := Scalar.addi v328 c0_i32_283
  let c32_i32 : BitVec 32 := 32#32
  let v330 : BitVec 32 := Scalar.muli v329 c32_i32
  let v331 : BitVec 32 := v330
  let c0_i32_304 : BitVec 32 := 0#32
  let v371 : BitVec 32 := Scalar.addi v331 c0_i32_304
  let v372 : Index := Scalar.indexCast v371
  let c0_306 : Index := 0#32
  ![7, v372.toNat, 0]
def k0_off9 (k0_t1 : Fin k0_t1_loop.trips) (c0_i32_283 : BitVec 32) : Fin 3 → Nat :=
  let c0_308 : Index := 0#32
  let c0_i32_56 : BitVec 32 := 0#32
  let c1_i32 : BitVec 32 := 1#32
  let arg12 : BitVec 32 := Scf.iv c0_i32_56 c1_i32 k0_t1
  let c8_i32_282 : BitVec 32 := 8#32
  let v328 : BitVec 32 := Scalar.muli arg12 c8_i32_282
  let v329 : BitVec 32 := Scalar.addi v328 c0_i32_283
  let c32_i32 : BitVec 32 := 32#32
  let v330 : BitVec 32 := Scalar.muli v329 c32_i32
  let v331 : BitVec 32 := v330
  let c8_i32_307 : BitVec 32 := 8#32
  let v377 : BitVec 32 := Scalar.addi v331 c8_i32_307
  let v378 : Index := Scalar.indexCast v377
  let c0_309 : Index := 0#32
  ![0, v378.toNat, 0]
def k0_mult2 (k0_t1 : Fin k0_t1_loop.trips) : BitVec 32 :=
  let c0_i32_56 : BitVec 32 := 0#32
  let c1_i32 : BitVec 32 := 1#32
  let arg12 : BitVec 32 := Scf.iv c0_i32_56 c1_i32 k0_t1
  let c8_i32_310 : BitVec 32 := 8#32
  let v383 : BitVec 32 := Scalar.muli arg12 c8_i32_310
  let c1_i32_311 : BitVec 32 := 1#32
  let v384 : BitVec 32 := Scalar.addi v383 c1_i32_311
  let c32_i32_312 : BitVec 32 := 32#32
  let v385 : BitVec 32 := Scalar.muli v384 c32_i32_312
  v385
def k0_mult3 (k0_t1 : Fin k0_t1_loop.trips) : BitVec 32 :=
  let c0_i32_56 : BitVec 32 := 0#32
  let c1_i32 : BitVec 32 := 1#32
  let arg12 : BitVec 32 := Scf.iv c0_i32_56 c1_i32 k0_t1
  let c8_i32_339 : BitVec 32 := 8#32
  let v438 : BitVec 32 := Scalar.muli arg12 c8_i32_339
  let c2_i32 : BitVec 32 := 2#32
  let v439 : BitVec 32 := Scalar.addi v438 c2_i32
  let c32_i32_340 : BitVec 32 := 32#32
  let v440 : BitVec 32 := Scalar.muli v439 c32_i32_340
  v440
def k0_mult4 (k0_t1 : Fin k0_t1_loop.trips) : BitVec 32 :=
  let c0_i32_56 : BitVec 32 := 0#32
  let c1_i32 : BitVec 32 := 1#32
  let arg12 : BitVec 32 := Scf.iv c0_i32_56 c1_i32 k0_t1
  let c8_i32_367 : BitVec 32 := 8#32
  let v493 : BitVec 32 := Scalar.muli arg12 c8_i32_367
  let c3_i32 : BitVec 32 := 3#32
  let v494 : BitVec 32 := Scalar.addi v493 c3_i32
  let c32_i32_368 : BitVec 32 := 32#32
  let v495 : BitVec 32 := Scalar.muli v494 c32_i32_368
  v495
def k0_mult5 (k0_t1 : Fin k0_t1_loop.trips) : BitVec 32 :=
  let c0_i32_56 : BitVec 32 := 0#32
  let c1_i32 : BitVec 32 := 1#32
  let arg12 : BitVec 32 := Scf.iv c0_i32_56 c1_i32 k0_t1
  let c8_i32_395 : BitVec 32 := 8#32
  let v548 : BitVec 32 := Scalar.muli arg12 c8_i32_395
  let c4_i32 : BitVec 32 := 4#32
  let v549 : BitVec 32 := Scalar.addi v548 c4_i32
  let c32_i32_396 : BitVec 32 := 32#32
  let v550 : BitVec 32 := Scalar.muli v549 c32_i32_396
  v550
def k0_mult6 (k0_t1 : Fin k0_t1_loop.trips) : BitVec 32 :=
  let c0_i32_56 : BitVec 32 := 0#32
  let c1_i32 : BitVec 32 := 1#32
  let arg12 : BitVec 32 := Scf.iv c0_i32_56 c1_i32 k0_t1
  let c8_i32_423 : BitVec 32 := 8#32
  let v603 : BitVec 32 := Scalar.muli arg12 c8_i32_423
  let c5_i32 : BitVec 32 := 5#32
  let v604 : BitVec 32 := Scalar.addi v603 c5_i32
  let c32_i32_424 : BitVec 32 := 32#32
  let v605 : BitVec 32 := Scalar.muli v604 c32_i32_424
  v605
def k0_mult7 (k0_t1 : Fin k0_t1_loop.trips) : BitVec 32 :=
  let c0_i32_56 : BitVec 32 := 0#32
  let c1_i32 : BitVec 32 := 1#32
  let arg12 : BitVec 32 := Scf.iv c0_i32_56 c1_i32 k0_t1
  let c8_i32_451 : BitVec 32 := 8#32
  let v658 : BitVec 32 := Scalar.muli arg12 c8_i32_451
  let c6_i32 : BitVec 32 := 6#32
  let v659 : BitVec 32 := Scalar.addi v658 c6_i32
  let c32_i32_452 : BitVec 32 := 32#32
  let v660 : BitVec 32 := Scalar.muli v659 c32_i32_452
  v660
def k0_mult8 (k0_t1 : Fin k0_t1_loop.trips) : BitVec 32 :=
  let c0_i32_56 : BitVec 32 := 0#32
  let c1_i32 : BitVec 32 := 1#32
  let arg12 : BitVec 32 := Scf.iv c0_i32_56 c1_i32 k0_t1
  let c8_i32_479 : BitVec 32 := 8#32
  let v713 : BitVec 32 := Scalar.muli arg12 c8_i32_479
  let c7_i32 : BitVec 32 := 7#32
  let v714 : BitVec 32 := Scalar.addi v713 c7_i32
  let c32_i32_480 : BitVec 32 := 32#32
  let v715 : BitVec 32 := Scalar.muli v714 c32_i32_480
  v715
@[reducible] def k0_t2_loop : Scf.Loop 32 :=
  let c0_i32_106 : BitVec 32 := 0#32
  let c8_i32_107 : BitVec 32 := 8#32
  let v123 : BitVec 32 := Scalar.addi c0_i32_106 c8_i32_107
  let c1_i32_108 : BitVec 32 := 1#32
  ⟨c0_i32_106, v123, c1_i32_108⟩
def k0_mult9 (k0_t2 : Fin k0_t2_loop.trips) : BitVec 32 :=
  let c0_i32_106 : BitVec 32 := 0#32
  let c1_i32_108 : BitVec 32 := 1#32
  let arg12 : BitVec 32 := Scf.iv c0_i32_106 c1_i32_108 k0_t2
  let c8_i32_282 : BitVec 32 := 8#32
  let v328 : BitVec 32 := Scalar.muli arg12 c8_i32_282
  let c0_i32_283 : BitVec 32 := 0#32
  let v329 : BitVec 32 := Scalar.addi v328 c0_i32_283
  let c32_i32 : BitVec 32 := 32#32
  let v330 : BitVec 32 := Scalar.muli v329 c32_i32
  v330
def k0_off10 (k0_t2 : Fin k0_t2_loop.trips) (c0_i32_283 : BitVec 32) : Fin 3 → Nat :=
  let c0_284 : Index := 0#32
  let c0_i32_106 : BitVec 32 := 0#32
  let c1_i32_108 : BitVec 32 := 1#32
  let arg12 : BitVec 32 := Scf.iv c0_i32_106 c1_i32_108 k0_t2
  let c8_i32_282 : BitVec 32 := 8#32
  let v328 : BitVec 32 := Scalar.muli arg12 c8_i32_282
  let v329 : BitVec 32 := Scalar.addi v328 c0_i32_283
  let c32_i32 : BitVec 32 := 32#32
  let v330 : BitVec 32 := Scalar.muli v329 c32_i32
  let v331 : BitVec 32 := v330
  let v332 : Index := Scalar.indexCast v331
  let c0_285 : Index := 0#32
  ![0, v332.toNat, 0]
def k0_off11 (k0_t2 : Fin k0_t2_loop.trips) (c0_i32_283 : BitVec 32) : Fin 3 → Nat :=
  let c1_287 : Index := 1#32
  let c0_i32_106 : BitVec 32 := 0#32
  let c1_i32_108 : BitVec 32 := 1#32
  let arg12 : BitVec 32 := Scf.iv c0_i32_106 c1_i32_108 k0_t2
  let c8_i32_282 : BitVec 32 := 8#32
  let v328 : BitVec 32 := Scalar.muli arg12 c8_i32_282
  let v329 : BitVec 32 := Scalar.addi v328 c0_i32_283
  let c32_i32 : BitVec 32 := 32#32
  let v330 : BitVec 32 := Scalar.muli v329 c32_i32
  let v331 : BitVec 32 := v330
  let c8_i32_286 : BitVec 32 := 8#32
  let v335 : BitVec 32 := Scalar.addi v331 c8_i32_286
  let v336 : Index := Scalar.indexCast v335
  let c0_288 : Index := 0#32
  ![1, v336.toNat, 0]
def k0_off12 (k0_t2 : Fin k0_t2_loop.trips) (c0_i32_283 : BitVec 32) : Fin 3 → Nat :=
  let c2_290 : Index := 2#32
  let c0_i32_106 : BitVec 32 := 0#32
  let c1_i32_108 : BitVec 32 := 1#32
  let arg12 : BitVec 32 := Scf.iv c0_i32_106 c1_i32_108 k0_t2
  let c8_i32_282 : BitVec 32 := 8#32
  let v328 : BitVec 32 := Scalar.muli arg12 c8_i32_282
  let v329 : BitVec 32 := Scalar.addi v328 c0_i32_283
  let c32_i32 : BitVec 32 := 32#32
  let v330 : BitVec 32 := Scalar.muli v329 c32_i32
  let v331 : BitVec 32 := v330
  let c8_i32_289 : BitVec 32 := 8#32
  let v341 : BitVec 32 := Scalar.addi v331 c8_i32_289
  let v342 : Index := Scalar.indexCast v341
  let c0_291 : Index := 0#32
  ![2, v342.toNat, 0]
def k0_off13 (k0_t2 : Fin k0_t2_loop.trips) (c0_i32_283 : BitVec 32) : Fin 3 → Nat :=
  let c3_293 : Index := 3#32
  let c0_i32_106 : BitVec 32 := 0#32
  let c1_i32_108 : BitVec 32 := 1#32
  let arg12 : BitVec 32 := Scf.iv c0_i32_106 c1_i32_108 k0_t2
  let c8_i32_282 : BitVec 32 := 8#32
  let v328 : BitVec 32 := Scalar.muli arg12 c8_i32_282
  let v329 : BitVec 32 := Scalar.addi v328 c0_i32_283
  let c32_i32 : BitVec 32 := 32#32
  let v330 : BitVec 32 := Scalar.muli v329 c32_i32
  let v331 : BitVec 32 := v330
  let c8_i32_292 : BitVec 32 := 8#32
  let v347 : BitVec 32 := Scalar.addi v331 c8_i32_292
  let v348 : Index := Scalar.indexCast v347
  let c0_294 : Index := 0#32
  ![3, v348.toNat, 0]
def k0_off14 (k0_t2 : Fin k0_t2_loop.trips) (c0_i32_283 : BitVec 32) : Fin 3 → Nat :=
  let c4_296 : Index := 4#32
  let c0_i32_106 : BitVec 32 := 0#32
  let c1_i32_108 : BitVec 32 := 1#32
  let arg12 : BitVec 32 := Scf.iv c0_i32_106 c1_i32_108 k0_t2
  let c8_i32_282 : BitVec 32 := 8#32
  let v328 : BitVec 32 := Scalar.muli arg12 c8_i32_282
  let v329 : BitVec 32 := Scalar.addi v328 c0_i32_283
  let c32_i32 : BitVec 32 := 32#32
  let v330 : BitVec 32 := Scalar.muli v329 c32_i32
  let v331 : BitVec 32 := v330
  let c8_i32_295 : BitVec 32 := 8#32
  let v353 : BitVec 32 := Scalar.addi v331 c8_i32_295
  let v354 : Index := Scalar.indexCast v353
  let c0_297 : Index := 0#32
  ![4, v354.toNat, 0]
def k0_off15 (k0_t2 : Fin k0_t2_loop.trips) (c0_i32_283 : BitVec 32) : Fin 3 → Nat :=
  let c5_299 : Index := 5#32
  let c0_i32_106 : BitVec 32 := 0#32
  let c1_i32_108 : BitVec 32 := 1#32
  let arg12 : BitVec 32 := Scf.iv c0_i32_106 c1_i32_108 k0_t2
  let c8_i32_282 : BitVec 32 := 8#32
  let v328 : BitVec 32 := Scalar.muli arg12 c8_i32_282
  let v329 : BitVec 32 := Scalar.addi v328 c0_i32_283
  let c32_i32 : BitVec 32 := 32#32
  let v330 : BitVec 32 := Scalar.muli v329 c32_i32
  let v331 : BitVec 32 := v330
  let c8_i32_298 : BitVec 32 := 8#32
  let v359 : BitVec 32 := Scalar.addi v331 c8_i32_298
  let v360 : Index := Scalar.indexCast v359
  let c0_300 : Index := 0#32
  ![5, v360.toNat, 0]
def k0_off16 (k0_t2 : Fin k0_t2_loop.trips) (c0_i32_283 : BitVec 32) : Fin 3 → Nat :=
  let c6_302 : Index := 6#32
  let c0_i32_106 : BitVec 32 := 0#32
  let c1_i32_108 : BitVec 32 := 1#32
  let arg12 : BitVec 32 := Scf.iv c0_i32_106 c1_i32_108 k0_t2
  let c8_i32_282 : BitVec 32 := 8#32
  let v328 : BitVec 32 := Scalar.muli arg12 c8_i32_282
  let v329 : BitVec 32 := Scalar.addi v328 c0_i32_283
  let c32_i32 : BitVec 32 := 32#32
  let v330 : BitVec 32 := Scalar.muli v329 c32_i32
  let v331 : BitVec 32 := v330
  let c8_i32_301 : BitVec 32 := 8#32
  let v365 : BitVec 32 := Scalar.addi v331 c8_i32_301
  let v366 : Index := Scalar.indexCast v365
  let c0_303 : Index := 0#32
  ![6, v366.toNat, 0]
def k0_off17 (k0_t2 : Fin k0_t2_loop.trips) (c0_i32_283 : BitVec 32) : Fin 3 → Nat :=
  let c7_305 : Index := 7#32
  let c0_i32_106 : BitVec 32 := 0#32
  let c1_i32_108 : BitVec 32 := 1#32
  let arg12 : BitVec 32 := Scf.iv c0_i32_106 c1_i32_108 k0_t2
  let c8_i32_282 : BitVec 32 := 8#32
  let v328 : BitVec 32 := Scalar.muli arg12 c8_i32_282
  let v329 : BitVec 32 := Scalar.addi v328 c0_i32_283
  let c32_i32 : BitVec 32 := 32#32
  let v330 : BitVec 32 := Scalar.muli v329 c32_i32
  let v331 : BitVec 32 := v330
  let c8_i32_304 : BitVec 32 := 8#32
  let v371 : BitVec 32 := Scalar.addi v331 c8_i32_304
  let v372 : Index := Scalar.indexCast v371
  let c0_306 : Index := 0#32
  ![7, v372.toNat, 0]
def k0_off18 (k0_t2 : Fin k0_t2_loop.trips) (c0_i32_283 : BitVec 32) : Fin 3 → Nat :=
  let c0_308 : Index := 0#32
  let c0_i32_106 : BitVec 32 := 0#32
  let c1_i32_108 : BitVec 32 := 1#32
  let arg12 : BitVec 32 := Scf.iv c0_i32_106 c1_i32_108 k0_t2
  let c8_i32_282 : BitVec 32 := 8#32
  let v328 : BitVec 32 := Scalar.muli arg12 c8_i32_282
  let v329 : BitVec 32 := Scalar.addi v328 c0_i32_283
  let c32_i32 : BitVec 32 := 32#32
  let v330 : BitVec 32 := Scalar.muli v329 c32_i32
  let v331 : BitVec 32 := v330
  let c16_i32_307 : BitVec 32 := 16#32
  let v377 : BitVec 32 := Scalar.addi v331 c16_i32_307
  let v378 : Index := Scalar.indexCast v377
  let c0_309 : Index := 0#32
  ![0, v378.toNat, 0]
def k0_mult10 (k0_t2 : Fin k0_t2_loop.trips) : BitVec 32 :=
  let c0_i32_106 : BitVec 32 := 0#32
  let c1_i32_108 : BitVec 32 := 1#32
  let arg12 : BitVec 32 := Scf.iv c0_i32_106 c1_i32_108 k0_t2
  let c8_i32_310 : BitVec 32 := 8#32
  let v383 : BitVec 32 := Scalar.muli arg12 c8_i32_310
  let c1_i32_311 : BitVec 32 := 1#32
  let v384 : BitVec 32 := Scalar.addi v383 c1_i32_311
  let c32_i32_312 : BitVec 32 := 32#32
  let v385 : BitVec 32 := Scalar.muli v384 c32_i32_312
  v385
def k0_mult11 (k0_t2 : Fin k0_t2_loop.trips) : BitVec 32 :=
  let c0_i32_106 : BitVec 32 := 0#32
  let c1_i32_108 : BitVec 32 := 1#32
  let arg12 : BitVec 32 := Scf.iv c0_i32_106 c1_i32_108 k0_t2
  let c8_i32_339 : BitVec 32 := 8#32
  let v438 : BitVec 32 := Scalar.muli arg12 c8_i32_339
  let c2_i32 : BitVec 32 := 2#32
  let v439 : BitVec 32 := Scalar.addi v438 c2_i32
  let c32_i32_340 : BitVec 32 := 32#32
  let v440 : BitVec 32 := Scalar.muli v439 c32_i32_340
  v440
def k0_mult12 (k0_t2 : Fin k0_t2_loop.trips) : BitVec 32 :=
  let c0_i32_106 : BitVec 32 := 0#32
  let c1_i32_108 : BitVec 32 := 1#32
  let arg12 : BitVec 32 := Scf.iv c0_i32_106 c1_i32_108 k0_t2
  let c8_i32_367 : BitVec 32 := 8#32
  let v493 : BitVec 32 := Scalar.muli arg12 c8_i32_367
  let c3_i32 : BitVec 32 := 3#32
  let v494 : BitVec 32 := Scalar.addi v493 c3_i32
  let c32_i32_368 : BitVec 32 := 32#32
  let v495 : BitVec 32 := Scalar.muli v494 c32_i32_368
  v495
def k0_mult13 (k0_t2 : Fin k0_t2_loop.trips) : BitVec 32 :=
  let c0_i32_106 : BitVec 32 := 0#32
  let c1_i32_108 : BitVec 32 := 1#32
  let arg12 : BitVec 32 := Scf.iv c0_i32_106 c1_i32_108 k0_t2
  let c8_i32_395 : BitVec 32 := 8#32
  let v548 : BitVec 32 := Scalar.muli arg12 c8_i32_395
  let c4_i32 : BitVec 32 := 4#32
  let v549 : BitVec 32 := Scalar.addi v548 c4_i32
  let c32_i32_396 : BitVec 32 := 32#32
  let v550 : BitVec 32 := Scalar.muli v549 c32_i32_396
  v550
def k0_mult14 (k0_t2 : Fin k0_t2_loop.trips) : BitVec 32 :=
  let c0_i32_106 : BitVec 32 := 0#32
  let c1_i32_108 : BitVec 32 := 1#32
  let arg12 : BitVec 32 := Scf.iv c0_i32_106 c1_i32_108 k0_t2
  let c8_i32_423 : BitVec 32 := 8#32
  let v603 : BitVec 32 := Scalar.muli arg12 c8_i32_423
  let c5_i32 : BitVec 32 := 5#32
  let v604 : BitVec 32 := Scalar.addi v603 c5_i32
  let c32_i32_424 : BitVec 32 := 32#32
  let v605 : BitVec 32 := Scalar.muli v604 c32_i32_424
  v605
def k0_mult15 (k0_t2 : Fin k0_t2_loop.trips) : BitVec 32 :=
  let c0_i32_106 : BitVec 32 := 0#32
  let c1_i32_108 : BitVec 32 := 1#32
  let arg12 : BitVec 32 := Scf.iv c0_i32_106 c1_i32_108 k0_t2
  let c8_i32_451 : BitVec 32 := 8#32
  let v658 : BitVec 32 := Scalar.muli arg12 c8_i32_451
  let c6_i32 : BitVec 32 := 6#32
  let v659 : BitVec 32 := Scalar.addi v658 c6_i32
  let c32_i32_452 : BitVec 32 := 32#32
  let v660 : BitVec 32 := Scalar.muli v659 c32_i32_452
  v660
def k0_mult16 (k0_t2 : Fin k0_t2_loop.trips) : BitVec 32 :=
  let c0_i32_106 : BitVec 32 := 0#32
  let c1_i32_108 : BitVec 32 := 1#32
  let arg12 : BitVec 32 := Scf.iv c0_i32_106 c1_i32_108 k0_t2
  let c8_i32_479 : BitVec 32 := 8#32
  let v713 : BitVec 32 := Scalar.muli arg12 c8_i32_479
  let c7_i32 : BitVec 32 := 7#32
  let v714 : BitVec 32 := Scalar.addi v713 c7_i32
  let c32_i32_480 : BitVec 32 := 32#32
  let v715 : BitVec 32 := Scalar.muli v714 c32_i32_480
  v715
@[reducible] def k0_t3_loop : Scf.Loop 32 :=
  let c0_i32_150 : BitVec 32 := 0#32
  let c8_i32_151 : BitVec 32 := 8#32
  let v181 : BitVec 32 := Scalar.addi c0_i32_150 c8_i32_151
  let c1_i32_152 : BitVec 32 := 1#32
  ⟨c0_i32_150, v181, c1_i32_152⟩
def k0_mult17 (k0_t3 : Fin k0_t3_loop.trips) : BitVec 32 :=
  let c0_i32_150 : BitVec 32 := 0#32
  let c1_i32_152 : BitVec 32 := 1#32
  let arg12 : BitVec 32 := Scf.iv c0_i32_150 c1_i32_152 k0_t3
  let c8_i32_282 : BitVec 32 := 8#32
  let v328 : BitVec 32 := Scalar.muli arg12 c8_i32_282
  let c0_i32_283 : BitVec 32 := 0#32
  let v329 : BitVec 32 := Scalar.addi v328 c0_i32_283
  let c32_i32 : BitVec 32 := 32#32
  let v330 : BitVec 32 := Scalar.muli v329 c32_i32
  v330
def k0_off19 (k0_t3 : Fin k0_t3_loop.trips) (c0_i32_283 : BitVec 32) : Fin 3 → Nat :=
  let c0_284 : Index := 0#32
  let c0_i32_150 : BitVec 32 := 0#32
  let c1_i32_152 : BitVec 32 := 1#32
  let arg12 : BitVec 32 := Scf.iv c0_i32_150 c1_i32_152 k0_t3
  let c8_i32_282 : BitVec 32 := 8#32
  let v328 : BitVec 32 := Scalar.muli arg12 c8_i32_282
  let v329 : BitVec 32 := Scalar.addi v328 c0_i32_283
  let c32_i32 : BitVec 32 := 32#32
  let v330 : BitVec 32 := Scalar.muli v329 c32_i32
  let v331 : BitVec 32 := v330
  let v332 : Index := Scalar.indexCast v331
  let c0_285 : Index := 0#32
  ![0, v332.toNat, 0]
def k0_off20 (k0_t3 : Fin k0_t3_loop.trips) (c0_i32_283 : BitVec 32) : Fin 3 → Nat :=
  let c1_287 : Index := 1#32
  let c0_i32_150 : BitVec 32 := 0#32
  let c1_i32_152 : BitVec 32 := 1#32
  let arg12 : BitVec 32 := Scf.iv c0_i32_150 c1_i32_152 k0_t3
  let c8_i32_282 : BitVec 32 := 8#32
  let v328 : BitVec 32 := Scalar.muli arg12 c8_i32_282
  let v329 : BitVec 32 := Scalar.addi v328 c0_i32_283
  let c32_i32 : BitVec 32 := 32#32
  let v330 : BitVec 32 := Scalar.muli v329 c32_i32
  let v331 : BitVec 32 := v330
  let c16_i32_286 : BitVec 32 := 16#32
  let v335 : BitVec 32 := Scalar.addi v331 c16_i32_286
  let v336 : Index := Scalar.indexCast v335
  let c0_288 : Index := 0#32
  ![1, v336.toNat, 0]
def k0_off21 (k0_t3 : Fin k0_t3_loop.trips) (c0_i32_283 : BitVec 32) : Fin 3 → Nat :=
  let c2_290 : Index := 2#32
  let c0_i32_150 : BitVec 32 := 0#32
  let c1_i32_152 : BitVec 32 := 1#32
  let arg12 : BitVec 32 := Scf.iv c0_i32_150 c1_i32_152 k0_t3
  let c8_i32_282 : BitVec 32 := 8#32
  let v328 : BitVec 32 := Scalar.muli arg12 c8_i32_282
  let v329 : BitVec 32 := Scalar.addi v328 c0_i32_283
  let c32_i32 : BitVec 32 := 32#32
  let v330 : BitVec 32 := Scalar.muli v329 c32_i32
  let v331 : BitVec 32 := v330
  let c16_i32_289 : BitVec 32 := 16#32
  let v341 : BitVec 32 := Scalar.addi v331 c16_i32_289
  let v342 : Index := Scalar.indexCast v341
  let c0_291 : Index := 0#32
  ![2, v342.toNat, 0]
def k0_off22 (k0_t3 : Fin k0_t3_loop.trips) (c0_i32_283 : BitVec 32) : Fin 3 → Nat :=
  let c3_293 : Index := 3#32
  let c0_i32_150 : BitVec 32 := 0#32
  let c1_i32_152 : BitVec 32 := 1#32
  let arg12 : BitVec 32 := Scf.iv c0_i32_150 c1_i32_152 k0_t3
  let c8_i32_282 : BitVec 32 := 8#32
  let v328 : BitVec 32 := Scalar.muli arg12 c8_i32_282
  let v329 : BitVec 32 := Scalar.addi v328 c0_i32_283
  let c32_i32 : BitVec 32 := 32#32
  let v330 : BitVec 32 := Scalar.muli v329 c32_i32
  let v331 : BitVec 32 := v330
  let c16_i32_292 : BitVec 32 := 16#32
  let v347 : BitVec 32 := Scalar.addi v331 c16_i32_292
  let v348 : Index := Scalar.indexCast v347
  let c0_294 : Index := 0#32
  ![3, v348.toNat, 0]
def k0_off23 (k0_t3 : Fin k0_t3_loop.trips) (c0_i32_283 : BitVec 32) : Fin 3 → Nat :=
  let c4_296 : Index := 4#32
  let c0_i32_150 : BitVec 32 := 0#32
  let c1_i32_152 : BitVec 32 := 1#32
  let arg12 : BitVec 32 := Scf.iv c0_i32_150 c1_i32_152 k0_t3
  let c8_i32_282 : BitVec 32 := 8#32
  let v328 : BitVec 32 := Scalar.muli arg12 c8_i32_282
  let v329 : BitVec 32 := Scalar.addi v328 c0_i32_283
  let c32_i32 : BitVec 32 := 32#32
  let v330 : BitVec 32 := Scalar.muli v329 c32_i32
  let v331 : BitVec 32 := v330
  let c16_i32_295 : BitVec 32 := 16#32
  let v353 : BitVec 32 := Scalar.addi v331 c16_i32_295
  let v354 : Index := Scalar.indexCast v353
  let c0_297 : Index := 0#32
  ![4, v354.toNat, 0]
def k0_off24 (k0_t3 : Fin k0_t3_loop.trips) (c0_i32_283 : BitVec 32) : Fin 3 → Nat :=
  let c5_299 : Index := 5#32
  let c0_i32_150 : BitVec 32 := 0#32
  let c1_i32_152 : BitVec 32 := 1#32
  let arg12 : BitVec 32 := Scf.iv c0_i32_150 c1_i32_152 k0_t3
  let c8_i32_282 : BitVec 32 := 8#32
  let v328 : BitVec 32 := Scalar.muli arg12 c8_i32_282
  let v329 : BitVec 32 := Scalar.addi v328 c0_i32_283
  let c32_i32 : BitVec 32 := 32#32
  let v330 : BitVec 32 := Scalar.muli v329 c32_i32
  let v331 : BitVec 32 := v330
  let c16_i32_298 : BitVec 32 := 16#32
  let v359 : BitVec 32 := Scalar.addi v331 c16_i32_298
  let v360 : Index := Scalar.indexCast v359
  let c0_300 : Index := 0#32
  ![5, v360.toNat, 0]
def k0_off25 (k0_t3 : Fin k0_t3_loop.trips) (c0_i32_283 : BitVec 32) : Fin 3 → Nat :=
  let c6_302 : Index := 6#32
  let c0_i32_150 : BitVec 32 := 0#32
  let c1_i32_152 : BitVec 32 := 1#32
  let arg12 : BitVec 32 := Scf.iv c0_i32_150 c1_i32_152 k0_t3
  let c8_i32_282 : BitVec 32 := 8#32
  let v328 : BitVec 32 := Scalar.muli arg12 c8_i32_282
  let v329 : BitVec 32 := Scalar.addi v328 c0_i32_283
  let c32_i32 : BitVec 32 := 32#32
  let v330 : BitVec 32 := Scalar.muli v329 c32_i32
  let v331 : BitVec 32 := v330
  let c16_i32_301 : BitVec 32 := 16#32
  let v365 : BitVec 32 := Scalar.addi v331 c16_i32_301
  let v366 : Index := Scalar.indexCast v365
  let c0_303 : Index := 0#32
  ![6, v366.toNat, 0]
def k0_off26 (k0_t3 : Fin k0_t3_loop.trips) (c0_i32_283 : BitVec 32) : Fin 3 → Nat :=
  let c7_305 : Index := 7#32
  let c0_i32_150 : BitVec 32 := 0#32
  let c1_i32_152 : BitVec 32 := 1#32
  let arg12 : BitVec 32 := Scf.iv c0_i32_150 c1_i32_152 k0_t3
  let c8_i32_282 : BitVec 32 := 8#32
  let v328 : BitVec 32 := Scalar.muli arg12 c8_i32_282
  let v329 : BitVec 32 := Scalar.addi v328 c0_i32_283
  let c32_i32 : BitVec 32 := 32#32
  let v330 : BitVec 32 := Scalar.muli v329 c32_i32
  let v331 : BitVec 32 := v330
  let c16_i32_304 : BitVec 32 := 16#32
  let v371 : BitVec 32 := Scalar.addi v331 c16_i32_304
  let v372 : Index := Scalar.indexCast v371
  let c0_306 : Index := 0#32
  ![7, v372.toNat, 0]
def k0_off27 (k0_t3 : Fin k0_t3_loop.trips) (c0_i32_283 : BitVec 32) : Fin 3 → Nat :=
  let c0_307 : Index := 0#32
  let c0_i32_150 : BitVec 32 := 0#32
  let c1_i32_152 : BitVec 32 := 1#32
  let arg12 : BitVec 32 := Scf.iv c0_i32_150 c1_i32_152 k0_t3
  let c8_i32_282 : BitVec 32 := 8#32
  let v328 : BitVec 32 := Scalar.muli arg12 c8_i32_282
  let v329 : BitVec 32 := Scalar.addi v328 c0_i32_283
  let c32_i32 : BitVec 32 := 32#32
  let v330 : BitVec 32 := Scalar.muli v329 c32_i32
  let v331 : BitVec 32 := v330
  let c24_i32 : BitVec 32 := 24#32
  let v377 : BitVec 32 := Scalar.addi v331 c24_i32
  let v378 : Index := Scalar.indexCast v377
  let c0_308 : Index := 0#32
  ![0, v378.toNat, 0]
def k0_mult18 (k0_t3 : Fin k0_t3_loop.trips) : BitVec 32 :=
  let c0_i32_150 : BitVec 32 := 0#32
  let c1_i32_152 : BitVec 32 := 1#32
  let arg12 : BitVec 32 := Scf.iv c0_i32_150 c1_i32_152 k0_t3
  let c8_i32_309 : BitVec 32 := 8#32
  let v383 : BitVec 32 := Scalar.muli arg12 c8_i32_309
  let c1_i32_310 : BitVec 32 := 1#32
  let v384 : BitVec 32 := Scalar.addi v383 c1_i32_310
  let c32_i32_311 : BitVec 32 := 32#32
  let v385 : BitVec 32 := Scalar.muli v384 c32_i32_311
  v385
def k0_mult19 (k0_t3 : Fin k0_t3_loop.trips) : BitVec 32 :=
  let c0_i32_150 : BitVec 32 := 0#32
  let c1_i32_152 : BitVec 32 := 1#32
  let arg12 : BitVec 32 := Scf.iv c0_i32_150 c1_i32_152 k0_t3
  let c8_i32_338 : BitVec 32 := 8#32
  let v438 : BitVec 32 := Scalar.muli arg12 c8_i32_338
  let c2_i32 : BitVec 32 := 2#32
  let v439 : BitVec 32 := Scalar.addi v438 c2_i32
  let c32_i32_339 : BitVec 32 := 32#32
  let v440 : BitVec 32 := Scalar.muli v439 c32_i32_339
  v440
def k0_mult20 (k0_t3 : Fin k0_t3_loop.trips) : BitVec 32 :=
  let c0_i32_150 : BitVec 32 := 0#32
  let c1_i32_152 : BitVec 32 := 1#32
  let arg12 : BitVec 32 := Scf.iv c0_i32_150 c1_i32_152 k0_t3
  let c8_i32_366 : BitVec 32 := 8#32
  let v493 : BitVec 32 := Scalar.muli arg12 c8_i32_366
  let c3_i32 : BitVec 32 := 3#32
  let v494 : BitVec 32 := Scalar.addi v493 c3_i32
  let c32_i32_367 : BitVec 32 := 32#32
  let v495 : BitVec 32 := Scalar.muli v494 c32_i32_367
  v495
def k0_mult21 (k0_t3 : Fin k0_t3_loop.trips) : BitVec 32 :=
  let c0_i32_150 : BitVec 32 := 0#32
  let c1_i32_152 : BitVec 32 := 1#32
  let arg12 : BitVec 32 := Scf.iv c0_i32_150 c1_i32_152 k0_t3
  let c8_i32_394 : BitVec 32 := 8#32
  let v548 : BitVec 32 := Scalar.muli arg12 c8_i32_394
  let c4_i32 : BitVec 32 := 4#32
  let v549 : BitVec 32 := Scalar.addi v548 c4_i32
  let c32_i32_395 : BitVec 32 := 32#32
  let v550 : BitVec 32 := Scalar.muli v549 c32_i32_395
  v550
def k0_mult22 (k0_t3 : Fin k0_t3_loop.trips) : BitVec 32 :=
  let c0_i32_150 : BitVec 32 := 0#32
  let c1_i32_152 : BitVec 32 := 1#32
  let arg12 : BitVec 32 := Scf.iv c0_i32_150 c1_i32_152 k0_t3
  let c8_i32_422 : BitVec 32 := 8#32
  let v603 : BitVec 32 := Scalar.muli arg12 c8_i32_422
  let c5_i32 : BitVec 32 := 5#32
  let v604 : BitVec 32 := Scalar.addi v603 c5_i32
  let c32_i32_423 : BitVec 32 := 32#32
  let v605 : BitVec 32 := Scalar.muli v604 c32_i32_423
  v605
def k0_mult23 (k0_t3 : Fin k0_t3_loop.trips) : BitVec 32 :=
  let c0_i32_150 : BitVec 32 := 0#32
  let c1_i32_152 : BitVec 32 := 1#32
  let arg12 : BitVec 32 := Scf.iv c0_i32_150 c1_i32_152 k0_t3
  let c8_i32_450 : BitVec 32 := 8#32
  let v658 : BitVec 32 := Scalar.muli arg12 c8_i32_450
  let c6_i32 : BitVec 32 := 6#32
  let v659 : BitVec 32 := Scalar.addi v658 c6_i32
  let c32_i32_451 : BitVec 32 := 32#32
  let v660 : BitVec 32 := Scalar.muli v659 c32_i32_451
  v660
def k0_mult24 (k0_t3 : Fin k0_t3_loop.trips) : BitVec 32 :=
  let c0_i32_150 : BitVec 32 := 0#32
  let c1_i32_152 : BitVec 32 := 1#32
  let arg12 : BitVec 32 := Scf.iv c0_i32_150 c1_i32_152 k0_t3
  let c8_i32_478 : BitVec 32 := 8#32
  let v713 : BitVec 32 := Scalar.muli arg12 c8_i32_478
  let c7_i32 : BitVec 32 := 7#32
  let v714 : BitVec 32 := Scalar.addi v713 c7_i32
  let c32_i32_479 : BitVec 32 := 32#32
  let v715 : BitVec 32 := Scalar.muli v714 c32_i32_479
  v715
@[reducible] def k0_t4_loop : Scf.Loop 32 :=
  let c0_i32_194 : BitVec 32 := 0#32
  let c8_i32_195 : BitVec 32 := 8#32
  let v238 : BitVec 32 := Scalar.addi c0_i32_194 c8_i32_195
  let c1_i32_196 : BitVec 32 := 1#32
  ⟨c0_i32_194, v238, c1_i32_196⟩
def k0_mult25 (k0_t4 : Fin k0_t4_loop.trips) : BitVec 32 :=
  let c0_i32_194 : BitVec 32 := 0#32
  let c1_i32_196 : BitVec 32 := 1#32
  let arg12 : BitVec 32 := Scf.iv c0_i32_194 c1_i32_196 k0_t4
  let c8_i32_282 : BitVec 32 := 8#32
  let v328 : BitVec 32 := Scalar.muli arg12 c8_i32_282
  let c0_i32_283 : BitVec 32 := 0#32
  let v329 : BitVec 32 := Scalar.addi v328 c0_i32_283
  let c32_i32 : BitVec 32 := 32#32
  let v330 : BitVec 32 := Scalar.muli v329 c32_i32
  v330
def k0_off28 (k0_t4 : Fin k0_t4_loop.trips) (c0_i32_283 : BitVec 32) : Fin 3 → Nat :=
  let c0_284 : Index := 0#32
  let c0_i32_194 : BitVec 32 := 0#32
  let c1_i32_196 : BitVec 32 := 1#32
  let arg12 : BitVec 32 := Scf.iv c0_i32_194 c1_i32_196 k0_t4
  let c8_i32_282 : BitVec 32 := 8#32
  let v328 : BitVec 32 := Scalar.muli arg12 c8_i32_282
  let v329 : BitVec 32 := Scalar.addi v328 c0_i32_283
  let c32_i32 : BitVec 32 := 32#32
  let v330 : BitVec 32 := Scalar.muli v329 c32_i32
  let v331 : BitVec 32 := v330
  let v332 : Index := Scalar.indexCast v331
  let c0_285 : Index := 0#32
  ![0, v332.toNat, 0]
def k0_off29 (k0_t4 : Fin k0_t4_loop.trips) (c0_i32_283 : BitVec 32) : Fin 3 → Nat :=
  let c1_286 : Index := 1#32
  let c0_i32_194 : BitVec 32 := 0#32
  let c1_i32_196 : BitVec 32 := 1#32
  let arg12 : BitVec 32 := Scf.iv c0_i32_194 c1_i32_196 k0_t4
  let c8_i32_282 : BitVec 32 := 8#32
  let v328 : BitVec 32 := Scalar.muli arg12 c8_i32_282
  let v329 : BitVec 32 := Scalar.addi v328 c0_i32_283
  let c32_i32 : BitVec 32 := 32#32
  let v330 : BitVec 32 := Scalar.muli v329 c32_i32
  let v331 : BitVec 32 := v330
  let c24_i32 : BitVec 32 := 24#32
  let v335 : BitVec 32 := Scalar.addi v331 c24_i32
  let v336 : Index := Scalar.indexCast v335
  let c0_287 : Index := 0#32
  ![1, v336.toNat, 0]
def k0_off30 (k0_t4 : Fin k0_t4_loop.trips) (c0_i32_283 : BitVec 32) : Fin 3 → Nat :=
  let c2_289 : Index := 2#32
  let c0_i32_194 : BitVec 32 := 0#32
  let c1_i32_196 : BitVec 32 := 1#32
  let arg12 : BitVec 32 := Scf.iv c0_i32_194 c1_i32_196 k0_t4
  let c8_i32_282 : BitVec 32 := 8#32
  let v328 : BitVec 32 := Scalar.muli arg12 c8_i32_282
  let v329 : BitVec 32 := Scalar.addi v328 c0_i32_283
  let c32_i32 : BitVec 32 := 32#32
  let v330 : BitVec 32 := Scalar.muli v329 c32_i32
  let v331 : BitVec 32 := v330
  let c24_i32_288 : BitVec 32 := 24#32
  let v341 : BitVec 32 := Scalar.addi v331 c24_i32_288
  let v342 : Index := Scalar.indexCast v341
  let c0_290 : Index := 0#32
  ![2, v342.toNat, 0]
def k0_off31 (k0_t4 : Fin k0_t4_loop.trips) (c0_i32_283 : BitVec 32) : Fin 3 → Nat :=
  let c3_292 : Index := 3#32
  let c0_i32_194 : BitVec 32 := 0#32
  let c1_i32_196 : BitVec 32 := 1#32
  let arg12 : BitVec 32 := Scf.iv c0_i32_194 c1_i32_196 k0_t4
  let c8_i32_282 : BitVec 32 := 8#32
  let v328 : BitVec 32 := Scalar.muli arg12 c8_i32_282
  let v329 : BitVec 32 := Scalar.addi v328 c0_i32_283
  let c32_i32 : BitVec 32 := 32#32
  let v330 : BitVec 32 := Scalar.muli v329 c32_i32
  let v331 : BitVec 32 := v330
  let c24_i32_291 : BitVec 32 := 24#32
  let v347 : BitVec 32 := Scalar.addi v331 c24_i32_291
  let v348 : Index := Scalar.indexCast v347
  let c0_293 : Index := 0#32
  ![3, v348.toNat, 0]
def k0_off32 (k0_t4 : Fin k0_t4_loop.trips) (c0_i32_283 : BitVec 32) : Fin 3 → Nat :=
  let c4_295 : Index := 4#32
  let c0_i32_194 : BitVec 32 := 0#32
  let c1_i32_196 : BitVec 32 := 1#32
  let arg12 : BitVec 32 := Scf.iv c0_i32_194 c1_i32_196 k0_t4
  let c8_i32_282 : BitVec 32 := 8#32
  let v328 : BitVec 32 := Scalar.muli arg12 c8_i32_282
  let v329 : BitVec 32 := Scalar.addi v328 c0_i32_283
  let c32_i32 : BitVec 32 := 32#32
  let v330 : BitVec 32 := Scalar.muli v329 c32_i32
  let v331 : BitVec 32 := v330
  let c24_i32_294 : BitVec 32 := 24#32
  let v353 : BitVec 32 := Scalar.addi v331 c24_i32_294
  let v354 : Index := Scalar.indexCast v353
  let c0_296 : Index := 0#32
  ![4, v354.toNat, 0]
def k0_off33 (k0_t4 : Fin k0_t4_loop.trips) (c0_i32_283 : BitVec 32) : Fin 3 → Nat :=
  let c5_298 : Index := 5#32
  let c0_i32_194 : BitVec 32 := 0#32
  let c1_i32_196 : BitVec 32 := 1#32
  let arg12 : BitVec 32 := Scf.iv c0_i32_194 c1_i32_196 k0_t4
  let c8_i32_282 : BitVec 32 := 8#32
  let v328 : BitVec 32 := Scalar.muli arg12 c8_i32_282
  let v329 : BitVec 32 := Scalar.addi v328 c0_i32_283
  let c32_i32 : BitVec 32 := 32#32
  let v330 : BitVec 32 := Scalar.muli v329 c32_i32
  let v331 : BitVec 32 := v330
  let c24_i32_297 : BitVec 32 := 24#32
  let v359 : BitVec 32 := Scalar.addi v331 c24_i32_297
  let v360 : Index := Scalar.indexCast v359
  let c0_299 : Index := 0#32
  ![5, v360.toNat, 0]
def k0_off34 (k0_t4 : Fin k0_t4_loop.trips) (c0_i32_283 : BitVec 32) : Fin 3 → Nat :=
  let c6_301 : Index := 6#32
  let c0_i32_194 : BitVec 32 := 0#32
  let c1_i32_196 : BitVec 32 := 1#32
  let arg12 : BitVec 32 := Scf.iv c0_i32_194 c1_i32_196 k0_t4
  let c8_i32_282 : BitVec 32 := 8#32
  let v328 : BitVec 32 := Scalar.muli arg12 c8_i32_282
  let v329 : BitVec 32 := Scalar.addi v328 c0_i32_283
  let c32_i32 : BitVec 32 := 32#32
  let v330 : BitVec 32 := Scalar.muli v329 c32_i32
  let v331 : BitVec 32 := v330
  let c24_i32_300 : BitVec 32 := 24#32
  let v365 : BitVec 32 := Scalar.addi v331 c24_i32_300
  let v366 : Index := Scalar.indexCast v365
  let c0_302 : Index := 0#32
  ![6, v366.toNat, 0]
def k0_off35 (k0_t4 : Fin k0_t4_loop.trips) (c0_i32_283 : BitVec 32) : Fin 3 → Nat :=
  let c7_304 : Index := 7#32
  let c0_i32_194 : BitVec 32 := 0#32
  let c1_i32_196 : BitVec 32 := 1#32
  let arg12 : BitVec 32 := Scf.iv c0_i32_194 c1_i32_196 k0_t4
  let c8_i32_282 : BitVec 32 := 8#32
  let v328 : BitVec 32 := Scalar.muli arg12 c8_i32_282
  let v329 : BitVec 32 := Scalar.addi v328 c0_i32_283
  let c32_i32 : BitVec 32 := 32#32
  let v330 : BitVec 32 := Scalar.muli v329 c32_i32
  let v331 : BitVec 32 := v330
  let c24_i32_303 : BitVec 32 := 24#32
  let v371 : BitVec 32 := Scalar.addi v331 c24_i32_303
  let v372 : Index := Scalar.indexCast v371
  let c0_305 : Index := 0#32
  ![7, v372.toNat, 0]
def k0_mult26 (k0_t4 : Fin k0_t4_loop.trips) : BitVec 32 :=
  let c0_i32_194 : BitVec 32 := 0#32
  let c1_i32_196 : BitVec 32 := 1#32
  let arg12 : BitVec 32 := Scf.iv c0_i32_194 c1_i32_196 k0_t4
  let c8_i32_306 : BitVec 32 := 8#32
  let v377 : BitVec 32 := Scalar.muli arg12 c8_i32_306
  let c1_i32_307 : BitVec 32 := 1#32
  let v378 : BitVec 32 := Scalar.addi v377 c1_i32_307
  let c32_i32_308 : BitVec 32 := 32#32
  let v379 : BitVec 32 := Scalar.muli v378 c32_i32_308
  v379
def k0_mult27 (k0_t4 : Fin k0_t4_loop.trips) : BitVec 32 :=
  let c0_i32_194 : BitVec 32 := 0#32
  let c1_i32_196 : BitVec 32 := 1#32
  let arg12 : BitVec 32 := Scf.iv c0_i32_194 c1_i32_196 k0_t4
  let c8_i32_332 : BitVec 32 := 8#32
  let v426 : BitVec 32 := Scalar.muli arg12 c8_i32_332
  let c2_i32 : BitVec 32 := 2#32
  let v427 : BitVec 32 := Scalar.addi v426 c2_i32
  let c32_i32_333 : BitVec 32 := 32#32
  let v428 : BitVec 32 := Scalar.muli v427 c32_i32_333
  v428
def k0_mult28 (k0_t4 : Fin k0_t4_loop.trips) : BitVec 32 :=
  let c0_i32_194 : BitVec 32 := 0#32
  let c1_i32_196 : BitVec 32 := 1#32
  let arg12 : BitVec 32 := Scf.iv c0_i32_194 c1_i32_196 k0_t4
  let c8_i32_357 : BitVec 32 := 8#32
  let v475 : BitVec 32 := Scalar.muli arg12 c8_i32_357
  let c3_i32 : BitVec 32 := 3#32
  let v476 : BitVec 32 := Scalar.addi v475 c3_i32
  let c32_i32_358 : BitVec 32 := 32#32
  let v477 : BitVec 32 := Scalar.muli v476 c32_i32_358
  v477
def k0_mult29 (k0_t4 : Fin k0_t4_loop.trips) : BitVec 32 :=
  let c0_i32_194 : BitVec 32 := 0#32
  let c1_i32_196 : BitVec 32 := 1#32
  let arg12 : BitVec 32 := Scf.iv c0_i32_194 c1_i32_196 k0_t4
  let c8_i32_382 : BitVec 32 := 8#32
  let v524 : BitVec 32 := Scalar.muli arg12 c8_i32_382
  let c4_i32 : BitVec 32 := 4#32
  let v525 : BitVec 32 := Scalar.addi v524 c4_i32
  let c32_i32_383 : BitVec 32 := 32#32
  let v526 : BitVec 32 := Scalar.muli v525 c32_i32_383
  v526
def k0_mult30 (k0_t4 : Fin k0_t4_loop.trips) : BitVec 32 :=
  let c0_i32_194 : BitVec 32 := 0#32
  let c1_i32_196 : BitVec 32 := 1#32
  let arg12 : BitVec 32 := Scf.iv c0_i32_194 c1_i32_196 k0_t4
  let c8_i32_407 : BitVec 32 := 8#32
  let v573 : BitVec 32 := Scalar.muli arg12 c8_i32_407
  let c5_i32 : BitVec 32 := 5#32
  let v574 : BitVec 32 := Scalar.addi v573 c5_i32
  let c32_i32_408 : BitVec 32 := 32#32
  let v575 : BitVec 32 := Scalar.muli v574 c32_i32_408
  v575
def k0_mult31 (k0_t4 : Fin k0_t4_loop.trips) : BitVec 32 :=
  let c0_i32_194 : BitVec 32 := 0#32
  let c1_i32_196 : BitVec 32 := 1#32
  let arg12 : BitVec 32 := Scf.iv c0_i32_194 c1_i32_196 k0_t4
  let c8_i32_432 : BitVec 32 := 8#32
  let v622 : BitVec 32 := Scalar.muli arg12 c8_i32_432
  let c6_i32 : BitVec 32 := 6#32
  let v623 : BitVec 32 := Scalar.addi v622 c6_i32
  let c32_i32_433 : BitVec 32 := 32#32
  let v624 : BitVec 32 := Scalar.muli v623 c32_i32_433
  v624
def k0_mult32 (k0_t4 : Fin k0_t4_loop.trips) : BitVec 32 :=
  let c0_i32_194 : BitVec 32 := 0#32
  let c1_i32_196 : BitVec 32 := 1#32
  let arg12 : BitVec 32 := Scf.iv c0_i32_194 c1_i32_196 k0_t4
  let c8_i32_457 : BitVec 32 := 8#32
  let v671 : BitVec 32 := Scalar.muli arg12 c8_i32_457
  let c7_i32 : BitVec 32 := 7#32
  let v672 : BitVec 32 := Scalar.addi v671 c7_i32
  let c32_i32_458 : BitVec 32 := 32#32
  let v673 : BitVec 32 := Scalar.muli v672 c32_i32_458
  v673
@[reducible] def k0_t5_loop : Scf.Loop 32 :=
  let c0_i32_279 : BitVec 32 := 0#32
  let c16_i32 : BitVec 32 := 16#32
  let v327 : BitVec 32 := Scalar.addi c0_i32_279 c16_i32
  let c1_i32_280 : BitVec 32 := 1#32
  ⟨c0_i32_279, v327, c1_i32_280⟩
def k0_mult33 (k0_t5 : Fin k0_t5_loop.trips) : BitVec 32 :=
  let c0_i32_279 : BitVec 32 := 0#32
  let c1_i32_280 : BitVec 32 := 1#32
  let arg12 : BitVec 32 := Scf.iv c0_i32_279 c1_i32_280 k0_t5
  let c128_i32 : BitVec 32 := 128#32
  let v328 : BitVec 32 := Scalar.muli arg12 c128_i32
  v328
def k0_off36 (k0_t5 : Fin k0_t5_loop.trips) (c24_i32 : BitVec 32) : Fin 3 → Nat :=
  let c7_283 : Index := 7#32
  let c0_i32_279 : BitVec 32 := 0#32
  let c1_i32_280 : BitVec 32 := 1#32
  let arg12 : BitVec 32 := Scf.iv c0_i32_279 c1_i32_280 k0_t5
  let c128_i32 : BitVec 32 := 128#32
  let v328 : BitVec 32 := Scalar.muli arg12 c128_i32
  let v329 : BitVec 32 := v328
  let v331 : BitVec 32 := Scalar.addi v329 c24_i32
  let v332 : Index := Scalar.indexCast v331
  let c0_284 : Index := 0#32
  ![7, v332.toNat, 0]
def k0_off37 (k0_t5 : Fin k0_t5_loop.trips) (c24_i32_287 : BitVec 32) : Fin 3 → Nat :=
  let c6_288 : Index := 6#32
  let c0_i32_279 : BitVec 32 := 0#32
  let c1_i32_280 : BitVec 32 := 1#32
  let arg12 : BitVec 32 := Scf.iv c0_i32_279 c1_i32_280 k0_t5
  let c128_i32 : BitVec 32 := 128#32
  let v328 : BitVec 32 := Scalar.muli arg12 c128_i32
  let v329 : BitVec 32 := v328
  let v340 : BitVec 32 := Scalar.addi v329 c24_i32_287
  let v341 : Index := Scalar.indexCast v340
  let c0_289 : Index := 0#32
  ![6, v341.toNat, 0]
def k0_off38 (k0_t5 : Fin k0_t5_loop.trips) (c24_i32_292 : BitVec 32) : Fin 3 → Nat :=
  let c5_293 : Index := 5#32
  let c0_i32_279 : BitVec 32 := 0#32
  let c1_i32_280 : BitVec 32 := 1#32
  let arg12 : BitVec 32 := Scf.iv c0_i32_279 c1_i32_280 k0_t5
  let c128_i32 : BitVec 32 := 128#32
  let v328 : BitVec 32 := Scalar.muli arg12 c128_i32
  let v329 : BitVec 32 := v328
  let v349 : BitVec 32 := Scalar.addi v329 c24_i32_292
  let v350 : Index := Scalar.indexCast v349
  let c0_294 : Index := 0#32
  ![5, v350.toNat, 0]
def k0_off39 (k0_t5 : Fin k0_t5_loop.trips) (c24_i32_297 : BitVec 32) : Fin 3 → Nat :=
  let c4_298 : Index := 4#32
  let c0_i32_279 : BitVec 32 := 0#32
  let c1_i32_280 : BitVec 32 := 1#32
  let arg12 : BitVec 32 := Scf.iv c0_i32_279 c1_i32_280 k0_t5
  let c128_i32 : BitVec 32 := 128#32
  let v328 : BitVec 32 := Scalar.muli arg12 c128_i32
  let v329 : BitVec 32 := v328
  let v358 : BitVec 32 := Scalar.addi v329 c24_i32_297
  let v359 : Index := Scalar.indexCast v358
  let c0_299 : Index := 0#32
  ![4, v359.toNat, 0]
def k0_off40 (k0_t5 : Fin k0_t5_loop.trips) (c24_i32_302 : BitVec 32) : Fin 3 → Nat :=
  let c3_303 : Index := 3#32
  let c0_i32_279 : BitVec 32 := 0#32
  let c1_i32_280 : BitVec 32 := 1#32
  let arg12 : BitVec 32 := Scf.iv c0_i32_279 c1_i32_280 k0_t5
  let c128_i32 : BitVec 32 := 128#32
  let v328 : BitVec 32 := Scalar.muli arg12 c128_i32
  let v329 : BitVec 32 := v328
  let v367 : BitVec 32 := Scalar.addi v329 c24_i32_302
  let v368 : Index := Scalar.indexCast v367
  let c0_304 : Index := 0#32
  ![3, v368.toNat, 0]
def k0_off41 (k0_t5 : Fin k0_t5_loop.trips) (c24_i32_307 : BitVec 32) : Fin 3 → Nat :=
  let c2_308 : Index := 2#32
  let c0_i32_279 : BitVec 32 := 0#32
  let c1_i32_280 : BitVec 32 := 1#32
  let arg12 : BitVec 32 := Scf.iv c0_i32_279 c1_i32_280 k0_t5
  let c128_i32 : BitVec 32 := 128#32
  let v328 : BitVec 32 := Scalar.muli arg12 c128_i32
  let v329 : BitVec 32 := v328
  let v376 : BitVec 32 := Scalar.addi v329 c24_i32_307
  let v377 : Index := Scalar.indexCast v376
  let c0_309 : Index := 0#32
  ![2, v377.toNat, 0]
def k0_off42 (k0_t5 : Fin k0_t5_loop.trips) (c24_i32_312 : BitVec 32) : Fin 3 → Nat :=
  let c1_313 : Index := 1#32
  let c0_i32_279 : BitVec 32 := 0#32
  let c1_i32_280 : BitVec 32 := 1#32
  let arg12 : BitVec 32 := Scf.iv c0_i32_279 c1_i32_280 k0_t5
  let c128_i32 : BitVec 32 := 128#32
  let v328 : BitVec 32 := Scalar.muli arg12 c128_i32
  let v329 : BitVec 32 := v328
  let v385 : BitVec 32 := Scalar.addi v329 c24_i32_312
  let v386 : Index := Scalar.indexCast v385
  let c0_314 : Index := 0#32
  ![1, v386.toNat, 0]
def k0_off43 (k0_t5 : Fin k0_t5_loop.trips) (c24_i32_317 : BitVec 32) : Fin 3 → Nat :=
  let c0_318 : Index := 0#32
  let c0_i32_279 : BitVec 32 := 0#32
  let c1_i32_280 : BitVec 32 := 1#32
  let arg12 : BitVec 32 := Scf.iv c0_i32_279 c1_i32_280 k0_t5
  let c128_i32 : BitVec 32 := 128#32
  let v328 : BitVec 32 := Scalar.muli arg12 c128_i32
  let v329 : BitVec 32 := v328
  let v394 : BitVec 32 := Scalar.addi v329 c24_i32_317
  let v395 : Index := Scalar.indexCast v394
  let c0_319 : Index := 0#32
  ![0, v395.toNat, 0]
def k0_off44 (k0_t5 : Fin k0_t5_loop.trips) : Fin 4 → Nat :=
  let c0_437 : Index := 0#32
  let c0_438 : Index := 0#32
  let c0_i32_279 : BitVec 32 := 0#32
  let c1_i32_280 : BitVec 32 := 1#32
  let arg12 : BitVec 32 := Scf.iv c0_i32_279 c1_i32_280 k0_t5
  let c128_i32 : BitVec 32 := 128#32
  let v328 : BitVec 32 := Scalar.muli arg12 c128_i32
  let v329 : BitVec 32 := v328
  let v610 : Index := Scalar.indexCast v329
  let c0_439 : Index := 0#32
  ![0, 0, v610.toNat, 0]
def k0_off45 (k0_t5 : Fin k0_t5_loop.trips) : Fin 3 → Nat :=
  let c0_446 : Index := 0#32
  let c0_i32_279 : BitVec 32 := 0#32
  let c1_i32_280 : BitVec 32 := 1#32
  let arg12 : BitVec 32 := Scf.iv c0_i32_279 c1_i32_280 k0_t5
  let c128_i32 : BitVec 32 := 128#32
  let v328 : BitVec 32 := Scalar.muli arg12 c128_i32
  let v329 : BitVec 32 := v328
  let v625 : Index := Scalar.indexCast v329
  let c0_447 : Index := 0#32
  ![0, v625.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  let c0_i32_1 : BitVec 32 := 0#32
  ![v0.toNat, arg1.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1x2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S31x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x2048x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x2048x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S32x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S8x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== Reference6Ideal.lean ====
abbrev S4x2048x512 : Shape := ⟨3, ![4, 2048, 512]⟩
abbrev S4x2048x2560 : Shape := ⟨3, ![4, 2048, 2560]⟩
abbrev S1x31x512 : Shape := ⟨3, ![1, 31, 512]⟩
abbrev S_ : Shape := ⟨0, ![]⟩
abbrev S512 : Shape := ⟨1, ![512]⟩
abbrev S4x15x512 : Shape := ⟨3, ![4, 15, 512]⟩
abbrev S4x2078x512 : Shape := ⟨3, ![4, 2078, 512]⟩
abbrev S1x1x512 : Shape := ⟨3, ![1, 1, 512]⟩
abbrev S31x512 : Shape := ⟨2, ![31, 512]⟩
abbrev S1x512 : Shape := ⟨2, ![1, 512]⟩
abbrev S32x512 : Shape := ⟨2, ![32, 512]⟩
abbrev S7x512 : Shape := ⟨2, ![7, 512]⟩
abbrev S8x512 : Shape := ⟨2, ![8, 512]⟩

abbrev nBuf : Space → Nat
  | .hbm => 741
  | .vmem => 0
  | .smem => 0
  | _ => 0

abbrev hbmTy0_0 (i : Nat) : BufTy := match i % 128 with
  | 0 => ⟨S4x2048x512, .f32⟩
  | 1 => ⟨S4x2048x2560, .f32⟩
  | 2 => ⟨S1x31x512, .f32⟩
  | 3 => ⟨S_, .f32⟩
  | 4 => ⟨S512, .f32⟩
  | 5 => ⟨S4x2048x512, .f32⟩
  | 6 => ⟨S4x2048x512, .f32⟩
  | 7 => ⟨S4x2048x512, .f32⟩
  | 8 => ⟨S4x2048x512, .f32⟩
  | 9 => ⟨S_, .f32⟩
  | 10 => ⟨S4x2048x512, .f32⟩
  | 11 => ⟨S4x2048x512, .f32⟩
  | 12 => ⟨S_, .f32⟩
  | 13 => ⟨S4x2048x512, .f32⟩
  | 14 => ⟨S4x2048x512, .f32⟩
  | 15 => ⟨S_, .f32⟩
  | 16 => ⟨S4x2048x512, .f32⟩
  | 17 => ⟨S4x2048x512, .f32⟩
  | 18 => ⟨S4x2048x512, .f32⟩
  | 19 => ⟨S4x2048x512, .f32⟩
  | 20 => ⟨S_, .f32⟩
  | 21 => ⟨S4x15x512, .f32⟩
  | 22 => ⟨S4x2078x512, .f32⟩
  | 23 => ⟨S_, .f32⟩
  | 24 => ⟨S4x15x512, .f32⟩
  | 25 => ⟨S_, .f32⟩
  | 26 => ⟨S4x15x512, .f32⟩
  | 27 => ⟨S4x2048x512, .f32⟩
  | 28 => ⟨S1x1x512, .f32⟩
  | 29 => ⟨S512, .f32⟩
  | 30 => ⟨S1x1x512, .f32⟩
  | 31 => ⟨S4x2048x512, .f32⟩
  | 32 => ⟨S4x2048x512, .f32⟩
  | 33 => ⟨S_, .f32⟩
  | 34 => ⟨S4x2048x512, .f32⟩
  | 35 => ⟨S4x2048x512, .f32⟩
  | 36 => ⟨S4x2048x512, .f32⟩
  | 37 => ⟨S1x1x512, .f32⟩
  | 38 => ⟨S512, .f32⟩
  | 39 => ⟨S1x1x512, .f32⟩
  | 40 => ⟨S4x2048x512, .f32⟩
  | 41 => ⟨S4x2048x512, .f32⟩
  | 42 => ⟨S4x2048x512, .f32⟩
  | 43 => ⟨S4x2048x512, .f32⟩
  | 44 => ⟨S1x1x512, .f32⟩
  | 45 => ⟨S512, .f32⟩
  | 46 => ⟨S1x1x512, .f32⟩
  | 47 => ⟨S4x2048x512, .f32⟩
  | 48 => ⟨S4x2048x512, .f32⟩
  | 49 => ⟨S4x2048x512, .f32⟩
  | 50 => ⟨S4x2048x512, .f32⟩
  | 51 => ⟨S1x1x512, .f32⟩
  | 52 => ⟨S512, .f32⟩
  | 53 => ⟨S1x1x512, .f32⟩
  | 54 => ⟨S4x2048x512, .f32⟩
  | 55 => ⟨S4x2048x512, .f32⟩
  | 56 => ⟨S4x2048x512, .f32⟩
  | 57 => ⟨S4x2048x512, .f32⟩
  | 58 => ⟨S1x1x512, .f32⟩
  | 59 => ⟨S512, .f32⟩
  | 60 => ⟨S1x1x512, .f32⟩
  | 61 => ⟨S4x2048x512, .f32⟩
  | 62 => ⟨S4x2048x512, .f32⟩
  | 63 => ⟨S4x2048x512, .f32⟩
  | 64 => ⟨S4x2048x512, .f32⟩
  | 65 => ⟨S1x1x512, .f32⟩
  | 66 => ⟨S512, .f32⟩
  | 67 => ⟨S1x1x512, .f32⟩
  | 68 => ⟨S4x2048x512, .f32⟩
  | 69 => ⟨S4x2048x512, .f32⟩
  | 70 => ⟨S4x2048x512, .f32⟩
  | 71 => ⟨S4x2048x512, .f32⟩
  | 72 => ⟨S1x1x512, .f32⟩
  | 73 => ⟨S512, .f32⟩
  | 74 => ⟨S1x1x512, .f32⟩
  | 75 => ⟨S4x2048x512, .f32⟩
  | 76 => ⟨S4x2048x512, .f32⟩
  | 77 => ⟨S4x2048x512, .f32⟩
  | 78 => ⟨S4x2048x512, .f32⟩
  | 79 => ⟨S1x1x512, .f32⟩
  | 80 => ⟨S512, .f32⟩
  | 81 => ⟨S1x1x512, .f32⟩
  | 82 => ⟨S4x2048x512, .f32⟩
  | 83 => ⟨S4x2048x512, .f32⟩
  | 84 => ⟨S4x2048x512, .f32⟩
  | 85 => ⟨S4x2048x512, .f32⟩
  | 86 => ⟨S1x1x512, .f32⟩
  | 87 => ⟨S512, .f32⟩
  | 88 => ⟨S1x1x512, .f32⟩
  | 89 => ⟨S4x2048x512, .f32⟩
  | 90 => ⟨S4x2048x512, .f32⟩
  | 91 => ⟨S4x2048x512, .f32⟩
  | 92 => ⟨S4x2048x512, .f32⟩
  | 93 => ⟨S1x1x512, .f32⟩
  | 94 => ⟨S512, .f32⟩
  | 95 => ⟨S1x1x512, .f32⟩
  | 96 => ⟨S4x2048x512, .f32⟩
  | 97 => ⟨S4x2048x512, .f32⟩
  | 98 => ⟨S4x2048x512, .f32⟩
  | 99 => ⟨S4x2048x512, .f32⟩
  | 100 => ⟨S1x1x512, .f32⟩
  | 101 => ⟨S512, .f32⟩
  | 102 => ⟨S1x1x512, .f32⟩
  | 103 => ⟨S4x2048x512, .f32⟩
  | 104 => ⟨S4x2048x512, .f32⟩
  | 105 => ⟨S4x2048x512, .f32⟩
  | 106 => ⟨S4x2048x512, .f32⟩
  | 107 => ⟨S1x1x512, .f32⟩
  | 108 => ⟨S512, .f32⟩
  | 109 => ⟨S1x1x512, .f32⟩
  | 110 => ⟨S4x2048x512, .f32⟩
  | 111 => ⟨S4x2048x512, .f32⟩
  | 112 => ⟨S4x2048x512, .f32⟩
  | 113 => ⟨S4x2048x512, .f32⟩
  | 114 => ⟨S1x1x512, .f32⟩
  | 115 => ⟨S512, .f32⟩
  | 116 => ⟨S1x1x512, .f32⟩
  | 117 => ⟨S4x2048x512, .f32⟩
  | 118 => ⟨S4x2048x512, .f32⟩
  | 119 => ⟨S4x2048x512, .f32⟩
  | 120 => ⟨S4x2048x512, .f32⟩
  | 121 => ⟨S1x1x512, .f32⟩
  | 122 => ⟨S512, .f32⟩
  | 123 => ⟨S1x1x512, .f32⟩
  | 124 => ⟨S4x2048x512, .f32⟩
  | 125 => ⟨S4x2048x512, .f32⟩
  | 126 => ⟨S4x2048x512, .f32⟩
  | 127 => ⟨S4x2048x512, .f32⟩
  | _ => ⟨S4x2048x512, .f32⟩

abbrev hbmTy0_1 (i : Nat) : BufTy := match i % 128 with
  | 0 => ⟨S1x1x512, .f32⟩
  | 1 => ⟨S512, .f32⟩
  | 2 => ⟨S1x1x512, .f32⟩
  | 3 => ⟨S4x2048x512, .f32⟩
  | 4 => ⟨S4x2048x512, .f32⟩
  | 5 => ⟨S4x2048x512, .f32⟩
  | 6 => ⟨S4x2048x512, .f32⟩
  | 7 => ⟨S1x1x512, .f32⟩
  | 8 => ⟨S512, .f32⟩
  | 9 => ⟨S1x1x512, .f32⟩
  | 10 => ⟨S4x2048x512, .f32⟩
  | 11 => ⟨S4x2048x512, .f32⟩
  | 12 => ⟨S4x2048x512, .f32⟩
  | 13 => ⟨S4x2048x512, .f32⟩
  | 14 => ⟨S1x1x512, .f32⟩
  | 15 => ⟨S512, .f32⟩
  | 16 => ⟨S1x1x512, .f32⟩
  | 17 => ⟨S4x2048x512, .f32⟩
  | 18 => ⟨S4x2048x512, .f32⟩
  | 19 => ⟨S4x2048x512, .f32⟩
  | 20 => ⟨S4x2048x512, .f32⟩
  | 21 => ⟨S1x1x512, .f32⟩
  | 22 => ⟨S512, .f32⟩
  | 23 => ⟨S1x1x512, .f32⟩
  | 24 => ⟨S4x2048x512, .f32⟩
  | 25 => ⟨S4x2048x512, .f32⟩
  | 26 => ⟨S4x2048x512, .f32⟩
  | 27 => ⟨S4x2048x512, .f32⟩
  | 28 => ⟨S1x1x512, .f32⟩
  | 29 => ⟨S512, .f32⟩
  | 30 => ⟨S1x1x512, .f32⟩
  | 31 => ⟨S4x2048x512, .f32⟩
  | 32 => ⟨S4x2048x512, .f32⟩
  | 33 => ⟨S4x2048x512, .f32⟩
  | 34 => ⟨S4x2048x512, .f32⟩
  | 35 => ⟨S1x1x512, .f32⟩
  | 36 => ⟨S512, .f32⟩
  | 37 => ⟨S1x1x512, .f32⟩
  | 38 => ⟨S4x2048x512, .f32⟩
  | 39 => ⟨S4x2048x512, .f32⟩
  | 40 => ⟨S4x2048x512, .f32⟩
  | 41 => ⟨S4x2048x512, .f32⟩
  | 42 => ⟨S1x1x512, .f32⟩
  | 43 => ⟨S512, .f32⟩
  | 44 => ⟨S1x1x512, .f32⟩
  | 45 => ⟨S4x2048x512, .f32⟩
  | 46 => ⟨S4x2048x512, .f32⟩
  | 47 => ⟨S4x2048x512, .f32⟩
  | 48 => ⟨S4x2048x512, .f32⟩
  | 49 => ⟨S1x1x512, .f32⟩
  | 50 => ⟨S512, .f32⟩
  | 51 => ⟨S1x1x512, .f32⟩
  | 52 => ⟨S4x2048x512, .f32⟩
  | 53 => ⟨S4x2048x512, .f32⟩
  | 54 => ⟨S4x2048x512, .f32⟩
  | 55 => ⟨S4x2048x512, .f32⟩
  | 56 => ⟨S1x1x512, .f32⟩
  | 57 => ⟨S512, .f32⟩
  | 58 => ⟨S1x1x512, .f32⟩
  | 59 => ⟨S4x2048x512, .f32⟩
  | 60 => ⟨S4x2048x512, .f32⟩
  | 61 => ⟨S4x2048x512, .f32⟩
  | 62 => ⟨S4x2048x512, .f32⟩
  | 63 => ⟨S1x1x512, .f32⟩
  | 64 => ⟨S512, .f32⟩
  | 65 => ⟨S1x1x512, .f32⟩
  | 66 => ⟨S4x2048x512, .f32⟩
  | 67 => ⟨S4x2048x512, .f32⟩
  | 68 => ⟨S4x2048x512, .f32⟩
  | 69 => ⟨S4x2048x512, .f32⟩
  | 70 => ⟨S1x1x512, .f32⟩
  | 71 => ⟨S512, .f32⟩
  | 72 => ⟨S1x1x512, .f32⟩
  | 73 => ⟨S4x2048x512, .f32⟩
  | 74 => ⟨S4x2048x512, .f32⟩
  | 75 => ⟨S4x2048x512, .f32⟩
  | 76 => ⟨S4x2048x512, .f32⟩
  | 77 => ⟨S1x1x512, .f32⟩
  | 78 => ⟨S512, .f32⟩
  | 79 => ⟨S1x1x512, .f32⟩
  | 80 => ⟨S4x2048x512, .f32⟩
  | 81 => ⟨S4x2048x512, .f32⟩
  | 82 => ⟨S4x2048x512, .f32⟩
  | 83 => ⟨S4x2048x512, .f32⟩
  | 84 => ⟨S1x1x512, .f32⟩
  | 85 => ⟨S512, .f32⟩
  | 86 => ⟨S1x1x512, .f32⟩
  | 87 => ⟨S4x2048x512, .f32⟩
  | 88 => ⟨S4x2048x512, .f32⟩
  | 89 => ⟨S4x2048x512, .f32⟩
  | 90 => ⟨S4x2048x512, .f32⟩
  | 91 => ⟨S1x1x512, .f32⟩
  | 92 => ⟨S512, .f32⟩
  | 93 => ⟨S1x1x512, .f32⟩
  | 94 => ⟨S4x2048x512, .f32⟩
  | 95 => ⟨S4x2048x512, .f32⟩
  | 96 => ⟨S4x2048x512, .f32⟩
  | 97 => ⟨S4x2048x512, .f32⟩
  | 98 => ⟨S1x1x512, .f32⟩
  | 99 => ⟨S512, .f32⟩
  | 100 => ⟨S1x1x512, .f32⟩
  | 101 => ⟨S4x2048x512, .f32⟩
  | 102 => ⟨S4x2048x512, .f32⟩
  | 103 => ⟨S4x2048x512, .f32⟩
  | 104 => ⟨S4x2048x512, .f32⟩
  | 105 => ⟨S1x1x512, .f32⟩
  | 106 => ⟨S512, .f32⟩
  | 107 => ⟨S1x1x512, .f32⟩
  | 108 => ⟨S4x2048x512, .f32⟩
  | 109 => ⟨S4x2048x512, .f32⟩
  | 110 => ⟨S4x2048x512, .f32⟩
  | 111 => ⟨S4x2048x512, .f32⟩
  | 112 => ⟨S1x1x512, .f32⟩
  | 113 => ⟨S512, .f32⟩
  | 114 => ⟨S1x1x512, .f32⟩
  | 115 => ⟨S4x2048x512, .f32⟩
  | 116 => ⟨S4x2048x512, .f32⟩
  | 117 => ⟨S4x2048x512, .f32⟩
  | 118 => ⟨S1x1x512, .f32⟩
  | 119 => ⟨S4x2048x512, .f32⟩
  | 120 => ⟨S4x2048x512, .f32⟩
  | 121 => ⟨S4x2048x512, .f32⟩
  | 122 => ⟨S_, .f32⟩
  | 123 => ⟨S512, .f32⟩
  | 124 => ⟨S1x1x512, .f32⟩
  | 125 => ⟨S_, .f32⟩
  | 126 => ⟨S512, .f32⟩
  | 127 => ⟨S4x2048x512, .f32⟩
  | _ => ⟨S4x2048x512, .f32⟩

abbrev hbmTy0_2 (i : Nat) : BufTy := match i % 128 with
  | 0 => ⟨S_, .f32⟩
  | 1 => ⟨S512, .f32⟩
  | 2 => ⟨S1x1x512, .f32⟩
  | 3 => ⟨S4x2048x512, .f32⟩
  | 4 => ⟨S4x2048x512, .f32⟩
  | 5 => ⟨S_, .f32⟩
  | 6 => ⟨S512, .f32⟩
  | 7 => ⟨S1x1x512, .f32⟩
  | 8 => ⟨S_, .f32⟩
  | 9 => ⟨S1x31x512, .f32⟩
  | 10 => ⟨S_, .f32⟩
  | 11 => ⟨S4x2078x512, .f32⟩
  | 12 => ⟨S4x2048x512, .f32⟩
  | 13 => ⟨S_, .f32⟩
  | 14 => ⟨S512, .f32⟩
  | 15 => ⟨S1x1x512, .f32⟩
  | 16 => ⟨S4x2048x512, .f32⟩
  | 17 => ⟨S4x2048x512, .f32⟩
  | 18 => ⟨S_, .f32⟩
  | 19 => ⟨S512, .f32⟩
  | 20 => ⟨S1x1x512, .f32⟩
  | 21 => ⟨S_, .f32⟩
  | 22 => ⟨S1x31x512, .f32⟩
  | 23 => ⟨S1x31x512, .f32⟩
  | 24 => ⟨S_, .f32⟩
  | 25 => ⟨S4x2078x512, .f32⟩
  | 26 => ⟨S4x2078x512, .f32⟩
  | 27 => ⟨S4x2048x512, .f32⟩
  | 28 => ⟨S_, .f32⟩
  | 29 => ⟨S512, .f32⟩
  | 30 => ⟨S1x1x512, .f32⟩
  | 31 => ⟨S4x2048x512, .f32⟩
  | 32 => ⟨S4x2048x512, .f32⟩
  | 33 => ⟨S_, .f32⟩
  | 34 => ⟨S512, .f32⟩
  | 35 => ⟨S1x1x512, .f32⟩
  | 36 => ⟨S_, .f32⟩
  | 37 => ⟨S1x31x512, .f32⟩
  | 38 => ⟨S1x31x512, .f32⟩
  | 39 => ⟨S_, .f32⟩
  | 40 => ⟨S4x2078x512, .f32⟩
  | 41 => ⟨S4x2078x512, .f32⟩
  | 42 => ⟨S4x2048x512, .f32⟩
  | 43 => ⟨S_, .f32⟩
  | 44 => ⟨S512, .f32⟩
  | 45 => ⟨S1x1x512, .f32⟩
  | 46 => ⟨S4x2048x512, .f32⟩
  | 47 => ⟨S4x2048x512, .f32⟩
  | 48 => ⟨S_, .f32⟩
  | 49 => ⟨S512, .f32⟩
  | 50 => ⟨S1x1x512, .f32⟩
  | 51 => ⟨S_, .f32⟩
  | 52 => ⟨S1x31x512, .f32⟩
  | 53 => ⟨S1x31x512, .f32⟩
  | 54 => ⟨S_, .f32⟩
  | 55 => ⟨S4x2078x512, .f32⟩
  | 56 => ⟨S4x2078x512, .f32⟩
  | 57 => ⟨S4x2048x512, .f32⟩
  | 58 => ⟨S_, .f32⟩
  | 59 => ⟨S512, .f32⟩
  | 60 => ⟨S1x1x512, .f32⟩
  | 61 => ⟨S4x2048x512, .f32⟩
  | 62 => ⟨S4x2048x512, .f32⟩
  | 63 => ⟨S_, .f32⟩
  | 64 => ⟨S512, .f32⟩
  | 65 => ⟨S1x1x512, .f32⟩
  | 66 => ⟨S_, .f32⟩
  | 67 => ⟨S1x31x512, .f32⟩
  | 68 => ⟨S1x31x512, .f32⟩
  | 69 => ⟨S_, .f32⟩
  | 70 => ⟨S4x2078x512, .f32⟩
  | 71 => ⟨S4x2078x512, .f32⟩
  | 72 => ⟨S4x2048x512, .f32⟩
  | 73 => ⟨S_, .f32⟩
  | 74 => ⟨S512, .f32⟩
  | 75 => ⟨S1x1x512, .f32⟩
  | 76 => ⟨S4x2048x512, .f32⟩
  | 77 => ⟨S4x2048x512, .f32⟩
  | 78 => ⟨S_, .f32⟩
  | 79 => ⟨S512, .f32⟩
  | 80 => ⟨S1x1x512, .f32⟩
  | 81 => ⟨S_, .f32⟩
  | 82 => ⟨S1x31x512, .f32⟩
  | 83 => ⟨S1x31x512, .f32⟩
  | 84 => ⟨S_, .f32⟩
  | 85 => ⟨S4x2078x512, .f32⟩
  | 86 => ⟨S4x2078x512, .f32⟩
  | 87 => ⟨S4x2048x512, .f32⟩
  | 88 => ⟨S_, .f32⟩
  | 89 => ⟨S512, .f32⟩
  | 90 => ⟨S1x1x512, .f32⟩
  | 91 => ⟨S4x2048x512, .f32⟩
  | 92 => ⟨S4x2048x512, .f32⟩
  | 93 => ⟨S_, .f32⟩
  | 94 => ⟨S512, .f32⟩
  | 95 => ⟨S1x1x512, .f32⟩
  | 96 => ⟨S_, .f32⟩
  | 97 => ⟨S1x31x512, .f32⟩
  | 98 => ⟨S1x31x512, .f32⟩
  | 99 => ⟨S_, .f32⟩
  | 100 => ⟨S4x2078x512, .f32⟩
  | 101 => ⟨S4x2078x512, .f32⟩
  | 102 => ⟨S4x2048x512, .f32⟩
  | 103 => ⟨S_, .f32⟩
  | 104 => ⟨S512, .f32⟩
  | 105 => ⟨S1x1x512, .f32⟩
  | 106 => ⟨S4x2048x512, .f32⟩
  | 107 => ⟨S4x2048x512, .f32⟩
  | 108 => ⟨S_, .f32⟩
  | 109 => ⟨S512, .f32⟩
  | 110 => ⟨S1x1x512, .f32⟩
  | 111 => ⟨S_, .f32⟩
  | 112 => ⟨S1x31x512, .f32⟩
  | 113 => ⟨S1x31x512, .f32⟩
  | 114 => ⟨S_, .f32⟩
  | 115 => ⟨S4x2078x512, .f32⟩
  | 116 => ⟨S4x2078x512, .f32⟩
  | 117 => ⟨S4x2048x512, .f32⟩
  | 118 => ⟨S_, .f32⟩
  | 119 => ⟨S512, .f32⟩
  | 120 => ⟨S1x1x512, .f32⟩
  | 121 => ⟨S4x2048x512, .f32⟩
  | 122 => ⟨S4x2048x512, .f32⟩
  | 123 => ⟨S_, .f32⟩
  | 124 => ⟨S512, .f32⟩
  | 125 => ⟨S1x1x512, .f32⟩
  | 126 => ⟨S_, .f32⟩
  | 127 => ⟨S1x31x512, .f32⟩
  | _ => ⟨S4x2048x512, .f32⟩

abbrev hbmTy0_3 (i : Nat) : BufTy := match i % 128 with
  | 0 => ⟨S1x31x512, .f32⟩
  | 1 => ⟨S_, .f32⟩
  | 2 => ⟨S4x2078x512, .f32⟩
  | 3 => ⟨S4x2078x512, .f32⟩
  | 4 => ⟨S4x2048x512, .f32⟩
  | 5 => ⟨S_, .f32⟩
  | 6 => ⟨S512, .f32⟩
  | 7 => ⟨S1x1x512, .f32⟩
  | 8 => ⟨S4x2048x512, .f32⟩
  | 9 => ⟨S4x2048x512, .f32⟩
  | 10 => ⟨S_, .f32⟩
  | 11 => ⟨S512, .f32⟩
  | 12 => ⟨S1x1x512, .f32⟩
  | 13 => ⟨S_, .f32⟩
  | 14 => ⟨S1x31x512, .f32⟩
  | 15 => ⟨S1x31x512, .f32⟩
  | 16 => ⟨S_, .f32⟩
  | 17 => ⟨S4x2078x512, .f32⟩
  | 18 => ⟨S4x2078x512, .f32⟩
  | 19 => ⟨S4x2048x512, .f32⟩
  | 20 => ⟨S_, .f32⟩
  | 21 => ⟨S512, .f32⟩
  | 22 => ⟨S1x1x512, .f32⟩
  | 23 => ⟨S4x2048x512, .f32⟩
  | 24 => ⟨S4x2048x512, .f32⟩
  | 25 => ⟨S_, .f32⟩
  | 26 => ⟨S512, .f32⟩
  | 27 => ⟨S1x1x512, .f32⟩
  | 28 => ⟨S_, .f32⟩
  | 29 => ⟨S1x31x512, .f32⟩
  | 30 => ⟨S1x31x512, .f32⟩
  | 31 => ⟨S_, .f32⟩
  | 32 => ⟨S4x2078x512, .f32⟩
  | 33 => ⟨S4x2078x512, .f32⟩
  | 34 => ⟨S4x2048x512, .f32⟩
  | 35 => ⟨S_, .f32⟩
  | 36 => ⟨S512, .f32⟩
  | 37 => ⟨S1x1x512, .f32⟩
  | 38 => ⟨S4x2048x512, .f32⟩
  | 39 => ⟨S4x2048x512, .f32⟩
  | 40 => ⟨S_, .f32⟩
  | 41 => ⟨S512, .f32⟩
  | 42 => ⟨S1x1x512, .f32⟩
  | 43 => ⟨S_, .f32⟩
  | 44 => ⟨S1x31x512, .f32⟩
  | 45 => ⟨S1x31x512, .f32⟩
  | 46 => ⟨S_, .f32⟩
  | 47 => ⟨S4x2078x512, .f32⟩
  | 48 => ⟨S4x2078x512, .f32⟩
  | 49 => ⟨S4x2048x512, .f32⟩
  | 50 => ⟨S_, .f32⟩
  | 51 => ⟨S512, .f32⟩
  | 52 => ⟨S1x1x512, .f32⟩
  | 53 => ⟨S4x2048x512, .f32⟩
  | 54 => ⟨S4x2048x512, .f32⟩
  | 55 => ⟨S_, .f32⟩
  | 56 => ⟨S512, .f32⟩
  | 57 => ⟨S1x1x512, .f32⟩
  | 58 => ⟨S_, .f32⟩
  | 59 => ⟨S1x31x512, .f32⟩
  | 60 => ⟨S1x31x512, .f32⟩
  | 61 => ⟨S_, .f32⟩
  | 62 => ⟨S4x2078x512, .f32⟩
  | 63 => ⟨S4x2078x512, .f32⟩
  | 64 => ⟨S4x2048x512, .f32⟩
  | 65 => ⟨S_, .f32⟩
  | 66 => ⟨S512, .f32⟩
  | 67 => ⟨S1x1x512, .f32⟩
  | 68 => ⟨S4x2048x512, .f32⟩
  | 69 => ⟨S4x2048x512, .f32⟩
  | 70 => ⟨S_, .f32⟩
  | 71 => ⟨S512, .f32⟩
  | 72 => ⟨S1x1x512, .f32⟩
  | 73 => ⟨S_, .f32⟩
  | 74 => ⟨S1x31x512, .f32⟩
  | 75 => ⟨S1x31x512, .f32⟩
  | 76 => ⟨S_, .f32⟩
  | 77 => ⟨S4x2078x512, .f32⟩
  | 78 => ⟨S4x2078x512, .f32⟩
  | 79 => ⟨S4x2048x512, .f32⟩
  | 80 => ⟨S_, .f32⟩
  | 81 => ⟨S512, .f32⟩
  | 82 => ⟨S1x1x512, .f32⟩
  | 83 => ⟨S4x2048x512, .f32⟩
  | 84 => ⟨S4x2048x512, .f32⟩
  | 85 => ⟨S_, .f32⟩
  | 86 => ⟨S512, .f32⟩
  | 87 => ⟨S1x1x512, .f32⟩
  | 88 => ⟨S_, .f32⟩
  | 89 => ⟨S1x31x512, .f32⟩
  | 90 => ⟨S1x31x512, .f32⟩
  | 91 => ⟨S_, .f32⟩
  | 92 => ⟨S4x2078x512, .f32⟩
  | 93 => ⟨S4x2078x512, .f32⟩
  | 94 => ⟨S4x2048x512, .f32⟩
  | 95 => ⟨S_, .f32⟩
  | 96 => ⟨S512, .f32⟩
  | 97 => ⟨S1x1x512, .f32⟩
  | 98 => ⟨S4x2048x512, .f32⟩
  | 99 => ⟨S4x2048x512, .f32⟩
  | 100 => ⟨S_, .f32⟩
  | 101 => ⟨S512, .f32⟩
  | 102 => ⟨S1x1x512, .f32⟩
  | 103 => ⟨S_, .f32⟩
  | 104 => ⟨S1x31x512, .f32⟩
  | 105 => ⟨S1x31x512, .f32⟩
  | 106 => ⟨S_, .f32⟩
  | 107 => ⟨S4x2078x512, .f32⟩
  | 108 => ⟨S4x2078x512, .f32⟩
  | 109 => ⟨S4x2048x512, .f32⟩
  | 110 => ⟨S_, .f32⟩
  | 111 => ⟨S512, .f32⟩
  | 112 => ⟨S1x1x512, .f32⟩
  | 113 => ⟨S4x2048x512, .f32⟩
  | 114 => ⟨S4x2048x512, .f32⟩
  | 115 => ⟨S_, .f32⟩
  | 116 => ⟨S512, .f32⟩
  | 117 => ⟨S1x1x512, .f32⟩
  | 118 => ⟨S_, .f32⟩
  | 119 => ⟨S1x31x512, .f32⟩
  | 120 => ⟨S1x31x512, .f32⟩
  | 121 => ⟨S_, .f32⟩
  | 122 => ⟨S4x2078x512, .f32⟩
  | 123 => ⟨S4x2078x512, .f32⟩
  | 124 => ⟨S4x2048x512, .f32⟩
  | 125 => ⟨S_, .f32⟩
  | 126 => ⟨S512, .f32⟩
  | 127 => ⟨S1x1x512, .f32⟩
  | _ => ⟨S4x2048x512, .f32⟩

abbrev hbmTy0_4 (i : Nat) : BufTy := match i % 128 with
  | 0 => ⟨S4x2048x512, .f32⟩
  | 1 => ⟨S4x2048x512, .f32⟩
  | 2 => ⟨S_, .f32⟩
  | 3 => ⟨S512, .f32⟩
  | 4 => ⟨S1x1x512, .f32⟩
  | 5 => ⟨S_, .f32⟩
  | 6 => ⟨S1x31x512, .f32⟩
  | 7 => ⟨S1x31x512, .f32⟩
  | 8 => ⟨S_, .f32⟩
  | 9 => ⟨S4x2078x512, .f32⟩
  | 10 => ⟨S4x2078x512, .f32⟩
  | 11 => ⟨S4x2048x512, .f32⟩
  | 12 => ⟨S_, .f32⟩
  | 13 => ⟨S512, .f32⟩
  | 14 => ⟨S1x1x512, .f32⟩
  | 15 => ⟨S4x2048x512, .f32⟩
  | 16 => ⟨S4x2048x512, .f32⟩
  | 17 => ⟨S_, .f32⟩
  | 18 => ⟨S512, .f32⟩
  | 19 => ⟨S1x1x512, .f32⟩
  | 20 => ⟨S_, .f32⟩
  | 21 => ⟨S1x31x512, .f32⟩
  | 22 => ⟨S1x31x512, .f32⟩
  | 23 => ⟨S_, .f32⟩
  | 24 => ⟨S4x2078x512, .f32⟩
  | 25 => ⟨S4x2078x512, .f32⟩
  | 26 => ⟨S4x2048x512, .f32⟩
  | 27 => ⟨S_, .f32⟩
  | 28 => ⟨S512, .f32⟩
  | 29 => ⟨S1x1x512, .f32⟩
  | 30 => ⟨S4x2048x512, .f32⟩
  | 31 => ⟨S4x2048x512, .f32⟩
  | 32 => ⟨S_, .f32⟩
  | 33 => ⟨S512, .f32⟩
  | 34 => ⟨S1x1x512, .f32⟩
  | 35 => ⟨S_, .f32⟩
  | 36 => ⟨S1x31x512, .f32⟩
  | 37 => ⟨S1x31x512, .f32⟩
  | 38 => ⟨S_, .f32⟩
  | 39 => ⟨S4x2078x512, .f32⟩
  | 40 => ⟨S4x2078x512, .f32⟩
  | 41 => ⟨S4x2048x512, .f32⟩
  | 42 => ⟨S_, .f32⟩
  | 43 => ⟨S512, .f32⟩
  | 44 => ⟨S1x1x512, .f32⟩
  | 45 => ⟨S4x2048x512, .f32⟩
  | 46 => ⟨S4x2048x512, .f32⟩
  | 47 => ⟨S_, .f32⟩
  | 48 => ⟨S512, .f32⟩
  | 49 => ⟨S1x1x512, .f32⟩
  | 50 => ⟨S_, .f32⟩
  | 51 => ⟨S1x31x512, .f32⟩
  | 52 => ⟨S1x31x512, .f32⟩
  | 53 => ⟨S_, .f32⟩
  | 54 => ⟨S4x2078x512, .f32⟩
  | 55 => ⟨S4x2078x512, .f32⟩
  | 56 => ⟨S4x2048x512, .f32⟩
  | 57 => ⟨S_, .f32⟩
  | 58 => ⟨S512, .f32⟩
  | 59 => ⟨S1x1x512, .f32⟩
  | 60 => ⟨S4x2048x512, .f32⟩
  | 61 => ⟨S4x2048x512, .f32⟩
  | 62 => ⟨S_, .f32⟩
  | 63 => ⟨S512, .f32⟩
  | 64 => ⟨S1x1x512, .f32⟩
  | 65 => ⟨S_, .f32⟩
  | 66 => ⟨S1x31x512, .f32⟩
  | 67 => ⟨S1x31x512, .f32⟩
  | 68 => ⟨S_, .f32⟩
  | 69 => ⟨S4x2078x512, .f32⟩
  | 70 => ⟨S4x2078x512, .f32⟩
  | 71 => ⟨S4x2048x512, .f32⟩
  | 72 => ⟨S_, .f32⟩
  | 73 => ⟨S512, .f32⟩
  | 74 => ⟨S1x1x512, .f32⟩
  | 75 => ⟨S4x2048x512, .f32⟩
  | 76 => ⟨S4x2048x512, .f32⟩
  | 77 => ⟨S_, .f32⟩
  | 78 => ⟨S512, .f32⟩
  | 79 => ⟨S1x1x512, .f32⟩
  | 80 => ⟨S_, .f32⟩
  | 81 => ⟨S1x31x512, .f32⟩
  | 82 => ⟨S1x31x512, .f32⟩
  | 83 => ⟨S_, .f32⟩
  | 84 => ⟨S4x2078x512, .f32⟩
  | 85 => ⟨S4x2078x512, .f32⟩
  | 86 => ⟨S4x2048x512, .f32⟩
  | 87 => ⟨S_, .f32⟩
  | 88 => ⟨S512, .f32⟩
  | 89 => ⟨S1x1x512, .f32⟩
  | 90 => ⟨S4x2048x512, .f32⟩
  | 91 => ⟨S4x2048x512, .f32⟩
  | 92 => ⟨S_, .f32⟩
  | 93 => ⟨S512, .f32⟩
  | 94 => ⟨S1x1x512, .f32⟩
  | 95 => ⟨S_, .f32⟩
  | 96 => ⟨S1x31x512, .f32⟩
  | 97 => ⟨S1x31x512, .f32⟩
  | 98 => ⟨S_, .f32⟩
  | 99 => ⟨S4x2078x512, .f32⟩
  | 100 => ⟨S4x2078x512, .f32⟩
  | 101 => ⟨S4x2048x512, .f32⟩
  | 102 => ⟨S_, .f32⟩
  | 103 => ⟨S512, .f32⟩
  | 104 => ⟨S1x1x512, .f32⟩
  | 105 => ⟨S4x2048x512, .f32⟩
  | 106 => ⟨S4x2048x512, .f32⟩
  | 107 => ⟨S_, .f32⟩
  | 108 => ⟨S512, .f32⟩
  | 109 => ⟨S1x1x512, .f32⟩
  | 110 => ⟨S_, .f32⟩
  | 111 => ⟨S1x31x512, .f32⟩
  | 112 => ⟨S1x31x512, .f32⟩
  | 113 => ⟨S_, .f32⟩
  | 114 => ⟨S4x2078x512, .f32⟩
  | 115 => ⟨S4x2078x512, .f32⟩
  | 116 => ⟨S4x2048x512, .f32⟩
  | 117 => ⟨S_, .f32⟩
  | 118 => ⟨S512, .f32⟩
  | 119 => ⟨S1x1x512, .f32⟩
  | 120 => ⟨S4x2048x512, .f32⟩
  | 121 => ⟨S4x2048x512, .f32⟩
  | 122 => ⟨S_, .f32⟩
  | 123 => ⟨S512, .f32⟩
  | 124 => ⟨S1x1x512, .f32⟩
  | 125 => ⟨S_, .f32⟩
  | 126 => ⟨S1x31x512, .f32⟩
  | 127 => ⟨S1x31x512, .f32⟩
  | _ => ⟨S4x2048x512, .f32⟩

abbrev hbmTy0_5 (i : Nat) : BufTy := match i % 128 with
  | 0 => ⟨S_, .f32⟩
  | 1 => ⟨S4x2078x512, .f32⟩
  | 2 => ⟨S4x2078x512, .f32⟩
  | 3 => ⟨S4x2048x512, .f32⟩
  | 4 => ⟨S_, .f32⟩
  | 5 => ⟨S512, .f32⟩
  | 6 => ⟨S1x1x512, .f32⟩
  | 7 => ⟨S4x2048x512, .f32⟩
  | 8 => ⟨S4x2048x512, .f32⟩
  | 9 => ⟨S_, .f32⟩
  | 10 => ⟨S512, .f32⟩
  | 11 => ⟨S1x1x512, .f32⟩
  | 12 => ⟨S_, .f32⟩
  | 13 => ⟨S1x31x512, .f32⟩
  | 14 => ⟨S1x31x512, .f32⟩
  | 15 => ⟨S_, .f32⟩
  | 16 => ⟨S4x2078x512, .f32⟩
  | 17 => ⟨S4x2078x512, .f32⟩
  | 18 => ⟨S4x2048x512, .f32⟩
  | 19 => ⟨S_, .f32⟩
  | 20 => ⟨S512, .f32⟩
  | 21 => ⟨S1x1x512, .f32⟩
  | 22 => ⟨S4x2048x512, .f32⟩
  | 23 => ⟨S4x2048x512, .f32⟩
  | 24 => ⟨S_, .f32⟩
  | 25 => ⟨S512, .f32⟩
  | 26 => ⟨S1x1x512, .f32⟩
  | 27 => ⟨S_, .f32⟩
  | 28 => ⟨S1x31x512, .f32⟩
  | 29 => ⟨S1x31x512, .f32⟩
  | 30 => ⟨S_, .f32⟩
  | 31 => ⟨S4x2078x512, .f32⟩
  | 32 => ⟨S4x2078x512, .f32⟩
  | 33 => ⟨S4x2048x512, .f32⟩
  | 34 => ⟨S_, .f32⟩
  | 35 => ⟨S512, .f32⟩
  | 36 => ⟨S1x1x512, .f32⟩
  | 37 => ⟨S4x2048x512, .f32⟩
  | 38 => ⟨S4x2048x512, .f32⟩
  | 39 => ⟨S_, .f32⟩
  | 40 => ⟨S512, .f32⟩
  | 41 => ⟨S1x1x512, .f32⟩
  | 42 => ⟨S_, .f32⟩
  | 43 => ⟨S1x31x512, .f32⟩
  | 44 => ⟨S1x31x512, .f32⟩
  | 45 => ⟨S_, .f32⟩
  | 46 => ⟨S4x2078x512, .f32⟩
  | 47 => ⟨S4x2078x512, .f32⟩
  | 48 => ⟨S4x2048x512, .f32⟩
  | 49 => ⟨S_, .f32⟩
  | 50 => ⟨S512, .f32⟩
  | 51 => ⟨S1x1x512, .f32⟩
  | 52 => ⟨S4x2048x512, .f32⟩
  | 53 => ⟨S4x2048x512, .f32⟩
  | 54 => ⟨S_, .f32⟩
  | 55 => ⟨S512, .f32⟩
  | 56 => ⟨S1x1x512, .f32⟩
  | 57 => ⟨S_, .f32⟩
  | 58 => ⟨S1x31x512, .f32⟩
  | 59 => ⟨S1x31x512, .f32⟩
  | 60 => ⟨S_, .f32⟩
  | 61 => ⟨S4x2078x512, .f32⟩
  | 62 => ⟨S4x2078x512, .f32⟩
  | 63 => ⟨S4x2048x512, .f32⟩
  | 64 => ⟨S_, .f32⟩
  | 65 => ⟨S512, .f32⟩
  | 66 => ⟨S1x1x512, .f32⟩
  | 67 => ⟨S4x2048x512, .f32⟩
  | 68 => ⟨S4x2048x512, .f32⟩
  | 69 => ⟨S_, .f32⟩
  | 70 => ⟨S512, .f32⟩
  | 71 => ⟨S1x1x512, .f32⟩
  | 72 => ⟨S_, .f32⟩
  | 73 => ⟨S1x31x512, .f32⟩
  | 74 => ⟨S1x31x512, .f32⟩
  | 75 => ⟨S_, .f32⟩
  | 76 => ⟨S4x2078x512, .f32⟩
  | 77 => ⟨S4x2078x512, .f32⟩
  | 78 => ⟨S4x15x512, .f32⟩
  | 79 => ⟨S4x2048x512, .f32⟩
  | 80 => ⟨S4x15x512, .f32⟩
  | 81 => ⟨S4x2048x512, .f32⟩
  | 82 => ⟨S4x2048x512, .f32⟩
  | 83 => ⟨S4x2048x512, .f32⟩
  | 84 => ⟨S_, .f32⟩
  | 85 => ⟨S4x2048x2560, .f32⟩
  | 86 => ⟨S_, .f32⟩
  | 87 => ⟨S4x2048x2560, .f32⟩
  | 88 => ⟨S4x2048x2560, .f32⟩
  | 89 => ⟨S4x2048x512, .f32⟩
  | 90 => ⟨S4x2048x512, .bf16⟩
  | 91 => ⟨S4x2048x512, .f32⟩
  | 92 => ⟨S4x2048x512, .bf16⟩
  | 93 => ⟨S31x512, .f32⟩
  | 94 => ⟨S_, .f32⟩
  | 95 => ⟨S1x512, .f32⟩
  | 96 => ⟨S32x512, .f32⟩
  | 97 => ⟨S1x512, .f32⟩
  | 98 => ⟨S_, .f32⟩
  | 99 => ⟨S7x512, .f32⟩
  | 100 => ⟨S8x512, .f32⟩
  | _ => ⟨S4x2048x512, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | _ => ⟨S4x2048x512, .f32⟩

abbrev bufTy : (tb : Table) → Fin (tcTables nBuf tb) → BufTy
  | .hbm, ⟨i, _⟩ => hbmTy i
  | _, _ => ⟨S4x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_3 : Ref sig .tc := ⟨.hbm, 20, rfl⟩
abbrev main_v13 : Ref sig .tc := ⟨.hbm, 21, rfl⟩
abbrev main_v14 : Ref sig .tc := ⟨.hbm, 22, rfl⟩
abbrev main_cst_4 : Ref sig .tc := ⟨.hbm, 23, rfl⟩
abbrev main_v15 : Ref sig .tc := ⟨.hbm, 24, rfl⟩
abbrev main_cst_5 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_6 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩
abbrev main_v72 : Ref sig .tc := ⟨.hbm, 83, rfl⟩
abbrev main_v73 : Ref sig .tc := ⟨.hbm, 84, rfl⟩
abbrev main_v74 : Ref sig .tc := ⟨.hbm, 85, rfl⟩
abbrev main_v75 : Ref sig .tc := ⟨.hbm, 86, rfl⟩
abbrev main_v76 : Ref sig .tc := ⟨.hbm, 87, rfl⟩
abbrev main_v77 : Ref sig .tc := ⟨.hbm, 88, rfl⟩
abbrev main_v78 : Ref sig .tc := ⟨.hbm, 89, rfl⟩
abbrev main_v79 : Ref sig .tc := ⟨.hbm, 90, rfl⟩
abbrev main_v80 : Ref sig .tc := ⟨.hbm, 91, rfl⟩
abbrev main_v81 : Ref sig .tc := ⟨.hbm, 92, rfl⟩
abbrev main_v82 : Ref sig .tc := ⟨.hbm, 93, rfl⟩
abbrev main_v83 : Ref sig .tc := ⟨.hbm, 94, rfl⟩
abbrev main_v84 : Ref sig .tc := ⟨.hbm, 95, rfl⟩
abbrev main_v85 : Ref sig .tc := ⟨.hbm, 96, rfl⟩
abbrev main_v86 : Ref sig .tc := ⟨.hbm, 97, rfl⟩
abbrev main_v87 : Ref sig .tc := ⟨.hbm, 98, rfl⟩
abbrev main_v88 : Ref sig .tc := ⟨.hbm, 99, rfl⟩
abbrev main_v89 : Ref sig .tc := ⟨.hbm, 100, rfl⟩
abbrev main_v90 : Ref sig .tc := ⟨.hbm, 101, rfl⟩
abbrev main_v91 : Ref sig .tc := ⟨.hbm, 102, rfl⟩
abbrev main_v92 : Ref sig .tc := ⟨.hbm, 103, rfl⟩
abbrev main_v93 : Ref sig .tc := ⟨.hbm, 104, rfl⟩
abbrev main_v94 : Ref sig .tc := ⟨.hbm, 105, rfl⟩
abbrev main_v95 : Ref sig .tc := ⟨.hbm, 106, rfl⟩
abbrev main_v96 : Ref sig .tc := ⟨.hbm, 107, rfl⟩
abbrev main_v97 : Ref sig .tc := ⟨.hbm, 108, rfl⟩
abbrev main_v98 : Ref sig .tc := ⟨.hbm, 109, rfl⟩
abbrev main_v99 : Ref sig .tc := ⟨.hbm, 110, rfl⟩
abbrev main_v100 : Ref sig .tc := ⟨.hbm, 111, rfl⟩
abbrev main_v101 : Ref sig .tc := ⟨.hbm, 112, rfl⟩
abbrev main_v102 : Ref sig .tc := ⟨.hbm, 113, rfl⟩
abbrev main_v103 : Ref sig .tc := ⟨.hbm, 114, rfl⟩
abbrev main_v104 : Ref sig .tc := ⟨.hbm, 115, rfl⟩
abbrev main_v105 : Ref sig .tc := ⟨.hbm, 116, rfl⟩
abbrev main_v106 : Ref sig .tc := ⟨.hbm, 117, rfl⟩
abbrev main_v107 : Ref sig .tc := ⟨.hbm, 118, rfl⟩
abbrev main_v108 : Ref sig .tc := ⟨.hbm, 119, rfl⟩
abbrev main_v109 : Ref sig .tc := ⟨.hbm, 120, rfl⟩
abbrev main_v110 : Ref sig .tc := ⟨.hbm, 121, rfl⟩
abbrev main_v111 : Ref sig .tc := ⟨.hbm, 122, rfl⟩
abbrev main_v112 : Ref sig .tc := ⟨.hbm, 123, rfl⟩
abbrev main_v113 : Ref sig .tc := ⟨.hbm, 124, rfl⟩
abbrev main_v114 : Ref sig .tc := ⟨.hbm, 125, rfl⟩
abbrev main_v115 : Ref sig .tc := ⟨.hbm, 126, rfl⟩
abbrev main_v116 : Ref sig .tc := ⟨.hbm, 127, rfl⟩
abbrev main_v117 : Ref sig .tc := ⟨.hbm, 128, rfl⟩
abbrev main_v118 : Ref sig .tc := ⟨.hbm, 129, rfl⟩
abbrev main_v119 : Ref sig .tc := ⟨.hbm, 130, rfl⟩
abbrev main_v120 : Ref sig .tc := ⟨.hbm, 131, rfl⟩
abbrev main_v121 : Ref sig .tc := ⟨.hbm, 132, rfl⟩
abbrev main_v122 : Ref sig .tc := ⟨.hbm, 133, rfl⟩
abbrev main_v123 : Ref sig .tc := ⟨.hbm, 134, rfl⟩
abbrev main_v124 : Ref sig .tc := ⟨.hbm, 135, rfl⟩
abbrev main_v125 : Ref sig .tc := ⟨.hbm, 136, rfl⟩
abbrev main_v126 : Ref sig .tc := ⟨.hbm, 137, rfl⟩
abbrev main_v127 : Ref sig .tc := ⟨.hbm, 138, rfl⟩
abbrev main_v128 : Ref sig .tc := ⟨.hbm, 139, rfl⟩
abbrev main_v129 : Ref sig .tc := ⟨.hbm, 140, rfl⟩
abbrev main_v130 : Ref sig .tc := ⟨.hbm, 141, rfl⟩
abbrev main_v131 : Ref sig .tc := ⟨.hbm, 142, rfl⟩
abbrev main_v132 : Ref sig .tc := ⟨.hbm, 143, rfl⟩
abbrev main_v133 : Ref sig .tc := ⟨.hbm, 144, rfl⟩
abbrev main_v134 : Ref sig .tc := ⟨.hbm, 145, rfl⟩
abbrev main_v135 : Ref sig .tc := ⟨.hbm, 146, rfl⟩
abbrev main_v136 : Ref sig .tc := ⟨.hbm, 147, rfl⟩
abbrev main_v137 : Ref sig .tc := ⟨.hbm, 148, rfl⟩
abbrev main_v138 : Ref sig .tc := ⟨.hbm, 149, rfl⟩
abbrev main_v139 : Ref sig .tc := ⟨.hbm, 150, rfl⟩
abbrev main_v140 : Ref sig .tc := ⟨.hbm, 151, rfl⟩
abbrev main_v141 : Ref sig .tc := ⟨.hbm, 152, rfl⟩
abbrev main_v142 : Ref sig .tc := ⟨.hbm, 153, rfl⟩
abbrev main_v143 : Ref sig .tc := ⟨.hbm, 154, rfl⟩
abbrev main_v144 : Ref sig .tc := ⟨.hbm, 155, rfl⟩
abbrev main_v145 : Ref sig .tc := ⟨.hbm, 156, rfl⟩
abbrev main_v146 : Ref sig .tc := ⟨.hbm, 157, rfl⟩
abbrev main_v147 : Ref sig .tc := ⟨.hbm, 158, rfl⟩
abbrev main_v148 : Ref sig .tc := ⟨.hbm, 159, rfl⟩
abbrev main_v149 : Ref sig .tc := ⟨.hbm, 160, rfl⟩
abbrev main_v150 : Ref sig .tc := ⟨.hbm, 161, rfl⟩
abbrev main_v151 : Ref sig .tc := ⟨.hbm, 162, rfl⟩
abbrev main_v152 : Ref sig .tc := ⟨.hbm, 163, rfl⟩
abbrev main_v153 : Ref sig .tc := ⟨.hbm, 164, rfl⟩
abbrev main_v154 : Ref sig .tc := ⟨.hbm, 165, rfl⟩
abbrev main_v155 : Ref sig .tc := ⟨.hbm, 166, rfl⟩
abbrev main_v156 : Ref sig .tc := ⟨.hbm, 167, rfl⟩
abbrev main_v157 : Ref sig .tc := ⟨.hbm, 168, rfl⟩
abbrev main_v158 : Ref sig .tc := ⟨.hbm, 169, rfl⟩
abbrev main_v159 : Ref sig .tc := ⟨.hbm, 170, rfl⟩
abbrev main_v160 : Ref sig .tc := ⟨.hbm, 171, rfl⟩
abbrev main_v161 : Ref sig .tc := ⟨.hbm, 172, rfl⟩
abbrev main_v162 : Ref sig .tc := ⟨.hbm, 173, rfl⟩
abbrev main_v163 : Ref sig .tc := ⟨.hbm, 174, rfl⟩
abbrev main_v164 : Ref sig .tc := ⟨.hbm, 175, rfl⟩
abbrev main_v165 : Ref sig .tc := ⟨.hbm, 176, rfl⟩
abbrev main_v166 : Ref sig .tc := ⟨.hbm, 177, rfl⟩
abbrev main_v167 : Ref sig .tc := ⟨.hbm, 178, rfl⟩
abbrev main_v168 : Ref sig .tc := ⟨.hbm, 179, rfl⟩
abbrev main_v169 : Ref sig .tc := ⟨.hbm, 180, rfl⟩
abbrev main_v170 : Ref sig .tc := ⟨.hbm, 181, rfl⟩
abbrev main_v171 : Ref sig .tc := ⟨.hbm, 182, rfl⟩
abbrev main_v172 : Ref sig .tc := ⟨.hbm, 183, rfl⟩
abbrev main_v173 : Ref sig .tc := ⟨.hbm, 184, rfl⟩
abbrev main_v174 : Ref sig .tc := ⟨.hbm, 185, rfl⟩
abbrev main_v175 : Ref sig .tc := ⟨.hbm, 186, rfl⟩
abbrev main_v176 : Ref sig .tc := ⟨.hbm, 187, rfl⟩
abbrev main_v177 : Ref sig .tc := ⟨.hbm, 188, rfl⟩
abbrev main_v178 : Ref sig .tc := ⟨.hbm, 189, rfl⟩
abbrev main_v179 : Ref sig .tc := ⟨.hbm, 190, rfl⟩
abbrev main_v180 : Ref sig .tc := ⟨.hbm, 191, rfl⟩
abbrev main_v181 : Ref sig .tc := ⟨.hbm, 192, rfl⟩
abbrev main_v182 : Ref sig .tc := ⟨.hbm, 193, rfl⟩
abbrev main_v183 : Ref sig .tc := ⟨.hbm, 194, rfl⟩
abbrev main_v184 : Ref sig .tc := ⟨.hbm, 195, rfl⟩
abbrev main_v185 : Ref sig .tc := ⟨.hbm, 196, rfl⟩
abbrev main_v186 : Ref sig .tc := ⟨.hbm, 197, rfl⟩
abbrev main_v187 : Ref sig .tc := ⟨.hbm, 198, rfl⟩
abbrev main_v188 : Ref sig .tc := ⟨.hbm, 199, rfl⟩
abbrev main_v189 : Ref sig .tc := ⟨.hbm, 200, rfl⟩
abbrev main_v190 : Ref sig .tc := ⟨.hbm, 201, rfl⟩
abbrev main_v191 : Ref sig .tc := ⟨.hbm, 202, rfl⟩
abbrev main_v192 : Ref sig .tc := ⟨.hbm, 203, rfl⟩
abbrev main_v193 : Ref sig .tc := ⟨.hbm, 204, rfl⟩
abbrev main_v194 : Ref sig .tc := ⟨.hbm, 205, rfl⟩
abbrev main_v195 : Ref sig .tc := ⟨.hbm, 206, rfl⟩
abbrev main_v196 : Ref sig .tc := ⟨.hbm, 207, rfl⟩
abbrev main_v197 : Ref sig .tc := ⟨.hbm, 208, rfl⟩
abbrev main_v198 : Ref sig .tc := ⟨.hbm, 209, rfl⟩
abbrev main_v199 : Ref sig .tc := ⟨.hbm, 210, rfl⟩
abbrev main_v200 : Ref sig .tc := ⟨.hbm, 211, rfl⟩
abbrev main_v201 : Ref sig .tc := ⟨.hbm, 212, rfl⟩
abbrev main_v202 : Ref sig .tc := ⟨.hbm, 213, rfl⟩
abbrev main_v203 : Ref sig .tc := ⟨.hbm, 214, rfl⟩
abbrev main_v204 : Ref sig .tc := ⟨.hbm, 215, rfl⟩
abbrev main_v205 : Ref sig .tc := ⟨.hbm, 216, rfl⟩
abbrev main_v206 : Ref sig .tc := ⟨.hbm, 217, rfl⟩
abbrev main_v207 : Ref sig .tc := ⟨.hbm, 218, rfl⟩
abbrev main_v208 : Ref sig .tc := ⟨.hbm, 219, rfl⟩
abbrev main_v209 : Ref sig .tc := ⟨.hbm, 220, rfl⟩
abbrev main_v210 : Ref sig .tc := ⟨.hbm, 221, rfl⟩
abbrev main_v211 : Ref sig .tc := ⟨.hbm, 222, rfl⟩
abbrev main_v212 : Ref sig .tc := ⟨.hbm, 223, rfl⟩
abbrev main_v213 : Ref sig .tc := ⟨.hbm, 224, rfl⟩
abbrev main_v214 : Ref sig .tc := ⟨.hbm, 225, rfl⟩
abbrev main_v215 : Ref sig .tc := ⟨.hbm, 226, rfl⟩
abbrev main_v216 : Ref sig .tc := ⟨.hbm, 227, rfl⟩
abbrev main_v217 : Ref sig .tc := ⟨.hbm, 228, rfl⟩
abbrev main_v218 : Ref sig .tc := ⟨.hbm, 229, rfl⟩
abbrev main_v219 : Ref sig .tc := ⟨.hbm, 230, rfl⟩
abbrev main_v220 : Ref sig .tc := ⟨.hbm, 231, rfl⟩
abbrev main_v221 : Ref sig .tc := ⟨.hbm, 232, rfl⟩
abbrev main_v222 : Ref sig .tc := ⟨.hbm, 233, rfl⟩
abbrev main_v223 : Ref sig .tc := ⟨.hbm, 234, rfl⟩
abbrev main_v224 : Ref sig .tc := ⟨.hbm, 235, rfl⟩
abbrev main_v225 : Ref sig .tc := ⟨.hbm, 236, rfl⟩
abbrev main_v226 : Ref sig .tc := ⟨.hbm, 237, rfl⟩
abbrev main_v227 : Ref sig .tc := ⟨.hbm, 238, rfl⟩
abbrev main_v228 : Ref sig .tc := ⟨.hbm, 239, rfl⟩
abbrev main_v229 : Ref sig .tc := ⟨.hbm, 240, rfl⟩
abbrev main_v230 : Ref sig .tc := ⟨.hbm, 241, rfl⟩
abbrev main_v231 : Ref sig .tc := ⟨.hbm, 242, rfl⟩
abbrev main_v232 : Ref sig .tc := ⟨.hbm, 243, rfl⟩
abbrev main_v233 : Ref sig .tc := ⟨.hbm, 244, rfl⟩
abbrev main_v234 : Ref sig .tc := ⟨.hbm, 245, rfl⟩
abbrev main_v235 : Ref sig .tc := ⟨.hbm, 246, rfl⟩
abbrev main_v236 : Ref sig .tc := ⟨.hbm, 247, rfl⟩
abbrev main_v237 : Ref sig .tc := ⟨.hbm, 248, rfl⟩
abbrev main_v238 : Ref sig .tc := ⟨.hbm, 249, rfl⟩
abbrev main_cst_7 : Ref sig .tc := ⟨.hbm, 250, rfl⟩
abbrev main_v239 : Ref sig .tc := ⟨.hbm, 251, rfl⟩
abbrev main_v240 : Ref sig .tc := ⟨.hbm, 252, rfl⟩
abbrev main_cst_8 : Ref sig .tc := ⟨.hbm, 253, rfl⟩
abbrev main_v241 : Ref sig .tc := ⟨.hbm, 254, rfl⟩
abbrev main_v242 : Ref sig .tc := ⟨.hbm, 255, rfl⟩
abbrev main_cst_9 : Ref sig .tc := ⟨.hbm, 256, rfl⟩
abbrev main_v243 : Ref sig .tc := ⟨.hbm, 257, rfl⟩
abbrev main_v244 : Ref sig .tc := ⟨.hbm, 258, rfl⟩
abbrev main_v245 : Ref sig .tc := ⟨.hbm, 259, rfl⟩
abbrev main_v246 : Ref sig .tc := ⟨.hbm, 260, rfl⟩
abbrev main_cst_10 : Ref sig .tc := ⟨.hbm, 261, rfl⟩
abbrev main_v247 : Ref sig .tc := ⟨.hbm, 262, rfl⟩
abbrev main_v248 : Ref sig .tc := ⟨.hbm, 263, rfl⟩
abbrev main_cst_11 : Ref sig .tc := ⟨.hbm, 264, rfl⟩
abbrev main_v249 : Ref sig .tc := ⟨.hbm, 265, rfl⟩
abbrev main_cst_12 : Ref sig .tc := ⟨.hbm, 266, rfl⟩
abbrev main_v250 : Ref sig .tc := ⟨.hbm, 267, rfl⟩
abbrev main_v251 : Ref sig .tc := ⟨.hbm, 268, rfl⟩
abbrev main_cst_13 : Ref sig .tc := ⟨.hbm, 269, rfl⟩
abbrev main_v252 : Ref sig .tc := ⟨.hbm, 270, rfl⟩
abbrev main_v253 : Ref sig .tc := ⟨.hbm, 271, rfl⟩
abbrev main_v254 : Ref sig .tc := ⟨.hbm, 272, rfl⟩
abbrev main_v255 : Ref sig .tc := ⟨.hbm, 273, rfl⟩
abbrev main_cst_14 : Ref sig .tc := ⟨.hbm, 274, rfl⟩
abbrev main_v256 : Ref sig .tc := ⟨.hbm, 275, rfl⟩
abbrev main_v257 : Ref sig .tc := ⟨.hbm, 276, rfl⟩
abbrev main_cst_15 : Ref sig .tc := ⟨.hbm, 277, rfl⟩
abbrev main_v258 : Ref sig .tc := ⟨.hbm, 278, rfl⟩
abbrev main_v259 : Ref sig .tc := ⟨.hbm, 279, rfl⟩
abbrev main_cst_16 : Ref sig .tc := ⟨.hbm, 280, rfl⟩
abbrev main_v260 : Ref sig .tc := ⟨.hbm, 281, rfl⟩
abbrev main_v261 : Ref sig .tc := ⟨.hbm, 282, rfl⟩
abbrev main_v262 : Ref sig .tc := ⟨.hbm, 283, rfl⟩
abbrev main_cst_17 : Ref sig .tc := ⟨.hbm, 284, rfl⟩
abbrev main_v263 : Ref sig .tc := ⟨.hbm, 285, rfl⟩
abbrev main_v264 : Ref sig .tc := ⟨.hbm, 286, rfl⟩
abbrev main_v265 : Ref sig .tc := ⟨.hbm, 287, rfl⟩
abbrev main_v266 : Ref sig .tc := ⟨.hbm, 288, rfl⟩
abbrev main_cst_18 : Ref sig .tc := ⟨.hbm, 289, rfl⟩
abbrev main_v267 : Ref sig .tc := ⟨.hbm, 290, rfl⟩
abbrev main_v268 : Ref sig .tc := ⟨.hbm, 291, rfl⟩
abbrev main_cst_19 : Ref sig .tc := ⟨.hbm, 292, rfl⟩
abbrev main_v269 : Ref sig .tc := ⟨.hbm, 293, rfl⟩
abbrev main_v270 : Ref sig .tc := ⟨.hbm, 294, rfl⟩
abbrev main_cst_20 : Ref sig .tc := ⟨.hbm, 295, rfl⟩
abbrev main_v271 : Ref sig .tc := ⟨.hbm, 296, rfl⟩
abbrev main_v272 : Ref sig .tc := ⟨.hbm, 297, rfl⟩
abbrev main_v273 : Ref sig .tc := ⟨.hbm, 298, rfl⟩
abbrev main_cst_21 : Ref sig .tc := ⟨.hbm, 299, rfl⟩
abbrev main_v274 : Ref sig .tc := ⟨.hbm, 300, rfl⟩
abbrev main_v275 : Ref sig .tc := ⟨.hbm, 301, rfl⟩
abbrev main_v276 : Ref sig .tc := ⟨.hbm, 302, rfl⟩
abbrev main_v277 : Ref sig .tc := ⟨.hbm, 303, rfl⟩
abbrev main_cst_22 : Ref sig .tc := ⟨.hbm, 304, rfl⟩
abbrev main_v278 : Ref sig .tc := ⟨.hbm, 305, rfl⟩
abbrev main_v279 : Ref sig .tc := ⟨.hbm, 306, rfl⟩
abbrev main_cst_23 : Ref sig .tc := ⟨.hbm, 307, rfl⟩
abbrev main_v280 : Ref sig .tc := ⟨.hbm, 308, rfl⟩
abbrev main_v281 : Ref sig .tc := ⟨.hbm, 309, rfl⟩
abbrev main_cst_24 : Ref sig .tc := ⟨.hbm, 310, rfl⟩
abbrev main_v282 : Ref sig .tc := ⟨.hbm, 311, rfl⟩
abbrev main_v283 : Ref sig .tc := ⟨.hbm, 312, rfl⟩
abbrev main_v284 : Ref sig .tc := ⟨.hbm, 313, rfl⟩
abbrev main_cst_25 : Ref sig .tc := ⟨.hbm, 314, rfl⟩
abbrev main_v285 : Ref sig .tc := ⟨.hbm, 315, rfl⟩
abbrev main_v286 : Ref sig .tc := ⟨.hbm, 316, rfl⟩
abbrev main_v287 : Ref sig .tc := ⟨.hbm, 317, rfl⟩
abbrev main_v288 : Ref sig .tc := ⟨.hbm, 318, rfl⟩
abbrev main_cst_26 : Ref sig .tc := ⟨.hbm, 319, rfl⟩
abbrev main_v289 : Ref sig .tc := ⟨.hbm, 320, rfl⟩
abbrev main_v290 : Ref sig .tc := ⟨.hbm, 321, rfl⟩
abbrev main_cst_27 : Ref sig .tc := ⟨.hbm, 322, rfl⟩
abbrev main_v291 : Ref sig .tc := ⟨.hbm, 323, rfl⟩
abbrev main_v292 : Ref sig .tc := ⟨.hbm, 324, rfl⟩
abbrev main_cst_28 : Ref sig .tc := ⟨.hbm, 325, rfl⟩
abbrev main_v293 : Ref sig .tc := ⟨.hbm, 326, rfl⟩
abbrev main_v294 : Ref sig .tc := ⟨.hbm, 327, rfl⟩
abbrev main_v295 : Ref sig .tc := ⟨.hbm, 328, rfl⟩
abbrev main_cst_29 : Ref sig .tc := ⟨.hbm, 329, rfl⟩
abbrev main_v296 : Ref sig .tc := ⟨.hbm, 330, rfl⟩
abbrev main_v297 : Ref sig .tc := ⟨.hbm, 331, rfl⟩
abbrev main_v298 : Ref sig .tc := ⟨.hbm, 332, rfl⟩
abbrev main_v299 : Ref sig .tc := ⟨.hbm, 333, rfl⟩
abbrev main_cst_30 : Ref sig .tc := ⟨.hbm, 334, rfl⟩
abbrev main_v300 : Ref sig .tc := ⟨.hbm, 335, rfl⟩
abbrev main_v301 : Ref sig .tc := ⟨.hbm, 336, rfl⟩
abbrev main_cst_31 : Ref sig .tc := ⟨.hbm, 337, rfl⟩
abbrev main_v302 : Ref sig .tc := ⟨.hbm, 338, rfl⟩
abbrev main_v303 : Ref sig .tc := ⟨.hbm, 339, rfl⟩
abbrev main_cst_32 : Ref sig .tc := ⟨.hbm, 340, rfl⟩
abbrev main_v304 : Ref sig .tc := ⟨.hbm, 341, rfl⟩
abbrev main_v305 : Ref sig .tc := ⟨.hbm, 342, rfl⟩
abbrev main_v306 : Ref sig .tc := ⟨.hbm, 343, rfl⟩
abbrev main_cst_33 : Ref sig .tc := ⟨.hbm, 344, rfl⟩
abbrev main_v307 : Ref sig .tc := ⟨.hbm, 345, rfl⟩
abbrev main_v308 : Ref sig .tc := ⟨.hbm, 346, rfl⟩
abbrev main_v309 : Ref sig .tc := ⟨.hbm, 347, rfl⟩
abbrev main_v310 : Ref sig .tc := ⟨.hbm, 348, rfl⟩
abbrev main_cst_34 : Ref sig .tc := ⟨.hbm, 349, rfl⟩
abbrev main_v311 : Ref sig .tc := ⟨.hbm, 350, rfl⟩
abbrev main_v312 : Ref sig .tc := ⟨.hbm, 351, rfl⟩
abbrev main_cst_35 : Ref sig .tc := ⟨.hbm, 352, rfl⟩
abbrev main_v313 : Ref sig .tc := ⟨.hbm, 353, rfl⟩
abbrev main_v314 : Ref sig .tc := ⟨.hbm, 354, rfl⟩
abbrev main_cst_36 : Ref sig .tc := ⟨.hbm, 355, rfl⟩
abbrev main_v315 : Ref sig .tc := ⟨.hbm, 356, rfl⟩
abbrev main_v316 : Ref sig .tc := ⟨.hbm, 357, rfl⟩
abbrev main_v317 : Ref sig .tc := ⟨.hbm, 358, rfl⟩
abbrev main_cst_37 : Ref sig .tc := ⟨.hbm, 359, rfl⟩
abbrev main_v318 : Ref sig .tc := ⟨.hbm, 360, rfl⟩
abbrev main_v319 : Ref sig .tc := ⟨.hbm, 361, rfl⟩
abbrev main_v320 : Ref sig .tc := ⟨.hbm, 362, rfl⟩
abbrev main_v321 : Ref sig .tc := ⟨.hbm, 363, rfl⟩
abbrev main_cst_38 : Ref sig .tc := ⟨.hbm, 364, rfl⟩
abbrev main_v322 : Ref sig .tc := ⟨.hbm, 365, rfl⟩
abbrev main_v323 : Ref sig .tc := ⟨.hbm, 366, rfl⟩
abbrev main_cst_39 : Ref sig .tc := ⟨.hbm, 367, rfl⟩
abbrev main_v324 : Ref sig .tc := ⟨.hbm, 368, rfl⟩
abbrev main_v325 : Ref sig .tc := ⟨.hbm, 369, rfl⟩
abbrev main_cst_40 : Ref sig .tc := ⟨.hbm, 370, rfl⟩
abbrev main_v326 : Ref sig .tc := ⟨.hbm, 371, rfl⟩
abbrev main_v327 : Ref sig .tc := ⟨.hbm, 372, rfl⟩
abbrev main_v328 : Ref sig .tc := ⟨.hbm, 373, rfl⟩
abbrev main_cst_41 : Ref sig .tc := ⟨.hbm, 374, rfl⟩
abbrev main_v329 : Ref sig .tc := ⟨.hbm, 375, rfl⟩
abbrev main_v330 : Ref sig .tc := ⟨.hbm, 376, rfl⟩
abbrev main_v331 : Ref sig .tc := ⟨.hbm, 377, rfl⟩
abbrev main_v332 : Ref sig .tc := ⟨.hbm, 378, rfl⟩
abbrev main_cst_42 : Ref sig .tc := ⟨.hbm, 379, rfl⟩
abbrev main_v333 : Ref sig .tc := ⟨.hbm, 380, rfl⟩
abbrev main_v334 : Ref sig .tc := ⟨.hbm, 381, rfl⟩
abbrev main_cst_43 : Ref sig .tc := ⟨.hbm, 382, rfl⟩
abbrev main_v335 : Ref sig .tc := ⟨.hbm, 383, rfl⟩
abbrev main_v336 : Ref sig .tc := ⟨.hbm, 384, rfl⟩
abbrev main_cst_44 : Ref sig .tc := ⟨.hbm, 385, rfl⟩
abbrev main_v337 : Ref sig .tc := ⟨.hbm, 386, rfl⟩
abbrev main_v338 : Ref sig .tc := ⟨.hbm, 387, rfl⟩
abbrev main_v339 : Ref sig .tc := ⟨.hbm, 388, rfl⟩
abbrev main_cst_45 : Ref sig .tc := ⟨.hbm, 389, rfl⟩
abbrev main_v340 : Ref sig .tc := ⟨.hbm, 390, rfl⟩
abbrev main_v341 : Ref sig .tc := ⟨.hbm, 391, rfl⟩
abbrev main_v342 : Ref sig .tc := ⟨.hbm, 392, rfl⟩
abbrev main_v343 : Ref sig .tc := ⟨.hbm, 393, rfl⟩
abbrev main_cst_46 : Ref sig .tc := ⟨.hbm, 394, rfl⟩
abbrev main_v344 : Ref sig .tc := ⟨.hbm, 395, rfl⟩
abbrev main_v345 : Ref sig .tc := ⟨.hbm, 396, rfl⟩
abbrev main_cst_47 : Ref sig .tc := ⟨.hbm, 397, rfl⟩
abbrev main_v346 : Ref sig .tc := ⟨.hbm, 398, rfl⟩
abbrev main_v347 : Ref sig .tc := ⟨.hbm, 399, rfl⟩
abbrev main_cst_48 : Ref sig .tc := ⟨.hbm, 400, rfl⟩
abbrev main_v348 : Ref sig .tc := ⟨.hbm, 401, rfl⟩
abbrev main_v349 : Ref sig .tc := ⟨.hbm, 402, rfl⟩
abbrev main_v350 : Ref sig .tc := ⟨.hbm, 403, rfl⟩
abbrev main_cst_49 : Ref sig .tc := ⟨.hbm, 404, rfl⟩
abbrev main_v351 : Ref sig .tc := ⟨.hbm, 405, rfl⟩
abbrev main_v352 : Ref sig .tc := ⟨.hbm, 406, rfl⟩
abbrev main_v353 : Ref sig .tc := ⟨.hbm, 407, rfl⟩
abbrev main_v354 : Ref sig .tc := ⟨.hbm, 408, rfl⟩
abbrev main_cst_50 : Ref sig .tc := ⟨.hbm, 409, rfl⟩
abbrev main_v355 : Ref sig .tc := ⟨.hbm, 410, rfl⟩
abbrev main_v356 : Ref sig .tc := ⟨.hbm, 411, rfl⟩
abbrev main_cst_51 : Ref sig .tc := ⟨.hbm, 412, rfl⟩
abbrev main_v357 : Ref sig .tc := ⟨.hbm, 413, rfl⟩
abbrev main_v358 : Ref sig .tc := ⟨.hbm, 414, rfl⟩
abbrev main_cst_52 : Ref sig .tc := ⟨.hbm, 415, rfl⟩
abbrev main_v359 : Ref sig .tc := ⟨.hbm, 416, rfl⟩
abbrev main_v360 : Ref sig .tc := ⟨.hbm, 417, rfl⟩
abbrev main_v361 : Ref sig .tc := ⟨.hbm, 418, rfl⟩
abbrev main_cst_53 : Ref sig .tc := ⟨.hbm, 419, rfl⟩
abbrev main_v362 : Ref sig .tc := ⟨.hbm, 420, rfl⟩
abbrev main_v363 : Ref sig .tc := ⟨.hbm, 421, rfl⟩
abbrev main_v364 : Ref sig .tc := ⟨.hbm, 422, rfl⟩
abbrev main_v365 : Ref sig .tc := ⟨.hbm, 423, rfl⟩
abbrev main_cst_54 : Ref sig .tc := ⟨.hbm, 424, rfl⟩
abbrev main_v366 : Ref sig .tc := ⟨.hbm, 425, rfl⟩
abbrev main_v367 : Ref sig .tc := ⟨.hbm, 426, rfl⟩
abbrev main_cst_55 : Ref sig .tc := ⟨.hbm, 427, rfl⟩
abbrev main_v368 : Ref sig .tc := ⟨.hbm, 428, rfl⟩
abbrev main_v369 : Ref sig .tc := ⟨.hbm, 429, rfl⟩
abbrev main_cst_56 : Ref sig .tc := ⟨.hbm, 430, rfl⟩
abbrev main_v370 : Ref sig .tc := ⟨.hbm, 431, rfl⟩
abbrev main_v371 : Ref sig .tc := ⟨.hbm, 432, rfl⟩
abbrev main_v372 : Ref sig .tc := ⟨.hbm, 433, rfl⟩
abbrev main_cst_57 : Ref sig .tc := ⟨.hbm, 434, rfl⟩
abbrev main_v373 : Ref sig .tc := ⟨.hbm, 435, rfl⟩
abbrev main_v374 : Ref sig .tc := ⟨.hbm, 436, rfl⟩
abbrev main_v375 : Ref sig .tc := ⟨.hbm, 437, rfl⟩
abbrev main_v376 : Ref sig .tc := ⟨.hbm, 438, rfl⟩
abbrev main_cst_58 : Ref sig .tc := ⟨.hbm, 439, rfl⟩
abbrev main_v377 : Ref sig .tc := ⟨.hbm, 440, rfl⟩
abbrev main_v378 : Ref sig .tc := ⟨.hbm, 441, rfl⟩
abbrev main_cst_59 : Ref sig .tc := ⟨.hbm, 442, rfl⟩
abbrev main_v379 : Ref sig .tc := ⟨.hbm, 443, rfl⟩
abbrev main_v380 : Ref sig .tc := ⟨.hbm, 444, rfl⟩
abbrev main_cst_60 : Ref sig .tc := ⟨.hbm, 445, rfl⟩
abbrev main_v381 : Ref sig .tc := ⟨.hbm, 446, rfl⟩
abbrev main_v382 : Ref sig .tc := ⟨.hbm, 447, rfl⟩
abbrev main_v383 : Ref sig .tc := ⟨.hbm, 448, rfl⟩
abbrev main_cst_61 : Ref sig .tc := ⟨.hbm, 449, rfl⟩
abbrev main_v384 : Ref sig .tc := ⟨.hbm, 450, rfl⟩
abbrev main_v385 : Ref sig .tc := ⟨.hbm, 451, rfl⟩
abbrev main_v386 : Ref sig .tc := ⟨.hbm, 452, rfl⟩
abbrev main_v387 : Ref sig .tc := ⟨.hbm, 453, rfl⟩
abbrev main_cst_62 : Ref sig .tc := ⟨.hbm, 454, rfl⟩
abbrev main_v388 : Ref sig .tc := ⟨.hbm, 455, rfl⟩
abbrev main_v389 : Ref sig .tc := ⟨.hbm, 456, rfl⟩
abbrev main_cst_63 : Ref sig .tc := ⟨.hbm, 457, rfl⟩
abbrev main_v390 : Ref sig .tc := ⟨.hbm, 458, rfl⟩
abbrev main_v391 : Ref sig .tc := ⟨.hbm, 459, rfl⟩
abbrev main_cst_64 : Ref sig .tc := ⟨.hbm, 460, rfl⟩
abbrev main_v392 : Ref sig .tc := ⟨.hbm, 461, rfl⟩
abbrev main_v393 : Ref sig .tc := ⟨.hbm, 462, rfl⟩
abbrev main_v394 : Ref sig .tc := ⟨.hbm, 463, rfl⟩
abbrev main_cst_65 : Ref sig .tc := ⟨.hbm, 464, rfl⟩
abbrev main_v395 : Ref sig .tc := ⟨.hbm, 465, rfl⟩
abbrev main_v396 : Ref sig .tc := ⟨.hbm, 466, rfl⟩
abbrev main_v397 : Ref sig .tc := ⟨.hbm, 467, rfl⟩
abbrev main_v398 : Ref sig .tc := ⟨.hbm, 468, rfl⟩
abbrev main_cst_66 : Ref sig .tc := ⟨.hbm, 469, rfl⟩
abbrev main_v399 : Ref sig .tc := ⟨.hbm, 470, rfl⟩
abbrev main_v400 : Ref sig .tc := ⟨.hbm, 471, rfl⟩
abbrev main_cst_67 : Ref sig .tc := ⟨.hbm, 472, rfl⟩
abbrev main_v401 : Ref sig .tc := ⟨.hbm, 473, rfl⟩
abbrev main_v402 : Ref sig .tc := ⟨.hbm, 474, rfl⟩
abbrev main_cst_68 : Ref sig .tc := ⟨.hbm, 475, rfl⟩
abbrev main_v403 : Ref sig .tc := ⟨.hbm, 476, rfl⟩
abbrev main_v404 : Ref sig .tc := ⟨.hbm, 477, rfl⟩
abbrev main_v405 : Ref sig .tc := ⟨.hbm, 478, rfl⟩
abbrev main_cst_69 : Ref sig .tc := ⟨.hbm, 479, rfl⟩
abbrev main_v406 : Ref sig .tc := ⟨.hbm, 480, rfl⟩
abbrev main_v407 : Ref sig .tc := ⟨.hbm, 481, rfl⟩
abbrev main_v408 : Ref sig .tc := ⟨.hbm, 482, rfl⟩
abbrev main_v409 : Ref sig .tc := ⟨.hbm, 483, rfl⟩
abbrev main_cst_70 : Ref sig .tc := ⟨.hbm, 484, rfl⟩
abbrev main_v410 : Ref sig .tc := ⟨.hbm, 485, rfl⟩
abbrev main_v411 : Ref sig .tc := ⟨.hbm, 486, rfl⟩
abbrev main_cst_71 : Ref sig .tc := ⟨.hbm, 487, rfl⟩
abbrev main_v412 : Ref sig .tc := ⟨.hbm, 488, rfl⟩
abbrev main_v413 : Ref sig .tc := ⟨.hbm, 489, rfl⟩
abbrev main_cst_72 : Ref sig .tc := ⟨.hbm, 490, rfl⟩
abbrev main_v414 : Ref sig .tc := ⟨.hbm, 491, rfl⟩
abbrev main_v415 : Ref sig .tc := ⟨.hbm, 492, rfl⟩
abbrev main_v416 : Ref sig .tc := ⟨.hbm, 493, rfl⟩
abbrev main_cst_73 : Ref sig .tc := ⟨.hbm, 494, rfl⟩
abbrev main_v417 : Ref sig .tc := ⟨.hbm, 495, rfl⟩
abbrev main_v418 : Ref sig .tc := ⟨.hbm, 496, rfl⟩
abbrev main_v419 : Ref sig .tc := ⟨.hbm, 497, rfl⟩
abbrev main_v420 : Ref sig .tc := ⟨.hbm, 498, rfl⟩
abbrev main_cst_74 : Ref sig .tc := ⟨.hbm, 499, rfl⟩
abbrev main_v421 : Ref sig .tc := ⟨.hbm, 500, rfl⟩
abbrev main_v422 : Ref sig .tc := ⟨.hbm, 501, rfl⟩
abbrev main_cst_75 : Ref sig .tc := ⟨.hbm, 502, rfl⟩
abbrev main_v423 : Ref sig .tc := ⟨.hbm, 503, rfl⟩
abbrev main_v424 : Ref sig .tc := ⟨.hbm, 504, rfl⟩
abbrev main_cst_76 : Ref sig .tc := ⟨.hbm, 505, rfl⟩
abbrev main_v425 : Ref sig .tc := ⟨.hbm, 506, rfl⟩
abbrev main_v426 : Ref sig .tc := ⟨.hbm, 507, rfl⟩
abbrev main_v427 : Ref sig .tc := ⟨.hbm, 508, rfl⟩
abbrev main_cst_77 : Ref sig .tc := ⟨.hbm, 509, rfl⟩
abbrev main_v428 : Ref sig .tc := ⟨.hbm, 510, rfl⟩
abbrev main_v429 : Ref sig .tc := ⟨.hbm, 511, rfl⟩
abbrev main_v430 : Ref sig .tc := ⟨.hbm, 512, rfl⟩
abbrev main_v431 : Ref sig .tc := ⟨.hbm, 513, rfl⟩
abbrev main_cst_78 : Ref sig .tc := ⟨.hbm, 514, rfl⟩
abbrev main_v432 : Ref sig .tc := ⟨.hbm, 515, rfl⟩
abbrev main_v433 : Ref sig .tc := ⟨.hbm, 516, rfl⟩
abbrev main_cst_79 : Ref sig .tc := ⟨.hbm, 517, rfl⟩
abbrev main_v434 : Ref sig .tc := ⟨.hbm, 518, rfl⟩
abbrev main_v435 : Ref sig .tc := ⟨.hbm, 519, rfl⟩
abbrev main_cst_80 : Ref sig .tc := ⟨.hbm, 520, rfl⟩
abbrev main_v436 : Ref sig .tc := ⟨.hbm, 521, rfl⟩
abbrev main_v437 : Ref sig .tc := ⟨.hbm, 522, rfl⟩
abbrev main_v438 : Ref sig .tc := ⟨.hbm, 523, rfl⟩
abbrev main_cst_81 : Ref sig .tc := ⟨.hbm, 524, rfl⟩
abbrev main_v439 : Ref sig .tc := ⟨.hbm, 525, rfl⟩
abbrev main_v440 : Ref sig .tc := ⟨.hbm, 526, rfl⟩
abbrev main_v441 : Ref sig .tc := ⟨.hbm, 527, rfl⟩
abbrev main_v442 : Ref sig .tc := ⟨.hbm, 528, rfl⟩
abbrev main_cst_82 : Ref sig .tc := ⟨.hbm, 529, rfl⟩
abbrev main_v443 : Ref sig .tc := ⟨.hbm, 530, rfl⟩
abbrev main_v444 : Ref sig .tc := ⟨.hbm, 531, rfl⟩
abbrev main_cst_83 : Ref sig .tc := ⟨.hbm, 532, rfl⟩
abbrev main_v445 : Ref sig .tc := ⟨.hbm, 533, rfl⟩
abbrev main_v446 : Ref sig .tc := ⟨.hbm, 534, rfl⟩
abbrev main_cst_84 : Ref sig .tc := ⟨.hbm, 535, rfl⟩
abbrev main_v447 : Ref sig .tc := ⟨.hbm, 536, rfl⟩
abbrev main_v448 : Ref sig .tc := ⟨.hbm, 537, rfl⟩
abbrev main_v449 : Ref sig .tc := ⟨.hbm, 538, rfl⟩
abbrev main_cst_85 : Ref sig .tc := ⟨.hbm, 539, rfl⟩
abbrev main_v450 : Ref sig .tc := ⟨.hbm, 540, rfl⟩
abbrev main_v451 : Ref sig .tc := ⟨.hbm, 541, rfl⟩
abbrev main_v452 : Ref sig .tc := ⟨.hbm, 542, rfl⟩
abbrev main_v453 : Ref sig .tc := ⟨.hbm, 543, rfl⟩
abbrev main_cst_86 : Ref sig .tc := ⟨.hbm, 544, rfl⟩
abbrev main_v454 : Ref sig .tc := ⟨.hbm, 545, rfl⟩
abbrev main_v455 : Ref sig .tc := ⟨.hbm, 546, rfl⟩
abbrev main_cst_87 : Ref sig .tc := ⟨.hbm, 547, rfl⟩
abbrev main_v456 : Ref sig .tc := ⟨.hbm, 548, rfl⟩
abbrev main_v457 : Ref sig .tc := ⟨.hbm, 549, rfl⟩
abbrev main_cst_88 : Ref sig .tc := ⟨.hbm, 550, rfl⟩
abbrev main_v458 : Ref sig .tc := ⟨.hbm, 551, rfl⟩
abbrev main_v459 : Ref sig .tc := ⟨.hbm, 552, rfl⟩
abbrev main_v460 : Ref sig .tc := ⟨.hbm, 553, rfl⟩
abbrev main_cst_89 : Ref sig .tc := ⟨.hbm, 554, rfl⟩
abbrev main_v461 : Ref sig .tc := ⟨.hbm, 555, rfl⟩
abbrev main_v462 : Ref sig .tc := ⟨.hbm, 556, rfl⟩
abbrev main_v463 : Ref sig .tc := ⟨.hbm, 557, rfl⟩
abbrev main_v464 : Ref sig .tc := ⟨.hbm, 558, rfl⟩
abbrev main_cst_90 : Ref sig .tc := ⟨.hbm, 559, rfl⟩
abbrev main_v465 : Ref sig .tc := ⟨.hbm, 560, rfl⟩
abbrev main_v466 : Ref sig .tc := ⟨.hbm, 561, rfl⟩
abbrev main_cst_91 : Ref sig .tc := ⟨.hbm, 562, rfl⟩
abbrev main_v467 : Ref sig .tc := ⟨.hbm, 563, rfl⟩
abbrev main_v468 : Ref sig .tc := ⟨.hbm, 564, rfl⟩
abbrev main_cst_92 : Ref sig .tc := ⟨.hbm, 565, rfl⟩
abbrev main_v469 : Ref sig .tc := ⟨.hbm, 566, rfl⟩
abbrev main_v470 : Ref sig .tc := ⟨.hbm, 567, rfl⟩
abbrev main_v471 : Ref sig .tc := ⟨.hbm, 568, rfl⟩
abbrev main_cst_93 : Ref sig .tc := ⟨.hbm, 569, rfl⟩
abbrev main_v472 : Ref sig .tc := ⟨.hbm, 570, rfl⟩
abbrev main_v473 : Ref sig .tc := ⟨.hbm, 571, rfl⟩
abbrev main_v474 : Ref sig .tc := ⟨.hbm, 572, rfl⟩
abbrev main_v475 : Ref sig .tc := ⟨.hbm, 573, rfl⟩
abbrev main_cst_94 : Ref sig .tc := ⟨.hbm, 574, rfl⟩
abbrev main_v476 : Ref sig .tc := ⟨.hbm, 575, rfl⟩
abbrev main_v477 : Ref sig .tc := ⟨.hbm, 576, rfl⟩
abbrev main_cst_95 : Ref sig .tc := ⟨.hbm, 577, rfl⟩
abbrev main_v478 : Ref sig .tc := ⟨.hbm, 578, rfl⟩
abbrev main_v479 : Ref sig .tc := ⟨.hbm, 579, rfl⟩
abbrev main_cst_96 : Ref sig .tc := ⟨.hbm, 580, rfl⟩
abbrev main_v480 : Ref sig .tc := ⟨.hbm, 581, rfl⟩
abbrev main_v481 : Ref sig .tc := ⟨.hbm, 582, rfl⟩
abbrev main_v482 : Ref sig .tc := ⟨.hbm, 583, rfl⟩
abbrev main_cst_97 : Ref sig .tc := ⟨.hbm, 584, rfl⟩
abbrev main_v483 : Ref sig .tc := ⟨.hbm, 585, rfl⟩
abbrev main_v484 : Ref sig .tc := ⟨.hbm, 586, rfl⟩
abbrev main_v485 : Ref sig .tc := ⟨.hbm, 587, rfl⟩
abbrev main_v486 : Ref sig .tc := ⟨.hbm, 588, rfl⟩
abbrev main_cst_98 : Ref sig .tc := ⟨.hbm, 589, rfl⟩
abbrev main_v487 : Ref sig .tc := ⟨.hbm, 590, rfl⟩
abbrev main_v488 : Ref sig .tc := ⟨.hbm, 591, rfl⟩
abbrev main_cst_99 : Ref sig .tc := ⟨.hbm, 592, rfl⟩
abbrev main_v489 : Ref sig .tc := ⟨.hbm, 593, rfl⟩
abbrev main_v490 : Ref sig .tc := ⟨.hbm, 594, rfl⟩
abbrev main_cst_100 : Ref sig .tc := ⟨.hbm, 595, rfl⟩
abbrev main_v491 : Ref sig .tc := ⟨.hbm, 596, rfl⟩
abbrev main_v492 : Ref sig .tc := ⟨.hbm, 597, rfl⟩
abbrev main_v493 : Ref sig .tc := ⟨.hbm, 598, rfl⟩
abbrev main_cst_101 : Ref sig .tc := ⟨.hbm, 599, rfl⟩
abbrev main_v494 : Ref sig .tc := ⟨.hbm, 600, rfl⟩
abbrev main_v495 : Ref sig .tc := ⟨.hbm, 601, rfl⟩
abbrev main_v496 : Ref sig .tc := ⟨.hbm, 602, rfl⟩
abbrev main_v497 : Ref sig .tc := ⟨.hbm, 603, rfl⟩
abbrev main_cst_102 : Ref sig .tc := ⟨.hbm, 604, rfl⟩
abbrev main_v498 : Ref sig .tc := ⟨.hbm, 605, rfl⟩
abbrev main_v499 : Ref sig .tc := ⟨.hbm, 606, rfl⟩
abbrev main_cst_103 : Ref sig .tc := ⟨.hbm, 607, rfl⟩
abbrev main_v500 : Ref sig .tc := ⟨.hbm, 608, rfl⟩
abbrev main_v501 : Ref sig .tc := ⟨.hbm, 609, rfl⟩
abbrev main_cst_104 : Ref sig .tc := ⟨.hbm, 610, rfl⟩
abbrev main_v502 : Ref sig .tc := ⟨.hbm, 611, rfl⟩
abbrev main_v503 : Ref sig .tc := ⟨.hbm, 612, rfl⟩
abbrev main_v504 : Ref sig .tc := ⟨.hbm, 613, rfl⟩
abbrev main_cst_105 : Ref sig .tc := ⟨.hbm, 614, rfl⟩
abbrev main_v505 : Ref sig .tc := ⟨.hbm, 615, rfl⟩
abbrev main_v506 : Ref sig .tc := ⟨.hbm, 616, rfl⟩
abbrev main_v507 : Ref sig .tc := ⟨.hbm, 617, rfl⟩
abbrev main_v508 : Ref sig .tc := ⟨.hbm, 618, rfl⟩
abbrev main_cst_106 : Ref sig .tc := ⟨.hbm, 619, rfl⟩
abbrev main_v509 : Ref sig .tc := ⟨.hbm, 620, rfl⟩
abbrev main_v510 : Ref sig .tc := ⟨.hbm, 621, rfl⟩
abbrev main_cst_107 : Ref sig .tc := ⟨.hbm, 622, rfl⟩
abbrev main_v511 : Ref sig .tc := ⟨.hbm, 623, rfl⟩
abbrev main_v512 : Ref sig .tc := ⟨.hbm, 624, rfl⟩
abbrev main_cst_108 : Ref sig .tc := ⟨.hbm, 625, rfl⟩
abbrev main_v513 : Ref sig .tc := ⟨.hbm, 626, rfl⟩
abbrev main_v514 : Ref sig .tc := ⟨.hbm, 627, rfl⟩
abbrev main_v515 : Ref sig .tc := ⟨.hbm, 628, rfl⟩
abbrev main_cst_109 : Ref sig .tc := ⟨.hbm, 629, rfl⟩
abbrev main_v516 : Ref sig .tc := ⟨.hbm, 630, rfl⟩
abbrev main_v517 : Ref sig .tc := ⟨.hbm, 631, rfl⟩
abbrev main_v518 : Ref sig .tc := ⟨.hbm, 632, rfl⟩
abbrev main_v519 : Ref sig .tc := ⟨.hbm, 633, rfl⟩
abbrev main_cst_110 : Ref sig .tc := ⟨.hbm, 634, rfl⟩
abbrev main_v520 : Ref sig .tc := ⟨.hbm, 635, rfl⟩
abbrev main_v521 : Ref sig .tc := ⟨.hbm, 636, rfl⟩
abbrev main_cst_111 : Ref sig .tc := ⟨.hbm, 637, rfl⟩
abbrev main_v522 : Ref sig .tc := ⟨.hbm, 638, rfl⟩
abbrev main_v523 : Ref sig .tc := ⟨.hbm, 639, rfl⟩
abbrev main_cst_112 : Ref sig .tc := ⟨.hbm, 640, rfl⟩
abbrev main_v524 : Ref sig .tc := ⟨.hbm, 641, rfl⟩
abbrev main_v525 : Ref sig .tc := ⟨.hbm, 642, rfl⟩
abbrev main_v526 : Ref sig .tc := ⟨.hbm, 643, rfl⟩
abbrev main_cst_113 : Ref sig .tc := ⟨.hbm, 644, rfl⟩
abbrev main_v527 : Ref sig .tc := ⟨.hbm, 645, rfl⟩
abbrev main_v528 : Ref sig .tc := ⟨.hbm, 646, rfl⟩
abbrev main_v529 : Ref sig .tc := ⟨.hbm, 647, rfl⟩
abbrev main_v530 : Ref sig .tc := ⟨.hbm, 648, rfl⟩
abbrev main_cst_114 : Ref sig .tc := ⟨.hbm, 649, rfl⟩
abbrev main_v531 : Ref sig .tc := ⟨.hbm, 650, rfl⟩
abbrev main_v532 : Ref sig .tc := ⟨.hbm, 651, rfl⟩
abbrev main_cst_115 : Ref sig .tc := ⟨.hbm, 652, rfl⟩
abbrev main_v533 : Ref sig .tc := ⟨.hbm, 653, rfl⟩
abbrev main_v534 : Ref sig .tc := ⟨.hbm, 654, rfl⟩
abbrev main_cst_116 : Ref sig .tc := ⟨.hbm, 655, rfl⟩
abbrev main_v535 : Ref sig .tc := ⟨.hbm, 656, rfl⟩
abbrev main_v536 : Ref sig .tc := ⟨.hbm, 657, rfl⟩
abbrev main_v537 : Ref sig .tc := ⟨.hbm, 658, rfl⟩
abbrev main_cst_117 : Ref sig .tc := ⟨.hbm, 659, rfl⟩
abbrev main_v538 : Ref sig .tc := ⟨.hbm, 660, rfl⟩
abbrev main_v539 : Ref sig .tc := ⟨.hbm, 661, rfl⟩
abbrev main_v540 : Ref sig .tc := ⟨.hbm, 662, rfl⟩
abbrev main_v541 : Ref sig .tc := ⟨.hbm, 663, rfl⟩
abbrev main_cst_118 : Ref sig .tc := ⟨.hbm, 664, rfl⟩
abbrev main_v542 : Ref sig .tc := ⟨.hbm, 665, rfl⟩
abbrev main_v543 : Ref sig .tc := ⟨.hbm, 666, rfl⟩
abbrev main_cst_119 : Ref sig .tc := ⟨.hbm, 667, rfl⟩
abbrev main_v544 : Ref sig .tc := ⟨.hbm, 668, rfl⟩
abbrev main_v545 : Ref sig .tc := ⟨.hbm, 669, rfl⟩
abbrev main_cst_120 : Ref sig .tc := ⟨.hbm, 670, rfl⟩
abbrev main_v546 : Ref sig .tc := ⟨.hbm, 671, rfl⟩
abbrev main_v547 : Ref sig .tc := ⟨.hbm, 672, rfl⟩
abbrev main_v548 : Ref sig .tc := ⟨.hbm, 673, rfl⟩
abbrev main_cst_121 : Ref sig .tc := ⟨.hbm, 674, rfl⟩
abbrev main_v549 : Ref sig .tc := ⟨.hbm, 675, rfl⟩
abbrev main_v550 : Ref sig .tc := ⟨.hbm, 676, rfl⟩
abbrev main_v551 : Ref sig .tc := ⟨.hbm, 677, rfl⟩
abbrev main_v552 : Ref sig .tc := ⟨.hbm, 678, rfl⟩
abbrev main_cst_122 : Ref sig .tc := ⟨.hbm, 679, rfl⟩
abbrev main_v553 : Ref sig .tc := ⟨.hbm, 680, rfl⟩
abbrev main_v554 : Ref sig .tc := ⟨.hbm, 681, rfl⟩
abbrev main_cst_123 : Ref sig .tc := ⟨.hbm, 682, rfl⟩
abbrev main_v555 : Ref sig .tc := ⟨.hbm, 683, rfl⟩
abbrev main_v556 : Ref sig .tc := ⟨.hbm, 684, rfl⟩
abbrev main_cst_124 : Ref sig .tc := ⟨.hbm, 685, rfl⟩
abbrev main_v557 : Ref sig .tc := ⟨.hbm, 686, rfl⟩
abbrev main_v558 : Ref sig .tc := ⟨.hbm, 687, rfl⟩
abbrev main_v559 : Ref sig .tc := ⟨.hbm, 688, rfl⟩
abbrev main_cst_125 : Ref sig .tc := ⟨.hbm, 689, rfl⟩
abbrev main_v560 : Ref sig .tc := ⟨.hbm, 690, rfl⟩
abbrev main_v561 : Ref sig .tc := ⟨.hbm, 691, rfl⟩
abbrev main_v562 : Ref sig .tc := ⟨.hbm, 692, rfl⟩
abbrev main_v563 : Ref sig .tc := ⟨.hbm, 693, rfl⟩
abbrev main_cst_126 : Ref sig .tc := ⟨.hbm, 694, rfl⟩
abbrev main_v564 : Ref sig .tc := ⟨.hbm, 695, rfl⟩
abbrev main_v565 : Ref sig .tc := ⟨.hbm, 696, rfl⟩
abbrev main_cst_127 : Ref sig .tc := ⟨.hbm, 697, rfl⟩
abbrev main_v566 : Ref sig .tc := ⟨.hbm, 698, rfl⟩
abbrev main_v567 : Ref sig .tc := ⟨.hbm, 699, rfl⟩
abbrev main_cst_128 : Ref sig .tc := ⟨.hbm, 700, rfl⟩
abbrev main_v568 : Ref sig .tc := ⟨.hbm, 701, rfl⟩
abbrev main_v569 : Ref sig .tc := ⟨.hbm, 702, rfl⟩
abbrev main_v570 : Ref sig .tc := ⟨.hbm, 703, rfl⟩
abbrev main_cst_129 : Ref sig .tc := ⟨.hbm, 704, rfl⟩
abbrev main_v571 : Ref sig .tc := ⟨.hbm, 705, rfl⟩
abbrev main_v572 : Ref sig .tc := ⟨.hbm, 706, rfl⟩
abbrev main_v573 : Ref sig .tc := ⟨.hbm, 707, rfl⟩
abbrev main_v574 : Ref sig .tc := ⟨.hbm, 708, rfl⟩
abbrev main_cst_130 : Ref sig .tc := ⟨.hbm, 709, rfl⟩
abbrev main_v575 : Ref sig .tc := ⟨.hbm, 710, rfl⟩
abbrev main_v576 : Ref sig .tc := ⟨.hbm, 711, rfl⟩
abbrev main_cst_131 : Ref sig .tc := ⟨.hbm, 712, rfl⟩
abbrev main_v577 : Ref sig .tc := ⟨.hbm, 713, rfl⟩
abbrev main_v578 : Ref sig .tc := ⟨.hbm, 714, rfl⟩
abbrev main_cst_132 : Ref sig .tc := ⟨.hbm, 715, rfl⟩
abbrev main_v579 : Ref sig .tc := ⟨.hbm, 716, rfl⟩
abbrev main_v580 : Ref sig .tc := ⟨.hbm, 717, rfl⟩
abbrev main_v581 : Ref sig .tc := ⟨.hbm, 718, rfl⟩
abbrev main_v582 : Ref sig .tc := ⟨.hbm, 719, rfl⟩
abbrev main_v583 : Ref sig .tc := ⟨.hbm, 720, rfl⟩
abbrev main_v584 : Ref sig .tc := ⟨.hbm, 721, rfl⟩
abbrev main_v585 : Ref sig .tc := ⟨.hbm, 722, rfl⟩
abbrev main_v586 : Ref sig .tc := ⟨.hbm, 723, rfl⟩
abbrev main_cst_133 : Ref sig .tc := ⟨.hbm, 724, rfl⟩
abbrev main_v587 : Ref sig .tc := ⟨.hbm, 725, rfl⟩
abbrev main_cst_134 : Ref sig .tc := ⟨.hbm, 726, rfl⟩
abbrev main_v588 : Ref sig .tc := ⟨.hbm, 727, rfl⟩
abbrev main_v589 : Ref sig .tc := ⟨.hbm, 728, rfl⟩
abbrev main_v590 : Ref sig .tc := ⟨.hbm, 729, rfl⟩
abbrev main_v591 : Ref sig .tc := ⟨.hbm, 730, rfl⟩
abbrev main_v592 : Ref sig .tc := ⟨.hbm, 731, rfl⟩
abbrev main_v593 : Ref sig .tc := ⟨.hbm, 732, rfl⟩
abbrev main_v594 : Ref sig .tc := ⟨.hbm, 733, rfl⟩
abbrev main_cst_135 : Ref sig .tc := ⟨.hbm, 734, rfl⟩
abbrev main_v595 : Ref sig .tc := ⟨.hbm, 735, rfl⟩
abbrev main_v596 : Ref sig .tc := ⟨.hbm, 736, rfl⟩
abbrev main_v597 : Ref sig .tc := ⟨.hbm, 737, rfl⟩
abbrev main_cst_136 : Ref sig .tc := ⟨.hbm, 738, rfl⟩
abbrev main_v598 : Ref sig .tc := ⟨.hbm, 739, rfl⟩
abbrev main_v599 : Ref sig .tc := ⟨.hbm, 740, rfl⟩

abbrev nD : Nat := 1
abbrev τ : Topo := Topo.v7x

variable {F : FTy → Type} [FloatOps F]
-- ==== Kernel7.lean ====
abbrev S4x2048x512 : Shape := ⟨3, ![4, 2048, 512]⟩
abbrev S4x2048x1024 : Shape := ⟨3, ![4, 2048, 1024]⟩
abbrev S4x6144 : Shape := ⟨2, ![4, 6144]⟩
abbrev S1x512 : Shape := ⟨2, ![1, 512]⟩
abbrev S1x1024 : Shape := ⟨2, ![1, 1024]⟩
abbrev S1x1024x1024 : Shape := ⟨3, ![1, 1024, 1024]⟩
abbrev S4x6x1024 : Shape := ⟨3, ![4, 6, 1024]⟩
abbrev S_ : Shape := ⟨0, ![]⟩
abbrev S4x8x1024 : Shape := ⟨3, ![4, 8, 1024]⟩
abbrev S8192x512 : Shape := ⟨2, ![8192, 512]⟩
abbrev S8192x1024 : Shape := ⟨2, ![8192, 1024]⟩
abbrev S1024x1024 : Shape := ⟨2, ![1024, 1024]⟩
abbrev S512x512 : Shape := ⟨2, ![512, 512]⟩
abbrev S512x1024 : Shape := ⟨2, ![512, 1024]⟩
abbrev S1x8x1024 : Shape := ⟨3, ![1, 8, 1024]⟩
abbrev S512 : Shape := ⟨1, ![512]⟩
abbrev S512x1 : Shape := ⟨2, ![512, 1]⟩
abbrev S1x1x1024 : Shape := ⟨3, ![1, 1, 1024]⟩

abbrev nBuf : Space → Nat
  | .hbm => 22
  | .vmem => 20
  | .smem => 0
  | _ => 0

abbrev bufTy : (tb : Table) → Fin (tcTables nBuf tb) → BufTy
  | .hbm, ⟨0, _⟩ => ⟨S4x2048x512, .f32⟩
  | .hbm, ⟨1, _⟩ => ⟨S4x2048x512, .f32⟩
  | .hbm, ⟨2, _⟩ => ⟨S4x2048x1024, .f32⟩
  | .hbm, ⟨3, _⟩ => ⟨S4x6144, .f32⟩
  | .hbm, ⟨4, _⟩ => ⟨S1x512, .f32⟩
  | .hbm, ⟨5, _⟩ => ⟨S1x512, .f32⟩
  | .hbm, ⟨6, _⟩ => ⟨S1x1024, .f32⟩
  | .hbm, ⟨7, _⟩ => ⟨S1x1024x1024, .f32⟩
  | .hbm, ⟨8, _⟩ => ⟨S4x6x1024, .f32⟩
  | .hbm, ⟨9, _⟩ => ⟨S_, .i32⟩
  | .hbm, ⟨10, _⟩ => ⟨S_, .f32⟩
  | .hbm, ⟨11, _⟩ => ⟨S4x8x1024, .f32⟩
  | .hbm, ⟨12, _⟩ => ⟨S8192x512, .f32⟩
  | .hbm, ⟨13, _⟩ => ⟨S8192x512, .f32⟩
  | .hbm, ⟨14, _⟩ => ⟨S8192x512, .bf16⟩
  | .hbm, ⟨15, _⟩ => ⟨S8192x1024, .f32⟩
  | .hbm, ⟨16, _⟩ => ⟨S1024x1024, .f32⟩
  | .hbm, ⟨17, _⟩ => ⟨S1024x1024, .bf16⟩
  | .hbm, ⟨18, _⟩ => ⟨S8192x512, .bf16⟩
  | .hbm, ⟨19, _⟩ => ⟨S8192x1024, .bf16⟩
  | .hbm, ⟨20, _⟩ => ⟨S8192x1024, .f32⟩
  | .hbm, ⟨21, _⟩ => ⟨S8192x1024, .bf16⟩
  | .local _ .vmem, ⟨0, _⟩ => ⟨S512x512, .f32⟩
  | .local _ .vmem, ⟨1, _⟩ => ⟨S512x512, .f32⟩
  | .local _ .vmem, ⟨2, _⟩ => ⟨S512x512, .bf16⟩
  | .local _ .vmem, ⟨3, _⟩ => ⟨S512x512, .bf16⟩
  | .local _ .vmem, ⟨4, _⟩ => ⟨S512x1024, .f32⟩
  | .local _ .vmem, ⟨5, _⟩ => ⟨S512x1024, .f32⟩
  | .local _ .vmem, ⟨6, _⟩ => ⟨S1x8x1024, .f32⟩
  | .local _ .vmem, ⟨7, _⟩ => ⟨S1x8x1024, .f32⟩
  | .local _ .vmem, ⟨8, _⟩ => ⟨S1x512, .f32⟩
  | .local _ .vmem, ⟨9, _⟩ => ⟨S1x512, .f32⟩
  | .local _ .vmem, ⟨10, _⟩ => ⟨S1x1024, .f32⟩
  | .local _ .vmem, ⟨11, _⟩ => ⟨S1024x1024, .bf16⟩
  | .local _ .vmem, ⟨12, _⟩ => ⟨S512x512, .bf16⟩
  | .local _ .vmem, ⟨13, _⟩ => ⟨S512x512, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .f32⟩
  | .local _ .vmem, ⟨17, _⟩ => ⟨S512x1024, .f32⟩
  | .local _ .vmem, ⟨18, _⟩ => ⟨S512x1024, .bf16⟩
  | .local _ .vmem, ⟨19, _⟩ => ⟨S512x1024, .bf16⟩
  | _, _ => ⟨S4x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_call0_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8_0 : Ref sig .tc := ⟨.hbm, 18, rfl⟩
abbrev main_v8_1 : Ref sig .tc := ⟨.hbm, 19, rfl⟩
abbrev main_v8_2 : Ref sig .tc := ⟨.hbm, 20, rfl⟩
abbrev main_v8_3 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Reference7Ideal.lean ====
abbrev S4x2048x512 : Shape := ⟨3, ![4, 2048, 512]⟩
abbrev S4x2048x1024 : Shape := ⟨3, ![4, 2048, 1024]⟩
abbrev S4x6144 : Shape := ⟨2, ![4, 6144]⟩
abbrev S1x512 : Shape := ⟨2, ![1, 512]⟩
abbrev S1x1024 : Shape := ⟨2, ![1, 1024]⟩
abbrev S1x1024x1024 : Shape := ⟨3, ![1, 1024, 1024]⟩
abbrev S4x1024 : Shape := ⟨2, ![4, 1024]⟩
abbrev S4x1x1024 : Shape := ⟨3, ![4, 1, 1024]⟩
abbrev S512 : Shape := ⟨1, ![512]⟩
abbrev S_ : Shape := ⟨0, ![]⟩
abbrev S4x2048 : Shape := ⟨2, ![4, 2048]⟩
abbrev S4x2048x1 : Shape := ⟨3, ![4, 2048, 1]⟩
abbrev S1x1x512 : Shape := ⟨3, ![1, 1, 512]⟩
abbrev S1024x1024 : Shape := ⟨2, ![1024, 1024]⟩
abbrev S1024 : Shape := ⟨1, ![1024]⟩
abbrev S1x1x1024 : Shape := ⟨3, ![1, 1, 1024]⟩
abbrev S8192x512 : Shape := ⟨2, ![8192, 512]⟩
abbrev S8192x1024 : Shape := ⟨2, ![8192, 1024]⟩

abbrev nBuf : Space → Nat
  | .hbm => 94
  | .vmem => 0
  | .smem => 0
  | _ => 0

abbrev bufTy : (tb : Table) → Fin (tcTables nBuf tb) → BufTy
  | .hbm, ⟨0, _⟩ => ⟨S4x2048x512, .f32⟩
  | .hbm, ⟨1, _⟩ => ⟨S4x2048x512, .f32⟩
  | .hbm, ⟨2, _⟩ => ⟨S4x2048x1024, .f32⟩
  | .hbm, ⟨3, _⟩ => ⟨S4x6144, .f32⟩
  | .hbm, ⟨4, _⟩ => ⟨S1x512, .f32⟩
  | .hbm, ⟨5, _⟩ => ⟨S1x512, .f32⟩
  | .hbm, ⟨6, _⟩ => ⟨S1x1024, .f32⟩
  | .hbm, ⟨7, _⟩ => ⟨S1x1024x1024, .f32⟩
  | .hbm, ⟨8, _⟩ => ⟨S4x1024, .f32⟩
  | .hbm, ⟨9, _⟩ => ⟨S4x1024, .f32⟩
  | .hbm, ⟨10, _⟩ => ⟨S4x1024, .f32⟩
  | .hbm, ⟨11, _⟩ => ⟨S4x1024, .f32⟩
  | .hbm, ⟨12, _⟩ => ⟨S4x1024, .f32⟩
  | .hbm, ⟨13, _⟩ => ⟨S4x1024, .f32⟩
  | .hbm, ⟨14, _⟩ => ⟨S4x1x1024, .f32⟩
  | .hbm, ⟨15, _⟩ => ⟨S4x1x1024, .f32⟩
  | .hbm, ⟨16, _⟩ => ⟨S4x1x1024, .f32⟩
  | .hbm, ⟨17, _⟩ => ⟨S512, .f32⟩
  | .hbm, ⟨18, _⟩ => ⟨S512, .f32⟩
  | .hbm, ⟨19, _⟩ => ⟨S_, .f32⟩
  | .hbm, ⟨20, _⟩ => ⟨S4x2048, .f32⟩
  | .hbm, ⟨21, _⟩ => ⟨S4x2048x1, .f32⟩
  | .hbm, ⟨22, _⟩ => ⟨S_, .f32⟩
  | .hbm, ⟨23, _⟩ => ⟨S4x2048x1, .f32⟩
  | .hbm, ⟨24, _⟩ => ⟨S4x2048x1, .f32⟩
  | .hbm, ⟨25, _⟩ => ⟨S4x2048x512, .f32⟩
  | .hbm, ⟨26, _⟩ => ⟨S4x2048x512, .f32⟩
  | .hbm, ⟨27, _⟩ => ⟨S4x2048x512, .f32⟩
  | .hbm, ⟨28, _⟩ => ⟨S_, .f32⟩
  | .hbm, ⟨29, _⟩ => ⟨S4x2048, .f32⟩
  | .hbm, ⟨30, _⟩ => ⟨S4x2048x1, .f32⟩
  | .hbm, ⟨31, _⟩ => ⟨S_, .f32⟩
  | .hbm, ⟨32, _⟩ => ⟨S4x2048x1, .f32⟩
  | .hbm, ⟨33, _⟩ => ⟨S4x2048x1, .f32⟩
  | .hbm, ⟨34, _⟩ => ⟨S4x2048x512, .f32⟩
  | .hbm, ⟨35, _⟩ => ⟨S4x2048x512, .f32⟩
  | .hbm, ⟨36, _⟩ => ⟨S_, .f32⟩
  | .hbm, ⟨37, _⟩ => ⟨S4x2048x1, .f32⟩
  | .hbm, ⟨38, _⟩ => ⟨S4x2048x1, .f32⟩
  | .hbm, ⟨39, _⟩ => ⟨S4x2048x1, .f32⟩
  | .hbm, ⟨40, _⟩ => ⟨S4x2048x512, .f32⟩
  | .hbm, ⟨41, _⟩ => ⟨S4x2048x512, .f32⟩
  | .hbm, ⟨42, _⟩ => ⟨S1x1x512, .f32⟩
  | .hbm, ⟨43, _⟩ => ⟨S4x2048x512, .f32⟩
  | .hbm, ⟨44, _⟩ => ⟨S4x2048x512, .f32⟩
  | .hbm, ⟨45, _⟩ => ⟨S1x1x512, .f32⟩
  | .hbm, ⟨46, _⟩ => ⟨S4x2048x512, .f32⟩
  | .hbm, ⟨47, _⟩ => ⟨S4x2048x512, .f32⟩
  | .hbm, ⟨48, _⟩ => ⟨S4x2048x512, .f32⟩
  | .hbm, ⟨49, _⟩ => ⟨S4x2048x512, .f32⟩
  | .hbm, ⟨50, _⟩ => ⟨S_, .f32⟩
  | .hbm, ⟨51, _⟩ => ⟨S4x2048x512, .f32⟩
  | .hbm, ⟨52, _⟩ => ⟨S4x2048x512, .f32⟩
  | .hbm, ⟨53, _⟩ => ⟨S_, .f32⟩
  | .hbm, ⟨54, _⟩ => ⟨S4x2048x512, .f32⟩
  | .hbm, ⟨55, _⟩ => ⟨S4x2048x512, .f32⟩
  | .hbm, ⟨56, _⟩ => ⟨S4x2048x512, .f32⟩
  | .hbm, ⟨57, _⟩ => ⟨S4x2048x1024, .f32⟩
  | .hbm, ⟨58, _⟩ => ⟨S1024x1024, .f32⟩
  | .hbm, ⟨59, _⟩ => ⟨S4x2048x1024, .f32⟩
  | .hbm, ⟨60, _⟩ => ⟨S4x2048x1024, .f32⟩
  | .hbm, ⟨61, _⟩ => ⟨S4x2048x1024, .f32⟩
  | .hbm, ⟨62, _⟩ => ⟨S4x2048x1024, .f32⟩
  | .hbm, ⟨63, _⟩ => ⟨S1024, .f32⟩
  | .hbm, ⟨64, _⟩ => ⟨S4x2048x1024, .f32⟩
  | .hbm, ⟨65, _⟩ => ⟨S_, .f32⟩
  | .hbm, ⟨66, _⟩ => ⟨S4x2048, .f32⟩
  | .hbm, ⟨67, _⟩ => ⟨S4x2048x1, .f32⟩
  | .hbm, ⟨68, _⟩ => ⟨S_, .f32⟩
  | .hbm, ⟨69, _⟩ => ⟨S4x2048x1, .f32⟩
  | .hbm, ⟨70, _⟩ => ⟨S4x2048x1, .f32⟩
  | .hbm, ⟨71, _⟩ => ⟨S_, .f32⟩
  | .hbm, ⟨72, _⟩ => ⟨S4x2048x1, .f32⟩
  | .hbm, ⟨73, _⟩ => ⟨S4x2048x1, .f32⟩
  | .hbm, ⟨74, _⟩ => ⟨S4x2048x1, .f32⟩
  | .hbm, ⟨75, _⟩ => ⟨S4x2048x1024, .f32⟩
  | .hbm, ⟨76, _⟩ => ⟨S4x2048x1024, .f32⟩
  | .hbm, ⟨77, _⟩ => ⟨S1x1x1024, .f32⟩
  | .hbm, ⟨78, _⟩ => ⟨S4x2048x1024, .f32⟩
  | .hbm, ⟨79, _⟩ => ⟨S4x2048x1024, .f32⟩
  | .hbm, ⟨80, _⟩ => ⟨S_, .f32⟩
  | .hbm, ⟨81, _⟩ => ⟨S4x1x1024, .f32⟩
  | .hbm, ⟨82, _⟩ => ⟨S4x1x1024, .f32⟩
  | .hbm, ⟨83, _⟩ => ⟨S4x2048x1024, .f32⟩
  | .hbm, ⟨84, _⟩ => ⟨S4x2048x1024, .f32⟩
  | .hbm, ⟨85, _⟩ => ⟨S4x2048x1024, .f32⟩
  | .hbm, ⟨86, _⟩ => ⟨S4x2048x1024, .f32⟩
  | .hbm, ⟨87, _⟩ => ⟨S8192x512, .f32⟩
  | .hbm, ⟨88, _⟩ => ⟨S8192x512, .bf16⟩
  | .hbm, ⟨89, _⟩ => ⟨S8192x1024, .f32⟩
  | .hbm, ⟨90, _⟩ => ⟨S8192x1024, .bf16⟩
  | .hbm, ⟨91, _⟩ => ⟨S8192x1024, .f32⟩
  | .hbm, ⟨92, _⟩ => ⟨S8192x1024, .f32⟩
  | .hbm, ⟨93, _⟩ => ⟨S8192x1024, .bf16⟩
  | _, _ => ⟨S4x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_cst_0 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_1 : Ref sig .tc := ⟨.hbm, 28, rfl⟩
abbrev main_v18 : Ref sig .tc := ⟨.hbm, 29, rfl⟩
abbrev main_v19 : Ref sig .tc := ⟨.hbm, 30, rfl⟩
abbrev main_cst_2 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_3 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_call0_v0 : Ref sig .tc := ⟨.hbm, 48, rfl⟩
abbrev main_call0_v1 : Ref sig .tc := ⟨.hbm, 49, rfl⟩
abbrev main_call0_cst : Ref sig .tc := ⟨.hbm, 50, rfl⟩
abbrev main_call0_v2 : Ref sig .tc := ⟨.hbm, 51, rfl⟩
abbrev main_call0_v3 : Ref sig .tc := ⟨.hbm, 52, rfl⟩
abbrev main_call0_cst_0 : Ref sig .tc := ⟨.hbm, 53, rfl⟩
abbrev main_call0_v4 : Ref sig .tc := ⟨.hbm, 54, rfl⟩
abbrev main_call0_v5 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_4 : Ref sig .tc := ⟨.hbm, 65, rfl⟩
abbrev main_v44 : Ref sig .tc := ⟨.hbm, 66, rfl⟩
abbrev main_v45 : Ref sig .tc := ⟨.hbm, 67, rfl⟩
abbrev main_cst_5 : Ref sig .tc := ⟨.hbm, 68, rfl⟩
abbrev main_v46 : Ref sig .tc := ⟨.hbm, 69, rfl⟩
abbrev main_v47 : Ref sig .tc := ⟨.hbm, 70, rfl⟩
abbrev main_cst_6 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_cst_7 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩

abbrev nD : Nat := 1
abbrev τ : Topo := Topo.v7x

variable {F : FTy → Type} [FloatOps F]
-- ==== Proof.Lift.lean ====
/- Real numbers inside the extended reals: the operations of the idealized programs on real arguments are the real
   operations, and a precondition `all(|x| < inf)` says that an array's elements are real. -/
module

public import Idealize.ShloMosaic.Lib.Pointwise
public import Idealize.ShloMosaic.Lib.ReduceAll
public import Idealize.ShloMosaic.PureOps.Ideal
public import Idealize.ShloMosaic.PureOps.Ideal.Laws

@[expose] public section

noncomputable section

namespace Cert.Lift

open Idealize.ShloMosaic
open scoped BigOperators

/-- A finite sum of reals. -/
theorem coe_sum {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- A quotient of reals by a real that is not zero. -/
theorem div_coe {x y : ℝ} (h : y ≠ 0) : Ideal.div (x : EReal) (y : EReal) = ((x / y : ℝ) : EReal) := by
  rw [Ideal.div_coe h, ← EReal.coe_mul]
  congr 1
  ring

/-- The reciprocal square root of a positive real. -/
theorem rsqrt_coe {x : ℝ} (h : 0 < x) : Ideal.rsqrt (x : EReal) = (((√x)⁻¹ : ℝ) : EReal) := by
  rw [Ideal.rsqrt_coe, if_neg (not_lt.2 h.le), if_neg h.ne']

/-- The logistic function, as the kernels spell it. -/
def sig (z : ℝ) : ℝ := 1 / (1 + Real.exp (-z))

theorem sig_coe (z : ℝ) : Ideal.div 1 (1 + Ideal.exp ((-z : ℝ) : EReal)) = ((sig z : ℝ) : EReal) := by
  rw [Ideal.exp_coe, ← EReal.coe_one, ← EReal.coe_add, div_coe (by positivity), sig]

/-- The word of 512. -/
theorem w512 : Ideal.ofBits .f32 0x44000000#32 = ((512 : ℝ) : EReal) := by
  simp [Ideal.ofBits, Ideal.ieee]; rw [← EReal.coe_mul]; norm_num

/-- The word of 1024. -/
theorem w1024 : Ideal.ofBits .f32 0x44800000#32 = ((1024 : ℝ) : EReal) := by
  simp [Ideal.ofBits, Ideal.ieee]; rw [← EReal.coe_mul]; norm_num

/-- The word of 2. -/
theorem w2 : Ideal.ofBits .f32 0x40000000#32 = ((2 : ℝ) : EReal) := by
  simp [Ideal.ofBits, Ideal.ieee]; rw [← EReal.coe_mul]; norm_num

/-- The word of −1/2. -/
theorem wNegHalf : Ideal.ofBits .f32 0xBF000000#32 = ((-1 / 2 : ℝ) : EReal) := by
  simp [Ideal.ofBits, Ideal.ieee]; rw [← EReal.coe_mul]; norm_num

/-- The number the word of 1e-6 denotes. -/
def eps : ℝ := 8796093 / 2 ^ 43

theorem eps_pos : 0 < eps := by unfold eps; positivity

/-- The word of 1e-6. -/
theorem wEps : Ideal.ofBits .f32 0x358637BD#32 = ((eps : ℝ) : EReal) := by
  simp [Ideal.ofBits, Ideal.ieee, eps]; rw [← EReal.coe_mul]; norm_num

/-- The word of +∞. -/
theorem wInf : Ideal.ofBits .f32 0x7F800000#32 = ⊤ := by
  simp [Ideal.ofBits, Ideal.ieee]

/-- An extended real whose absolute value is below +∞ is a real. -/
theorem real_of_abs_lt {x : EReal} (h : max x (-x) < ⊤) : ∃ r : ℝ, x = r := by
  induction x with
  | bot => simp at h
  | top => simp at h
  | coe r => exact ⟨r, rfl⟩

/-- `all(|x| < inf)` read back: every element is a real. -/
theorem real_of_all {s u : Shape} {axes : List (Fin s.rank)} (x : FVec Ideal s .f32)
    (hb : Shape.BroadcastsInDim ⟨0, ![]⟩ s (![] : Fin 0 → Fin s.rank)) (hr : s.ReducesTo axes ⟨0, ![]⟩) (hu : 0 < u.numel)
    (init : u.Idx → BitVec 1) (j : Shape.Idx ⟨0, ![]⟩)
    (e : Host.reduce IntOp.andi (cmpf .olt (Host.absf x) (broadcastInDim s ![] hb (constant ⟨0, ![]⟩ .f32 0x7F800000#32))) init hr hu j = 1#1)
    (i : s.Idx) : ∃ r : ℝ, x i = ((r : ℝ) : EReal) := by
  haveI : Subsingleton (Shape.Idx ⟨0, ![]⟩) := ⟨fun a b => funext fun k => k.elim0⟩
  have h := Host.reduce_andi_all _ init hr hu j e i
  pointwise at h
  rw [wInf] at h
  change BitVec.ofBool (decide (max (x i) (-(x i)) < ⊤)) = 1#1 at h
  by_cases hd : max (x i) (-(x i)) < ⊤
  · exact real_of_abs_lt hd
  · rw [decide_eq_false hd] at h
    exact absurd h (by decide)

/-- Two bits are both set where their conjunction is. -/
theorem andi_one {x y : IVec ⟨0, ![]⟩ 1} {j : Shape.Idx ⟨0, ![]⟩} (e : andi x y j = 1#1) : x j = 1#1 ∧ y j = 1#1 :=
  IntOp.andi_eq_one.mp e

/-- The host's sum over the first two of three axes. -/
theorem reduce01 {n0 n1 n2 : ℕ} (h : (⟨3, ![n0, n1, n2]⟩ : Shape).ReducesTo [0, 1] ⟨1, ![n2]⟩) (v : (⟨3, ![n0, n1, n2]⟩ : Shape).Idx → EReal)
    (init : EReal) (l : Fin n2) : Ideal.hostReduceAdd h v init (ix1 l) = init + ∑ a, ∑ b, v (ix3 a b l) := by
  refine congrArg (init + ·) (Eq.trans (Finset.sum_filter_eq_sum_of_fiber _ (fun k : Fin n0 × Fin n1 => ix3 k.1 k.2 l)
    (fun _ _ e => Prod.ext (congrFun e 0) (congrFun e 1)) (fun i => ⟨fun e => ⟨(i 0, i 1), funext fun a => Fin.ext ?_⟩, ?_⟩) v)
    (Fintype.sum_prod_type _))
  · match a with
    | ⟨0, _⟩ => rfl
    | ⟨1, _⟩ => rfl
    | ⟨2, _⟩ => exact (congrArg Fin.val (congrFun e 0)).symm
  · rintro ⟨k, rfl⟩
    refine funext fun a => Fin.ext ?_
    match a with
    | ⟨0, _⟩ => rfl

end Cert.Lift

end
-- ==== Proof.Grad.lean ====
/- The gradient of a layer norm and of the swish over the reals: the closed form a kernel writes and the form the chain rule gives. -/
module

public import proofs.«01_k».proof.Proof.Lift

@[expose] public section

noncomputable section

namespace Cert.Grad

open Cert.Lift
open scoped BigOperators

variable {n : ℕ}

/-- The mean of a row, `N` its length as a real. -/
def mean (N : ℝ) (v : Fin n → ℝ) : ℝ := (∑ k, v k) / N

/-- A row less its mean. -/
def cen (N : ℝ) (v : Fin n → ℝ) (l : Fin n) : ℝ := v l - mean N v

/-- The variance plus the small constant. -/
def vare (N : ℝ) (v : Fin n → ℝ) : ℝ := mean N (fun k => cen N v k * cen N v k) + eps

/-- The reciprocal of the standard deviation. -/
def rs (N : ℝ) (v : Fin n → ℝ) : ℝ := (√(vare N v))⁻¹

/-- The normalized row. -/
def xh (N : ℝ) (v : Fin n → ℝ) (l : Fin n) : ℝ := cen N v l * rs N v

/-- The gradient through the normalization, in closed form; `d` is the gradient of the normalized row. -/
def lnBack (N : ℝ) (v d : Fin n → ℝ) (l : Fin n) : ℝ :=
  rs N v * (d l - mean N d - xh N v l * mean N (fun k => d k * xh N v k))

/-- The gradient of the variance, by the chain rule through the reciprocal square root. -/
def lnT (N : ℝ) (v d : Fin n → ℝ) : ℝ := (∑ k, cen N v k * d k) * ((-1 / 2) * (rs N v / vare N v)) / N

/-- The gradient through the normalization, by the chain rule through variance and mean. -/
def lnVjp (N : ℝ) (v d : Fin n → ℝ) (l : Fin n) : ℝ :=
  (d l * rs N v + lnT N v d * (2 * cen N v l))
    + ((∑ k, -(d k * rs N v)) + ∑ k, -(lnT N v d * (2 * cen N v k))) / N

theorem mean_sq_nonneg {N : ℝ} (hN : 0 < N) (c : Fin n → ℝ) : 0 ≤ mean N (fun k => c k * c k) :=
  div_nonneg (Finset.sum_nonneg fun k _ => mul_self_nonneg (c k)) hN.le

theorem vare_pos {N : ℝ} (hN : 0 < N) (v : Fin n → ℝ) : 0 < vare N v :=
  add_pos_of_nonneg_of_pos (mean_sq_nonneg hN _) eps_pos

/-- The deviations from the mean add up to zero. -/
theorem sum_cen {N : ℝ} (hN : 0 < N) (hn : N = n) (v : Fin n → ℝ) : ∑ k, cen N v k = 0 := by
  unfold cen mean
  rw [Finset.sum_sub_distrib, Finset.sum_const, Finset.card_univ, Fintype.card_fin, nsmul_eq_mul, ← hn]
  field_simp
  ring

/-- The square of the reciprocal root. -/
theorem inv_sqrt_sq {x : ℝ} (h : 0 < x) : (√x)⁻¹ / x = (√x)⁻¹ * ((√x)⁻¹ * (√x)⁻¹) := by
  rw [← mul_inv, Real.mul_self_sqrt h.le, div_eq_mul_inv]

/-- The two forms agree. -/
theorem lnVjp_eq {N : ℝ} (hN : 0 < N) (hn : N = n) (v d : Fin n → ℝ) (l : Fin n) : lnVjp N v d l = lnBack N v d l := by
  have h0 : ∑ k, -(lnT N v d * (2 * cen N v k)) = 0 := by
    rw [Finset.sum_neg_distrib, ← Finset.mul_sum, ← Finset.mul_sum, sum_cen hN hn v]
    ring
  have h1 : ∑ k, -(d k * rs N v) = -((∑ k, d k) * rs N v) := by
    rw [Finset.sum_neg_distrib, Finset.sum_mul]
  have h2 : ∑ k, d k * xh N v k = (∑ k, cen N v k * d k) * rs N v := by
    rw [Finset.sum_mul]
    exact Finset.sum_congr rfl fun k _ => by unfold xh; ring
  have h3 : rs N v / vare N v = rs N v * (rs N v * rs N v) := inv_sqrt_sq (vare_pos hN v)
  unfold lnVjp lnBack
  rw [h0, h1, mean, mean, h2, lnT, h3, xh]
  ring

/-- The derivative of the swish, as the kernels spell it. -/
def dsilu (z : ℝ) : ℝ := sig z * (1 + z * (1 - sig z))

/-- The mean square of a row plus the small constant. -/
def ms (N : ℝ) (v : Fin n → ℝ) : ℝ := mean N (fun k => v k * v k) + eps

/-- The reciprocal of the root mean square. -/
def rr (N : ℝ) (v : Fin n → ℝ) : ℝ := (√(ms N v))⁻¹

/-- The row over its root mean square. -/
def xr (N : ℝ) (v : Fin n → ℝ) (l : Fin n) : ℝ := v l * rr N v

/-- The gradient through the root mean square norm, in closed form; `d` is the gradient of the normalized row. -/
def rmsBack (N : ℝ) (v d : Fin n → ℝ) (l : Fin n) : ℝ :=
  rr N v * (d l - xr N v l * mean N (fun k => d k * xr N v k))

/-- The gradient of the mean square, by the chain rule through the reciprocal square root. -/
def rmsT (N : ℝ) (v d : Fin n → ℝ) : ℝ := (∑ k, v k * d k) * ((-1 / 2) * (rr N v / ms N v)) / N

theorem ms_pos {N : ℝ} (hN : 0 < N) (v : Fin n → ℝ) : 0 < ms N v :=
  add_pos_of_nonneg_of_pos (mean_sq_nonneg hN _) eps_pos

/-- The chain rule's two terms through the mean square add up to the closed form. -/
theorem rmsVjp_eq {N : ℝ} (hN : 0 < N) (v d : Fin n → ℝ) (l : Fin n) :
    d l * rr N v + v l * rmsT N v d + rmsT N v d * v l = rmsBack N v d l := by
  have h2 : ∑ k, d k * xr N v k = (∑ k, v k * d k) * rr N v := by
    rw [Finset.sum_mul]
    exact Finset.sum_congr rfl fun k _ => by unfold xr; ring
  have h3 : rr N v / ms N v = rr N v * (rr N v * rr N v) := inv_sqrt_sq (ms_pos hN v)
  unfold rmsBack rmsT
  rw [mean, h2, h3, xr]
  ring

end Cert.Grad

end
-- ==== Proof.MixOut.Spec.lean ====
/- The gradient through the output projection, the swish and the layer norm as real formulas: what the kernel and the reference both compute. -/
module

public import proofs.«01_k».proof.Proof.Grad

@[expose] public section

noncomputable section

namespace Cert.MixOut

open Cert.Grad Cert.Lift Idealize.ShloMosaic
open scoped BigOperators

/-- The arguments as real arrays: the gradient `D` of the mixer's output and the convolution's output `U`, one row per token, the layer
    norm's scale `G` and shift `B`, and the projection `W`. -/
structure Data where
  D : Fin 8192 → Fin 1024 → ℝ
  U : Fin 8192 → Fin 512 → ℝ
  G : Fin 512 → ℝ
  B : Fin 512 → ℝ
  W : Fin 1024 → Fin 1024 → ℝ

/-- The argument arrays hold these reals; token `r` is position `r % 2048` of sequence `r / 2048`. -/
structure Holds (p : Data) (x0 : FVec Ideal ⟨3, ![4, 2048, 1024]⟩ .f32) (x1 : FVec Ideal ⟨3, ![4, 2048, 512]⟩ .f32)
    (x2 x3 : FVec Ideal ⟨2, ![1, 512]⟩ .f32) (x4 : FVec Ideal ⟨3, ![1, 1024, 1024]⟩ .f32) : Prop where
  d : ∀ (r : Fin 8192) (k : Fin 1024), x0 (ix3 ⟨r.val / 2048, by omega⟩ ⟨r.val % 2048, by omega⟩ k) = ((p.D r k : ℝ) : EReal)
  u : ∀ (r : Fin 8192) (k : Fin 512), x1 (ix3 ⟨r.val / 2048, by omega⟩ ⟨r.val % 2048, by omega⟩ k) = ((p.U r k : ℝ) : EReal)
  g : ∀ k : Fin 512, x2 (ix2 0 k) = ((p.G k : ℝ) : EReal)
  b : ∀ k : Fin 512, x3 (ix2 0 k) = ((p.B k : ℝ) : EReal)
  w : ∀ a k : Fin 1024, x4 (ix3 0 a k) = ((p.W a k : ℝ) : EReal)

variable (p : Data)

/-- The gradient of the projection's input. -/
def dy (r : Fin 8192) (l : Fin 1024) : ℝ := ∑ k, p.D r k * p.W l k

/-- The layer norm's output. -/
def z (r : Fin 8192) (l : Fin 512) : ℝ := xh 512 (p.U r) l * p.G l + p.B l

/-- Its gradient, through the swish. -/
def dz (r : Fin 8192) (l : Fin 512) : ℝ := dy p r ⟨l.val, by omega⟩ * dsilu (z p r l)

/-- The gradient of the convolution's output. -/
def du (r : Fin 8192) (l : Fin 512) : ℝ := lnBack 512 (p.U r) (fun k => dz p r k * p.G k) l

/-- The gradient of the scale. -/
def dg (l : Fin 512) : ℝ := ∑ r, dz p r l * xh 512 (p.U r) l

/-- The gradient of the shift. -/
def db (l : Fin 512) : ℝ := ∑ r, dz p r l

/-- The first result. -/
def out0 : FVec Ideal ⟨2, ![8192, 512]⟩ .f32 := fun i => ((du p (i 0) (i 1) : ℝ) : EReal)

/-- The second result. -/
def out1 : FVec Ideal ⟨2, ![8192, 512]⟩ .f32 := fun i => ((dy p (i 0) ⟨512 + (i 1).val, by have := (i 1).isLt; show _ < 1024; change (i 1).val < 512 at this; omega⟩ : ℝ) : EReal)

/-- The third result: the scale's gradient in row 0, the shift's in row 1, zeros below. -/
def out2 : FVec Ideal ⟨2, ![8, 512]⟩ .f32 := fun i =>
  (((if (i 0).val = 0 then dg p (i 1) else if (i 0).val = 1 then db p (i 1) else 0 : ℝ)) : EReal)

end Cert.MixOut

end
-- ==== Proof.MixOut.Block.lean ====
/- What the kernel's body computes from one block of 512 tokens, over real arguments. -/
module

public import proofs.«01_k».proof.Proof.Gen.KernelIdeal.Skeleton
public import proofs.«01_k».proof.Proof.MixOut.Spec

@[expose] public section

set_option maxRecDepth 16384

noncomputable section

namespace Cert.MixOut.Block

open Cert.KernelIdeal Cert.KernelIdeal.Gen Idealize.ShloMosaic Idealize.ShloMosaic.TcCoe Idealize.SL.Sem
open Cert.Grad Cert.Lift Cert.MixOut

/-- The blocks a grid point reads hold the tokens numbered by `ρ`. -/
structure Blk (p : Data) (ρ : Fin 512 → Fin 8192) (xd : FVec Ideal S512x1024 .bf16) (xu : FVec Ideal S512x512 .f32)
    (xg xb : FVec Ideal S1x512 .f32) (xw : FVec Ideal S1024x1024 .bf16) : Prop where
  d : ∀ r k, xd (ix2 r k) = ((p.D (ρ r) k : ℝ) : EReal)
  u : ∀ r k, xu (ix2 r k) = ((p.U (ρ r) k : ℝ) : EReal)
  g : ∀ k : Fin 512, xg (ix2 0 k) = ((p.G k : ℝ) : EReal)
  b : ∀ k : Fin 512, xb (ix2 0 k) = ((p.B k : ℝ) : EReal)
  w : ∀ a k : Fin 1024, xw (ix2 a k) = ((p.W a k : ℝ) : EReal)

variable {p : Data} {ρ : Fin 512 → Fin 8192} {xd : FVec Ideal S512x1024 .bf16} {xu : FVec Ideal S512x512 .f32} {xg xb : FVec Ideal S1x512 .f32}
  {xw : FVec Ideal S1024x1024 .bf16} (h : Blk p ρ xd xu xg xb xw)
include h

theorem pay4 (w : FVec Ideal S512x1024 .bf16) (hw : ∀ r k, w (ix2 r k) = xw (ix2 ⟨r.val, by omega⟩ k)) (r l : Fin 512) :
    k0_pay4 (F := Ideal) xd w (ix2 r l) = ((dy p (ρ r) ⟨l.val, by omega⟩ : ℝ) : EReal) := by
  pointwise [k0_pay4, k0_pay3]
  simp only [hw, h.d, h.w, zero_add, ← EReal.coe_mul, coe_sum]; rfl

theorem pay5 (w : FVec Ideal S512x1024 .bf16) (hw : ∀ r k, w (ix2 r k) = xw (ix2 ⟨512 + r.val, by omega⟩ k)) (r l : Fin 512) :
    k0_pay5 (F := Ideal) xd w (ix2 r l) = ((dy p (ρ r) ⟨512 + l.val, by omega⟩ : ℝ) : EReal) := by
  pointwise [k0_pay5, k0_pay3]
  simp only [hw, h.d, h.w, zero_add, ← EReal.coe_mul, coe_sum]; rfl

theorem pay6 (r l : Fin 512) : k0_pay6 (F := Ideal) xu (ix2 r l) = ((cen 512 (p.U (ρ r)) l : ℝ) : EReal) := by
  pointwise [k0_pay6]
  simp only [h.u, w512, coe_sum, zero_add]
  rw [div_coe (by norm_num), ← EReal.coe_sub]; rfl

theorem pay7 (r : Fin 512) : k0_pay7 (F := Ideal) xu (ix2 r 0) = ((rs 512 (p.U (ρ r)) : ℝ) : EReal) := by
  pointwise [k0_pay7]
  simp only [pay6 h, w512, coe_sum, zero_add, wEps, ← EReal.coe_mul]
  rw [div_coe (by norm_num), ← EReal.coe_add]
  exact rsqrt_coe (vare_pos (by norm_num) (p.U (ρ r)))

theorem pay8 (r l : Fin 512) : k0_pay8 (F := Ideal) xu (ix2 r l) = ((xh 512 (p.U (ρ r)) l : ℝ) : EReal) := by
  pointwise [k0_pay8]
  rw [pay6 h, pay7 h, ← EReal.coe_mul]; rfl

theorem pay9 (r l : Fin 512) : k0_pay9 (F := Ideal) xu xg (ix2 r l) = ((xh 512 (p.U (ρ r)) l * p.G l : ℝ) : EReal) := by
  pointwise [k0_pay9]
  rw [pay8 h, h.g, ← EReal.coe_mul]

theorem pay10 (w : FVec Ideal S512x1024 .bf16) (hw : ∀ r k, w (ix2 r k) = xw (ix2 ⟨r.val, by omega⟩ k)) (r l : Fin 512) :
    k0_pay10 (F := Ideal) (k0_pay4 xd w) (k0_pay9 xu xg) xb (ix2 r l) = ((dz p (ρ r) l : ℝ) : EReal) := by
  pointwise [k0_pay10]
  rw [pay4 h w hw, pay9 h, h.b, zero_sub, ← EReal.coe_add, ← EReal.coe_neg, sig_coe]
  simp only [← EReal.coe_one, ← EReal.coe_mul, ← EReal.coe_add, ← EReal.coe_sub]; rfl

theorem pay11 (w : FVec Ideal S512x1024 .bf16) (hw : ∀ r k, w (ix2 r k) = xw (ix2 ⟨r.val, by omega⟩ k)) (acc : FVec Ideal S1x512 .f32) (l : Fin 512) :
    k0_pay11 (F := Ideal) (k0_pay4 xd w) (k0_pay8 xu) (k0_pay9 xu xg) xb acc (ix2 0 l)
      = acc (ix2 0 l) + ((∑ r, dz p (ρ r) l * xh 512 (p.U (ρ r)) l : ℝ) : EReal) := by
  pointwise [k0_pay11]
  simp only [pay10 h w hw, pay8 h, ← EReal.coe_mul, coe_sum, zero_add]

theorem pay12 (w : FVec Ideal S512x1024 .bf16) (hw : ∀ r k, w (ix2 r k) = xw (ix2 ⟨r.val, by omega⟩ k)) (acc : FVec Ideal S1x512 .f32) (l : Fin 512) :
    k0_pay12 (F := Ideal) (k0_pay4 xd w) (k0_pay9 xu xg) xb acc (ix2 0 l) = acc (ix2 0 l) + ((∑ r, dz p (ρ r) l : ℝ) : EReal) := by
  pointwise [k0_pay12]
  simp only [pay10 h w hw, coe_sum, zero_add]

theorem pay1 (w : FVec Ideal S512x1024 .bf16) (hw : ∀ r k, w (ix2 r k) = xw (ix2 ⟨r.val, by omega⟩ k)) (r l : Fin 512) :
    k0_pay1 (F := Ideal) (k0_pay7 xu) (k0_pay8 xu) (k0_pay14 (k0_pay4 xd w) (k0_pay9 xu xg) xb xg)
      (k0_pay15 (k0_pay4 xd w) (k0_pay8 xu) (k0_pay9 xu xg) xb xg) (ix2 r l) = ((du p (ρ r) l : ℝ) : EReal) := by
  pointwise [k0_pay1, k0_pay14, k0_pay15, k0_pay13]
  simp only [pay10 h w hw, pay8 h, pay7 h, h.g, w512, zero_add, ← EReal.coe_mul, coe_sum]
  rw [div_coe (by norm_num), div_coe (by norm_num)]
  simp only [← EReal.coe_mul, ← EReal.coe_sub]; rfl

end Cert.MixOut.Block

end
-- ==== Proof.Rows.lean ====
/- Reading a buffer into which rows were stored one or several at a time. -/
module

public import Idealize.ShloMosaic.Lib.WritesUnit
public import Idealize.ShloMosaic.Lib.Pipeline.ReadBack
public import Idealize.ShloMosaic.Lib.Pointwise

@[expose] public section

noncomputable section

namespace Cert.Rows

open Idealize.ShloMosaic Idealize.SL.Sem

variable {sig : RefSig} {κ : Kind} {sp : Space} {e : EltTy} {Val : EltTy → Type} [∀ e, Nonempty (Val e)] {R n : ℕ}

/-- The newest store covers row `o`: that row reads its payload, any other row what was there. -/
theorem read_row (v : View sig κ sp ⟨2, ![R, n]⟩ e) (f : v.ty.Contents Val) (o : ℕ)
    (inb : ∀ a : Fin 2, (![o, 0] : Fin 2 → ℕ) a + (![1, n] : Fin 2 → ℕ) a ≤ (![R, n] : Fin 2 → ℕ) a)
    (w : (⟨2, ![1, n]⟩ : Shape).Idx → Val e) (L : List (View.Piece Val ⟨2, ![R, n]⟩ e)) (r : Fin R) (l : Fin n) :
    v.read Val (v.writes Val f (⟨Rect.unit (s := ⟨2, ![R, n]⟩) ![o, 0] ![1, n] inb, w⟩ :: L)) (ix2 r l)
      = if r.val = o then w (ix2 0 l) else v.read Val (v.writes Val f L) (ix2 r l) := by
  by_cases h : r.val = o
  · rw [if_pos h]
    exact View.read_writes_cons_rows_of_mem v f inb w L (ix2 r l) (ix2 0 l) rfl (by subst h; rfl) rfl
  · rw [if_neg h]
    exact View.read_writes_cons_rows_of_not_mem v f inb w L (ix2 r l) (W := 1) rfl rfl (by change r.val < o ∨ o + 1 ≤ r.val; omega)

/-- The same of the contents a list of stores leaves over nothing in particular. -/
theorem canon_row (o : ℕ)
    (inb : ∀ a : Fin 2, (![o, 0] : Fin 2 → ℕ) a + (![1, n] : Fin 2 → ℕ) a ≤ (![R, n] : Fin 2 → ℕ) a)
    (w : (⟨2, ![1, n]⟩ : Shape).Idx → Val e) (L : List (View.Piece Val ⟨2, ![R, n]⟩ e)) (r : Fin R) (l : Fin n) :
    View.canon (Val := Val) (s := ⟨2, ![R, n]⟩) (e := e) (⟨Rect.unit (s := ⟨2, ![R, n]⟩) ![o, 0] ![1, n] inb, w⟩ :: L) (ix2 r l)
      = if r.val = o then w (ix2 0 l) else View.canon (Val := Val) (s := ⟨2, ![R, n]⟩) (e := e) L (ix2 r l) := by
  by_cases h : r.val = o
  · rw [if_pos h]
    have he : (Rect.unit (s := ⟨2, ![R, n]⟩) ![o, 0] ![1, n] inb).emb (ix2 (0 : Fin 1) l) = ix2 r l := funext fun a => Fin.ext (by
      match a with
      | ⟨0, _⟩ => show o + 1 * 0 = r.val; omega
      | ⟨1, _⟩ => show 0 + 1 * l.val = l.val; omega)
    rw [← he]
    exact View.canon_cons_emb (Rect.unit (s := ⟨2, ![R, n]⟩) ![o, 0] ![1, n] inb) w L (ix2 (0 : Fin 1) l)
  · rw [if_neg h]
    refine View.canon_cons_of_not_mem _ L ?_
    rw [Rect.mem_set_unit]
    intro hall
    have h0 := hall (0 : Fin 2)
    change o ≤ r.val ∧ r.val < o + 1 at h0
    omega

/-- The oldest store fills the buffer. -/
theorem canon_fill (inb : ∀ a : Fin 2, (![0, 0] : Fin 2 → ℕ) a + (![R, n] : Fin 2 → ℕ) a ≤ (![R, n] : Fin 2 → ℕ) a)
    (w : (⟨2, ![R, n]⟩ : Shape).Idx → Val e) (L : List (View.Piece Val ⟨2, ![R, n]⟩ e)) (r : Fin R) (l : Fin n) :
    View.canon (Val := Val) (s := ⟨2, ![R, n]⟩) (e := e) (⟨Rect.unit (s := ⟨2, ![R, n]⟩) ![0, 0] ![R, n] inb, w⟩ :: L) (ix2 r l) = w (ix2 r l) := by
  have he : (Rect.unit (s := ⟨2, ![R, n]⟩) ![0, 0] ![R, n] inb).emb (ix2 r l) = ix2 r l := funext fun a => Fin.ext (by
    match a with
    | ⟨0, _⟩ => show 0 + 1 * r.val = r.val; omega
    | ⟨1, _⟩ => show 0 + 1 * l.val = l.val; omega)
  refine (congrArg _ he.symm).trans ?_
  exact View.canon_cons_emb (Rect.unit (s := ⟨2, ![R, n]⟩) ![0, 0] ![R, n] inb) w L (ix2 r l)

/-- Rows of a buffer, loaded. -/
theorem ld_rows {a : ℕ} (x : (⟨2, ![R, n]⟩ : Shape).Idx → Val e) (o : ℕ)
    (inb : ∀ b : Fin 2, (![o, 0] : Fin 2 → ℕ) b + (![a, n] : Fin 2 → ℕ) b ≤ (![R, n] : Fin 2 → ℕ) b) (r : Fin a) (l : Fin n) :
    View.ld x (Rect.unit (s := ⟨2, ![R, n]⟩) ![o, 0] ![a, n] inb) (ix2 r l)
      = x (ix2 ⟨o + r.val, by have := inb 0; change o + a ≤ R at this; omega⟩ l) :=
  congrArg x (funext fun b => Fin.ext (by
    match b with
    | ⟨0, _⟩ => show o + 1 * r.val = o + r.val; omega
    | ⟨1, _⟩ => show 0 + 1 * l.val = l.val; omega))

/-- The first rows of a buffer, loaded. -/
theorem ld_rows0 {a : ℕ} (x : (⟨2, ![R, n]⟩ : Shape).Idx → Val e)
    (inb : ∀ b : Fin 2, (![0, 0] : Fin 2 → ℕ) b + (![a, n] : Fin 2 → ℕ) b ≤ (![R, n] : Fin 2 → ℕ) b) (r : Fin a) (l : Fin n) :
    View.ld x (Rect.unit (s := ⟨2, ![R, n]⟩) ![0, 0] ![a, n] inb) (ix2 r l)
      = x (ix2 ⟨r.val, by have := inb 0; change 0 + a ≤ R at this; omega⟩ l) :=
  congrArg x (funext fun b => Fin.ext (by
    match b with
    | ⟨0, _⟩ => show 0 + 1 * r.val = r.val; omega
    | ⟨1, _⟩ => show 0 + 1 * l.val = l.val; omega))

/-- Rows of a buffer, loaded after the stores `L`. -/
theorem readCov_rows {a : ℕ} (v : View sig κ sp ⟨2, ![R, n]⟩ e) (L : List (View.Piece Val ⟨2, ![R, n]⟩ e)) (o : ℕ)
    (inb : ∀ b : Fin 2, (![o, 0] : Fin 2 → ℕ) b + (![a, n] : Fin 2 → ℕ) b ≤ (![R, n] : Fin 2 → ℕ) b) (r : Fin a) (l : Fin n) :
    v.readCov L (Rect.unit (s := ⟨2, ![R, n]⟩) ![o, 0] ![a, n] inb).toLoadRect (ix2 r l)
      = View.canon L (ix2 ⟨o + r.val, by have := inb 0; change o + a ≤ R at this; omega⟩ l) := by
  rw [View.readCov_eq_canon']
  exact congrArg (View.canon L) (funext fun b => Fin.ext (by
    match b with
    | ⟨0, _⟩ => show o + 1 * r.val = o + r.val; omega
    | ⟨1, _⟩ => show 0 + 1 * l.val = l.val; omega))

/-! The same of a buffer with one leading plane. -/

theorem exists_ix3 (y : (⟨3, ![1, R, n]⟩ : Shape).Idx) : ∃ (r : Fin R) (l : Fin n), y = ix3 0 r l :=
  ⟨y 1, y 2, (eq_ix3 y).trans (congrArg (fun a : Fin 1 => ix3 a (y 1) (y 2)) (Subsingleton.elim (α := Fin 1) (y 0) 0))⟩

/-- The newest store covers row `o`: that row reads its payload, any other row what was there. -/
theorem read_row3 (v : View sig κ sp ⟨3, ![1, R, n]⟩ e) (f : v.ty.Contents Val) (o : ℕ)
    (inb : ∀ a : Fin 3, (![0, o, 0] : Fin 3 → ℕ) a + (![1, 1, n] : Fin 3 → ℕ) a ≤ (![1, R, n] : Fin 3 → ℕ) a)
    (w : (⟨3, ![1, 1, n]⟩ : Shape).Idx → Val e) (L : List (View.Piece Val ⟨3, ![1, R, n]⟩ e)) (r : Fin R) (l : Fin n) :
    v.read Val (v.writes Val f (⟨Rect.unit (s := ⟨3, ![1, R, n]⟩) ![0, o, 0] ![1, 1, n] inb, w⟩ :: L)) (ix3 0 r l)
      = if r.val = o then w (ix3 0 0 l) else v.read Val (v.writes Val f L) (ix3 0 r l) := by
  by_cases h : r.val = o
  · rw [if_pos h]
    refine View.read_writes_cons_unit_of_mem v f inb w L (ix3 0 r l) (ix3 0 0 l) rfl fun a => ?_
    match a with
    | ⟨0, _⟩ => rfl
    | ⟨1, _⟩ => exact h
    | ⟨2, _⟩ => exact (Nat.zero_add _).symm
  · rw [if_neg h]
    exact View.read_writes_cons_unit_of_not_mem v f inb w L (ix3 0 r l) rfl (1 : Fin 3) (by change r.val < o ∨ o + 1 ≤ r.val; omega)

/-- The same of the contents a list of stores leaves over nothing in particular. -/
theorem canon_row3 (o : ℕ)
    (inb : ∀ a : Fin 3, (![0, o, 0] : Fin 3 → ℕ) a + (![1, 1, n] : Fin 3 → ℕ) a ≤ (![1, R, n] : Fin 3 → ℕ) a)
    (w : (⟨3, ![1, 1, n]⟩ : Shape).Idx → Val e) (L : List (View.Piece Val ⟨3, ![1, R, n]⟩ e)) (r : Fin R) (l : Fin n) :
    View.canon (Val := Val) (s := ⟨3, ![1, R, n]⟩) (e := e) (⟨Rect.unit (s := ⟨3, ![1, R, n]⟩) ![0, o, 0] ![1, 1, n] inb, w⟩ :: L) (ix3 0 r l)
      = if r.val = o then w (ix3 0 0 l) else View.canon (Val := Val) (s := ⟨3, ![1, R, n]⟩) (e := e) L (ix3 0 r l) := by
  by_cases h : r.val = o
  · rw [if_pos h]
    have he : (Rect.unit (s := ⟨3, ![1, R, n]⟩) ![0, o, 0] ![1, 1, n] inb).emb (ix3 (0 : Fin 1) (0 : Fin 1) l) = ix3 0 r l := funext fun a => Fin.ext (by
      match a with
      | ⟨0, _⟩ => rfl
      | ⟨1, _⟩ => show o + 1 * 0 = r.val; omega
      | ⟨2, _⟩ => show 0 + 1 * l.val = l.val; omega)
    rw [← he]
    exact View.canon_cons_emb (Rect.unit (s := ⟨3, ![1, R, n]⟩) ![0, o, 0] ![1, 1, n] inb) w L (ix3 (0 : Fin 1) (0 : Fin 1) l)
  · rw [if_neg h]
    refine View.canon_cons_of_not_mem _ L ?_
    rw [Rect.mem_set_unit]
    intro hall
    have h0 := hall (1 : Fin 3)
    change o ≤ r.val ∧ r.val < o + 1 at h0
    omega

/-- The oldest store fills the buffer. -/
theorem canon_fill3 (inb : ∀ a : Fin 3, (![0, 0, 0] : Fin 3 → ℕ) a + (![1, R, n] : Fin 3 → ℕ) a ≤ (![1, R, n] : Fin 3 → ℕ) a)
    (w : (⟨3, ![1, R, n]⟩ : Shape).Idx → Val e) (L : List (View.Piece Val ⟨3, ![1, R, n]⟩ e)) (r : Fin R) (l : Fin n) :
    View.canon (Val := Val) (s := ⟨3, ![1, R, n]⟩) (e := e) (⟨Rect.unit (s := ⟨3, ![1, R, n]⟩) ![0, 0, 0] ![1, R, n] inb, w⟩ :: L) (ix3 0 r l) = w (ix3 0 r l) := by
  have he : (Rect.unit (s := ⟨3, ![1, R, n]⟩) ![0, 0, 0] ![1, R, n] inb).emb (ix3 0 r l) = ix3 0 r l := funext fun a => Fin.ext (by
    match a with
    | ⟨0, _⟩ => rfl
    | ⟨1, _⟩ => show 0 + 1 * r.val = r.val; omega
    | ⟨2, _⟩ => show 0 + 1 * l.val = l.val; omega)
  refine (congrArg _ he.symm).trans ?_
  exact View.canon_cons_emb (Rect.unit (s := ⟨3, ![1, R, n]⟩) ![0, 0, 0] ![1, R, n] inb) w L (ix3 0 r l)

/-- One row of a buffer, loaded. -/
theorem ld_row3 (x : (⟨3, ![1, R, n]⟩ : Shape).Idx → Val e) (o : ℕ)
    (inb : ∀ b : Fin 3, (![0, o, 0] : Fin 3 → ℕ) b + (![1, 1, n] : Fin 3 → ℕ) b ≤ (![1, R, n] : Fin 3 → ℕ) b) (l : Fin n) :
    View.ld x (Rect.unit (s := ⟨3, ![1, R, n]⟩) ![0, o, 0] ![1, 1, n] inb) (ix3 0 0 l)
      = x (ix3 0 ⟨o, by have := inb 1; change o + 1 ≤ R at this; omega⟩ l) :=
  congrArg x (funext fun b => Fin.ext (by
    match b with
    | ⟨0, _⟩ => rfl
    | ⟨1, _⟩ => show o + 1 * 0 = o; omega
    | ⟨2, _⟩ => show 0 + 1 * l.val = l.val; omega))

/-- One row of a buffer, loaded after the stores `L`. -/
theorem readCov_row3 (v : View sig κ sp ⟨3, ![1, R, n]⟩ e) (L : List (View.Piece Val ⟨3, ![1, R, n]⟩ e)) (o : ℕ)
    (inb : ∀ b : Fin 3, (![0, o, 0] : Fin 3 → ℕ) b + (![1, 1, n] : Fin 3 → ℕ) b ≤ (![1, R, n] : Fin 3 → ℕ) b) (l : Fin n) :
    v.readCov L (Rect.unit (s := ⟨3, ![1, R, n]⟩) ![0, o, 0] ![1, 1, n] inb).toLoadRect (ix3 0 0 l)
      = View.canon L (ix3 0 ⟨o, by have := inb 1; change o + 1 ≤ R at this; omega⟩ l) := by
  rw [View.readCov_eq_canon']
  exact congrArg (View.canon L) (funext fun b => Fin.ext (by
    match b with
    | ⟨0, _⟩ => rfl
    | ⟨1, _⟩ => show o + 1 * 0 = o; omega
    | ⟨2, _⟩ => show 0 + 1 * l.val = l.val; omega))

/-! A buffer stored at once, and one stored plane by plane. -/

/-- One store over the whole buffer leaves its payload. -/
theorem canon_whole {s : Shape} (w : s.Idx → Val e) : View.canon (Val := Val) (e := e) [⟨Rect.whole s, w⟩] = w :=
  View.canon_unit_zero rfl _ w

/-- A load after one store over the whole buffer reads the payload. -/
theorem readCov_whole {s : Shape} (v : View sig κ sp s e) (w : s.Idx → Val e) (r : Rect s) :
    v.readCov [⟨Rect.whole s, w⟩] r.toLoadRect = View.ld w r := by
  rw [View.readCov_eq_canon', canon_whole]

/-- The newest store covers plane `o`: that plane holds its payload, any other plane what was there. -/
theorem canon_plane {A : ℕ} (o : ℕ)
    (inb : ∀ a : Fin 3, (![o, 0, 0] : Fin 3 → ℕ) a + (![1, R, n] : Fin 3 → ℕ) a ≤ (![A, R, n] : Fin 3 → ℕ) a)
    (w : (⟨3, ![1, R, n]⟩ : Shape).Idx → Val e) (L : List (View.Piece Val ⟨3, ![A, R, n]⟩ e)) (a : Fin A) (r : Fin R) (l : Fin n) :
    View.canon (Val := Val) (s := ⟨3, ![A, R, n]⟩) (e := e) (⟨Rect.unit (s := ⟨3, ![A, R, n]⟩) ![o, 0, 0] ![1, R, n] inb, w⟩ :: L) (ix3 a r l)
      = if a.val = o then w (ix3 0 r l) else View.canon (Val := Val) (s := ⟨3, ![A, R, n]⟩) (e := e) L (ix3 a r l) := by
  by_cases h : a.val = o
  · rw [if_pos h]
    have he : (Rect.unit (s := ⟨3, ![A, R, n]⟩) ![o, 0, 0] ![1, R, n] inb).emb (ix3 (0 : Fin 1) r l) = ix3 a r l := funext fun b => Fin.ext (by
      match b with
      | ⟨0, _⟩ => show o + 1 * 0 = a.val; omega
      | ⟨1, _⟩ => show 0 + 1 * r.val = r.val; omega
      | ⟨2, _⟩ => show 0 + 1 * l.val = l.val; omega)
    rw [← he]
    exact View.canon_cons_emb (Rect.unit (s := ⟨3, ![A, R, n]⟩) ![o, 0, 0] ![1, R, n] inb) w L (ix3 (0 : Fin 1) r l)
  · rw [if_neg h]
    refine View.canon_cons_of_not_mem _ L ?_
    rw [Rect.mem_set_unit]
    intro hall
    have h0 := hall (0 : Fin 3)
    change o ≤ a.val ∧ a.val < o + 1 at h0
    omega

end Cert.Rows

end
-- ==== Proof.MixOut.Array.lean ====
/- What the kernel's three result arrays hold after the run. -/
module

public import proofs.«01_k».proof.Proof.Gen.KernelIdeal.Value
public import Idealize.ShloMosaic.Lib.Pipeline.ValueKit
public import proofs.«01_k».proof.Proof.MixOut.Block
public import proofs.«01_k».proof.Proof.Rows

@[expose] public section

set_option maxRecDepth 16384

noncomputable section

namespace Cert.MixOut.Array

open Cert.KernelIdeal Cert.KernelIdeal.Gen Idealize.ShloMosaic Idealize.ShloMosaic.TcCoe Idealize.SL.Sem
open Idealize.ShloMosaic.Pipeline (Dat)
open Cert.Grad Cert.Lift Cert.MixOut

variable (m : (ℓ : Loc nD τ sig) → Buf (Elt Ideal) ℓ) {p : Data} {c : Dev nD}

/-- The arguments in memory hold the reals of `p`. -/
abbrev Mem (p : Data) (c : Dev nD) : Prop :=
  Holds p (m ((c : Thread nD τ).loc main_arg0)) (m ((c : Thread nD τ).loc main_arg1)) (m ((c : Thread nD τ).loc main_arg2))
    (m ((c : Thread nD τ).loc main_arg3)) (m ((c : Thread nD τ).loc main_arg4))

theorem idx : ∀ t : Fin cfg0.N, win0_0.index t = ![t.val, 0] ∧ win0_1.index t = ![t.val, 0] ∧ win0_2.index t = ![0, 0]
    ∧ win0_3.index t = ![0, 0] ∧ win0_4.index t = ![0, 0] ∧ win0_5.index t = ![t.val, 0] ∧ win0_6.index t = ![t.val, 0]
    ∧ win0_7.index t = ![0, 0] ∧ t.val < 16 :=
  (by decide +kernel : ∀ t : Fin grid0.N, _)

/-- The tokens of grid point `t`. -/
def tok (t : Fin cfg0.N) (r : Fin 512) : Fin 8192 := ⟨512 * t.val + r.val, by have := (idx t).2.2.2.2.2.2.2.2; omega⟩

theorem blk (h : Mem m p c) (t : Fin cfg0.N) :
    Block.Blk p (tok t) (iblk m c 0 t) (iblk m c 1 t) (iblk m c 2 t) (iblk m c 3 t) (iblk m c 4 t) where
  d r k := by
    rw [← h.d]
    blk_point [iblk, V, idx t, tok]
  u r k := by
    rw [← h.u]
    blk_point [iblk, V, idx t, tok]
  g k := by
    rw [← h.g]
    blk_point [iblk, V, idx t, tok]
  b k := by
    rw [← h.b]
    blk_point [iblk, V, idx t, tok]
  w a k := by
    rw [← h.w]
    blk_point [iblk, V, idx t, tok]

theorem final5 (h : Mem m p c) : (dats m 0 c).arrAt 5 cfg0.N = out0 p := by
  refine (dats m 0 c).arrAt_eq_of_covers 5 _ (by decide +kernel) fun t hf y => ?_
  obtain ⟨r, l, rfl⟩ : ∃ (r l : Fin 512), y = ix2 r l := ⟨_, _, eq_ix2 y⟩
  have e : ((cfg0.win 5).blk t).view.emb (ix2 r l) = ix2 (tok t r) l := by blk_ext [idx t, tok]
  refine Eq.trans ?_ (congrArg (out0 p) e).symm
  rw [after0_5]
  by_cases h0 : t.val % 16 = 0
  · rw [outsAt0_A m c t h0]; frame_out
    exact Block.pay1 (blk m h t) _ (fun r k => by rw [Rows.ld_rows]; simp only [Nat.zero_add]) r l
  · rw [outsAt0_B m c t h0]; frame_out
    exact Block.pay1 (blk m h t) _ (fun r k => by rw [Rows.ld_rows]; simp only [Nat.zero_add]) r l

theorem final6 (h : Mem m p c) : (dats m 0 c).arrAt 6 cfg0.N = out1 p := by
  refine (dats m 0 c).arrAt_eq_of_covers 6 _ (by decide +kernel) fun t hf y => ?_
  obtain ⟨r, l, rfl⟩ : ∃ (r l : Fin 512), y = ix2 r l := ⟨_, _, eq_ix2 y⟩
  have e : ((cfg0.win 6).blk t).view.emb (ix2 r l) = ix2 (tok t r) l := by blk_ext [idx t, tok]
  refine Eq.trans ?_ (congrArg (out1 p) e).symm
  rw [after0_6]
  by_cases h0 : t.val % 16 = 0
  · rw [outsAt0_A m c t h0]; frame_out
    exact Block.pay5 (blk m h t) _ (fun r k => Rows.ld_rows _ _ _ r k) r l
  · rw [outsAt0_B m c t h0]; frame_out
    exact Block.pay5 (blk m h t) _ (fun r k => Rows.ld_rows _ _ _ r k) r l

/-- What grid point `t` adds to the two rows of sums. -/
def term (p : Data) (t : Fin cfg0.N) (r : Fin 8) (l : Fin 512) : EReal :=
  if r.val = 1 then ((∑ s, dz p (tok t s) l : ℝ) : EReal)
  else if r.val = 0 then ((∑ s, dz p (tok t s) l * xh 512 (p.U (tok t s)) l : ℝ) : EReal) else 0

theorem first7 (h : Mem m p c) (t : Fin cfg0.N) (h0 : t.val % 16 = 0) (r : Fin 8) (l : Fin 512) :
    (outsAt0 m c t.val t.isLt).2.2 (ix2 r l) = 0 + term p t r l := by
  rw [outsAt0_A m c t h0]
  simp (disch := decide) only [↓ View.readCov_skip, ↓ View.readCov_cons_toLoadRect, ↓ View.readCov_fill]
  frame_out
  unfold term
  rw [Rows.canon_row, Rows.canon_row, Rows.canon_fill, Block.pay12 (blk m h t) _ (fun r k => by rw [Rows.ld_rows]; simp only [Nat.zero_add]),
    Block.pay11 (blk m h t) _ (fun r k => by rw [Rows.ld_rows]; simp only [Nat.zero_add]), Rows.readCov_rows, Rows.readCov_rows,
    Rows.canon_row, Rows.canon_fill, Rows.canon_fill]
  have z : ∀ i, k0_pay2 (F := Ideal) i = 0 := fun i => by pointwise [k0_pay2]
  simp only [z]
  split <;> [skip; split] <;> simp

theorem next7 (h : Mem m p c) (t : Fin cfg0.N) (h0 : ¬t.val % 16 = 0) (r : Fin 8) (l : Fin 512) :
    (outsAt0 m c t.val t.isLt).2.2 (ix2 r l) = (outsAt0 m c (t.val - 1) (Nat.lt_of_le_of_lt (Nat.sub_le _ _) t.isLt)).2.2 (ix2 r l) + term p t r l := by
  rw [outsAt0_B m c t h0]; frame_out
  unfold term
  rw [Rows.read_row, Rows.read_row, Block.pay12 (blk m h t) _ (fun r k => by rw [Rows.ld_rows]; simp only [Nat.zero_add]),
    Block.pay11 (blk m h t) _ (fun r k => by rw [Rows.ld_rows]; simp only [Nat.zero_add]), Rows.ld_rows, Rows.ld_rows]
  split <;> [skip; split]
  · rw [show (⟨1 + ((0 : Fin 1) : ℕ), by decide⟩ : Fin 8) = r from Fin.ext (by simpa using (‹r.val = 1›).symm)]
  · rw [show (⟨0 + ((0 : Fin 1) : ℕ), by decide⟩ : Fin 8) = r from Fin.ext (by simpa using (‹r.val = 0›).symm)]
  · rw [add_zero]
    exact congrFun (Memref.IsWhole.read_unread _ _) _

theorem final7 (h : Mem m p c) : (dats m 0 c).arrAt 7 cfg0.N = out2 p := by
  refine (dats m 0 c).arrAt_eq_of_covers 7 _ (by decide +kernel) fun t hf y => ?_
  obtain ⟨r, l, rfl⟩ : ∃ (r : Fin 8) (l : Fin 512), y = ix2 r l := ⟨_, _, eq_ix2 y⟩
  have e : ((cfg0.win 7).blk t).view.emb (ix2 r l) = ix2 r l := by blk_ext [idx t]
  refine Eq.trans ?_ (congrArg (out2 p) e).symm
  have ht : t.val / 16 = 0 := by have := (idx t).2.2.2.2.2.2.2.2; omega
  rw [after0_7, Pipeline.eq_sum_fin_of_reset_step_apply_of_flush (fun n h => (outsAt0 m c n h).2.2) 16 (fun _ => 0)
    (fun t j => term p t (j 0) (j 1)) (fun t h0 j => (congrArg _ (eq_ix2 j)).trans (first7 m h t h0 (j 0) (j 1)))
    (fun t h0 j => by rw [eq_ix2 j]; exact next7 m h t h0 (j 0) (j 1)) t ((flush0_7 t).mp hf) _, zero_add]
  have hsum : ∀ f : Fin 8192 → ℝ, ∑ s : Fin 16, ((∑ k : Fin 512, f (tok ⟨16 * (t.val / 16) + s.val, Pipeline.run_point_lt_of_flush t ((flush0_7 t).mp hf) s⟩ k) : ℝ) : EReal)
      = ((∑ r, f r : ℝ) : EReal) := fun f => by
    rw [coe_sum]
    exact congrArg _ (Fin.sum_mul_add_congr fun s k hl => congrArg f (Fin.ext (by
      show 512 * (16 * (t.val / 16) + s.val) + k.val = s.val * 512 + k.val
      rw [ht]; ring)))
  show ∑ s : Fin 16, term p _ r l = out2 p (ix2 r l)
  unfold term out2
  by_cases h1 : r.val = 1
  · simp only [h1, if_true]
    exact (hsum fun r => dz p r l).trans (by simp [h1, db])
  · by_cases h2 : r.val = 0
    · simp only [h2, if_true, zero_ne_one, if_false]
      exact (hsum fun r => dz p r l * xh 512 (p.U r) l).trans (by simp [h2, dg])
    · simp only [h1, h2, if_false]
      simp [h1, h2]

end Cert.MixOut.Array

end
-- ==== Proof.MixOut.Reference.lean ====
/- The reference's three results over real arguments are the real formulas. -/
module

public import proofs.«01_k».proof.Proof.Gen.ReferenceIdeal.Read
public import proofs.«01_k».proof.Proof.MixOut.Spec

@[expose] public section

set_option maxRecDepth 16384

noncomputable section

namespace Cert.MixOut.Ref

open Cert.ReferenceIdeal Cert.ReferenceIdeal.Gen Cert.ReferenceIdeal.Read Idealize.ShloMosaic Idealize.ShloMosaic.TcCoe Idealize.SL.Sem
open Cert.Grad Cert.Lift Cert.MixOut

variable {p : Data} {x0 : FVec Ideal S4x2048x1024 .f32} {x1 : FVec Ideal S4x2048x512 .f32} {x2 x3 : FVec Ideal S1x512 .f32}
  {x4 : FVec Ideal S1x1024x1024 .f32} (h : Holds p x0 x1 x2 x3 x4)
include h

theorem v9 (r : Fin 8192) (l : Fin 512) : val_main_v9 (F := Ideal) x1 (ix2 r l) = ((cen 512 (p.U r) l : ℝ) : EReal) := by
  pointwise [val_main_v9, val_main_v8, val_main_v7, val_main_v6, val_main_v5, val_main_v4, val_main_v1, val_main_cst_0, val_main_cst_1]
  simp only [h.u, w512, coe_sum, zero_add]
  rw [div_coe (by norm_num), ← EReal.coe_sub]; rfl

theorem v18 (r : Fin 8192) (l : Fin 512) : val_main_v18 (F := Ideal) x1 (ix2 r l) = ((cen 512 (p.U r) l : ℝ) : EReal) := v9 h r l

theorem v20 (r : Fin 8192) : val_main_v20 (F := Ideal) x1 (ix2 r 0) = ((vare 512 (p.U r) : ℝ) : EReal) := by
  pointwise [val_main_v20, val_main_v19, val_main_cst_5, val_main_v16, val_main_v15, val_main_v14, val_main_v13, val_main_v10, val_main_cst_3, val_main_cst_4]
  simp only [v9 h, w512, coe_sum, zero_add, wEps, ← EReal.coe_mul]
  rw [div_coe (by norm_num), ← EReal.coe_add]; rfl

theorem v21 (r : Fin 8192) : val_main_v21 (F := Ideal) x1 (ix2 r 0) = ((rs 512 (p.U r) : ℝ) : EReal) := by
  pointwise [val_main_v21]
  rw [v20 h, rsqrt_coe (vare_pos (by norm_num) _)]; rfl

theorem v24 (r : Fin 8192) : val_main_v24 (F := Ideal) x1 (ix2 r 0) = (((-1 / 2) * (rs 512 (p.U r) / vare 512 (p.U r)) : ℝ) : EReal) := by
  pointwise [val_main_v24, val_main_v23, val_main_v22, val_main_cst_6]
  rw [v20 h, v21 h, wNegHalf, div_coe (vare_pos (by norm_num) _).ne', ← EReal.coe_mul]

theorem v26 (r : Fin 8192) (l : Fin 512) : val_main_v26 (F := Ideal) x1 (ix2 r l) = ((xh 512 (p.U r) l : ℝ) : EReal) := by
  pointwise [val_main_v26, val_main_v25]
  rw [v18 h, v21 h, ← EReal.coe_mul]; rfl

theorem v32 (r : Fin 8192) (l : Fin 512) : val_main_v32 (F := Ideal) x1 x2 x3 (ix2 r l) = ((z p r l : ℝ) : EReal) := by
  pointwise [val_main_v32, val_main_v31, val_main_v30, val_main_v29, val_main_v28, val_main_v27, val_main_v3, val_main_v2]
  rw [v26 h, h.g, h.b, ← EReal.coe_mul, ← EReal.coe_add]; rfl

theorem v33_2 (r : Fin 8192) (l : Fin 512) : val_main_v33_2 (F := Ideal) x1 x2 x3 (ix2 r l) = ((sig (z p r l) : ℝ) : EReal) := by
  pointwise [val_main_v33_2, val_main_call0_v4, val_main_call0_v3, val_main_call0_v2, val_main_call0_v1, val_main_call0_v0, val_main_call0_cst, val_main_call0_cst_0]
  rw [v32 h, ← EReal.coe_neg, sig_coe]

theorem v38 (r : Fin 8192) (l : Fin 1024) : val_main_v38 (F := Ideal) x0 x4 (ix2 r l) = ((dy p r l : ℝ) : EReal) := by
  pointwise [val_main_v38, val_main_v37, val_main_v35]
  simp only [h.d, h.w, ← EReal.coe_mul, coe_sum]; rfl

theorem v41 (r : Fin 8192) (l : Fin 512) : val_main_v41 (F := Ideal) x0 x1 x2 x3 x4 (ix2 r l) = ((dz p r l : ℝ) : EReal) := by
  pointwise [val_main_v41, val_main_call1_v2, val_main_call1_v1, val_main_call1_v0, val_main_v39, val_main_v33_1, val_main_call0_v7, val_main_call0_v6, val_main_call0_cst_1]
  simp only [v38 h, v33_2 h, v32 h, ← EReal.coe_one, ← EReal.coe_mul, ← EReal.coe_add, ← EReal.coe_sub, dz, dsilu]
  refine congrArg _ ?_
  ring

theorem v49 (r : Fin 8192) (l : Fin 512) : val_main_v49 (F := Ideal) x0 x1 x2 x3 x4 (ix2 r l) = ((dz p r l * p.G l : ℝ) : EReal) := by
  pointwise [val_main_v49, val_main_v48, val_main_v27, val_main_v2]
  rw [v41 h, h.g, ← EReal.coe_mul]

theorem v61 (r : Fin 8192) : val_main_v61 (F := Ideal) x0 x1 x2 x3 x4 (ix2 r 0) = ((lnT 512 (p.U r) (fun k => dz p r k * p.G k) : ℝ) : EReal) := by
  pointwise [val_main_v61, val_main_v60, val_main_v56, val_main_v53, val_main_v52, val_main_v51, val_main_cst_11, val_main_cst_13]
  simp only [v18 h, v49 h, v24 h, w512, coe_sum, zero_add, ← EReal.coe_mul]
  rw [div_coe (by norm_num)]; rfl

theorem v55 (r : Fin 8192) (l : Fin 512) : val_main_v55 (F := Ideal) x0 x1 x2 x3 x4 (ix2 r l) = ((dz p r l * p.G l * rs 512 (p.U r) : ℝ) : EReal) := by
  pointwise [val_main_v55, val_main_v54]
  rw [v49 h, v21 h, ← EReal.coe_mul]

theorem v64 (r : Fin 8192) (l : Fin 512) : val_main_v64 (F := Ideal) x0 x1 x2 x3 x4 (ix2 r l) = ((lnT 512 (p.U r) (fun k => dz p r k * p.G k) * (2 * cen 512 (p.U r) l) : ℝ) : EReal) := by
  pointwise [val_main_v64, val_main_v63, val_main_v62, val_main_v12, val_main_v11, val_main_cst_2, val_main_cst_14]
  simp only [Fin.sum_univ_one, v61 h, v9 h, w2, zero_add, ← EReal.coe_mul]

theorem v74 (r : Fin 8192) (l : Fin 512) : val_main_v74 (F := Ideal) x0 x1 x2 x3 x4 (ix2 r l) = ((du p r l : ℝ) : EReal) := by
  pointwise [val_main_v74, val_main_v73, val_main_v72, val_main_v71, val_main_v70, val_main_v69, val_main_v68, val_main_v67, val_main_v66, val_main_v65, val_main_v59, val_main_v58, val_main_v57, val_main_cst_12, val_main_cst_15, val_main_cst_16, val_main_cst_17]
  simp only [v55 h, v64 h, w512, zero_add, ← EReal.coe_neg, coe_sum, ← EReal.coe_add]
  rw [div_coe (by norm_num), Fin.sum_univ_one, ← EReal.coe_add, du, ← lnVjp_eq (by norm_num) (by norm_num)]; rfl

theorem out0_eq : val_main_v74 (F := Ideal) x0 x1 x2 x3 x4 = out0 p := by
  funext i
  idx_vars i
  exact v74 h _ _

theorem out1_eq : val_main_v40 (F := Ideal) x0 x4 = out1 p := by
  funext i
  idx_vars i
  pointwise [val_main_v40]
  exact v38 h _ _

theorem v42 (l : Fin 512) : val_main_v42 (F := Ideal) x0 x1 x2 x3 x4 (ix1 l) = ((db p l : ℝ) : EReal) := by
  pointwise [val_main_v42, val_main_cst_7]
  simp only [v41 h, coe_sum, zero_add]; rfl

theorem v46 (l : Fin 512) : val_main_v46 (F := Ideal) x0 x1 x2 x3 x4 (ix1 l) = ((dg p l : ℝ) : EReal) := by
  pointwise [val_main_v46, val_main_v45, val_main_cst_9]
  simp only [v26 h, v41 h, ← EReal.coe_mul, coe_sum, zero_add, mul_comm (xh _ _ _)]; rfl

theorem out2_eq : val_main_v82 (F := Ideal) x0 x1 x2 x3 x4 = out2 p := by
  funext i
  idx_vars i
  pointwise [val_main_v82, val_main_v81, val_main_v80, val_main_v79, val_main_v78, val_main_v77, val_main_v76, val_main_v75, val_main_v50, val_main_v47, val_main_v44, val_main_v43,
    val_main_cst_8, val_main_cst_10, val_main_cst_18]
  simp only [v42 h, v46 h, zero_add, Fin.sum_univ_one]
  fin_vals i0 with hk
  all_goals (simp only [hk, Nat.reduceSub, Nat.reduceLT, ↓reduceDIte]; simp [out2, hk])

end Cert.MixOut.Ref

end
-- ==== Proof.MixOut.Claim.lean ====
/- The value claim of the gradient through the output projection, the swish and the layer norm. -/
module

public import proofs.«01_k».proof.Defs
public import proofs.«01_k».proof.Proof.Gen.Pre_finite
public import proofs.«01_k».proof.Proof.Gen.ReferenceIdeal.Run
public import proofs.«01_k».proof.Proof.MixOut.Array
public import proofs.«01_k».proof.Proof.MixOut.Reference

@[expose] public section

set_option maxRecDepth 16384

noncomputable section

namespace Cert.MixOut

open Idealize.ShloMosaic Idealize.ShloMosaic.TcCoe Idealize.SL.Sem
open Cert.Lift

/-- Under the precondition the arguments are arrays of reals. -/
theorem holds_of_finite (x0 : FVec Ideal ⟨3, ![4, 2048, 1024]⟩ .f32) (x1 : FVec Ideal ⟨3, ![4, 2048, 512]⟩ .f32)
    (x2 x3 : FVec Ideal ⟨2, ![1, 512]⟩ .f32) (x4 : FVec Ideal ⟨3, ![1, 1024, 1024]⟩ .f32)
    (h : Cert.Pre_finite.fn (F := Ideal) x0 x1 x2 x3 x4 = fun _ => 1#1) : ∃ p, Holds p x0 x1 x2 x3 x4 := by
  have h := congrFun h (fun a => a.elim0)
  unfold Cert.Pre_finite.fn Cert.Pre_finite.fn_part1 at h
  obtain ⟨h, h4⟩ := andi_one h
  obtain ⟨h, h3⟩ := andi_one h
  obtain ⟨h, h2⟩ := andi_one h
  obtain ⟨h0, h1⟩ := andi_one h
  choose f0 e0 using real_of_all x0 _ _ _ _ _ h0
  choose f1 e1 using real_of_all x1 _ _ _ _ _ h1
  choose f2 e2 using real_of_all x2 _ _ _ _ _ h2
  choose f3 e3 using real_of_all x3 _ _ _ _ _ h3
  choose f4 e4 using real_of_all x4 _ _ _ _ _ h4
  exact ⟨⟨fun r k => f0 (ix3 ⟨r.val / 2048, by omega⟩ ⟨r.val % 2048, by omega⟩ k),
    fun r k => f1 (ix3 ⟨r.val / 2048, by omega⟩ ⟨r.val % 2048, by omega⟩ k), fun k => f2 (ix2 0 k), fun k => f3 (ix2 0 k),
    fun a k => f4 (ix3 0 a k)⟩, ⟨fun _ _ => e0 _, fun _ _ => e1 _, fun _ => e2 _, fun _ => e3 _, fun _ _ => e4 _⟩⟩

theorem algebraic : Cert.algebraic_KernelIdeal_ReferenceIdeal_pre_finite := by
  pair_intro
  · run_from Cert.KernelIdeal.Value.run_blocks m g
  · choose p h using fun c => holds_of_finite _ _ _ _ _ (hpre c)
    run_from Cert.ReferenceIdeal.Value.run m' g'
    · obtain ⟨e0, e1, e2, e3, e4⟩ := hagree c
      rw [Cert.ReferenceIdeal.Read.val_main_v74_eq, e0, e1, e2, e3, e4]
      exact (Ref.out0_eq (h c)).trans (Array.final5 m (h c)).symm
    · exact (Ref.out1_eq (h c)).trans (Array.final6 m (h c)).symm
    · obtain ⟨e0, e1, e2, e3, e4⟩ := hagree c
      rw [Cert.ReferenceIdeal.Read.val_main_v82_eq, e0, e1, e2, e3, e4]
      exact (Ref.out2_eq (h c)).trans (Array.final7 m (h c)).symm

end Cert.MixOut

end
-- ==== Proof.MixIn.Spec.lean ====
/- The gradient through the input projection, the modulation and the root mean square norm as real formulas: what the kernel and the
   reference both compute. -/
module

public import proofs.«01_k».proof.Proof.Grad

@[expose] public section

noncomputable section

namespace Cert.MixIn

open Cert.Grad Cert.Lift Idealize.ShloMosaic
open scoped BigOperators

/-- The arguments as real arrays: the layer's input `X`, the modulation's shift `SH` and scale `SC`, the norm's gain `G`, the projection `W`,
    and the gradients `DX` of the residual stream and `DP` of the projection's output. Tokens are numbered by sequence and position. -/
structure Data where
  X : Fin 4 → Fin 2048 → Fin 1024 → ℝ
  M : Fin 4 → Fin 6144 → ℝ
  G : Fin 1024 → ℝ
  W : Fin 1024 → Fin 2560 → ℝ
  DX : Fin 4 → Fin 2048 → Fin 1024 → ℝ
  DP : Fin 4 → Fin 2048 → Fin 2560 → ℝ

/-- The argument arrays hold these reals. -/
structure Holds (p : Data) (x0 : FVec Ideal ⟨3, ![4, 2048, 1024]⟩ .f32) (x1 : FVec Ideal ⟨2, ![4, 6144]⟩ .f32)
    (x2 : FVec Ideal ⟨2, ![1, 1024]⟩ .f32) (x3 : FVec Ideal ⟨3, ![1, 1024, 2560]⟩ .f32) (x4 : FVec Ideal ⟨3, ![4, 2048, 1024]⟩ .f32)
    (x5 : FVec Ideal ⟨3, ![4, 2048, 2560]⟩ .f32) : Prop where
  x : ∀ b s k, x0 (ix3 b s k) = ((p.X b s k : ℝ) : EReal)
  m : ∀ b k, x1 (ix2 b k) = ((p.M b k : ℝ) : EReal)
  g : ∀ k : Fin 1024, x2 (ix2 0 k) = ((p.G k : ℝ) : EReal)
  w : ∀ (a : Fin 1024) (k : Fin 2560), x3 (ix3 0 a k) = ((p.W a k : ℝ) : EReal)
  dx : ∀ b s k, x4 (ix3 b s k) = ((p.DX b s k : ℝ) : EReal)
  dp : ∀ b s k, x5 (ix3 b s k) = ((p.DP b s k : ℝ) : EReal)

variable (p : Data)

/-- The modulation's scale: its second part. -/
def sc (b : Fin 4) (l : Fin 1024) : ℝ := p.M b ⟨1024 + l.val, by omega⟩

/-- The gradient of the projection's input. -/
def dh (b : Fin 4) (s : Fin 2048) (l : Fin 1024) : ℝ := ∑ k, p.DP b s k * p.W l k

/-- The gradient of the norm's output before the modulation. -/
def dn (b : Fin 4) (s : Fin 2048) (l : Fin 1024) : ℝ := dh p b s l * (1 + sc p b l)

/-- The gradient of the shift. -/
def dsh (b : Fin 4) (l : Fin 1024) : ℝ := ∑ s, dh p b s l

/-- The gradient of the scale. -/
def dsc (b : Fin 4) (l : Fin 1024) : ℝ := ∑ s, dh p b s l * (xr 1024 (p.X b s) l * p.G l)

/-- The gradient of the gain. -/
def dg (l : Fin 1024) : ℝ := ∑ b, ∑ s, dn p b s l * xr 1024 (p.X b s) l

/-- The gradient of the layer's input. -/
def dx (b : Fin 4) (s : Fin 2048) (l : Fin 1024) : ℝ := p.DX b s l + rmsBack 1024 (p.X b s) (fun k => dn p b s k * p.G k) l

/-- The first result, one row per token. -/
def out0 : FVec Ideal ⟨2, ![8192, 1024]⟩ .f32 := fun i =>
  ((dx p ⟨(i 0).val / 2048, by have := (i 0).isLt; change (i 0).val < 8192 at this; omega⟩ ⟨(i 0).val % 2048, by omega⟩ (i 1) : ℝ) : EReal)

/-- The second result: the gain's gradient in row 0, zeros below. -/
def out1 : FVec Ideal ⟨2, ![8, 1024]⟩ .f32 := fun i => (((if (i 0).val = 0 then dg p (i 1) else 0 : ℝ)) : EReal)

/-- The third result: for every sequence the shift's gradient in row 0, the scale's in row 1, zeros below. -/
def out2 : FVec Ideal ⟨3, ![4, 8, 1024]⟩ .f32 := fun i =>
  (((if (i 1).val = 0 then dsh p (i 0) (i 2) else if (i 1).val = 1 then dsc p (i 0) (i 2) else 0 : ℝ)) : EReal)

end Cert.MixIn

end
-- ==== Proof.MixIn.Block.lean ====
/- What the kernel's body computes from one block of 512 tokens, over real arguments. -/
module

public import proofs.«01_k».proof.Proof.Gen.Kernel2Ideal.Skeleton
public import Idealize.ShloMosaic.Lib.Pipeline.ValueKit
public import proofs.«01_k».proof.Proof.MixIn.Spec

@[expose] public section

set_option maxRecDepth 16384

noncomputable section

namespace Cert.MixIn.Block

open Cert.Kernel2Ideal Cert.Kernel2Ideal.Gen Idealize.ShloMosaic Idealize.ShloMosaic.TcCoe Idealize.SL.Sem
open Cert.Grad Cert.Lift Cert.MixIn

/-- The blocks a grid point reads hold the positions numbered by `ρ` of sequence `b`; the projection's gradient comes in five slices of 512
    columns, the projection transposed. -/
structure Blk (p : Data) (b : Fin 4) (ρ : Fin 512 → Fin 2048) (y0 y1 y2 y3 y4 : FVec Ideal S512x512 .bf16) (yw : FVec Ideal S2560x1024 .bf16)
    (yx yd : FVec Ideal S512x1024 .f32) (ym : FVec Ideal S1x8x1024 .f32) (yg : FVec Ideal S1x1024 .f32) : Prop where
  d0 : ∀ r (k : Fin 512), y0 (ix2 r k) = ((p.DP b (ρ r) ⟨k.val, by omega⟩ : ℝ) : EReal)
  d1 : ∀ r (k : Fin 512), y1 (ix2 r k) = ((p.DP b (ρ r) ⟨512 + k.val, by omega⟩ : ℝ) : EReal)
  d2 : ∀ r (k : Fin 512), y2 (ix2 r k) = ((p.DP b (ρ r) ⟨1024 + k.val, by omega⟩ : ℝ) : EReal)
  d3 : ∀ r (k : Fin 512), y3 (ix2 r k) = ((p.DP b (ρ r) ⟨1536 + k.val, by omega⟩ : ℝ) : EReal)
  d4 : ∀ r (k : Fin 512), y4 (ix2 r k) = ((p.DP b (ρ r) ⟨2048 + k.val, by omega⟩ : ℝ) : EReal)
  w : ∀ k a, yw (ix2 k a) = ((p.W a k : ℝ) : EReal)
  x : ∀ r k, yx (ix2 r k) = ((p.X b (ρ r) k : ℝ) : EReal)
  dx : ∀ r k, yd (ix2 r k) = ((p.DX b (ρ r) k : ℝ) : EReal)
  m : ∀ k : Fin 1024, ym (ix3 0 1 k) = ((sc p b k : ℝ) : EReal)
  g : ∀ k : Fin 1024, yg (ix2 0 k) = ((p.G k : ℝ) : EReal)

/-- A sum over 2560 columns, slice by slice. -/
theorem sum_slices (f : Fin 2560 → ℝ) :
    ∑ k, f k = (∑ k : Fin 512, f ⟨k.val, by omega⟩) + (∑ k : Fin 512, f ⟨512 + k.val, by omega⟩) + (∑ k : Fin 512, f ⟨1024 + k.val, by omega⟩)
      + (∑ k : Fin 512, f ⟨1536 + k.val, by omega⟩) + ∑ k : Fin 512, f ⟨2048 + k.val, by omega⟩ := by
  rw [← Fin.sum_mul_add_congr (S := 5) (n := 512) (F := fun s k => f ⟨s.val * 512 + k.val, by omega⟩) (fun s k hl => rfl), Fin.sum_univ_five]
  refine congrArg₂ _ (congrArg₂ _ (congrArg₂ _ (congrArg₂ _ ?_ ?_) ?_) ?_) ?_ <;>
    exact Finset.sum_congr rfl fun k _ => congrArg f (Fin.ext (by simp))

variable {p : Data} {b : Fin 4} {ρ : Fin 512 → Fin 2048} {y0 y1 y2 y3 y4 : FVec Ideal S512x512 .bf16} {yw : FVec Ideal S2560x1024 .bf16}
    {yx yd : FVec Ideal S512x1024 .f32} {ym : FVec Ideal S1x8x1024 .f32} {yg : FVec Ideal S1x1024 .f32}
    (h : Blk p b ρ y0 y1 y2 y3 y4 yw yx yd ym yg)
include h

theorem pay6 (w0 w1 w2 w3 w4 : FVec Ideal S512x1024 .bf16) (h0 : ∀ r k, w0 (ix2 r k) = yw (ix2 ⟨r.val, by omega⟩ k))
    (h1 : ∀ r k, w1 (ix2 r k) = yw (ix2 ⟨512 + r.val, by omega⟩ k)) (h2 : ∀ r k, w2 (ix2 r k) = yw (ix2 ⟨1024 + r.val, by omega⟩ k))
    (h3 : ∀ r k, w3 (ix2 r k) = yw (ix2 ⟨1536 + r.val, by omega⟩ k)) (h4 : ∀ r k, w4 (ix2 r k) = yw (ix2 ⟨2048 + r.val, by omega⟩ k))
    (r : Fin 512) (l : Fin 1024) :
    k0_pay6 (F := Ideal) (k0_pay4 y0 w0 y1 w1) (k0_pay5 y2) w2 y3 w3 y4 w4 (ix2 r l) = ((dh p b (ρ r) l : ℝ) : EReal) := by
  pointwise [k0_pay6, k0_pay5, k0_pay4]
  simp only [h0, h1, h2, h3, h4, h.d0, h.d1, h.d2, h.d3, h.d4, h.w, zero_add, ← EReal.coe_mul, coe_sum, ← EReal.coe_add]
  rw [dh, sum_slices]

theorem pay8 (r : Fin 512) : k0_pay8 (F := Ideal) yx (ix2 r 0) = ((rr 1024 (p.X b (ρ r)) : ℝ) : EReal) := by
  pointwise [k0_pay8, k0_pay7]
  simp only [h.x, w1024, coe_sum, zero_add, wEps, ← EReal.coe_mul]
  rw [div_coe (by norm_num), ← EReal.coe_add]
  exact rsqrt_coe (ms_pos (by norm_num) (p.X b (ρ r)))

theorem pay9 (r : Fin 512) (l : Fin 1024) : k0_pay9 (F := Ideal) yx (ix2 r l) = ((xr 1024 (p.X b (ρ r)) l : ℝ) : EReal) := by
  pointwise [k0_pay9, k0_pay7]
  rw [h.x, pay8 h, ← EReal.coe_mul]; rfl

variable (u : FVec Ideal S512x1024 .f32) (hu : ∀ r l, u (ix2 r l) = ((dh p b (ρ r) l : ℝ) : EReal))
include hu

theorem pay12 (acc : FVec Ideal S1x1x1024 .f32) (l : Fin 1024) :
    k0_pay12 (F := Ideal) u (k0_pay9 yx) yg acc (ix3 0 0 l)
      = acc (ix3 0 0 l) + ((∑ r, dh p b (ρ r) l * (xr 1024 (p.X b (ρ r)) l * p.G l) : ℝ) : EReal) := by
  pointwise [k0_pay12]
  simp only [hu, pay9 h, h.g, ← EReal.coe_mul, coe_sum, zero_add]

variable (w : FVec Ideal S1x1x1024 .f32) (hw : ∀ l, w (ix3 0 0 l) = ym (ix3 0 1 l))
include hw

theorem pay13 (r : Fin 512) (l : Fin 1024) : k0_pay13 (F := Ideal) u w (ix2 r l) = ((dn p b (ρ r) l : ℝ) : EReal) := by
  pointwise [k0_pay13]
  simp only [hu, hw, h.m, ← EReal.coe_one, ← EReal.coe_mul, ← EReal.coe_add]; rfl

theorem pay14 (acc : FVec Ideal S1x1024 .f32) (l : Fin 1024) :
    k0_pay14 (F := Ideal) u (k0_pay9 yx) w acc (ix2 0 l) = acc (ix2 0 l) + ((∑ r, dn p b (ρ r) l * xr 1024 (p.X b (ρ r)) l : ℝ) : EReal) := by
  pointwise [k0_pay14]
  simp only [pay13 h u hu w hw, pay9 h, ← EReal.coe_mul, coe_sum, zero_add]

theorem pay1 (r : Fin 512) (l : Fin 1024) :
    k0_pay1 (F := Ideal) (k0_pay8 yx) (k0_pay15 yd) (k0_pay16 u (k0_pay9 yx) yg w) (ix2 r l) = ((dx p b (ρ r) l : ℝ) : EReal) := by
  pointwise [k0_pay1, k0_pay15, k0_pay16]
  simp only [pay13 h u hu w hw, pay9 h, pay8 h, h.g, h.dx, w1024, zero_add, ← EReal.coe_mul, coe_sum]
  rw [div_coe (by norm_num)]
  simp only [← EReal.coe_mul, ← EReal.coe_sub, ← EReal.coe_add]; rfl

end Cert.MixIn.Block

namespace Cert.MixIn.Block

open Cert.Kernel2Ideal Cert.Kernel2Ideal.Gen Idealize.ShloMosaic Idealize.ShloMosaic.TcCoe Idealize.SL.Sem
open Cert.Lift

/-- The shift's row of sums. -/
theorem pay11 (v28 : FVec Ideal S512x1024 .f32) (v30 : FVec Ideal S512x512 .bf16) (v31 : FVec Ideal S512x1024 .bf16) (v35 : FVec Ideal S512x512 .bf16)
    (v37 : FVec Ideal S512x1024 .bf16) (v41 : FVec Ideal S512x512 .bf16) (v43 : FVec Ideal S512x1024 .bf16) (f : Fin 512 → Fin 1024 → ℝ)
    (hf : ∀ r l, k0_pay6 (F := Ideal) v28 v30 v31 v35 v37 v41 v43 (ix2 r l) = ((f r l : ℝ) : EReal)) (acc : FVec Ideal S1x1x1024 .f32) (l : Fin 1024) :
    k0_pay11 (F := Ideal) (k0_pay10 v28 v30 v31 v35 v37 v41 v43 acc) (ix3 0 0 l) = acc (ix3 0 0 l) + ((∑ r, f r l : ℝ) : EReal) := by
  pointwise [k0_pay11, k0_pay10]
  simp only [hf, coe_sum, zero_add]

end Cert.MixIn.Block

end
-- ==== Proof.MixIn.Array.lean ====
/- What the three result arrays of the gradient through the input projection hold after the run. -/
module

public import proofs.«01_k».proof.Proof.Gen.Kernel2Ideal.Value
public import Idealize.ShloMosaic.Lib.Pipeline.ValueKit
public import proofs.«01_k».proof.Proof.MixIn.Block
public import proofs.«01_k».proof.Proof.Rows

@[expose] public section

set_option maxRecDepth 16384

noncomputable section

namespace Cert.MixIn.Array

open Cert.Kernel2Ideal Cert.Kernel2Ideal.Gen Idealize.ShloMosaic Idealize.ShloMosaic.TcCoe Idealize.SL.Sem
open Idealize.ShloMosaic.Pipeline (Dat)
open Cert.Grad Cert.Lift Cert.MixIn

variable (m : (ℓ : Loc nD τ sig) → Buf (Elt Ideal) ℓ) {p : Data} {c : Dev nD}

/-- The arguments in memory hold the reals of `p`. -/
abbrev Mem (p : Data) (c : Dev nD) : Prop :=
  Holds p (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![0, 0] ∧ win0_6.index t = ![t.val, 0]
    ∧ win0_7.index t = ![t.val, 0] ∧ win0_8.index t = ![t.val / 4, 0, 0] ∧ win0_9.index t = ![0, 0] ∧ win0_10.index t = ![t.val, 0]
    ∧ win0_11.index t = ![0, 0] ∧ win0_12.index t = ![t.val / 4, 0, 0] ∧ t.val < 16 :=
  (by decide +kernel : ∀ t : Fin grid0.N, _)

theorem lt (t : Fin cfg0.N) : t.val < 16 := (idx t).2.2.2.2.2.2.2.2.2.2.2.2.2

/-- The sequence grid point `t` works on. -/
def bat (t : Fin cfg0.N) : Fin 4 := ⟨t.val / 4, by have := lt t; omega⟩

/-- The positions of grid point `t` in its sequence. -/
def pos (t : Fin cfg0.N) (r : Fin 512) : Fin 2048 := ⟨512 * (t.val % 4) + r.val, by omega⟩

/-- The rows of grid point `t` among all tokens. -/
def row (t : Fin cfg0.N) (r : Fin 512) : Fin 8192 := ⟨512 * t.val + r.val, by have := lt t; omega⟩

theorem row_div (t : Fin cfg0.N) (r : Fin 512) (h : (row t r).val / 2048 < 4) : (⟨(row t r).val / 2048, h⟩ : Fin 4) = bat t :=
  Fin.ext (by show (512 * t.val + r.val) / 2048 = t.val / 4; omega)

theorem row_mod (t : Fin cfg0.N) (r : Fin 512) (h : (row t r).val % 2048 < 2048) : (⟨(row t r).val % 2048, h⟩ : Fin 2048) = pos t r :=
  Fin.ext (by show (512 * t.val + r.val) % 2048 = 512 * (t.val % 4) + r.val; omega)

/-! The arrays the host lines prepare for the kernel. -/

theorem slices (r : Fin 8192) (k : Fin 512) :
    let at5 := fun j : Fin 2560 => m ((c : Thread nD τ).loc main_arg5) (ix3 ⟨r.val / 2048, by omega⟩ ⟨r.val % 2048, by omega⟩ j)
    V m c main_v8 (ix2 r k) = at5 ⟨k.val, by omega⟩ ∧ V m c main_v10 (ix2 r k) = at5 ⟨512 + k.val, by omega⟩
      ∧ V m c main_v12 (ix2 r k) = at5 ⟨1024 + k.val, by omega⟩ ∧ V m c main_v14 (ix2 r k) = at5 ⟨1536 + k.val, by omega⟩
      ∧ V m c main_v16 (ix2 r k) = at5 ⟨2048 + k.val, by omega⟩ := by
  simp only [V, List.flatten_cons, List.flatten_nil, hostOps0, hostOps0_1, hostOps0_2, List.cons_append, List.nil_append]
  refine ⟨?_, ?_, ?_, ?_, ?_⟩ <;> (after_results_simp; pointwise)

theorem tokens (r : Fin 8192) (k : Fin 1024) :
    V m c main_v20 (ix2 r k) = m ((c : Thread nD τ).loc main_arg0) (ix3 ⟨r.val / 2048, by omega⟩ ⟨r.val % 2048, by omega⟩ k)
      ∧ V m c main_v21 (ix2 r k) = m ((c : Thread nD τ).loc main_arg4) (ix3 ⟨r.val / 2048, by omega⟩ ⟨r.val % 2048, by omega⟩ k) := by
  simp only [V, List.flatten_cons, List.flatten_nil, hostOps0, hostOps0_1, hostOps0_2, List.cons_append, List.nil_append]
  refine ⟨?_, ?_⟩ <;> (after_results_simp; pointwise)

theorem weights (k : Fin 2560) (a : Fin 1024) : V m c main_v19 (ix2 k a) = m ((c : Thread nD τ).loc main_arg3) (ix3 0 a k) := by
  simp only [V, List.flatten_cons, List.flatten_nil, hostOps0, hostOps0_1, hostOps0_2, List.cons_append, List.nil_append]
  after_results_simp
  pointwise

theorem scale (b : Fin 4) (k : Fin 1024) : V m c main_v1 (ix3 b 1 k) = m ((c : Thread nD τ).loc main_arg1) (ix2 b ⟨1024 + k.val, by omega⟩) := by
  simp only [V, List.flatten_cons, List.flatten_nil, hostOps0, hostOps0_1, hostOps0_2, List.cons_append, List.nil_append]
  after_results_simp
  pointwise
  simp only [StableHlo.TRef.toBuf, StableHlo.TRef.ofBuf, cast_eq]
  pointwise

theorem gain (k : Fin 1024) : V m c main_arg2 (ix2 0 k) = m ((c : Thread nD τ).loc main_arg2) (ix2 0 k) := by
  simp only [V, List.flatten_cons, List.flatten_nil, hostOps0, hostOps0_1, hostOps0_2, List.cons_append, List.nil_append]
  after_results_simp

set_option maxHeartbeats 2000000 in
/-- The blocks of grid point `t`. -/
theorem blk (h : Mem m p c) (t : Fin cfg0.N) :
    Block.Blk p (bat t) (pos t) (iblk m c 0 t) (iblk m c 1 t) (iblk m c 2 t) (iblk m c 3 t) (iblk m c 4 t) (iblk m c 5 t) (iblk m c 6 t)
      (iblk m c 7 t) (iblk m c 8 t) (iblk m c 9 t) where
  d0 r k := by
    rw [← h.dp, ← row_div t r (by omega), ← row_mod t r (by omega)]
    have e : ((cfg0.win 0).blk t).view.emb (ix2 r k) = ix2 (row t r) k := by blk_ext [idx t, row]
    exact (congrArg (V m c main_v8) e).trans (slices m (row t r) k).1
  d1 r k := by
    rw [← h.dp, ← row_div t r (by omega), ← row_mod t r (by omega)]
    have e : ((cfg0.win 1).blk t).view.emb (ix2 r k) = ix2 (row t r) k := by blk_ext [idx t, row]
    exact (congrArg (V m c main_v10) e).trans (slices m (row t r) k).2.1
  d2 r k := by
    rw [← h.dp, ← row_div t r (by omega), ← row_mod t r (by omega)]
    have e : ((cfg0.win 2).blk t).view.emb (ix2 r k) = ix2 (row t r) k := by blk_ext [idx t, row]
    exact (congrArg (V m c main_v12) e).trans (slices m (row t r) k).2.2.1
  d3 r k := by
    rw [← h.dp, ← row_div t r (by omega), ← row_mod t r (by omega)]
    have e : ((cfg0.win 3).blk t).view.emb (ix2 r k) = ix2 (row t r) k := by blk_ext [idx t, row]
    exact (congrArg (V m c main_v14) e).trans (slices m (row t r) k).2.2.2.1
  d4 r k := by
    rw [← h.dp, ← row_div t r (by omega), ← row_mod t r (by omega)]
    have e : ((cfg0.win 4).blk t).view.emb (ix2 r k) = ix2 (row t r) k := by blk_ext [idx t, row]
    exact (congrArg (V m c main_v16) e).trans (slices m (row t r) k).2.2.2.2
  w k a := by
    rw [← h.w]
    have e : ((cfg0.win 5).blk t).view.emb (ix2 k a) = ix2 k a := by blk_ext [idx t]
    exact (congrArg (V m c main_v19) e).trans (weights m k a)
  x r k := by
    rw [← h.x, ← row_div t r (by omega), ← row_mod t r (by omega)]
    have e : ((cfg0.win 6).blk t).view.emb (ix2 r k) = ix2 (row t r) k := by blk_ext [idx t, row]
    exact (congrArg (V m c main_v20) e).trans (tokens m (row t r) k).1
  dx r k := by
    rw [← h.dx, ← row_div t r (by omega), ← row_mod t r (by omega)]
    have e : ((cfg0.win 7).blk t).view.emb (ix2 r k) = ix2 (row t r) k := by blk_ext [idx t, row]
    exact (congrArg (V m c main_v21) e).trans (tokens m (row t r) k).2
  m k := by
    rw [sc, ← h.m]
    have e : ((cfg0.win 8).blk t).view.emb (ix3 0 1 k) = ix3 (bat t) 1 k := by blk_ext [idx t, bat]
    exact (congrArg (V m c main_v1) e).trans (scale m (bat t) k)
  g k := by
    rw [← h.g]
    have e : ((cfg0.win 9).blk t).view.emb (ix2 0 k) = ix2 0 k := by blk_ext [idx t]
    exact (congrArg (V m c main_arg2) e).trans (gain m k)

theorem final10 (h : Mem m p c) : (dats m 0 c).arrAt 10 cfg0.N = out0 p := by
  refine (dats m 0 c).arrAt_eq_of_covers 10 _ (by decide +kernel) fun t hf y => ?_
  obtain ⟨r, l, rfl⟩ : ∃ (r : Fin 512) (l : Fin 1024), y = ix2 r l := ⟨_, _, eq_ix2 y⟩
  have e : ((cfg0.win 10).blk t).view.emb (ix2 r l) = ix2 (row t r) l := by blk_ext [idx t, row]
  refine Eq.trans ?_ (congrArg (out0 p) e).symm
  refine Eq.trans ?_ (congrArg₂ (fun b s => ((dx p b s l : ℝ) : EReal)) (row_div t r _) (row_mod t r _)).symm
  rw [after0_10]
  by_cases h0 : t.val % 16 = 0
  · rw [outsAt0_A m c t h0 (by omega)]; frame_out
    exact Block.pay1 (blk m h t) _ (Block.pay6 (blk m h t) _ _ _ _ _ (Rows.ld_rows0 _ _) (Rows.ld_rows _ _ _) (Rows.ld_rows _ _ _) (Rows.ld_rows _ _ _)
      (Rows.ld_rows _ _ _)) _ (Rows.ld_row3 _ _ _) r l
  by_cases h1 : t.val % 4 = 0
  · rw [outsAt0_C m c t h0 h1]; frame_out
    exact Block.pay1 (blk m h t) _ (Block.pay6 (blk m h t) _ _ _ _ _ (Rows.ld_rows0 _ _) (Rows.ld_rows _ _ _) (Rows.ld_rows _ _ _) (Rows.ld_rows _ _ _)
      (Rows.ld_rows _ _ _)) _ (Rows.ld_row3 _ _ _) r l
  · rw [outsAt0_B m c t h0 h1]; frame_out
    exact Block.pay1 (blk m h t) _ (Block.pay6 (blk m h t) _ _ _ _ _ (Rows.ld_rows0 _ _) (Rows.ld_rows _ _ _) (Rows.ld_rows _ _ _) (Rows.ld_rows _ _ _)
      (Rows.ld_rows _ _ _)) _ (Rows.ld_row3 _ _ _) r l

/-- What grid point `t` adds to the gain's row. -/
def term (p : Data) (t : Fin cfg0.N) (r : Fin 8) (l : Fin 1024) : EReal :=
  if r.val = 0 then ((∑ s, dn p (bat t) (pos t s) l * xr 1024 (p.X (bat t) (pos t s)) l : ℝ) : EReal) else 0

theorem first11 (h : Mem m p c) (t : Fin cfg0.N) (h0 : t.val % 16 = 0) (r : Fin 8) (l : Fin 1024) :
    (outsAt0 m c t.val t.isLt).2.1 (ix2 r l) = 0 + term p t r l := by
  rw [outsAt0_A m c t h0 (by omega)]
  simp (disch := decide) only [↓ View.readCov_skip, ↓ View.readCov_cons_toLoadRect, ↓ View.readCov_fill]
  frame_out
  unfold term
  rw [Rows.canon_row, Rows.canon_fill, Block.pay14 (blk m h t) _ (Block.pay6 (blk m h t) _ _ _ _ _ (Rows.ld_rows0 _ _) (Rows.ld_rows _ _ _)
    (Rows.ld_rows _ _ _) (Rows.ld_rows _ _ _) (Rows.ld_rows _ _ _)) _ (Rows.ld_row3 _ _ _), Rows.readCov_rows, Rows.canon_fill]
  have z : ∀ i, k0_pay2 (F := Ideal) i = 0 := fun i => by pointwise [k0_pay2]
  simp only [z]
  split <;> simp

theorem next11 (h : Mem m p c) (t : Fin cfg0.N) (h0 : ¬t.val % 16 = 0) (r : Fin 8) (l : Fin 1024) :
    (outsAt0 m c t.val t.isLt).2.1 (ix2 r l) = (outsAt0 m c (t.val - 1) (Nat.lt_of_le_of_lt (Nat.sub_le _ _) t.isLt)).2.1 (ix2 r l) + term p t r l := by
  by_cases h1 : t.val % 4 = 0
  · rw [outsAt0_C m c t h0 h1]; frame_out
    unfold term
    rw [Rows.read_row, Block.pay14 (blk m h t) _ (Block.pay6 (blk m h t) _ _ _ _ _ (Rows.ld_rows0 _ _) (Rows.ld_rows _ _ _)
      (Rows.ld_rows _ _ _) (Rows.ld_rows _ _ _) (Rows.ld_rows _ _ _)) _ (Rows.ld_row3 _ _ _), Rows.ld_rows]
    split
    · rw [show (⟨0 + ((0 : Fin 1) : ℕ), by decide⟩ : Fin 8) = r from Fin.ext (by simpa using (‹r.val = 0›).symm)]
    · rw [add_zero]
      exact congrFun (Memref.IsWhole.read_unread _ _) _
  · rw [outsAt0_B m c t h0 h1]; frame_out
    unfold term
    rw [Rows.read_row, Block.pay14 (blk m h t) _ (Block.pay6 (blk m h t) _ _ _ _ _ (Rows.ld_rows0 _ _) (Rows.ld_rows _ _ _)
      (Rows.ld_rows _ _ _) (Rows.ld_rows _ _ _) (Rows.ld_rows _ _ _)) _ (Rows.ld_row3 _ _ _), Rows.ld_rows]
    split
    · rw [show (⟨0 + ((0 : Fin 1) : ℕ), by decide⟩ : Fin 8) = r from Fin.ext (by simpa using (‹r.val = 0›).symm)]
    · rw [add_zero]
      exact congrFun (Memref.IsWhole.read_unread _ _) _

/-- A sum over all tokens, grid point by grid point. -/
theorem sum_points (f : Fin 4 → Fin 2048 → ℝ) (g : Fin 16 → Fin cfg0.N) (hg : ∀ s, (g s).val = s.val) :
    ∑ s : Fin 16, ((∑ k : Fin 512, f (bat (g s)) (pos (g s) k) : ℝ) : EReal) = ((∑ b, ∑ s, f b s : ℝ) : EReal) := by
  rw [coe_sum]
  refine congrArg _ ((Fin.sum_mul_add_congr (S := 4) (n := 4) (F := fun b i => ∑ k : Fin 512, f (bat (g ⟨b.val * 4 + i.val, by omega⟩))
    (pos (g ⟨b.val * 4 + i.val, by omega⟩) k)) fun b i _ => rfl).symm.trans (Finset.sum_congr rfl fun b _ => ?_))
  refine Fin.sum_mul_add_congr fun i k hl => congrArg₂ f (Fin.ext ?_) (Fin.ext ?_)
  · show (g _).val / 4 = b.val; rw [hg]; show (b.val * 4 + i.val) / 4 = b.val; omega
  · show 512 * ((g _).val % 4) + k.val = i.val * 512 + k.val; rw [hg]
    show 512 * ((b.val * 4 + i.val) % 4) + k.val = i.val * 512 + k.val; omega

theorem final11 (h : Mem m p c) : (dats m 0 c).arrAt 11 cfg0.N = out1 p := by
  refine (dats m 0 c).arrAt_eq_of_covers 11 _ (by decide +kernel) fun t hf y => ?_
  obtain ⟨r, l, rfl⟩ : ∃ (r : Fin 8) (l : Fin 1024), y = ix2 r l := ⟨_, _, eq_ix2 y⟩
  have e : ((cfg0.win 11).blk t).view.emb (ix2 r l) = ix2 r l := by blk_ext [idx t]
  refine Eq.trans ?_ (congrArg (out1 p) e).symm
  have ht : t.val / 16 = 0 := by have := lt t; omega
  rw [after0_11, Pipeline.eq_sum_fin_of_reset_step_apply_of_flush (fun n h => (outsAt0 m c n h).2.1) 16 (fun _ => 0)
    (fun t j => term p t (j 0) (j 1)) (fun t h0 j => (congrArg _ (eq_ix2 j)).trans (first11 m h t h0 (j 0) (j 1)))
    (fun t h0 j => by rw [eq_ix2 j]; exact next11 m h t h0 (j 0) (j 1)) t ((flush0_11 t).mp hf) _, zero_add]
  show ∑ s : Fin 16, term p _ r l = out1 p (ix2 r l)
  unfold term out1
  by_cases h1 : r.val = 0
  · simp only [h1, if_true]
    exact (sum_points (fun b s => dn p b s l * xr 1024 (p.X b s) l) _ fun s => by show 16 * (t.val / 16) + s.val = s.val; omega).trans
      (by simp [h1, dg])
  · simp only [h1, if_false]
    simp [h1]

/-- What grid point `t` adds to the shift's and the scale's rows. -/
def term2 (p : Data) (t : Fin cfg0.N) (r : Fin 8) (l : Fin 1024) : EReal :=
  if r.val = 1 then ((∑ s, dh p (bat t) (pos t s) l * (xr 1024 (p.X (bat t) (pos t s)) l * p.G l) : ℝ) : EReal)
  else if r.val = 0 then ((∑ s, dh p (bat t) (pos t s) l : ℝ) : EReal) else 0

theorem first12 (h : Mem m p c) (t : Fin cfg0.N) (h1 : t.val % 4 = 0) (r : Fin 8) (l : Fin 1024) :
    (outsAt0 m c t.val t.isLt).2.2 (ix3 0 r l) = 0 + term2 p t r l := by
  have z : ∀ i, k0_pay3 (F := Ideal) i = 0 := fun i => by pointwise [k0_pay3]
  by_cases h0 : t.val % 16 = 0
  · rw [outsAt0_A m c t h0 h1]
    simp (disch := decide) only [↓ View.readCov_skip, ↓ View.readCov_cons_toLoadRect, ↓ View.readCov_fill]
    frame_out
    unfold term2
    rw [Rows.canon_row3, Rows.canon_row3, Rows.canon_fill3, Block.pay12 (blk m h t) _ (Block.pay6 (blk m h t) _ _ _ _ _ (Rows.ld_rows0 _ _) (Rows.ld_rows _ _ _)
      (Rows.ld_rows _ _ _) (Rows.ld_rows _ _ _) (Rows.ld_rows _ _ _)), Block.pay11 _ _ _ _ _ _ _ _ (Block.pay6 (blk m h t) _ _ _ _ _ (Rows.ld_rows0 _ _)
      (Rows.ld_rows _ _ _) (Rows.ld_rows _ _ _) (Rows.ld_rows _ _ _) (Rows.ld_rows _ _ _)), Rows.readCov_row3, Rows.readCov_row3,
      Rows.canon_row3, Rows.canon_fill3, Rows.canon_fill3]
    simp only [z]
    split <;> [skip; split] <;> simp
  · rw [outsAt0_C m c t h0 h1]
    simp (disch := decide) only [↓ View.readCov_skip, ↓ View.readCov_cons_toLoadRect, ↓ View.readCov_fill]
    frame_out
    unfold term2
    rw [Rows.canon_row3, Rows.canon_row3, Rows.canon_fill3, Block.pay12 (blk m h t) _ (Block.pay6 (blk m h t) _ _ _ _ _ (Rows.ld_rows0 _ _) (Rows.ld_rows _ _ _)
      (Rows.ld_rows _ _ _) (Rows.ld_rows _ _ _) (Rows.ld_rows _ _ _)), Block.pay11 _ _ _ _ _ _ _ _ (Block.pay6 (blk m h t) _ _ _ _ _ (Rows.ld_rows0 _ _)
      (Rows.ld_rows _ _ _) (Rows.ld_rows _ _ _) (Rows.ld_rows _ _ _) (Rows.ld_rows _ _ _)), Rows.readCov_row3, Rows.readCov_row3,
      Rows.canon_row3, Rows.canon_fill3, Rows.canon_fill3]
    simp only [z]
    split <;> [skip; split] <;> simp

theorem next12 (h : Mem m p c) (t : Fin cfg0.N) (h1 : ¬t.val % 4 = 0) (r : Fin 8) (l : Fin 1024) :
    (outsAt0 m c t.val t.isLt).2.2 (ix3 0 r l) = (outsAt0 m c (t.val - 1) (Nat.lt_of_le_of_lt (Nat.sub_le _ _) t.isLt)).2.2 (ix3 0 r l) + term2 p t r l := by
  rw [outsAt0_B m c t (by omega) h1]; frame_out
  unfold term2
  rw [Rows.read_row3, Rows.read_row3, Block.pay12 (blk m h t) _ (Block.pay6 (blk m h t) _ _ _ _ _ (Rows.ld_rows0 _ _) (Rows.ld_rows _ _ _)
    (Rows.ld_rows _ _ _) (Rows.ld_rows _ _ _) (Rows.ld_rows _ _ _)), Block.pay11 _ _ _ _ _ _ _ _ (Block.pay6 (blk m h t) _ _ _ _ _ (Rows.ld_rows0 _ _)
    (Rows.ld_rows _ _ _) (Rows.ld_rows _ _ _) (Rows.ld_rows _ _ _) (Rows.ld_rows _ _ _)), Rows.ld_row3, Rows.ld_row3]
  split <;> [skip; split]
  · rw [show (⟨1, by decide⟩ : Fin 8) = r from Fin.ext (‹r.val = 1›).symm]
  · rw [show (⟨0, by decide⟩ : Fin 8) = r from Fin.ext (‹r.val = 0›).symm]
  · rw [add_zero]
    exact congrFun (Memref.IsWhole.read_unread _ _) _

theorem final12 (h : Mem m p c) : (dats m 0 c).arrAt 12 cfg0.N = out2 p := by
  refine (dats m 0 c).arrAt_eq_of_covers 12 _ (by decide +kernel) fun t hf y => ?_
  obtain ⟨r, l, rfl⟩ : ∃ (r : Fin 8) (l : Fin 1024), y = ix3 0 r l := Rows.exists_ix3 y
  have e : ((cfg0.win 12).blk t).view.emb (ix3 0 r l) = ix3 (bat t) r l := by blk_ext [idx t, bat]
  refine Eq.trans ?_ (congrArg (out2 p) e).symm
  rw [after0_12, Pipeline.eq_sum_fin_of_reset_step_apply_of_flush (fun n h => (outsAt0 m c n h).2.2) 4 (fun _ => 0)
    (fun t j => term2 p t (j 1) (j 2)) (fun t h0 j => by
      obtain ⟨r, l, rfl⟩ : ∃ (r : Fin 8) (l : Fin 1024), j = ix3 0 r l := Rows.exists_ix3 j
      exact first12 m h t h0 r l)
    (fun t h0 j => by
      obtain ⟨r, l, rfl⟩ : ∃ (r : Fin 8) (l : Fin 1024), j = ix3 0 r l := Rows.exists_ix3 j
      exact next12 m h t h0 r l) t ((flush0_12 t).mp hf) _, zero_add]
  have hsum : ∀ f : Fin 4 → Fin 2048 → ℝ, ∑ s : Fin 4, ((∑ k : Fin 512, f (bat ⟨4 * (t.val / 4) + s.val, Pipeline.run_point_lt_of_flush t ((flush0_12 t).mp hf) s⟩)
      (pos ⟨4 * (t.val / 4) + s.val, Pipeline.run_point_lt_of_flush t ((flush0_12 t).mp hf) s⟩ k) : ℝ) : EReal) = ((∑ s, f (bat t) s : ℝ) : EReal) := fun f => by
    rw [coe_sum]
    exact congrArg _ (Fin.sum_mul_add_congr fun s k hl => congrArg₂ f (Fin.ext (by show (4 * (t.val / 4) + s.val) / 4 = t.val / 4; omega)) (Fin.ext (by
      show 512 * ((4 * (t.val / 4) + s.val) % 4) + k.val = s.val * 512 + k.val; omega)))
  show ∑ s : Fin 4, term2 p _ r l = out2 p (ix3 (bat t) r l)
  unfold term2 out2
  by_cases h1 : r.val = 1
  · simp only [h1, if_true]
    exact (hsum fun b s => dh p b s l * (xr 1024 (p.X b s) l * p.G l)).trans (by simp [h1, dsc])
  · by_cases h2 : r.val = 0
    · simp only [h2, if_true, zero_ne_one, if_false]
      exact (hsum fun b s => dh p b s l).trans (by simp [h2, dsh])
    · simp only [h1, h2, if_false]
      simp [h1, h2]

end Cert.MixIn.Array

end
-- ==== Proof.MixIn.Reference.lean ====
/- The reference's three results over real arguments are the real formulas. -/
module

public import proofs.«01_k».proof.Proof.Gen.Reference2Ideal.Read
public import proofs.«01_k».proof.Proof.MixIn.Spec

@[expose] public section

set_option maxRecDepth 16384

noncomputable section

namespace Cert.MixIn.Ref

open Cert.Reference2Ideal Cert.Reference2Ideal.Gen Cert.Reference2Ideal.Read Idealize.ShloMosaic Idealize.ShloMosaic.TcCoe Idealize.SL.Sem
open Cert.Grad Cert.Lift Cert.MixIn

variable {p : Data} {x0 : FVec Ideal S4x2048x1024 .f32} {x1 : FVec Ideal S4x6144 .f32} {x2 : FVec Ideal S1x1024 .f32}
  {x3 : FVec Ideal S1x1024x2560 .f32} {x4 : FVec Ideal S4x2048x1024 .f32} {x5 : FVec Ideal S4x2048x2560 .f32} (h : Holds p x0 x1 x2 x3 x4 x5)
include h

theorem v13 (b : Fin 4) (s : Fin 2048) : val_main_v13 (F := Ideal) x0 (ix3 b s 0) = ((ms 1024 (p.X b s) : ℝ) : EReal) := by
  pointwise [val_main_v13, val_main_v12, val_main_v11, val_main_v10, val_main_v9, val_main_v8, val_main_v7, val_main_cst, val_main_cst_0, val_main_cst_1]
  simp only [h.x, w1024, coe_sum, zero_add, wEps, ← EReal.coe_mul]
  rw [div_coe (by norm_num), ← EReal.coe_add]; rfl

theorem v14 (b : Fin 4) (s : Fin 2048) : val_main_v14 (F := Ideal) x0 (ix3 b s 0) = ((rr 1024 (p.X b s) : ℝ) : EReal) := by
  pointwise [val_main_v14]
  rw [v13 h, rsqrt_coe (ms_pos (by norm_num) _)]; rfl

theorem v17 (b : Fin 4) (s : Fin 2048) :
    val_main_v17 (F := Ideal) x0 (ix3 b s 0) = (((-1 / 2) * (rr 1024 (p.X b s) / ms 1024 (p.X b s)) : ℝ) : EReal) := by
  pointwise [val_main_v17, val_main_v16, val_main_v15, val_main_cst_2]
  rw [v13 h, v14 h, wNegHalf, div_coe (ms_pos (by norm_num) _).ne', ← EReal.coe_mul]

theorem v19 (b : Fin 4) (s : Fin 2048) (l : Fin 1024) : val_main_v19 (F := Ideal) x0 (ix3 b s l) = ((xr 1024 (p.X b s) l : ℝ) : EReal) := by
  pointwise [val_main_v19, val_main_v18]
  rw [v14 h, h.x, ← EReal.coe_mul]; rfl

theorem v22 (b : Fin 4) (s : Fin 2048) (l : Fin 1024) :
    val_main_v22 (F := Ideal) x0 x2 (ix3 b s l) = ((xr 1024 (p.X b s) l * p.G l : ℝ) : EReal) := by
  pointwise [val_main_v22, val_main_v21, val_main_v20, val_main_v6]
  rw [v19 h, h.g, ← EReal.coe_mul]

theorem v33 (b : Fin 4) (s : Fin 2048) (l : Fin 1024) : val_main_v33 (F := Ideal) x3 x5 (ix3 b s l) = ((dh p b s l : ℝ) : EReal) := by
  pointwise [val_main_v33, val_main_v31]
  simp only [h.dp, h.w, ← EReal.coe_mul, coe_sum]; rfl

theorem v40 (b : Fin 4) (s : Fin 2048) (l : Fin 1024) : val_main_v40 (F := Ideal) x1 x3 x5 (ix3 b s l) = ((dn p b s l : ℝ) : EReal) := by
  pointwise [val_main_v40, val_main_v39, val_main_v26, val_main_v25, val_main_v24, val_main_v1, val_main_cst_3]
  rw [v33 h, h.m, ← EReal.coe_one, ← EReal.coe_add, ← EReal.coe_mul]; rfl

theorem v47 (b : Fin 4) (s : Fin 2048) (l : Fin 1024) :
    val_main_v47 (F := Ideal) x1 x2 x3 x5 (ix3 b s l) = ((dn p b s l * p.G l : ℝ) : EReal) := by
  pointwise [val_main_v47, val_main_v46, val_main_v20, val_main_v6]
  rw [v40 h, h.g, ← EReal.coe_mul]

theorem v57 (b : Fin 4) (s : Fin 2048) :
    val_main_v57 (F := Ideal) x0 x1 x2 x3 x5 (ix3 b s 0) = ((rmsT 1024 (p.X b s) (fun k => dn p b s k * p.G k) : ℝ) : EReal) := by
  pointwise [val_main_v57, val_main_v56, val_main_v55, val_main_v51, val_main_v50, val_main_v49, val_main_cst_10, val_main_cst_11]
  simp only [v47 h, v17 h, h.x, w1024, coe_sum, zero_add, ← EReal.coe_mul]
  rw [div_coe (by norm_num)]; rfl

theorem v63 (b : Fin 4) (s : Fin 2048) (l : Fin 1024) : val_main_v63 (F := Ideal) x0 x1 x2 x3 x4 x5 (ix3 b s l) = ((dx p b s l : ℝ) : EReal) := by
  pointwise [val_main_v63, val_main_v62, val_main_v61, val_main_v60, val_main_v59, val_main_v58, val_main_v54, val_main_v53, val_main_v52, val_main_cst_12]
  simp only [Fin.sum_univ_one, v57 h, v47 h, v14 h, h.x, h.dx, zero_add, ← EReal.coe_mul, ← EReal.coe_add]
  rw [dx, ← rmsVjp_eq (by norm_num)]
  simp only [add_assoc]

theorem out0_eq : val_main_v65 (F := Ideal) x0 x1 x2 x3 x4 x5 = out0 p := by
  funext i
  idx_vars i
  pointwise [val_main_v65]
  exact v63 h _ _ _

theorem v44 (l : Fin 1024) : val_main_v44 (F := Ideal) x0 x1 x3 x5 (ix1 l) = ((dg p l : ℝ) : EReal) := by
  pointwise [val_main_v44, val_main_v43, val_main_cst_8]
  rw [reduce01]
  pointwise
  simp only [v19 h, v40 h, ← EReal.coe_mul, coe_sum, zero_add, mul_comm (xr _ _ _)]; rfl

theorem out1_eq : val_main_v69 (F := Ideal) x0 x1 x3 x5 = out1 p := by
  funext i
  idx_vars i
  pointwise [val_main_v69, val_main_v68, val_main_v67, val_main_v66, val_main_v64, val_main_v48, val_main_v45, val_main_cst_9, val_main_cst_13]
  rw [reduce01]
  pointwise
  simp only [v44 h, zero_add, Fin.sum_univ_one]
  fin_vals i0 with hk
  all_goals (simp only [hk, Nat.reduceSub, Nat.reduceLT, ↓reduceDIte]; simp [out1, hk])

theorem v34 (b : Fin 4) (l : Fin 1024) : val_main_v34 (F := Ideal) x3 x5 (ix2 b l) = ((dsh p b l : ℝ) : EReal) := by
  pointwise [val_main_v34, val_main_cst_4]
  simp only [v33 h, coe_sum, zero_add]; rfl

theorem v37 (b : Fin 4) (l : Fin 1024) : val_main_v37 (F := Ideal) x0 x2 x3 x5 (ix2 b l) = ((dsc p b l : ℝ) : EReal) := by
  pointwise [val_main_v37, val_main_v36, val_main_cst_5]
  simp only [v22 h, v33 h, ← EReal.coe_mul, coe_sum, zero_add, mul_comm (_ * p.G _)]; rfl

theorem out2_eq : val_main_v73 (F := Ideal) x0 x2 x3 x5 = out2 p := by
  funext i
  idx_vars i
  pointwise [val_main_v73, val_main_v72, val_main_v71, val_main_v70, val_main_v42, val_main_v41, val_main_v38, val_main_v35, val_main_cst_6, val_main_cst_7,
    val_main_cst_14]
  simp only [v34 h, v37 h, zero_add, Fin.sum_univ_one]
  fin_vals i1 with hk
  all_goals (simp only [hk, Nat.reduceSub, Nat.reduceLT, ↓reduceDIte]; simp [out2, hk])

end Cert.MixIn.Ref

end
-- ==== Proof.MixIn.Claim.lean ====
/- The value claim of the gradient through the input projection, the modulation and the root mean square norm. -/
module

public import proofs.«01_k».proof.Defs
public import proofs.«01_k».proof.Proof.Gen.Pre_finite2
public import proofs.«01_k».proof.Proof.Gen.Reference2Ideal.Run
public import proofs.«01_k».proof.Proof.MixIn.Array
public import proofs.«01_k».proof.Proof.MixIn.Reference

@[expose] public section

set_option maxRecDepth 16384

noncomputable section

namespace Cert.MixIn

open Idealize.ShloMosaic Idealize.ShloMosaic.TcCoe Idealize.SL.Sem
open Cert.Lift

/-- Under the precondition the arguments are arrays of reals. -/
theorem holds_of_finite (x0 : FVec Ideal ⟨3, ![4, 2048, 1024]⟩ .f32) (x1 : FVec Ideal ⟨2, ![4, 6144]⟩ .f32)
    (x2 : FVec Ideal ⟨2, ![1, 1024]⟩ .f32) (x3 : FVec Ideal ⟨3, ![1, 1024, 2560]⟩ .f32) (x4 : FVec Ideal ⟨3, ![4, 2048, 1024]⟩ .f32)
    (x5 : FVec Ideal ⟨3, ![4, 2048, 2560]⟩ .f32)
    (h : Cert.Pre_finite2.fn (F := Ideal) x0 x1 x2 x3 x4 x5 = fun _ => 1#1) : ∃ p, Holds p x0 x1 x2 x3 x4 x5 := by
  have h := congrFun h (fun a => a.elim0)
  unfold Cert.Pre_finite2.fn Cert.Pre_finite2.fn_part1 at h
  obtain ⟨h, h5⟩ := andi_one h
  obtain ⟨h, h4⟩ := andi_one h
  obtain ⟨h, h3⟩ := andi_one h
  obtain ⟨h, h2⟩ := andi_one h
  obtain ⟨h0, h1⟩ := andi_one h
  choose f0 e0 using real_of_all x0 _ _ _ _ _ h0
  choose f1 e1 using real_of_all x1 _ _ _ _ _ h1
  choose f2 e2 using real_of_all x2 _ _ _ _ _ h2
  choose f3 e3 using real_of_all x3 _ _ _ _ _ h3
  choose f4 e4 using real_of_all x4 _ _ _ _ _ h4
  choose f5 e5 using real_of_all x5 _ _ _ _ _ h5
  exact ⟨⟨fun b s k => f0 (ix3 b s k), fun b k => f1 (ix2 b k), fun k => f2 (ix2 0 k), fun a k => f3 (ix3 0 a k), fun b s k => f4 (ix3 b s k),
    fun b s k => f5 (ix3 b s k)⟩, ⟨fun _ _ _ => e0 _, fun _ _ => e1 _, fun _ => e2 _, fun _ _ => e3 _, fun _ _ _ => e4 _, fun _ _ _ => e5 _⟩⟩

theorem algebraic : Cert.algebraic_Kernel2Ideal_Reference2Ideal_pre_finite2 := by
  pair_intro
  · run_from Cert.Kernel2Ideal.Value.run_blocks m g
  · choose p h using fun c => holds_of_finite _ _ _ _ _ _ (hpre c)
    run_from Cert.Reference2Ideal.Value.run m' g'
    · obtain ⟨e0, e1, e2, e3, e4, e5⟩ := hagree c
      rw [Cert.Reference2Ideal.Read.val_main_v65_eq, e0, e1, e2, e3, e4, e5]
      exact (Ref.out0_eq (h c)).trans (Array.final10 m (h c)).symm
    · obtain ⟨e0, e1, e2, e3, e4, e5⟩ := hagree c
      rw [Cert.Reference2Ideal.Read.val_main_v69_eq, e3, e5]
      exact (Ref.out1_eq (h c)).trans (Array.final11 m (h c)).symm
    · obtain ⟨e0, e1, e2, e3, e4, e5⟩ := hagree c
      rw [Cert.Reference2Ideal.Read.val_main_v73_eq, e2, e3, e5]
      exact (Ref.out2_eq (h c)).trans (Array.final12 m (h c)).symm

end Cert.MixIn

end
-- ==== Proof.Ada.Spec.lean ====
/- The gradient of the adaptive modulation's projection and of its bias, as formulas over the extended reals. -/
module

public import Idealize.ShloMosaic.Lib.Pointwise
public import Idealize.ShloMosaic.PureOps.Ideal.Laws

@[expose] public section

noncomputable section

namespace Cert.Ada

open Idealize.ShloMosaic
open scoped BigOperators

/-- The swish. -/
def silu (x : EReal) : EReal := x * Ideal.div 1 (1 + Ideal.exp (-x))

/-- The first result: the swish of the condition, transposed, times the gradient of the modulation. -/
def out0 (x0 : FVec Ideal ⟨2, ![32, 1024]⟩ .f32) (x1 : FVec Ideal ⟨2, ![32, 768]⟩ .f32) : FVec Ideal ⟨2, ![1024, 768]⟩ .f32 := fun i =>
  ∑ k : Fin 32, silu (x0 (ix2 k (i 0))) * x1 (ix2 k (i 1))

/-- The second result: the sum of the gradient over the batch. -/
def out1 (x2 : FVec Ideal ⟨2, ![32, 6144]⟩ .f32) : FVec Ideal ⟨2, ![1, 6144]⟩ .f32 := fun i => ∑ k : Fin 32, x2 (ix2 k (i 1))

end Cert.Ada

end
-- ==== Proof.Ada.Claim.lean ====
/- The value claim of the gradient of the adaptive modulation's projection and bias. -/
module

public import proofs.«01_k».proof.Defs
public import proofs.«01_k».proof.Proof.Gen.Reference3Ideal.Run
public import proofs.«01_k».proof.Proof.Gen.Reference3Ideal.Read
public import proofs.«01_k».proof.Proof.Gen.Kernel3Ideal.Value
public import Idealize.ShloMosaic.Lib.Pipeline.ValueKit
public import proofs.«01_k».proof.Proof.Ada.Spec

@[expose] public section

set_option maxRecDepth 16384

noncomputable section

namespace Cert.Ada

open Idealize.ShloMosaic Idealize.ShloMosaic.TcCoe Idealize.SL.Sem

section Kernel

open Cert.Kernel3Ideal Cert.Kernel3Ideal.Gen
open Idealize.ShloMosaic.Pipeline (Dat)

variable (m : (ℓ : Loc nD τ sig) → Buf (Elt Ideal) ℓ) (c : Dev nD)

theorem idx : ∀ t : Fin cfg0.N, win0_0.index t = ![0, 0] ∧ win0_1.index t = ![0, 0] ∧ win0_2.index t = ![0, 0] ∧ win0_3.index t = ![0, 0]
    ∧ win0_4.index t = ![0, 0] :=
  (by decide +kernel : ∀ t : Fin grid0.N, _)

theorem final3 : (dats m 0 c).arrAt 3 cfg0.N
    = out0 (m ((c : Thread nD τ).loc main_arg0)) (m ((c : Thread nD τ).loc main_arg1)) := by
  refine (dats m 0 c).arrAt_eq_of_covers 3 _ (by decide +kernel) fun t hf y => ?_
  obtain ⟨r, l, rfl⟩ : ∃ (r : Fin 1024) (l : Fin 768), y = ix2 r l := ⟨_, _, eq_ix2 y⟩
  have e : ((cfg0.win 3).blk t).view.emb (ix2 r l) = ix2 r l := by blk_ext [idx t]
  refine Eq.trans ?_ (congrArg (out0 _ _) e).symm
  have b0 : ∀ i, iblk m c 0 t i = m ((c : Thread nD τ).loc main_arg0) i := fun i => by blk_point [iblk, V, idx t]
  have b1 : ∀ i, iblk m c 1 t i = m ((c : Thread nD τ).loc main_arg1) i := fun i => by blk_point [iblk, V, idx t]
  rw [after0_3]
  unfold out0_3
  frame_out
  pointwise [k0_pay1]
  simp only [b0, b1, zero_add, zero_sub]
  rfl

theorem final4 : (dats m 0 c).arrAt 4 cfg0.N = out1 (m ((c : Thread nD τ).loc main_arg2)) := by
  refine (dats m 0 c).arrAt_eq_of_covers 4 _ (by decide +kernel) fun t hf y => ?_
  obtain ⟨r, l, rfl⟩ : ∃ (r : Fin 1) (l : Fin 6144), y = ix2 r l := ⟨_, _, eq_ix2 y⟩
  have e : ((cfg0.win 4).blk t).view.emb (ix2 r l) = ix2 r l := by blk_ext [idx t]
  refine Eq.trans ?_ (congrArg (out1 _) e).symm
  have b2 : ∀ i, iblk m c 2 t i = m ((c : Thread nD τ).loc main_arg2) i := fun i => by blk_point [iblk, V, idx t]
  rw [after0_4]
  unfold out0_4
  frame_out
  pointwise [k0_pay2]
  simp only [b2, zero_add]
  rfl

end Kernel

section Reference

open Cert.Reference3Ideal Cert.Reference3Ideal.Gen Cert.Reference3Ideal.Read

theorem out0_eq (x0 : FVec Ideal S32x1024 .f32) (x1 : FVec Ideal S32x768 .f32) : val_main_v5 (F := Ideal) x0 x1 = out0 x0 x1 := by
  funext i
  idx_vars i
  pointwise [val_main_v5, val_main_v4, val_main_v2, val_main_call0_v5, val_main_call0_v4, val_main_call0_v3, val_main_call0_v2,
    val_main_call0_v1, val_main_call0_v0, val_main_call0_cst, val_main_call0_cst_0]
  exact Finset.sum_congr rfl fun k _ => mul_comm _ _

theorem out1_eq (x2 : FVec Ideal S32x6144 .f32) : val_main_v14 (F := Ideal) x2 = out1 x2 := by
  funext i
  idx_vars i
  pointwise [val_main_v14, val_main_v13, val_main_v12, val_main_v11, val_main_cst_2, val_main_cst_3]
  simp only [Fin.sum_univ_one, zero_add]
  rfl

end Reference

theorem algebraic : Cert.algebraic_Kernel3Ideal_Reference3Ideal := by
  pair_intro
  · run_from Cert.Kernel3Ideal.Value.run_blocks m g
  · run_from Cert.Reference3Ideal.Value.run m' g'
    · exact (out0_eq _ _).trans (final3 m c).symm
    · exact (out1_eq _).trans (final4 m c).symm

end Cert.Ada

end
-- ==== Proof.Loss.Spec.lean ====
/- The feed-forward block, the loss's gradient and its sums as formulas over the extended reals: what the kernel and the reference both
   compute. No argument needs to be finite: only the order of the sums differs. -/
module

public import proofs.«01_k».proof.Proof.Lift

@[expose] public section

noncomputable section

namespace Cert.Loss

open Idealize.ShloMosaic
open scoped BigOperators

/-- The arguments: the normalised input `H`, the residual stream `X`, the gate `GF` of the residual, the gate, up and down projections `WG`,
    `WU` and `WD`, and the target `T`. Tokens are numbered by sequence and position. -/
structure Data where
  H : Fin 4 → Fin 2048 → Fin 1024 → EReal
  X : Fin 4 → Fin 2048 → Fin 1024 → EReal
  GF : Fin 4 → Fin 1024 → EReal
  WG : Fin 1024 → Fin 2816 → EReal
  WU : Fin 1024 → Fin 2816 → EReal
  WD : Fin 2816 → Fin 1024 → EReal
  T : Fin 4 → Fin 2048 → Fin 1024 → EReal

/-- The data the seven argument arrays hold. -/
def data (x0 x1 : FVec Ideal ⟨3, ![4, 2048, 1024]⟩ .f32) (x2 : FVec Ideal ⟨2, ![4, 1024]⟩ .f32) (x3 x4 : FVec Ideal ⟨3, ![1, 1024, 2816]⟩ .f32)
    (x5 : FVec Ideal ⟨3, ![1, 2816, 1024]⟩ .f32) (x6 : FVec Ideal ⟨3, ![4, 2048, 1024]⟩ .f32) : Data :=
  ⟨fun b s k => x0 (ix3 b s k), fun b s k => x1 (ix3 b s k), fun b k => x2 (ix2 b k), fun a k => x3 (ix3 0 a k), fun a k => x4 (ix3 0 a k),
    fun k a => x5 (ix3 0 k a), fun b s k => x6 (ix3 b s k)⟩

/-- The gated activation: `silu g · u`. -/
def act (g u : EReal) : EReal := g * Ideal.div 1 (1 + Ideal.exp (-g)) * u

variable (p : Data)

def gate (b : Fin 4) (s : Fin 2048) (l : Fin 2816) : EReal := ∑ k, p.H b s k * p.WG k l

def up (b : Fin 4) (s : Fin 2048) (l : Fin 2816) : EReal := ∑ k, p.H b s k * p.WU k l

/-- The block's output. -/
def ff (b : Fin 4) (s : Fin 2048) (l : Fin 1024) : EReal := ∑ k, act (gate p b s k) (up p b s k) * p.WD k l

/-- What the layer's output misses of the target. -/
def diff (b : Fin 4) (s : Fin 2048) (l : Fin 1024) : EReal := p.X b s l + p.GF b l * ff p b s l - p.T b s l

/-- The loss's gradient at the layer's output. -/
def dy (b : Fin 4) (s : Fin 2048) (l : Fin 1024) : EReal := diff p b s l * ((1 / 1024 : ℝ) : EReal)

/-- The gradient of the block's output. -/
def df (b : Fin 4) (s : Fin 2048) (l : Fin 1024) : EReal := p.GF b l * dy p b s l

/-- The sum of the squares of a column. -/
def sq (l : Fin 1024) : EReal := ∑ b, ∑ s, diff p b s l * diff p b s l

/-- The gradient of the residual's gate. -/
def dgf (b : Fin 4) (l : Fin 1024) : EReal := ∑ s, dy p b s l * ff p b s l

/-! The six results. -/

def out0 : (⟨3, ![11, 8192, 256]⟩ : Shape).Idx → EReal := fun i =>
  gate p ⟨(i 1).val / 2048, by have := (i 1).isLt; change _ < 8192 at this; omega⟩ ⟨(i 1).val % 2048, by omega⟩
    ⟨(i 0).val * 256 + (i 2).val, by have := (i 0).isLt; have := (i 2).isLt; change _ < 11 at *; change (i 2).val < 256 at *; omega⟩

def out1 : (⟨3, ![11, 8192, 256]⟩ : Shape).Idx → EReal := fun i =>
  up p ⟨(i 1).val / 2048, by have := (i 1).isLt; change _ < 8192 at this; omega⟩ ⟨(i 1).val % 2048, by omega⟩
    ⟨(i 0).val * 256 + (i 2).val, by have := (i 0).isLt; have := (i 2).isLt; change _ < 11 at *; change (i 2).val < 256 at *; omega⟩

def out2 : (⟨2, ![8192, 1024]⟩ : Shape).Idx → EReal := fun i =>
  dy p ⟨(i 0).val / 2048, by have := (i 0).isLt; change _ < 8192 at this; omega⟩ ⟨(i 0).val % 2048, by omega⟩ (i 1)

def out3 : (⟨2, ![8192, 1024]⟩ : Shape).Idx → EReal := fun i =>
  df p ⟨(i 0).val / 2048, by have := (i 0).isLt; change _ < 8192 at this; omega⟩ ⟨(i 0).val % 2048, by omega⟩ (i 1)

def out4 : (⟨2, ![8, 1024]⟩ : Shape).Idx → EReal := fun i => if (i 0).val = 0 then sq p (i 1) else 0

def out5 : (⟨3, ![4, 8, 1024]⟩ : Shape).Idx → EReal := fun i => if (i 1).val = 0 then dgf p (i 0) (i 2) else 0

end Cert.Loss

end
-- ==== Proof.Loss.Block.lean ====
/- What the feed-forward kernel's body computes from one block of 512 tokens. The hidden columns are worked on in 11 tiles of 256. -/
module

public import proofs.«01_k».proof.Proof.Gen.Kernel4Ideal.Skeleton
public import Idealize.ShloMosaic.Lib.Pipeline.ValueKit
public import proofs.«01_k».proof.Proof.Loss.Spec
public import proofs.«01_k».proof.Proof.Rows

@[expose] public section

set_option maxRecDepth 16384

noncomputable section

namespace Cert.Loss.Block

open Cert.Kernel4Ideal Cert.Kernel4Ideal.Gen Idealize.ShloMosaic Idealize.ShloMosaic.TcCoe Idealize.SL.Sem
open Cert.Lift Cert.Loss

/-- The word of 1/1024. -/
theorem wInv1024 : Ideal.ofBits .f32 0x3A800000#32 = ((1 / 1024 : ℝ) : EReal) := by
  simp [Ideal.ofBits, Ideal.ieee]; rw [← EReal.coe_mul]; norm_num

/-- Tile `k` of a transposed projection: its rows `256 k` and on. -/
def tile (W : FVec Ideal S2816x1024 .bf16) (k : Fin 11) : FVec Ideal S256x1024 .bf16 :=
  View.ld (Val := Elt Ideal) (S := S2816x1024) (e' := .bf16) W (Rect.unit (s := S2816x1024) ![k.val * 256, 0] ![256, 1024] (fun a => by
    match a with
    | ⟨0, _⟩ => show k.val * 256 + 256 ≤ 2816; omega
    | ⟨1, _⟩ => show 0 + 1024 ≤ 1024; omega))

/-- A sum over the hidden columns, tile by tile. -/
theorem sum_tiles (f : Fin 2816 → EReal) : ∑ c, f c = ∑ k : Fin 11, ∑ j : Fin 256, f ⟨k.val * 256 + j.val, by omega⟩ :=
  (Fin.sum_mul_add_congr (S := 11) (n := 256) (f := f) (F := fun k j => f ⟨k.val * 256 + j.val, by omega⟩) (fun s k hl => rfl)).symm

/-- A sum of eleven terms, written out. -/
theorem sum_eleven (f : Fin 11 → EReal) : ∑ k, f k = f 0 + f 1 + f 2 + f 3 + f 4 + f 5 + f 6 + f 7 + f 8 + f 9 + f 10 := by
  simp only [Fin.sum_univ_succ, Fin.sum_univ_zero, add_zero, ← add_assoc]
  rfl

/-- The input's product with one tile. -/
def mm (B : FVec Ideal S512x1024 .bf16) (w : FVec Ideal S256x1024 .bf16) : FVec Ideal S512x256 .f32 := k0_pay6 B w

/-- The output's sum after tile `k`. -/
def step (B : FVec Ideal S512x1024 .bf16) (WG WU WD : FVec Ideal S2816x1024 .bf16) (k : Fin 11) (acc : FVec Ideal S512x1024 .f32) :
    FVec Ideal S512x1024 .f32 := k0_pay12 acc (mm B (tile WG k)) (mm B (tile WU k)) (tile WD k)

/-- The block's output. -/
def ffBlock (B : FVec Ideal S512x1024 .bf16) (WG WU WD : FVec Ideal S2816x1024 .bf16) : FVec Ideal S512x1024 .f32 :=
  step B WG WU WD 10 (step B WG WU WD 9 (step B WG WU WD 8 (step B WG WU WD 7 (step B WG WU WD 6 (step B WG WU WD 5 (step B WG WU WD 4
    (step B WG WU WD 3 (step B WG WU WD 2 (step B WG WU WD 1 (step B WG WU WD 0 k0_pay5))))))))))

/-- The store of plane `k` of the gate's or the up projection's array. -/
def plane (B : FVec Ideal S512x1024 .bf16) (W : FVec Ideal S2816x1024 .bf16) (k : Fin 11) : View.Piece (Elt Ideal) S11x512x256 .bf16 :=
  ⟨Rect.unit (s := S11x512x256) ![k.val, 0, 0] ![1, 512, 256] (fun a => by
    match a with
    | ⟨0, _⟩ => show k.val + 1 ≤ 11; omega
    | ⟨1, _⟩ => show 0 + 512 ≤ 512; omega
    | ⟨2, _⟩ => show 0 + 256 ≤ 256; omega), k0_pay10 (mm B (tile W k))⟩

/-- The eleven planes. -/
def planes (B : FVec Ideal S512x1024 .bf16) (W : FVec Ideal S2816x1024 .bf16) : FVec Ideal S11x512x256 .bf16 :=
  View.canon [plane B W 10, plane B W 9, plane B W 8, plane B W 7, plane B W 6, plane B W 5, plane B W 4, plane B W 3, plane B W 2, plane B W 1,
    plane B W 0]

theorem mm_at (B : FVec Ideal S512x1024 .bf16) (W : FVec Ideal S2816x1024 .bf16) (k : Fin 11) (r : Fin 512) (j : Fin 256) :
    mm B (tile W k) (ix2 r j) = ∑ d, B (ix2 r d) * W (ix2 ⟨k.val * 256 + j.val, by omega⟩ d) := by
  unfold mm
  pointwise [k0_pay6, k0_pay4]
  refine Finset.sum_congr rfl fun d _ => congrArg _ ?_
  exact Rows.ld_rows (Val := Elt Ideal) (e := .bf16) W _ _ j d

theorem planes_at (B : FVec Ideal S512x1024 .bf16) (W : FVec Ideal S2816x1024 .bf16) (k : Fin 11) (r : Fin 512) (j : Fin 256) :
    planes B W (ix3 k r j) = ∑ d, B (ix2 r d) * W (ix2 ⟨k.val * 256 + j.val, by omega⟩ d) := by
  have e : ∀ k : Fin 11, k0_pay10 (mm B (tile W k)) (ix3 0 r j) = ∑ d, B (ix2 r d) * W (ix2 ⟨k.val * 256 + j.val, by omega⟩ d) := fun k => by
    pointwise [k0_pay10]
    exact mm_at B W k r j
  unfold planes plane
  simp only [Rows.canon_plane, e]
  fin_cases k <;> rfl

theorem step_at (B : FVec Ideal S512x1024 .bf16) (WG WU WD : FVec Ideal S2816x1024 .bf16) (k : Fin 11) (acc : FVec Ideal S512x1024 .f32)
    (r : Fin 512) (l : Fin 1024) :
    step B WG WU WD k acc (ix2 r l) = acc (ix2 r l) + ∑ j : Fin 256, act (∑ d, B (ix2 r d) * WG (ix2 ⟨k.val * 256 + j.val, by omega⟩ d))
      (∑ d, B (ix2 r d) * WU (ix2 ⟨k.val * 256 + j.val, by omega⟩ d)) * WD (ix2 ⟨k.val * 256 + j.val, by omega⟩ l) := by
  unfold step
  pointwise [k0_pay12]
  refine congrArg _ (Finset.sum_congr rfl fun j _ => ?_)
  rw [mm_at, mm_at, zero_sub]
  exact congrArg _ (Rows.ld_rows (Val := Elt Ideal) (e := .bf16) WD _ _ j l)

theorem ffBlock_at (B : FVec Ideal S512x1024 .bf16) (WG WU WD : FVec Ideal S2816x1024 .bf16) (r : Fin 512) (l : Fin 1024) :
    ffBlock B WG WU WD (ix2 r l) = ∑ c : Fin 2816, act (∑ d, B (ix2 r d) * WG (ix2 c d)) (∑ d, B (ix2 r d) * WU (ix2 c d)) * WD (ix2 c l) := by
  have z : k0_pay5 (F := Ideal) (ix2 r l) = 0 := by pointwise [k0_pay5]
  unfold ffBlock
  simp only [step_at, z, zero_add]
  rw [sum_tiles, sum_eleven]

/-- The blocks a grid point reads hold the positions numbered by `ρ` of sequence `b`; the projections into the hidden columns transposed. -/
structure Blk (p : Data) (b : Fin 4) (ρ : Fin 512 → Fin 2048) (B : FVec Ideal S512x1024 .bf16) (yg : FVec Ideal S1x1x1024 .f32)
    (yx yt : FVec Ideal S512x1024 .f32) (WG WU WD : FVec Ideal S2816x1024 .bf16) : Prop where
  h : ∀ r k, B (ix2 r k) = p.H b (ρ r) k
  g : ∀ k : Fin 1024, yg (ix3 0 0 k) = p.GF b k
  x : ∀ r k, yx (ix2 r k) = p.X b (ρ r) k
  t : ∀ r k, yt (ix2 r k) = p.T b (ρ r) k
  wg : ∀ k a, WG (ix2 k a) = p.WG a k
  wu : ∀ k a, WU (ix2 k a) = p.WU a k
  wd : ∀ k a, WD (ix2 k a) = p.WD k a

variable {p : Data} {b : Fin 4} {ρ : Fin 512 → Fin 2048} {B : FVec Ideal S512x1024 .bf16} {yg : FVec Ideal S1x1x1024 .f32}
    {yx yt : FVec Ideal S512x1024 .f32} {WG WU WD : FVec Ideal S2816x1024 .bf16} (h : Blk p b ρ B yg yx yt WG WU WD)
include h

theorem gate_at (k : Fin 11) (r : Fin 512) (j : Fin 256) : planes B WG (ix3 k r j) = gate p b (ρ r) ⟨k.val * 256 + j.val, by omega⟩ := by
  rw [planes_at]
  simp only [h.h, h.wg]; rfl

theorem up_at (k : Fin 11) (r : Fin 512) (j : Fin 256) : planes B WU (ix3 k r j) = up p b (ρ r) ⟨k.val * 256 + j.val, by omega⟩ := by
  rw [planes_at]
  simp only [h.h, h.wu]; rfl

theorem ff_at (r : Fin 512) (l : Fin 1024) : ffBlock B WG WU WD (ix2 r l) = ff p b (ρ r) l := by
  rw [ffBlock_at]
  simp only [h.h, h.wg, h.wu, h.wd]; rfl

theorem diff_at (r : Fin 512) (l : Fin 1024) : k0_pay64 (ffBlock B WG WU WD) yg yx yt (ix2 r l) = diff p b (ρ r) l := by
  pointwise [k0_pay64, k0_pay63]
  rw [ff_at h, h.g, h.x, h.t]; rfl

theorem dy_at (r : Fin 512) (l : Fin 1024) : k0_pay66 (ffBlock B WG WU WD) yg yx yt (ix2 r l) = dy p b (ρ r) l := by
  pointwise [k0_pay66]
  rw [diff_at h, wInv1024]; rfl

theorem df_at (r : Fin 512) (l : Fin 1024) : k0_pay67 (ffBlock B WG WU WD) yg yx yt (ix2 r l) = df p b (ρ r) l := by
  pointwise [k0_pay67, k0_pay63]
  rw [dy_at h, h.g]; rfl

theorem sq_at (acc : FVec Ideal S1x1024 .f32) (l : Fin 1024) :
    k0_pay65 (ffBlock B WG WU WD) yg yx yt acc (ix2 0 l) = acc (ix2 0 l) + ∑ r, diff p b (ρ r) l * diff p b (ρ r) l := by
  pointwise [k0_pay65]
  simp only [diff_at h, zero_add]

theorem dgf_at (acc : FVec Ideal S1x1x1024 .f32) (l : Fin 1024) :
    k0_pay1 (k0_pay68 (ffBlock B WG WU WD) yg yx yt acc) (ix3 0 0 l) = acc (ix3 0 0 l) + ∑ r, dy p b (ρ r) l * ff p b (ρ r) l := by
  pointwise [k0_pay1, k0_pay68]
  simp only [dy_at h, ff_at h, zero_add]

end Cert.Loss.Block

end
-- ==== Proof.Loss.Array.lean ====
/- What the six result arrays of the feed-forward kernel hold after the run. -/
module

public import proofs.«01_k».proof.Proof.Gen.Kernel4Ideal.Value
public import Idealize.ShloMosaic.Lib.Pipeline.ValueKit
public import proofs.«01_k».proof.Proof.Loss.Block

@[expose] public section

set_option maxRecDepth 16384

noncomputable section

namespace Cert.Loss.Array

open Cert.Kernel4Ideal Cert.Kernel4Ideal.Gen Idealize.ShloMosaic Idealize.ShloMosaic.TcCoe Idealize.SL.Sem
open Idealize.ShloMosaic.Pipeline (Dat)
open Cert.Lift Cert.Loss

variable (m : (ℓ : Loc nD τ sig) → Buf (Elt Ideal) ℓ) {c : Dev nD}

/-- The data the arguments in memory hold. -/
abbrev dat (c : Dev nD) : Data :=
  data (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6))

theorem idx : ∀ t : Fin cfg0.N, win0_0.index t = ![t.val, 0] ∧ win0_1.index t = ![t.val / 4, 0, 0] ∧ win0_2.index t = ![t.val, 0]
    ∧ win0_3.index t = ![t.val, 0] ∧ win0_4.index t = ![0, t.val, 0] ∧ win0_5.index t = ![0, t.val, 0] ∧ win0_6.index t = ![t.val, 0]
    ∧ win0_7.index t = ![t.val, 0] ∧ win0_8.index t = ![0, 0] ∧ win0_9.index t = ![t.val / 4, 0, 0] ∧ t.val < 16 :=
  (by decide +kernel : ∀ t : Fin grid0.N, _)

theorem lt (t : Fin cfg0.N) : t.val < 16 := (idx t).2.2.2.2.2.2.2.2.2.2

/-- The sequence grid point `t` works on. -/
def bat (t : Fin cfg0.N) : Fin 4 := ⟨t.val / 4, by have := lt t; omega⟩

/-- The positions of grid point `t` in its sequence. -/
def pos (t : Fin cfg0.N) (r : Fin 512) : Fin 2048 := ⟨512 * (t.val % 4) + r.val, by omega⟩

/-- The rows of grid point `t` among all tokens. -/
def row (t : Fin cfg0.N) (r : Fin 512) : Fin 8192 := ⟨512 * t.val + r.val, by have := lt t; omega⟩

theorem row_div (t : Fin cfg0.N) (r : Fin 512) (h : (row t r).val / 2048 < 4) : (⟨(row t r).val / 2048, h⟩ : Fin 4) = bat t :=
  Fin.ext (by show (512 * t.val + r.val) / 2048 = t.val / 4; omega)

theorem row_mod (t : Fin cfg0.N) (r : Fin 512) (h : (row t r).val % 2048 < 2048) : (⟨(row t r).val % 2048, h⟩ : Fin 2048) = pos t r :=
  Fin.ext (by show (512 * t.val + r.val) % 2048 = 512 * (t.val % 4) + r.val; omega)

/-! The arrays the host lines prepare for the kernel. -/

theorem tokens (r : Fin 8192) (k : Fin 1024) :
    V m c main_v5 (ix2 r k) = m ((c : Thread nD τ).loc main_arg0) (ix3 ⟨r.val / 2048, by omega⟩ ⟨r.val % 2048, by omega⟩ k)
      ∧ V m c main_v14 (ix2 r k) = m ((c : Thread nD τ).loc main_arg1) (ix3 ⟨r.val / 2048, by omega⟩ ⟨r.val % 2048, by omega⟩ k)
      ∧ V m c main_v15 (ix2 r k) = m ((c : Thread nD τ).loc main_arg6) (ix3 ⟨r.val / 2048, by omega⟩ ⟨r.val % 2048, by omega⟩ k) := by
  simp only [V, hostOps0]
  refine ⟨?_, ?_, ?_⟩ <;> (after_results_simp; pointwise)

theorem projections (k : Fin 2816) (a : Fin 1024) :
    V m c main_v8 (ix2 k a) = m ((c : Thread nD τ).loc main_arg3) (ix3 0 a k)
      ∧ V m c main_v11 (ix2 k a) = m ((c : Thread nD τ).loc main_arg4) (ix3 0 a k)
      ∧ V m c main_v13 (ix2 k a) = m ((c : Thread nD τ).loc main_arg5) (ix3 0 k a) := by
  simp only [V, hostOps0]
  refine ⟨?_, ?_, ?_⟩ <;> (after_results_simp; pointwise)

theorem gates (b : Fin 4) (k : Fin 1024) : V m c main_v3 (ix3 b 5 k) = m ((c : Thread nD τ).loc main_arg2) (ix2 b k) := by
  simp only [V, hostOps0]
  after_results_simp
  pointwise
  after_results_simp
  pointwise

set_option maxHeartbeats 2000000 in
/-- The blocks of grid point `t`. -/
theorem blk (t : Fin cfg0.N) :
    Block.Blk (dat m c) (bat t) (pos t) (iblk m c 0 t) (View.ld (iblk m c 1 t) (Rect.unit ![0, 5, 0] ![1, 1, 1024] inb_S1x8x1024_S1x1x1024_0_5_0))
      (iblk m c 2 t) (iblk m c 3 t) (V m c main_v8) (V m c main_v11) (V m c main_v13) where
  h r k := by
    rw [← row_div t r (by omega), ← row_mod t r (by omega)]
    have e : ((cfg0.win 0).blk t).view.emb (ix2 r k) = ix2 (row t r) k := by blk_ext [idx t, row]
    exact (congrArg (V m c main_v5) e).trans (tokens m (row t r) k).1
  g k := by
    rw [Rows.ld_row3]
    have e : ((cfg0.win 1).blk t).view.emb (ix3 0 5 k) = ix3 (bat t) 5 k := by blk_ext [idx t, bat]
    exact (congrArg (V m c main_v3) e).trans (gates m (bat t) k)
  x r k := by
    rw [← row_div t r (by omega), ← row_mod t r (by omega)]
    have e : ((cfg0.win 2).blk t).view.emb (ix2 r k) = ix2 (row t r) k := by blk_ext [idx t, row]
    exact (congrArg (V m c main_v14) e).trans (tokens m (row t r) k).2.1
  t r k := by
    rw [← row_div t r (by omega), ← row_mod t r (by omega)]
    have e : ((cfg0.win 3).blk t).view.emb (ix2 r k) = ix2 (row t r) k := by blk_ext [idx t, row]
    exact (congrArg (V m c main_v15) e).trans (tokens m (row t r) k).2.2
  wg k a := (projections m k a).1
  wu k a := (projections m k a).2.1
  wd k a := (projections m k a).2.2

/-- From the first grid point on the three weight buffers hold the three projections. -/
theorem weights : ∀ (n : ℕ) (hn : n < cfg0.N), (outsAt0 m c n hn).2.2.2.2.2.2 = (V m c main_v8, V m c main_v11, V m c main_v13)
  | 0, hn => by
    rw [outsAt0_A m c ⟨0, hn⟩ rfl rfl rfl]
    frame_out
    simp only [Rows.canon_whole]
    rfl
  | n + 1, hn => by
    have ih := weights n (by omega)
    by_cases h1 : (n + 1) % 4 = 0
    · rw [outsAt0_C m c ⟨n + 1, hn⟩ (by have := lt ⟨n + 1, hn⟩; show ¬(n + 1) % 16 = 0; simp at this; omega) (by have := lt ⟨n + 1, hn⟩; show ¬(n + 1) % 16 = 0; simp at this; omega) h1]
      frame_out
      exact ih
    · rw [outsAt0_B m c ⟨n + 1, hn⟩ (by show ¬(n + 1) % 16 = 0; omega) (by show ¬(n + 1) % 16 = 0; omega) h1]
      frame_out
      exact ih

/-! The six results after grid point `t`, in the kernel's own operations. -/

theorem gateArr (t : Fin cfg0.N) : (outsAt0 m c t.val t.isLt).1 = Block.planes (iblk m c 0 t) (V m c main_v8) := by
  by_cases h0 : t.val % 16 = 0
  · rw [outsAt0_A m c t h0 h0 (by omega)]
    frame_out
    simp only [Rows.readCov_whole]
    rfl
  have w := weights m (t.val - 1) (Nat.lt_of_le_of_lt (Nat.sub_le _ _) t.isLt) (c := c)
  by_cases h1 : t.val % 4 = 0
  · rw [outsAt0_C m c t h0 h0 h1]
    frame_out
    simp only [read_unread_whole, w]
    rfl
  · rw [outsAt0_B m c t h0 h0 h1]
    frame_out
    simp only [read_unread_whole, w]
    rfl

theorem upArr (t : Fin cfg0.N) : (outsAt0 m c t.val t.isLt).2.1 = Block.planes (iblk m c 0 t) (V m c main_v11) := by
  by_cases h0 : t.val % 16 = 0
  · rw [outsAt0_A m c t h0 h0 (by omega)]
    frame_out
    simp only [Rows.readCov_whole]
    rfl
  have w := weights m (t.val - 1) (Nat.lt_of_le_of_lt (Nat.sub_le _ _) t.isLt) (c := c)
  by_cases h1 : t.val % 4 = 0
  · rw [outsAt0_C m c t h0 h0 h1]
    frame_out
    simp only [read_unread_whole, w]
    rfl
  · rw [outsAt0_B m c t h0 h0 h1]
    frame_out
    simp only [read_unread_whole, w]
    rfl

theorem dyArr (t : Fin cfg0.N) : (outsAt0 m c t.val t.isLt).2.2.1 = k0_pay66 (Block.ffBlock (iblk m c 0 t) (V m c main_v8) (V m c main_v11) (V m c main_v13))
    (View.ld (iblk m c 1 t) (Rect.unit ![0, 5, 0] ![1, 1, 1024] inb_S1x8x1024_S1x1x1024_0_5_0)) (iblk m c 2 t) (iblk m c 3 t) := by
  by_cases h0 : t.val % 16 = 0
  · rw [outsAt0_A m c t h0 h0 (by omega)]
    frame_out
    simp only [Rows.readCov_whole]
    rfl
  have w := weights m (t.val - 1) (Nat.lt_of_le_of_lt (Nat.sub_le _ _) t.isLt) (c := c)
  by_cases h1 : t.val % 4 = 0
  · rw [outsAt0_C m c t h0 h0 h1]
    frame_out
    simp only [read_unread_whole, w]
    rfl
  · rw [outsAt0_B m c t h0 h0 h1]
    frame_out
    simp only [read_unread_whole, w]
    rfl

theorem dfArr (t : Fin cfg0.N) : (outsAt0 m c t.val t.isLt).2.2.2.1 = k0_pay67 (Block.ffBlock (iblk m c 0 t) (V m c main_v8) (V m c main_v11) (V m c main_v13))
    (View.ld (iblk m c 1 t) (Rect.unit ![0, 5, 0] ![1, 1, 1024] inb_S1x8x1024_S1x1x1024_0_5_0)) (iblk m c 2 t) (iblk m c 3 t) := by
  by_cases h0 : t.val % 16 = 0
  · rw [outsAt0_A m c t h0 h0 (by omega)]
    frame_out
    simp only [Rows.readCov_whole]
    rfl
  have w := weights m (t.val - 1) (Nat.lt_of_le_of_lt (Nat.sub_le _ _) t.isLt) (c := c)
  by_cases h1 : t.val % 4 = 0
  · rw [outsAt0_C m c t h0 h0 h1]
    frame_out
    simp only [read_unread_whole, w]
    rfl
  · rw [outsAt0_B m c t h0 h0 h1]
    frame_out
    simp only [read_unread_whole, w]
    rfl

/-- What grid point `t` adds to the row of squares. -/
def term (p : Data) (t : Fin cfg0.N) (r : Fin 8) (l : Fin 1024) : EReal :=
  if r.val = 0 then ∑ s, diff p (bat t) (pos t s) l * diff p (bat t) (pos t s) l else 0

set_option maxHeartbeats 2000000 in
theorem first8 (t : Fin cfg0.N) (h0 : t.val % 16 = 0) (r : Fin 8) (l : Fin 1024) :
    (outsAt0 m c t.val t.isLt).2.2.2.2.1 (ix2 r l) = 0 + term (dat m c) t r l := by
  have z : ∀ i, k0_pay2 (F := Ideal) i = 0 := fun i => by pointwise [k0_pay2]
  rw [outsAt0_A m c t h0 h0 (by omega)]
  frame_out
  simp only [Rows.readCov_whole]
  unfold term
  rw [Rows.canon_row, Rows.canon_fill, z]
  by_cases hk : r.val = 0
  · rw [if_pos hk, if_pos hk]
    refine (Block.sq_at (blk m t) _ l).trans ?_
    rw [Rows.readCov_rows, Rows.canon_fill, z]
  · rw [if_neg hk, if_neg hk, add_zero]

set_option maxHeartbeats 2000000 in
theorem next8 (t : Fin cfg0.N) (h0 : ¬t.val % 16 = 0) (r : Fin 8) (l : Fin 1024) :
    (outsAt0 m c t.val t.isLt).2.2.2.2.1 (ix2 r l)
      = (outsAt0 m c (t.val - 1) (Nat.lt_of_le_of_lt (Nat.sub_le _ _) t.isLt)).2.2.2.2.1 (ix2 r l) + term (dat m c) t r l := by
  have w := weights m (t.val - 1) (Nat.lt_of_le_of_lt (Nat.sub_le _ _) t.isLt) (c := c)
  unfold term
  by_cases h1 : t.val % 4 = 0
  · rw [outsAt0_C m c t h0 h0 h1]
    frame_out
    simp only [read_unread_whole, w]
    rw [Rows.read_row]
    by_cases hk : r.val = 0
    · rw [if_pos hk, if_pos hk]
      refine (Block.sq_at (blk m t) _ l).trans ?_
      rw [Rows.ld_rows, show (⟨0 + ((0 : Fin 1) : ℕ), by decide⟩ : Fin 8) = r from Fin.ext (by simpa using hk.symm)]
    · rw [if_neg hk, if_neg hk, add_zero]
      exact congrFun (Memref.IsWhole.read_unread _ _) _
  · rw [outsAt0_B m c t h0 h0 h1]
    frame_out
    simp only [read_unread_whole, w]
    rw [Rows.read_row]
    by_cases hk : r.val = 0
    · rw [if_pos hk, if_pos hk]
      refine (Block.sq_at (blk m t) _ l).trans ?_
      rw [Rows.ld_rows, show (⟨0 + ((0 : Fin 1) : ℕ), by decide⟩ : Fin 8) = r from Fin.ext (by simpa using hk.symm)]
    · rw [if_neg hk, if_neg hk, add_zero]
      exact congrFun (Memref.IsWhole.read_unread _ _) _

/-- What grid point `t` adds to the gate's row. -/
def term2 (p : Data) (t : Fin cfg0.N) (r : Fin 8) (l : Fin 1024) : EReal :=
  if r.val = 0 then ∑ s, dy p (bat t) (pos t s) l * ff p (bat t) (pos t s) l else 0

set_option maxHeartbeats 2000000 in
theorem first9 (t : Fin cfg0.N) (h1 : t.val % 4 = 0) (r : Fin 8) (l : Fin 1024) :
    (outsAt0 m c t.val t.isLt).2.2.2.2.2.1 (ix3 0 r l) = 0 + term2 (dat m c) t r l := by
  have z : ∀ i, k0_pay3 (F := Ideal) i = 0 := fun i => by pointwise [k0_pay3]
  unfold term2
  by_cases h0 : t.val % 16 = 0
  · rw [outsAt0_A m c t h0 h0 h1]
    frame_out
    simp only [Rows.readCov_whole]
    rw [Rows.canon_row3, Rows.canon_fill3, z]
    by_cases hk : r.val = 0
    · rw [if_pos hk, if_pos hk]
      refine (Block.dgf_at (blk m t) _ l).trans ?_
      rw [Rows.readCov_row3, Rows.canon_fill3, z]
    · rw [if_neg hk, if_neg hk, add_zero]
  · have w := weights m (t.val - 1) (Nat.lt_of_le_of_lt (Nat.sub_le _ _) t.isLt) (c := c)
    rw [outsAt0_C m c t h0 h0 h1]
    frame_out
    simp only [read_unread_whole, w]
    rw [Rows.canon_row3, Rows.canon_fill3, z]
    by_cases hk : r.val = 0
    · rw [if_pos hk, if_pos hk]
      refine (Block.dgf_at (blk m t) _ l).trans ?_
      rw [Rows.readCov_row3, Rows.canon_fill3, z]
    · rw [if_neg hk, if_neg hk, add_zero]

set_option maxHeartbeats 2000000 in
theorem next9 (t : Fin cfg0.N) (h1 : ¬t.val % 4 = 0) (r : Fin 8) (l : Fin 1024) :
    (outsAt0 m c t.val t.isLt).2.2.2.2.2.1 (ix3 0 r l)
      = (outsAt0 m c (t.val - 1) (Nat.lt_of_le_of_lt (Nat.sub_le _ _) t.isLt)).2.2.2.2.2.1 (ix3 0 r l) + term2 (dat m c) t r l := by
  have w := weights m (t.val - 1) (Nat.lt_of_le_of_lt (Nat.sub_le _ _) t.isLt) (c := c)
  unfold term2
  rw [outsAt0_B m c t (by omega) (by omega) h1]
  frame_out
  simp only [read_unread_whole, w]
  rw [Rows.read_row3]
  by_cases hk : r.val = 0
  · rw [if_pos hk, if_pos hk]
    refine (Block.dgf_at (blk m t) _ l).trans ?_
    rw [Rows.ld_row3, show (⟨0, by decide⟩ : Fin 8) = r from Fin.ext hk.symm]
  · rw [if_neg hk, if_neg hk, add_zero]
    exact congrFun (Memref.IsWhole.read_unread _ _) _

set_option maxHeartbeats 2000000 in
theorem final4 : (dats m 0 c).arrAt 4 cfg0.N = out0 (dat m c) := by
  refine (dats m 0 c).arrAt_eq_of_covers 4 _ (by decide +kernel) fun t hf y => ?_
  obtain ⟨a, r, l, rfl⟩ : ∃ (a : Fin 11) (r : Fin 512) (l : Fin 256), y = ix3 a r l := ⟨_, _, _, eq_ix3 y⟩
  have e : ((cfg0.win 4).blk t).view.emb (ix3 a r l) = ix3 a (row t r) l := by blk_ext [idx t, row]
  refine Eq.trans ?_ (congrArg (out0 _) e).symm
  refine Eq.trans ?_ (congrArg₂ (fun b s => gate (dat m c) b s ⟨a.val * 256 + l.val, by omega⟩) (row_div t r _) (row_mod t r _)).symm
  rw [after0_4, gateArr]
  exact Block.gate_at (blk m t) a r l

set_option maxHeartbeats 2000000 in
theorem final5 : (dats m 0 c).arrAt 5 cfg0.N = out1 (dat m c) := by
  refine (dats m 0 c).arrAt_eq_of_covers 5 _ (by decide +kernel) fun t hf y => ?_
  obtain ⟨a, r, l, rfl⟩ : ∃ (a : Fin 11) (r : Fin 512) (l : Fin 256), y = ix3 a r l := ⟨_, _, _, eq_ix3 y⟩
  have e : ((cfg0.win 5).blk t).view.emb (ix3 a r l) = ix3 a (row t r) l := by blk_ext [idx t, row]
  refine Eq.trans ?_ (congrArg (out1 _) e).symm
  refine Eq.trans ?_ (congrArg₂ (fun b s => up (dat m c) b s ⟨a.val * 256 + l.val, by omega⟩) (row_div t r _) (row_mod t r _)).symm
  rw [after0_5, upArr]
  exact Block.up_at (blk m t) a r l

set_option maxHeartbeats 2000000 in
theorem final6 : (dats m 0 c).arrAt 6 cfg0.N = out2 (dat m c) := by
  refine (dats m 0 c).arrAt_eq_of_covers 6 _ (by decide +kernel) fun t hf y => ?_
  obtain ⟨r, l, rfl⟩ : ∃ (r : Fin 512) (l : Fin 1024), y = ix2 r l := ⟨_, _, eq_ix2 y⟩
  have e : ((cfg0.win 6).blk t).view.emb (ix2 r l) = ix2 (row t r) l := by blk_ext [idx t, row]
  refine Eq.trans ?_ (congrArg (out2 _) e).symm
  refine Eq.trans ?_ (congrArg₂ (fun b s => dy (dat m c) b s l) (row_div t r _) (row_mod t r _)).symm
  rw [after0_6, dyArr]
  exact Block.dy_at (blk m t) r l

set_option maxHeartbeats 2000000 in
theorem final7 : (dats m 0 c).arrAt 7 cfg0.N = out3 (dat m c) := by
  refine (dats m 0 c).arrAt_eq_of_covers 7 _ (by decide +kernel) fun t hf y => ?_
  obtain ⟨r, l, rfl⟩ : ∃ (r : Fin 512) (l : Fin 1024), y = ix2 r l := ⟨_, _, eq_ix2 y⟩
  have e : ((cfg0.win 7).blk t).view.emb (ix2 r l) = ix2 (row t r) l := by blk_ext [idx t, row]
  refine Eq.trans ?_ (congrArg (out3 _) e).symm
  refine Eq.trans ?_ (congrArg₂ (fun b s => df (dat m c) b s l) (row_div t r _) (row_mod t r _)).symm
  rw [after0_7, dfArr]
  exact Block.df_at (blk m t) r l

/-- A sum over all tokens, grid point by grid point. -/
theorem sum_points (f : Fin 4 → Fin 2048 → EReal) (g : Fin 16 → Fin cfg0.N) (hg : ∀ s, (g s).val = s.val) :
    ∑ s : Fin 16, ∑ k : Fin 512, f (bat (g s)) (pos (g s) k) = ∑ b, ∑ s, f b s := by
  refine (Fin.sum_mul_add_congr (S := 4) (n := 4) (F := fun b i => ∑ k : Fin 512, f (bat (g ⟨b.val * 4 + i.val, by omega⟩))
    (pos (g ⟨b.val * 4 + i.val, by omega⟩) k)) fun b i _ => rfl).symm.trans (Finset.sum_congr rfl fun b _ => ?_)
  refine Fin.sum_mul_add_congr fun i k hl => congrArg₂ f (Fin.ext ?_) (Fin.ext ?_)
  · show (g _).val / 4 = b.val; rw [hg]; show (b.val * 4 + i.val) / 4 = b.val; omega
  · show 512 * ((g _).val % 4) + k.val = i.val * 512 + k.val; rw [hg]
    show 512 * ((b.val * 4 + i.val) % 4) + k.val = i.val * 512 + k.val; omega

theorem final8 : (dats m 0 c).arrAt 8 cfg0.N = out4 (dat m c) := by
  refine (dats m 0 c).arrAt_eq_of_covers 8 _ (by decide +kernel) fun t hf y => ?_
  obtain ⟨r, l, rfl⟩ : ∃ (r : Fin 8) (l : Fin 1024), y = ix2 r l := ⟨_, _, eq_ix2 y⟩
  have e : ((cfg0.win 8).blk t).view.emb (ix2 r l) = ix2 r l := by blk_ext [idx t]
  refine Eq.trans ?_ (congrArg (out4 _) e).symm
  have ht : t.val / 16 = 0 := by have := lt t; omega
  rw [after0_8, Pipeline.eq_sum_fin_of_reset_step_apply_of_flush (fun n h => (outsAt0 m c n h).2.2.2.2.1) 16 (fun _ => 0)
    (fun t j => term (dat m c) t (j 0) (j 1)) (fun t h0 j => (congrArg _ (eq_ix2 j)).trans (first8 m t h0 (j 0) (j 1)))
    (fun t h0 j => by rw [eq_ix2 j]; exact next8 m t h0 (j 0) (j 1)) t ((flush0_8 t).mp hf) _, zero_add]
  show ∑ s : Fin 16, term (dat m c) _ r l = out4 (dat m c) (ix2 r l)
  unfold term out4
  by_cases h1 : r.val = 0
  · simp only [h1, if_true]
    exact (sum_points (fun b s => diff (dat m c) b s l * diff (dat m c) b s l) _ fun s => by show 16 * (t.val / 16) + s.val = s.val; omega).trans
      (by simp [h1, sq])
  · simp only [h1, if_false]
    simp [h1]

theorem final9 : (dats m 0 c).arrAt 9 cfg0.N = out5 (dat m c) := by
  refine (dats m 0 c).arrAt_eq_of_covers 9 _ (by decide +kernel) fun t hf y => ?_
  obtain ⟨r, l, rfl⟩ : ∃ (r : Fin 8) (l : Fin 1024), y = ix3 0 r l := Rows.exists_ix3 y
  have e : ((cfg0.win 9).blk t).view.emb (ix3 0 r l) = ix3 (bat t) r l := by blk_ext [idx t, bat]
  refine Eq.trans ?_ (congrArg (out5 _) e).symm
  rw [after0_9, Pipeline.eq_sum_fin_of_reset_step_apply_of_flush (fun n h => (outsAt0 m c n h).2.2.2.2.2.1) 4 (fun _ => 0)
    (fun t j => term2 (dat m c) t (j 1) (j 2)) (fun t h0 j => by
      obtain ⟨r, l, rfl⟩ : ∃ (r : Fin 8) (l : Fin 1024), j = ix3 0 r l := Rows.exists_ix3 j
      exact first9 m t h0 r l)
    (fun t h0 j => by
      obtain ⟨r, l, rfl⟩ : ∃ (r : Fin 8) (l : Fin 1024), j = ix3 0 r l := Rows.exists_ix3 j
      exact next9 m t h0 r l) t ((flush0_9 t).mp hf) _, zero_add]
  have hsum : ∀ f : Fin 4 → Fin 2048 → EReal, ∑ s : Fin 4, ∑ k : Fin 512, f (bat ⟨4 * (t.val / 4) + s.val, Pipeline.run_point_lt_of_flush t ((flush0_9 t).mp hf) s⟩)
      (pos ⟨4 * (t.val / 4) + s.val, Pipeline.run_point_lt_of_flush t ((flush0_9 t).mp hf) s⟩ k) = ∑ s, f (bat t) s := fun f =>
    Fin.sum_mul_add_congr fun s k hl => congrArg₂ f (Fin.ext (by show (4 * (t.val / 4) + s.val) / 4 = t.val / 4; omega)) (Fin.ext (by
      show 512 * ((4 * (t.val / 4) + s.val) % 4) + k.val = s.val * 512 + k.val; omega))
  show ∑ s : Fin 4, term2 (dat m c) _ r l = out5 (dat m c) (ix3 (bat t) r l)
  unfold term2 out5
  by_cases h1 : r.val = 0
  · simp only [h1, if_true]
    exact (hsum fun b s => dy (dat m c) b s l * ff (dat m c) b s l).trans (by simp [h1, dgf])
  · simp only [h1, if_false]
    simp [h1]

end Cert.Loss.Array

end
-- ==== Proof.Loss.Reference.lean ====
/- The reference's six results are the formulas. -/
module

public import proofs.«01_k».proof.Proof.Gen.Reference4Ideal.Read
public import proofs.«01_k».proof.Proof.Loss.Spec

@[expose] public section

set_option maxRecDepth 16384

noncomputable section

namespace Cert.Loss.Ref

open Cert.Reference4Ideal Cert.Reference4Ideal.Gen Cert.Reference4Ideal.Read Idealize.ShloMosaic Idealize.ShloMosaic.TcCoe Idealize.SL.Sem
open Cert.Lift Cert.Loss

variable (x0 x1 : FVec Ideal S4x2048x1024 .f32) (x2 : FVec Ideal S4x1024 .f32) (x3 x4 : FVec Ideal S1x1024x2816 .f32)
  (x5 : FVec Ideal S1x2816x1024 .f32) (x6 : FVec Ideal S4x2048x1024 .f32)

local notation "p" => data x0 x1 x2 x3 x4 x5 x6

/-- The word of 1/2. -/
theorem wHalf : Ideal.ofBits .f32 0x3F000000#32 = ((1 / 2 : ℝ) : EReal) := by
  simp [Ideal.ofBits, Ideal.ieee]; rw [← EReal.coe_mul]; norm_num

theorem v2 (b : Fin 4) (s : Fin 2048) (l : Fin 2816) : val_main_v2 (F := Ideal) x0 x3 (ix3 b s l) = gate p b s l := by
  pointwise [val_main_v2, val_main_v1]
  rfl

theorem v4 (b : Fin 4) (s : Fin 2048) (l : Fin 2816) : val_main_v4 (F := Ideal) x0 x4 (ix3 b s l) = up p b s l := by
  pointwise [val_main_v4, val_main_v3]
  rfl

theorem v6 (b : Fin 4) (s : Fin 2048) (l : Fin 2816) : val_main_v6 (F := Ideal) x0 x3 x4 (ix3 b s l) = act (gate p b s l) (up p b s l) := by
  pointwise [val_main_v6, val_main_v5, val_main_call0_v5, val_main_call0_v4, val_main_call0_v3, val_main_call0_v2, val_main_call0_v1, val_main_call0_v0,
    val_main_call0_cst, val_main_call0_cst_0]
  rw [v2 x0 x1 x2 x3 x4 x5 x6, v4 x0 x1 x2 x3 x4 x5 x6]; rfl

theorem v9 (b : Fin 4) (s : Fin 2048) (l : Fin 1024) : val_main_v9 (F := Ideal) x0 x3 x4 x5 (ix3 b s l) = ff p b s l := by
  pointwise [val_main_v9, val_main_v8, val_main_v7, val_main_v0, val_main_cst]
  simp only [v6 x0 x1 x2 x3 x4 x5 x6, add_zero]; rfl

theorem v15 (b : Fin 4) (s : Fin 2048) (l : Fin 1024) : val_main_v15 (F := Ideal) x0 x1 x2 x3 x4 x5 x6 (ix3 b s l) = diff p b s l := by
  pointwise [val_main_v15, val_main_v14, val_main_v13, val_main_v12, val_main_v11, val_main_v10, val_main_v0, val_main_cst]
  rw [v9 x0 x1 x2 x3 x4 x5 x6]; rfl

theorem v30 (b : Fin 4) (s : Fin 2048) (l : Fin 1024) : val_main_v30 (F := Ideal) x0 x1 x2 x3 x4 x5 x6 (ix3 b s l) = dy p b s l := by
  pointwise [val_main_v30, val_main_v29, val_main_v28, val_main_v27, val_main_v26, val_main_v25, val_main_v18, val_main_v17, val_main_cst_0, val_main_cst_6,
    val_main_cst_7, val_main_cst_8]
  rw [v15, wHalf, w2, w1024, div_coe (by norm_num), ← mul_assoc, ← EReal.coe_mul, mul_comm]
  unfold dy
  norm_num

theorem v32 (b : Fin 4) (s : Fin 2048) (l : Fin 1024) : val_main_v32 (F := Ideal) x0 x1 x2 x3 x4 x5 x6 (ix3 b s l) = df p b s l := by
  pointwise [val_main_v32, val_main_v31, val_main_v10]
  rw [v30]; rfl

theorem v24 (l : Fin 1024) : val_main_v24 (F := Ideal) x0 x1 x2 x3 x4 x5 x6 (ix1 l) = sq p l := by
  pointwise [val_main_v24]
  rw [reduce01]
  pointwise [val_main_v16, val_main_cst_5]
  simp only [v15, zero_add]; rfl

theorem v36 (b : Fin 4) (l : Fin 1024) : val_main_v36 (F := Ideal) x0 x1 x2 x3 x4 x5 x6 (ix2 b l) = dgf p b l := by
  pointwise [val_main_v36, val_main_v35, val_main_v34, val_main_v33, val_main_cst_9, val_main_cst_10]
  simp only [v30, v9 x0 x1 x2 x3 x4 x5 x6, zero_add, Fin.sum_univ_one]; rfl

theorem out0_eq : val_main_v39 (F := Ideal) x0 x3 = out0 p := by
  funext i
  obtain ⟨a, r, l, rfl⟩ : ∃ (a : Fin 11) (r : Fin 8192) (l : Fin 256), i = ix3 a r l := ⟨_, _, _, eq_ix3 i⟩
  pointwise [val_main_v39, val_main_v38, val_main_v37]
  exact v2 x0 x1 x2 x3 x4 x5 x6 _ _ _

theorem out1_eq : val_main_v42 (F := Ideal) x0 x4 = out1 p := by
  funext i
  obtain ⟨a, r, l, rfl⟩ : ∃ (a : Fin 11) (r : Fin 8192) (l : Fin 256), i = ix3 a r l := ⟨_, _, _, eq_ix3 i⟩
  pointwise [val_main_v42, val_main_v41, val_main_v40]
  exact v4 x0 x1 x2 x3 x4 x5 x6 _ _ _

theorem out2_eq : val_main_v43 (F := Ideal) x0 x1 x2 x3 x4 x5 x6 = out2 p := by
  funext i
  obtain ⟨r, l, rfl⟩ : ∃ (r : Fin 8192) (l : Fin 1024), i = ix2 r l := ⟨_, _, eq_ix2 i⟩
  pointwise [val_main_v43]
  exact v30 x0 x1 x2 x3 x4 x5 x6 _ _ _

theorem out3_eq : val_main_v45 (F := Ideal) x0 x1 x2 x3 x4 x5 x6 = out3 p := by
  funext i
  obtain ⟨r, l, rfl⟩ : ∃ (r : Fin 8192) (l : Fin 1024), i = ix2 r l := ⟨_, _, eq_ix2 i⟩
  pointwise [val_main_v45, val_main_v44]
  exact v32 x0 x1 x2 x3 x4 x5 x6 _ _ _

theorem out4_eq : val_main_v48 (F := Ideal) x0 x1 x2 x3 x4 x5 x6 = out4 p := by
  funext i
  obtain ⟨r, l, rfl⟩ : ∃ (r : Fin 8) (l : Fin 1024), i = ix2 r l := ⟨_, _, eq_ix2 i⟩
  pointwise [val_main_v48, val_main_v47, val_main_v46, val_main_cst_11]
  unfold out4
  by_cases hk : r.val = 0
  · simp [hk, v24]
  · simp [hk]

theorem out5_eq : val_main_v51 (F := Ideal) x0 x1 x2 x3 x4 x5 x6 = out5 p := by
  funext i
  obtain ⟨b, r, l, rfl⟩ : ∃ (b : Fin 4) (r : Fin 8) (l : Fin 1024), i = ix3 b r l := ⟨_, _, _, eq_ix3 i⟩
  pointwise [val_main_v51, val_main_v50, val_main_v49, val_main_cst_12]
  unfold out5
  by_cases hk : r.val = 0
  · simp [hk, v36]
  · simp [hk]

end Cert.Loss.Ref

end
-- ==== Proof.Loss.Claim.lean ====
/- The value claim of the feed-forward block with the loss's gradient. -/
module

public import proofs.«01_k».proof.Defs
public import proofs.«01_k».proof.Proof.Gen.Reference4Ideal.Run
public import proofs.«01_k».proof.Proof.Loss.Array
public import proofs.«01_k».proof.Proof.Loss.Reference

@[expose] public section

set_option maxRecDepth 16384

noncomputable section

namespace Cert.Loss

open Idealize.ShloMosaic Idealize.ShloMosaic.TcCoe Idealize.SL.Sem

theorem algebraic : Cert.algebraic_Kernel4Ideal_Reference4Ideal := by
  pair_intro
  · run_from Cert.Kernel4Ideal.Value.run_blocks m g
  · run_from Cert.Reference4Ideal.Value.run m' g'
    · obtain ⟨e0, e1, e2, e3, e4, e5, e6⟩ := hagree c
      rw [Cert.Reference4Ideal.Read.val_main_v39_eq]
      try simp only [e0, e1, e2, e3, e4, e5, e6]
      exact (Ref.out0_eq _ _ _ _ _ _ _).trans (Array.final4 m (c := c)).symm
    · obtain ⟨e0, e1, e2, e3, e4, e5, e6⟩ := hagree c
      rw [Cert.Reference4Ideal.Read.val_main_v42_eq]
      try simp only [e0, e1, e2, e3, e4, e5, e6]
      exact (Ref.out1_eq _ _ _ _ _ _ _).trans (Array.final5 m (c := c)).symm
    · obtain ⟨e0, e1, e2, e3, e4, e5, e6⟩ := hagree c
      rw [Cert.Reference4Ideal.Read.val_main_v43_eq]
      try simp only [e0, e1, e2, e3, e4, e5, e6]
      exact (Ref.out2_eq _ _ _ _ _ _ _).trans (Array.final6 m (c := c)).symm
    · obtain ⟨e0, e1, e2, e3, e4, e5, e6⟩ := hagree c
      rw [Cert.Reference4Ideal.Read.val_main_v45_eq]
      try simp only [e0, e1, e2, e3, e4, e5, e6]
      exact (Ref.out3_eq _ _ _ _ _ _ _).trans (Array.final7 m (c := c)).symm
    · obtain ⟨e0, e1, e2, e3, e4, e5, e6⟩ := hagree c
      rw [Cert.Reference4Ideal.Read.val_main_v48_eq]
      try simp only [e0, e1, e2, e3, e4, e5, e6]
      exact (Ref.out4_eq _ _ _ _ _ _ _).trans (Array.final8 m (c := c)).symm
    · obtain ⟨e0, e1, e2, e3, e4, e5, e6⟩ := hagree c
      rw [Cert.Reference4Ideal.Read.val_main_v51_eq]
      try simp only [e0, e1, e2, e3, e4, e5, e6]
      exact (Ref.out5_eq _ _ _ _ _ _ _).trans (Array.final9 m (c := c)).symm

end Cert.Loss

end
-- ==== Proof.FfnBwd.Frame.lean ====
/- The gradient of the gated feed-forward layer: the whole launch, at any values. Every point of the grid computes the
   four blocks of its 256 rows. The first point copies the three weight matrices into scratch, where every later point
   finds them. The gradient of the norm's scale is added up over all points, and the gradients of the three parts of the
   modulation row over the eight points of a sequence. -/
module

public import proofs.«01_k».proof.Proof.Gen.Kernel5Ideal.Frame.RunC
public import Idealize.ShloMosaic.Lib.Claim

@[expose] public section

set_option maxRecDepth 16384

noncomputable section

namespace Cert.FfnBwd.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel5Ideal Cert.Kernel5Ideal.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The three kinds of points -/

/-- What a point leaves: its seven output blocks and the three weight matrices in scratch. -/
abbrev Left (F : FTy → Type) : Type :=
  Vec F S11x256x256 .bf16 × Vec F S11x256x256 .bf16 × Vec F S11x256x256 .bf16 × Vec F S256x1024 .f32
    × Vec F S256x1024 .bf16 × Vec F S8x1024 .f32 × Vec F S1x8x1024 .f32
    × Vec F S2816x1024 .bf16 × Vec F S2816x1024 .bf16 × Vec F S2816x1024 .bf16

/-- The body's run at the first point. -/
def runFirst (c : Dev nD) (t : Fin cfg0.N) (h : t.val % 32 = 0) :=
  kernelRun0_A (F := F) c (grid0.coords t) (ms0_0 t) (hs0_0 t) (ms0_1 t) (hs0_1 t) (ms0_2 t) (hs0_2 t) (ms0_3 t)
  (hs0_3 t) (ms0_4 t) (hs0_4 t) (ms0_5 t) (hs0_5 t) (ms0_6 t) (hs0_6 t) (ms0_7 t) (hs0_7 t) (ms0_8 t) (hs0_8 t) (ms0_9
  t) (hs0_9 t) (ms0_10 t) (hs0_10 t) (ms0_11 t) (hs0_11 t) (ms0_12 t) (hs0_12 t) (ms0_13 t) (hs0_13 t) (ms0_14 t)
  (hs0_14 t) scM0_0 (Memref.isWhole_whole _) scM0_1 (Memref.isWhole_whole _) scM0_2 (Memref.isWhole_whole _)
  ((hcond0_0 t).mpr h) ((hcond0_1 t).mpr h) ((hcond0_2 t).mpr (by omega)) (iblk m c 0 t) (iblk m c 1 t) (iblk m c 2 t)
  (iblk m c 3 t) (iblk m c 4 t) (iblk m c 5 t) (iblk m c 6 t) (iblk m c 7 t)  (V m c main_v53) (V m c main_v56) (V m c
  main_v58)

/-- What it leaves. -/
def leftFirst (c : Dev nD) (t : Fin cfg0.N) (h : t.val % 32 = 0) : Left F :=
  (VO0_8.read (Elt F) (VO0_8.writes (Elt F) VO0_8.junk (runFirst m c t h).1),
    VO0_9.read (Elt F) (VO0_9.writes (Elt F) VO0_9.junk (runFirst m c t h).2.1),
    VO0_10.read (Elt F) (VO0_10.writes (Elt F) VO0_10.junk (runFirst m c t h).2.2.1),
    VO0_11.read (Elt F) (VO0_11.writes (Elt F) VO0_11.junk (runFirst m c t h).2.2.2.1),
    VO0_12.read (Elt F) (VO0_12.writes (Elt F) VO0_12.junk (runFirst m c t h).2.2.2.2.1),
    VO0_13.read (Elt F) (VO0_13.writes (Elt F) VO0_13.junk (runFirst m c t h).2.2.2.2.2.1),
    VO0_14.read (Elt F) (VO0_14.writes (Elt F) VO0_14.junk (runFirst m c t h).2.2.2.2.2.2.1),
    VS0_0.read (Elt F) (VS0_0.writes (Elt F) VS0_0.junk (runFirst m c t h).2.2.2.2.2.2.2.1),
    VS0_1.read (Elt F) (VS0_1.writes (Elt F) VS0_1.junk (runFirst m c t h).2.2.2.2.2.2.2.2.1),
    VS0_2.read (Elt F) (VS0_2.writes (Elt F) VS0_2.junk (runFirst m c t h).2.2.2.2.2.2.2.2.2.1))

/-- The body's run at the first point of a later sequence, over what the point before left. -/
def runRow (c : Dev nD) (t : Fin cfg0.N) (h : ¬t.val % 32 = 0) (k : t.val % 8 = 0) (p : Left F) :=
  kernelRun0_C (F := F) c (grid0.coords t) (ms0_0 t) (hs0_0 t) (ms0_1 t) (hs0_1 t) (ms0_2 t) (hs0_2 t) (ms0_3 t)
  (hs0_3 t) (ms0_4 t) (hs0_4 t) (ms0_5 t) (hs0_5 t) (ms0_6 t) (hs0_6 t) (ms0_7 t) (hs0_7 t) (ms0_8 t) (hs0_8 t) (ms0_9
  t) (hs0_9 t) (ms0_10 t) (hs0_10 t) (ms0_11 t) (hs0_11 t) (ms0_12 t) (hs0_12 t) (ms0_13 t) (hs0_13 t) (ms0_14 t)
  (hs0_14 t) scM0_0 (Memref.isWhole_whole _) scM0_1 (Memref.isWhole_whole _) scM0_2 (Memref.isWhole_whole _) (fun e =>
  h ((hcond0_0 t).mp e)) (fun e => h ((hcond0_1 t).mp e)) ((hcond0_2 t).mpr k) (iblk m c 0 t) (iblk m c 1 t) (iblk m c
  2 t) (iblk m c 3 t) (iblk m c 4 t) (iblk m c 5 t) (iblk m c 6 t) (iblk m c 7 t) p.2.2.2.2.2.1 p.2.2.2.2.2.2.2.1
  p.2.2.2.2.2.2.2.2.1 p.2.2.2.2.2.2.2.2.2 (V m c main_v53) (V m c main_v56) (V m c main_v58)

/-- What it leaves. -/
def leftRow (c : Dev nD) (t : Fin cfg0.N) (h : ¬t.val % 32 = 0) (k : t.val % 8 = 0) (p : Left F) : Left F :=
  (VO0_8.read (Elt F) (VO0_8.writes (Elt F) VO0_8.junk (runRow m c t h k p).1),
    VO0_9.read (Elt F) (VO0_9.writes (Elt F) VO0_9.junk (runRow m c t h k p).2.1),
    VO0_10.read (Elt F) (VO0_10.writes (Elt F) VO0_10.junk (runRow m c t h k p).2.2.1),
    VO0_11.read (Elt F) (VO0_11.writes (Elt F) VO0_11.junk (runRow m c t h k p).2.2.2.1),
    VO0_12.read (Elt F) (VO0_12.writes (Elt F) VO0_12.junk (runRow m c t h k p).2.2.2.2.1),
    (ms0_13 t).view.read (Elt F) ((ms0_13 t).view.writes (Elt F) ((hs0_13 t).unread p.2.2.2.2.2.1) (runRow m c t h k p).2.2.2.2.2.1),
    VO0_14.read (Elt F) (VO0_14.writes (Elt F) VO0_14.junk (runRow m c t h k p).2.2.2.2.2.2.1),
    p.2.2.2.2.2.2.2.1,
    p.2.2.2.2.2.2.2.2.1,
    p.2.2.2.2.2.2.2.2.2)

/-- The body's run at every other point, over what the point before left. -/
def runNext (c : Dev nD) (t : Fin cfg0.N) (h : ¬t.val % 32 = 0) (k : ¬t.val % 8 = 0) (p : Left F) :=
  kernelRun0_B (F := F) c (grid0.coords t) (ms0_0 t) (hs0_0 t) (ms0_1 t) (hs0_1 t) (ms0_2 t) (hs0_2 t) (ms0_3 t)
  (hs0_3 t) (ms0_4 t) (hs0_4 t) (ms0_5 t) (hs0_5 t) (ms0_6 t) (hs0_6 t) (ms0_7 t) (hs0_7 t) (ms0_8 t) (hs0_8 t) (ms0_9
  t) (hs0_9 t) (ms0_10 t) (hs0_10 t) (ms0_11 t) (hs0_11 t) (ms0_12 t) (hs0_12 t) (ms0_13 t) (hs0_13 t) (ms0_14 t)
  (hs0_14 t) scM0_0 (Memref.isWhole_whole _) scM0_1 (Memref.isWhole_whole _) scM0_2 (Memref.isWhole_whole _) (fun e =>
  h ((hcond0_0 t).mp e)) (fun e => h ((hcond0_1 t).mp e)) (fun e => k ((hcond0_2 t).mp e)) (iblk m c 0 t) (iblk m c 1
  t) (iblk m c 2 t) (iblk m c 3 t) (iblk m c 4 t) (iblk m c 5 t) (iblk m c 6 t) (iblk m c 7 t) p.2.2.2.2.2.1
  p.2.2.2.2.2.2.1 p.2.2.2.2.2.2.2.1 p.2.2.2.2.2.2.2.2.1 p.2.2.2.2.2.2.2.2.2 (V m c main_v53) (V m c main_v56) (V m c
  main_v58)

/-- What it leaves. -/
def leftNext (c : Dev nD) (t : Fin cfg0.N) (h : ¬t.val % 32 = 0) (k : ¬t.val % 8 = 0) (p : Left F) : Left F :=
  (VO0_8.read (Elt F) (VO0_8.writes (Elt F) VO0_8.junk (runNext m c t h k p).1),
    VO0_9.read (Elt F) (VO0_9.writes (Elt F) VO0_9.junk (runNext m c t h k p).2.1),
    VO0_10.read (Elt F) (VO0_10.writes (Elt F) VO0_10.junk (runNext m c t h k p).2.2.1),
    VO0_11.read (Elt F) (VO0_11.writes (Elt F) VO0_11.junk (runNext m c t h k p).2.2.2.1),
    VO0_12.read (Elt F) (VO0_12.writes (Elt F) VO0_12.junk (runNext m c t h k p).2.2.2.2.1),
    (ms0_13 t).view.read (Elt F) ((ms0_13 t).view.writes (Elt F) ((hs0_13 t).unread p.2.2.2.2.2.1) (runNext m c t h k p).2.2.2.2.2.1),
    (ms0_14 t).view.read (Elt F) ((ms0_14 t).view.writes (Elt F) ((hs0_14 t).unread p.2.2.2.2.2.2.1) (runNext m c t h k p).2.2.2.2.2.2.1),
    p.2.2.2.2.2.2.2.1,
    p.2.2.2.2.2.2.2.2.1,
    p.2.2.2.2.2.2.2.2.2)

/-- What the launch's point `n` leaves. -/
def leftAt (c : Dev nD) : (n : ℕ) → n < cfg0.N → Left F
  | 0, hn => leftFirst m c ⟨0, hn⟩ (Nat.zero_mod _)
  | n + 1, hn =>
    if h : (n + 1) % 32 = 0 then leftFirst m c ⟨n + 1, hn⟩ h
    else if k : (n + 1) % 8 = 0 then leftRow m c ⟨n + 1, hn⟩ h k (leftAt c n (Nat.lt_of_succ_lt hn))
    else leftNext m c ⟨n + 1, hn⟩ h k (leftAt c n (Nat.lt_of_succ_lt hn))

/-- What the point before `t` leaves. -/
abbrev leftBefore (c : Dev nD) (t : Fin cfg0.N) : Left F :=
  leftAt m c (t.val - 1) (Nat.lt_of_le_of_lt (Nat.sub_le _ _) t.isLt)

theorem leftAt_first (c : Dev nD) (t : Fin cfg0.N) (h : t.val % 32 = 0) :
    leftAt m c t.val t.isLt = leftFirst m c t h := by
  obtain ⟨n, hn⟩ := t
  cases n with
  | zero => rfl
  | succ n => exact dif_pos h

theorem leftAt_row (c : Dev nD) (t : Fin cfg0.N) (h : ¬t.val % 32 = 0) (k : t.val % 8 = 0) :
    leftAt m c t.val t.isLt = leftRow m c t h k (leftBefore m c t) := by
  obtain ⟨n, hn⟩ := t
  cases n with
  | zero => exact absurd (Nat.zero_mod _) h
  | succ n => exact (dif_neg h).trans (dif_pos k)

theorem leftAt_next (c : Dev nD) (t : Fin cfg0.N) (h : ¬t.val % 32 = 0) (k : ¬t.val % 8 = 0) :
    leftAt m c t.val t.isLt = leftNext m c t h k (leftBefore m c t) := by
  obtain ⟨n, hn⟩ := t
  cases n with
  | zero => exact absurd (Nat.zero_mod _) h
  | succ n => exact (dif_neg h).trans (dif_neg k)

/-! ## The stores of a point cover its blocks -/

theorem coversFirst8 (c : Dev nD) (t : Fin cfg0.N) (h : t.val % 32 = 0) (y : S11x256x256.Idx) :
    ∃ q ∈ (runFirst m c t h).1, y ∈ q.1.set :=
  View.cover_of_tiledL (runFirst m c t h).1 S1x256x256.size (by sl_kernel_rfl) y

theorem coversFirst9 (c : Dev nD) (t : Fin cfg0.N) (h : t.val % 32 = 0) (y : S11x256x256.Idx) :
    ∃ q ∈ (runFirst m c t h).2.1, y ∈ q.1.set :=
  View.cover_of_tiledL (runFirst m c t h).2.1 S1x256x256.size (by sl_kernel_rfl) y

theorem coversFirst10 (c : Dev nD) (t : Fin cfg0.N) (h : t.val % 32 = 0) (y : S11x256x256.Idx) :
    ∃ q ∈ (runFirst m c t h).2.2.1, y ∈ q.1.set :=
  View.cover_of_tiledL (runFirst m c t h).2.2.1 S1x256x256.size (by sl_kernel_rfl) y

theorem coversFirst11 (c : Dev nD) (t : Fin cfg0.N) (h : t.val % 32 = 0) (y : S256x1024.Idx) :
    ∃ q ∈ (runFirst m c t h).2.2.2.1, y ∈ q.1.set :=
  View.cover_of_tiledL (runFirst m c t h).2.2.2.1 S256x1024.size (by sl_kernel_rfl) y

theorem coversFirst12 (c : Dev nD) (t : Fin cfg0.N) (h : t.val % 32 = 0) (y : S256x1024.Idx) :
    ∃ q ∈ (runFirst m c t h).2.2.2.2.1, y ∈ q.1.set :=
  View.cover_of_tiledL (runFirst m c t h).2.2.2.2.1 S256x1024.size (by sl_kernel_rfl) y

theorem coversFirst13 (c : Dev nD) (t : Fin cfg0.N) (h : t.val % 32 = 0) (y : S8x1024.Idx) :
    ∃ q ∈ (runFirst m c t h).2.2.2.2.2.1, y ∈ q.1.set :=
  View.cover_of_tiledBy (runFirst m c t h).2.2.2.2.2.1 ![1, 1024] (by sl_kernel_rfl) y

theorem coversFirst14 (c : Dev nD) (t : Fin cfg0.N) (h : t.val % 32 = 0) (y : S1x8x1024.Idx) :
    ∃ q ∈ (runFirst m c t h).2.2.2.2.2.2.1, y ∈ q.1.set :=
  View.cover_of_tiledBy (runFirst m c t h).2.2.2.2.2.2.1 ![1, 1, 1024] (by sl_kernel_rfl) y

theorem coversScratch0 (c : Dev nD) (t : Fin cfg0.N) (h : t.val % 32 = 0) (y : S2816x1024.Idx) :
    ∃ q ∈ (runFirst m c t h).2.2.2.2.2.2.2.1, y ∈ q.1.set :=
  View.cover_of_tiledL (runFirst m c t h).2.2.2.2.2.2.2.1 S2816x1024.size (by sl_kernel_rfl) y

theorem coversScratch1 (c : Dev nD) (t : Fin cfg0.N) (h : t.val % 32 = 0) (y : S2816x1024.Idx) :
    ∃ q ∈ (runFirst m c t h).2.2.2.2.2.2.2.2.1, y ∈ q.1.set :=
  View.cover_of_tiledL (runFirst m c t h).2.2.2.2.2.2.2.2.1 S2816x1024.size (by sl_kernel_rfl) y

theorem coversScratch2 (c : Dev nD) (t : Fin cfg0.N) (h : t.val % 32 = 0) (y : S2816x1024.Idx) :
    ∃ q ∈ (runFirst m c t h).2.2.2.2.2.2.2.2.2.1, y ∈ q.1.set :=
  View.cover_of_tiledL (runFirst m c t h).2.2.2.2.2.2.2.2.2.1 S2816x1024.size (by sl_kernel_rfl) y

theorem coversRow8 (c : Dev nD) (t : Fin cfg0.N) (h : ¬t.val % 32 = 0) (k : t.val % 8 = 0) (p : Left F) (y : S11x256x256.Idx) :
    ∃ q ∈ (runRow m c t h k p).1, y ∈ q.1.set :=
  View.cover_of_tiledL (runRow m c t h k p).1 S1x256x256.size (by sl_kernel_rfl) y

theorem coversRow9 (c : Dev nD) (t : Fin cfg0.N) (h : ¬t.val % 32 = 0) (k : t.val % 8 = 0) (p : Left F) (y : S11x256x256.Idx) :
    ∃ q ∈ (runRow m c t h k p).2.1, y ∈ q.1.set :=
  View.cover_of_tiledL (runRow m c t h k p).2.1 S1x256x256.size (by sl_kernel_rfl) y

theorem coversRow10 (c : Dev nD) (t : Fin cfg0.N) (h : ¬t.val % 32 = 0) (k : t.val % 8 = 0) (p : Left F) (y : S11x256x256.Idx) :
    ∃ q ∈ (runRow m c t h k p).2.2.1, y ∈ q.1.set :=
  View.cover_of_tiledL (runRow m c t h k p).2.2.1 S1x256x256.size (by sl_kernel_rfl) y

theorem coversRow11 (c : Dev nD) (t : Fin cfg0.N) (h : ¬t.val % 32 = 0) (k : t.val % 8 = 0) (p : Left F) (y : S256x1024.Idx) :
    ∃ q ∈ (runRow m c t h k p).2.2.2.1, y ∈ q.1.set :=
  View.cover_of_tiledL (runRow m c t h k p).2.2.2.1 S256x1024.size (by sl_kernel_rfl) y

theorem coversRow12 (c : Dev nD) (t : Fin cfg0.N) (h : ¬t.val % 32 = 0) (k : t.val % 8 = 0) (p : Left F) (y : S256x1024.Idx) :
    ∃ q ∈ (runRow m c t h k p).2.2.2.2.1, y ∈ q.1.set :=
  View.cover_of_tiledL (runRow m c t h k p).2.2.2.2.1 S256x1024.size (by sl_kernel_rfl) y

theorem coversRow14 (c : Dev nD) (t : Fin cfg0.N) (h : ¬t.val % 32 = 0) (k : t.val % 8 = 0) (p : Left F) (y : S1x8x1024.Idx) :
    ∃ q ∈ (runRow m c t h k p).2.2.2.2.2.2.1, y ∈ q.1.set :=
  View.cover_of_tiledBy (runRow m c t h k p).2.2.2.2.2.2.1 ![1, 1, 1024] (by sl_kernel_rfl) y

theorem coversNext8 (c : Dev nD) (t : Fin cfg0.N) (h : ¬t.val % 32 = 0) (k : ¬t.val % 8 = 0) (p : Left F) (y : S11x256x256.Idx) :
    ∃ q ∈ (runNext m c t h k p).1, y ∈ q.1.set :=
  View.cover_of_tiledL (runNext m c t h k p).1 S1x256x256.size (by sl_kernel_rfl) y

theorem coversNext9 (c : Dev nD) (t : Fin cfg0.N) (h : ¬t.val % 32 = 0) (k : ¬t.val % 8 = 0) (p : Left F) (y : S11x256x256.Idx) :
    ∃ q ∈ (runNext m c t h k p).2.1, y ∈ q.1.set :=
  View.cover_of_tiledL (runNext m c t h k p).2.1 S1x256x256.size (by sl_kernel_rfl) y

theorem coversNext10 (c : Dev nD) (t : Fin cfg0.N) (h : ¬t.val % 32 = 0) (k : ¬t.val % 8 = 0) (p : Left F) (y : S11x256x256.Idx) :
    ∃ q ∈ (runNext m c t h k p).2.2.1, y ∈ q.1.set :=
  View.cover_of_tiledL (runNext m c t h k p).2.2.1 S1x256x256.size (by sl_kernel_rfl) y

theorem coversNext11 (c : Dev nD) (t : Fin cfg0.N) (h : ¬t.val % 32 = 0) (k : ¬t.val % 8 = 0) (p : Left F) (y : S256x1024.Idx) :
    ∃ q ∈ (runNext m c t h k p).2.2.2.1, y ∈ q.1.set :=
  View.cover_of_tiledL (runNext m c t h k p).2.2.2.1 S256x1024.size (by sl_kernel_rfl) y

theorem coversNext12 (c : Dev nD) (t : Fin cfg0.N) (h : ¬t.val % 32 = 0) (k : ¬t.val % 8 = 0) (p : Left F) (y : S256x1024.Idx) :
    ∃ q ∈ (runNext m c t h k p).2.2.2.2.1, y ∈ q.1.set :=
  View.cover_of_tiledL (runNext m c t h k p).2.2.2.2.1 S256x1024.size (by sl_kernel_rfl) y

/-! ## The launch's data -/

/-- The state between two points: the weight matrices in scratch, the generator's register, the copies' semaphores at
    zero and the weight matrices' arrays. -/
def between (c : Dev nD) (s : Left F) : sProp 𝕄 :=
  iprop(iprop(owns (c : Thread nD τ) scM0_0 fullShare s.2.2.2.2.2.2.2.1
      ∗ owns (c : Thread nD τ) scM0_1 fullShare s.2.2.2.2.2.2.2.2.1
      ∗ owns (c : Thread nD τ) scM0_2 fullShare s.2.2.2.2.2.2.2.2.2)
    ∗ (∃ r, prngReg c r)
    ∗ iprop(semVal ((c : Thread nD τ), SemLoc.dma 28) 0 ∗ semVal ((c : Thread nD τ), SemLoc.dma 29) 0
      ∗ semVal ((c : Thread nD τ), SemLoc.dma 30) 0)
    ∗ iprop(hbPt0 c hbM0_0 (V m c main_v53) ∗ hbPt0 c hbM0_1 (V m c main_v56) ∗ hbPt0 c hbM0_2 (V m c main_v58)))

/-- The invariant before point `n`: at first what the launch hands over, then what the point before left. -/
def inv (c : Dev nD) : (n : ℕ) → n ≤ cfg0.N → sProp 𝕄
  | 0, _ => Pipeline.ΦD osem0 spec0 H0 (V m) c
  | n + 1, hn => between m c (leftAt m c n hn)

theorem inv_pos (c : Dev nD) (n : ℕ) (h : n ≤ cfg0.N) (hz : n ≠ 0) :
    inv m c n h = between m c (leftAt m c (n - 1) (by omega)) := by
  cases n with
  | zero => exact absurd rfl hz
  | succ n => rfl

/-- The launch's data: the arrays as the region finds them, what every point leaves, the invariant. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => (leftAt m c t.val t.isLt).1
    | ⟨9, _⟩ => (leftAt m c t.val t.isLt).2.1
    | ⟨10, _⟩ => (leftAt m c t.val t.isLt).2.2.1
    | ⟨11, _⟩ => (leftAt m c t.val t.isLt).2.2.2.1
    | ⟨12, _⟩ => (leftAt m c t.val t.isLt).2.2.2.2.1
    | ⟨13, _⟩ => (leftAt m c t.val t.isLt).2.2.2.2.2.1
    | ⟨14, _⟩ => (leftAt m c t.val t.isLt).2.2.2.2.2.2.1
  Φ t := inv m c t.val (Nat.le_of_lt_succ t.isLt)
  q _ := fullShare
  owed _ := 0

theorem A_eq (c : Dev nD) (w : Fin cfg0.W) : (dats m 0 c).A w = V m c (Pipeline.arrRef spec0 w) := by
  dsimp only [dats]

theorem inv_castSucc (c : Dev nD) (t : Fin cfg0.N) :
    (dats m 0 c).Φ t.castSucc = inv m c t.val (Nat.le_of_lt t.isLt) := by
  dsimp only [dats]; exact Pipeline.Dat.Φ_castSucc (inv m c) t

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = (leftAt m c t.val t.isLt).1 := by
  dsimp only [dats]
theorem after9 (c : Dev nD) (t : Fin cfg0.N) : (dats m 0 c).after 9 t = (leftAt m c t.val t.isLt).2.1 := by
  dsimp only [dats]
theorem after10 (c : Dev nD) (t : Fin cfg0.N) : (dats m 0 c).after 10 t = (leftAt m c t.val t.isLt).2.2.1 := by
  dsimp only [dats]
theorem after11 (c : Dev nD) (t : Fin cfg0.N) : (dats m 0 c).after 11 t = (leftAt m c t.val t.isLt).2.2.2.1 := by
  dsimp only [dats]
theorem after12 (c : Dev nD) (t : Fin cfg0.N) : (dats m 0 c).after 12 t = (leftAt m c t.val t.isLt).2.2.2.2.1 := by
  dsimp only [dats]
theorem after13 (c : Dev nD) (t : Fin cfg0.N) : (dats m 0 c).after 13 t = (leftAt m c t.val t.isLt).2.2.2.2.2.1 := by
  dsimp only [dats]
theorem after14 (c : Dev nD) (t : Fin cfg0.N) : (dats m 0 c).after 14 t = (leftAt m c t.val t.isLt).2.2.2.2.2.2.1 := by
  dsimp only [dats]

/-! An input's buffer holds its block at every point. -/

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d
theorem before6 (c : Dev nD) (t : Fin cfg0.N) (d) : (dats m 0 c).before 6 t d = iblk m c 6 t :=
  before0_6_of m (dats m 0 c) (A_eq m c 6) (after6 m c) t d
theorem before7 (c : Dev nD) (t : Fin cfg0.N) (d) : (dats m 0 c).before 7 t d = iblk m c 7 t :=
  before0_7_of m (dats m 0 c) (A_eq m c 7) (after7 m c) t d

/-- The gradient of the norm's scale is still in its buffer at every point but the first. -/
theorem before13 (c : Dev nD) (t : Fin cfg0.N) (h : ¬t.val % 32 = 0) (d) :
    (dats m 0 c).before 13 t d = (leftBefore m c t).2.2.2.2.2.1 := by
  have hN : t.val < 32 := lt_of_lt_of_eq t.isLt (show cfg0.N = 32 from N_0)
  rw [Dat.before_out_kept _ 13 rfl t (by omega)
    (Bool.eq_false_iff.mpr fun e => by have := (flush0_13 _).mp e; dsimp only at this; omega) (fun _ => rfl) (fun _ _ => rfl)]
  dsimp only [dats]

/-- The gradients of the modulation row are still in their buffer within a sequence. -/
theorem before14 (c : Dev nD) (t : Fin cfg0.N) (k : ¬t.val % 8 = 0) (d) :
    (dats m 0 c).before 14 t d = (leftBefore m c t).2.2.2.2.2.2.1 := by
  have hN : t.val < 32 := lt_of_lt_of_eq t.isLt (show cfg0.N = 32 from N_0)
  rw [Dat.before_out_kept _ 14 rfl t (by omega)
    (Bool.eq_false_iff.mpr fun e => by have := (flush0_14 _).mp e; dsimp only at this; omega) (fun _ => rfl) (fun _ _ => rfl)]
  dsimp only [dats]

/-! ## The body at a point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t))

set_option maxHeartbeats 9600000 in
/-- The body at the first point: the scratch comes at anything and is left at the weight matrices. -/
theorem sound_first (c : Dev nD) (t : Fin cfg0.N) (h : t.val % 32 = 0) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7]
  rw [show (dats m 0 c).Φ t.succ = between m c (leftAt m c t.val t.isLt) from rfl, after0, after1, after2, after3,
    after4, after5, after6, after7, after8, after9, after10, after11, after12, after13, after14]
  unfold Dat.owesAt Pipeline.owesWithin
  rw [show (dats m 0 c).owed t.castSucc = 0 from rfl, show (dats m 0 c).owed t.succ = 0 from rfl]
  have hN : t.val < 32 := lt_of_lt_of_eq t.isLt (show cfg0.N = 32 from N_0)
  rw [inv_castSucc, show inv m c t.val _ = Pipeline.ΦD osem0 spec0 H0 (V m) c by
    have hz : t.val = 0 := by omega
    revert hN; generalize Nat.le_of_lt t.isLt = hle; revert hle; rw [hz]; intros; rfl, PhiD0_eq]
  rw [leftAt_first m c t h]; unfold between leftFirst; dsimp only
  iintro ⟨⟨⟨HS0, HS1, HS2⟩, Hg, ⟨Hq0, Hq1, Hq2⟩, ⟨Hh0, Hh1, Hh2⟩⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  iapply ((runFirst m c t h).2.2.2.2.2.2.2.2.2.2 W _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexists _; iexact H10
  isplitl [H11]; · iexists _; iexact H11
  isplitl [H12]; · iexists _; iexact H12
  isplitl [H13]; · iexists _; iexact H13
  isplitl [H14]; · iexists _; iexact H14
  isplitl [HS0]; · iexact HS0
  isplitl [HS1]; · iexact HS1
  isplitl [HS2]; · iexact HS2
  isplitl [Hq0]; · iexact Hq0
  isplitl [Hq1]; · iexact Hq1
  isplitl [Hq2]; · iexact Hq2
  isplitl [Hh0]; · iexact Hh0
  isplitl [Hh1]; · iexact Hh1
  isplitl [Hh2]; · iexact Hh2
  isplitl [HW]; · iexact HW
  iintro ⟨H0, H1, H2, H3, H4, H5, H6, H7, ⟨%e8, H8⟩, ⟨%e9, H9⟩, ⟨%e10, H10⟩, ⟨%e11, H11⟩, ⟨%e12, H12⟩, ⟨%e13, H13⟩, ⟨%e14, H14⟩, ⟨%es0, HS0⟩, ⟨%es1, HS1⟩, ⟨%es2, HS2⟩, Hq0, Hq1, Hq2, Hh0, Hh1, Hh2, ⟨%W', HW'⟩⟩
  isplitl [HS0 HS1 HS2 Hg Hq0 Hq1 Hq2 Hh0 Hh1 Hh2]
  · isplitl [HS0 HS1 HS2]
    · isplitl [HS0]
      · unfold owns; iexists _; isplitr
        swap; · iexact HS0
        ipureintro; exact View.read_writes_of_cover _ _ _ _ _ (coversScratch0 m c t h)
      isplitl [HS1]
      · unfold owns; iexists _; isplitr
        swap; · iexact HS1
        ipureintro; exact View.read_writes_of_cover _ _ _ _ _ (coversScratch1 m c t h)
      unfold owns; iexists _; isplitr
      swap; · iexact HS2
      ipureintro; exact View.read_writes_of_cover _ _ _ _ _ (coversScratch2 m c t h)
    isplitl [Hg]; · iexact Hg
    isplitl [Hq0 Hq1 Hq2]
    · isplitl [Hq0]; · iexact Hq0
      isplitl [Hq1]; · iexact Hq1
      iexact Hq2
    isplitl [Hh0]; · iexact Hh0
    isplitl [Hh1]; · iexact Hh1
    iexact Hh2
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]
  · unfold owns; iexists _; isplitr
    swap; · iexact H8
    ipureintro; exact View.read_writes_of_cover _ _ _ _ _ (coversFirst8 m c t h)
  isplitl [H9]
  · unfold owns; iexists _; isplitr
    swap; · iexact H9
    ipureintro; exact View.read_writes_of_cover _ _ _ _ _ (coversFirst9 m c t h)
  isplitl [H10]
  · unfold owns; iexists _; isplitr
    swap; · iexact H10
    ipureintro; exact View.read_writes_of_cover _ _ _ _ _ (coversFirst10 m c t h)
  isplitl [H11]
  · unfold owns; iexists _; isplitr
    swap; · iexact H11
    ipureintro; exact View.read_writes_of_cover _ _ _ _ _ (coversFirst11 m c t h)
  isplitl [H12]
  · unfold owns; iexists _; isplitr
    swap; · iexact H12
    ipureintro; exact View.read_writes_of_cover _ _ _ _ _ (coversFirst12 m c t h)
  isplitl [H13]
  · unfold owns; iexists _; isplitr
    swap; · iexact H13
    ipureintro; exact View.read_writes_of_cover _ _ _ _ _ (coversFirst13 m c t h)
  unfold owns; iexists _; isplitr
  swap; · iexact H14
  ipureintro; exact View.read_writes_of_cover _ _ _ _ _ (coversFirst14 m c t h)

set_option maxHeartbeats 9600000 in
/-- The body at the first point of a later sequence: the modulation row's gradients start afresh. -/
theorem sound_row (c : Dev nD) (t : Fin cfg0.N) (h : ¬t.val % 32 = 0) (k : t.val % 8 = 0) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7]
  rw [show (dats m 0 c).Φ t.succ = between m c (leftAt m c t.val t.isLt) from rfl, after0, after1, after2, after3,
    after4, after5, after6, after7, after8, after9, after10, after11, after12, after13, after14]
  unfold Dat.owesAt Pipeline.owesWithin
  rw [show (dats m 0 c).owed t.castSucc = 0 from rfl, show (dats m 0 c).owed t.succ = 0 from rfl]
  have hN : t.val < 32 := lt_of_lt_of_eq t.isLt (show cfg0.N = 32 from N_0)
  rw [inv_castSucc, inv_pos m c _ _ (by omega)]
  rw [leftAt_row m c t h k]; simp only [before13 m c t h]; unfold between leftRow; dsimp only
  iintro ⟨⟨⟨HS0, HS1, HS2⟩, Hg, ⟨Hq0, Hq1, Hq2⟩, ⟨Hh0, Hh1, Hh2⟩⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  iapply ((runRow m c t h k (leftBefore m c t)).2.2.2.2.2.2.2.2.2.2 W _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexists _; iexact H10
  isplitl [H11]; · iexists _; iexact H11
  isplitl [H12]; · iexists _; iexact H12
  isplitl [H13]; · iexact H13
  isplitl [H14]; · iexists _; iexact H14
  isplitl [HS0]; · iexact HS0
  isplitl [HS1]; · iexact HS1
  isplitl [HS2]; · iexact HS2
  isplitl [Hq0]; · iexact Hq0
  isplitl [Hq1]; · iexact Hq1
  isplitl [Hq2]; · iexact Hq2
  isplitl [Hh0]; · iexact Hh0
  isplitl [Hh1]; · iexact Hh1
  isplitl [Hh2]; · iexact Hh2
  isplitl [HW]; · iexact HW
  iintro ⟨H0, H1, H2, H3, H4, H5, H6, H7, ⟨%e8, H8⟩, ⟨%e9, H9⟩, ⟨%e10, H10⟩, ⟨%e11, H11⟩, ⟨%e12, H12⟩, H13, ⟨%e14, H14⟩, HS0, HS1, HS2, Hq0, Hq1, Hq2, Hh0, Hh1, Hh2, ⟨%W', HW'⟩⟩
  isplitl [HS0 HS1 HS2 Hg Hq0 Hq1 Hq2 Hh0 Hh1 Hh2]
  · isplitl [HS0 HS1 HS2]
    · isplitl [HS0]; · iexact HS0
      isplitl [HS1]; · iexact HS1
      iexact HS2
    isplitl [Hg]; · iexact Hg
    isplitl [Hq0 Hq1 Hq2]
    · isplitl [Hq0]; · iexact Hq0
      isplitl [Hq1]; · iexact Hq1
      iexact Hq2
    isplitl [Hh0]; · iexact Hh0
    isplitl [Hh1]; · iexact Hh1
    iexact Hh2
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]
  · unfold owns; iexists _; isplitr
    swap; · iexact H8
    ipureintro; exact View.read_writes_of_cover _ _ _ _ _ (coversRow8 m c t h k _)
  isplitl [H9]
  · unfold owns; iexists _; isplitr
    swap; · iexact H9
    ipureintro; exact View.read_writes_of_cover _ _ _ _ _ (coversRow9 m c t h k _)
  isplitl [H10]
  · unfold owns; iexists _; isplitr
    swap; · iexact H10
    ipureintro; exact View.read_writes_of_cover _ _ _ _ _ (coversRow10 m c t h k _)
  isplitl [H11]
  · unfold owns; iexists _; isplitr
    swap; · iexact H11
    ipureintro; exact View.read_writes_of_cover _ _ _ _ _ (coversRow11 m c t h k _)
  isplitl [H12]
  · unfold owns; iexists _; isplitr
    swap; · iexact H12
    ipureintro; exact View.read_writes_of_cover _ _ _ _ _ (coversRow12 m c t h k _)
  isplitl [H13]
  · unfold owns; iexists _; isplitr
    swap; · iexact H13
    ipureintro; rfl
  unfold owns; iexists _; isplitr
  swap; · iexact H14
  ipureintro; exact View.read_writes_of_cover _ _ _ _ _ (coversRow14 m c t h k _)

set_option maxHeartbeats 9600000 in
/-- The body at every other point: both running sums go on. -/
theorem sound_next (c : Dev nD) (t : Fin cfg0.N) (h : ¬t.val % 32 = 0) (k : ¬t.val % 8 = 0) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7]
  rw [show (dats m 0 c).Φ t.succ = between m c (leftAt m c t.val t.isLt) from rfl, after0, after1, after2, after3,
    after4, after5, after6, after7, after8, after9, after10, after11, after12, after13, after14]
  unfold Dat.owesAt Pipeline.owesWithin
  rw [show (dats m 0 c).owed t.castSucc = 0 from rfl, show (dats m 0 c).owed t.succ = 0 from rfl]
  have hN : t.val < 32 := lt_of_lt_of_eq t.isLt (show cfg0.N = 32 from N_0)
  rw [inv_castSucc, inv_pos m c _ _ (by omega)]
  rw [leftAt_next m c t h k]; simp only [before13 m c t h, before14 m c t k]; unfold between leftNext; dsimp only
  iintro ⟨⟨⟨HS0, HS1, HS2⟩, Hg, ⟨Hq0, Hq1, Hq2⟩, ⟨Hh0, Hh1, Hh2⟩⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  iapply ((runNext m c t h k (leftBefore m c t)).2.2.2.2.2.2.2.2.2.2 W _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexists _; iexact H10
  isplitl [H11]; · iexists _; iexact H11
  isplitl [H12]; · iexists _; iexact H12
  isplitl [H13]; · iexact H13
  isplitl [H14]; · iexact H14
  isplitl [HS0]; · iexact HS0
  isplitl [HS1]; · iexact HS1
  isplitl [HS2]; · iexact HS2
  isplitl [Hq0]; · iexact Hq0
  isplitl [Hq1]; · iexact Hq1
  isplitl [Hq2]; · iexact Hq2
  isplitl [Hh0]; · iexact Hh0
  isplitl [Hh1]; · iexact Hh1
  isplitl [Hh2]; · iexact Hh2
  isplitl [HW]; · iexact HW
  iintro ⟨H0, H1, H2, H3, H4, H5, H6, H7, ⟨%e8, H8⟩, ⟨%e9, H9⟩, ⟨%e10, H10⟩, ⟨%e11, H11⟩, ⟨%e12, H12⟩, H13, H14, HS0, HS1, HS2, Hq0, Hq1, Hq2, Hh0, Hh1, Hh2, ⟨%W', HW'⟩⟩
  isplitl [HS0 HS1 HS2 Hg Hq0 Hq1 Hq2 Hh0 Hh1 Hh2]
  · isplitl [HS0 HS1 HS2]
    · isplitl [HS0]; · iexact HS0
      isplitl [HS1]; · iexact HS1
      iexact HS2
    isplitl [Hg]; · iexact Hg
    isplitl [Hq0 Hq1 Hq2]
    · isplitl [Hq0]; · iexact Hq0
      isplitl [Hq1]; · iexact Hq1
      iexact Hq2
    isplitl [Hh0]; · iexact Hh0
    isplitl [Hh1]; · iexact Hh1
    iexact Hh2
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]
  · unfold owns; iexists _; isplitr
    swap; · iexact H8
    ipureintro; exact View.read_writes_of_cover _ _ _ _ _ (coversNext8 m c t h k _)
  isplitl [H9]
  · unfold owns; iexists _; isplitr
    swap; · iexact H9
    ipureintro; exact View.read_writes_of_cover _ _ _ _ _ (coversNext9 m c t h k _)
  isplitl [H10]
  · unfold owns; iexists _; isplitr
    swap; · iexact H10
    ipureintro; exact View.read_writes_of_cover _ _ _ _ _ (coversNext10 m c t h k _)
  isplitl [H11]
  · unfold owns; iexists _; isplitr
    swap; · iexact H11
    ipureintro; exact View.read_writes_of_cover _ _ _ _ _ (coversNext11 m c t h k _)
  isplitl [H12]
  · unfold owns; iexists _; isplitr
    swap; · iexact H12
    ipureintro; exact View.read_writes_of_cover _ _ _ _ _ (coversNext12 m c t h k _)
  isplitl [H13]
  · unfold owns; iexists _; isplitr
    swap; · iexact H13
    ipureintro; rfl
  unfold owns; iexists _; isplitr
  swap; · iexact H14
  ipureintro; rfl

/-- The body at every point. -/
theorem sound (c : Dev nD) (t : Fin cfg0.N) :
    bodyPre m c t ⊢ wp frame (wpE (defs₀ (F := F)) Variants.none c none) Set.univ (bodyAt0 t) (fun _ => bodyPost m c t) :=
  if h : t.val % 32 = 0 then sound_first m c t h
  else if k : t.val % 8 = 0 then sound_row m c t h k else sound_next m c t h k

theorem body_row (t : Fin cfg0.N) : defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ := fun t => by
  rw [bigSep_W0, bigSep_W0, body_row]
  exact triple_restated (sound m c t) rfl .rfl fun _ => .rfl

/-! ## The launch -/

theorem inv_in (c : Dev nD) : Pipeline.ΦD osem0 spec0 H0 (V m) c ⊢ (dats m 0 c).Φ 0 := by
  rw [show (dats m 0 c).Φ 0 = Pipeline.ΦD osem0 spec0 H0 (V m) c from rfl]
  try exact Idealize.SL.BI.Entails.refl _

theorem inv_out (c : Dev nD) : (dats m 0 c).Φ (Fin.last cfg0.N) ⊢ Pipeline.ΦD osem0 spec0 H0 (V m) c := by
  rw [show (dats m 0 c).Φ (Fin.last cfg0.N) = inv m c (Fin.last cfg0.N).val (Nat.le_of_lt_succ (Fin.last cfg0.N).isLt) from rfl,
    inv_pos m c _ _ (by rw [Fin.val_last]; have : cfg0.N = 32 := N_0; omega), PhiD0_eq]
  unfold between
  iintro ⟨⟨HS0, HS1, HS2⟩, Hg, ⟨Hq0, Hq1, Hq2⟩, ⟨Hh0, Hh1, Hh2⟩⟩
  isplitl [HS0 HS1 HS2]
  · isplitl [HS0]; · iexists _; iexact HS0
    isplitl [HS1]; · iexists _; iexact HS1
    iexists _; iexact HS2
  isplitl [Hg]; · iexact Hg
  isplitl [Hq0 Hq1 Hq2]
  · isplitl [Hq0]; · iexact Hq0
    isplitl [Hq1]; · iexact Hq1
    iexact Hq2
  isplitl [Hh0]; · iexact Hh0
  isplitl [Hh1]; · iexact Hh1
  iexact Hh2

set_option backward.isDefEq.respectTransparency.types false in
/-- The launch ends with every array at what the points leave, and every semaphore at zero. -/
theorem launched : θ_run defs (onTc (τ := τ) (main (F := F))) (s₀ m ρ)
    (fun r => Pipeline.FramePost cfgs (dats m) 0 (V m) r ∧ r.2.sem = fun _ => 0) :=
  Pipeline.θ_run_frame_dma (Q' := _) cfgs (dats m) (0 : Fin 1) launch0 osem0 defs₀ Variants.none ownSemFacts0 H0 H0_sub m ρ main
    (hbody := fun c => (obligation m c).loose) (hshare := fun c => (dats m 0 c).share_full fun _ => rfl)
    (howed := fun _ _ => rfl) (V := V m) (hmain := hmain m Variants.none) (hA := A_eq m)
    (hin := inv_in m) (hout := inv_out m)

/-- The eight arguments end unchanged, and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (frame_of m ρ (dats m) (A_eq m) ((θ_run defs _ _).mono (fun _ h => h.1) (launched m ρ)))
    ((θ_run defs _ _).mono (fun _ h => h.2) (launched m ρ))

/-- The seven results end at what the points leave. -/
theorem results : θ_run defs (onTc (τ := τ) (main (F := F))) ⟨m, fun _ => 0, ρ⟩ (fun r => ∀ c : Dev nD,
      r.2.mem ((c.tc : Thread nD τ).loc main_v63_0) = (dats m 0 c).arrAt 8 cfg0.N
      ∧ r.2.mem ((c.tc : Thread nD τ).loc main_v63_1) = (dats m 0 c).arrAt 9 cfg0.N
      ∧ r.2.mem ((c.tc : Thread nD τ).loc main_v63_2) = (dats m 0 c).arrAt 10 cfg0.N
      ∧ r.2.mem ((c.tc : Thread nD τ).loc main_v63_3) = (dats m 0 c).arrAt 11 cfg0.N
      ∧ r.2.mem ((c.tc : Thread nD τ).loc main_v63_4) = (dats m 0 c).arrAt 12 cfg0.N
      ∧ r.2.mem ((c.tc : Thread nD τ).loc main_v63_5) = (dats m 0 c).arrAt 13 cfg0.N
      ∧ r.2.mem ((c.tc : Thread nD τ).loc main_v63_6) = (dats m 0 c).arrAt 14 cfg0.N) :=
  (θ_run defs _ _).mono (fun _ h c => ⟨(h.1 c).1 8, (h.1 c).1 9, (h.1 c).1 10, (h.1 c).1 11, (h.1 c).1 12, (h.1 c).1 13, (h.1 c).1 14⟩) (launched m ρ)

/-- The launch ends with the results at what the points leave and the arguments unchanged. -/
theorem run_blocks : θ_run defs (onTc (τ := τ) (main (F := F))) ⟨m, fun _ => 0, ρ⟩ (fun r => ∀ c : Dev nD,
      r.2.mem ((c.tc : Thread nD τ).loc main_v63_0) = (dats m 0 c).arrAt 8 cfg0.N
      ∧ r.2.mem ((c.tc : Thread nD τ).loc main_v63_1) = (dats m 0 c).arrAt 9 cfg0.N
      ∧ r.2.mem ((c.tc : Thread nD τ).loc main_v63_2) = (dats m 0 c).arrAt 10 cfg0.N
      ∧ r.2.mem ((c.tc : Thread nD τ).loc main_v63_3) = (dats m 0 c).arrAt 11 cfg0.N
      ∧ r.2.mem ((c.tc : Thread nD τ).loc main_v63_4) = (dats m 0 c).arrAt 12 cfg0.N
      ∧ r.2.mem ((c.tc : Thread nD τ).loc main_v63_5) = (dats m 0 c).arrAt 13 cfg0.N
      ∧ r.2.mem ((c.tc : Thread nD τ).loc main_v63_6) = (dats m 0 c).arrAt 14 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨(h.1 c).1, (h.1 c).2.1, (h.1 c).2.2.1, (h.1 c).2.2.2.1, (h.1 c).2.2.2.2.1, (h.1 c).2.2.2.2.2.1,
    (h.1 c).2.2.2.2.2.2, h.2.1 c⟩) (θ_run_and (results m ρ) (frame m ρ))

end Cert.FfnBwd.Frame

end
-- ==== Proof.FfnBwd.Bits.lean ====
/- The frame of the feed-forward block's gradient at the machine's own numbers: the kernel's text is the one whose run
   `Frame` states at any values. -/
module

public import proofs.«01_k».proof.Defs
public import proofs.«01_k».proof.Proof.Gen.Kernel5
public import proofs.«01_k».proof.Proof.FfnBwd.Frame

@[expose] public section

set_option maxRecDepth 16384

noncomputable section

namespace Cert.FfnBwd

open Idealize.ShloMosaic.Tactic Idealize.ShloMosaic Idealize.ShloMosaic.TcCoe Idealize.SL.Sem

/-- The same claim of the text `Frame` runs. -/
def Unchanged : Prop :=
  ∀ (m : (ℓ : Loc Cert.Kernel5Ideal.nD Cert.Kernel5Ideal.τ Cert.Kernel5Ideal.sig) → Buf (Elt Bits) ℓ) (g : Dev Cert.Kernel5Ideal.nD → PrngReg),
    Cert.Pre_Kernel5 m →
    θ_run (Cert.Kernel5Ideal.defs (F := Bits)) (onTc (τ := Cert.Kernel5Ideal.τ) (Cert.Kernel5Ideal.main (F := Bits))) ⟨m, fun _ => 0, g⟩ (fun r => (∀ c : Dev Cert.Kernel5Ideal.nD,
      r.2.mem ((c.tc : Thread Cert.Kernel5Ideal.nD Cert.Kernel5Ideal.τ).loc Cert.Kernel5Ideal.main_arg0)
          = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1)
          = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2)
          = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3)
          = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4)
          = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5)
          = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6)
          = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7)
          = m ((c.tc : Thread Cert.Kernel5Ideal.nD Cert.Kernel5Ideal.τ).loc Cert.Kernel5Ideal.main_arg7))
      ∧ r.2.sem = fun _ => 0)

/-- The two texts are one. -/
theorem same : Cert.quiescent_Kernel5 = Unchanged := by sl_kernel_rfl

theorem frame_bits : Cert.quiescent_Kernel5 := same.mpr fun m ρ _ => Frame.frame (F := Bits) m ρ

end Cert.FfnBwd

end
-- ==== Proof.FfnBwd.Spec.lean ====
/- The gradient through the gated feed-forward block, the modulation and the root mean square norm as real formulas: what the kernel and the
   reference both compute. -/
module

public import proofs.«01_k».proof.Proof.Grad

@[expose] public section

noncomputable section

namespace Cert.FfnBwd

open Cert.Grad Cert.Lift Idealize.ShloMosaic
open scoped BigOperators

/-- The arguments as real arrays: the layer's input `X`, the mixing part's output `MIX`, the modulation `M` in its six parts, the norm's gain
    `G`, the gate, up and down projections `WG`, `WU` and `WD`, and the gradient `DY` of the layer's output. -/
structure Data where
  X : Fin 4 → Fin 2048 → Fin 1024 → ℝ
  MIX : Fin 4 → Fin 2048 → Fin 1024 → ℝ
  M : Fin 4 → Fin 6144 → ℝ
  G : Fin 1024 → ℝ
  WG : Fin 1024 → Fin 2816 → ℝ
  WU : Fin 1024 → Fin 2816 → ℝ
  WD : Fin 2816 → Fin 1024 → ℝ
  DY : Fin 4 → Fin 2048 → Fin 1024 → ℝ

/-- The argument arrays hold these reals. -/
structure Holds (p : Data) (x0 x1 : FVec Ideal ⟨3, ![4, 2048, 1024]⟩ .f32) (x2 : FVec Ideal ⟨2, ![4, 6144]⟩ .f32)
    (x3 : FVec Ideal ⟨2, ![1, 1024]⟩ .f32) (x4 x5 : FVec Ideal ⟨3, ![1, 1024, 2816]⟩ .f32) (x6 : FVec Ideal ⟨3, ![1, 2816, 1024]⟩ .f32)
    (x7 : FVec Ideal ⟨3, ![4, 2048, 1024]⟩ .f32) : Prop where
  x : ∀ b s k, x0 (ix3 b s k) = ((p.X b s k : ℝ) : EReal)
  mix : ∀ b s k, x1 (ix3 b s k) = ((p.MIX b s k : ℝ) : EReal)
  m : ∀ b k, x2 (ix2 b k) = ((p.M b k : ℝ) : EReal)
  g : ∀ k : Fin 1024, x3 (ix2 0 k) = ((p.G k : ℝ) : EReal)
  wg : ∀ (a : Fin 1024) (k : Fin 2816), x4 (ix3 0 a k) = ((p.WG a k : ℝ) : EReal)
  wu : ∀ (a : Fin 1024) (k : Fin 2816), x5 (ix3 0 a k) = ((p.WU a k : ℝ) : EReal)
  wd : ∀ (k : Fin 2816) (a : Fin 1024), x6 (ix3 0 k a) = ((p.WD k a : ℝ) : EReal)
  dy : ∀ b s k, x7 (ix3 b s k) = ((p.DY b s k : ℝ) : EReal)

variable (p : Data)

/-- The modulation's parts: the gate of the mixing part, the shift and the scale of the norm, the gate of the feed-forward block. -/
def gm (b : Fin 4) (l : Fin 1024) : ℝ := p.M b ⟨2048 + l.val, by omega⟩
def sh (b : Fin 4) (l : Fin 1024) : ℝ := p.M b ⟨3072 + l.val, by omega⟩
def sc (b : Fin 4) (l : Fin 1024) : ℝ := p.M b ⟨4096 + l.val, by omega⟩
def gf (b : Fin 4) (l : Fin 1024) : ℝ := p.M b ⟨5120 + l.val, by omega⟩

/-- The residual stream after the mixing part. -/
def x1 (b : Fin 4) (s : Fin 2048) (l : Fin 1024) : ℝ := p.X b s l + gm p b l * p.MIX b s l

/-- The normalised and modulated input of the block. -/
def h (b : Fin 4) (s : Fin 2048) (l : Fin 1024) : ℝ := xr 1024 (x1 p b s) l * p.G l * (1 + sc p b l) + sh p b l

def gate (b : Fin 4) (s : Fin 2048) (k : Fin 2816) : ℝ := ∑ l, h p b s l * p.WG l k

def up (b : Fin 4) (s : Fin 2048) (k : Fin 2816) : ℝ := ∑ l, h p b s l * p.WU l k

/-- The gated activation. -/
def act (b : Fin 4) (s : Fin 2048) (k : Fin 2816) : ℝ := gate p b s k * sig (gate p b s k) * up p b s k

/-- The gradient of the block's output. -/
def df (b : Fin 4) (s : Fin 2048) (l : Fin 1024) : ℝ := gf p b l * p.DY b s l

def dact (b : Fin 4) (s : Fin 2048) (k : Fin 2816) : ℝ := ∑ l, df p b s l * p.WD k l

def dup (b : Fin 4) (s : Fin 2048) (k : Fin 2816) : ℝ := dact p b s k * (gate p b s k * sig (gate p b s k))

def dgate (b : Fin 4) (s : Fin 2048) (k : Fin 2816) : ℝ := dact p b s k * up p b s k * dsilu (gate p b s k)

/-- The gradient of the block's input. -/
def dh (b : Fin 4) (s : Fin 2048) (l : Fin 1024) : ℝ := ∑ k, (dgate p b s k * p.WG l k + dup p b s k * p.WU l k)

/-- The gradient of the norm's output before the modulation. -/
def dn (b : Fin 4) (s : Fin 2048) (l : Fin 1024) : ℝ := dh p b s l * (1 + sc p b l)

/-- The gradient of the residual stream. -/
def dx (b : Fin 4) (s : Fin 2048) (l : Fin 1024) : ℝ := p.DY b s l + rmsBack 1024 (x1 p b s) (fun k => dn p b s k * p.G k) l

/-- The gradient of the mixing part's output. -/
def dmix (b : Fin 4) (s : Fin 2048) (l : Fin 1024) : ℝ := gm p b l * dx p b s l

/-- The gradients of the shift, the scale, the mixing part's gate and the gain. -/
def dsh (b : Fin 4) (l : Fin 1024) : ℝ := ∑ s, dh p b s l
def dsc (b : Fin 4) (l : Fin 1024) : ℝ := ∑ s, dh p b s l * (xr 1024 (x1 p b s) l * p.G l)
def dgm (b : Fin 4) (l : Fin 1024) : ℝ := ∑ s, dx p b s l * p.MIX b s l
def dg (l : Fin 1024) : ℝ := ∑ b, ∑ s, dn p b s l * xr 1024 (x1 p b s) l

/-! The seven results. The first three come in eleven tiles of 256 hidden columns. -/

/-- A function of sequence, position and hidden column as an array of eleven tiles. -/
def tiled (f : Fin 4 → Fin 2048 → Fin 2816 → ℝ) : FVec Ideal ⟨3, ![11, 8192, 256]⟩ .bf16 := fun i =>
  ((f ⟨(i 1).val / 2048, by have := (i 1).isLt; change _ < 8192 at this; omega⟩ ⟨(i 1).val % 2048, by omega⟩
    ⟨(i 0).val * 256 + (i 2).val, by have := (i 0).isLt; have := (i 2).isLt; change _ < 11 at *; change (i 2).val < 256 at *; omega⟩ : ℝ) : EReal)

def out0 : FVec Ideal ⟨3, ![11, 8192, 256]⟩ .bf16 := tiled (dgate p)

def out1 : FVec Ideal ⟨3, ![11, 8192, 256]⟩ .bf16 := tiled (dup p)

def out2 : FVec Ideal ⟨3, ![11, 8192, 256]⟩ .bf16 := tiled (act p)

def out3 : FVec Ideal ⟨2, ![8192, 1024]⟩ .f32 := fun i =>
  ((dx p ⟨(i 0).val / 2048, by have := (i 0).isLt; change _ < 8192 at this; omega⟩ ⟨(i 0).val % 2048, by omega⟩ (i 1) : ℝ) : EReal)

def out4 : FVec Ideal ⟨2, ![8192, 1024]⟩ .bf16 := fun i =>
  ((dmix p ⟨(i 0).val / 2048, by have := (i 0).isLt; change _ < 8192 at this; omega⟩ ⟨(i 0).val % 2048, by omega⟩ (i 1) : ℝ) : EReal)

/-- The gain's gradient in row 0, zeros below. -/
def out5 : FVec Ideal ⟨2, ![8, 1024]⟩ .f32 := fun i => (((if (i 0).val = 0 then dg p (i 1) else 0 : ℝ)) : EReal)

/-- For every sequence the shift's gradient in row 0, the scale's in row 1, the mixing part's gate's in row 2, zeros below. -/
def out6 : FVec Ideal ⟨3, ![4, 8, 1024]⟩ .f32 := fun i =>
  (((if (i 1).val = 0 then dsh p (i 0) (i 2) else if (i 1).val = 1 then dsc p (i 0) (i 2) else if (i 1).val = 2 then dgm p (i 0) (i 2) else 0 : ℝ)) : EReal)

end Cert.FfnBwd

end
-- ==== Proof.FfnBwd.Block.lean ====
/- What the kernel's body computes from one block of 256 tokens, over real arguments. The hidden columns are worked on in 11 tiles of 256. -/
module

public import proofs.«01_k».proof.Proof.Gen.Kernel5Ideal.Skeleton
public import Idealize.ShloMosaic.Lib.Pipeline.ValueKit
public import proofs.«01_k».proof.Proof.FfnBwd.Spec
public import proofs.«01_k».proof.Proof.Rows

@[expose] public section

set_option maxRecDepth 16384

noncomputable section

namespace Cert.FfnBwd.Block

open Cert.Kernel5Ideal Cert.Kernel5Ideal.Gen Idealize.ShloMosaic Idealize.ShloMosaic.TcCoe Idealize.SL.Sem
open Cert.Grad Cert.Lift Cert.FfnBwd

/-- Tile `k` of a projection: its rows `256 k` and on. -/
def tile (W : FVec Ideal S2816x1024 .bf16) (k : Fin 11) : FVec Ideal S256x1024 .bf16 :=
  View.ld (Val := Elt Ideal) (S := S2816x1024) (e' := .bf16) W (Rect.unit (s := S2816x1024) ![k.val * 256, 0] ![256, 1024] (fun a => by
    match a with
    | ⟨0, _⟩ => show k.val * 256 + 256 ≤ 2816; omega
    | ⟨1, _⟩ => show 0 + 1024 ≤ 1024; omega))

/-- Plane `k` of an array of eleven tiles. -/
def rect (k : Fin 11) : Rect S11x256x256 :=
  Rect.unit (s := S11x256x256) ![k.val, 0, 0] ![1, 256, 256] (fun a => by
    match a with
    | ⟨0, _⟩ => show k.val + 1 ≤ 11; omega
    | ⟨1, _⟩ => show 0 + 256 ≤ 256; omega
    | ⟨2, _⟩ => show 0 + 256 ≤ 256; omega)

def pl (X : FVec Ideal S11x256x256 .bf16) (k : Fin 11) : FVec Ideal S1x256x256 .bf16 :=
  View.ld (Val := Elt Ideal) (S := S11x256x256) (e' := .bf16) X (rect k)

/-- A sum over the hidden columns, tile by tile. -/
theorem sum_tiles (f : Fin 2816 → ℝ) : ∑ c, f c = ∑ k : Fin 11, ∑ j : Fin 256, f ⟨k.val * 256 + j.val, by omega⟩ :=
  (Fin.sum_mul_add_congr (S := 11) (n := 256) (f := f) (F := fun k j => f ⟨k.val * 256 + j.val, by omega⟩) (fun s k hl => rfl)).symm

/-- A sum of eleven terms, written out. -/
theorem sum_eleven (f : Fin 11 → ℝ) : ∑ k, f k = f 0 + f 1 + f 2 + f 3 + f 4 + f 5 + f 6 + f 7 + f 8 + f 9 + f 10 := by
  simp only [Fin.sum_univ_succ, Fin.sum_univ_zero, add_zero, ← add_assoc]
  rfl

section Defs

variable (B : FVec Ideal S256x1024 .bf16) (A U : FVec Ideal S11x256x256 .bf16) (WG WU WD : FVec Ideal S2816x1024 .bf16) (k : Fin 11)

/-- The activation's gradient in tile `k`. -/
def dactT : FVec Ideal S256x256 .f32 := k0_pay6 B (tile WD k)

/-- The input gradient's sum after tile `k`. -/
def step (acc : FVec Ideal S256x1024 .f32) : FVec Ideal S256x1024 .f32 :=
  k0_pay19 acc (k0_pay17 (dactT B WD k) (k0_pay8 (pl A k)) (pl U k) (tile WG k)) (k0_pay18 (dactT B WD k) (k0_pay8 (pl A k)) (tile WU k))

/-- The input's gradient. -/
def dhBlock : FVec Ideal S256x1024 .f32 :=
  step B A U WG WU WD 10 (step B A U WG WU WD 9 (step B A U WG WU WD 8 (step B A U WG WU WD 7 (step B A U WG WU WD 6 (step B A U WG WU WD 5
    (step B A U WG WU WD 4 (step B A U WG WU WD 3 (step B A U WG WU WD 2 (step B A U WG WU WD 1 (step B A U WG WU WD 0 k0_pay5))))))))))

/-- Eleven planes, stored one after the other. -/
def planes (f : Fin 11 → FVec Ideal S1x256x256 .bf16) : FVec Ideal S11x256x256 .bf16 :=
  View.canon (Val := Elt Ideal) (s := S11x256x256) (e := .bf16) [⟨rect 10, f 10⟩, ⟨rect 9, f 9⟩, ⟨rect 8, f 8⟩, ⟨rect 7, f 7⟩, ⟨rect 6, f 6⟩,
    ⟨rect 5, f 5⟩, ⟨rect 4, f 4⟩, ⟨rect 3, f 3⟩, ⟨rect 2, f 2⟩, ⟨rect 1, f 1⟩, ⟨rect 0, f 0⟩]

def dgatePlanes : FVec Ideal S11x256x256 .bf16 := planes fun k => k0_pay16 (dactT B WD k) (k0_pay8 (pl A k)) (pl U k)

def dupPlanes : FVec Ideal S11x256x256 .bf16 := planes fun k => k0_pay15 (dactT B WD k) (k0_pay8 (pl A k))

def actPlanes : FVec Ideal S11x256x256 .bf16 := planes fun k => k0_pay12 (k0_pay8 (pl A k)) (pl U k)

end Defs

theorem pl_at (X : FVec Ideal S11x256x256 .bf16) (k : Fin 11) (r j : Fin 256) : pl X k (ix3 0 r j) = X (ix3 k r j) :=
  congrArg X (funext fun b => Fin.ext (by
    match b with
    | ⟨0, _⟩ => show k.val + 1 * 0 = k.val; omega
    | ⟨1, _⟩ => show 0 + 1 * r.val = r.val; omega
    | ⟨2, _⟩ => show 0 + 1 * j.val = j.val; omega))

theorem tile_at (W : FVec Ideal S2816x1024 .bf16) (k : Fin 11) (j : Fin 256) (l : Fin 1024) :
    tile W k (ix2 j l) = W (ix2 ⟨k.val * 256 + j.val, by omega⟩ l) := Rows.ld_rows (Val := Elt Ideal) (e := .bf16) W _ _ j l

theorem planes_at (f : Fin 11 → FVec Ideal S1x256x256 .bf16) (k : Fin 11) (r j : Fin 256) : planes f (ix3 k r j) = f k (ix3 0 r j) := by
  unfold planes rect
  simp only [Rows.canon_plane]
  fin_cases k <;> rfl

/-- The blocks a grid point reads hold the positions numbered by `ρ` of sequence `b`; the gate and up projections transposed. -/
structure Blk (p : Data) (b : Fin 4) (ρ : Fin 256 → Fin 2048) (B : FVec Ideal S256x1024 .bf16) (A U : FVec Ideal S11x256x256 .bf16)
    (ym : FVec Ideal S1x8x1024 .f32) (yg : FVec Ideal S1x1024 .f32) (yx yd : FVec Ideal S256x1024 .f32) (yi : FVec Ideal S256x1024 .bf16)
    (WG WU WD : FVec Ideal S2816x1024 .bf16) : Prop where
  f : ∀ r k, B (ix2 r k) = ((df p b (ρ r) k : ℝ) : EReal)
  a : ∀ (k : Fin 11) r (j : Fin 256), A (ix3 k r j) = ((gate p b (ρ r) ⟨k.val * 256 + j.val, by omega⟩ : ℝ) : EReal)
  u : ∀ (k : Fin 11) r (j : Fin 256), U (ix3 k r j) = ((up p b (ρ r) ⟨k.val * 256 + j.val, by omega⟩ : ℝ) : EReal)
  m2 : ∀ k : Fin 1024, ym (ix3 0 2 k) = ((gm p b k : ℝ) : EReal)
  m4 : ∀ k : Fin 1024, ym (ix3 0 4 k) = ((sc p b k : ℝ) : EReal)
  g : ∀ k : Fin 1024, yg (ix2 0 k) = ((p.G k : ℝ) : EReal)
  x : ∀ r k, yx (ix2 r k) = ((x1 p b (ρ r) k : ℝ) : EReal)
  dy : ∀ r k, yd (ix2 r k) = ((p.DY b (ρ r) k : ℝ) : EReal)
  i : ∀ r k, yi (ix2 r k) = ((p.MIX b (ρ r) k : ℝ) : EReal)
  wg : ∀ k a, WG (ix2 k a) = ((p.WG a k : ℝ) : EReal)
  wu : ∀ k a, WU (ix2 k a) = ((p.WU a k : ℝ) : EReal)
  wd : ∀ k a, WD (ix2 k a) = ((p.WD k a : ℝ) : EReal)

variable {p : Data} {b : Fin 4} {ρ : Fin 256 → Fin 2048} {B : FVec Ideal S256x1024 .bf16} {A U : FVec Ideal S11x256x256 .bf16}
    {ym : FVec Ideal S1x8x1024 .f32} {yg : FVec Ideal S1x1024 .f32} {yx yd : FVec Ideal S256x1024 .f32} {yi : FVec Ideal S256x1024 .bf16}
    {WG WU WD : FVec Ideal S2816x1024 .bf16} (h : Blk p b ρ B A U ym yg yx yd yi WG WU WD)
include h

theorem dactT_at (k : Fin 11) (r j : Fin 256) : dactT B WD k (ix2 r j) = ((dact p b (ρ r) ⟨k.val * 256 + j.val, by omega⟩ : ℝ) : EReal) := by
  unfold dactT
  pointwise [k0_pay6, k0_pay4]
  simp only [tile_at, h.f, h.wd, ← EReal.coe_mul, coe_sum]; rfl

theorem gate_at (k : Fin 11) (r j : Fin 256) :
    k0_pay8 (F := Ideal) (pl A k) (ix2 r j) = ((gate p b (ρ r) ⟨k.val * 256 + j.val, by omega⟩ : ℝ) : EReal) := by
  pointwise [k0_pay8]
  rw [pl_at, h.a]

theorem up_at (k : Fin 11) (r j : Fin 256) :
    k0_pay9 (F := Ideal) (pl U k) (ix2 r j) = ((up p b (ρ r) ⟨k.val * 256 + j.val, by omega⟩ : ℝ) : EReal) := by
  pointwise [k0_pay9]
  rw [pl_at, h.u]

theorem sig_at (k : Fin 11) (r j : Fin 256) :
    k0_pay10 (F := Ideal) (k0_pay8 (pl A k)) (ix2 r j) = ((sig (gate p b (ρ r) ⟨k.val * 256 + j.val, by omega⟩) : ℝ) : EReal) := by
  pointwise [k0_pay10]
  rw [gate_at h, zero_sub, ← EReal.coe_neg, sig_coe]

theorem act_at (k : Fin 11) (r j : Fin 256) : actPlanes A U (ix3 k r j) = ((act p b (ρ r) ⟨k.val * 256 + j.val, by omega⟩ : ℝ) : EReal) := by
  unfold actPlanes
  rw [planes_at]
  pointwise [k0_pay12, k0_pay11]
  rw [gate_at h, sig_at h, up_at h, ← EReal.coe_mul, ← EReal.coe_mul]; rfl

theorem pay13_at (k : Fin 11) (r j : Fin 256) :
    k0_pay13 (F := Ideal) (dactT B WD k) (k0_pay8 (pl A k)) (ix2 r j) = ((dup p b (ρ r) ⟨k.val * 256 + j.val, by omega⟩ : ℝ) : EReal) := by
  pointwise [k0_pay13, k0_pay11]
  rw [dactT_at h, gate_at h, sig_at h, ← EReal.coe_mul, ← EReal.coe_mul]; rfl

theorem pay14_at (k : Fin 11) (r j : Fin 256) :
    k0_pay14 (F := Ideal) (dactT B WD k) (k0_pay8 (pl A k)) (pl U k) (ix2 r j)
      = ((dgate p b (ρ r) ⟨k.val * 256 + j.val, by omega⟩ : ℝ) : EReal) := by
  pointwise [k0_pay14]
  rw [dactT_at h, gate_at h, sig_at h, up_at h]
  simp only [← EReal.coe_one, ← EReal.coe_mul, ← EReal.coe_sub, ← EReal.coe_add]; rfl

theorem dup_at (k : Fin 11) (r j : Fin 256) : dupPlanes B A WD (ix3 k r j) = ((dup p b (ρ r) ⟨k.val * 256 + j.val, by omega⟩ : ℝ) : EReal) := by
  unfold dupPlanes
  rw [planes_at]
  pointwise [k0_pay15]
  exact pay13_at h k r j

theorem dgate_at (k : Fin 11) (r j : Fin 256) :
    dgatePlanes B A U WD (ix3 k r j) = ((dgate p b (ρ r) ⟨k.val * 256 + j.val, by omega⟩ : ℝ) : EReal) := by
  unfold dgatePlanes
  rw [planes_at]
  pointwise [k0_pay16]
  exact pay14_at h k r j

/-- What tile `k` adds to the input's gradient. -/
theorem step_at (k : Fin 11) (acc : FVec Ideal S256x1024 .f32) (r : Fin 256) (l : Fin 1024) (a : ℝ) (ha : acc (ix2 r l) = (a : EReal)) :
    step B A U WG WU WD k acc (ix2 r l) = ((a + ∑ j : Fin 256, (dgate p b (ρ r) ⟨k.val * 256 + j.val, by omega⟩ * p.WG l ⟨k.val * 256 + j.val, by omega⟩
      + dup p b (ρ r) ⟨k.val * 256 + j.val, by omega⟩ * p.WU l ⟨k.val * 256 + j.val, by omega⟩) : ℝ) : EReal) := by
  unfold step
  pointwise [k0_pay19, k0_pay17, k0_pay18]
  simp only [ha, pay13_at h, pay14_at h, tile_at, h.wg, h.wu, ← EReal.coe_mul, coe_sum, ← EReal.coe_add, Finset.sum_add_distrib]

theorem dhBlock_at (r : Fin 256) (l : Fin 1024) : dhBlock B A U WG WU WD (ix2 r l) = ((dh p b (ρ r) l : ℝ) : EReal) := by
  have z : k0_pay5 (F := Ideal) (ix2 r l) = ((0 : ℝ) : EReal) := by pointwise [k0_pay5]; rfl
  unfold dhBlock
  rw [step_at h 10 _ r l _ (step_at h 9 _ r l _ (step_at h 8 _ r l _ (step_at h 7 _ r l _ (step_at h 6 _ r l _ (step_at h 5 _ r l _ (step_at h 4 _ r l _
    (step_at h 3 _ r l _ (step_at h 2 _ r l _ (step_at h 1 _ r l _ (step_at h 0 _ r l _ z))))))))))]
  rw [dh, sum_tiles, sum_eleven, zero_add]

/-! The gradient through the modulation and the norm. -/

theorem rr_at (r : Fin 256) : k0_pay138 (F := Ideal) yx (ix2 r 0) = ((rr 1024 (x1 p b (ρ r)) : ℝ) : EReal) := by
  pointwise [k0_pay138, k0_pay137]
  simp only [h.x, w1024, coe_sum, zero_add, wEps, ← EReal.coe_mul]
  rw [div_coe (by norm_num), ← EReal.coe_add]
  exact rsqrt_coe (ms_pos (by norm_num) (x1 p b (ρ r)))

theorem xr_at (r : Fin 256) (l : Fin 1024) : k0_pay139 (F := Ideal) yx (ix2 r l) = ((xr 1024 (x1 p b (ρ r)) l : ℝ) : EReal) := by
  pointwise [k0_pay139, k0_pay137]
  rw [h.x, rr_at h, ← EReal.coe_mul]; rfl

/-- The modulation's row `o`, loaded. -/
abbrev row (ym : FVec Ideal S1x8x1024 .f32) (o : ℕ)
    (inb : ∀ a : Fin 3, (![0, o, 0] : Fin 3 → ℕ) a + (![1, 1, 1024] : Fin 3 → ℕ) a ≤ (![1, 8, 1024] : Fin 3 → ℕ) a) : FVec Ideal S1x1x1024 .f32 :=
  View.ld (Val := Elt Ideal) (S := S1x8x1024) (e' := .f32) ym (Rect.unit (s := S1x8x1024) ![0, o, 0] ![1, 1, 1024] inb)

theorem shift_at (acc : FVec Ideal S1x1x1024 .f32) (l : Fin 1024) :
    k0_pay140 (F := Ideal) (dhBlock B A U WG WU WD) acc (ix3 0 0 l) = acc (ix3 0 0 l) + ((∑ r, dh p b (ρ r) l : ℝ) : EReal) := by
  pointwise [k0_pay140]
  simp only [dhBlock_at h, coe_sum, zero_add]

theorem scale_at (acc : FVec Ideal S1x1x1024 .f32) (l : Fin 1024) :
    k0_pay141 (F := Ideal) (dhBlock B A U WG WU WD) yg (k0_pay139 yx) acc (ix3 0 0 l)
      = acc (ix3 0 0 l) + ((∑ r, dh p b (ρ r) l * (xr 1024 (x1 p b (ρ r)) l * p.G l) : ℝ) : EReal) := by
  pointwise [k0_pay141]
  simp only [dhBlock_at h, xr_at h, h.g, ← EReal.coe_mul, coe_sum, zero_add]

variable (inb : ∀ a : Fin 3, (![0, 4, 0] : Fin 3 → ℕ) a + (![1, 1, 1024] : Fin 3 → ℕ) a ≤ (![1, 8, 1024] : Fin 3 → ℕ) a)

theorem dn_at (r : Fin 256) (l : Fin 1024) :
    k0_pay142 (F := Ideal) (dhBlock B A U WG WU WD) (row ym 4 inb) (ix2 r l) = ((dn p b (ρ r) l : ℝ) : EReal) := by
  pointwise [k0_pay142]
  have e : row ym 4 inb (ix3 0 0 l) = ((sc p b l : ℝ) : EReal) := (Rows.ld_row3 _ _ _ l).trans (h.m4 l)
  rw [e, dhBlock_at h, ← EReal.coe_one, ← EReal.coe_add, ← EReal.coe_mul]; rfl

theorem gain_at (acc : FVec Ideal S1x1024 .f32) (l : Fin 1024) :
    k0_pay143 (F := Ideal) (dhBlock B A U WG WU WD) (k0_pay139 yx) (row ym 4 inb) acc (ix2 0 l)
      = acc (ix2 0 l) + ((∑ r, dn p b (ρ r) l * xr 1024 (x1 p b (ρ r)) l : ℝ) : EReal) := by
  pointwise [k0_pay143]
  simp only [dn_at h, xr_at h, ← EReal.coe_mul, coe_sum, zero_add]

/-- The gradient of the residual stream, in the body's operations. -/
def dxBlock (B : FVec Ideal S256x1024 .bf16) (A U : FVec Ideal S11x256x256 .bf16) (WG WU WD : FVec Ideal S2816x1024 .bf16)
    (w : FVec Ideal S1x1x1024 .f32) (yg : FVec Ideal S1x1024 .f32) (yx yd : FVec Ideal S256x1024 .f32) : FVec Ideal S256x1024 .f32 :=
  k0_pay145 (k0_pay138 yx) (k0_pay139 yx) (k0_pay144 (dhBlock B A U WG WU WD) yg w) yd

theorem dx_at (r : Fin 256) (l : Fin 1024) :
    dxBlock B A U WG WU WD (row ym 4 inb) yg yx yd (ix2 r l) = ((dx p b (ρ r) l : ℝ) : EReal) := by
  unfold dxBlock
  pointwise [k0_pay145, k0_pay144]
  simp only [dn_at h, xr_at h, rr_at h, h.g, h.dy, w1024, zero_add, ← EReal.coe_mul, coe_sum]
  rw [div_coe (by norm_num)]
  simp only [← EReal.coe_mul, ← EReal.coe_sub, ← EReal.coe_add]; rfl

theorem dmix_at (inb2) (r : Fin 256) (l : Fin 1024) :
    k0_pay1 (F := Ideal) (dxBlock B A U WG WU WD (row ym 4 inb) yg yx yd) (row ym 2 inb2) (ix2 r l) = ((dmix p b (ρ r) l : ℝ) : EReal) := by
  pointwise [k0_pay1]
  have e : row ym 2 inb2 (ix3 0 0 l) = ((gm p b l : ℝ) : EReal) := (Rows.ld_row3 _ _ _ l).trans (h.m2 l)
  rw [e, dx_at h, ← EReal.coe_mul]; rfl

theorem gm_at (acc : FVec Ideal S1x1x1024 .f32) (l : Fin 1024) :
    k0_pay146 (F := Ideal) (k0_pay138 yx) (k0_pay139 yx) (k0_pay144 (dhBlock B A U WG WU WD) yg (row ym 4 inb)) yd acc yi (ix3 0 0 l)
      = acc (ix3 0 0 l) + ((∑ r, dx p b (ρ r) l * p.MIX b (ρ r) l : ℝ) : EReal) := by
  have e : ∀ r, k0_pay145 (F := Ideal) (k0_pay138 yx) (k0_pay139 yx) (k0_pay144 (dhBlock B A U WG WU WD) yg (row ym 4 inb)) yd (ix2 r l)
      = ((dx p b (ρ r) l : ℝ) : EReal) := fun r => dx_at h inb r l
  pointwise [k0_pay146]
  simp only [e, h.i, ← EReal.coe_mul, coe_sum, zero_add]

end Cert.FfnBwd.Block

end
-- ==== Proof.FfnBwd.Host.lean ====
/- The arrays the host lines prepare for the call of the feed-forward block's gradient. -/
module

public import proofs.«01_k».proof.Proof.FfnBwd.Frame
public import proofs.«01_k».proof.Proof.FfnBwd.Block
public import Idealize.ShloMosaic.Lib.Pipeline.Value
public import Idealize.ShloMosaic.Lib.Pipeline.ValueKit

@[expose] public section

set_option maxRecDepth 16384

noncomputable section

namespace Cert.FfnBwd.Array

open Cert.Kernel5Ideal Cert.Kernel5Ideal.Gen Idealize.ShloMosaic Idealize.ShloMosaic.TcCoe Idealize.SL.Sem
open Idealize.ShloMosaic.Pipeline (Dat)
open Cert.Grad Cert.Lift Cert.FfnBwd Cert.FfnBwd.Frame

variable (m : (ℓ : Loc nD τ sig) → Buf (Elt Ideal) ℓ) {p : Data} {c : Dev nD}

/-- The arguments in memory hold the reals of `p`. -/
abbrev Mem (p : Data) (c : Dev nD) : Prop :=
  Holds p (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7))

theorem idx : ∀ t : Fin cfg0.N, win0_0.index t = ![t.val, 0] ∧ win0_1.index t = ![0, t.val, 0] ∧ win0_2.index t = ![0, t.val, 0]
    ∧ win0_3.index t = ![t.val / 8, 0, 0] ∧ win0_4.index t = ![0, 0] ∧ win0_5.index t = ![t.val, 0] ∧ win0_6.index t = ![t.val, 0]
    ∧ win0_7.index t = ![t.val, 0] ∧ win0_8.index t = ![0, t.val, 0] ∧ win0_9.index t = ![0, t.val, 0] ∧ win0_10.index t = ![0, t.val, 0]
    ∧ win0_11.index t = ![t.val, 0] ∧ win0_12.index t = ![t.val, 0] ∧ win0_13.index t = ![0, 0] ∧ win0_14.index t = ![t.val / 8, 0, 0]
    ∧ t.val < 32 :=
  (by decide +kernel : ∀ t : Fin grid0.N, _)

theorem lt (t : Fin cfg0.N) : t.val < 32 := (idx t).2.2.2.2.2.2.2.2.2.2.2.2.2.2.2

/-- The sequence grid point `t` works on. -/
def bat (t : Fin cfg0.N) : Fin 4 := ⟨t.val / 8, by have := lt t; omega⟩

/-- The positions of grid point `t` in its sequence. -/
def pos (t : Fin cfg0.N) (r : Fin 256) : Fin 2048 := ⟨256 * (t.val % 8) + r.val, by omega⟩

/-- The rows of grid point `t` among all tokens. -/
def row (t : Fin cfg0.N) (r : Fin 256) : Fin 8192 := ⟨256 * t.val + r.val, by have := lt t; omega⟩

theorem row_div (t : Fin cfg0.N) (r : Fin 256) (h : (row t r).val / 2048 < 4) : (⟨(row t r).val / 2048, h⟩ : Fin 4) = bat t :=
  Fin.ext (by show (256 * t.val + r.val) / 2048 = t.val / 8; omega)

theorem row_mod (t : Fin cfg0.N) (r : Fin 256) (h : (row t r).val % 2048 < 2048) : (⟨(row t r).val % 2048, h⟩ : Fin 2048) = pos t r :=
  Fin.ext (by show (256 * t.val + r.val) % 2048 = 256 * (t.val % 8) + r.val; omega)

/-! The arrays the host lines prepare for the kernel. -/

theorem rows8 (b : Fin 4) (k : Fin 1024) :
    V m c main_v1 (ix3 b 2 k) = m ((c : Thread nD τ).loc main_arg2) (ix2 b ⟨2048 + k.val, by omega⟩)
      ∧ V m c main_v1 (ix3 b 4 k) = m ((c : Thread nD τ).loc main_arg2) (ix2 b ⟨4096 + k.val, by omega⟩) := by
  simp only [V, List.flatten_cons, List.flatten_nil, hostOps0, hostOps0_1, hostOps0_2, List.cons_append, List.nil_append]
  refine ⟨?_, ?_⟩ <;>
    (after_results_simp; pointwise; simp only [StableHlo.TRef.toBuf, StableHlo.TRef.ofBuf, cast_eq]; pointwise)

theorem gain (k : Fin 1024) : V m c main_arg3 (ix2 0 k) = m ((c : Thread nD τ).loc main_arg3) (ix2 0 k) := by
  simp only [V, List.flatten_cons, List.flatten_nil, hostOps0, hostOps0_1, hostOps0_2, List.cons_append, List.nil_append]
  after_results_simp

theorem projections (k : Fin 2816) (a : Fin 1024) :
    V m c main_v53 (ix2 k a) = m ((c : Thread nD τ).loc main_arg4) (ix3 0 a k)
      ∧ V m c main_v56 (ix2 k a) = m ((c : Thread nD τ).loc main_arg5) (ix3 0 a k)
      ∧ V m c main_v58 (ix2 k a) = m ((c : Thread nD τ).loc main_arg6) (ix3 0 k a) := by
  simp only [V, List.flatten_cons, List.flatten_nil, hostOps0, hostOps0_1, hostOps0_2, List.cons_append, List.nil_append]
  refine ⟨?_, ?_, ?_⟩ <;> (after_results_simp; pointwise)

theorem tokens (r : Fin 8192) (k : Fin 1024) :
    V m c main_v60 (ix2 r k) = m ((c : Thread nD τ).loc main_arg7) (ix3 ⟨r.val / 2048, by omega⟩ ⟨r.val % 2048, by omega⟩ k)
      ∧ V m c main_v62 (ix2 r k) = m ((c : Thread nD τ).loc main_arg1) (ix3 ⟨r.val / 2048, by omega⟩ ⟨r.val % 2048, by omega⟩ k) := by
  simp only [V, List.flatten_cons, List.flatten_nil, hostOps0, hostOps0_1, hostOps0_2, List.cons_append, List.nil_append]
  refine ⟨?_, ?_⟩ <;> (after_results_simp; pointwise)

theorem cotangent (h : Mem m p c) (r : Fin 8192) (k : Fin 1024) :
    V m c main_v40 (ix2 r k) = ((df p ⟨r.val / 2048, by omega⟩ ⟨r.val % 2048, by omega⟩ k : ℝ) : EReal) := by
  simp only [V, List.flatten_cons, List.flatten_nil, hostOps0, hostOps0_1, hostOps0_2, List.cons_append, List.nil_append]
  after_results_simp
  pointwise
  simp only [StableHlo.TRef.toBuf, StableHlo.TRef.ofBuf, cast_eq]
  pointwise
  rw [dif_pos (show r.val / 2048 < 4 by omega)]
  exact (congrArg₂ (· * ·) (h.m _ _) (h.dy _ _ _)).trans (EReal.coe_mul _ _).symm

theorem stream (h : Mem m p c) (r : Fin 8192) (k : Fin 1024) :
    V m c main_v59 (ix2 r k) = ((x1 p ⟨r.val / 2048, by omega⟩ ⟨r.val % 2048, by omega⟩ k : ℝ) : EReal) := by
  simp only [V, List.flatten_cons, List.flatten_nil, hostOps0, hostOps0_1, hostOps0_2, List.cons_append, List.nil_append]
  after_results_simp
  pointwise
  simp only [StableHlo.TRef.toBuf, StableHlo.TRef.ofBuf, cast_eq]
  pointwise
  rw [dif_pos (show r.val / 2048 < 4 by omega)]
  exact (congrArg₂ (· + ·) (h.x _ _ _) ((congrArg₂ (· * ·) (h.m _ _) (h.mix _ _ _)).trans (EReal.coe_mul _ _).symm)).trans
    (EReal.coe_add _ _).symm

end Cert.FfnBwd.Array

end
-- ==== Proof.FfnBwd.Saved.lean ====
/- The gate's and the up projection's outputs, which the host lines recompute from the inputs. -/
module

public import proofs.«01_k».proof.Proof.FfnBwd.Host

@[expose] public section

set_option maxRecDepth 16384

noncomputable section

namespace Cert.FfnBwd.Array

open Cert.Kernel5Ideal Cert.Kernel5Ideal.Gen Idealize.ShloMosaic Idealize.ShloMosaic.TcCoe Idealize.SL.Sem
open Idealize.ShloMosaic.Pipeline (Dat)
open Cert.Grad Cert.Lift Cert.FfnBwd Cert.FfnBwd.Frame

variable (m : (ℓ : Loc nD τ sig) → Buf (Elt Ideal) ℓ) {p : Data} {c : Dev nD}

set_option maxHeartbeats 2000000 in
/-- The gate's and the up projection's outputs, recomputed by the host lines. -/
theorem saved (h : Mem m p c) (k : Fin 11) (r : Fin 8192) (j : Fin 256) :
    V m c main_v45 (ix3 k r j) = ((gate p ⟨r.val / 2048, by omega⟩ ⟨r.val % 2048, by omega⟩ ⟨k.val * 256 + j.val, by omega⟩ : ℝ) : EReal)
      ∧ V m c main_v50 (ix3 k r j) = ((up p ⟨r.val / 2048, by omega⟩ ⟨r.val % 2048, by omega⟩ ⟨k.val * 256 + j.val, by omega⟩ : ℝ) : EReal) := by
  simp only [V, List.flatten_cons, List.flatten_nil, hostOps0, hostOps0_1, hostOps0_2, List.cons_append, List.nil_append]
  have q := fun b s => rsqrt_coe (ms_pos (N := 1024) (by norm_num) (x1 p b s))
  simp only [ms, mean, x1, gm] at q
  have hr : r.val / 2048 < 4 := by omega
  have hx : ∀ b s l, m (c, Proc.tc.devRef main_arg0) (ix3 b s l) = ((p.X b s l : ℝ) : EReal) := h.x
  have hi : ∀ b s l, m (c, Proc.tc.devRef main_arg1) (ix3 b s l) = ((p.MIX b s l : ℝ) : EReal) := h.mix
  have hm : ∀ b l, m (c, Proc.tc.devRef main_arg2) (ix2 b l) = ((p.M b l : ℝ) : EReal) := h.m
  have hg : ∀ l, m (c, Proc.tc.devRef main_arg3) (ix2 0 l) = ((p.G l : ℝ) : EReal) := h.g
  have hwg : ∀ l k, m (c, Proc.tc.devRef main_arg4) (ix3 0 l k) = ((p.WG l k : ℝ) : EReal) := h.wg
  have hwu : ∀ l k, m (c, Proc.tc.devRef main_arg5) (ix3 0 l k) = ((p.WU l k : ℝ) : EReal) := h.wu
  refine ⟨?_, ?_⟩ <;>
  · after_results_simp
    pointwise
    simp only [StableHlo.TRef.toBuf, StableHlo.TRef.ofBuf, cast_eq]
    pointwise
    simp only [hr, ↓reduceDIte, hx, hi, hm, hg, hwg, hwu, w1024, wEps, zero_add, add_zero, ← EReal.coe_mul, ← EReal.coe_add, ← EReal.coe_one, coe_sum,
      div_coe (show (1024 : ℝ) ≠ 0 by norm_num), q]
    rfl

end Cert.FfnBwd.Array

end
-- ==== Proof.FfnBwd.Blocks.lean ====
/- The blocks a grid point of the feed-forward block's gradient works on. -/
module

public import proofs.«01_k».proof.Proof.FfnBwd.Saved

@[expose] public section

set_option maxRecDepth 16384

noncomputable section

namespace Cert.FfnBwd.Array

open Cert.Kernel5Ideal Cert.Kernel5Ideal.Gen Idealize.ShloMosaic Idealize.ShloMosaic.TcCoe Idealize.SL.Sem
open Idealize.ShloMosaic.Pipeline (Dat)
open Cert.Grad Cert.Lift Cert.FfnBwd Cert.FfnBwd.Frame

variable (m : (ℓ : Loc nD τ sig) → Buf (Elt Ideal) ℓ) {p : Data} {c : Dev nD}

set_option maxHeartbeats 2000000 in
/-- The blocks of grid point `t`. -/
theorem blk (h : Mem m p c) (t : Fin cfg0.N) :
    Block.Blk p (bat t) (pos t) (iblk m c 0 t) (iblk m c 1 t) (iblk m c 2 t) (iblk m c 3 t) (iblk m c 4 t) (iblk m c 5 t) (iblk m c 6 t) (iblk m c 7 t)
      (V m c main_v53) (V m c main_v56) (V m c main_v58) where
  f r k := by
    rw [← row_div t r (by omega), ← row_mod t r (by omega)]
    have e : ((cfg0.win 0).blk t).view.emb (ix2 r k) = ix2 (row t r) k := by blk_ext [idx t, row]
    exact (congrArg (V m c main_v40) e).trans (cotangent m h (row t r) k)
  a k r j := by
    rw [← row_div t r (by omega), ← row_mod t r (by omega)]
    have e : ((cfg0.win 1).blk t).view.emb (ix3 k r j) = ix3 k (row t r) j := by blk_ext [idx t, row]
    exact (congrArg (V m c main_v45) e).trans (saved m h k (row t r) j).1
  u k r j := by
    rw [← row_div t r (by omega), ← row_mod t r (by omega)]
    have e : ((cfg0.win 2).blk t).view.emb (ix3 k r j) = ix3 k (row t r) j := by blk_ext [idx t, row]
    exact (congrArg (V m c main_v50) e).trans (saved m h k (row t r) j).2
  m2 k := by
    rw [gm, ← h.m]
    have e : ((cfg0.win 3).blk t).view.emb (ix3 0 2 k) = ix3 (bat t) 2 k := by blk_ext [idx t, bat]
    exact (congrArg (V m c main_v1) e).trans (rows8 m (bat t) k).1
  m4 k := by
    rw [sc, ← h.m]
    have e : ((cfg0.win 3).blk t).view.emb (ix3 0 4 k) = ix3 (bat t) 4 k := by blk_ext [idx t, bat]
    exact (congrArg (V m c main_v1) e).trans (rows8 m (bat t) k).2
  g k := by
    rw [← h.g]
    have e : ((cfg0.win 4).blk t).view.emb (ix2 0 k) = ix2 0 k := by blk_ext [idx t]
    exact (congrArg (V m c main_arg3) e).trans (gain m k)
  x r k := by
    rw [← row_div t r (by omega), ← row_mod t r (by omega)]
    have e : ((cfg0.win 5).blk t).view.emb (ix2 r k) = ix2 (row t r) k := by blk_ext [idx t, row]
    exact (congrArg (V m c main_v59) e).trans (stream m h (row t r) k)
  dy r k := by
    rw [← h.dy, ← row_div t r (by omega), ← row_mod t r (by omega)]
    have e : ((cfg0.win 6).blk t).view.emb (ix2 r k) = ix2 (row t r) k := by blk_ext [idx t, row]
    exact (congrArg (V m c main_v60) e).trans (tokens m (row t r) k).1
  i r k := by
    rw [← h.mix, ← row_div t r (by omega), ← row_mod t r (by omega)]
    have e : ((cfg0.win 7).blk t).view.emb (ix2 r k) = ix2 (row t r) k := by blk_ext [idx t, row]
    exact (congrArg (V m c main_v62) e).trans (tokens m (row t r) k).2
  wg k a := (projections m k a).1.trans (h.wg a k)
  wu k a := (projections m k a).2.1.trans (h.wu a k)
  wd k a := (projections m k a).2.2.trans (h.wd k a)

end Cert.FfnBwd.Array

end
-- ==== Proof.FfnBwd.Left.lean ====
/- What a grid point leaves in the five results it writes whole, in the kernel's own operations. -/
module

public import proofs.«01_k».proof.Proof.FfnBwd.Host

@[expose] public section

set_option maxRecDepth 16384

noncomputable section

namespace Cert.FfnBwd.Array

open Cert.Kernel5Ideal Cert.Kernel5Ideal.Gen Idealize.ShloMosaic Idealize.ShloMosaic.TcCoe Idealize.SL.Sem
open Idealize.ShloMosaic.Pipeline (Dat)
open Cert.Grad Cert.Lift Cert.FfnBwd Cert.FfnBwd.Frame

variable (m : (ℓ : Loc nD τ sig) → Buf (Elt Ideal) ℓ) {p : Data} {c : Dev nD}

theorem keep_row (t : Fin cfg0.N) (h : ¬t.val % 32 = 0) (k : t.val % 8 = 0) (q : Frame.Left Ideal) :
    (leftRow m c t h k q).2.2.2.2.2.2.2 = q.2.2.2.2.2.2.2 := by unfold leftRow; rfl

theorem keep_next (t : Fin cfg0.N) (h : ¬t.val % 32 = 0) (k : ¬t.val % 8 = 0) (q : Frame.Left Ideal) :
    (leftNext m c t h k q).2.2.2.2.2.2.2 = q.2.2.2.2.2.2.2 := by unfold leftNext; rfl

/-- From the first grid point on the three weight buffers hold the three projections. -/
theorem weights : ∀ (n : ℕ) (hn : n < cfg0.N), (leftAt m c n hn).2.2.2.2.2.2.2 = (V m c main_v53, V m c main_v56, V m c main_v58)
  | 0, hn => by
    rw [leftAt_first m c ⟨0, hn⟩ rfl]; unfold leftFirst
    refine Prod.ext ?_ (Prod.ext ?_ ?_) <;>
    · dsimp only
      unfold runFirst
      frame_out
      simp only [Rows.canon_whole]
      rfl
  | n + 1, hn => by
    have ih := weights n (by omega)
    have h0 : ¬(n + 1) % 32 = 0 := by have := lt ⟨n + 1, hn⟩; simp at this; omega
    by_cases h1 : (n + 1) % 8 = 0
    · rw [leftAt_row m c ⟨n + 1, hn⟩ h0 h1, keep_row]; exact ih
    · rw [leftAt_next m c ⟨n + 1, hn⟩ h0 h1, keep_next]; exact ih

/-! The results after grid point `t`, in the kernel's own operations. -/

set_option maxHeartbeats 2000000 in
theorem dgateArr (t : Fin cfg0.N) : (leftAt m c t.val t.isLt).1 = Block.dgatePlanes (iblk m c 0 t) (iblk m c 1 t) (iblk m c 2 t) (V m c main_v58) := by
  by_cases h0 : t.val % 32 = 0
  · rw [leftAt_first m c t h0]; unfold leftFirst; dsimp only; unfold runFirst
    frame_out
    simp only [Rows.readCov_whole]
    rfl
  have w := weights m (t.val - 1) (Nat.lt_of_le_of_lt (Nat.sub_le _ _) t.isLt) (c := c)
  by_cases h1 : t.val % 8 = 0
  · rw [leftAt_row m c t h0 h1]; unfold leftRow; dsimp only; unfold runRow leftBefore
    frame_out
    simp only [read_unread_whole, w]
    rfl
  · rw [leftAt_next m c t h0 h1]; unfold leftNext; dsimp only; unfold runNext leftBefore
    frame_out
    simp only [read_unread_whole, w]
    rfl

set_option maxHeartbeats 2000000 in
theorem dupArr (t : Fin cfg0.N) : (leftAt m c t.val t.isLt).2.1 = Block.dupPlanes (iblk m c 0 t) (iblk m c 1 t) (V m c main_v58) := by
  by_cases h0 : t.val % 32 = 0
  · rw [leftAt_first m c t h0]; unfold leftFirst; dsimp only; unfold runFirst
    frame_out
    simp only [Rows.readCov_whole]
    rfl
  have w := weights m (t.val - 1) (Nat.lt_of_le_of_lt (Nat.sub_le _ _) t.isLt) (c := c)
  by_cases h1 : t.val % 8 = 0
  · rw [leftAt_row m c t h0 h1]; unfold leftRow; dsimp only; unfold runRow leftBefore
    frame_out
    simp only [read_unread_whole, w]
    rfl
  · rw [leftAt_next m c t h0 h1]; unfold leftNext; dsimp only; unfold runNext leftBefore
    frame_out
    simp only [read_unread_whole, w]
    rfl

theorem actArr (t : Fin cfg0.N) : (leftAt m c t.val t.isLt).2.2.1 = Block.actPlanes (iblk m c 1 t) (iblk m c 2 t) := by
  by_cases h0 : t.val % 32 = 0
  · rw [leftAt_first m c t h0]; unfold leftFirst; dsimp only; unfold runFirst
    frame_out
    rfl
  by_cases h1 : t.val % 8 = 0
  · rw [leftAt_row m c t h0 h1]; unfold leftRow; dsimp only; unfold runRow leftBefore
    frame_out
    rfl
  · rw [leftAt_next m c t h0 h1]; unfold leftNext; dsimp only; unfold runNext leftBefore
    frame_out
    rfl

/-- The gradient of the residual stream in the block of grid point `t`, in the kernel's own operations. -/
abbrev dxAt (c : Dev nD) (t : Fin cfg0.N) : FVec Ideal S256x1024 .f32 :=
  Block.dxBlock (iblk m c 0 t) (iblk m c 1 t) (iblk m c 2 t) (V m c main_v53) (V m c main_v56) (V m c main_v58)
    (Block.row (iblk m c 3 t) 4 inb_S1x8x1024_S1x1x1024_0_4_0) (iblk m c 4 t) (iblk m c 5 t) (iblk m c 6 t)

set_option maxHeartbeats 2000000 in
theorem dxArr (t : Fin cfg0.N) : (leftAt m c t.val t.isLt).2.2.2.1 = dxAt m c t := by
  by_cases h0 : t.val % 32 = 0
  · rw [leftAt_first m c t h0]; unfold leftFirst; dsimp only; unfold runFirst
    frame_out
    simp only [Rows.readCov_whole]
    rfl
  have w := weights m (t.val - 1) (Nat.lt_of_le_of_lt (Nat.sub_le _ _) t.isLt) (c := c)
  by_cases h1 : t.val % 8 = 0
  · rw [leftAt_row m c t h0 h1]; unfold leftRow; dsimp only; unfold runRow leftBefore
    frame_out
    simp only [read_unread_whole, w]
    rfl
  · rw [leftAt_next m c t h0 h1]; unfold leftNext; dsimp only; unfold runNext leftBefore
    frame_out
    simp only [read_unread_whole, w]
    rfl

set_option maxHeartbeats 2000000 in
theorem dmixArr (t : Fin cfg0.N) : (leftAt m c t.val t.isLt).2.2.2.2.1 = k0_pay1 (dxAt m c t) (Block.row (iblk m c 3 t) 2 inb_S1x8x1024_S1x1x1024_0_2_0) := by
  by_cases h0 : t.val % 32 = 0
  · rw [leftAt_first m c t h0]; unfold leftFirst; dsimp only; unfold runFirst
    frame_out
    simp only [Rows.readCov_whole]
    rfl
  have w := weights m (t.val - 1) (Nat.lt_of_le_of_lt (Nat.sub_le _ _) t.isLt) (c := c)
  by_cases h1 : t.val % 8 = 0
  · rw [leftAt_row m c t h0 h1]; unfold leftRow; dsimp only; unfold runRow leftBefore
    frame_out
    simp only [read_unread_whole, w]
    rfl
  · rw [leftAt_next m c t h0 h1]; unfold leftNext; dsimp only; unfold runNext leftBefore
    frame_out
    simp only [read_unread_whole, w]
    rfl

end Cert.FfnBwd.Array

end
-- ==== Proof.FfnBwd.Sums.lean ====
/- What a grid point adds to the two results that are summed over grid points. -/
module

public import proofs.«01_k».proof.Proof.FfnBwd.Blocks
public import proofs.«01_k».proof.Proof.FfnBwd.Left

@[expose] public section

set_option maxRecDepth 16384

noncomputable section

namespace Cert.FfnBwd.Array

open Cert.Kernel5Ideal Cert.Kernel5Ideal.Gen Idealize.ShloMosaic Idealize.ShloMosaic.TcCoe Idealize.SL.Sem
open Idealize.ShloMosaic.Pipeline (Dat)
open Cert.Grad Cert.Lift Cert.FfnBwd Cert.FfnBwd.Frame

variable (m : (ℓ : Loc nD τ sig) → Buf (Elt Ideal) ℓ) {p : Data} {c : Dev nD}

/-- A weight matrix copied whole is the matrix. -/
theorem copied53 : ReadAs.same.apply (View.read (Elt Ideal) (View.whole main_v53) (V m c main_v53)) = V m c main_v53 := rfl
theorem copied56 : ReadAs.same.apply (View.read (Elt Ideal) (View.whole main_v56) (V m c main_v56)) = V m c main_v56 := rfl
theorem copied58 : ReadAs.same.apply (View.read (Elt Ideal) (View.whole main_v58) (V m c main_v58)) = V m c main_v58 := rfl

/-- What grid point `t` adds to the gain's row. -/
def term (p : Data) (t : Fin cfg0.N) (r : Fin 8) (l : Fin 1024) : EReal :=
  if r.val = 0 then ((∑ s, dn p (bat t) (pos t s) l * xr 1024 (x1 p (bat t) (pos t s)) l : ℝ) : EReal) else 0

set_option maxHeartbeats 2000000 in
theorem first13 (h : Mem m p c) (t : Fin cfg0.N) (h0 : t.val % 32 = 0) (r : Fin 8) (l : Fin 1024) :
    (leftAt m c t.val t.isLt).2.2.2.2.2.1 (ix2 r l) = 0 + term p t r l := by
  have z : ∀ i, k0_pay2 (F := Ideal) i = 0 := fun i => by pointwise [k0_pay2]
  rw [leftAt_first m c t h0]; unfold leftFirst; dsimp only; unfold runFirst
  frame_out
  simp only [Rows.readCov_whole]; rw [copied53, copied56, copied58]
  unfold term
  rw [Rows.canon_row, Rows.canon_fill, z]
  by_cases hk : r.val = 0
  · rw [if_pos hk, if_pos hk]
    refine (Block.gain_at (blk m h t) inb_S1x8x1024_S1x1x1024_0_4_0 _ l).trans ?_
    rw [Rows.readCov_rows, Rows.canon_fill, z]
  · rw [if_neg hk, if_neg hk, add_zero]

set_option maxHeartbeats 2000000 in
theorem next13 (h : Mem m p c) (t : Fin cfg0.N) (h0 : ¬t.val % 32 = 0) (r : Fin 8) (l : Fin 1024) :
    (leftAt m c t.val t.isLt).2.2.2.2.2.1 (ix2 r l)
      = (leftAt m c (t.val - 1) (Nat.lt_of_le_of_lt (Nat.sub_le _ _) t.isLt)).2.2.2.2.2.1 (ix2 r l) + term p t r l := by
  have w := weights m (t.val - 1) (Nat.lt_of_le_of_lt (Nat.sub_le _ _) t.isLt) (c := c)
  unfold term
  by_cases h1 : t.val % 8 = 0
  · rw [leftAt_row m c t h0 h1]; unfold leftRow; dsimp only; unfold runRow leftBefore
    frame_out
    simp only [read_unread_whole, w]
    rw [Rows.read_row]
    by_cases hk : r.val = 0
    · rw [if_pos hk, if_pos hk]
      refine (Block.gain_at (blk m h t) inb_S1x8x1024_S1x1x1024_0_4_0 _ l).trans ?_
      rw [Rows.ld_rows, show (⟨0 + ((0 : Fin 1) : ℕ), by decide⟩ : Fin 8) = r from Fin.ext (by simpa using hk.symm)]
    · rw [if_neg hk, if_neg hk, add_zero]
      exact congrFun (Memref.IsWhole.read_unread _ _) _
  · rw [leftAt_next m c t h0 h1]; unfold leftNext; dsimp only; unfold runNext leftBefore
    frame_out
    simp only [read_unread_whole, w]
    rw [Rows.read_row]
    by_cases hk : r.val = 0
    · rw [if_pos hk, if_pos hk]
      refine (Block.gain_at (blk m h t) inb_S1x8x1024_S1x1x1024_0_4_0 _ l).trans ?_
      rw [Rows.ld_rows, show (⟨0 + ((0 : Fin 1) : ℕ), by decide⟩ : Fin 8) = r from Fin.ext (by simpa using hk.symm)]
    · rw [if_neg hk, if_neg hk, add_zero]
      exact congrFun (Memref.IsWhole.read_unread _ _) _

/-- What grid point `t` adds to the rows of the mixing part's gate, the scale and the shift. -/
def term2 (p : Data) (t : Fin cfg0.N) (r : Fin 8) (l : Fin 1024) : EReal :=
  if r.val = 2 then ((∑ s, dx p (bat t) (pos t s) l * p.MIX (bat t) (pos t s) l : ℝ) : EReal)
  else if r.val = 1 then ((∑ s, dh p (bat t) (pos t s) l * (xr 1024 (x1 p (bat t) (pos t s)) l * p.G l) : ℝ) : EReal)
  else if r.val = 0 then ((∑ s, dh p (bat t) (pos t s) l : ℝ) : EReal) else 0

set_option maxHeartbeats 2000000 in
theorem first14 (h : Mem m p c) (t : Fin cfg0.N) (h8 : t.val % 8 = 0) (r : Fin 8) (l : Fin 1024) :
    (leftAt m c t.val t.isLt).2.2.2.2.2.2.1 (ix3 0 r l) = 0 + term2 p t r l := by
  have z : ∀ i, k0_pay3 (F := Ideal) i = 0 := fun i => by pointwise [k0_pay3]
  unfold term2
  by_cases h0 : t.val % 32 = 0
  · rw [leftAt_first m c t h0]; unfold leftFirst; dsimp only; unfold runFirst
    frame_out
    simp only [Rows.readCov_whole]; rw [copied53, copied56, copied58]
    rw [Rows.canon_row3, Rows.canon_row3, Rows.canon_row3, Rows.canon_fill3, z]
    by_cases h2 : r.val = 2
    · rw [if_pos h2, if_pos h2]
      refine (Block.gm_at (blk m h t) inb_S1x8x1024_S1x1x1024_0_4_0 _ l).trans ?_
      rw [Rows.readCov_row3, Rows.canon_row3, Rows.canon_row3, Rows.canon_fill3, z]
      rfl
    rw [if_neg h2, if_neg h2]
    by_cases h1 : r.val = 1
    · rw [if_pos h1, if_pos h1]
      refine (Block.scale_at (blk m h t) _ l).trans ?_
      rw [Rows.readCov_row3, Rows.canon_row3, Rows.canon_fill3, z]
      rfl
    rw [if_neg h1, if_neg h1]
    by_cases hk : r.val = 0
    · rw [if_pos hk, if_pos hk]
      refine (Block.shift_at (blk m h t) _ l).trans ?_
      rw [Rows.readCov_row3, Rows.canon_fill3, z]
    · rw [if_neg hk, if_neg hk, add_zero]
  · have w := weights m (t.val - 1) (Nat.lt_of_le_of_lt (Nat.sub_le _ _) t.isLt) (c := c)
    rw [leftAt_row m c t h0 h8]; unfold leftRow; dsimp only; unfold runRow leftBefore
    frame_out
    simp only [Rows.readCov_whole, read_unread_whole, w]
    rw [Rows.canon_row3, Rows.canon_row3, Rows.canon_row3, Rows.canon_fill3, z]
    by_cases h2 : r.val = 2
    · rw [if_pos h2, if_pos h2]
      refine (Block.gm_at (blk m h t) inb_S1x8x1024_S1x1x1024_0_4_0 _ l).trans ?_
      rw [Rows.readCov_row3, Rows.canon_row3, Rows.canon_row3, Rows.canon_fill3, z]
      rfl
    rw [if_neg h2, if_neg h2]
    by_cases h1 : r.val = 1
    · rw [if_pos h1, if_pos h1]
      refine (Block.scale_at (blk m h t) _ l).trans ?_
      rw [Rows.readCov_row3, Rows.canon_row3, Rows.canon_fill3, z]
      rfl
    rw [if_neg h1, if_neg h1]
    by_cases hk : r.val = 0
    · rw [if_pos hk, if_pos hk]
      refine (Block.shift_at (blk m h t) _ l).trans ?_
      rw [Rows.readCov_row3, Rows.canon_fill3, z]
    · rw [if_neg hk, if_neg hk, add_zero]

set_option maxHeartbeats 2000000 in
theorem next14 (h : Mem m p c) (t : Fin cfg0.N) (h8 : ¬t.val % 8 = 0) (r : Fin 8) (l : Fin 1024) :
    (leftAt m c t.val t.isLt).2.2.2.2.2.2.1 (ix3 0 r l)
      = (leftAt m c (t.val - 1) (Nat.lt_of_le_of_lt (Nat.sub_le _ _) t.isLt)).2.2.2.2.2.2.1 (ix3 0 r l) + term2 p t r l := by
  have w := weights m (t.val - 1) (Nat.lt_of_le_of_lt (Nat.sub_le _ _) t.isLt) (c := c)
  unfold term2
  rw [leftAt_next m c t (by omega) h8]; unfold leftNext; dsimp only; unfold runNext leftBefore
  frame_out
  simp only [read_unread_whole, w]
  rw [Rows.read_row3, Rows.read_row3, Rows.read_row3]
  by_cases h2 : r.val = 2
  · rw [if_pos h2, if_pos h2]
    refine (Block.gm_at (blk m h t) inb_S1x8x1024_S1x1x1024_0_4_0 _ l).trans ?_
    rw [Rows.ld_row3, show (⟨2, by decide⟩ : Fin 8) = r from Fin.ext h2.symm]
  rw [if_neg h2, if_neg h2]
  by_cases h1 : r.val = 1
  · rw [if_pos h1, if_pos h1]
    refine (Block.scale_at (blk m h t) _ l).trans ?_
    rw [Rows.ld_row3, show (⟨1, by decide⟩ : Fin 8) = r from Fin.ext h1.symm]
  rw [if_neg h1, if_neg h1]
  by_cases hk : r.val = 0
  · rw [if_pos hk, if_pos hk]
    refine (Block.shift_at (blk m h t) _ l).trans ?_
    rw [Rows.ld_row3, show (⟨0, by decide⟩ : Fin 8) = r from Fin.ext hk.symm]
  · rw [if_neg hk, if_neg hk, add_zero]
    exact congrFun (Memref.IsWhole.read_unread _ _) _

end Cert.FfnBwd.Array

end
-- ==== Proof.FfnBwd.Array.lean ====
/- What the seven result arrays of the feed-forward block's gradient hold after the run. -/
module

public import proofs.«01_k».proof.Proof.FfnBwd.Sums

@[expose] public section

set_option maxRecDepth 16384

noncomputable section

namespace Cert.FfnBwd.Array

open Cert.Kernel5Ideal Cert.Kernel5Ideal.Gen Idealize.ShloMosaic Idealize.ShloMosaic.TcCoe Idealize.SL.Sem
open Idealize.ShloMosaic.Pipeline (Dat)
open Cert.Grad Cert.Lift Cert.FfnBwd Cert.FfnBwd.Frame

variable (m : (ℓ : Loc nD τ sig) → Buf (Elt Ideal) ℓ) {p : Data} {c : Dev nD}

set_option maxHeartbeats 2000000 in
theorem final8 (h : Mem m p c) : (dats m 0 c).arrAt 8 cfg0.N = out0 p := by
  refine (dats m 0 c).arrAt_eq_of_covers 8 _ (by decide +kernel) fun t hf y => ?_
  obtain ⟨a, r, l, rfl⟩ : ∃ (a : Fin 11) (r : Fin 256) (l : Fin 256), y = ix3 a r l := ⟨_, _, _, eq_ix3 y⟩
  have e : ((cfg0.win 8).blk t).view.emb (ix3 a r l) = ix3 a (row t r) l := by blk_ext [idx t, row]
  refine Eq.trans ?_ (congrArg (out0 p) e).symm
  refine Eq.trans ?_ (congrArg₂ (fun b s => ((dgate p b s ⟨a.val * 256 + l.val, by omega⟩ : ℝ) : EReal)) (row_div t r _) (row_mod t r _)).symm
  rw [after8, dgateArr]
  exact Block.dgate_at (blk m h t) a r l

set_option maxHeartbeats 2000000 in
theorem final9 (h : Mem m p c) : (dats m 0 c).arrAt 9 cfg0.N = out1 p := by
  refine (dats m 0 c).arrAt_eq_of_covers 9 _ (by decide +kernel) fun t hf y => ?_
  obtain ⟨a, r, l, rfl⟩ : ∃ (a : Fin 11) (r : Fin 256) (l : Fin 256), y = ix3 a r l := ⟨_, _, _, eq_ix3 y⟩
  have e : ((cfg0.win 9).blk t).view.emb (ix3 a r l) = ix3 a (row t r) l := by blk_ext [idx t, row]
  refine Eq.trans ?_ (congrArg (out1 p) e).symm
  refine Eq.trans ?_ (congrArg₂ (fun b s => ((dup p b s ⟨a.val * 256 + l.val, by omega⟩ : ℝ) : EReal)) (row_div t r _) (row_mod t r _)).symm
  rw [after9, dupArr]
  exact Block.dup_at (blk m h t) a r l

set_option maxHeartbeats 2000000 in
theorem final10 (h : Mem m p c) : (dats m 0 c).arrAt 10 cfg0.N = out2 p := by
  refine (dats m 0 c).arrAt_eq_of_covers 10 _ (by decide +kernel) fun t hf y => ?_
  obtain ⟨a, r, l, rfl⟩ : ∃ (a : Fin 11) (r : Fin 256) (l : Fin 256), y = ix3 a r l := ⟨_, _, _, eq_ix3 y⟩
  have e : ((cfg0.win 10).blk t).view.emb (ix3 a r l) = ix3 a (row t r) l := by blk_ext [idx t, row]
  refine Eq.trans ?_ (congrArg (out2 p) e).symm
  refine Eq.trans ?_ (congrArg₂ (fun b s => ((act p b s ⟨a.val * 256 + l.val, by omega⟩ : ℝ) : EReal)) (row_div t r _) (row_mod t r _)).symm
  rw [after10, actArr]
  exact Block.act_at (blk m h t) a r l

set_option maxHeartbeats 2000000 in
theorem final11 (h : Mem m p c) : (dats m 0 c).arrAt 11 cfg0.N = out3 p := by
  refine (dats m 0 c).arrAt_eq_of_covers 11 _ (by decide +kernel) fun t hf y => ?_
  obtain ⟨r, l, rfl⟩ : ∃ (r : Fin 256) (l : Fin 1024), y = ix2 r l := ⟨_, _, eq_ix2 y⟩
  have e : ((cfg0.win 11).blk t).view.emb (ix2 r l) = ix2 (row t r) l := by blk_ext [idx t, row]
  refine Eq.trans ?_ (congrArg (out3 p) e).symm
  refine Eq.trans ?_ (congrArg₂ (fun b s => ((dx p b s l : ℝ) : EReal)) (row_div t r _) (row_mod t r _)).symm
  rw [after11, dxArr]
  exact Block.dx_at (blk m h t) inb_S1x8x1024_S1x1x1024_0_4_0 r l

set_option maxHeartbeats 2000000 in
theorem final12 (h : Mem m p c) : (dats m 0 c).arrAt 12 cfg0.N = out4 p := by
  refine (dats m 0 c).arrAt_eq_of_covers 12 _ (by decide +kernel) fun t hf y => ?_
  obtain ⟨r, l, rfl⟩ : ∃ (r : Fin 256) (l : Fin 1024), y = ix2 r l := ⟨_, _, eq_ix2 y⟩
  have e : ((cfg0.win 12).blk t).view.emb (ix2 r l) = ix2 (row t r) l := by blk_ext [idx t, row]
  refine Eq.trans ?_ (congrArg (out4 p) e).symm
  refine Eq.trans ?_ (congrArg₂ (fun b s => ((dmix p b s l : ℝ) : EReal)) (row_div t r _) (row_mod t r _)).symm
  rw [after12, dmixArr]
  exact Block.dmix_at (blk m h t) inb_S1x8x1024_S1x1x1024_0_4_0 inb_S1x8x1024_S1x1x1024_0_2_0 r l

/-- A sum over all tokens, grid point by grid point. -/
theorem sum_points (f : Fin 4 → Fin 2048 → ℝ) (g : Fin 32 → Fin cfg0.N) (hg : ∀ s, (g s).val = s.val) :
    ∑ s : Fin 32, ((∑ k : Fin 256, f (bat (g s)) (pos (g s) k) : ℝ) : EReal) = ((∑ b, ∑ s, f b s : ℝ) : EReal) := by
  rw [coe_sum]
  refine congrArg _ ((Fin.sum_mul_add_congr (S := 4) (n := 8) (F := fun b i => ∑ k : Fin 256, f (bat (g ⟨b.val * 8 + i.val, by omega⟩))
    (pos (g ⟨b.val * 8 + i.val, by omega⟩) k)) fun b i _ => rfl).symm.trans (Finset.sum_congr rfl fun b _ => ?_))
  refine Fin.sum_mul_add_congr fun i k hl => congrArg₂ f (Fin.ext ?_) (Fin.ext ?_)
  · show (g _).val / 8 = b.val; rw [hg]; show (b.val * 8 + i.val) / 8 = b.val; omega
  · show 256 * ((g _).val % 8) + k.val = i.val * 256 + k.val; rw [hg]
    show 256 * ((b.val * 8 + i.val) % 8) + k.val = i.val * 256 + k.val; omega

set_option maxHeartbeats 2000000 in
theorem final13 (h : Mem m p c) : (dats m 0 c).arrAt 13 cfg0.N = out5 p := by
  refine (dats m 0 c).arrAt_eq_of_covers 13 _ (by decide +kernel) fun t hf y => ?_
  obtain ⟨r, l, rfl⟩ : ∃ (r : Fin 8) (l : Fin 1024), y = ix2 r l := ⟨_, _, eq_ix2 y⟩
  have e : ((cfg0.win 13).blk t).view.emb (ix2 r l) = ix2 r l := by blk_ext [idx t]
  refine Eq.trans ?_ (congrArg (out5 p) e).symm
  have ht : t.val / 32 = 0 := by have := lt t; omega
  rw [after13, Pipeline.eq_sum_fin_of_reset_step_apply_of_flush (fun n h => (leftAt m c n h).2.2.2.2.2.1) 32 (fun _ => 0)
    (fun t j => term p t (j 0) (j 1)) (fun t h0 j => (congrArg _ (eq_ix2 j)).trans (first13 m h t h0 (j 0) (j 1)))
    (fun t h0 j => by rw [eq_ix2 j]; exact next13 m h t h0 (j 0) (j 1)) t ((flush0_13 t).mp hf) _, zero_add]
  show ∑ s : Fin 32, term p _ r l = out5 p (ix2 r l)
  unfold term out5
  by_cases h1 : r.val = 0
  · simp only [h1, if_true]
    exact (sum_points (fun b s => dn p b s l * xr 1024 (x1 p b s) l) _ fun s => by show 32 * (t.val / 32) + s.val = s.val; omega).trans
      (by simp [h1, dg])
  · simp only [h1, if_false]
    simp [h1]

set_option maxHeartbeats 2000000 in
theorem final14 (h : Mem m p c) : (dats m 0 c).arrAt 14 cfg0.N = out6 p := by
  refine (dats m 0 c).arrAt_eq_of_covers 14 _ (by decide +kernel) fun t hf y => ?_
  obtain ⟨r, l, rfl⟩ : ∃ (r : Fin 8) (l : Fin 1024), y = ix3 0 r l := Rows.exists_ix3 y
  have e : ((cfg0.win 14).blk t).view.emb (ix3 0 r l) = ix3 (bat t) r l := by blk_ext [idx t, bat]
  refine Eq.trans ?_ (congrArg (out6 p) e).symm
  rw [after14, Pipeline.eq_sum_fin_of_reset_step_apply_of_flush (fun n h => (leftAt m c n h).2.2.2.2.2.2.1) 8 (fun _ => 0)
    (fun t j => term2 p t (j 1) (j 2)) (fun t h0 j => by
      obtain ⟨r, l, rfl⟩ : ∃ (r : Fin 8) (l : Fin 1024), j = ix3 0 r l := Rows.exists_ix3 j
      exact first14 m h t h0 r l)
    (fun t h0 j => by
      obtain ⟨r, l, rfl⟩ : ∃ (r : Fin 8) (l : Fin 1024), j = ix3 0 r l := Rows.exists_ix3 j
      exact next14 m h t h0 r l) t ((flush0_14 t).mp hf) _, zero_add]
  have hsum : ∀ f : Fin 4 → Fin 2048 → ℝ, ∑ s : Fin 8, ((∑ k : Fin 256, f (bat ⟨8 * (t.val / 8) + s.val, Pipeline.run_point_lt_of_flush t ((flush0_14 t).mp hf) s⟩)
      (pos ⟨8 * (t.val / 8) + s.val, Pipeline.run_point_lt_of_flush t ((flush0_14 t).mp hf) s⟩ k) : ℝ) : EReal) = ((∑ s, f (bat t) s : ℝ) : EReal) := fun f => by
    rw [coe_sum]
    exact congrArg _ (Fin.sum_mul_add_congr fun s k hl => congrArg₂ f (Fin.ext (by show (8 * (t.val / 8) + s.val) / 8 = t.val / 8; omega)) (Fin.ext (by
      show 256 * ((8 * (t.val / 8) + s.val) % 8) + k.val = s.val * 256 + k.val; omega)))
  show ∑ s : Fin 8, term2 p _ r l = out6 p (ix3 (bat t) r l)
  unfold term2 out6
  by_cases h2 : r.val = 2
  · simp only [h2, if_true]
    exact (hsum fun b s => dx p b s l * p.MIX b s l).trans (by simp [h2, dgm])
  by_cases h1 : r.val = 1
  · simp only [h1, if_true, show ¬(1 = 2) by decide, if_false]
    exact (hsum fun b s => dh p b s l * (xr 1024 (x1 p b s) l * p.G l)).trans (by simp [h1, dsc])
  · by_cases h0 : r.val = 0
    · simp only [h0, if_true, zero_ne_one, show ¬(0 = 2) by decide, if_false]
      exact (hsum fun b s => dh p b s l).trans (by simp [h0, dsh])
    · simp only [h0, h1, h2, if_false]
      simp [h0, h1, h2]

end Cert.FfnBwd.Array

end
-- ==== Proof.FfnBwd.Reference.lean ====
/- The reference's seven results over real arguments are the real formulas. -/
module

public import proofs.«01_k».proof.Proof.Gen.Reference5Ideal.Read
public import proofs.«01_k».proof.Proof.FfnBwd.Spec

@[expose] public section

set_option maxRecDepth 16384

noncomputable section

namespace Cert.FfnBwd.Ref

open Cert.Reference5Ideal Cert.Reference5Ideal.Gen Cert.Reference5Ideal.Read Idealize.ShloMosaic Idealize.ShloMosaic.TcCoe Idealize.SL.Sem
open Cert.Grad Cert.Lift Cert.FfnBwd

variable {p : Data} {x0 x1 : FVec Ideal S4x2048x1024 .f32} {x2 : FVec Ideal S4x6144 .f32} {x3 : FVec Ideal S1x1024 .f32}
  {x4 x5 : FVec Ideal S1x1024x2816 .f32} {x6 : FVec Ideal S1x2816x1024 .f32} {x7 : FVec Ideal S4x2048x1024 .f32}
  (h : Holds p x0 x1 x2 x3 x4 x5 x6 x7)
include h

theorem v10 (b : Fin 4) (s : Fin 2048) (l : Fin 1024) : val_main_v10 (F := Ideal) x0 x1 x2 (ix3 b s l) = ((FfnBwd.x1 p b s l : ℝ) : EReal) := by
  pointwise [val_main_v10, val_main_v9, val_main_v8, val_main_v7, val_main_v2]
  rw [h.x, h.mix, h.m, ← EReal.coe_mul, ← EReal.coe_add]; rfl

theorem v18 (b : Fin 4) (s : Fin 2048) : val_main_v18 (F := Ideal) x0 x1 x2 (ix3 b s 0) = ((ms 1024 (FfnBwd.x1 p b s) : ℝ) : EReal) := by
  pointwise [val_main_v18, val_main_v17, val_main_v16, val_main_v15, val_main_v14, val_main_v13, val_main_v12, val_main_cst_0, val_main_cst_1, val_main_cst_2]
  simp only [v10 h, w1024, coe_sum, zero_add, wEps, ← EReal.coe_mul]
  rw [div_coe (by norm_num), ← EReal.coe_add]; rfl

theorem v19 (b : Fin 4) (s : Fin 2048) : val_main_v19 (F := Ideal) x0 x1 x2 (ix3 b s 0) = ((rr 1024 (FfnBwd.x1 p b s) : ℝ) : EReal) := by
  pointwise [val_main_v19]
  rw [v18 h, rsqrt_coe (ms_pos (by norm_num) _)]; rfl

theorem v22 (b : Fin 4) (s : Fin 2048) :
    val_main_v22 (F := Ideal) x0 x1 x2 (ix3 b s 0) = (((-1 / 2) * (rr 1024 (FfnBwd.x1 p b s) / ms 1024 (FfnBwd.x1 p b s)) : ℝ) : EReal) := by
  pointwise [val_main_v22, val_main_v21, val_main_v20, val_main_cst_3]
  rw [v18 h, v19 h, wNegHalf, div_coe (ms_pos (by norm_num) _).ne', ← EReal.coe_mul]

theorem v24 (b : Fin 4) (s : Fin 2048) (l : Fin 1024) :
    val_main_v24 (F := Ideal) x0 x1 x2 (ix3 b s l) = ((xr 1024 (FfnBwd.x1 p b s) l : ℝ) : EReal) := by
  pointwise [val_main_v24, val_main_v23]
  rw [v19 h, v10 h, ← EReal.coe_mul]; rfl

theorem v27 (b : Fin 4) (s : Fin 2048) (l : Fin 1024) :
    val_main_v27 (F := Ideal) x0 x1 x2 x3 (ix3 b s l) = ((xr 1024 (FfnBwd.x1 p b s) l * p.G l : ℝ) : EReal) := by
  pointwise [val_main_v27, val_main_v26, val_main_v25, val_main_v11]
  rw [v24 h, h.g, ← EReal.coe_mul]

theorem v35 (b : Fin 4) (s : Fin 2048) (l : Fin 1024) : val_main_v35 (F := Ideal) x0 x1 x2 x3 (ix3 b s l) = ((FfnBwd.h p b s l : ℝ) : EReal) := by
  pointwise [val_main_v35, val_main_v34, val_main_v33, val_main_v32, val_main_v31, val_main_v30, val_main_v29, val_main_v28, val_main_v3, val_main_v4,
    val_main_cst_4]
  rw [v27 h, h.m, h.m, ← EReal.coe_one, ← EReal.coe_add, ← EReal.coe_mul, ← EReal.coe_add]; rfl

theorem v38 (b : Fin 4) (s : Fin 2048) (k : Fin 2816) : val_main_v38 (F := Ideal) x0 x1 x2 x3 x4 (ix3 b s k) = ((gate p b s k : ℝ) : EReal) := by
  pointwise [val_main_v38, val_main_v37, val_main_v36, val_main_v6, val_main_cst]
  simp only [v35 h, h.wg, ← EReal.coe_mul, coe_sum, add_zero]; rfl

theorem v41 (b : Fin 4) (s : Fin 2048) (k : Fin 2816) : val_main_v41 (F := Ideal) x0 x1 x2 x3 x5 (ix3 b s k) = ((up p b s k : ℝ) : EReal) := by
  pointwise [val_main_v41, val_main_v40, val_main_v39, val_main_v6, val_main_cst]
  simp only [v35 h, h.wu, ← EReal.coe_mul, coe_sum, add_zero]; rfl

theorem sg (b : Fin 4) (s : Fin 2048) (k : Fin 2816) :
    val_main_v42_2 (F := Ideal) x0 x1 x2 x3 x4 (ix3 b s k) = ((sig (gate p b s k) : ℝ) : EReal) := by
  pointwise [val_main_v42_2, val_main_call0_v4, val_main_call0_v3, val_main_call0_v2, val_main_call0_v1, val_main_call0_v0, val_main_call0_cst,
    val_main_call0_cst_0]
  rw [v38 h, ← EReal.coe_neg, sig_coe]

theorem v43 (b : Fin 4) (s : Fin 2048) (k : Fin 2816) :
    val_main_v43 (F := Ideal) x0 x1 x2 x3 x4 x5 (ix3 b s k) = ((act p b s k : ℝ) : EReal) := by
  pointwise [val_main_v43, val_main_v42_0]
  rw [sg h, v38 h, v41 h, ← EReal.coe_mul, ← EReal.coe_mul]; rfl

theorem v54 (b : Fin 4) (s : Fin 2048) (k : Fin 2816) : val_main_v54 (F := Ideal) x2 x6 x7 (ix3 b s k) = ((dact p b s k : ℝ) : EReal) := by
  pointwise [val_main_v54, val_main_v53, val_main_v52, val_main_v51, val_main_v45, val_main_v44, val_main_v5]
  simp only [h.m, h.dy, h.wd, ← EReal.coe_mul, coe_sum]; rfl

theorem v55 (b : Fin 4) (s : Fin 2048) (k : Fin 2816) :
    val_main_v55 (F := Ideal) x0 x1 x2 x3 x4 x6 x7 (ix3 b s k) = ((dup p b s k : ℝ) : EReal) := by
  pointwise [val_main_v55, val_main_v42_0]
  rw [sg h, v38 h, v54 h, ← EReal.coe_mul, ← EReal.coe_mul, mul_comm]; rfl

theorem v57 (b : Fin 4) (s : Fin 2048) (k : Fin 2816) :
    val_main_v57 (F := Ideal) x0 x1 x2 x3 x4 x5 x6 x7 (ix3 b s k) = ((dgate p b s k : ℝ) : EReal) := by
  pointwise [val_main_v57, val_main_call1_v2, val_main_call1_v1, val_main_call1_v0, val_main_v56, val_main_v42_1, val_main_call0_v7, val_main_call0_v6,
    val_main_call0_cst_1]
  rw [sg h, v38 h, v54 h, v41 h, ← EReal.coe_one]
  simp only [← EReal.coe_mul, ← EReal.coe_sub, ← EReal.coe_add]
  exact congrArg _ (by rw [dgate, dsilu]; ring)

theorem v60 (b : Fin 4) (s : Fin 2048) (l : Fin 1024) :
    val_main_v60 (F := Ideal) x0 x1 x2 x3 x4 x5 x6 x7 (ix3 b s l) = ((dh p b s l : ℝ) : EReal) := by
  pointwise [val_main_v60, val_main_v59, val_main_v58, val_main_v36, val_main_v39]
  simp only [v55 h, v57 h, h.wg, h.wu, ← EReal.coe_mul, coe_sum, ← EReal.coe_add]
  rw [add_comm, ← Finset.sum_add_distrib]; rfl

theorem v67 (b : Fin 4) (s : Fin 2048) (l : Fin 1024) :
    val_main_v67 (F := Ideal) x0 x1 x2 x3 x4 x5 x6 x7 (ix3 b s l) = ((dn p b s l : ℝ) : EReal) := by
  pointwise [val_main_v67, val_main_v66, val_main_v31, val_main_v30, val_main_v29, val_main_v4, val_main_cst_4]
  rw [v60 h, h.m, ← EReal.coe_one, ← EReal.coe_add, ← EReal.coe_mul]; rfl

theorem v74 (b : Fin 4) (s : Fin 2048) (l : Fin 1024) :
    val_main_v74 (F := Ideal) x0 x1 x2 x3 x4 x5 x6 x7 (ix3 b s l) = ((dn p b s l * p.G l : ℝ) : EReal) := by
  pointwise [val_main_v74, val_main_v73, val_main_v25, val_main_v11]
  rw [v67 h, h.g, ← EReal.coe_mul]

theorem v84 (b : Fin 4) (s : Fin 2048) :
    val_main_v84 (F := Ideal) x0 x1 x2 x3 x4 x5 x6 x7 (ix3 b s 0) = ((rmsT 1024 (FfnBwd.x1 p b s) (fun k => dn p b s k * p.G k) : ℝ) : EReal) := by
  pointwise [val_main_v84, val_main_v83, val_main_v82, val_main_v78, val_main_v77, val_main_v76, val_main_cst_11, val_main_cst_12]
  simp only [v74 h, v22 h, v10 h, w1024, coe_sum, zero_add, ← EReal.coe_mul]
  rw [div_coe (by norm_num)]; rfl

theorem v90 (b : Fin 4) (s : Fin 2048) (l : Fin 1024) :
    val_main_v90 (F := Ideal) x0 x1 x2 x3 x4 x5 x6 x7 (ix3 b s l) = ((dx p b s l : ℝ) : EReal) := by
  pointwise [val_main_v90, val_main_v89, val_main_v88, val_main_v87, val_main_v86, val_main_v85, val_main_v81, val_main_v80, val_main_v79, val_main_v50,
    val_main_cst_13]
  simp only [Fin.sum_univ_one, v84 h, v74 h, v19 h, v10 h, h.dy, zero_add, ← EReal.coe_mul, ← EReal.coe_add]
  rw [dx, ← rmsVjp_eq (by norm_num)]
  simp only [add_assoc]

theorem v93 (b : Fin 4) (s : Fin 2048) (l : Fin 1024) :
    val_main_v93 (F := Ideal) x0 x1 x2 x3 x4 x5 x6 x7 (ix3 b s l) = ((dmix p b s l : ℝ) : EReal) := by
  pointwise [val_main_v93, val_main_v92, val_main_v7, val_main_v2]
  rw [v90 h, h.m, ← EReal.coe_mul]; rfl

theorem out0_eq : val_main_v100 (F := Ideal) x0 x1 x2 x3 x4 x5 x6 x7 = out0 p := by
  funext i
  idx_vars i
  pointwise [val_main_v100, val_main_v99, val_main_v98]
  exact v57 h _ _ _

theorem out1_eq : val_main_v103 (F := Ideal) x0 x1 x2 x3 x4 x6 x7 = out1 p := by
  funext i
  idx_vars i
  pointwise [val_main_v103, val_main_v102, val_main_v101]
  exact v55 h _ _ _

theorem out2_eq : val_main_v106 (F := Ideal) x0 x1 x2 x3 x4 x5 = out2 p := by
  funext i
  idx_vars i
  pointwise [val_main_v106, val_main_v105, val_main_v104]
  exact v43 h _ _ _

theorem out3_eq : val_main_v107 (F := Ideal) x0 x1 x2 x3 x4 x5 x6 x7 = out3 p := by
  funext i
  idx_vars i
  pointwise [val_main_v107]
  exact v90 h _ _ _

theorem out4_eq : val_main_v109 (F := Ideal) x0 x1 x2 x3 x4 x5 x6 x7 = out4 p := by
  funext i
  idx_vars i
  pointwise [val_main_v109, val_main_v108]
  exact v93 h _ _ _

theorem v71 (l : Fin 1024) : val_main_v71 (F := Ideal) x0 x1 x2 x3 x4 x5 x6 x7 (ix1 l) = ((dg p l : ℝ) : EReal) := by
  pointwise [val_main_v71, val_main_v70, val_main_cst_9]
  rw [reduce01]
  pointwise
  simp only [v24 h, v67 h, ← EReal.coe_mul, coe_sum, zero_add, mul_comm (xr _ _ _)]; rfl

theorem out5_eq : val_main_v113 (F := Ideal) x0 x1 x2 x3 x4 x5 x6 x7 = out5 p := by
  funext i
  idx_vars i
  pointwise [val_main_v113, val_main_v112, val_main_v111, val_main_v110, val_main_v91, val_main_v75, val_main_v72, val_main_cst_10, val_main_cst_16]
  rw [reduce01]
  pointwise
  simp only [v71 h, zero_add, Fin.sum_univ_one]
  fin_vals i0 with hk
  all_goals (simp only [hk, Nat.reduceSub, Nat.reduceLT, ↓reduceDIte]; simp [out5, hk])

theorem v61 (b : Fin 4) (l : Fin 1024) : val_main_v61 (F := Ideal) x0 x1 x2 x3 x4 x5 x6 x7 (ix2 b l) = ((dsh p b l : ℝ) : EReal) := by
  pointwise [val_main_v61, val_main_cst_5]
  simp only [v60 h, coe_sum, zero_add]; rfl

theorem v64 (b : Fin 4) (l : Fin 1024) : val_main_v64 (F := Ideal) x0 x1 x2 x3 x4 x5 x6 x7 (ix2 b l) = ((dsc p b l : ℝ) : EReal) := by
  pointwise [val_main_v64, val_main_v63, val_main_cst_6]
  simp only [v27 h, v60 h, ← EReal.coe_mul, coe_sum, zero_add, mul_comm (_ * p.G _)]; rfl

theorem v95 (b : Fin 4) (l : Fin 1024) : val_main_v95 (F := Ideal) x0 x1 x2 x3 x4 x5 x6 x7 (ix2 b l) = ((dgm p b l : ℝ) : EReal) := by
  pointwise [val_main_v95, val_main_v94, val_main_cst_14]
  simp only [v90 h, h.mix, ← EReal.coe_mul, coe_sum, zero_add]; rfl

theorem out6_eq : val_main_v118 (F := Ideal) x0 x1 x2 x3 x4 x5 x6 x7 = out6 p := by
  funext i
  idx_vars i
  pointwise [val_main_v118, val_main_v117, val_main_v116, val_main_v115, val_main_v114, val_main_v97, val_main_v96, val_main_v69, val_main_v68, val_main_v65,
    val_main_v62, val_main_cst_7, val_main_cst_8, val_main_cst_15, val_main_cst_17]
  simp only [v61 h, v64 h, v95 h, zero_add, Fin.sum_univ_one]
  fin_vals i1 with hk
  all_goals (simp only [hk, Nat.reduceSub, Nat.reduceLT, ↓reduceDIte]; simp [out6, hk])

end Cert.FfnBwd.Ref

end
-- ==== Proof.FfnBwd.Claim.lean ====
/- The value claim of the gradient through the feed-forward block. -/
module

public import proofs.«01_k».proof.Defs
public import proofs.«01_k».proof.Proof.Gen.Pre_finite5
public import proofs.«01_k».proof.Proof.Gen.Reference5Ideal.Run
public import proofs.«01_k».proof.Proof.FfnBwd.Array
public import proofs.«01_k».proof.Proof.FfnBwd.Reference

@[expose] public section

set_option maxRecDepth 16384

noncomputable section

namespace Cert.FfnBwd

open Idealize.ShloMosaic Idealize.ShloMosaic.TcCoe Idealize.SL.Sem
open Cert.Lift

/-- Under the precondition the arguments are arrays of reals. -/
theorem holds_of_finite (x0 x1 : FVec Ideal ⟨3, ![4, 2048, 1024]⟩ .f32) (x2 : FVec Ideal ⟨2, ![4, 6144]⟩ .f32)
    (x3 : FVec Ideal ⟨2, ![1, 1024]⟩ .f32) (x4 x5 : FVec Ideal ⟨3, ![1, 1024, 2816]⟩ .f32) (x6 : FVec Ideal ⟨3, ![1, 2816, 1024]⟩ .f32)
    (x7 : FVec Ideal ⟨3, ![4, 2048, 1024]⟩ .f32)
    (h : Cert.Pre_finite5.fn (F := Ideal) x0 x1 x2 x3 x4 x5 x6 x7 = fun _ => 1#1) : ∃ p, Holds p x0 x1 x2 x3 x4 x5 x6 x7 := by
  have h := congrFun h (fun a => a.elim0)
  unfold Cert.Pre_finite5.fn Cert.Pre_finite5.fn_part1 at h
  obtain ⟨h, h7⟩ := andi_one h
  obtain ⟨h, h6⟩ := andi_one h
  obtain ⟨h, h5⟩ := andi_one h
  obtain ⟨h, h4⟩ := andi_one h
  obtain ⟨h, h3⟩ := andi_one h
  obtain ⟨h, h2⟩ := andi_one h
  obtain ⟨h0, h1⟩ := andi_one h
  choose f0 e0 using real_of_all x0 _ _ _ _ _ h0
  choose f1 e1 using real_of_all x1 _ _ _ _ _ h1
  choose f2 e2 using real_of_all x2 _ _ _ _ _ h2
  choose f3 e3 using real_of_all x3 _ _ _ _ _ h3
  choose f4 e4 using real_of_all x4 _ _ _ _ _ h4
  choose f5 e5 using real_of_all x5 _ _ _ _ _ h5
  choose f6 e6 using real_of_all x6 _ _ _ _ _ h6
  choose f7 e7 using real_of_all x7 _ _ _ _ _ h7
  exact ⟨⟨fun b s k => f0 (ix3 b s k), fun b s k => f1 (ix3 b s k), fun b k => f2 (ix2 b k), fun k => f3 (ix2 0 k), fun a k => f4 (ix3 0 a k),
    fun a k => f5 (ix3 0 a k), fun k a => f6 (ix3 0 k a), fun b s k => f7 (ix3 b s k)⟩, ⟨fun _ _ _ => e0 _, fun _ _ _ => e1 _, fun _ _ => e2 _,
    fun _ => e3 _, fun _ _ => e4 _, fun _ _ => e5 _, fun _ _ => e6 _, fun _ _ _ => e7 _⟩⟩

set_option maxHeartbeats 4000000 in
theorem algebraic : Cert.algebraic_Kernel5Ideal_Reference5Ideal_pre_finite5 := by
  pair_intro
  · run_from Cert.FfnBwd.Frame.run_blocks m g
  · choose p h using fun c => holds_of_finite _ _ _ _ _ _ _ _ (hpre c)
    run_from Cert.Reference5Ideal.Value.run m' g'
    · obtain ⟨e0, e1, e2, e3, e4, e5, e6, e7⟩ := hagree c
      rw [Cert.Reference5Ideal.Read.val_main_v100_eq]
      try simp only [e0, e1, e2, e3, e4, e5, e6, e7]
      exact (Ref.out0_eq (h c)).trans (Array.final8 m (h c)).symm
    · obtain ⟨e0, e1, e2, e3, e4, e5, e6, e7⟩ := hagree c
      rw [Cert.Reference5Ideal.Read.val_main_v103_eq]
      try simp only [e0, e1, e2, e3, e4, e5, e6, e7]
      exact (Ref.out1_eq (h c)).trans (Array.final9 m (h c)).symm
    · obtain ⟨e0, e1, e2, e3, e4, e5, e6, e7⟩ := hagree c
      rw [Cert.Reference5Ideal.Read.val_main_v106_eq]
      try simp only [e0, e1, e2, e3, e4, e5, e6, e7]
      exact (Ref.out2_eq (h c)).trans (Array.final10 m (h c)).symm
    · obtain ⟨e0, e1, e2, e3, e4, e5, e6, e7⟩ := hagree c
      rw [Cert.Reference5Ideal.Read.val_main_v107_eq]
      try simp only [e0, e1, e2, e3, e4, e5, e6, e7]
      exact (Ref.out3_eq (h c)).trans (Array.final11 m (h c)).symm
    · obtain ⟨e0, e1, e2, e3, e4, e5, e6, e7⟩ := hagree c
      rw [Cert.Reference5Ideal.Read.val_main_v109_eq]
      try simp only [e0, e1, e2, e3, e4, e5, e6, e7]
      exact (Ref.out4_eq (h c)).trans (Array.final12 m (h c)).symm
    · obtain ⟨e0, e1, e2, e3, e4, e5, e6, e7⟩ := hagree c
      rw [Cert.Reference5Ideal.Read.val_main_v113_eq]
      try simp only [e0, e1, e2, e3, e4, e5, e6, e7]
      exact (Ref.out5_eq (h c)).trans (Array.final13 m (h c)).symm
    · obtain ⟨e0, e1, e2, e3, e4, e5, e6, e7⟩ := hagree c
      rw [Cert.Reference5Ideal.Read.val_main_v118_eq]
      try simp only [e0, e1, e2, e3, e4, e5, e6, e7]
      exact (Ref.out6_eq (h c)).trans (Array.final14 m (h c)).symm

end Cert.FfnBwd

end
-- ==== Proof.Conv.Point.lean ====
/- The grid points of the gradient through the convolution: which is the first of its lane block. -/
module

public import proofs.«01_k».proof.Proof.Gen.Kernel6Ideal.Frame
public import proofs.«01_k».proof.Proof.Gen.Kernel6Ideal.Loops

@[expose] public section

set_option maxRecDepth 16384

noncomputable section

namespace Cert.Conv.Run

open Cert.Kernel6Ideal Cert.Kernel6Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The point is the first of its lane block: the body clears the two accumulated blocks. -/
abbrev First (i : grid0.Coords) : Prop := (Scalar.cmpi .ne (Scalar.extui (Scalar.cmpi .eq (BitVec.ofNat 32 (i 1).val) 0#32)) 0#32) = 1#1

end Cert.Conv.Run

end
-- ==== Proof.Conv.First.lean ====
/- One grid point of the gradient through the convolution: what its stores leave in the four results' blocks. -/
module

public import proofs.«01_k».proof.Proof.Conv.Point

@[expose] public section

set_option maxRecDepth 16384

noncomputable section

namespace Cert.Conv.Run

open Cert.Kernel6Ideal Cert.Kernel6Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

set_option maxHeartbeats 40000000 in
/-- What the stores of a first point leave, as pieces, newest first (the two accumulated blocks over anything), with the run of the body that leaves them. -/
def first (c : Dev nD) (i : grid0.Coords) (arg2 : Memref sig .tc .vmem S1x2048x128 .f32) (harg2 : arg2.IsWhole) (arg3 : Memref sig .tc .vmem S1x1x2048x128 .f32) (harg3 : arg3.IsWhole) (arg4 : Memref sig .tc .vmem S1x1x2048x128 .f32) (harg4 : arg4.IsWhole) (arg5 : Memref sig .tc .vmem S31x128 .f32) (harg5 : arg5.IsWhole) (arg6 : Memref sig .tc .vmem S1x2048x128 .bf16) (harg6 : arg6.IsWhole) (arg7 : Memref sig .tc .vmem S1x2048x128 .bf16) (harg7 : arg7.IsWhole) (arg8 : Memref sig .tc .vmem S32x128 .f32) (harg8 : arg8.IsWhole) (arg9 : Memref sig .tc .vmem S8x128 .f32) (harg9 : arg9.IsWhole) (arg10 : Memref sig .tc .vmem S2080x128 .f32) (harg10 : arg10.IsWhole) (arg11 : Memref sig .tc .vmem S8x2080x128 .f32) (harg11 : arg11.IsWhole) (hc : First i)
    (x2 : Vec F S1x2048x128 .f32) (x3 : Vec F S1x1x2048x128 .f32) (x4 : Vec F S1x1x2048x128 .f32) (x5 : Vec F S31x128 .f32) (x6 : Vec F S1x2048x128 .bf16) (x7 : Vec F S1x2048x128 .bf16) (x8 : Vec F S32x128 .f32) (x9 : Vec F S8x128 .f32) (x10 : Vec F S2080x128 .f32) (x11 : Vec F S8x2080x128 .f32) :
    Σ' (L6 : List (View.Piece (Elt F) S1x2048x128 .bf16)), Σ' (L7 : List (View.Piece (Elt F) S1x2048x128 .bf16)), Σ' (L8 : List (View.Piece (Elt F) S32x128 .f32)), { L9 : List (View.Piece (Elt F) S8x128 .f32) //
      ∀ (E : Set ℕ) (K : PUnit → sProp 𝕄),
        iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11
            ∗ (iprop(owns (c : Thread nD τ) arg2 fullShare x2 ∗ owns (c : Thread nD τ) arg3 fullShare x3 ∗ owns (c : Thread nD τ) arg4 fullShare x4 ∗ owns (c : Thread nD τ) arg5 fullShare x5 ∗ (arg6.view.loc (c : Thread nD τ) ↦[arg6.view.set]{fullShare} arg6.view.writes (Elt F) (harg6.unread x6) L6) ∗ (arg7.view.loc (c : Thread nD τ) ↦[arg7.view.set]{fullShare} arg7.view.writes (Elt F) (harg7.unread x7) L7) ∗ (arg8.view.loc (c : Thread nD τ) ↦[arg8.view.set]{fullShare} arg8.view.writes (Elt F) arg8.view.junk L8) ∗ (arg9.view.loc (c : Thread nD τ) ↦[arg9.view.set]{fullShare} arg9.view.writes (Elt F) arg9.view.junk L9) ∗ (∃ f, arg10.view.loc (c : Thread nD τ) ↦[arg10.view.set]{fullShare} f) ∗ (∃ f, arg11.view.loc (c : Thread nD τ) ↦[arg11.view.set]{fullShare} f)) -∗ K ⟨⟩))
          ⊢ wp frame (wpE (defs₀ (F := F)) Variants.none c none) E (cc0_conv_bwd i arg2 harg2 arg3 harg3 arg4 harg4 arg5 harg5 arg6 harg6 arg7 harg7 arg8 harg8 arg9 harg9 arg10 harg10 arg11 harg11) K } := by
  refine ⟨?_, ?_, ?_, ?_, fun E K => ?run⟩
  case run =>
    simp only [cc0_conv_bwd_eq_skeleton]; unfold cc0_conv_bwd_skel
    simp only [k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton]
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11
    sl_exec (disch := first | sl_exact hc)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]; · iexact H6
    isplitl [H7]; · iexact H7
    isplitl [H8]; · iexact H8
    isplitl [H9]; · iexact H9
    isplitl [H10]; · iexists _; iexact H10
    iexists _; iexact H11

end Cert.Conv.Run

end
-- ==== Proof.Conv.Next.lean ====
/- One grid point of the gradient through the convolution: what a later point of a lane block leaves in the four results' blocks. -/
module

public import proofs.«01_k».proof.Proof.Conv.Point

@[expose] public section

set_option maxRecDepth 16384

noncomputable section

namespace Cert.Conv.Run

open Cert.Kernel6Ideal Cert.Kernel6Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

set_option maxHeartbeats 40000000 in
/-- What the stores of a later point of a lane block leave: it adds to the accumulated blocks. -/
def next (c : Dev nD) (i : grid0.Coords) (arg2 : Memref sig .tc .vmem S1x2048x128 .f32) (harg2 : arg2.IsWhole) (arg3 : Memref sig .tc .vmem S1x1x2048x128 .f32) (harg3 : arg3.IsWhole) (arg4 : Memref sig .tc .vmem S1x1x2048x128 .f32) (harg4 : arg4.IsWhole) (arg5 : Memref sig .tc .vmem S31x128 .f32) (harg5 : arg5.IsWhole) (arg6 : Memref sig .tc .vmem S1x2048x128 .bf16) (harg6 : arg6.IsWhole) (arg7 : Memref sig .tc .vmem S1x2048x128 .bf16) (harg7 : arg7.IsWhole) (arg8 : Memref sig .tc .vmem S32x128 .f32) (harg8 : arg8.IsWhole) (arg9 : Memref sig .tc .vmem S8x128 .f32) (harg9 : arg9.IsWhole) (arg10 : Memref sig .tc .vmem S2080x128 .f32) (harg10 : arg10.IsWhole) (arg11 : Memref sig .tc .vmem S8x2080x128 .f32) (harg11 : arg11.IsWhole) (hc : ¬First i)
    (x2 : Vec F S1x2048x128 .f32) (x3 : Vec F S1x1x2048x128 .f32) (x4 : Vec F S1x1x2048x128 .f32) (x5 : Vec F S31x128 .f32) (x6 : Vec F S1x2048x128 .bf16) (x7 : Vec F S1x2048x128 .bf16) (x8 : Vec F S32x128 .f32) (x9 : Vec F S8x128 .f32) (x10 : Vec F S2080x128 .f32) (x11 : Vec F S8x2080x128 .f32) :
    Σ' (L6 : List (View.Piece (Elt F) S1x2048x128 .bf16)), Σ' (L7 : List (View.Piece (Elt F) S1x2048x128 .bf16)), Σ' (L8 : List (View.Piece (Elt F) S32x128 .f32)), { L9 : List (View.Piece (Elt F) S8x128 .f32) //
      ∀ (E : Set ℕ) (K : PUnit → sProp 𝕄),
        iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11
            ∗ (iprop(owns (c : Thread nD τ) arg2 fullShare x2 ∗ owns (c : Thread nD τ) arg3 fullShare x3 ∗ owns (c : Thread nD τ) arg4 fullShare x4 ∗ owns (c : Thread nD τ) arg5 fullShare x5 ∗ (arg6.view.loc (c : Thread nD τ) ↦[arg6.view.set]{fullShare} arg6.view.writes (Elt F) (harg6.unread x6) L6) ∗ (arg7.view.loc (c : Thread nD τ) ↦[arg7.view.set]{fullShare} arg7.view.writes (Elt F) (harg7.unread x7) L7) ∗ (arg8.view.loc (c : Thread nD τ) ↦[arg8.view.set]{fullShare} arg8.view.writes (Elt F) (harg8.unread x8) L8) ∗ (arg9.view.loc (c : Thread nD τ) ↦[arg9.view.set]{fullShare} arg9.view.writes (Elt F) (harg9.unread x9) L9) ∗ (∃ f, arg10.view.loc (c : Thread nD τ) ↦[arg10.view.set]{fullShare} f) ∗ (∃ f, arg11.view.loc (c : Thread nD τ) ↦[arg11.view.set]{fullShare} f)) -∗ K ⟨⟩))
          ⊢ wp frame (wpE (defs₀ (F := F)) Variants.none c none) E (cc0_conv_bwd i arg2 harg2 arg3 harg3 arg4 harg4 arg5 harg5 arg6 harg6 arg7 harg7 arg8 harg8 arg9 harg9 arg10 harg10 arg11 harg11) K } := by
  refine ⟨?_, ?_, ?_, ?_, fun E K => ?run⟩
  case run =>
    simp only [cc0_conv_bwd_eq_skeleton]; unfold cc0_conv_bwd_skel
    simp only [k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton]
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11
    sl_exec (disch := first | sl_exact hc)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]; · iexact H6
    isplitl [H7]; · iexact H7
    isplitl [H8]; · iexact H8
    isplitl [H9]; · iexact H9
    isplitl [H10]; · iexists _; iexact H10
    iexists _; iexact H11

end Cert.Conv.Run

end
-- ==== Proof.Conv.Frame.lean ====
/- The gradient of the gated convolution: the whole launch at any values, of which only that it ends, and leaves the
   arguments as they were, is stated here. Every point of the grid handles one sequence's 128 channels; the scratch comes
   to a point at anything. -/
module

public import proofs.«01_k».proof.Proof.Conv.First
public import proofs.«01_k».proof.Proof.Conv.Next
public import Idealize.ShloMosaic.Lib.Claim

@[expose] public section

set_option maxRecDepth 16384

noncomputable section

namespace Cert.Conv.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel6Ideal Cert.Kernel6Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A point is the first of its lane block when its sequence is the first. -/
theorem first_iff (t : Fin cfg0.N) : Run.First (grid0.coords t) ↔ t.val % 4 = 0 := by
  have ht : t.val < 16 := Nat.lt_of_lt_of_eq t.isLt N_0
  have e1 : (grid0.coords t 1).val = t.val / 1 % 4 := Pipeline.Grid.coords_val t 1 (by decide) rfl
  simp only [Run.First, e1]
  word_cmp

/-- The four results' windows: what they hold is not stated here. -/
def unstated : Fin cfg0.W → Bool
  | ⟨0, _⟩ => false
  | ⟨1, _⟩ => false
  | ⟨2, _⟩ => false
  | ⟨3, _⟩ => false
  | ⟨_ + 4, _⟩ => true

/-- The launch's data: the arrays as the region finds them and the inputs' blocks. Two windows are on one array. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨n + 4, h⟩ => Dat.unnamed ⟨n + 4, h⟩ t
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]

/-! An input's buffer holds its block at every point. -/

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ X, owns (c : Thread nD τ) (st0_4 t) fullShare X)
    ∗ (∃ X, owns (c : Thread nD τ) (st0_5 t) fullShare X)
    ∗ (∃ X, owns (c : Thread nD τ) (st0_6 t) fullShare X)
    ∗ (∃ X, owns (c : Thread nD τ) (st0_7 t) fullShare X))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ (∃ X, owns (c : Thread nD τ) (st0_4 t) fullShare X)
    ∗ (∃ X, owns (c : Thread nD τ) (st0_5 t) fullShare X)
    ∗ (∃ X, owns (c : Thread nD τ) (st0_6 t) fullShare X)
    ∗ (∃ X, owns (c : Thread nD τ) (st0_7 t) fullShare X))

set_option maxHeartbeats 4000000 in
/-- The body at any point ends, and leaves the inputs' blocks as they were. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl, after0, after1, after2, after3]
  unfold Pipeline.ΦA
  rw [scopedRest0_eq]
  iintro ⟨⟨⟨⟨%S0, HS0⟩, ⟨%S1, HS1⟩⟩, Hg⟩, Ho, ⟨%d0, H0⟩, ⟨%d1, H1⟩, ⟨%d2, H2⟩, ⟨%d3, H3⟩, ⟨%X4, H4⟩, ⟨%X5, H5⟩, ⟨%X6, H6⟩, ⟨%X7, H7⟩⟩
  by_cases h : t.val % 4 = 0
  · iapply ((Run.first c (grid0.coords t) _ _ _ _ _ _ _ _ _ _ _ _ _ _ _ _ (Memref.whole cc0_scratch0) (Memref.isWhole_whole _) (Memref.whole cc0_scratch1) (Memref.isWhole_whole _) ((first_iff t).mpr h)
      (iblk m c 0 t) (iblk m c 1 t) (iblk m c 2 t) (iblk m c 3 t) X4 X5 X6 X7 S0 S1).2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [HS0]; · rw [owns_whole]; iexact HS0
    isplitl [HS1]; · rw [owns_whole]; iexact HS1
    iintro ⟨H0, H1, H2, H3, H4, H5, H6, H7, ⟨%T0, HS0⟩, ⟨%T1, HS1⟩⟩
    isplitl [HS0 HS1 Hg]
    · isplitl [HS0 HS1]
      · isplitl [HS0]
        · iexists T0; simp only [Memref.view_whole, View.set_whole]; iexact HS0
        iexists T1; simp only [Memref.view_whole, View.set_whole]; iexact HS1
      iexact Hg
    isplitl [Ho]; · iexact Ho
    isplitl [H0]; · iexact H0
    isplitl [H1]; · iexact H1
    isplitl [H2]; · iexact H2
    isplitl [H3]; · iexact H3
    isplitl [H4]
    · unfold owns; iexists _; iexists _; isplitr
      swap; · iexact H4
      ipureintro; rfl
    isplitl [H5]
    · unfold owns; iexists _; iexists _; isplitr
      swap; · iexact H5
      ipureintro; rfl
    isplitl [H6]
    · unfold owns; iexists _; iexists _; isplitr
      swap; · iexact H6
      ipureintro; rfl
    unfold owns; iexists _; iexists _; isplitr
    swap; · iexact H7
    ipureintro; rfl
  · iapply ((Run.next c (grid0.coords t) _ _ _ _ _ _ _ _ _ _ _ _ _ _ _ _ (Memref.whole cc0_scratch0) (Memref.isWhole_whole _) (Memref.whole cc0_scratch1) (Memref.isWhole_whole _) (fun e => h ((first_iff t).mp e))
      (iblk m c 0 t) (iblk m c 1 t) (iblk m c 2 t) (iblk m c 3 t) X4 X5 X6 X7 S0 S1).2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [HS0]; · rw [owns_whole]; iexact HS0
    isplitl [HS1]; · rw [owns_whole]; iexact HS1
    iintro ⟨H0, H1, H2, H3, H4, H5, H6, H7, ⟨%T0, HS0⟩, ⟨%T1, HS1⟩⟩
    isplitl [HS0 HS1 Hg]
    · isplitl [HS0 HS1]
      · isplitl [HS0]
        · iexists T0; simp only [Memref.view_whole, View.set_whole]; iexact HS0
        iexists T1; simp only [Memref.view_whole, View.set_whole]; iexact HS1
      iexact Hg
    isplitl [Ho]; · iexact Ho
    isplitl [H0]; · iexact H0
    isplitl [H1]; · iexact H1
    isplitl [H2]; · iexact H2
    isplitl [H3]; · iexact H3
    isplitl [H4]
    · unfold owns; iexists _; iexists _; isplitr
      swap; · iexact H4
      ipureintro; rfl
    isplitl [H5]
    · unfold owns; iexists _; iexists _; isplitr
      swap; · iexact H5
      ipureintro; rfl
    isplitl [H6]
    · unfold owns; iexists _; iexists _; isplitr
      swap; · iexact H6
      ipureintro; rfl
    unfold owns; iexists _; iexists _; isplitr
    swap; · iexact H7
    ipureintro; rfl

theorem body_row (t : Fin cfg0.N) : defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ unstated := fun t => by
  rw [bigSep_W0, bigSep_W0, body_row]
  exact triple_restated (sound_body m c t) rfl .rfl fun _ => .rfl

set_option backward.isDefEq.respectTransparency.types false in
/-- The launch ends with every input array as it was, and every semaphore at zero. -/
theorem launched : θ_run defs (onTc (τ := τ) (main (F := F))) (s₀ m ρ)
    (fun r => Pipeline.RDat.FramePost cfg0 (fun c => (dats m 0 c).toRForget unstated) (V m) r ∧ r.2.sem = fun _ => 0) :=
  Pipeline.θ_run_frame_track_forget_shared (Q' := _) cfgs (dats m) (0 : Fin 1) launch₀0 defs₀ Variants.none unstated m ρ main
    (hbody := fun c => (obligation m c).loose) (hq := fun c w _ => rfl)
    (howed := fun _ _ => rfl) (V := V m) (hmain := hmain m Variants.none) (hA := A_eq m)
    (hin := fun _ => .rfl) (hout := fun _ => .rfl)

/-- The three arguments end unchanged, and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c => ⟨(h.1.arr_in c 0 rfl).trans ((A_eq m c 0).trans (V_main_arg0 m c)),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c)⟩, h.2⟩) (launched m ρ)

end Cert.Conv.Frame

end
-- ==== Proof.Conv.Bits.lean ====
/- The frame of the convolution's gradient at the machine's own numbers: the kernel's text is the one whose run
   `Frame` states at any values. -/
module

public import proofs.«01_k».proof.Defs
public import proofs.«01_k».proof.Proof.Gen.Kernel6
public import proofs.«01_k».proof.Proof.Conv.Frame

@[expose] public section

set_option maxRecDepth 16384

noncomputable section

namespace Cert.Conv

open Idealize.ShloMosaic.Tactic Idealize.ShloMosaic Idealize.ShloMosaic.TcCoe Idealize.SL.Sem

/-- The same claim of the text `Frame` runs. -/
def Unchanged : Prop :=
  ∀ (m : (ℓ : Loc Cert.Kernel6Ideal.nD Cert.Kernel6Ideal.τ Cert.Kernel6Ideal.sig) → Buf (Elt Bits) ℓ) (g : Dev Cert.Kernel6Ideal.nD → PrngReg),
    Cert.Pre_Kernel6 m →
    θ_run (Cert.Kernel6Ideal.defs (F := Bits)) (onTc (τ := Cert.Kernel6Ideal.τ) (Cert.Kernel6Ideal.main (F := Bits))) ⟨m, fun _ => 0, g⟩ (fun r => (∀ c : Dev Cert.Kernel6Ideal.nD,
      r.2.mem ((c.tc : Thread Cert.Kernel6Ideal.nD Cert.Kernel6Ideal.τ).loc Cert.Kernel6Ideal.main_arg0)
          = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1)
          = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2)
          = m ((c.tc : Thread Cert.Kernel6Ideal.nD Cert.Kernel6Ideal.τ).loc Cert.Kernel6Ideal.main_arg2))
      ∧ r.2.sem = fun _ => 0)

/-- The two texts are one. -/
theorem same : Cert.quiescent_Kernel6 = Unchanged := by sl_kernel_rfl

theorem frame_bits : Cert.quiescent_Kernel6 := same.mpr fun m ρ _ => Frame.frame (F := Bits) m ρ

end Cert.Conv

end
-- ==== Proof.Conv.Spec.lean ====
/- The gradient through `u = a * sigmoid(g)` and a depthwise convolution of width 31 over it, of one channel of one sequence,
   in the extended reals: nothing here needs the arguments to be finite. -/
module

public import proofs.«01_k».proof.Proof.Lift

@[expose] public section

noncomputable section

namespace Cert.Conv

open Idealize.ShloMosaic
open scoped BigOperators

/-- The logistic function. -/
def sg (x : EReal) : EReal := Ideal.div 1 (1 + Ideal.exp (-x))

/-- The sequence `X` moved `o` places up, zero outside it. -/
def shift (o : ℕ) (X : Fin 2048 → EReal) (y : ℕ) : EReal := if h : o ≤ y ∧ y < o + 2048 then X ⟨y - o, by omega⟩ else 0

/-- What the convolution passes back to place `t` of its input. -/
def dU (d : Fin 2048 → EReal) (w : ℕ → EReal) (t : ℕ) : EReal := ∑ j ∈ Finset.range 31, shift j d (t + 15) * w j

/-- What it passes back to its weight `j`. -/
def dW (d u : Fin 2048 → EReal) (j : ℕ) : EReal := ∑ t : Fin 2048, d t * shift 15 u (t.val + j)

theorem shift_add (o k : ℕ) (X : Fin 2048 → EReal) (y : ℕ) : shift (o + k) X (y + k) = shift o X y := by
  unfold shift
  by_cases h : o ≤ y ∧ y < o + 2048
  · rw [dif_pos h, dif_pos (by omega)]; congr 2; omega
  · rw [dif_neg h, dif_neg (by omega)]

/-- A row of weights at any natural number, zero past its end. -/
def atNat {n : ℕ} (w : Fin n → EReal) (j : ℕ) : EReal := if h : j < n then w ⟨j, h⟩ else 0

theorem atNat_lt {n : ℕ} (w : Fin n → EReal) (j : Fin n) : atNat w j.val = w j := dif_pos j.isLt

end Cert.Conv

end
-- ==== Proof.Conv.Loops.lean ====
/- The four accumulating loops of one grid point: each adds eight taps' products over 256 places per trip. -/
module

public import proofs.«01_k».proof.Proof.Gen.Kernel6Ideal.Frame
public import proofs.«01_k».proof.Proof.Gen.Kernel6Ideal.Loops
public import proofs.«01_k».proof.Proof.Rows
public import Idealize.ShloMosaic.Lib.Pipeline.ValueKit.Acc
public import proofs.«01_k».proof.Proof.Conv.Spec

@[expose] public section

set_option maxRecDepth 16384

noncomputable section

namespace Cert.Conv.Loops

open Cert.Kernel6Ideal Cert.Kernel6Ideal.Gen
open Idealize.ShloMosaic Idealize.ShloMosaic.TcCoe Idealize.ShloMosaic.Tactic
open Idealize.SL Idealize.SL.Sem
open Cert.Rows
open scoped BigOperators

variable {X : S8x2080x128.Idx → EReal} {Y : S1x2048x128.Idx → EReal}

/-- A buffer of eight planes at any place, zero outside it. -/
def S (X : S8x2080x128.Idx → EReal) (b y z : ℕ) : EReal := if h : b < 8 ∧ y < 2080 ∧ z < 128 then X (ix3 ⟨b, h.1⟩ ⟨y, h.2.1⟩ ⟨z, h.2.2⟩) else 0

/-- A buffer of one plane at any place, zero outside it. -/
def D (Y : S1x2048x128.Idx → EReal) (y z : ℕ) : EReal := if h : y < 2048 ∧ z < 128 then Y (ix3 0 ⟨y, h.1⟩ ⟨z, h.2⟩) else 0

/-- An offset of the eight unrolled steps, at each of them. -/
theorem eight {f : BitVec 32 → Fin 3 → ℕ} {g : Fin 8 → Fin 3 → ℕ} (h : ∀ r : Fin 8, f (BitVec.ofNat 32 r.val) = g r) :
    f 0#32 = g 0 ∧ f 1#32 = g 1 ∧ f 2#32 = g 2 ∧ f 3#32 = g 3 ∧ f 4#32 = g 4 ∧ f 5#32 = g 5 ∧ f 6#32 = g 6 ∧ f 7#32 = g 7 :=
  ⟨h 0, h 1, h 2, h 3, h 4, h 5, h 6, h 7⟩

/-- Tap `j`'s product at row `r` of the `q`-th group of 32 places. -/
def T (X : S8x2080x128.Idx → EReal) (Y : S1x2048x128.Idx → EReal) (j q r l : ℕ) : EReal :=
  D Y (32 * q + r) l * S X ((j + 1) % 8) (32 * q + r + 8 * ((j + 1) / 8)) l

/-- The first `n` groups' products added up. -/
def P (X : S8x2080x128.Idx → EReal) (Y : S1x2048x128.Idx → EReal) (j n r l : ℕ) : EReal := ∑ q ∈ Finset.range n, T X Y j q r l

theorem P_next (j n r l : ℕ) : P X Y j (8 * n + 8) r l = P X Y j (8 * n) r l + T X Y j (8 * n) r l + T X Y j (8 * n + 1) r l + T X Y j (8 * n + 2) r l
    + T X Y j (8 * n + 3) r l + T X Y j (8 * n + 4) r l + T X Y j (8 * n + 5) r l + T X Y j (8 * n + 6) r l + T X Y j (8 * n + 7) r l := by
  simp only [P, Finset.sum_range_succ]

/-- What a loop of eight taps carries. -/
abbrev Carry8 := FVec Ideal S32x128 .f32 × FVec Ideal S32x128 .f32 × FVec Ideal S32x128 .f32 × FVec Ideal S32x128 .f32 × FVec Ideal S32x128 .f32 × FVec Ideal S32x128 .f32 × FVec Ideal S32x128 .f32 × FVec Ideal S32x128 .f32

/-- What the loop of the last seven taps carries. -/
abbrev Carry7 := FVec Ideal S32x128 .f32 × FVec Ideal S32x128 .f32 × FVec Ideal S32x128 .f32 × FVec Ideal S32x128 .f32 × FVec Ideal S32x128 .f32 × FVec Ideal S32x128 .f32 × FVec Ideal S32x128 .f32

/-- The eight carried vectors hold the first `n` groups of taps `j` to `j + 7`. -/
abbrev Holds8 (X : S8x2080x128.Idx → EReal) (Y : S1x2048x128.Idx → EReal) (j n : ℕ) (a : Carry8) : Prop := ∀ (r : Fin 32) (l : Fin 128),
  a.1 (ix2 r l) = P X Y j n r.val l.val ∧ a.2.1 (ix2 r l) = P X Y (j + 1) n r.val l.val ∧ a.2.2.1 (ix2 r l) = P X Y (j + 2) n r.val l.val
  ∧ a.2.2.2.1 (ix2 r l) = P X Y (j + 3) n r.val l.val ∧ a.2.2.2.2.1 (ix2 r l) = P X Y (j + 4) n r.val l.val ∧ a.2.2.2.2.2.1 (ix2 r l) = P X Y (j + 5) n r.val l.val
  ∧ a.2.2.2.2.2.2.1 (ix2 r l) = P X Y (j + 6) n r.val l.val ∧ a.2.2.2.2.2.2.2 (ix2 r l) = P X Y (j + 7) n r.val l.val

/-- The same of seven. -/
abbrev Holds7 (X : S8x2080x128.Idx → EReal) (Y : S1x2048x128.Idx → EReal) (j n : ℕ) (a : Carry7) : Prop := ∀ (r : Fin 32) (l : Fin 128),
  a.1 (ix2 r l) = P X Y j n r.val l.val ∧ a.2.1 (ix2 r l) = P X Y (j + 1) n r.val l.val ∧ a.2.2.1 (ix2 r l) = P X Y (j + 2) n r.val l.val
  ∧ a.2.2.2.1 (ix2 r l) = P X Y (j + 3) n r.val l.val ∧ a.2.2.2.2.1 (ix2 r l) = P X Y (j + 4) n r.val l.val ∧ a.2.2.2.2.2.1 (ix2 r l) = P X Y (j + 5) n r.val l.val
  ∧ a.2.2.2.2.2.2 (ix2 r l) = P X Y (j + 6) n r.val l.val

variable (c : Dev nD) (i : grid0.Coords)
  (arg2 : Memref sig .tc .vmem S1x2048x128 .f32) (harg2 : arg2.IsWhole)
  (arg3 : Memref sig .tc .vmem S1x1x2048x128 .f32) (harg3 : arg3.IsWhole)
  (arg4 : Memref sig .tc .vmem S1x1x2048x128 .f32) (harg4 : arg4.IsWhole)
  (arg5 : Memref sig .tc .vmem S31x128 .f32) (harg5 : arg5.IsWhole)
  (arg6 : Memref sig .tc .vmem S1x2048x128 .bf16) (harg6 : arg6.IsWhole)
  (arg7 : Memref sig .tc .vmem S1x2048x128 .bf16) (harg7 : arg7.IsWhole)
  (arg8 : Memref sig .tc .vmem S32x128 .f32) (harg8 : arg8.IsWhole)
  (arg9 : Memref sig .tc .vmem S8x128 .f32) (harg9 : arg9.IsWhole)
  (arg10 : Memref sig .tc .vmem S2080x128 .f32) (harg10 : arg10.IsWhole)
  (arg11 : Memref sig .tc .vmem S8x2080x128 .f32) (harg11 : arg11.IsWhole)
  (X2 : BufTy.Contents (Elt Ideal) arg2.view.ty) (X11 : BufTy.Contents (Elt Ideal) arg11.view.ty)

theorem S_at (b y z : ℕ) (hb : b < 8) (hy : y < 2080) (hz : z < 128) : arg11.view.read (Elt Ideal) X11 (ix3 (⟨b, hb⟩ : Fin 8) (⟨y, hy⟩ : Fin 2080) (⟨z, hz⟩ : Fin 128)) = S (arg11.view.read (Elt Ideal) X11) b y z := by
  rw [S, dif_pos ⟨hb, hy, hz⟩]

theorem D_at (b y z : ℕ) (hb : b < 1) (hy : y < 2048) (hz : z < 128) : arg2.view.read (Elt Ideal) X2 (ix3 (⟨b, hb⟩ : Fin 1) (⟨y, hy⟩ : Fin 2048) (⟨z, hz⟩ : Fin 128)) = D (arg2.view.read (Elt Ideal) X2) y z := by
  obtain rfl : b = 0 := by omega
  rw [D, dif_pos ⟨hy, hz⟩]
  rfl

set_option maxHeartbeats 4000000 in
/-- One trip over taps 0 to 7 adds eight groups. -/
theorem trip1 (v : FVec Ideal S1x2072x128 .f32) (k : Fin k0_t1_loop.trips) (a : Carry8)
    (h : Holds8 (arg11.view.read (Elt Ideal) X11) (arg2.view.read (Elt Ideal) X2) 0 (8 * k.val) a) :
    Holds8 (arg11.view.read (Elt Ideal) X11) (arg2.view.read (Elt Ideal) X2) 0 (8 * k.val + 8)
      (tripR_k0_t1 (F := Ideal) Variants.none c none i arg2 harg2 arg3 harg3 arg4 harg4 arg5 harg5 arg6 harg6 arg7 harg7 arg8 harg8 arg9 harg9 arg10 harg10 arg11 harg11 v X2 X11 k a) := by
  intro r l
  obtain ⟨h0, h1, h2, h3, h4, h5, h6, h7⟩ := h r l
  obtain ⟨a0, a1, a2, a3, a4, a5, a6, a7⟩ := a
  unfold tripR_k0_t1 trip_k0_t1
  dsimp only at h0 h1 h2 h3 h4 h5 h6 h7 ⊢
  frame_out
  refine ⟨?_, ?_, ?_, ?_, ?_, ?_, ?_, ?_⟩
  all_goals
    rw [P_next]
    simp only [T]
    pointwise [h0, h1, h2, h3, h4, h5, h6, h7,
      k0_pay6, k0_pay7, k0_pay8, k0_pay9, k0_pay10, k0_pay11, k0_pay12, k0_pay13, k0_pay14, k0_pay15, k0_pay16, k0_pay17, k0_pay18, k0_pay19,
      k0_pay20, k0_pay21, k0_pay22, k0_pay23, k0_pay24, k0_pay25, k0_pay26, k0_pay27, k0_pay28, k0_pay29, k0_pay30, k0_pay31, k0_pay32, k0_pay33,
      k0_pay34, k0_pay35, k0_pay36, k0_pay37, k0_pay38, k0_pay39, k0_pay40, k0_pay41, k0_pay42, k0_pay43, k0_pay44, k0_pay45, k0_pay46, k0_pay47,
      k0_pay48, k0_pay49, k0_pay50, k0_pay51, k0_pay52, k0_pay53, k0_pay54, k0_pay55, k0_pay56, k0_pay57, k0_pay58, k0_pay59, k0_pay60, k0_pay61,
      k0_pay62, k0_pay63, k0_pay64, k0_pay65, k0_pay66, k0_pay67, k0_pay68, k0_pay69, k0_pay70, k0_pay71, k0_pay72, k0_pay73, k0_pay74, k0_pay75,
      k0_pay76, k0_pay77, k0_pay326, k0_pay327]
    simp only [eight (k0_off1_eq k), eight (k0_off2_eq k), eight (k0_off3_eq k), eight (k0_off4_eq k), eight (k0_off5_eq k), eight (k0_off6_eq k), eight (k0_off7_eq k), eight (k0_off8_eq k), eight (k0_off9_eq k), S_at, D_at]

    simp [Nat.mul_add, ← Nat.mul_assoc, Nat.add_comm, Nat.add_left_comm, Nat.add_assoc]

/-- The whole loop over these taps, from zeros. -/
theorem loop1 (v : FVec Ideal S1x2072x128 .f32) (a : Carry8) (h : Holds8 (arg11.view.read (Elt Ideal) X11) (arg2.view.read (Elt Ideal) X2) 0 0 a) :
    ∀ k : ℕ, k ≤ k0_t1_loop.trips → Holds8 (arg11.view.read (Elt Ideal) X11) (arg2.view.read (Elt Ideal) X2) 0 (8 * k) (st_k0_t1 (F := Ideal) Variants.none c none i arg2 harg2 arg3 harg3 arg4 harg4 arg5 harg5 arg6 harg6 arg7 harg7 arg8 harg8 arg9 harg9 arg10 harg10 arg11 harg11 v X2 X11 a k)
  | 0, _ => h
  | k + 1, hk => by
    rw [show k + 1 = (⟨k, hk⟩ : Fin k0_t1_loop.trips).val + 1 from rfl, st_k0_t1_succ]
    exact trip1 c i arg2 harg2 arg3 harg3 arg4 harg4 arg5 harg5 arg6 harg6 arg7 harg7 arg8 harg8 arg9 harg9 arg10 harg10 arg11 harg11 X2 X11 v ⟨k, hk⟩ _ (loop1 v a h k (Nat.le_of_succ_le hk))

/-- What the loop leaves: all 64 groups. -/
theorem done1 (v : FVec Ideal S1x2072x128 .f32) : Holds8 (arg11.view.read (Elt Ideal) X11) (arg2.view.read (Elt Ideal) X2) 0 64
    (st_k0_t1 (F := Ideal) Variants.none c none i arg2 harg2 arg3 harg3 arg4 harg4 arg5 harg5 arg6 harg6 arg7 harg7 arg8 harg8 arg9 harg9 arg10 harg10 arg11 harg11 v X2 X11 (k0_pay318, k0_pay319, k0_pay320, k0_pay321, k0_pay322, k0_pay323, k0_pay324, k0_pay325) (Scf.trips k0_t1_loop.lb k0_t1_loop.ub k0_t1_loop.st)) := by
  refine loop1 c i arg2 harg2 arg3 harg3 arg4 harg4 arg5 harg5 arg6 harg6 arg7 harg7 arg8 harg8 arg9 harg9 arg10 harg10 arg11 harg11 X2 X11 v _ (fun r l => ?_) 8 (by decide)
  refine ⟨?_, ?_, ?_, ?_, ?_, ?_, ?_, ?_⟩ <;> (pointwise [k0_pay318, k0_pay319, k0_pay320, k0_pay321, k0_pay322, k0_pay323, k0_pay324, k0_pay325]; simp [P])

set_option maxHeartbeats 4000000 in
/-- One trip over taps 8 to 15 adds eight groups. -/
theorem trip2 (v : FVec Ideal S32x128 .f32) (v' : Vec Ideal S1x128 .f32) (k : Fin k0_t2_loop.trips) (a : Carry8)
    (h : Holds8 (arg11.view.read (Elt Ideal) X11) (arg2.view.read (Elt Ideal) X2) 8 (8 * k.val) a) :
    Holds8 (arg11.view.read (Elt Ideal) X11) (arg2.view.read (Elt Ideal) X2) 8 (8 * k.val + 8)
      (tripR_k0_t2 (F := Ideal) Variants.none c none i arg2 harg2 arg3 harg3 arg4 harg4 arg5 harg5 arg6 harg6 arg7 harg7 arg8 harg8 arg9 harg9 arg10 harg10 arg11 harg11 v v' X2 X11 k a) := by
  intro r l
  obtain ⟨h0, h1, h2, h3, h4, h5, h6, h7⟩ := h r l
  obtain ⟨a0, a1, a2, a3, a4, a5, a6, a7⟩ := a
  unfold tripR_k0_t2 trip_k0_t2
  dsimp only at h0 h1 h2 h3 h4 h5 h6 h7 ⊢
  frame_out
  refine ⟨?_, ?_, ?_, ?_, ?_, ?_, ?_, ?_⟩
  all_goals
    rw [P_next]
    simp only [T]
    pointwise [h0, h1, h2, h3, h4, h5, h6, h7,
      k0_pay78, k0_pay79, k0_pay80, k0_pay81, k0_pay82, k0_pay83, k0_pay84, k0_pay85, k0_pay86, k0_pay87, k0_pay88, k0_pay89, k0_pay90, k0_pay91,
      k0_pay92, k0_pay93, k0_pay94, k0_pay95, k0_pay96, k0_pay97, k0_pay98, k0_pay99, k0_pay100, k0_pay101, k0_pay102, k0_pay103, k0_pay104,
      k0_pay105, k0_pay106, k0_pay107, k0_pay108, k0_pay109, k0_pay110, k0_pay111, k0_pay112, k0_pay113, k0_pay114, k0_pay115, k0_pay116, k0_pay117,
      k0_pay118, k0_pay119, k0_pay120, k0_pay121, k0_pay122, k0_pay123, k0_pay124, k0_pay125, k0_pay126, k0_pay127, k0_pay128, k0_pay129, k0_pay130,
      k0_pay131, k0_pay132, k0_pay133, k0_pay134, k0_pay135, k0_pay136, k0_pay137, k0_pay138, k0_pay139, k0_pay140, k0_pay141, k0_pay142, k0_pay143,
      k0_pay144, k0_pay145, k0_pay146, k0_pay147, k0_pay148, k0_pay149, k0_pay344, k0_pay345]
    simp only [eight (k0_off10_eq k), eight (k0_off11_eq k), eight (k0_off12_eq k), eight (k0_off13_eq k), eight (k0_off14_eq k), eight (k0_off15_eq k), eight (k0_off16_eq k), eight (k0_off17_eq k), eight (k0_off18_eq k), S_at, D_at]

    simp [Nat.mul_add, ← Nat.mul_assoc, Nat.add_comm, Nat.add_left_comm, Nat.add_assoc]

/-- The whole loop over these taps, from zeros. -/
theorem loop2 (v : FVec Ideal S32x128 .f32) (v' : Vec Ideal S1x128 .f32) (a : Carry8) (h : Holds8 (arg11.view.read (Elt Ideal) X11) (arg2.view.read (Elt Ideal) X2) 8 0 a) :
    ∀ k : ℕ, k ≤ k0_t2_loop.trips → Holds8 (arg11.view.read (Elt Ideal) X11) (arg2.view.read (Elt Ideal) X2) 8 (8 * k) (st_k0_t2 (F := Ideal) Variants.none c none i arg2 harg2 arg3 harg3 arg4 harg4 arg5 harg5 arg6 harg6 arg7 harg7 arg8 harg8 arg9 harg9 arg10 harg10 arg11 harg11 v v' X2 X11 a k)
  | 0, _ => h
  | k + 1, hk => by
    rw [show k + 1 = (⟨k, hk⟩ : Fin k0_t2_loop.trips).val + 1 from rfl, st_k0_t2_succ]
    exact trip2 c i arg2 harg2 arg3 harg3 arg4 harg4 arg5 harg5 arg6 harg6 arg7 harg7 arg8 harg8 arg9 harg9 arg10 harg10 arg11 harg11 X2 X11 v v' ⟨k, hk⟩ _ (loop2 v v' a h k (Nat.le_of_succ_le hk))

/-- What the loop leaves: all 64 groups. -/
theorem done2 (v : FVec Ideal S32x128 .f32) (v' : Vec Ideal S1x128 .f32) : Holds8 (arg11.view.read (Elt Ideal) X11) (arg2.view.read (Elt Ideal) X2) 8 64
    (st_k0_t2 (F := Ideal) Variants.none c none i arg2 harg2 arg3 harg3 arg4 harg4 arg5 harg5 arg6 harg6 arg7 harg7 arg8 harg8 arg9 harg9 arg10 harg10 arg11 harg11 v v' X2 X11 (k0_pay336, k0_pay337, k0_pay338, k0_pay339, k0_pay340, k0_pay341, k0_pay342, k0_pay343) (Scf.trips k0_t2_loop.lb k0_t2_loop.ub k0_t2_loop.st)) := by
  refine loop2 c i arg2 harg2 arg3 harg3 arg4 harg4 arg5 harg5 arg6 harg6 arg7 harg7 arg8 harg8 arg9 harg9 arg10 harg10 arg11 harg11 X2 X11 v v' _ (fun r l => ?_) 8 (by decide)
  refine ⟨?_, ?_, ?_, ?_, ?_, ?_, ?_, ?_⟩ <;> (pointwise [k0_pay336, k0_pay337, k0_pay338, k0_pay339, k0_pay340, k0_pay341, k0_pay342, k0_pay343]; simp [P])

set_option maxHeartbeats 4000000 in
/-- One trip over taps 16 to 23 adds eight groups. -/
theorem trip3 (v : FVec Ideal S32x128 .f32) (v' : FVec Ideal S1x128 .f32) (k : Fin k0_t3_loop.trips) (a : Carry8)
    (h : Holds8 (arg11.view.read (Elt Ideal) X11) (arg2.view.read (Elt Ideal) X2) 16 (8 * k.val) a) :
    Holds8 (arg11.view.read (Elt Ideal) X11) (arg2.view.read (Elt Ideal) X2) 16 (8 * k.val + 8)
      (tripR_k0_t3 (F := Ideal) Variants.none c none i arg2 harg2 arg3 harg3 arg4 harg4 arg5 harg5 arg6 harg6 arg7 harg7 arg8 harg8 arg9 harg9 arg10 harg10 arg11 harg11 v v' X2 X11 k a) := by
  intro r l
  obtain ⟨h0, h1, h2, h3, h4, h5, h6, h7⟩ := h r l
  obtain ⟨a0, a1, a2, a3, a4, a5, a6, a7⟩ := a
  unfold tripR_k0_t3 trip_k0_t3
  dsimp only at h0 h1 h2 h3 h4 h5 h6 h7 ⊢
  frame_out
  refine ⟨?_, ?_, ?_, ?_, ?_, ?_, ?_, ?_⟩
  all_goals
    rw [P_next]
    simp only [T]
    pointwise [h0, h1, h2, h3, h4, h5, h6, h7,
      k0_pay150, k0_pay151, k0_pay152, k0_pay153, k0_pay154, k0_pay155, k0_pay156, k0_pay157, k0_pay158, k0_pay159, k0_pay160, k0_pay161, k0_pay162,
      k0_pay163, k0_pay164, k0_pay165, k0_pay166, k0_pay167, k0_pay168, k0_pay169, k0_pay170, k0_pay171, k0_pay172, k0_pay173, k0_pay174, k0_pay175,
      k0_pay176, k0_pay177, k0_pay178, k0_pay179, k0_pay180, k0_pay181, k0_pay182, k0_pay183, k0_pay184, k0_pay185, k0_pay186, k0_pay187, k0_pay188,
      k0_pay189, k0_pay190, k0_pay191, k0_pay192, k0_pay193, k0_pay194, k0_pay195, k0_pay196, k0_pay197, k0_pay198, k0_pay199, k0_pay200, k0_pay201,
      k0_pay202, k0_pay203, k0_pay204, k0_pay205, k0_pay206, k0_pay207, k0_pay208, k0_pay209, k0_pay210, k0_pay211, k0_pay212, k0_pay213, k0_pay214,
      k0_pay215, k0_pay216, k0_pay217, k0_pay218, k0_pay219, k0_pay220, k0_pay221, k0_pay364, k0_pay365]
    simp only [eight (k0_off19_eq k), eight (k0_off20_eq k), eight (k0_off21_eq k), eight (k0_off22_eq k), eight (k0_off23_eq k), eight (k0_off24_eq k), eight (k0_off25_eq k), eight (k0_off26_eq k), eight (k0_off27_eq k), S_at, D_at]

    simp [Nat.mul_add, ← Nat.mul_assoc, Nat.add_comm, Nat.add_left_comm, Nat.add_assoc]

/-- The whole loop over these taps, from zeros. -/
theorem loop3 (v : FVec Ideal S32x128 .f32) (v' : FVec Ideal S1x128 .f32) (a : Carry8) (h : Holds8 (arg11.view.read (Elt Ideal) X11) (arg2.view.read (Elt Ideal) X2) 16 0 a) :
    ∀ k : ℕ, k ≤ k0_t3_loop.trips → Holds8 (arg11.view.read (Elt Ideal) X11) (arg2.view.read (Elt Ideal) X2) 16 (8 * k) (st_k0_t3 (F := Ideal) Variants.none c none i arg2 harg2 arg3 harg3 arg4 harg4 arg5 harg5 arg6 harg6 arg7 harg7 arg8 harg8 arg9 harg9 arg10 harg10 arg11 harg11 v v' X2 X11 a k)
  | 0, _ => h
  | k + 1, hk => by
    rw [show k + 1 = (⟨k, hk⟩ : Fin k0_t3_loop.trips).val + 1 from rfl, st_k0_t3_succ]
    exact trip3 c i arg2 harg2 arg3 harg3 arg4 harg4 arg5 harg5 arg6 harg6 arg7 harg7 arg8 harg8 arg9 harg9 arg10 harg10 arg11 harg11 X2 X11 v v' ⟨k, hk⟩ _ (loop3 v v' a h k (Nat.le_of_succ_le hk))

/-- What the loop leaves: all 64 groups. -/
theorem done3 (v : FVec Ideal S32x128 .f32) (v' : FVec Ideal S1x128 .f32) : Holds8 (arg11.view.read (Elt Ideal) X11) (arg2.view.read (Elt Ideal) X2) 16 64
    (st_k0_t3 (F := Ideal) Variants.none c none i arg2 harg2 arg3 harg3 arg4 harg4 arg5 harg5 arg6 harg6 arg7 harg7 arg8 harg8 arg9 harg9 arg10 harg10 arg11 harg11 v v' X2 X11 (k0_pay356, k0_pay357, k0_pay358, k0_pay359, k0_pay360, k0_pay361, k0_pay362, k0_pay363) (Scf.trips k0_t3_loop.lb k0_t3_loop.ub k0_t3_loop.st)) := by
  refine loop3 c i arg2 harg2 arg3 harg3 arg4 harg4 arg5 harg5 arg6 harg6 arg7 harg7 arg8 harg8 arg9 harg9 arg10 harg10 arg11 harg11 X2 X11 v v' _ (fun r l => ?_) 8 (by decide)
  refine ⟨?_, ?_, ?_, ?_, ?_, ?_, ?_, ?_⟩ <;> (pointwise [k0_pay356, k0_pay357, k0_pay358, k0_pay359, k0_pay360, k0_pay361, k0_pay362, k0_pay363]; simp [P])

set_option maxHeartbeats 4000000 in
/-- One trip over taps 24 to 30 adds eight groups. -/
theorem trip4 (v : FVec Ideal S1x128 .f32) (v' : FVec Ideal S1x128 .f32) (k : Fin k0_t4_loop.trips) (a : Carry7)
    (h : Holds7 (arg11.view.read (Elt Ideal) X11) (arg2.view.read (Elt Ideal) X2) 24 (8 * k.val) a) :
    Holds7 (arg11.view.read (Elt Ideal) X11) (arg2.view.read (Elt Ideal) X2) 24 (8 * k.val + 8)
      (tripR_k0_t4 (F := Ideal) Variants.none c none i arg2 harg2 arg3 harg3 arg4 harg4 arg5 harg5 arg6 harg6 arg7 harg7 arg8 harg8 arg9 harg9 arg10 harg10 arg11 harg11 v v' X2 X11 k a) := by
  intro r l
  obtain ⟨h0, h1, h2, h3, h4, h5, h6⟩ := h r l
  obtain ⟨a0, a1, a2, a3, a4, a5, a6⟩ := a
  unfold tripR_k0_t4 trip_k0_t4
  dsimp only at h0 h1 h2 h3 h4 h5 h6 ⊢
  frame_out
  refine ⟨?_, ?_, ?_, ?_, ?_, ?_, ?_⟩
  all_goals
    rw [P_next]
    simp only [T]
    pointwise [h0, h1, h2, h3, h4, h5, h6,
      k0_pay222, k0_pay223, k0_pay224, k0_pay225, k0_pay226, k0_pay227, k0_pay228, k0_pay229, k0_pay230, k0_pay231, k0_pay232, k0_pay233, k0_pay234,
      k0_pay235, k0_pay236, k0_pay237, k0_pay238, k0_pay239, k0_pay240, k0_pay241, k0_pay242, k0_pay243, k0_pay244, k0_pay245, k0_pay246, k0_pay247,
      k0_pay248, k0_pay249, k0_pay250, k0_pay251, k0_pay252, k0_pay253, k0_pay254, k0_pay255, k0_pay256, k0_pay257, k0_pay258, k0_pay259, k0_pay260,
      k0_pay261, k0_pay262, k0_pay263, k0_pay264, k0_pay265, k0_pay266, k0_pay267, k0_pay268, k0_pay269, k0_pay270, k0_pay271, k0_pay272, k0_pay273,
      k0_pay274, k0_pay275, k0_pay276, k0_pay277, k0_pay278, k0_pay279, k0_pay280, k0_pay281, k0_pay282, k0_pay283, k0_pay284, k0_pay285, k0_pay286,
      k0_pay287, k0_pay288, k0_pay385]
    simp only [eight (k0_off28_eq k), eight (k0_off29_eq k), eight (k0_off30_eq k), eight (k0_off31_eq k), eight (k0_off32_eq k), eight (k0_off33_eq k), eight (k0_off34_eq k), eight (k0_off35_eq k), S_at, D_at]

    simp [Nat.mul_add, ← Nat.mul_assoc, Nat.add_comm, Nat.add_left_comm, Nat.add_assoc]

/-- The whole loop over these taps, from zeros. -/
theorem loop4 (v : FVec Ideal S1x128 .f32) (v' : FVec Ideal S1x128 .f32) (a : Carry7) (h : Holds7 (arg11.view.read (Elt Ideal) X11) (arg2.view.read (Elt Ideal) X2) 24 0 a) :
    ∀ k : ℕ, k ≤ k0_t4_loop.trips → Holds7 (arg11.view.read (Elt Ideal) X11) (arg2.view.read (Elt Ideal) X2) 24 (8 * k) (st_k0_t4 (F := Ideal) Variants.none c none i arg2 harg2 arg3 harg3 arg4 harg4 arg5 harg5 arg6 harg6 arg7 harg7 arg8 harg8 arg9 harg9 arg10 harg10 arg11 harg11 v v' X2 X11 a k)
  | 0, _ => h
  | k + 1, hk => by
    rw [show k + 1 = (⟨k, hk⟩ : Fin k0_t4_loop.trips).val + 1 from rfl, st_k0_t4_succ]
    exact trip4 c i arg2 harg2 arg3 harg3 arg4 harg4 arg5 harg5 arg6 harg6 arg7 harg7 arg8 harg8 arg9 harg9 arg10 harg10 arg11 harg11 X2 X11 v v' ⟨k, hk⟩ _ (loop4 v v' a h k (Nat.le_of_succ_le hk))

/-- What the loop leaves: all 64 groups. -/
theorem done4 (v : FVec Ideal S1x128 .f32) (v' : FVec Ideal S1x128 .f32) : Holds7 (arg11.view.read (Elt Ideal) X11) (arg2.view.read (Elt Ideal) X2) 24 64
    (st_k0_t4 (F := Ideal) Variants.none c none i arg2 harg2 arg3 harg3 arg4 harg4 arg5 harg5 arg6 harg6 arg7 harg7 arg8 harg8 arg9 harg9 arg10 harg10 arg11 harg11 v v' X2 X11 (k0_pay378, k0_pay379, k0_pay380, k0_pay381, k0_pay382, k0_pay383, k0_pay384) (Scf.trips k0_t4_loop.lb k0_t4_loop.ub k0_t4_loop.st)) := by
  refine loop4 c i arg2 harg2 arg3 harg3 arg4 harg4 arg5 harg5 arg6 harg6 arg7 harg7 arg8 harg8 arg9 harg9 arg10 harg10 arg11 harg11 X2 X11 v v' _ (fun r l => ?_) 8 (by decide)
  refine ⟨?_, ?_, ?_, ?_, ?_, ?_, ?_⟩ <;> (pointwise [k0_pay378, k0_pay379, k0_pay380, k0_pay381, k0_pay382, k0_pay383, k0_pay384]; simp [P])

end Cert.Conv.Loops

end
-- ==== Proof.Conv.Taps.lean ====
/- The last loop of one grid point: each trip writes 128 places of the two gradients that have the input's size. -/
module

public import proofs.«01_k».proof.Proof.Gen.Kernel6Ideal.Frame
public import proofs.«01_k».proof.Proof.Gen.Kernel6Ideal.Loops
public import proofs.«01_k».proof.Proof.Rows
public import Idealize.ShloMosaic.Lib.Pipeline.ValueKit.Acc
public import proofs.«01_k».proof.Proof.Conv.Loops

@[expose] public section

set_option maxRecDepth 16384

noncomputable section

namespace Cert.Conv.Loops

open Cert.Kernel6Ideal Cert.Kernel6Ideal.Gen
open Idealize.ShloMosaic Idealize.ShloMosaic.TcCoe Idealize.ShloMosaic.Tactic
open Idealize.SL Idealize.SL.Sem
open Cert.Rows
open scoped BigOperators

/-- An offset of the four unrolled words, at each of them. -/
theorem four {f : BitVec 32 → Fin 3 → ℕ} {g : Fin 4 → Fin 3 → ℕ} (h : ∀ r : Fin 4, f (BitVec.ofNat 32 (8 * r.val)) = g r) :
    f 0#32 = g 0 ∧ f 8#32 = g 1 ∧ f 16#32 = g 2 ∧ f 24#32 = g 3 := ⟨h 0, h 1, h 2, h 3⟩

/-- The taps added up at one place, as the eight planes hold the shifted gradients. -/
def U (X : S8x2080x128.Idx → EReal) (W : S31x128.Idx → EReal) (t : ℕ) (l : Fin 128) : EReal :=
  ∑ j ∈ Finset.range 31, S X ((31 - j) % 8) (t + 8 * ((31 - j) / 8)) l.val * atNat (fun j => W (ix2 j l)) j

theorem W_at (W : S31x128.Idx → EReal) (l : Fin 128) (j : ℕ) (h : j < 31) : atNat (fun j => W (ix2 j l)) j = W (ix2 ⟨j, h⟩ l) := dif_pos h

variable (c : Dev nD) (i : grid0.Coords)
  (arg2 : Memref sig .tc .vmem S1x2048x128 .f32) (harg2 : arg2.IsWhole)
  (arg3 : Memref sig .tc .vmem S1x1x2048x128 .f32) (harg3 : arg3.IsWhole)
  (arg4 : Memref sig .tc .vmem S1x1x2048x128 .f32) (harg4 : arg4.IsWhole)
  (arg5 : Memref sig .tc .vmem S31x128 .f32) (harg5 : arg5.IsWhole)
  (arg6 : Memref sig .tc .vmem S1x2048x128 .bf16) (harg6 : arg6.IsWhole)
  (arg7 : Memref sig .tc .vmem S1x2048x128 .bf16) (harg7 : arg7.IsWhole)
  (arg8 : Memref sig .tc .vmem S32x128 .f32) (harg8 : arg8.IsWhole)
  (arg9 : Memref sig .tc .vmem S8x128 .f32) (harg9 : arg9.IsWhole)
  (arg10 : Memref sig .tc .vmem S2080x128 .f32) (harg10 : arg10.IsWhole)
  (arg11 : Memref sig .tc .vmem S8x2080x128 .f32) (harg11 : arg11.IsWhole)
  (X3 : BufTy.Contents (Elt Ideal) arg3.view.ty) (X4 : BufTy.Contents (Elt Ideal) arg4.view.ty) (X5 : BufTy.Contents (Elt Ideal) arg5.view.ty)
  (X11 : BufTy.Contents (Elt Ideal) arg11.view.ty)

/-- What a place of the first gradient gets, -/
def DA (t : Fin 2048) (l : Fin 128) : EReal :=
  U (arg11.view.read (Elt Ideal) X11) (arg5.view.read (Elt Ideal) X5) t.val l * sg (arg4.view.read (Elt Ideal) X4 (ix4 0 0 t l))

/-- and of the second. -/
def DG (t : Fin 2048) (l : Fin 128) : EReal :=
  U (arg11.view.read (Elt Ideal) X11) (arg5.view.read (Elt Ideal) X5) t.val l * arg3.view.read (Elt Ideal) X3 (ix4 0 0 t l)
    * sg (arg4.view.read (Elt Ideal) X4 (ix4 0 0 t l)) * (1 - sg (arg4.view.read (Elt Ideal) X4 (ix4 0 0 t l)))

set_option maxHeartbeats 4000000 in
/-- One trip writes 128 places of the first gradient, -/
theorem piece_a (k : Fin k0_t5_loop.trips) : ∃ p, (tripL_k0_t5 (F := Ideal) Variants.none c none i arg2 harg2 arg3 harg3 arg4 harg4 arg5 harg5 arg6 harg6 arg7 harg7 arg8 harg8 arg9 harg9 arg10 harg10 arg11 harg11 X3 X4 X5 X11 k).1 = [⟨Rect.unit (k0_off45 k) ![1, 128, 128] (k0_off45_inb k), p⟩]
    ∧ ∀ (r l : Fin 128) (t : Fin 2048), t.val = 128 * k.val + r.val → p (ix3 0 r l) = DA arg4 arg5 arg11 X4 X5 X11 t l := by
  unfold tripL_k0_t5 trip_k0_t5
  refine ⟨_, rfl, fun r l t ht => ?_⟩
  try dsimp only
  frame_out
  obtain ⟨tv, htv⟩ := t
  obtain rfl : tv = 128 * k.val + r.val := ht
  have o8 : k0_off43 k 8#32 = ![0, 128 * k.val + 8, 0] := k0_off43_eq k 0
  have o16 : k0_off43 k 16#32 = ![0, 128 * k.val + 16, 0] := k0_off43_eq k 1
  have o24 : k0_off43 k 24#32 = ![0, 128 * k.val + 24, 0] := k0_off43_eq k 2
  pointwise [
      k0_pay5, k0_pay289, k0_pay290, k0_pay291, k0_pay292, k0_pay293, k0_pay294, k0_pay295, k0_pay296, k0_pay297, k0_pay298, k0_pay299, k0_pay300,
      k0_pay301, k0_pay302, k0_pay303]
  simp only [four (k0_off36_eq k), four (k0_off37_eq k), four (k0_off38_eq k), four (k0_off39_eq k), four (k0_off40_eq k), four (k0_off41_eq k), four (k0_off42_eq k), o8, o16, o24, k0_off44_eq k, S_at, U, DA, zero_sub]
  simp [sg, Finset.sum_range_succ, W_at, Nat.add_comm, Nat.add_left_comm, Nat.add_assoc]

set_option maxHeartbeats 4000000 in
/-- and of the second. -/
theorem piece_b (k : Fin k0_t5_loop.trips) : ∃ p, (tripL_k0_t5 (F := Ideal) Variants.none c none i arg2 harg2 arg3 harg3 arg4 harg4 arg5 harg5 arg6 harg6 arg7 harg7 arg8 harg8 arg9 harg9 arg10 harg10 arg11 harg11 X3 X4 X5 X11 k).2 = [⟨Rect.unit (k0_off45 k) ![1, 128, 128] (k0_off45_inb k), p⟩]
    ∧ ∀ (r l : Fin 128) (t : Fin 2048), t.val = 128 * k.val + r.val → p (ix3 0 r l) = DG arg3 arg4 arg5 arg11 X3 X4 X5 X11 t l := by
  unfold tripL_k0_t5 trip_k0_t5
  refine ⟨_, rfl, fun r l t ht => ?_⟩
  try dsimp only
  frame_out
  obtain ⟨tv, htv⟩ := t
  obtain rfl : tv = 128 * k.val + r.val := ht
  have o8 : k0_off43 k 8#32 = ![0, 128 * k.val + 8, 0] := k0_off43_eq k 0
  have o16 : k0_off43 k 16#32 = ![0, 128 * k.val + 16, 0] := k0_off43_eq k 1
  have o24 : k0_off43 k 24#32 = ![0, 128 * k.val + 24, 0] := k0_off43_eq k 2
  pointwise [
      k0_pay5, k0_pay289, k0_pay290, k0_pay291, k0_pay292, k0_pay293, k0_pay294, k0_pay295, k0_pay296, k0_pay297, k0_pay298, k0_pay299, k0_pay300,
      k0_pay301, k0_pay302, k0_pay303]
  simp only [four (k0_off36_eq k), four (k0_off37_eq k), four (k0_off38_eq k), four (k0_off39_eq k), four (k0_off40_eq k), four (k0_off41_eq k), four (k0_off42_eq k), o8, o16, o24, k0_off44_eq k, S_at, U, DG, zero_sub]
  simp [sg, Finset.sum_range_succ, W_at, Nat.add_comm, Nat.add_left_comm, Nat.add_assoc]

/-- After some trips the places written so far hold the first gradient. -/
theorem read_a (f : BufTy.Contents (Elt Ideal) arg6.view.ty) : ∀ n : ℕ, n ≤ k0_t5_loop.trips → ∀ (t : Fin 2048) (l : Fin 128), t.val < 128 * n →
    arg6.view.read (Elt Ideal) (arg6.view.writes (Elt Ideal) f (pb_k0_t5 (F := Ideal) Variants.none c none i arg2 harg2 arg3 harg3 arg4 harg4 arg5 harg5 arg6 harg6 arg7 harg7 arg8 harg8 arg9 harg9 arg10 harg10 arg11 harg11 X3 X4 X5 X11 n).1) (ix3 0 t l) = DA arg4 arg5 arg11 X4 X5 X11 t l
  | 0, _, t, l, ht => absurd ht (by omega)
  | n + 1, hn, t, l, ht => by
    rw [show n + 1 = (⟨n, hn⟩ : Fin k0_t5_loop.trips).val + 1 from rfl, pb_k0_t5_succ]
    obtain ⟨p, ep, hp⟩ := piece_a c i arg2 harg2 arg3 harg3 arg4 harg4 arg5 harg5 arg6 harg6 arg7 harg7 arg8 harg8 arg9 harg9 arg10 harg10 arg11 harg11 X3 X4 X5 X11 ⟨n, hn⟩
    dsimp only at ep ⊢
    rw [ep, List.singleton_append]
    by_cases h : 128 * n ≤ t.val
    · refine (View.read_writes_cons_unit_of_mem arg6.view f _ p _ (ix3 0 t l) (ix3 0 ⟨t.val - 128 * n, by omega⟩ l) (k0_off45_eq _) fun a => ?_).trans
        (hp ⟨t.val - 128 * n, by omega⟩ l t (by show t.val = 128 * n + (t.val - 128 * n); omega))
      match a with
      | ⟨0, _⟩ => rfl
      | ⟨1, _⟩ => show t.val = 128 * n + (t.val - 128 * n); omega
      | ⟨2, _⟩ => exact (Nat.zero_add _).symm
    · exact (View.read_writes_cons_unit_of_not_mem arg6.view f _ p _ (ix3 0 t l) (k0_off45_eq _) (1 : Fin 3) (Or.inl (by show t.val < 128 * n; omega))).trans
        (read_a f n (Nat.le_of_succ_le hn) t l (by omega))

/-- After some trips the places written so far hold the second gradient. -/
theorem read_b (f : BufTy.Contents (Elt Ideal) arg7.view.ty) : ∀ n : ℕ, n ≤ k0_t5_loop.trips → ∀ (t : Fin 2048) (l : Fin 128), t.val < 128 * n →
    arg7.view.read (Elt Ideal) (arg7.view.writes (Elt Ideal) f (pb_k0_t5 (F := Ideal) Variants.none c none i arg2 harg2 arg3 harg3 arg4 harg4 arg5 harg5 arg6 harg6 arg7 harg7 arg8 harg8 arg9 harg9 arg10 harg10 arg11 harg11 X3 X4 X5 X11 n).2) (ix3 0 t l) = DG arg3 arg4 arg5 arg11 X3 X4 X5 X11 t l
  | 0, _, t, l, ht => absurd ht (by omega)
  | n + 1, hn, t, l, ht => by
    rw [show n + 1 = (⟨n, hn⟩ : Fin k0_t5_loop.trips).val + 1 from rfl, pb_k0_t5_succ]
    obtain ⟨p, ep, hp⟩ := piece_b c i arg2 harg2 arg3 harg3 arg4 harg4 arg5 harg5 arg6 harg6 arg7 harg7 arg8 harg8 arg9 harg9 arg10 harg10 arg11 harg11 X3 X4 X5 X11 ⟨n, hn⟩
    dsimp only at ep ⊢
    rw [ep, List.singleton_append]
    by_cases h : 128 * n ≤ t.val
    · refine (View.read_writes_cons_unit_of_mem arg7.view f _ p _ (ix3 0 t l) (ix3 0 ⟨t.val - 128 * n, by omega⟩ l) (k0_off45_eq _) fun a => ?_).trans
        (hp ⟨t.val - 128 * n, by omega⟩ l t (by show t.val = 128 * n + (t.val - 128 * n); omega))
      match a with
      | ⟨0, _⟩ => rfl
      | ⟨1, _⟩ => show t.val = 128 * n + (t.val - 128 * n); omega
      | ⟨2, _⟩ => exact (Nat.zero_add _).symm
    · exact (View.read_writes_cons_unit_of_not_mem arg7.view f _ p _ (ix3 0 t l) (k0_off45_eq _) (1 : Fin 3) (Or.inl (by show t.val < 128 * n; omega))).trans
        (read_b f n (Nat.le_of_succ_le hn) t l (by omega))

end Cert.Conv.Loops

end
-- ==== Proof.Conv.Stores.lean ====
/- Reading the buffers of one grid point after its stores: the padded sequence, its eight shifted planes, the sums that
   grow row by row. -/
module

public import proofs.«01_k».proof.Proof.Rows
public import proofs.«01_k».proof.Proof.Conv.Taps

@[expose] public section

set_option maxRecDepth 16384

noncomputable section

namespace Cert.Conv.Stores

open Cert.Kernel6Ideal Cert.Kernel6Ideal.Gen Cert.Conv.Loops
open Idealize.ShloMosaic Idealize.SL.Sem
open scoped BigOperators

/-- The newest store covers rows `o` to `o + n - 1`. -/
theorem canon_rows {e : EltTy} {R n k : ℕ} (o : ℕ)
    (inb : ∀ a : Fin 2, (![o, 0] : Fin 2 → ℕ) a + (![n, k] : Fin 2 → ℕ) a ≤ (![R, k] : Fin 2 → ℕ) a)
    (w : (⟨2, ![n, k]⟩ : Shape).Idx → Elt Ideal e) (L : List (View.Piece (Elt Ideal) ⟨2, ![R, k]⟩ e)) (r : Fin R) (l : Fin k) :
    View.canon (Val := Elt Ideal) (s := ⟨2, ![R, k]⟩) (e := e) (⟨Rect.unit (s := ⟨2, ![R, k]⟩) ![o, 0] ![n, k] inb, w⟩ :: L) (ix2 r l)
      = if h : o ≤ r.val ∧ r.val < o + n then w (ix2 ⟨r.val - o, by omega⟩ l) else View.canon (Val := Elt Ideal) (s := ⟨2, ![R, k]⟩) (e := e) L (ix2 r l) := by
  by_cases h : o ≤ r.val ∧ r.val < o + n
  · rw [dif_pos h]
    have he : (Rect.unit (s := ⟨2, ![R, k]⟩) ![o, 0] ![n, k] inb).emb (ix2 (⟨r.val - o, by omega⟩ : Fin n) l) = ix2 r l := funext fun a => Fin.ext (by
      match a with
      | ⟨0, _⟩ => show o + 1 * (r.val - o) = r.val; omega
      | ⟨1, _⟩ => show 0 + 1 * l.val = l.val; omega)
    refine (congrArg _ he.symm).trans ?_
    exact View.canon_cons_emb (Rect.unit (s := ⟨2, ![R, k]⟩) ![o, 0] ![n, k] inb) w L (ix2 (⟨r.val - o, by omega⟩ : Fin n) l)
  · rw [dif_neg h]
    refine View.canon_cons_of_not_mem _ L ?_
    rw [Rect.mem_set_unit]
    intro hall
    have h0 := hall (0 : Fin 2)
    change o ≤ r.val ∧ r.val < o + n at h0
    exact h h0

/-- The newest store covers the first rows of one plane. -/
theorem read_plane (v : View sig .tc .vmem S8x2080x128 .f32) (f : v.ty.Contents (Elt Ideal)) (o : ℕ)
    (inb : ∀ a : Fin 3, (![o, 0, 0] : Fin 3 → ℕ) a + (![1, 2072, 128] : Fin 3 → ℕ) a ≤ S8x2080x128.size a)
    (w : S1x2072x128.Idx → EReal) (L : List (View.Piece (Elt Ideal) S8x2080x128 .f32)) (b : Fin 8) (y : Fin 2080) (l : Fin 128) (hy : y.val < 2072) :
    v.read (Elt Ideal) (v.writes (Elt Ideal) f (⟨Rect.unit (s := S8x2080x128) ![o, 0, 0] ![1, 2072, 128] inb, w⟩ :: L)) (ix3 b y l)
      = if b.val = o then w (ix3 0 ⟨y.val, hy⟩ l) else v.read (Elt Ideal) (v.writes (Elt Ideal) f L) (ix3 b y l) := by
  by_cases h : b.val = o
  · rw [if_pos h]
    refine View.read_writes_cons_unit_of_mem v f inb w L (ix3 b y l) (ix3 0 ⟨y.val, hy⟩ l) rfl fun a => ?_
    match a with
    | ⟨0, _⟩ => exact h
    | ⟨1, _⟩ => exact (Nat.zero_add _).symm
    | ⟨2, _⟩ => exact (Nat.zero_add _).symm
  · rw [if_neg h]
    exact View.read_writes_cons_unit_of_not_mem v f inb w L (ix3 b y l) rfl (0 : Fin 3) (by change b.val < o ∨ o + 1 ≤ b.val; omega)

/-- The eight planes after they are filled: plane `b` holds the padded sequence moved `b` places down. -/
theorem fill (v : View sig .tc .vmem S8x2080x128 .f32) (f : v.ty.Contents (Elt Ideal)) (X : ℕ → Fin 128 → EReal)
    (w : Fin 8 → S1x2072x128.Idx → EReal) (hw : ∀ b (y : Fin 2072) l, w b (ix3 0 y l) = X (y.val + b.val) l)
    (L : List (View.Piece (Elt Ideal) S8x2080x128 .f32)) (b y : ℕ) (l : Fin 128) (hb : b < 8) (hy : y < 2072) :
    S (v.read (Elt Ideal) (v.writes (Elt Ideal) f (
      ⟨Rect.unit (s := S8x2080x128) ![7, 0, 0] ![1, 2072, 128] inb_S8x2080x128_S1x2072x128_7_0_0, w 7⟩ ::
      ⟨Rect.unit (s := S8x2080x128) ![6, 0, 0] ![1, 2072, 128] inb_S8x2080x128_S1x2072x128_6_0_0, w 6⟩ ::
      ⟨Rect.unit (s := S8x2080x128) ![5, 0, 0] ![1, 2072, 128] inb_S8x2080x128_S1x2072x128_5_0_0, w 5⟩ ::
      ⟨Rect.unit (s := S8x2080x128) ![4, 0, 0] ![1, 2072, 128] inb_S8x2080x128_S1x2072x128_4_0_0, w 4⟩ ::
      ⟨Rect.unit (s := S8x2080x128) ![3, 0, 0] ![1, 2072, 128] inb_S8x2080x128_S1x2072x128_3_0_0, w 3⟩ ::
      ⟨Rect.unit (s := S8x2080x128) ![2, 0, 0] ![1, 2072, 128] inb_S8x2080x128_S1x2072x128_2_0_0, w 2⟩ ::
      ⟨Rect.unit (s := S8x2080x128) ![1, 0, 0] ![1, 2072, 128] inb_S8x2080x128_S1x2072x128_1_0_0, w 1⟩ ::
      ⟨Rect.unit (s := S8x2080x128) ![0, 0, 0] ![1, 2072, 128] inb_S8x2080x128_S1x2072x128_0_0_0, w 0⟩ :: L))) b y l.val = X (y + b) l := by
  rw [S, dif_pos ⟨hb, by omega, l.isLt⟩]
  simp only [read_plane _ _ _ _ _ _ ⟨b, hb⟩ ⟨y, Nat.lt_of_lt_of_le hy (by decide)⟩ _ hy]
  obtain ⟨b', rfl⟩ : ∃ b' : Fin 8, b = b'.val := ⟨⟨b, hb⟩, rfl⟩
  fin_cases b' <;> simp [hw]

variable {α : Type} (rd : α → List (View.Piece (Elt Ideal) S32x128 .f32) → S32x128.Idx → EReal) (A B : ℕ → Fin 128 → EReal)

/-- The first `n` rows have their sums added, the others not yet. -/
def Rows (L : List (View.Piece (Elt Ideal) S32x128 .f32)) (n : ℕ) : Prop :=
  ∀ x (r : Fin 32) (l : Fin 128), rd x L (ix2 r l) = if r.val < n then B r.val l + A r.val l else B r.val l

/-- One more row. -/
theorem row_step (hrd : ∀ x (o : ℕ) (inb : ∀ a : Fin 2, (![o, 0] : Fin 2 → ℕ) a + (![1, 128] : Fin 2 → ℕ) a ≤ S32x128.size a) (w : S1x128.Idx → EReal) L (r : Fin 32) (l : Fin 128),
      rd x (⟨Rect.unit (s := S32x128) ![o, 0] ![1, 128] inb, w⟩ :: L) (ix2 r l) = if r.val = o then w (ix2 0 l) else rd x L (ix2 r l))
    (n : ℕ) (inb : ∀ a : Fin 2, (![n, 0] : Fin 2 → ℕ) a + (![1, 128] : Fin 2 → ℕ) a ≤ S32x128.size a) (w : S1x128.Idx → EReal) (L : List (View.Piece (Elt Ideal) S32x128 .f32))
    (h : Rows rd A B L n) (hw : Rows rd A B L n → ∀ l, w (ix2 0 l) = B n l + A n l) :
    Rows rd A B (⟨Rect.unit (s := S32x128) ![n, 0] ![1, 128] inb, w⟩ :: L) (n + 1) := by
  intro x r l
  rw [hrd]
  by_cases hr : r.val = n
  · rw [if_pos hr, if_pos (by omega), hw h, hr]
  · rw [if_neg hr, h]
    by_cases h2 : r.val < n
    · rw [if_pos h2, if_pos (by omega)]
    · rw [if_neg h2, if_neg (by omega)]

/-- The products of one tap added over all places. -/
theorem tap_sum {X : S8x2080x128.Idx → EReal} {Y : S1x2048x128.Idx → EReal} {u d : Fin 2048 → EReal} (l : Fin 128)
    (hS : ∀ b y : ℕ, b < 8 → y < 2072 → S X b y l.val = shift 16 u (y + b)) (hY : ∀ t, Y (ix3 0 t l) = d t) (j : ℕ) (hj : j < 31) :
    ∑ r : Fin 32, P X Y j 64 r.val l.val = dW d u j := by
  unfold P dW
  rw [Finset.sum_comm]
  rw [Finset.sum_range fun q => ∑ r : Fin 32, T X Y j q r.val l.val]
  refine (Fin.sum_mul_add_congr (S := 64) (n := 32) (f := fun t : Fin (64 * 32) => d t * shift 15 u (t.val + j)) (F := fun q r => Loops.T X Y j q.val r.val l.val) fun q r hl => ?_)
  unfold Loops.T
  have h1 : 32 * q.val + r.val < 2048 := by omega
  rw [D, dif_pos ⟨h1, l.isLt⟩, hS _ _ (by omega) (by omega), hY]
  refine congrArg₂ (· * ·) (congrArg d (Fin.ext (by show 32 * q.val + r.val = q.val * 32 + r.val; omega))) ?_
  rw [show 32 * q.val + r.val + 8 * ((j + 1) / 8) + (j + 1) % 8 = (q.val * 32 + r.val + j) + 1 by omega]
  exact shift_add 15 1 u _

/-- The taps added up at one place. -/
theorem tap_at {X : S8x2080x128.Idx → EReal} {W : S31x128.Idx → EReal} {d : Fin 2048 → EReal} (l : Fin 128)
    (hS : ∀ b y : ℕ, b < 8 → y < 2072 → S X b y l.val = shift 16 d (y + b)) (t : ℕ) (ht : t < 2048) :
    U X W t l = dU d (atNat fun j => W (ix2 j l)) t := by
  unfold U dU
  refine Finset.sum_congr rfl fun j hj => ?_
  have hj : j < 31 := Finset.mem_range.mp hj
  rw [hS _ _ (by omega) (by omega)]
  congr 1
  rcases le_total j 16 with h | h
  · rw [show t + 8 * ((31 - j) / 8) + (31 - j) % 8 = (t + 15) + (16 - j) by omega]
    have e := shift_add j (16 - j) d (t + 15)
    rwa [show j + (16 - j) = 16 by omega] at e
  · rw [show t + 15 = (t + 8 * ((31 - j) / 8) + (31 - j) % 8) + (j - 16) by omega]
    have e := (shift_add 16 (j - 16) d (t + 8 * ((31 - j) / 8) + (31 - j) % 8)).symm
    rwa [show 16 + (j - 16) = j by omega] at e

end Cert.Conv.Stores

end
-- ==== Proof.Conv.Planes.lean ====
/- The padded sequence a grid point builds in its scratch, first the gated input's, then the cotangent's, and the eight
   shifted planes it copies from it. -/
module

public import proofs.«01_k».proof.Proof.Conv.Stores

@[expose] public section

set_option maxRecDepth 16384

noncomputable section

namespace Cert.Conv.Planes

open Cert.Kernel6Ideal Cert.Kernel6Ideal.Gen Cert.Conv.Loops Cert.Conv.Stores
open Idealize.ShloMosaic Idealize.SL.Sem
open scoped BigOperators

variable (arg2 : Memref sig .tc .vmem S1x2048x128 .f32) (harg2 : arg2.IsWhole) (arg3 : Memref sig .tc .vmem S1x1x2048x128 .f32) (harg3 : arg3.IsWhole) (arg4 : Memref sig .tc .vmem S1x1x2048x128 .f32) (harg4 : arg4.IsWhole) (arg10 : Memref sig .tc .vmem S2080x128 .f32) (arg11 : Memref sig .tc .vmem S8x2080x128 .f32) (harg11 : arg11.IsWhole)
  (x2 : Vec Ideal S1x2048x128 .f32) (x3 : Vec Ideal S1x1x2048x128 .f32) (x4 : Vec Ideal S1x1x2048x128 .f32) (x11 : Vec Ideal S8x2080x128 .f32)

/-- The gated input of lane `l`. -/
def uIn (l : Fin 128) (t : Fin 2048) : EReal := x3 (ix4 0 0 t l) * sg (x4 (ix4 0 0 t l))

/-- The cotangent of lane `l`. -/
def dIn (l : Fin 128) (t : Fin 2048) : EReal := x2 (ix3 0 t l)

/-- The stores that build the gated input's padded sequence. -/
def padU : List (View.Piece (Elt Ideal) S2080x128 .f32) :=
  [⟨Rect.unit (s := S2080x128) ![16, 0] S2048x128.size inb_S2080x128_S2048x128_16_0, k0_pay309 (F := Ideal)
      (View.readAt (Elt Ideal) arg3.view (Rect.unit (s := S1x1x2048x128) ![0, 0, 0, 0] S1x1x2048x128.size inb_S1x1x2048x128_S1x1x2048x128_0_0_0_0).toLoadRect (harg3.unread x3))
      (View.readAt (Elt Ideal) arg4.view (Rect.unit (s := S1x1x2048x128) ![0, 0, 0, 0] S1x1x2048x128.size inb_S1x1x2048x128_S1x1x2048x128_0_0_0_0).toLoadRect (harg4.unread x4))⟩,
   ⟨Rect.unit (s := S2080x128) ![2064, 0] S16x128.size inb_S2080x128_S16x128_2064_0, k0_pay308 (F := Ideal)⟩,
   ⟨Rect.unit (s := S2080x128) ![0, 0] S16x128.size inb_S2080x128_S16x128_0_0, k0_pay307 (F := Ideal)⟩]

/-- The same after the cotangent is written over it. -/
def padD : List (View.Piece (Elt Ideal) S2080x128 .f32) :=
  ⟨Rect.unit (s := S2080x128) ![16, 0] S2048x128.size inb_S2080x128_S2048x128_16_0, k0_pay396 (F := Ideal)
      (View.readAt (Elt Ideal) arg2.view (Rect.unit (s := S1x2048x128) ![0, 0, 0] S1x2048x128.size inb_S1x2048x128_S1x2048x128_0_0_0).toLoadRect (harg2.unread x2))⟩
    :: padU arg3 harg3 arg4 harg4 x3 x4

theorem padU_at (y : Fin 2080) (l : Fin 128) :
    View.canon (Val := Elt Ideal) (s := S2080x128) (e := .f32) (padU arg3 harg3 arg4 harg4 x3 x4) (ix2 y l) = shift 16 (uIn x3 x4 l) y.val := by
  refine (canon_rows (R := 2080) (n := 2048) (k := 128) 16 _ _ _ y l).trans ?_
  unfold shift
  by_cases h : 16 ≤ y.val ∧ y.val < 16 + 2048
  · rw [dif_pos h, dif_pos (by omega)]
    pointwise [k0_pay309]
    simp only [View.readAt_eq_ld, View.ld]
    pointwise
    simp only [harg3.read_unread, harg4.read_unread]
    rw [zero_sub]; rfl
  · rw [dif_neg h, dif_neg (by omega)]
    refine (canon_rows (R := 2080) (n := 16) (k := 128) 2064 _ _ _ y l).trans ?_
    by_cases h2 : 2064 ≤ y.val ∧ y.val < 2064 + 16
    · rw [dif_pos h2]
      pointwise [k0_pay308, k0_pay306]
    · rw [dif_neg h2]
      refine (canon_rows (R := 2080) (n := 16) (k := 128) 0 _ _ _ y l).trans ?_
      rw [dif_pos (by omega)]
      pointwise [k0_pay307, k0_pay306]

theorem padD_at (y : Fin 2080) (l : Fin 128) :
    View.canon (Val := Elt Ideal) (s := S2080x128) (e := .f32) (padD arg2 harg2 arg3 harg3 arg4 harg4 x2 x3 x4) (ix2 y l) = shift 16 (dIn x2 l) y.val := by
  refine (canon_rows (R := 2080) (n := 2048) (k := 128) 16 _ _ _ y l).trans ?_
  by_cases h : 16 ≤ y.val ∧ y.val < 16 + 2048
  · unfold shift
    rw [dif_pos h, dif_pos (by omega)]
    pointwise [k0_pay396]
    simp only [View.readAt_eq_ld, View.ld]
    pointwise
    simp only [harg2.read_unread]
    rfl
  · rw [dif_neg h, padU_at]
    unfold shift
    rw [dif_neg (by omega), dif_neg (by omega)]

/-- What is copied into the eight planes. -/
def plane (L : List (View.Piece (Elt Ideal) S2080x128 .f32)) (p : Fin 8 → (S2072x128.Idx → EReal) → S1x2072x128.Idx → EReal) : Fin 8 → S1x2072x128.Idx → EReal :=
  ![p 0 (arg10.view.readCov (Val := Elt Ideal) L (Rect.unit (s := S2080x128) ![0, 0] S2072x128.size inb_S2080x128_S2072x128_0_0).toLoadRect),
    p 1 (arg10.view.readCov (Val := Elt Ideal) L (Rect.unit (s := S2080x128) ![1, 0] S2072x128.size inb_S2080x128_S2072x128_1_0).toLoadRect),
    p 2 (arg10.view.readCov (Val := Elt Ideal) L (Rect.unit (s := S2080x128) ![2, 0] S2072x128.size inb_S2080x128_S2072x128_2_0).toLoadRect),
    p 3 (arg10.view.readCov (Val := Elt Ideal) L (Rect.unit (s := S2080x128) ![3, 0] S2072x128.size inb_S2080x128_S2072x128_3_0).toLoadRect),
    p 4 (arg10.view.readCov (Val := Elt Ideal) L (Rect.unit (s := S2080x128) ![4, 0] S2072x128.size inb_S2080x128_S2072x128_4_0).toLoadRect),
    p 5 (arg10.view.readCov (Val := Elt Ideal) L (Rect.unit (s := S2080x128) ![5, 0] S2072x128.size inb_S2080x128_S2072x128_5_0).toLoadRect),
    p 6 (arg10.view.readCov (Val := Elt Ideal) L (Rect.unit (s := S2080x128) ![6, 0] S2072x128.size inb_S2080x128_S2072x128_6_0).toLoadRect),
    p 7 (arg10.view.readCov (Val := Elt Ideal) L (Rect.unit (s := S2080x128) ![7, 0] S2072x128.size inb_S2080x128_S2072x128_7_0).toLoadRect)]

theorem plane_at (L : List (View.Piece (Elt Ideal) S2080x128 .f32)) (p : Fin 8 → (S2072x128.Idx → EReal) → S1x2072x128.Idx → EReal)
    (hp : ∀ b v y l, p b v (ix3 0 y l) = v (ix2 y l)) (X : ℕ → Fin 128 → EReal)
    (hL : ∀ (y : Fin 2080) (l : Fin 128), View.canon (Val := Elt Ideal) (s := S2080x128) (e := .f32) L (ix2 y l) = X y.val l)
    (b : Fin 8) (y : Fin 2072) (l : Fin 128) : plane arg10 L p b (ix3 0 y l) = X (y.val + b.val) l := by
  have key : ∀ (o : ℕ) (inb : ∀ a : Fin 2, (![o, 0] : Fin 2 → ℕ) a + (![2072, 128] : Fin 2 → ℕ) a ≤ (![2080, 128] : Fin 2 → ℕ) a) (b : Fin 8),
      p b (arg10.view.readCov (Val := Elt Ideal) L (Rect.unit (s := S2080x128) ![o, 0] S2072x128.size inb).toLoadRect) (ix3 0 y l) = X (y.val + o) l := by
    intro o inb b
    rw [hp]
    refine (Rows.readCov_rows (R := 2080) (n := 128) (a := 2072) _ _ _ _ _ _).trans ?_
    rw [hL]
    first | rfl | exact congrArg (X · l) (Nat.add_comm _ _)
  fin_cases b <;> exact key _ _ _

/-- The eight planes over what the scratch held. -/
def Plane (w : Fin 8 → S1x2072x128.Idx → EReal) (L : List (View.Piece (Elt Ideal) S8x2080x128 .f32)) : List (View.Piece (Elt Ideal) S8x2080x128 .f32) :=
  ⟨Rect.unit (s := S8x2080x128) ![7, 0, 0] S1x2072x128.size inb_S8x2080x128_S1x2072x128_7_0_0, w 7⟩ ::
  ⟨Rect.unit (s := S8x2080x128) ![6, 0, 0] S1x2072x128.size inb_S8x2080x128_S1x2072x128_6_0_0, w 6⟩ ::
  ⟨Rect.unit (s := S8x2080x128) ![5, 0, 0] S1x2072x128.size inb_S8x2080x128_S1x2072x128_5_0_0, w 5⟩ ::
  ⟨Rect.unit (s := S8x2080x128) ![4, 0, 0] S1x2072x128.size inb_S8x2080x128_S1x2072x128_4_0_0, w 4⟩ ::
  ⟨Rect.unit (s := S8x2080x128) ![3, 0, 0] S1x2072x128.size inb_S8x2080x128_S1x2072x128_3_0_0, w 3⟩ ::
  ⟨Rect.unit (s := S8x2080x128) ![2, 0, 0] S1x2072x128.size inb_S8x2080x128_S1x2072x128_2_0_0, w 2⟩ ::
  ⟨Rect.unit (s := S8x2080x128) ![1, 0, 0] S1x2072x128.size inb_S8x2080x128_S1x2072x128_1_0_0, w 1⟩ ::
  ⟨Rect.unit (s := S8x2080x128) ![0, 0, 0] S1x2072x128.size inb_S8x2080x128_S1x2072x128_0_0_0, w 0⟩ :: L

/-- How the gated input's planes are copied. -/
def copyU : Fin 8 → (S2072x128.Idx → EReal) → S1x2072x128.Idx → EReal :=
  ![k0_pay310 (F := Ideal), k0_pay311 (F := Ideal), k0_pay312 (F := Ideal), k0_pay313 (F := Ideal), k0_pay314 (F := Ideal), k0_pay315 (F := Ideal), k0_pay316 (F := Ideal), k0_pay317 (F := Ideal)]

/-- How the cotangent's planes are copied. -/
def copyD : Fin 8 → (S2072x128.Idx → EReal) → S1x2072x128.Idx → EReal :=
  ![k0_pay397 (F := Ideal), k0_pay398 (F := Ideal), k0_pay399 (F := Ideal), k0_pay400 (F := Ideal), k0_pay1 (F := Ideal), k0_pay2 (F := Ideal), k0_pay3 (F := Ideal), k0_pay4 (F := Ideal)]

theorem copyU_at (b : Fin 8) (v : S2072x128.Idx → EReal) (y : Fin 2072) (l : Fin 128) : copyU b v (ix3 0 y l) = v (ix2 y l) := by
  fin_cases b
  · show k0_pay310 (F := Ideal) v _ = _; pointwise [k0_pay310]
  · show k0_pay311 (F := Ideal) v _ = _; pointwise [k0_pay311]
  · show k0_pay312 (F := Ideal) v _ = _; pointwise [k0_pay312]
  · show k0_pay313 (F := Ideal) v _ = _; pointwise [k0_pay313]
  · show k0_pay314 (F := Ideal) v _ = _; pointwise [k0_pay314]
  · show k0_pay315 (F := Ideal) v _ = _; pointwise [k0_pay315]
  · show k0_pay316 (F := Ideal) v _ = _; pointwise [k0_pay316]
  · show k0_pay317 (F := Ideal) v _ = _; pointwise [k0_pay317]

theorem copyD_at (b : Fin 8) (v : S2072x128.Idx → EReal) (y : Fin 2072) (l : Fin 128) : copyD b v (ix3 0 y l) = v (ix2 y l) := by
  fin_cases b
  · show k0_pay397 (F := Ideal) v _ = _; pointwise [k0_pay397]
  · show k0_pay398 (F := Ideal) v _ = _; pointwise [k0_pay398]
  · show k0_pay399 (F := Ideal) v _ = _; pointwise [k0_pay399]
  · show k0_pay400 (F := Ideal) v _ = _; pointwise [k0_pay400]
  · show k0_pay1 (F := Ideal) v _ = _; pointwise [k0_pay1]
  · show k0_pay2 (F := Ideal) v _ = _; pointwise [k0_pay2]
  · show k0_pay3 (F := Ideal) v _ = _; pointwise [k0_pay3]
  · show k0_pay4 (F := Ideal) v _ = _; pointwise [k0_pay4]

/-- The planes of the gated input, after the scratch's earlier contents. -/
def XU : arg11.view.ty.Contents (Elt Ideal) :=
  arg11.view.writes (Elt Ideal) (harg11.unread x11) (Plane (plane arg10 (padU arg3 harg3 arg4 harg4 x3 x4) copyU) [])

/-- The planes of the cotangent over those of the gated input. -/
def XD : arg11.view.ty.Contents (Elt Ideal) :=
  arg11.view.writes (Elt Ideal) (harg11.unread x11)
    (Plane (plane arg10 (padD arg2 harg2 arg3 harg3 arg4 harg4 x2 x3 x4) copyD) (Plane (plane arg10 (padU arg3 harg3 arg4 harg4 x3 x4) copyU) []))

theorem XU_at (b y : ℕ) (l : Fin 128) (hb : b < 8) (hy : y < 2072) :
    S (arg11.view.read (Elt Ideal) (XU arg3 harg3 arg4 harg4 arg10 arg11 harg11 x3 x4 x11)) b y l.val = shift 16 (uIn x3 x4 l) (y + b) :=
  fill arg11.view (harg11.unread x11) (fun y l => shift 16 (uIn x3 x4 l) y) _
    (plane_at arg10 _ copyU copyU_at (fun y l => shift 16 (uIn x3 x4 l) y) fun y l => padU_at arg3 harg3 arg4 harg4 x3 x4 y l) [] b y l hb hy

theorem XD_at (b y : ℕ) (l : Fin 128) (hb : b < 8) (hy : y < 2072) :
    S (arg11.view.read (Elt Ideal) (XD arg2 harg2 arg3 harg3 arg4 harg4 arg10 arg11 harg11 x2 x3 x4 x11)) b y l.val = shift 16 (dIn x2 l) (y + b) :=
  fill arg11.view (harg11.unread x11) (fun y l => shift 16 (dIn x2 l) y) _
    (plane_at arg10 _ copyD copyD_at (fun y l => shift 16 (dIn x2 l) y) fun y l => padD_at arg2 harg2 arg3 harg3 arg4 harg4 x2 x3 x4 y l) _ b y l hb hy

end Cert.Conv.Planes

end
-- ==== Proof.Conv.Sums.lean ====
/- What the four loops leave, added over the rows of the carried blocks, and the row of the result each sum goes to. -/
module

public import proofs.«01_k».proof.Proof.Conv.Planes

@[expose] public section

set_option maxRecDepth 16384

noncomputable section

namespace Cert.Conv.Sums

open Cert.Kernel6Ideal Cert.Kernel6Ideal.Gen Cert.Conv.Loops Cert.Conv.Stores Cert.Conv.Planes
open Idealize.ShloMosaic Idealize.SL.Sem
open scoped BigOperators

/-- The eight sums of one loop. -/
theorem of8 {X : S8x2080x128.Idx → EReal} {Y : S1x2048x128.Idx → EReal} {u d : Fin 128 → Fin 2048 → EReal}
    (hS : ∀ (l : Fin 128) (b y : ℕ), b < 8 → y < 2072 → S X b y l.val = shift 16 (u l) (y + b)) (hY : ∀ l t, Y (ix3 0 t l) = d l t)
    (j : ℕ) (hj : j + 7 < 31) (a : Carry8) (h : Holds8 X Y j 64 a) (l : Fin 128) :
    ∑ r : Fin 32, a.1 (ix2 r l) = dW (d l) (u l) (j + 0)
    ∧ ∑ r : Fin 32, a.2.1 (ix2 r l) = dW (d l) (u l) (j + 1)
    ∧ ∑ r : Fin 32, a.2.2.1 (ix2 r l) = dW (d l) (u l) (j + 2)
    ∧ ∑ r : Fin 32, a.2.2.2.1 (ix2 r l) = dW (d l) (u l) (j + 3)
    ∧ ∑ r : Fin 32, a.2.2.2.2.1 (ix2 r l) = dW (d l) (u l) (j + 4)
    ∧ ∑ r : Fin 32, a.2.2.2.2.2.1 (ix2 r l) = dW (d l) (u l) (j + 5)
    ∧ ∑ r : Fin 32, a.2.2.2.2.2.2.1 (ix2 r l) = dW (d l) (u l) (j + 6)
    ∧ ∑ r : Fin 32, a.2.2.2.2.2.2.2 (ix2 r l) = dW (d l) (u l) (j + 7) := by
  refine ⟨?_, ?_, ?_, ?_, ?_, ?_, ?_, ?_⟩
  · exact (Finset.sum_congr rfl fun r _ => (h r l).1).trans (tap_sum l (hS l) (hY l) (j + 0) (by omega))
  · exact (Finset.sum_congr rfl fun r _ => (h r l).2.1).trans (tap_sum l (hS l) (hY l) (j + 1) (by omega))
  · exact (Finset.sum_congr rfl fun r _ => (h r l).2.2.1).trans (tap_sum l (hS l) (hY l) (j + 2) (by omega))
  · exact (Finset.sum_congr rfl fun r _ => (h r l).2.2.2.1).trans (tap_sum l (hS l) (hY l) (j + 3) (by omega))
  · exact (Finset.sum_congr rfl fun r _ => (h r l).2.2.2.2.1).trans (tap_sum l (hS l) (hY l) (j + 4) (by omega))
  · exact (Finset.sum_congr rfl fun r _ => (h r l).2.2.2.2.2.1).trans (tap_sum l (hS l) (hY l) (j + 5) (by omega))
  · exact (Finset.sum_congr rfl fun r _ => (h r l).2.2.2.2.2.2.1).trans (tap_sum l (hS l) (hY l) (j + 6) (by omega))
  · exact (Finset.sum_congr rfl fun r _ => (h r l).2.2.2.2.2.2.2).trans (tap_sum l (hS l) (hY l) (j + 7) (by omega))

/-- The seven sums of the last loop. -/
theorem of7 {X : S8x2080x128.Idx → EReal} {Y : S1x2048x128.Idx → EReal} {u d : Fin 128 → Fin 2048 → EReal}
    (hS : ∀ (l : Fin 128) (b y : ℕ), b < 8 → y < 2072 → S X b y l.val = shift 16 (u l) (y + b)) (hY : ∀ l t, Y (ix3 0 t l) = d l t)
    (j : ℕ) (hj : j + 6 < 31) (a : Carry7) (h : Holds7 X Y j 64 a) (l : Fin 128) :
    ∑ r : Fin 32, a.1 (ix2 r l) = dW (d l) (u l) (j + 0)
    ∧ ∑ r : Fin 32, a.2.1 (ix2 r l) = dW (d l) (u l) (j + 1)
    ∧ ∑ r : Fin 32, a.2.2.1 (ix2 r l) = dW (d l) (u l) (j + 2)
    ∧ ∑ r : Fin 32, a.2.2.2.1 (ix2 r l) = dW (d l) (u l) (j + 3)
    ∧ ∑ r : Fin 32, a.2.2.2.2.1 (ix2 r l) = dW (d l) (u l) (j + 4)
    ∧ ∑ r : Fin 32, a.2.2.2.2.2.1 (ix2 r l) = dW (d l) (u l) (j + 5)
    ∧ ∑ r : Fin 32, a.2.2.2.2.2.2 (ix2 r l) = dW (d l) (u l) (j + 6) := by
  refine ⟨?_, ?_, ?_, ?_, ?_, ?_, ?_⟩
  · exact (Finset.sum_congr rfl fun r _ => (h r l).1).trans (tap_sum l (hS l) (hY l) (j + 0) (by omega))
  · exact (Finset.sum_congr rfl fun r _ => (h r l).2.1).trans (tap_sum l (hS l) (hY l) (j + 1) (by omega))
  · exact (Finset.sum_congr rfl fun r _ => (h r l).2.2.1).trans (tap_sum l (hS l) (hY l) (j + 2) (by omega))
  · exact (Finset.sum_congr rfl fun r _ => (h r l).2.2.2.1).trans (tap_sum l (hS l) (hY l) (j + 3) (by omega))
  · exact (Finset.sum_congr rfl fun r _ => (h r l).2.2.2.2.1).trans (tap_sum l (hS l) (hY l) (j + 4) (by omega))
  · exact (Finset.sum_congr rfl fun r _ => (h r l).2.2.2.2.2.1).trans (tap_sum l (hS l) (hY l) (j + 5) (by omega))
  · exact (Finset.sum_congr rfl fun r _ => (h r l).2.2.2.2.2.2).trans (tap_sum l (hS l) (hY l) (j + 6) (by omega))

/-- What row `n` stores of the carried block `s` and the row `v` it held. -/
def row (n : ℕ) (s : S32x128.Idx → EReal) (v : S1x128.Idx → EReal) : S1x128.Idx → EReal := match n with
  | 0 => k0_pay328 (F := Ideal) s v
  | 1 => k0_pay329 (F := Ideal) s v
  | 2 => k0_pay330 (F := Ideal) s v
  | 3 => k0_pay331 (F := Ideal) s v
  | 4 => k0_pay332 (F := Ideal) s v
  | 5 => k0_pay333 (F := Ideal) s v
  | 6 => k0_pay334 (F := Ideal) s v
  | 7 => k0_pay335 (F := Ideal) s v
  | 8 => k0_pay346 (F := Ideal) s v
  | 9 => k0_pay347 (F := Ideal) s v
  | 10 => k0_pay349 (F := Ideal) s (k0_pay348 (F := Ideal) v)
  | 11 => k0_pay350 (F := Ideal) s v
  | 12 => k0_pay351 (F := Ideal) s v
  | 13 => k0_pay352 (F := Ideal) s v
  | 14 => k0_pay353 (F := Ideal) s v
  | 15 => k0_pay355 (F := Ideal) s (k0_pay354 (F := Ideal) v)
  | 16 => k0_pay366 (F := Ideal) s v
  | 17 => k0_pay367 (F := Ideal) s v
  | 18 => k0_pay370 (F := Ideal) (k0_pay368 (F := Ideal) v) (k0_pay369 (F := Ideal) s)
  | 19 => k0_pay371 (F := Ideal) s v
  | 20 => k0_pay372 (F := Ideal) s v
  | 21 => k0_pay373 (F := Ideal) s v
  | 22 => k0_pay374 (F := Ideal) s v
  | 23 => k0_pay377 (F := Ideal) (k0_pay375 (F := Ideal) v) (k0_pay376 (F := Ideal) s)
  | 24 => k0_pay386 (F := Ideal) s v
  | 25 => k0_pay387 (F := Ideal) s v
  | 26 => k0_pay388 (F := Ideal) s v
  | 27 => k0_pay389 (F := Ideal) s v
  | 28 => k0_pay390 (F := Ideal) s v
  | 29 => k0_pay391 (F := Ideal) s v
  | 30 => k0_pay392 (F := Ideal) s v
  | _ => v

theorem row_at (n : ℕ) (hn : n < 31) (s : S32x128.Idx → EReal) (v : S1x128.Idx → EReal) (l : Fin 128) :
    row n s v (ix2 0 l) = v (ix2 0 l) + ∑ r : Fin 32, s (ix2 r l) := by
  interval_cases n <;> pointwise [row, k0_pay328, k0_pay329, k0_pay330, k0_pay331, k0_pay332, k0_pay333, k0_pay334, k0_pay335, k0_pay346, k0_pay347, k0_pay348, k0_pay349, k0_pay350, k0_pay351, k0_pay352, k0_pay353, k0_pay354, k0_pay355, k0_pay366, k0_pay367, k0_pay368, k0_pay369, k0_pay370, k0_pay371, k0_pay372, k0_pay373, k0_pay374, k0_pay375, k0_pay376, k0_pay377, k0_pay386, k0_pay387, k0_pay388, k0_pay389, k0_pay390, k0_pay391, k0_pay392]

variable (c : Dev nD) (i : grid0.Coords)
  (arg2 : Memref sig .tc .vmem S1x2048x128 .f32) (harg2 : arg2.IsWhole)
  (arg3 : Memref sig .tc .vmem S1x1x2048x128 .f32) (harg3 : arg3.IsWhole)
  (arg4 : Memref sig .tc .vmem S1x1x2048x128 .f32) (harg4 : arg4.IsWhole)
  (arg5 : Memref sig .tc .vmem S31x128 .f32) (harg5 : arg5.IsWhole)
  (arg6 : Memref sig .tc .vmem S1x2048x128 .bf16) (harg6 : arg6.IsWhole)
  (arg7 : Memref sig .tc .vmem S1x2048x128 .bf16) (harg7 : arg7.IsWhole)
  (arg8 : Memref sig .tc .vmem S32x128 .f32) (harg8 : arg8.IsWhole)
  (arg9 : Memref sig .tc .vmem S8x128 .f32) (harg9 : arg9.IsWhole)
  (arg10 : Memref sig .tc .vmem S2080x128 .f32) (harg10 : arg10.IsWhole)
  (arg11 : Memref sig .tc .vmem S8x2080x128 .f32) (harg11 : arg11.IsWhole)
  (x2 : Vec Ideal S1x2048x128 .f32) (x3 : Vec Ideal S1x1x2048x128 .f32) (x4 : Vec Ideal S1x1x2048x128 .f32) (X11 : BufTy.Contents (Elt Ideal) arg11.view.ty)

/-- What loop 1 leaves at the planes of the gated input. -/
def left1 (v : FVec Ideal S1x2072x128 .f32) :=
  st_k0_t1 (F := Ideal) Variants.none c none i arg2 harg2 arg3 harg3 arg4 harg4 arg5 harg5 arg6 harg6 arg7 harg7 arg8 harg8 arg9 harg9 arg10 harg10 arg11 harg11 v (harg2.unread x2) X11 (k0_pay318, k0_pay319, k0_pay320, k0_pay321, k0_pay322, k0_pay323, k0_pay324, k0_pay325) (Scf.trips k0_t1_loop.lb k0_t1_loop.ub k0_t1_loop.st)

theorem sums1 (v : FVec Ideal S1x2072x128 .f32) (hS : ∀ (l : Fin 128) (b y : ℕ), b < 8 → y < 2072 → S (arg11.view.read (Elt Ideal) X11) b y l.val = shift 16 (uIn x3 x4 l) (y + b)) (l : Fin 128) :
    ∑ r : Fin 32, (left1 c i arg2 harg2 arg3 harg3 arg4 harg4 arg5 harg5 arg6 harg6 arg7 harg7 arg8 harg8 arg9 harg9 arg10 harg10 arg11 harg11 x2 X11 v).1 (ix2 r l) = dW (dIn x2 l) (uIn x3 x4 l) 0
    ∧ ∑ r : Fin 32, (left1 c i arg2 harg2 arg3 harg3 arg4 harg4 arg5 harg5 arg6 harg6 arg7 harg7 arg8 harg8 arg9 harg9 arg10 harg10 arg11 harg11 x2 X11 v).2.1 (ix2 r l) = dW (dIn x2 l) (uIn x3 x4 l) 1
    ∧ ∑ r : Fin 32, (left1 c i arg2 harg2 arg3 harg3 arg4 harg4 arg5 harg5 arg6 harg6 arg7 harg7 arg8 harg8 arg9 harg9 arg10 harg10 arg11 harg11 x2 X11 v).2.2.1 (ix2 r l) = dW (dIn x2 l) (uIn x3 x4 l) 2
    ∧ ∑ r : Fin 32, (left1 c i arg2 harg2 arg3 harg3 arg4 harg4 arg5 harg5 arg6 harg6 arg7 harg7 arg8 harg8 arg9 harg9 arg10 harg10 arg11 harg11 x2 X11 v).2.2.2.1 (ix2 r l) = dW (dIn x2 l) (uIn x3 x4 l) 3
    ∧ ∑ r : Fin 32, (left1 c i arg2 harg2 arg3 harg3 arg4 harg4 arg5 harg5 arg6 harg6 arg7 harg7 arg8 harg8 arg9 harg9 arg10 harg10 arg11 harg11 x2 X11 v).2.2.2.2.1 (ix2 r l) = dW (dIn x2 l) (uIn x3 x4 l) 4
    ∧ ∑ r : Fin 32, (left1 c i arg2 harg2 arg3 harg3 arg4 harg4 arg5 harg5 arg6 harg6 arg7 harg7 arg8 harg8 arg9 harg9 arg10 harg10 arg11 harg11 x2 X11 v).2.2.2.2.2.1 (ix2 r l) = dW (dIn x2 l) (uIn x3 x4 l) 5
    ∧ ∑ r : Fin 32, (left1 c i arg2 harg2 arg3 harg3 arg4 harg4 arg5 harg5 arg6 harg6 arg7 harg7 arg8 harg8 arg9 harg9 arg10 harg10 arg11 harg11 x2 X11 v).2.2.2.2.2.2.1 (ix2 r l) = dW (dIn x2 l) (uIn x3 x4 l) 6
    ∧ ∑ r : Fin 32, (left1 c i arg2 harg2 arg3 harg3 arg4 harg4 arg5 harg5 arg6 harg6 arg7 harg7 arg8 harg8 arg9 harg9 arg10 harg10 arg11 harg11 x2 X11 v).2.2.2.2.2.2.2 (ix2 r l) = dW (dIn x2 l) (uIn x3 x4 l) 7 :=
  of8 hS (fun l t => by rw [harg2.read_unread]; rfl) 0 (by decide) _
    (done1 c i arg2 harg2 arg3 harg3 arg4 harg4 arg5 harg5 arg6 harg6 arg7 harg7 arg8 harg8 arg9 harg9 arg10 harg10 arg11 harg11 (harg2.unread x2) X11 v) l

/-- What loop 2 leaves at the planes of the gated input. -/
def left2 (v : FVec Ideal S32x128 .f32) (v' : Vec Ideal S1x128 .f32) :=
  st_k0_t2 (F := Ideal) Variants.none c none i arg2 harg2 arg3 harg3 arg4 harg4 arg5 harg5 arg6 harg6 arg7 harg7 arg8 harg8 arg9 harg9 arg10 harg10 arg11 harg11 v v' (harg2.unread x2) X11 (k0_pay336, k0_pay337, k0_pay338, k0_pay339, k0_pay340, k0_pay341, k0_pay342, k0_pay343) (Scf.trips k0_t2_loop.lb k0_t2_loop.ub k0_t2_loop.st)

theorem sums2 (v : FVec Ideal S32x128 .f32) (v' : Vec Ideal S1x128 .f32) (hS : ∀ (l : Fin 128) (b y : ℕ), b < 8 → y < 2072 → S (arg11.view.read (Elt Ideal) X11) b y l.val = shift 16 (uIn x3 x4 l) (y + b)) (l : Fin 128) :
    ∑ r : Fin 32, (left2 c i arg2 harg2 arg3 harg3 arg4 harg4 arg5 harg5 arg6 harg6 arg7 harg7 arg8 harg8 arg9 harg9 arg10 harg10 arg11 harg11 x2 X11 v v').1 (ix2 r l) = dW (dIn x2 l) (uIn x3 x4 l) 8
    ∧ ∑ r : Fin 32, (left2 c i arg2 harg2 arg3 harg3 arg4 harg4 arg5 harg5 arg6 harg6 arg7 harg7 arg8 harg8 arg9 harg9 arg10 harg10 arg11 harg11 x2 X11 v v').2.1 (ix2 r l) = dW (dIn x2 l) (uIn x3 x4 l) 9
    ∧ ∑ r : Fin 32, (left2 c i arg2 harg2 arg3 harg3 arg4 harg4 arg5 harg5 arg6 harg6 arg7 harg7 arg8 harg8 arg9 harg9 arg10 harg10 arg11 harg11 x2 X11 v v').2.2.1 (ix2 r l) = dW (dIn x2 l) (uIn x3 x4 l) 10
    ∧ ∑ r : Fin 32, (left2 c i arg2 harg2 arg3 harg3 arg4 harg4 arg5 harg5 arg6 harg6 arg7 harg7 arg8 harg8 arg9 harg9 arg10 harg10 arg11 harg11 x2 X11 v v').2.2.2.1 (ix2 r l) = dW (dIn x2 l) (uIn x3 x4 l) 11
    ∧ ∑ r : Fin 32, (left2 c i arg2 harg2 arg3 harg3 arg4 harg4 arg5 harg5 arg6 harg6 arg7 harg7 arg8 harg8 arg9 harg9 arg10 harg10 arg11 harg11 x2 X11 v v').2.2.2.2.1 (ix2 r l) = dW (dIn x2 l) (uIn x3 x4 l) 12
    ∧ ∑ r : Fin 32, (left2 c i arg2 harg2 arg3 harg3 arg4 harg4 arg5 harg5 arg6 harg6 arg7 harg7 arg8 harg8 arg9 harg9 arg10 harg10 arg11 harg11 x2 X11 v v').2.2.2.2.2.1 (ix2 r l) = dW (dIn x2 l) (uIn x3 x4 l) 13
    ∧ ∑ r : Fin 32, (left2 c i arg2 harg2 arg3 harg3 arg4 harg4 arg5 harg5 arg6 harg6 arg7 harg7 arg8 harg8 arg9 harg9 arg10 harg10 arg11 harg11 x2 X11 v v').2.2.2.2.2.2.1 (ix2 r l) = dW (dIn x2 l) (uIn x3 x4 l) 14
    ∧ ∑ r : Fin 32, (left2 c i arg2 harg2 arg3 harg3 arg4 harg4 arg5 harg5 arg6 harg6 arg7 harg7 arg8 harg8 arg9 harg9 arg10 harg10 arg11 harg11 x2 X11 v v').2.2.2.2.2.2.2 (ix2 r l) = dW (dIn x2 l) (uIn x3 x4 l) 15 :=
  of8 hS (fun l t => by rw [harg2.read_unread]; rfl) 8 (by decide) _
    (done2 c i arg2 harg2 arg3 harg3 arg4 harg4 arg5 harg5 arg6 harg6 arg7 harg7 arg8 harg8 arg9 harg9 arg10 harg10 arg11 harg11 (harg2.unread x2) X11 v v') l

/-- What loop 3 leaves at the planes of the gated input. -/
def left3 (v : FVec Ideal S32x128 .f32) (v' : FVec Ideal S1x128 .f32) :=
  st_k0_t3 (F := Ideal) Variants.none c none i arg2 harg2 arg3 harg3 arg4 harg4 arg5 harg5 arg6 harg6 arg7 harg7 arg8 harg8 arg9 harg9 arg10 harg10 arg11 harg11 v v' (harg2.unread x2) X11 (k0_pay356, k0_pay357, k0_pay358, k0_pay359, k0_pay360, k0_pay361, k0_pay362, k0_pay363) (Scf.trips k0_t3_loop.lb k0_t3_loop.ub k0_t3_loop.st)

theorem sums3 (v : FVec Ideal S32x128 .f32) (v' : FVec Ideal S1x128 .f32) (hS : ∀ (l : Fin 128) (b y : ℕ), b < 8 → y < 2072 → S (arg11.view.read (Elt Ideal) X11) b y l.val = shift 16 (uIn x3 x4 l) (y + b)) (l : Fin 128) :
    ∑ r : Fin 32, (left3 c i arg2 harg2 arg3 harg3 arg4 harg4 arg5 harg5 arg6 harg6 arg7 harg7 arg8 harg8 arg9 harg9 arg10 harg10 arg11 harg11 x2 X11 v v').1 (ix2 r l) = dW (dIn x2 l) (uIn x3 x4 l) 16
    ∧ ∑ r : Fin 32, (left3 c i arg2 harg2 arg3 harg3 arg4 harg4 arg5 harg5 arg6 harg6 arg7 harg7 arg8 harg8 arg9 harg9 arg10 harg10 arg11 harg11 x2 X11 v v').2.1 (ix2 r l) = dW (dIn x2 l) (uIn x3 x4 l) 17
    ∧ ∑ r : Fin 32, (left3 c i arg2 harg2 arg3 harg3 arg4 harg4 arg5 harg5 arg6 harg6 arg7 harg7 arg8 harg8 arg9 harg9 arg10 harg10 arg11 harg11 x2 X11 v v').2.2.1 (ix2 r l) = dW (dIn x2 l) (uIn x3 x4 l) 18
    ∧ ∑ r : Fin 32, (left3 c i arg2 harg2 arg3 harg3 arg4 harg4 arg5 harg5 arg6 harg6 arg7 harg7 arg8 harg8 arg9 harg9 arg10 harg10 arg11 harg11 x2 X11 v v').2.2.2.1 (ix2 r l) = dW (dIn x2 l) (uIn x3 x4 l) 19
    ∧ ∑ r : Fin 32, (left3 c i arg2 harg2 arg3 harg3 arg4 harg4 arg5 harg5 arg6 harg6 arg7 harg7 arg8 harg8 arg9 harg9 arg10 harg10 arg11 harg11 x2 X11 v v').2.2.2.2.1 (ix2 r l) = dW (dIn x2 l) (uIn x3 x4 l) 20
    ∧ ∑ r : Fin 32, (left3 c i arg2 harg2 arg3 harg3 arg4 harg4 arg5 harg5 arg6 harg6 arg7 harg7 arg8 harg8 arg9 harg9 arg10 harg10 arg11 harg11 x2 X11 v v').2.2.2.2.2.1 (ix2 r l) = dW (dIn x2 l) (uIn x3 x4 l) 21
    ∧ ∑ r : Fin 32, (left3 c i arg2 harg2 arg3 harg3 arg4 harg4 arg5 harg5 arg6 harg6 arg7 harg7 arg8 harg8 arg9 harg9 arg10 harg10 arg11 harg11 x2 X11 v v').2.2.2.2.2.2.1 (ix2 r l) = dW (dIn x2 l) (uIn x3 x4 l) 22
    ∧ ∑ r : Fin 32, (left3 c i arg2 harg2 arg3 harg3 arg4 harg4 arg5 harg5 arg6 harg6 arg7 harg7 arg8 harg8 arg9 harg9 arg10 harg10 arg11 harg11 x2 X11 v v').2.2.2.2.2.2.2 (ix2 r l) = dW (dIn x2 l) (uIn x3 x4 l) 23 :=
  of8 hS (fun l t => by rw [harg2.read_unread]; rfl) 16 (by decide) _
    (done3 c i arg2 harg2 arg3 harg3 arg4 harg4 arg5 harg5 arg6 harg6 arg7 harg7 arg8 harg8 arg9 harg9 arg10 harg10 arg11 harg11 (harg2.unread x2) X11 v v') l

/-- What loop 4 leaves at the planes of the gated input. -/
def left4 (v : FVec Ideal S1x128 .f32) (v' : FVec Ideal S1x128 .f32) :=
  st_k0_t4 (F := Ideal) Variants.none c none i arg2 harg2 arg3 harg3 arg4 harg4 arg5 harg5 arg6 harg6 arg7 harg7 arg8 harg8 arg9 harg9 arg10 harg10 arg11 harg11 v v' (harg2.unread x2) X11 (k0_pay378, k0_pay379, k0_pay380, k0_pay381, k0_pay382, k0_pay383, k0_pay384) (Scf.trips k0_t4_loop.lb k0_t4_loop.ub k0_t4_loop.st)

theorem sums4 (v : FVec Ideal S1x128 .f32) (v' : FVec Ideal S1x128 .f32) (hS : ∀ (l : Fin 128) (b y : ℕ), b < 8 → y < 2072 → S (arg11.view.read (Elt Ideal) X11) b y l.val = shift 16 (uIn x3 x4 l) (y + b)) (l : Fin 128) :
    ∑ r : Fin 32, (left4 c i arg2 harg2 arg3 harg3 arg4 harg4 arg5 harg5 arg6 harg6 arg7 harg7 arg8 harg8 arg9 harg9 arg10 harg10 arg11 harg11 x2 X11 v v').1 (ix2 r l) = dW (dIn x2 l) (uIn x3 x4 l) 24
    ∧ ∑ r : Fin 32, (left4 c i arg2 harg2 arg3 harg3 arg4 harg4 arg5 harg5 arg6 harg6 arg7 harg7 arg8 harg8 arg9 harg9 arg10 harg10 arg11 harg11 x2 X11 v v').2.1 (ix2 r l) = dW (dIn x2 l) (uIn x3 x4 l) 25
    ∧ ∑ r : Fin 32, (left4 c i arg2 harg2 arg3 harg3 arg4 harg4 arg5 harg5 arg6 harg6 arg7 harg7 arg8 harg8 arg9 harg9 arg10 harg10 arg11 harg11 x2 X11 v v').2.2.1 (ix2 r l) = dW (dIn x2 l) (uIn x3 x4 l) 26
    ∧ ∑ r : Fin 32, (left4 c i arg2 harg2 arg3 harg3 arg4 harg4 arg5 harg5 arg6 harg6 arg7 harg7 arg8 harg8 arg9 harg9 arg10 harg10 arg11 harg11 x2 X11 v v').2.2.2.1 (ix2 r l) = dW (dIn x2 l) (uIn x3 x4 l) 27
    ∧ ∑ r : Fin 32, (left4 c i arg2 harg2 arg3 harg3 arg4 harg4 arg5 harg5 arg6 harg6 arg7 harg7 arg8 harg8 arg9 harg9 arg10 harg10 arg11 harg11 x2 X11 v v').2.2.2.2.1 (ix2 r l) = dW (dIn x2 l) (uIn x3 x4 l) 28
    ∧ ∑ r : Fin 32, (left4 c i arg2 harg2 arg3 harg3 arg4 harg4 arg5 harg5 arg6 harg6 arg7 harg7 arg8 harg8 arg9 harg9 arg10 harg10 arg11 harg11 x2 X11 v v').2.2.2.2.2.1 (ix2 r l) = dW (dIn x2 l) (uIn x3 x4 l) 29
    ∧ ∑ r : Fin 32, (left4 c i arg2 harg2 arg3 harg3 arg4 harg4 arg5 harg5 arg6 harg6 arg7 harg7 arg8 harg8 arg9 harg9 arg10 harg10 arg11 harg11 x2 X11 v v').2.2.2.2.2.2 (ix2 r l) = dW (dIn x2 l) (uIn x3 x4 l) 30 :=
  of7 hS (fun l t => by rw [harg2.read_unread]; rfl) 24 (by decide) _
    (done4 c i arg2 harg2 arg3 harg3 arg4 harg4 arg5 harg5 arg6 harg6 arg7 harg7 arg8 harg8 arg9 harg9 arg10 harg10 arg11 harg11 (harg2.unread x2) X11 v v') l

end Cert.Conv.Sums

end
-- ==== Proof.Conv.FirstRows.lean ====
/- The rows of the taps' gradient after the first point of a lane block: each holds this sequence's sum. -/
module

public import proofs.«01_k».proof.Proof.Conv.First
public import proofs.«01_k».proof.Proof.Conv.Sums

@[expose] public section

set_option maxRecDepth 16384

noncomputable section

namespace Cert.Conv.FirstRows

open Cert.Kernel6Ideal Cert.Kernel6Ideal.Gen Cert.Conv.Loops Cert.Conv.Stores Cert.Conv.Planes Cert.Conv.Sums
open Idealize.ShloMosaic Idealize.SL.Sem
open scoped BigOperators

variable (c : Dev nD) (i : grid0.Coords)
  (arg2 : Memref sig .tc .vmem S1x2048x128 .f32) (harg2 : arg2.IsWhole)
  (arg3 : Memref sig .tc .vmem S1x1x2048x128 .f32) (harg3 : arg3.IsWhole)
  (arg4 : Memref sig .tc .vmem S1x1x2048x128 .f32) (harg4 : arg4.IsWhole)
  (arg5 : Memref sig .tc .vmem S31x128 .f32) (harg5 : arg5.IsWhole)
  (arg6 : Memref sig .tc .vmem S1x2048x128 .bf16) (harg6 : arg6.IsWhole)
  (arg7 : Memref sig .tc .vmem S1x2048x128 .bf16) (harg7 : arg7.IsWhole)
  (arg8 : Memref sig .tc .vmem S32x128 .f32) (harg8 : arg8.IsWhole)
  (arg9 : Memref sig .tc .vmem S8x128 .f32) (harg9 : arg9.IsWhole)
  (arg10 : Memref sig .tc .vmem S2080x128 .f32) (harg10 : arg10.IsWhole)
  (arg11 : Memref sig .tc .vmem S8x2080x128 .f32) (harg11 : arg11.IsWhole)
  (hc : Run.First i)
  (x2 : Vec Ideal S1x2048x128 .f32) (x3 : Vec Ideal S1x1x2048x128 .f32) (x4 : Vec Ideal S1x1x2048x128 .f32) (x5 : Vec Ideal S31x128 .f32) (x6 : Vec Ideal S1x2048x128 .bf16) (x7 : Vec Ideal S1x2048x128 .bf16) (x8 : Vec Ideal S32x128 .f32) (x9 : Vec Ideal S8x128 .f32) (x10 : Vec Ideal S2080x128 .f32) (x11 : Vec Ideal S8x2080x128 .f32)

/-- Reading the rows: as the stores alone leave them, or of the buffer. -/
def rd (b : Bool) (L : List (View.Piece (Elt Ideal) S32x128 .f32)) : S32x128.Idx → EReal :=
  if b then View.canon (Val := Elt Ideal) (s := S32x128) (e := .f32) L else arg8.view.read (Elt Ideal) (arg8.view.writes (Elt Ideal) arg8.view.junk L)

theorem rd_row (b : Bool) (o : ℕ) (inb : ∀ a : Fin 2, (![o, 0] : Fin 2 → ℕ) a + (![1, 128] : Fin 2 → ℕ) a ≤ S32x128.size a) (w : S1x128.Idx → EReal)
    (L : List (View.Piece (Elt Ideal) S32x128 .f32)) (r : Fin 32) (l : Fin 128) :
    rd arg8 b (⟨Rect.unit (s := S32x128) ![o, 0] ![1, 128] inb, w⟩ :: L) (ix2 r l) = if r.val = o then w (ix2 0 l) else rd arg8 b L (ix2 r l) := by
  cases b
  · exact Rows.read_row (R := 32) (n := 128) arg8.view arg8.view.junk o inb w L r l
  · exact Rows.canon_row (R := 32) (n := 128) o inb w L r l

/-- Before the first row is added all are zero. -/
theorem base : Rows (rd arg8) (fun j l => dW (dIn x2 l) (uIn x3 x4 l) j) (fun _ _ => 0)
    [⟨Rect.unit (s := S32x128) ![0, 0] S32x128.size inb_S32x128_S32x128_0_0, k0_pay304 (F := Ideal)⟩] 0 := by
  intro b r l
  rw [if_neg (by omega)]
  cases b
  · refine (View.read_writes_cons_unit_of_mem arg8.view arg8.view.junk inb_S32x128_S32x128_0_0 (show S32x128.Idx → Elt Ideal .f32 from k0_pay304 (F := Ideal)) [] (ix2 r l) (ix2 r l) rfl fun a => ?_).trans ?_
    · match a with
      | ⟨0, _⟩ => exact (Nat.zero_add _).symm
      | ⟨1, _⟩ => exact (Nat.zero_add _).symm
    · pointwise [k0_pay304]
  · refine (Rows.canon_fill (R := 32) (n := 128) _ _ _ r l).trans ?_
    pointwise [k0_pay304]

/-- One row more. -/
theorem step (n : ℕ) (hn : n < 31) (inb : ∀ a : Fin 2, (![n, 0] : Fin 2 → ℕ) a + (![1, 128] : Fin 2 → ℕ) a ≤ S32x128.size a) (s : S32x128.Idx → EReal) (L : List (View.Piece (Elt Ideal) S32x128 .f32))
    (hs : ∀ l, ∑ r : Fin 32, s (ix2 r l) = dW (dIn x2 l) (uIn x3 x4 l) n)
    (h : Rows (rd arg8) (fun j l => dW (dIn x2 l) (uIn x3 x4 l) j) (fun _ _ => 0) L n) :
    Rows (rd arg8) (fun j l => dW (dIn x2 l) (uIn x3 x4 l) j) (fun _ _ => 0)
      (⟨Rect.unit (s := S32x128) ![n, 0] ![1, 128] inb, row n s (arg8.view.readCov (Val := Elt Ideal) L (Rect.unit (s := S32x128) ![n, 0] ![1, 128] inb).toLoadRect)⟩ :: L) (n + 1) := by
  refine row_step (rd arg8) _ _ (fun b o inb w L r l => rd_row arg8 b o inb w L r l) n inb _ L h fun h l => ?_
  rw [row_at n hn, hs]
  refine congrArg (· + _) ((Rows.readCov_rows (R := 32) (n := 128) (a := 1) arg8.view L n inb 0 l).trans ?_)
  exact (h true ⟨n, by omega⟩ l).trans (if_neg (lt_irrefl n))

set_option maxHeartbeats 4000000 in
/-- The planes as this point's stores name them. -/
theorem planes : arg11.view.writes (Elt Ideal) (harg11.unread x11) [⟨Rect.unit ![7, 0, 0] S1x2072x128.size inb_S8x2080x128_S1x2072x128_7_0_0, k0_pay317 (F := Ideal) (Run.first.sl.v53 c arg3 harg3 arg4 harg4 arg10 x3 x4)⟩, ⟨Rect.unit ![6, 0, 0] S1x2072x128.size inb_S8x2080x128_S1x2072x128_6_0_0, Run.first.sl.r_1 c arg3 harg3 arg4 harg4 arg10 x3 x4⟩, ⟨Rect.unit ![5, 0, 0] S1x2072x128.size inb_S8x2080x128_S1x2072x128_5_0_0, k0_pay315 (F := Ideal) (Run.first.sl.v45 c arg3 harg3 arg4 harg4 arg10 x3 x4)⟩, ⟨Rect.unit ![4, 0, 0] S1x2072x128.size inb_S8x2080x128_S1x2072x128_4_0_0, k0_pay314 (F := Ideal) (Run.first.sl.v41 c arg3 harg3 arg4 harg4 arg10 x3 x4)⟩, ⟨Rect.unit ![3, 0, 0] S1x2072x128.size inb_S8x2080x128_S1x2072x128_3_0_0, k0_pay313 (F := Ideal) (Run.first.sl.v37 c arg3 harg3 arg4 harg4 arg10 x3 x4)⟩, ⟨Rect.unit ![2, 0, 0] S1x2072x128.size inb_S8x2080x128_S1x2072x128_2_0_0, k0_pay312 (F := Ideal) (Run.first.sl.v33 c arg3 harg3 arg4 harg4 arg10 x3 x4)⟩, ⟨Rect.unit ![1, 0, 0] S1x2072x128.size inb_S8x2080x128_S1x2072x128_1_0_0, k0_pay311 (F := Ideal) (Run.first.sl.v29 c arg3 harg3 arg4 harg4 arg10 x3 x4)⟩, ⟨Rect.unit ![0, 0, 0] S1x2072x128.size inb_S8x2080x128_S1x2072x128_0_0_0, Run.first.sl.r c arg3 harg3 arg4 harg4 arg10 x3 x4⟩] = XU arg3 harg3 arg4 harg4 arg10 arg11 harg11 x3 x4 x11 := by
  unfold Run.first.sl.r Run.first.sl.r_1 Run.first.sl.v25 Run.first.sl.v29 Run.first.sl.v33 Run.first.sl.v37 Run.first.sl.v41 Run.first.sl.v45 Run.first.sl.v49 Run.first.sl.v53 Run.first.sl.H10_3 XU Plane plane padU
  rfl

/-- The shifted sequence read at any plane. -/
theorem shifted (l : Fin 128) (b y : ℕ) (hb : b < 8) (hy : y < 2072) :
    S (arg11.view.read (Elt Ideal) (arg11.view.writes (Elt Ideal) (harg11.unread x11) [⟨Rect.unit ![7, 0, 0] S1x2072x128.size inb_S8x2080x128_S1x2072x128_7_0_0, k0_pay317 (F := Ideal) (Run.first.sl.v53 c arg3 harg3 arg4 harg4 arg10 x3 x4)⟩, ⟨Rect.unit ![6, 0, 0] S1x2072x128.size inb_S8x2080x128_S1x2072x128_6_0_0, Run.first.sl.r_1 c arg3 harg3 arg4 harg4 arg10 x3 x4⟩, ⟨Rect.unit ![5, 0, 0] S1x2072x128.size inb_S8x2080x128_S1x2072x128_5_0_0, k0_pay315 (F := Ideal) (Run.first.sl.v45 c arg3 harg3 arg4 harg4 arg10 x3 x4)⟩, ⟨Rect.unit ![4, 0, 0] S1x2072x128.size inb_S8x2080x128_S1x2072x128_4_0_0, k0_pay314 (F := Ideal) (Run.first.sl.v41 c arg3 harg3 arg4 harg4 arg10 x3 x4)⟩, ⟨Rect.unit ![3, 0, 0] S1x2072x128.size inb_S8x2080x128_S1x2072x128_3_0_0, k0_pay313 (F := Ideal) (Run.first.sl.v37 c arg3 harg3 arg4 harg4 arg10 x3 x4)⟩, ⟨Rect.unit ![2, 0, 0] S1x2072x128.size inb_S8x2080x128_S1x2072x128_2_0_0, k0_pay312 (F := Ideal) (Run.first.sl.v33 c arg3 harg3 arg4 harg4 arg10 x3 x4)⟩, ⟨Rect.unit ![1, 0, 0] S1x2072x128.size inb_S8x2080x128_S1x2072x128_1_0_0, k0_pay311 (F := Ideal) (Run.first.sl.v29 c arg3 harg3 arg4 harg4 arg10 x3 x4)⟩, ⟨Rect.unit ![0, 0, 0] S1x2072x128.size inb_S8x2080x128_S1x2072x128_0_0_0, Run.first.sl.r c arg3 harg3 arg4 harg4 arg10 x3 x4⟩])) b y l.val = shift 16 (uIn x3 x4 l) (y + b) := by
  rw [planes]
  exact XU_at arg3 harg3 arg4 harg4 arg10 arg11 harg11 x3 x4 x11 b y l hb hy

set_option maxHeartbeats 4000000 in
/-- All 31 rows. -/
theorem rows : Rows (rd arg8) (fun j l => dW (dIn x2 l) (uIn x3 x4 l) j) (fun _ _ => 0)
    (Run.first (F := Ideal) c i arg2 harg2 arg3 harg3 arg4 harg4 arg5 harg5 arg6 harg6 arg7 harg7 arg8 harg8 arg9 harg9 arg10 harg10 arg11 harg11 hc x2 x3 x4 x5 x6 x7 x8 x9 x10 x11).2.2.1 31 := by
  have hS := shifted c arg3 harg3 arg4 harg4 arg10 arg11 harg11 x3 x4 x11
  refine step arg8 x2 x3 x4 30 (by decide) _ _ _ (fun l => (sums4 c i arg2 harg2 arg3 harg3 arg4 harg4 arg5 harg5 arg6 harg6 arg7 harg7 arg8 harg8 arg9 harg9 arg10 harg10 arg11 harg11 x2 x3 x4 _ _ _ hS l).2.2.2.2.2.2) ?_
  refine step arg8 x2 x3 x4 29 (by decide) _ _ _ (fun l => (sums4 c i arg2 harg2 arg3 harg3 arg4 harg4 arg5 harg5 arg6 harg6 arg7 harg7 arg8 harg8 arg9 harg9 arg10 harg10 arg11 harg11 x2 x3 x4 _ _ _ hS l).2.2.2.2.2.1) ?_
  refine step arg8 x2 x3 x4 28 (by decide) _ _ _ (fun l => (sums4 c i arg2 harg2 arg3 harg3 arg4 harg4 arg5 harg5 arg6 harg6 arg7 harg7 arg8 harg8 arg9 harg9 arg10 harg10 arg11 harg11 x2 x3 x4 _ _ _ hS l).2.2.2.2.1) ?_
  refine step arg8 x2 x3 x4 27 (by decide) _ _ _ (fun l => (sums4 c i arg2 harg2 arg3 harg3 arg4 harg4 arg5 harg5 arg6 harg6 arg7 harg7 arg8 harg8 arg9 harg9 arg10 harg10 arg11 harg11 x2 x3 x4 _ _ _ hS l).2.2.2.1) ?_
  refine step arg8 x2 x3 x4 26 (by decide) _ _ _ (fun l => (sums4 c i arg2 harg2 arg3 harg3 arg4 harg4 arg5 harg5 arg6 harg6 arg7 harg7 arg8 harg8 arg9 harg9 arg10 harg10 arg11 harg11 x2 x3 x4 _ _ _ hS l).2.2.1) ?_
  refine step arg8 x2 x3 x4 25 (by decide) _ _ _ (fun l => (sums4 c i arg2 harg2 arg3 harg3 arg4 harg4 arg5 harg5 arg6 harg6 arg7 harg7 arg8 harg8 arg9 harg9 arg10 harg10 arg11 harg11 x2 x3 x4 _ _ _ hS l).2.1) ?_
  refine step arg8 x2 x3 x4 24 (by decide) _ _ _ (fun l => (sums4 c i arg2 harg2 arg3 harg3 arg4 harg4 arg5 harg5 arg6 harg6 arg7 harg7 arg8 harg8 arg9 harg9 arg10 harg10 arg11 harg11 x2 x3 x4 _ _ _ hS l).1) ?_
  refine step arg8 x2 x3 x4 23 (by decide) _ _ _ (fun l => (sums3 c i arg2 harg2 arg3 harg3 arg4 harg4 arg5 harg5 arg6 harg6 arg7 harg7 arg8 harg8 arg9 harg9 arg10 harg10 arg11 harg11 x2 x3 x4 _ _ _ hS l).2.2.2.2.2.2.2) ?_
  refine step arg8 x2 x3 x4 22 (by decide) _ _ _ (fun l => (sums3 c i arg2 harg2 arg3 harg3 arg4 harg4 arg5 harg5 arg6 harg6 arg7 harg7 arg8 harg8 arg9 harg9 arg10 harg10 arg11 harg11 x2 x3 x4 _ _ _ hS l).2.2.2.2.2.2.1) ?_
  refine step arg8 x2 x3 x4 21 (by decide) _ _ _ (fun l => (sums3 c i arg2 harg2 arg3 harg3 arg4 harg4 arg5 harg5 arg6 harg6 arg7 harg7 arg8 harg8 arg9 harg9 arg10 harg10 arg11 harg11 x2 x3 x4 _ _ _ hS l).2.2.2.2.2.1) ?_
  refine step arg8 x2 x3 x4 20 (by decide) _ _ _ (fun l => (sums3 c i arg2 harg2 arg3 harg3 arg4 harg4 arg5 harg5 arg6 harg6 arg7 harg7 arg8 harg8 arg9 harg9 arg10 harg10 arg11 harg11 x2 x3 x4 _ _ _ hS l).2.2.2.2.1) ?_
  refine step arg8 x2 x3 x4 19 (by decide) _ _ _ (fun l => (sums3 c i arg2 harg2 arg3 harg3 arg4 harg4 arg5 harg5 arg6 harg6 arg7 harg7 arg8 harg8 arg9 harg9 arg10 harg10 arg11 harg11 x2 x3 x4 _ _ _ hS l).2.2.2.1) ?_
  refine step arg8 x2 x3 x4 18 (by decide) _ _ _ (fun l => (sums3 c i arg2 harg2 arg3 harg3 arg4 harg4 arg5 harg5 arg6 harg6 arg7 harg7 arg8 harg8 arg9 harg9 arg10 harg10 arg11 harg11 x2 x3 x4 _ _ _ hS l).2.2.1) ?_
  refine step arg8 x2 x3 x4 17 (by decide) _ _ _ (fun l => (sums3 c i arg2 harg2 arg3 harg3 arg4 harg4 arg5 harg5 arg6 harg6 arg7 harg7 arg8 harg8 arg9 harg9 arg10 harg10 arg11 harg11 x2 x3 x4 _ _ _ hS l).2.1) ?_
  refine step arg8 x2 x3 x4 16 (by decide) _ _ _ (fun l => (sums3 c i arg2 harg2 arg3 harg3 arg4 harg4 arg5 harg5 arg6 harg6 arg7 harg7 arg8 harg8 arg9 harg9 arg10 harg10 arg11 harg11 x2 x3 x4 _ _ _ hS l).1) ?_
  refine step arg8 x2 x3 x4 15 (by decide) _ _ _ (fun l => (sums2 c i arg2 harg2 arg3 harg3 arg4 harg4 arg5 harg5 arg6 harg6 arg7 harg7 arg8 harg8 arg9 harg9 arg10 harg10 arg11 harg11 x2 x3 x4 _ _ _ hS l).2.2.2.2.2.2.2) ?_
  refine step arg8 x2 x3 x4 14 (by decide) _ _ _ (fun l => (sums2 c i arg2 harg2 arg3 harg3 arg4 harg4 arg5 harg5 arg6 harg6 arg7 harg7 arg8 harg8 arg9 harg9 arg10 harg10 arg11 harg11 x2 x3 x4 _ _ _ hS l).2.2.2.2.2.2.1) ?_
  refine step arg8 x2 x3 x4 13 (by decide) _ _ _ (fun l => (sums2 c i arg2 harg2 arg3 harg3 arg4 harg4 arg5 harg5 arg6 harg6 arg7 harg7 arg8 harg8 arg9 harg9 arg10 harg10 arg11 harg11 x2 x3 x4 _ _ _ hS l).2.2.2.2.2.1) ?_
  refine step arg8 x2 x3 x4 12 (by decide) _ _ _ (fun l => (sums2 c i arg2 harg2 arg3 harg3 arg4 harg4 arg5 harg5 arg6 harg6 arg7 harg7 arg8 harg8 arg9 harg9 arg10 harg10 arg11 harg11 x2 x3 x4 _ _ _ hS l).2.2.2.2.1) ?_
  refine step arg8 x2 x3 x4 11 (by decide) _ _ _ (fun l => (sums2 c i arg2 harg2 arg3 harg3 arg4 harg4 arg5 harg5 arg6 harg6 arg7 harg7 arg8 harg8 arg9 harg9 arg10 harg10 arg11 harg11 x2 x3 x4 _ _ _ hS l).2.2.2.1) ?_
  refine step arg8 x2 x3 x4 10 (by decide) _ _ _ (fun l => (sums2 c i arg2 harg2 arg3 harg3 arg4 harg4 arg5 harg5 arg6 harg6 arg7 harg7 arg8 harg8 arg9 harg9 arg10 harg10 arg11 harg11 x2 x3 x4 _ _ _ hS l).2.2.1) ?_
  refine step arg8 x2 x3 x4 9 (by decide) _ _ _ (fun l => (sums2 c i arg2 harg2 arg3 harg3 arg4 harg4 arg5 harg5 arg6 harg6 arg7 harg7 arg8 harg8 arg9 harg9 arg10 harg10 arg11 harg11 x2 x3 x4 _ _ _ hS l).2.1) ?_
  refine step arg8 x2 x3 x4 8 (by decide) _ _ _ (fun l => (sums2 c i arg2 harg2 arg3 harg3 arg4 harg4 arg5 harg5 arg6 harg6 arg7 harg7 arg8 harg8 arg9 harg9 arg10 harg10 arg11 harg11 x2 x3 x4 _ _ _ hS l).1) ?_
  refine step arg8 x2 x3 x4 7 (by decide) _ _ _ (fun l => (sums1 c i arg2 harg2 arg3 harg3 arg4 harg4 arg5 harg5 arg6 harg6 arg7 harg7 arg8 harg8 arg9 harg9 arg10 harg10 arg11 harg11 x2 x3 x4 _ _ hS l).2.2.2.2.2.2.2) ?_
  refine step arg8 x2 x3 x4 6 (by decide) _ _ _ (fun l => (sums1 c i arg2 harg2 arg3 harg3 arg4 harg4 arg5 harg5 arg6 harg6 arg7 harg7 arg8 harg8 arg9 harg9 arg10 harg10 arg11 harg11 x2 x3 x4 _ _ hS l).2.2.2.2.2.2.1) ?_
  refine step arg8 x2 x3 x4 5 (by decide) _ _ _ (fun l => (sums1 c i arg2 harg2 arg3 harg3 arg4 harg4 arg5 harg5 arg6 harg6 arg7 harg7 arg8 harg8 arg9 harg9 arg10 harg10 arg11 harg11 x2 x3 x4 _ _ hS l).2.2.2.2.2.1) ?_
  refine step arg8 x2 x3 x4 4 (by decide) _ _ _ (fun l => (sums1 c i arg2 harg2 arg3 harg3 arg4 harg4 arg5 harg5 arg6 harg6 arg7 harg7 arg8 harg8 arg9 harg9 arg10 harg10 arg11 harg11 x2 x3 x4 _ _ hS l).2.2.2.2.1) ?_
  refine step arg8 x2 x3 x4 3 (by decide) _ _ _ (fun l => (sums1 c i arg2 harg2 arg3 harg3 arg4 harg4 arg5 harg5 arg6 harg6 arg7 harg7 arg8 harg8 arg9 harg9 arg10 harg10 arg11 harg11 x2 x3 x4 _ _ hS l).2.2.2.1) ?_
  refine step arg8 x2 x3 x4 2 (by decide) _ _ _ (fun l => (sums1 c i arg2 harg2 arg3 harg3 arg4 harg4 arg5 harg5 arg6 harg6 arg7 harg7 arg8 harg8 arg9 harg9 arg10 harg10 arg11 harg11 x2 x3 x4 _ _ hS l).2.2.1) ?_
  refine step arg8 x2 x3 x4 1 (by decide) _ _ _ (fun l => (sums1 c i arg2 harg2 arg3 harg3 arg4 harg4 arg5 harg5 arg6 harg6 arg7 harg7 arg8 harg8 arg9 harg9 arg10 harg10 arg11 harg11 x2 x3 x4 _ _ hS l).2.1) ?_
  refine step arg8 x2 x3 x4 0 (by decide) _ _ _ (fun l => (sums1 c i arg2 harg2 arg3 harg3 arg4 harg4 arg5 harg5 arg6 harg6 arg7 harg7 arg8 harg8 arg9 harg9 arg10 harg10 arg11 harg11 x2 x3 x4 _ _ hS l).1) ?_
  exact base arg8 x2 x3 x4

end Cert.Conv.FirstRows

end
-- ==== Proof.Conv.Block.lean ====
/- What one grid point makes of its blocks. -/
module

public import proofs.«01_k».proof.Proof.Conv.Sums

@[expose] public section

set_option maxRecDepth 16384

noncomputable section

namespace Cert.Conv.Block

open Cert.Kernel6Ideal Cert.Kernel6Ideal.Gen Cert.Conv.Loops Cert.Conv.Stores Cert.Conv.Planes
open Idealize.ShloMosaic Idealize.SL.Sem
open scoped BigOperators

variable (x2 : Vec Ideal S1x2048x128 .f32) (x3 : Vec Ideal S1x1x2048x128 .f32) (x4 : Vec Ideal S1x1x2048x128 .f32) (x5 : Vec Ideal S31x128 .f32)

/-- The gradient through the convolution alone. -/
def du (t : Fin 2048) (l : Fin 128) : EReal := dU (dIn x2 l) (atNat fun j : Fin 31 => x5 (ix2 j l)) t.val

/-- The first result's block. -/
def da : Vec Ideal S1x2048x128 .bf16 := fun y => du x2 x5 (y 1) (y 2) * sg (x4 (ix4 0 0 (y 1) (y 2)))

/-- The second result's block. -/
def dg : Vec Ideal S1x2048x128 .bf16 := fun y =>
  du x2 x5 (y 1) (y 2) * x3 (ix4 0 0 (y 1) (y 2)) * sg (x4 (ix4 0 0 (y 1) (y 2))) * (1 - sg (x4 (ix4 0 0 (y 1) (y 2))))

/-- What is added to the taps' gradient. -/
def dw (r : Fin 32) (l : Fin 128) : EReal := if r.val < 31 then dW (dIn x2 l) (uIn x3 x4 l) r.val else 0

/-- What is added to the bias's gradient. -/
def db (r : Fin 8) (l : Fin 128) : EReal := if r.val = 0 then ∑ t, dIn x2 l t else 0

theorem bias_at (v : S1x128.Idx → EReal) (y : S1x2048x128.Idx → EReal) (l : Fin 128) :
    k0_pay395 (F := Ideal) (k0_pay393 (F := Ideal) v) (k0_pay394 (F := Ideal) y) (ix2 0 l) = v (ix2 0 l) + ∑ t : Fin 2048, y (ix3 0 t l) := by
  pointwise [k0_pay393, k0_pay394, k0_pay395]

end Cert.Conv.Block

end
-- ==== Proof.Conv.FirstLeft.lean ====
/- What the stores of a first point of a lane block leave in the four results' blocks. -/
module

public import proofs.«01_k».proof.Proof.Conv.FirstRows
public import proofs.«01_k».proof.Proof.Conv.Block

@[expose] public section

set_option maxRecDepth 16384

noncomputable section

namespace Cert.Conv.FirstLeft

open Cert.Kernel6Ideal Cert.Kernel6Ideal.Gen Cert.Conv.Loops Cert.Conv.Stores Cert.Conv.Planes Cert.Conv.Sums
open Idealize.ShloMosaic Idealize.SL.Sem
open scoped BigOperators

variable (c : Dev nD) (i : grid0.Coords)
  (arg2 : Memref sig .tc .vmem S1x2048x128 .f32) (harg2 : arg2.IsWhole)
  (arg3 : Memref sig .tc .vmem S1x1x2048x128 .f32) (harg3 : arg3.IsWhole)
  (arg4 : Memref sig .tc .vmem S1x1x2048x128 .f32) (harg4 : arg4.IsWhole)
  (arg5 : Memref sig .tc .vmem S31x128 .f32) (harg5 : arg5.IsWhole)
  (arg6 : Memref sig .tc .vmem S1x2048x128 .bf16) (harg6 : arg6.IsWhole)
  (arg7 : Memref sig .tc .vmem S1x2048x128 .bf16) (harg7 : arg7.IsWhole)
  (arg8 : Memref sig .tc .vmem S32x128 .f32) (harg8 : arg8.IsWhole)
  (arg9 : Memref sig .tc .vmem S8x128 .f32) (harg9 : arg9.IsWhole)
  (arg10 : Memref sig .tc .vmem S2080x128 .f32) (harg10 : arg10.IsWhole)
  (arg11 : Memref sig .tc .vmem S8x2080x128 .f32) (harg11 : arg11.IsWhole)
  (hc : Run.First i)
  (x2 : Vec Ideal S1x2048x128 .f32) (x3 : Vec Ideal S1x1x2048x128 .f32) (x4 : Vec Ideal S1x1x2048x128 .f32) (x5 : Vec Ideal S31x128 .f32) (x6 : Vec Ideal S1x2048x128 .bf16) (x7 : Vec Ideal S1x2048x128 .bf16) (x8 : Vec Ideal S32x128 .f32) (x9 : Vec Ideal S8x128 .f32) (x10 : Vec Ideal S2080x128 .f32) (x11 : Vec Ideal S8x2080x128 .f32)

set_option maxHeartbeats 4000000 in
/-- The cotangent's planes as this point's stores name them. -/
theorem planes : arg11.view.writes (Elt Ideal) (harg11.unread x11) [⟨Rect.unit ![7, 0, 0] S1x2072x128.size inb_S8x2080x128_S1x2072x128_7_0_0, k0_pay4 (F := Ideal) (Run.first.sl.v323 c arg2 harg2 arg3 harg3 arg4 harg4 arg10 x2 x3 x4)⟩, ⟨Rect.unit ![6, 0, 0] S1x2072x128.size inb_S8x2080x128_S1x2072x128_6_0_0, k0_pay3 (F := Ideal) (Run.first.sl.v319 c arg2 harg2 arg3 harg3 arg4 harg4 arg10 x2 x3 x4)⟩, ⟨Rect.unit ![5, 0, 0] S1x2072x128.size inb_S8x2080x128_S1x2072x128_5_0_0, k0_pay2 (F := Ideal) (Run.first.sl.v315 c arg2 harg2 arg3 harg3 arg4 harg4 arg10 x2 x3 x4)⟩, ⟨Rect.unit ![4, 0, 0] S1x2072x128.size inb_S8x2080x128_S1x2072x128_4_0_0, k0_pay1 (F := Ideal) (Run.first.sl.v_1 c arg2 harg2 arg3 harg3 arg4 harg4 arg10 x2 x3 x4)⟩, ⟨Rect.unit ![3, 0, 0] S1x2072x128.size inb_S8x2080x128_S1x2072x128_3_0_0, k0_pay400 (F := Ideal) (Run.first.sl.v307 c arg2 harg2 arg3 harg3 arg4 harg4 arg10 x2 x3 x4)⟩, ⟨Rect.unit ![2, 0, 0] S1x2072x128.size inb_S8x2080x128_S1x2072x128_2_0_0, k0_pay399 (F := Ideal) (Run.first.sl.v303 c arg2 harg2 arg3 harg3 arg4 harg4 arg10 x2 x3 x4)⟩, ⟨Rect.unit ![1, 0, 0] S1x2072x128.size inb_S8x2080x128_S1x2072x128_1_0_0, k0_pay398 (F := Ideal) (Run.first.sl.v299 c arg2 harg2 arg3 harg3 arg4 harg4 arg10 x2 x3 x4)⟩, ⟨Rect.unit ![0, 0, 0] S1x2072x128.size inb_S8x2080x128_S1x2072x128_0_0_0, k0_pay397 (F := Ideal) (Run.first.sl.v295 c arg2 harg2 arg3 harg3 arg4 harg4 arg10 x2 x3 x4)⟩, ⟨Rect.unit ![7, 0, 0] S1x2072x128.size inb_S8x2080x128_S1x2072x128_7_0_0, k0_pay317 (F := Ideal) (Run.first.sl.v53 c arg3 harg3 arg4 harg4 arg10 x3 x4)⟩, ⟨Rect.unit ![6, 0, 0] S1x2072x128.size inb_S8x2080x128_S1x2072x128_6_0_0, Run.first.sl.r_1 c arg3 harg3 arg4 harg4 arg10 x3 x4⟩, ⟨Rect.unit ![5, 0, 0] S1x2072x128.size inb_S8x2080x128_S1x2072x128_5_0_0, k0_pay315 (F := Ideal) (Run.first.sl.v45 c arg3 harg3 arg4 harg4 arg10 x3 x4)⟩, ⟨Rect.unit ![4, 0, 0] S1x2072x128.size inb_S8x2080x128_S1x2072x128_4_0_0, k0_pay314 (F := Ideal) (Run.first.sl.v41 c arg3 harg3 arg4 harg4 arg10 x3 x4)⟩, ⟨Rect.unit ![3, 0, 0] S1x2072x128.size inb_S8x2080x128_S1x2072x128_3_0_0, k0_pay313 (F := Ideal) (Run.first.sl.v37 c arg3 harg3 arg4 harg4 arg10 x3 x4)⟩, ⟨Rect.unit ![2, 0, 0] S1x2072x128.size inb_S8x2080x128_S1x2072x128_2_0_0, k0_pay312 (F := Ideal) (Run.first.sl.v33 c arg3 harg3 arg4 harg4 arg10 x3 x4)⟩, ⟨Rect.unit ![1, 0, 0] S1x2072x128.size inb_S8x2080x128_S1x2072x128_1_0_0, k0_pay311 (F := Ideal) (Run.first.sl.v29 c arg3 harg3 arg4 harg4 arg10 x3 x4)⟩, ⟨Rect.unit ![0, 0, 0] S1x2072x128.size inb_S8x2080x128_S1x2072x128_0_0_0, Run.first.sl.r c arg3 harg3 arg4 harg4 arg10 x3 x4⟩] = XD arg2 harg2 arg3 harg3 arg4 harg4 arg10 arg11 harg11 x2 x3 x4 x11 := by
  unfold Run.first.sl.r Run.first.sl.r_1 Run.first.sl.v25 Run.first.sl.v29 Run.first.sl.v33 Run.first.sl.v37 Run.first.sl.v41 Run.first.sl.v45 Run.first.sl.v49 Run.first.sl.v53 Run.first.sl.v295 Run.first.sl.v299 Run.first.sl.v303 Run.first.sl.v307 Run.first.sl.v_1 Run.first.sl.v315 Run.first.sl.v319 Run.first.sl.v323 Run.first.sl.H10_4 Run.first.sl.H10_3 XD Plane plane padD padU
  rfl

/-- The shifted cotangent read at any plane. -/
theorem shifted (l : Fin 128) (b y : ℕ) (hb : b < 8) (hy : y < 2072) :
    S (arg11.view.read (Elt Ideal) (arg11.view.writes (Elt Ideal) (harg11.unread x11) [⟨Rect.unit ![7, 0, 0] S1x2072x128.size inb_S8x2080x128_S1x2072x128_7_0_0, k0_pay4 (F := Ideal) (Run.first.sl.v323 c arg2 harg2 arg3 harg3 arg4 harg4 arg10 x2 x3 x4)⟩, ⟨Rect.unit ![6, 0, 0] S1x2072x128.size inb_S8x2080x128_S1x2072x128_6_0_0, k0_pay3 (F := Ideal) (Run.first.sl.v319 c arg2 harg2 arg3 harg3 arg4 harg4 arg10 x2 x3 x4)⟩, ⟨Rect.unit ![5, 0, 0] S1x2072x128.size inb_S8x2080x128_S1x2072x128_5_0_0, k0_pay2 (F := Ideal) (Run.first.sl.v315 c arg2 harg2 arg3 harg3 arg4 harg4 arg10 x2 x3 x4)⟩, ⟨Rect.unit ![4, 0, 0] S1x2072x128.size inb_S8x2080x128_S1x2072x128_4_0_0, k0_pay1 (F := Ideal) (Run.first.sl.v_1 c arg2 harg2 arg3 harg3 arg4 harg4 arg10 x2 x3 x4)⟩, ⟨Rect.unit ![3, 0, 0] S1x2072x128.size inb_S8x2080x128_S1x2072x128_3_0_0, k0_pay400 (F := Ideal) (Run.first.sl.v307 c arg2 harg2 arg3 harg3 arg4 harg4 arg10 x2 x3 x4)⟩, ⟨Rect.unit ![2, 0, 0] S1x2072x128.size inb_S8x2080x128_S1x2072x128_2_0_0, k0_pay399 (F := Ideal) (Run.first.sl.v303 c arg2 harg2 arg3 harg3 arg4 harg4 arg10 x2 x3 x4)⟩, ⟨Rect.unit ![1, 0, 0] S1x2072x128.size inb_S8x2080x128_S1x2072x128_1_0_0, k0_pay398 (F := Ideal) (Run.first.sl.v299 c arg2 harg2 arg3 harg3 arg4 harg4 arg10 x2 x3 x4)⟩, ⟨Rect.unit ![0, 0, 0] S1x2072x128.size inb_S8x2080x128_S1x2072x128_0_0_0, k0_pay397 (F := Ideal) (Run.first.sl.v295 c arg2 harg2 arg3 harg3 arg4 harg4 arg10 x2 x3 x4)⟩, ⟨Rect.unit ![7, 0, 0] S1x2072x128.size inb_S8x2080x128_S1x2072x128_7_0_0, k0_pay317 (F := Ideal) (Run.first.sl.v53 c arg3 harg3 arg4 harg4 arg10 x3 x4)⟩, ⟨Rect.unit ![6, 0, 0] S1x2072x128.size inb_S8x2080x128_S1x2072x128_6_0_0, Run.first.sl.r_1 c arg3 harg3 arg4 harg4 arg10 x3 x4⟩, ⟨Rect.unit ![5, 0, 0] S1x2072x128.size inb_S8x2080x128_S1x2072x128_5_0_0, k0_pay315 (F := Ideal) (Run.first.sl.v45 c arg3 harg3 arg4 harg4 arg10 x3 x4)⟩, ⟨Rect.unit ![4, 0, 0] S1x2072x128.size inb_S8x2080x128_S1x2072x128_4_0_0, k0_pay314 (F := Ideal) (Run.first.sl.v41 c arg3 harg3 arg4 harg4 arg10 x3 x4)⟩, ⟨Rect.unit ![3, 0, 0] S1x2072x128.size inb_S8x2080x128_S1x2072x128_3_0_0, k0_pay313 (F := Ideal) (Run.first.sl.v37 c arg3 harg3 arg4 harg4 arg10 x3 x4)⟩, ⟨Rect.unit ![2, 0, 0] S1x2072x128.size inb_S8x2080x128_S1x2072x128_2_0_0, k0_pay312 (F := Ideal) (Run.first.sl.v33 c arg3 harg3 arg4 harg4 arg10 x3 x4)⟩, ⟨Rect.unit ![1, 0, 0] S1x2072x128.size inb_S8x2080x128_S1x2072x128_1_0_0, k0_pay311 (F := Ideal) (Run.first.sl.v29 c arg3 harg3 arg4 harg4 arg10 x3 x4)⟩, ⟨Rect.unit ![0, 0, 0] S1x2072x128.size inb_S8x2080x128_S1x2072x128_0_0_0, Run.first.sl.r c arg3 harg3 arg4 harg4 arg10 x3 x4⟩])) b y l.val = shift 16 (dIn x2 l) (y + b) := by
  rw [planes]
  exact XD_at arg2 harg2 arg3 harg3 arg4 harg4 arg10 arg11 harg11 x2 x3 x4 x11 b y l hb hy

set_option maxHeartbeats 4000000 in
theorem da_at : arg6.view.read (Elt Ideal) (arg6.view.writes (Elt Ideal) (harg6.unread x6) (Run.first (F := Ideal) c i arg2 harg2 arg3 harg3 arg4 harg4 arg5 harg5 arg6 harg6 arg7 harg7 arg8 harg8 arg9 harg9 arg10 harg10 arg11 harg11 hc x2 x3 x4 x5 x6 x7 x8 x9 x10 x11).1) = Block.da x2 x4 x5 := by
  funext y
  obtain ⟨t, l, rfl⟩ : ∃ (t : Fin 2048) (l : Fin 128), y = ix3 0 t l := Rows.exists_ix3 y
  refine (read_a c i arg2 harg2 arg3 harg3 arg4 harg4 arg5 harg5 arg6 harg6 arg7 harg7 arg8 harg8 arg9 harg9 arg10 harg10 arg11 harg11 (harg3.unread x3) (harg4.unread x4) (harg5.unread x5) _ _ 16 (by decide) t l (by omega)).trans ?_
  unfold DA
  rw [tap_at l (shifted c arg2 harg2 arg3 harg3 arg4 harg4 arg10 arg11 harg11 x2 x3 x4 x11 l) t.val t.isLt, harg4.read_unread, harg5.read_unread]
  rfl

set_option maxHeartbeats 4000000 in
theorem dg_at : arg7.view.read (Elt Ideal) (arg7.view.writes (Elt Ideal) (harg7.unread x7) (Run.first (F := Ideal) c i arg2 harg2 arg3 harg3 arg4 harg4 arg5 harg5 arg6 harg6 arg7 harg7 arg8 harg8 arg9 harg9 arg10 harg10 arg11 harg11 hc x2 x3 x4 x5 x6 x7 x8 x9 x10 x11).2.1) = Block.dg x2 x3 x4 x5 := by
  funext y
  obtain ⟨t, l, rfl⟩ : ∃ (t : Fin 2048) (l : Fin 128), y = ix3 0 t l := Rows.exists_ix3 y
  refine (read_b c i arg2 harg2 arg3 harg3 arg4 harg4 arg5 harg5 arg6 harg6 arg7 harg7 arg8 harg8 arg9 harg9 arg10 harg10 arg11 harg11 (harg3.unread x3) (harg4.unread x4) (harg5.unread x5) _ _ 16 (by decide) t l (by omega)).trans ?_
  unfold DG
  rw [tap_at l (shifted c arg2 harg2 arg3 harg3 arg4 harg4 arg10 arg11 harg11 x2 x3 x4 x11 l) t.val t.isLt, harg3.read_unread, harg4.read_unread, harg5.read_unread]
  rfl

theorem dw_at (r : Fin 32) (l : Fin 128) : arg8.view.read (Elt Ideal) (arg8.view.writes (Elt Ideal) arg8.view.junk (Run.first (F := Ideal) c i arg2 harg2 arg3 harg3 arg4 harg4 arg5 harg5 arg6 harg6 arg7 harg7 arg8 harg8 arg9 harg9 arg10 harg10 arg11 harg11 hc x2 x3 x4 x5 x6 x7 x8 x9 x10 x11).2.2.1) (ix2 r l) = 0 + Block.dw x2 x3 x4 r l := by
  refine (FirstRows.rows c i arg2 harg2 arg3 harg3 arg4 harg4 arg5 harg5 arg6 harg6 arg7 harg7 arg8 harg8 arg9 harg9 arg10 harg10 arg11 harg11 hc x2 x3 x4 x5 x6 x7 x8 x9 x10 x11 false r l).trans ?_
  unfold Block.dw
  by_cases h : r.val < 31
  · rw [if_pos h, if_pos h]
  · rw [if_neg h, if_neg h, add_zero]

set_option maxHeartbeats 4000000 in
theorem db_at (r : Fin 8) (l : Fin 128) : arg9.view.read (Elt Ideal) (arg9.view.writes (Elt Ideal) arg9.view.junk (Run.first (F := Ideal) c i arg2 harg2 arg3 harg3 arg4 harg4 arg5 harg5 arg6 harg6 arg7 harg7 arg8 harg8 arg9 harg9 arg10 harg10 arg11 harg11 hc x2 x3 x4 x5 x6 x7 x8 x9 x10 x11).2.2.2.1) (ix2 r l) = 0 + Block.db x2 r l := by
  refine (Rows.read_row (R := 8) (n := 128) arg9.view arg9.view.junk 0 _ _ _ r l).trans ?_
  unfold Block.db
  by_cases h : r.val = 0
  · rw [if_pos h, if_pos h]
    refine (Block.bias_at (arg9.view.readCov (Val := Elt Ideal) [⟨Rect.unit (s := S8x128) ![0, 0] S8x128.size inb_S8x128_S8x128_0_0, k0_pay305 (F := Ideal)⟩] (Rect.unit (s := S8x128) ![0, 0] S1x128.size inb_S8x128_S1x128_0_0).toLoadRect) (View.readAt (Elt Ideal) arg2.view (Rect.unit (s := S1x2048x128) ![0, 0, 0] S1x2048x128.size inb_S1x2048x128_S1x2048x128_0_0_0).toLoadRect (harg2.unread x2)) l).trans ?_
    refine congrArg₂ (· + ·) ?_ (Finset.sum_congr rfl fun t _ => ?_)
    · refine (Rows.readCov_rows (R := 8) (n := 128) (a := 1) arg9.view _ 0 _ 0 l).trans ?_
      refine (Rows.canon_fill (R := 8) (n := 128) _ _ _ _ l).trans ?_
      pointwise [k0_pay305]
    · rw [View.readAt_eq_ld, harg2.read_unread]
      exact congrArg x2 (funext fun a => Fin.ext (by
        match a with
        | ⟨0, _⟩ => rfl
        | ⟨1, _⟩ => exact (Nat.zero_add _).trans (Nat.one_mul _)
        | ⟨2, _⟩ => exact (Nat.zero_add _).trans (Nat.one_mul _)))
  · rw [if_neg h, if_neg h, add_zero]
    refine (View.read_writes_cons_unit_of_mem arg9.view arg9.view.junk inb_S8x128_S8x128_0_0 (show S8x128.Idx → Elt Ideal .f32 from k0_pay305 (F := Ideal)) [] (ix2 r l) (ix2 r l) rfl fun a => ?_).trans ?_
    · match a with
      | ⟨0, _⟩ => exact (Nat.zero_add _).symm
      | ⟨1, _⟩ => exact (Nat.zero_add _).symm
    · pointwise [k0_pay305]

end Cert.Conv.FirstLeft

end
-- ==== Proof.Conv.NextRows.lean ====
/- The rows of the taps' gradient after the later points of a lane block: each has this sequence's sum added. -/
module

public import proofs.«01_k».proof.Proof.Conv.Next
public import proofs.«01_k».proof.Proof.Conv.Sums

@[expose] public section

set_option maxRecDepth 16384

noncomputable section

namespace Cert.Conv.NextRows

open Cert.Kernel6Ideal Cert.Kernel6Ideal.Gen Cert.Conv.Loops Cert.Conv.Stores Cert.Conv.Planes Cert.Conv.Sums
open Idealize.ShloMosaic Idealize.SL.Sem
open scoped BigOperators

variable (c : Dev nD) (i : grid0.Coords)
  (arg2 : Memref sig .tc .vmem S1x2048x128 .f32) (harg2 : arg2.IsWhole)
  (arg3 : Memref sig .tc .vmem S1x1x2048x128 .f32) (harg3 : arg3.IsWhole)
  (arg4 : Memref sig .tc .vmem S1x1x2048x128 .f32) (harg4 : arg4.IsWhole)
  (arg5 : Memref sig .tc .vmem S31x128 .f32) (harg5 : arg5.IsWhole)
  (arg6 : Memref sig .tc .vmem S1x2048x128 .bf16) (harg6 : arg6.IsWhole)
  (arg7 : Memref sig .tc .vmem S1x2048x128 .bf16) (harg7 : arg7.IsWhole)
  (arg8 : Memref sig .tc .vmem S32x128 .f32) (harg8 : arg8.IsWhole)
  (arg9 : Memref sig .tc .vmem S8x128 .f32) (harg9 : arg9.IsWhole)
  (arg10 : Memref sig .tc .vmem S2080x128 .f32) (harg10 : arg10.IsWhole)
  (arg11 : Memref sig .tc .vmem S8x2080x128 .f32) (harg11 : arg11.IsWhole)
  (hc : ¬Run.First i)
  (x2 : Vec Ideal S1x2048x128 .f32) (x3 : Vec Ideal S1x1x2048x128 .f32) (x4 : Vec Ideal S1x1x2048x128 .f32) (x5 : Vec Ideal S31x128 .f32) (x6 : Vec Ideal S1x2048x128 .bf16) (x7 : Vec Ideal S1x2048x128 .bf16) (x8 : Vec Ideal S32x128 .f32) (x9 : Vec Ideal S8x128 .f32) (x10 : Vec Ideal S2080x128 .f32) (x11 : Vec Ideal S8x2080x128 .f32)

/-- Reading the rows of the buffer. -/
def rd (_ : Unit) (L : List (View.Piece (Elt Ideal) S32x128 .f32)) : S32x128.Idx → EReal :=
  arg8.view.read (Elt Ideal) (arg8.view.writes (Elt Ideal) (harg8.unread x8) L)

/-- One row more. -/
theorem step (n : ℕ) (hn : n < 31) (inb : ∀ a : Fin 2, (![n, 0] : Fin 2 → ℕ) a + (![1, 128] : Fin 2 → ℕ) a ≤ S32x128.size a) (s : S32x128.Idx → EReal) (L : List (View.Piece (Elt Ideal) S32x128 .f32))
    (hs : ∀ l, ∑ r : Fin 32, s (ix2 r l) = dW (dIn x2 l) (uIn x3 x4 l) n)
    (h : Rows (rd arg8 harg8 x8) (fun j l => dW (dIn x2 l) (uIn x3 x4 l) j) (fun j l => atNat (fun r : Fin 32 => x8 (ix2 r l)) j) L n) :
    Rows (rd arg8 harg8 x8) (fun j l => dW (dIn x2 l) (uIn x3 x4 l) j) (fun j l => atNat (fun r : Fin 32 => x8 (ix2 r l)) j)
      (⟨Rect.unit (s := S32x128) ![n, 0] ![1, 128] inb, row n s (View.readAt (Elt Ideal) arg8.view (Rect.unit (s := S32x128) ![n, 0] ![1, 128] inb).toLoadRect (harg8.unread x8))⟩ :: L) (n + 1) := by
  refine row_step (rd arg8 harg8 x8) _ _ (fun _ o inb w L r l => Rows.read_row (R := 32) (n := 128) arg8.view (harg8.unread x8) o inb w L r l) n inb _ L h fun h l => ?_
  rw [row_at n hn, hs]
  refine congrArg (· + _) ?_
  rw [show atNat (fun r : Fin 32 => x8 (ix2 r l)) n = x8 (ix2 ⟨n, by omega⟩ l) from atNat_lt (fun r : Fin 32 => x8 (ix2 r l)) ⟨n, by omega⟩, View.readAt_eq_ld, harg8.read_unread]
  exact congrArg x8 (funext fun a => Fin.ext (by
    match a with
    | ⟨0, _⟩ => rfl
    | ⟨1, _⟩ => exact Nat.zero_add _ |>.trans (Nat.one_mul _)))

/-- Before the first row is added. -/
theorem base : Rows (rd arg8 harg8 x8) (fun j l => dW (dIn x2 l) (uIn x3 x4 l) j) (fun j l => atNat (fun r : Fin 32 => x8 (ix2 r l)) j) [] 0 := by
  intro b r l
  rw [if_neg (by omega)]
  show _ = atNat (fun r : Fin 32 => x8 (ix2 r l)) r.val
  rw [atNat_lt]
  exact congrFun (harg8.read_unread x8) (ix2 r l)

set_option maxHeartbeats 4000000 in
/-- The planes as this point's stores name them. -/
theorem planes : arg11.view.writes (Elt Ideal) (harg11.unread x11) [⟨Rect.unit ![7, 0, 0] S1x2072x128.size inb_S8x2080x128_S1x2072x128_7_0_0, k0_pay317 (F := Ideal) (Run.next.sl.v53 c arg3 harg3 arg4 harg4 arg10 x3 x4)⟩, ⟨Rect.unit ![6, 0, 0] S1x2072x128.size inb_S8x2080x128_S1x2072x128_6_0_0, Run.next.sl.r_1 c arg3 harg3 arg4 harg4 arg10 x3 x4⟩, ⟨Rect.unit ![5, 0, 0] S1x2072x128.size inb_S8x2080x128_S1x2072x128_5_0_0, k0_pay315 (F := Ideal) (Run.next.sl.v45 c arg3 harg3 arg4 harg4 arg10 x3 x4)⟩, ⟨Rect.unit ![4, 0, 0] S1x2072x128.size inb_S8x2080x128_S1x2072x128_4_0_0, k0_pay314 (F := Ideal) (Run.next.sl.v41 c arg3 harg3 arg4 harg4 arg10 x3 x4)⟩, ⟨Rect.unit ![3, 0, 0] S1x2072x128.size inb_S8x2080x128_S1x2072x128_3_0_0, k0_pay313 (F := Ideal) (Run.next.sl.v37 c arg3 harg3 arg4 harg4 arg10 x3 x4)⟩, ⟨Rect.unit ![2, 0, 0] S1x2072x128.size inb_S8x2080x128_S1x2072x128_2_0_0, k0_pay312 (F := Ideal) (Run.next.sl.v33 c arg3 harg3 arg4 harg4 arg10 x3 x4)⟩, ⟨Rect.unit ![1, 0, 0] S1x2072x128.size inb_S8x2080x128_S1x2072x128_1_0_0, k0_pay311 (F := Ideal) (Run.next.sl.v29 c arg3 harg3 arg4 harg4 arg10 x3 x4)⟩, ⟨Rect.unit ![0, 0, 0] S1x2072x128.size inb_S8x2080x128_S1x2072x128_0_0_0, Run.next.sl.r c arg3 harg3 arg4 harg4 arg10 x3 x4⟩] = XU arg3 harg3 arg4 harg4 arg10 arg11 harg11 x3 x4 x11 := by
  unfold Run.next.sl.r Run.next.sl.r_1 Run.next.sl.v25 Run.next.sl.v29 Run.next.sl.v33 Run.next.sl.v37 Run.next.sl.v41 Run.next.sl.v45 Run.next.sl.v49 Run.next.sl.v53 Run.next.sl.H10_3 XU Plane plane padU
  rfl

/-- The shifted sequence read at any plane. -/
theorem shifted (l : Fin 128) (b y : ℕ) (hb : b < 8) (hy : y < 2072) :
    S (arg11.view.read (Elt Ideal) (arg11.view.writes (Elt Ideal) (harg11.unread x11) [⟨Rect.unit ![7, 0, 0] S1x2072x128.size inb_S8x2080x128_S1x2072x128_7_0_0, k0_pay317 (F := Ideal) (Run.next.sl.v53 c arg3 harg3 arg4 harg4 arg10 x3 x4)⟩, ⟨Rect.unit ![6, 0, 0] S1x2072x128.size inb_S8x2080x128_S1x2072x128_6_0_0, Run.next.sl.r_1 c arg3 harg3 arg4 harg4 arg10 x3 x4⟩, ⟨Rect.unit ![5, 0, 0] S1x2072x128.size inb_S8x2080x128_S1x2072x128_5_0_0, k0_pay315 (F := Ideal) (Run.next.sl.v45 c arg3 harg3 arg4 harg4 arg10 x3 x4)⟩, ⟨Rect.unit ![4, 0, 0] S1x2072x128.size inb_S8x2080x128_S1x2072x128_4_0_0, k0_pay314 (F := Ideal) (Run.next.sl.v41 c arg3 harg3 arg4 harg4 arg10 x3 x4)⟩, ⟨Rect.unit ![3, 0, 0] S1x2072x128.size inb_S8x2080x128_S1x2072x128_3_0_0, k0_pay313 (F := Ideal) (Run.next.sl.v37 c arg3 harg3 arg4 harg4 arg10 x3 x4)⟩, ⟨Rect.unit ![2, 0, 0] S1x2072x128.size inb_S8x2080x128_S1x2072x128_2_0_0, k0_pay312 (F := Ideal) (Run.next.sl.v33 c arg3 harg3 arg4 harg4 arg10 x3 x4)⟩, ⟨Rect.unit ![1, 0, 0] S1x2072x128.size inb_S8x2080x128_S1x2072x128_1_0_0, k0_pay311 (F := Ideal) (Run.next.sl.v29 c arg3 harg3 arg4 harg4 arg10 x3 x4)⟩, ⟨Rect.unit ![0, 0, 0] S1x2072x128.size inb_S8x2080x128_S1x2072x128_0_0_0, Run.next.sl.r c arg3 harg3 arg4 harg4 arg10 x3 x4⟩])) b y l.val = shift 16 (uIn x3 x4 l) (y + b) := by
  rw [planes]
  exact XU_at arg3 harg3 arg4 harg4 arg10 arg11 harg11 x3 x4 x11 b y l hb hy

set_option maxHeartbeats 4000000 in
/-- All 31 rows. -/
theorem rows : Rows (rd arg8 harg8 x8) (fun j l => dW (dIn x2 l) (uIn x3 x4 l) j) (fun j l => atNat (fun r : Fin 32 => x8 (ix2 r l)) j)
    (Run.next (F := Ideal) c i arg2 harg2 arg3 harg3 arg4 harg4 arg5 harg5 arg6 harg6 arg7 harg7 arg8 harg8 arg9 harg9 arg10 harg10 arg11 harg11 hc x2 x3 x4 x5 x6 x7 x8 x9 x10 x11).2.2.1 31 := by
  have hS := shifted c arg3 harg3 arg4 harg4 arg10 arg11 harg11 x3 x4 x11
  refine step arg8 harg8 x2 x3 x4 x8 30 (by decide) _ _ _ (fun l => (sums4 c i arg2 harg2 arg3 harg3 arg4 harg4 arg5 harg5 arg6 harg6 arg7 harg7 arg8 harg8 arg9 harg9 arg10 harg10 arg11 harg11 x2 x3 x4 _ _ _ hS l).2.2.2.2.2.2) ?_
  refine step arg8 harg8 x2 x3 x4 x8 29 (by decide) _ _ _ (fun l => (sums4 c i arg2 harg2 arg3 harg3 arg4 harg4 arg5 harg5 arg6 harg6 arg7 harg7 arg8 harg8 arg9 harg9 arg10 harg10 arg11 harg11 x2 x3 x4 _ _ _ hS l).2.2.2.2.2.1) ?_
  refine step arg8 harg8 x2 x3 x4 x8 28 (by decide) _ _ _ (fun l => (sums4 c i arg2 harg2 arg3 harg3 arg4 harg4 arg5 harg5 arg6 harg6 arg7 harg7 arg8 harg8 arg9 harg9 arg10 harg10 arg11 harg11 x2 x3 x4 _ _ _ hS l).2.2.2.2.1) ?_
  refine step arg8 harg8 x2 x3 x4 x8 27 (by decide) _ _ _ (fun l => (sums4 c i arg2 harg2 arg3 harg3 arg4 harg4 arg5 harg5 arg6 harg6 arg7 harg7 arg8 harg8 arg9 harg9 arg10 harg10 arg11 harg11 x2 x3 x4 _ _ _ hS l).2.2.2.1) ?_
  refine step arg8 harg8 x2 x3 x4 x8 26 (by decide) _ _ _ (fun l => (sums4 c i arg2 harg2 arg3 harg3 arg4 harg4 arg5 harg5 arg6 harg6 arg7 harg7 arg8 harg8 arg9 harg9 arg10 harg10 arg11 harg11 x2 x3 x4 _ _ _ hS l).2.2.1) ?_
  refine step arg8 harg8 x2 x3 x4 x8 25 (by decide) _ _ _ (fun l => (sums4 c i arg2 harg2 arg3 harg3 arg4 harg4 arg5 harg5 arg6 harg6 arg7 harg7 arg8 harg8 arg9 harg9 arg10 harg10 arg11 harg11 x2 x3 x4 _ _ _ hS l).2.1) ?_
  refine step arg8 harg8 x2 x3 x4 x8 24 (by decide) _ _ _ (fun l => (sums4 c i arg2 harg2 arg3 harg3 arg4 harg4 arg5 harg5 arg6 harg6 arg7 harg7 arg8 harg8 arg9 harg9 arg10 harg10 arg11 harg11 x2 x3 x4 _ _ _ hS l).1) ?_
  refine step arg8 harg8 x2 x3 x4 x8 23 (by decide) _ _ _ (fun l => (sums3 c i arg2 harg2 arg3 harg3 arg4 harg4 arg5 harg5 arg6 harg6 arg7 harg7 arg8 harg8 arg9 harg9 arg10 harg10 arg11 harg11 x2 x3 x4 _ _ _ hS l).2.2.2.2.2.2.2) ?_
  refine step arg8 harg8 x2 x3 x4 x8 22 (by decide) _ _ _ (fun l => (sums3 c i arg2 harg2 arg3 harg3 arg4 harg4 arg5 harg5 arg6 harg6 arg7 harg7 arg8 harg8 arg9 harg9 arg10 harg10 arg11 harg11 x2 x3 x4 _ _ _ hS l).2.2.2.2.2.2.1) ?_
  refine step arg8 harg8 x2 x3 x4 x8 21 (by decide) _ _ _ (fun l => (sums3 c i arg2 harg2 arg3 harg3 arg4 harg4 arg5 harg5 arg6 harg6 arg7 harg7 arg8 harg8 arg9 harg9 arg10 harg10 arg11 harg11 x2 x3 x4 _ _ _ hS l).2.2.2.2.2.1) ?_
  refine step arg8 harg8 x2 x3 x4 x8 20 (by decide) _ _ _ (fun l => (sums3 c i arg2 harg2 arg3 harg3 arg4 harg4 arg5 harg5 arg6 harg6 arg7 harg7 arg8 harg8 arg9 harg9 arg10 harg10 arg11 harg11 x2 x3 x4 _ _ _ hS l).2.2.2.2.1) ?_
  refine step arg8 harg8 x2 x3 x4 x8 19 (by decide) _ _ _ (fun l => (sums3 c i arg2 harg2 arg3 harg3 arg4 harg4 arg5 harg5 arg6 harg6 arg7 harg7 arg8 harg8 arg9 harg9 arg10 harg10 arg11 harg11 x2 x3 x4 _ _ _ hS l).2.2.2.1) ?_
  refine step arg8 harg8 x2 x3 x4 x8 18 (by decide) _ _ _ (fun l => (sums3 c i arg2 harg2 arg3 harg3 arg4 harg4 arg5 harg5 arg6 harg6 arg7 harg7 arg8 harg8 arg9 harg9 arg10 harg10 arg11 harg11 x2 x3 x4 _ _ _ hS l).2.2.1) ?_
  refine step arg8 harg8 x2 x3 x4 x8 17 (by decide) _ _ _ (fun l => (sums3 c i arg2 harg2 arg3 harg3 arg4 harg4 arg5 harg5 arg6 harg6 arg7 harg7 arg8 harg8 arg9 harg9 arg10 harg10 arg11 harg11 x2 x3 x4 _ _ _ hS l).2.1) ?_
  refine step arg8 harg8 x2 x3 x4 x8 16 (by decide) _ _ _ (fun l => (sums3 c i arg2 harg2 arg3 harg3 arg4 harg4 arg5 harg5 arg6 harg6 arg7 harg7 arg8 harg8 arg9 harg9 arg10 harg10 arg11 harg11 x2 x3 x4 _ _ _ hS l).1) ?_
  refine step arg8 harg8 x2 x3 x4 x8 15 (by decide) _ _ _ (fun l => (sums2 c i arg2 harg2 arg3 harg3 arg4 harg4 arg5 harg5 arg6 harg6 arg7 harg7 arg8 harg8 arg9 harg9 arg10 harg10 arg11 harg11 x2 x3 x4 _ _ _ hS l).2.2.2.2.2.2.2) ?_
  refine step arg8 harg8 x2 x3 x4 x8 14 (by decide) _ _ _ (fun l => (sums2 c i arg2 harg2 arg3 harg3 arg4 harg4 arg5 harg5 arg6 harg6 arg7 harg7 arg8 harg8 arg9 harg9 arg10 harg10 arg11 harg11 x2 x3 x4 _ _ _ hS l).2.2.2.2.2.2.1) ?_
  refine step arg8 harg8 x2 x3 x4 x8 13 (by decide) _ _ _ (fun l => (sums2 c i arg2 harg2 arg3 harg3 arg4 harg4 arg5 harg5 arg6 harg6 arg7 harg7 arg8 harg8 arg9 harg9 arg10 harg10 arg11 harg11 x2 x3 x4 _ _ _ hS l).2.2.2.2.2.1) ?_
  refine step arg8 harg8 x2 x3 x4 x8 12 (by decide) _ _ _ (fun l => (sums2 c i arg2 harg2 arg3 harg3 arg4 harg4 arg5 harg5 arg6 harg6 arg7 harg7 arg8 harg8 arg9 harg9 arg10 harg10 arg11 harg11 x2 x3 x4 _ _ _ hS l).2.2.2.2.1) ?_
  refine step arg8 harg8 x2 x3 x4 x8 11 (by decide) _ _ _ (fun l => (sums2 c i arg2 harg2 arg3 harg3 arg4 harg4 arg5 harg5 arg6 harg6 arg7 harg7 arg8 harg8 arg9 harg9 arg10 harg10 arg11 harg11 x2 x3 x4 _ _ _ hS l).2.2.2.1) ?_
  refine step arg8 harg8 x2 x3 x4 x8 10 (by decide) _ _ _ (fun l => (sums2 c i arg2 harg2 arg3 harg3 arg4 harg4 arg5 harg5 arg6 harg6 arg7 harg7 arg8 harg8 arg9 harg9 arg10 harg10 arg11 harg11 x2 x3 x4 _ _ _ hS l).2.2.1) ?_
  refine step arg8 harg8 x2 x3 x4 x8 9 (by decide) _ _ _ (fun l => (sums2 c i arg2 harg2 arg3 harg3 arg4 harg4 arg5 harg5 arg6 harg6 arg7 harg7 arg8 harg8 arg9 harg9 arg10 harg10 arg11 harg11 x2 x3 x4 _ _ _ hS l).2.1) ?_
  refine step arg8 harg8 x2 x3 x4 x8 8 (by decide) _ _ _ (fun l => (sums2 c i arg2 harg2 arg3 harg3 arg4 harg4 arg5 harg5 arg6 harg6 arg7 harg7 arg8 harg8 arg9 harg9 arg10 harg10 arg11 harg11 x2 x3 x4 _ _ _ hS l).1) ?_
  refine step arg8 harg8 x2 x3 x4 x8 7 (by decide) _ _ _ (fun l => (sums1 c i arg2 harg2 arg3 harg3 arg4 harg4 arg5 harg5 arg6 harg6 arg7 harg7 arg8 harg8 arg9 harg9 arg10 harg10 arg11 harg11 x2 x3 x4 _ _ hS l).2.2.2.2.2.2.2) ?_
  refine step arg8 harg8 x2 x3 x4 x8 6 (by decide) _ _ _ (fun l => (sums1 c i arg2 harg2 arg3 harg3 arg4 harg4 arg5 harg5 arg6 harg6 arg7 harg7 arg8 harg8 arg9 harg9 arg10 harg10 arg11 harg11 x2 x3 x4 _ _ hS l).2.2.2.2.2.2.1) ?_
  refine step arg8 harg8 x2 x3 x4 x8 5 (by decide) _ _ _ (fun l => (sums1 c i arg2 harg2 arg3 harg3 arg4 harg4 arg5 harg5 arg6 harg6 arg7 harg7 arg8 harg8 arg9 harg9 arg10 harg10 arg11 harg11 x2 x3 x4 _ _ hS l).2.2.2.2.2.1) ?_
  refine step arg8 harg8 x2 x3 x4 x8 4 (by decide) _ _ _ (fun l => (sums1 c i arg2 harg2 arg3 harg3 arg4 harg4 arg5 harg5 arg6 harg6 arg7 harg7 arg8 harg8 arg9 harg9 arg10 harg10 arg11 harg11 x2 x3 x4 _ _ hS l).2.2.2.2.1) ?_
  refine step arg8 harg8 x2 x3 x4 x8 3 (by decide) _ _ _ (fun l => (sums1 c i arg2 harg2 arg3 harg3 arg4 harg4 arg5 harg5 arg6 harg6 arg7 harg7 arg8 harg8 arg9 harg9 arg10 harg10 arg11 harg11 x2 x3 x4 _ _ hS l).2.2.2.1) ?_
  refine step arg8 harg8 x2 x3 x4 x8 2 (by decide) _ _ _ (fun l => (sums1 c i arg2 harg2 arg3 harg3 arg4 harg4 arg5 harg5 arg6 harg6 arg7 harg7 arg8 harg8 arg9 harg9 arg10 harg10 arg11 harg11 x2 x3 x4 _ _ hS l).2.2.1) ?_
  refine step arg8 harg8 x2 x3 x4 x8 1 (by decide) _ _ _ (fun l => (sums1 c i arg2 harg2 arg3 harg3 arg4 harg4 arg5 harg5 arg6 harg6 arg7 harg7 arg8 harg8 arg9 harg9 arg10 harg10 arg11 harg11 x2 x3 x4 _ _ hS l).2.1) ?_
  refine step arg8 harg8 x2 x3 x4 x8 0 (by decide) _ _ _ (fun l => (sums1 c i arg2 harg2 arg3 harg3 arg4 harg4 arg5 harg5 arg6 harg6 arg7 harg7 arg8 harg8 arg9 harg9 arg10 harg10 arg11 harg11 x2 x3 x4 _ _ hS l).1) ?_
  exact base arg8 harg8 x2 x3 x4 x8

end Cert.Conv.NextRows

end
-- ==== Proof.Conv.NextLeft.lean ====
/- What the stores of a later point of a lane block leave in the four results' blocks. -/
module

public import proofs.«01_k».proof.Proof.Conv.NextRows
public import proofs.«01_k».proof.Proof.Conv.Block

@[expose] public section

set_option maxRecDepth 16384

noncomputable section

namespace Cert.Conv.NextLeft

open Cert.Kernel6Ideal Cert.Kernel6Ideal.Gen Cert.Conv.Loops Cert.Conv.Stores Cert.Conv.Planes Cert.Conv.Sums
open Idealize.ShloMosaic Idealize.SL.Sem
open scoped BigOperators

variable (c : Dev nD) (i : grid0.Coords)
  (arg2 : Memref sig .tc .vmem S1x2048x128 .f32) (harg2 : arg2.IsWhole)
  (arg3 : Memref sig .tc .vmem S1x1x2048x128 .f32) (harg3 : arg3.IsWhole)
  (arg4 : Memref sig .tc .vmem S1x1x2048x128 .f32) (harg4 : arg4.IsWhole)
  (arg5 : Memref sig .tc .vmem S31x128 .f32) (harg5 : arg5.IsWhole)
  (arg6 : Memref sig .tc .vmem S1x2048x128 .bf16) (harg6 : arg6.IsWhole)
  (arg7 : Memref sig .tc .vmem S1x2048x128 .bf16) (harg7 : arg7.IsWhole)
  (arg8 : Memref sig .tc .vmem S32x128 .f32) (harg8 : arg8.IsWhole)
  (arg9 : Memref sig .tc .vmem S8x128 .f32) (harg9 : arg9.IsWhole)
  (arg10 : Memref sig .tc .vmem S2080x128 .f32) (harg10 : arg10.IsWhole)
  (arg11 : Memref sig .tc .vmem S8x2080x128 .f32) (harg11 : arg11.IsWhole)
  (hc : ¬Run.First i)
  (x2 : Vec Ideal S1x2048x128 .f32) (x3 : Vec Ideal S1x1x2048x128 .f32) (x4 : Vec Ideal S1x1x2048x128 .f32) (x5 : Vec Ideal S31x128 .f32) (x6 : Vec Ideal S1x2048x128 .bf16) (x7 : Vec Ideal S1x2048x128 .bf16) (x8 : Vec Ideal S32x128 .f32) (x9 : Vec Ideal S8x128 .f32) (x10 : Vec Ideal S2080x128 .f32) (x11 : Vec Ideal S8x2080x128 .f32)

set_option maxHeartbeats 4000000 in
/-- The cotangent's planes as this point's stores name them. -/
theorem planes : arg11.view.writes (Elt Ideal) (harg11.unread x11) [⟨Rect.unit ![7, 0, 0] S1x2072x128.size inb_S8x2080x128_S1x2072x128_7_0_0, k0_pay4 (F := Ideal) (Run.next.sl.v323 c arg2 harg2 arg3 harg3 arg4 harg4 arg10 x2 x3 x4)⟩, ⟨Rect.unit ![6, 0, 0] S1x2072x128.size inb_S8x2080x128_S1x2072x128_6_0_0, k0_pay3 (F := Ideal) (Run.next.sl.v319 c arg2 harg2 arg3 harg3 arg4 harg4 arg10 x2 x3 x4)⟩, ⟨Rect.unit ![5, 0, 0] S1x2072x128.size inb_S8x2080x128_S1x2072x128_5_0_0, k0_pay2 (F := Ideal) (Run.next.sl.v315 c arg2 harg2 arg3 harg3 arg4 harg4 arg10 x2 x3 x4)⟩, ⟨Rect.unit ![4, 0, 0] S1x2072x128.size inb_S8x2080x128_S1x2072x128_4_0_0, k0_pay1 (F := Ideal) (Run.next.sl.v_1 c arg2 harg2 arg3 harg3 arg4 harg4 arg10 x2 x3 x4)⟩, ⟨Rect.unit ![3, 0, 0] S1x2072x128.size inb_S8x2080x128_S1x2072x128_3_0_0, k0_pay400 (F := Ideal) (Run.next.sl.v307 c arg2 harg2 arg3 harg3 arg4 harg4 arg10 x2 x3 x4)⟩, ⟨Rect.unit ![2, 0, 0] S1x2072x128.size inb_S8x2080x128_S1x2072x128_2_0_0, k0_pay399 (F := Ideal) (Run.next.sl.v303 c arg2 harg2 arg3 harg3 arg4 harg4 arg10 x2 x3 x4)⟩, ⟨Rect.unit ![1, 0, 0] S1x2072x128.size inb_S8x2080x128_S1x2072x128_1_0_0, k0_pay398 (F := Ideal) (Run.next.sl.v299 c arg2 harg2 arg3 harg3 arg4 harg4 arg10 x2 x3 x4)⟩, ⟨Rect.unit ![0, 0, 0] S1x2072x128.size inb_S8x2080x128_S1x2072x128_0_0_0, k0_pay397 (F := Ideal) (Run.next.sl.v295 c arg2 harg2 arg3 harg3 arg4 harg4 arg10 x2 x3 x4)⟩, ⟨Rect.unit ![7, 0, 0] S1x2072x128.size inb_S8x2080x128_S1x2072x128_7_0_0, k0_pay317 (F := Ideal) (Run.next.sl.v53 c arg3 harg3 arg4 harg4 arg10 x3 x4)⟩, ⟨Rect.unit ![6, 0, 0] S1x2072x128.size inb_S8x2080x128_S1x2072x128_6_0_0, Run.next.sl.r_1 c arg3 harg3 arg4 harg4 arg10 x3 x4⟩, ⟨Rect.unit ![5, 0, 0] S1x2072x128.size inb_S8x2080x128_S1x2072x128_5_0_0, k0_pay315 (F := Ideal) (Run.next.sl.v45 c arg3 harg3 arg4 harg4 arg10 x3 x4)⟩, ⟨Rect.unit ![4, 0, 0] S1x2072x128.size inb_S8x2080x128_S1x2072x128_4_0_0, k0_pay314 (F := Ideal) (Run.next.sl.v41 c arg3 harg3 arg4 harg4 arg10 x3 x4)⟩, ⟨Rect.unit ![3, 0, 0] S1x2072x128.size inb_S8x2080x128_S1x2072x128_3_0_0, k0_pay313 (F := Ideal) (Run.next.sl.v37 c arg3 harg3 arg4 harg4 arg10 x3 x4)⟩, ⟨Rect.unit ![2, 0, 0] S1x2072x128.size inb_S8x2080x128_S1x2072x128_2_0_0, k0_pay312 (F := Ideal) (Run.next.sl.v33 c arg3 harg3 arg4 harg4 arg10 x3 x4)⟩, ⟨Rect.unit ![1, 0, 0] S1x2072x128.size inb_S8x2080x128_S1x2072x128_1_0_0, k0_pay311 (F := Ideal) (Run.next.sl.v29 c arg3 harg3 arg4 harg4 arg10 x3 x4)⟩, ⟨Rect.unit ![0, 0, 0] S1x2072x128.size inb_S8x2080x128_S1x2072x128_0_0_0, Run.next.sl.r c arg3 harg3 arg4 harg4 arg10 x3 x4⟩] = XD arg2 harg2 arg3 harg3 arg4 harg4 arg10 arg11 harg11 x2 x3 x4 x11 := by
  unfold Run.next.sl.r Run.next.sl.r_1 Run.next.sl.v25 Run.next.sl.v29 Run.next.sl.v33 Run.next.sl.v37 Run.next.sl.v41 Run.next.sl.v45 Run.next.sl.v49 Run.next.sl.v53 Run.next.sl.v295 Run.next.sl.v299 Run.next.sl.v303 Run.next.sl.v307 Run.next.sl.v_1 Run.next.sl.v315 Run.next.sl.v319 Run.next.sl.v323 Run.next.sl.H10_4 Run.next.sl.H10_3 XD Plane plane padD padU
  rfl

/-- The shifted cotangent read at any plane. -/
theorem shifted (l : Fin 128) (b y : ℕ) (hb : b < 8) (hy : y < 2072) :
    S (arg11.view.read (Elt Ideal) (arg11.view.writes (Elt Ideal) (harg11.unread x11) [⟨Rect.unit ![7, 0, 0] S1x2072x128.size inb_S8x2080x128_S1x2072x128_7_0_0, k0_pay4 (F := Ideal) (Run.next.sl.v323 c arg2 harg2 arg3 harg3 arg4 harg4 arg10 x2 x3 x4)⟩, ⟨Rect.unit ![6, 0, 0] S1x2072x128.size inb_S8x2080x128_S1x2072x128_6_0_0, k0_pay3 (F := Ideal) (Run.next.sl.v319 c arg2 harg2 arg3 harg3 arg4 harg4 arg10 x2 x3 x4)⟩, ⟨Rect.unit ![5, 0, 0] S1x2072x128.size inb_S8x2080x128_S1x2072x128_5_0_0, k0_pay2 (F := Ideal) (Run.next.sl.v315 c arg2 harg2 arg3 harg3 arg4 harg4 arg10 x2 x3 x4)⟩, ⟨Rect.unit ![4, 0, 0] S1x2072x128.size inb_S8x2080x128_S1x2072x128_4_0_0, k0_pay1 (F := Ideal) (Run.next.sl.v_1 c arg2 harg2 arg3 harg3 arg4 harg4 arg10 x2 x3 x4)⟩, ⟨Rect.unit ![3, 0, 0] S1x2072x128.size inb_S8x2080x128_S1x2072x128_3_0_0, k0_pay400 (F := Ideal) (Run.next.sl.v307 c arg2 harg2 arg3 harg3 arg4 harg4 arg10 x2 x3 x4)⟩, ⟨Rect.unit ![2, 0, 0] S1x2072x128.size inb_S8x2080x128_S1x2072x128_2_0_0, k0_pay399 (F := Ideal) (Run.next.sl.v303 c arg2 harg2 arg3 harg3 arg4 harg4 arg10 x2 x3 x4)⟩, ⟨Rect.unit ![1, 0, 0] S1x2072x128.size inb_S8x2080x128_S1x2072x128_1_0_0, k0_pay398 (F := Ideal) (Run.next.sl.v299 c arg2 harg2 arg3 harg3 arg4 harg4 arg10 x2 x3 x4)⟩, ⟨Rect.unit ![0, 0, 0] S1x2072x128.size inb_S8x2080x128_S1x2072x128_0_0_0, k0_pay397 (F := Ideal) (Run.next.sl.v295 c arg2 harg2 arg3 harg3 arg4 harg4 arg10 x2 x3 x4)⟩, ⟨Rect.unit ![7, 0, 0] S1x2072x128.size inb_S8x2080x128_S1x2072x128_7_0_0, k0_pay317 (F := Ideal) (Run.next.sl.v53 c arg3 harg3 arg4 harg4 arg10 x3 x4)⟩, ⟨Rect.unit ![6, 0, 0] S1x2072x128.size inb_S8x2080x128_S1x2072x128_6_0_0, Run.next.sl.r_1 c arg3 harg3 arg4 harg4 arg10 x3 x4⟩, ⟨Rect.unit ![5, 0, 0] S1x2072x128.size inb_S8x2080x128_S1x2072x128_5_0_0, k0_pay315 (F := Ideal) (Run.next.sl.v45 c arg3 harg3 arg4 harg4 arg10 x3 x4)⟩, ⟨Rect.unit ![4, 0, 0] S1x2072x128.size inb_S8x2080x128_S1x2072x128_4_0_0, k0_pay314 (F := Ideal) (Run.next.sl.v41 c arg3 harg3 arg4 harg4 arg10 x3 x4)⟩, ⟨Rect.unit ![3, 0, 0] S1x2072x128.size inb_S8x2080x128_S1x2072x128_3_0_0, k0_pay313 (F := Ideal) (Run.next.sl.v37 c arg3 harg3 arg4 harg4 arg10 x3 x4)⟩, ⟨Rect.unit ![2, 0, 0] S1x2072x128.size inb_S8x2080x128_S1x2072x128_2_0_0, k0_pay312 (F := Ideal) (Run.next.sl.v33 c arg3 harg3 arg4 harg4 arg10 x3 x4)⟩, ⟨Rect.unit ![1, 0, 0] S1x2072x128.size inb_S8x2080x128_S1x2072x128_1_0_0, k0_pay311 (F := Ideal) (Run.next.sl.v29 c arg3 harg3 arg4 harg4 arg10 x3 x4)⟩, ⟨Rect.unit ![0, 0, 0] S1x2072x128.size inb_S8x2080x128_S1x2072x128_0_0_0, Run.next.sl.r c arg3 harg3 arg4 harg4 arg10 x3 x4⟩])) b y l.val = shift 16 (dIn x2 l) (y + b) := by
  rw [planes]
  exact XD_at arg2 harg2 arg3 harg3 arg4 harg4 arg10 arg11 harg11 x2 x3 x4 x11 b y l hb hy

set_option maxHeartbeats 4000000 in
theorem da_at : arg6.view.read (Elt Ideal) (arg6.view.writes (Elt Ideal) (harg6.unread x6) (Run.next (F := Ideal) c i arg2 harg2 arg3 harg3 arg4 harg4 arg5 harg5 arg6 harg6 arg7 harg7 arg8 harg8 arg9 harg9 arg10 harg10 arg11 harg11 hc x2 x3 x4 x5 x6 x7 x8 x9 x10 x11).1) = Block.da x2 x4 x5 := by
  funext y
  obtain ⟨t, l, rfl⟩ : ∃ (t : Fin 2048) (l : Fin 128), y = ix3 0 t l := Rows.exists_ix3 y
  refine (read_a c i arg2 harg2 arg3 harg3 arg4 harg4 arg5 harg5 arg6 harg6 arg7 harg7 arg8 harg8 arg9 harg9 arg10 harg10 arg11 harg11 (harg3.unread x3) (harg4.unread x4) (harg5.unread x5) _ _ 16 (by decide) t l (by omega)).trans ?_
  unfold DA
  rw [tap_at l (shifted c arg2 harg2 arg3 harg3 arg4 harg4 arg10 arg11 harg11 x2 x3 x4 x11 l) t.val t.isLt, harg4.read_unread, harg5.read_unread]
  rfl

set_option maxHeartbeats 4000000 in
theorem dg_at : arg7.view.read (Elt Ideal) (arg7.view.writes (Elt Ideal) (harg7.unread x7) (Run.next (F := Ideal) c i arg2 harg2 arg3 harg3 arg4 harg4 arg5 harg5 arg6 harg6 arg7 harg7 arg8 harg8 arg9 harg9 arg10 harg10 arg11 harg11 hc x2 x3 x4 x5 x6 x7 x8 x9 x10 x11).2.1) = Block.dg x2 x3 x4 x5 := by
  funext y
  obtain ⟨t, l, rfl⟩ : ∃ (t : Fin 2048) (l : Fin 128), y = ix3 0 t l := Rows.exists_ix3 y
  refine (read_b c i arg2 harg2 arg3 harg3 arg4 harg4 arg5 harg5 arg6 harg6 arg7 harg7 arg8 harg8 arg9 harg9 arg10 harg10 arg11 harg11 (harg3.unread x3) (harg4.unread x4) (harg5.unread x5) _ _ 16 (by decide) t l (by omega)).trans ?_
  unfold DG
  rw [tap_at l (shifted c arg2 harg2 arg3 harg3 arg4 harg4 arg10 arg11 harg11 x2 x3 x4 x11 l) t.val t.isLt, harg3.read_unread, harg4.read_unread, harg5.read_unread]
  rfl

theorem dw_at (r : Fin 32) (l : Fin 128) : arg8.view.read (Elt Ideal) (arg8.view.writes (Elt Ideal) (harg8.unread x8) (Run.next (F := Ideal) c i arg2 harg2 arg3 harg3 arg4 harg4 arg5 harg5 arg6 harg6 arg7 harg7 arg8 harg8 arg9 harg9 arg10 harg10 arg11 harg11 hc x2 x3 x4 x5 x6 x7 x8 x9 x10 x11).2.2.1) (ix2 r l) = x8 (ix2 r l) + Block.dw x2 x3 x4 r l := by
  refine (NextRows.rows c i arg2 harg2 arg3 harg3 arg4 harg4 arg5 harg5 arg6 harg6 arg7 harg7 arg8 harg8 arg9 harg9 arg10 harg10 arg11 harg11 hc x2 x3 x4 x5 x6 x7 x8 x9 x10 x11 () r l).trans ?_
  unfold Block.dw
  dsimp only
  rw [atNat_lt]
  by_cases h : r.val < 31
  · rw [if_pos h, if_pos h]
  · rw [if_neg h, if_neg h, add_zero]

set_option maxHeartbeats 4000000 in
theorem db_at (r : Fin 8) (l : Fin 128) : arg9.view.read (Elt Ideal) (arg9.view.writes (Elt Ideal) (harg9.unread x9) (Run.next (F := Ideal) c i arg2 harg2 arg3 harg3 arg4 harg4 arg5 harg5 arg6 harg6 arg7 harg7 arg8 harg8 arg9 harg9 arg10 harg10 arg11 harg11 hc x2 x3 x4 x5 x6 x7 x8 x9 x10 x11).2.2.2.1) (ix2 r l) = x9 (ix2 r l) + Block.db x2 r l := by
  refine (Rows.read_row (R := 8) (n := 128) arg9.view (harg9.unread x9) 0 _ _ _ r l).trans ?_
  unfold Block.db
  by_cases h : r.val = 0
  · rw [if_pos h, if_pos h]
    refine (Block.bias_at (View.readAt (Elt Ideal) arg9.view (Rect.unit (s := S8x128) ![0, 0] S1x128.size inb_S8x128_S1x128_0_0).toLoadRect (harg9.unread x9)) (View.readAt (Elt Ideal) arg2.view (Rect.unit (s := S1x2048x128) ![0, 0, 0] S1x2048x128.size inb_S1x2048x128_S1x2048x128_0_0_0).toLoadRect (harg2.unread x2)) l).trans ?_
    refine congrArg₂ (· + ·) ?_ (Finset.sum_congr rfl fun t _ => ?_)
    · rw [View.readAt_eq_ld, harg9.read_unread]
      exact congrArg x9 (funext fun a => Fin.ext (by
        match a with
        | ⟨0, _⟩ => exact h.symm
        | ⟨1, _⟩ => exact (Nat.zero_add _).trans (Nat.one_mul _)))
    · rw [View.readAt_eq_ld, harg2.read_unread]
      exact congrArg x2 (funext fun a => Fin.ext (by
        match a with
        | ⟨0, _⟩ => rfl
        | ⟨1, _⟩ => exact (Nat.zero_add _).trans (Nat.one_mul _)
        | ⟨2, _⟩ => exact (Nat.zero_add _).trans (Nat.one_mul _)))
  · rw [if_neg h, if_neg h, add_zero]
    exact congrFun (harg9.read_unread x9) (ix2 r l)

end Cert.Conv.NextLeft

end
-- ==== Proof.Conv.Exact.lean ====
/- The gradient of the gated convolution over the extended reals: what every point of the grid leaves, and what the
   launch leaves in the four result arrays. -/
module

public import proofs.«01_k».proof.Proof.Conv.Frame
public import proofs.«01_k».proof.Proof.Conv.FirstLeft
public import proofs.«01_k».proof.Proof.Conv.NextLeft

@[expose] public section

set_option maxRecDepth 16384

noncomputable section

namespace Cert.Conv.Exact

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Conv.Frame (first_iff)
open Cert.Kernel6Ideal Cert.Kernel6Ideal.Gen

local notation "𝕄" => MT nD τ sig Unit (Elt Ideal) ℕ (UR sig nD τ) ℕ

variable (m : (ℓ : Loc nD τ sig) → Buf (Elt Ideal) ℓ) (ρ : Dev nD → PrngReg)

/-- The taps' gradient in its block after point `n`. -/
def dwAt (c : Dev nD) : (n : ℕ) → n < cfg0.N → Vec Ideal S32x128 .f32
  | 0, hn => fun y => 0 + Block.dw (iblk m c 0 ⟨0, hn⟩) (iblk m c 1 ⟨0, hn⟩) (iblk m c 2 ⟨0, hn⟩) (y 0) (y 1)
  | n + 1, hn =>
    if (n + 1) % 4 = 0 then fun y => 0 + Block.dw (iblk m c 0 ⟨n + 1, hn⟩) (iblk m c 1 ⟨n + 1, hn⟩) (iblk m c 2 ⟨n + 1, hn⟩) (y 0) (y 1)
    else fun y => dwAt c n (Nat.lt_of_succ_lt hn) y + Block.dw (iblk m c 0 ⟨n + 1, hn⟩) (iblk m c 1 ⟨n + 1, hn⟩) (iblk m c 2 ⟨n + 1, hn⟩) (y 0) (y 1)

/-- The bias's gradient in its block after point `n`. -/
def dbAt (c : Dev nD) : (n : ℕ) → n < cfg0.N → Vec Ideal S8x128 .f32
  | 0, hn => fun y => 0 + Block.db (iblk m c 0 ⟨0, hn⟩) (y 0) (y 1)
  | n + 1, hn =>
    if (n + 1) % 4 = 0 then fun y => 0 + Block.db (iblk m c 0 ⟨n + 1, hn⟩) (y 0) (y 1)
    else fun y => dbAt c n (Nat.lt_of_succ_lt hn) y + Block.db (iblk m c 0 ⟨n + 1, hn⟩) (y 0) (y 1)

theorem dwAt_first (c : Dev nD) (t : Fin cfg0.N) (h : t.val % 4 = 0) :
    dwAt m c t.val t.isLt = fun y => 0 + Block.dw (iblk m c 0 t) (iblk m c 1 t) (iblk m c 2 t) (y 0) (y 1) := by
  obtain ⟨n, hn⟩ := t
  cases n with
  | zero => rfl
  | succ n => exact if_pos h

theorem dwAt_next (c : Dev nD) (t : Fin cfg0.N) (h : ¬t.val % 4 = 0) :
    dwAt m c t.val t.isLt = fun y => dwAt m c (t.val - 1) (Nat.lt_of_le_of_lt (Nat.sub_le _ _) t.isLt) y
      + Block.dw (iblk m c 0 t) (iblk m c 1 t) (iblk m c 2 t) (y 0) (y 1) := by
  obtain ⟨n, hn⟩ := t
  cases n with
  | zero => exact absurd (Nat.zero_mod _) h
  | succ n => exact if_neg h

theorem dbAt_first (c : Dev nD) (t : Fin cfg0.N) (h : t.val % 4 = 0) :
    dbAt m c t.val t.isLt = fun y => 0 + Block.db (iblk m c 0 t) (y 0) (y 1) := by
  obtain ⟨n, hn⟩ := t
  cases n with
  | zero => rfl
  | succ n => exact if_pos h

theorem dbAt_next (c : Dev nD) (t : Fin cfg0.N) (h : ¬t.val % 4 = 0) :
    dbAt m c t.val t.isLt = fun y => dbAt m c (t.val - 1) (Nat.lt_of_le_of_lt (Nat.sub_le _ _) t.isLt) y + Block.db (iblk m c 0 t) (y 0) (y 1) := by
  obtain ⟨n, hn⟩ := t
  cases n with
  | zero => exact absurd (Nat.zero_mod _) h
  | succ n => exact if_neg h

/-- The launch's data: the arrays as the region finds them and the inputs' blocks. Two windows are on one array. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => Block.da (iblk m c 0 t) (iblk m c 2 t) (iblk m c 3 t)
    | ⟨5, _⟩ => Block.dg (iblk m c 0 t) (iblk m c 1 t) (iblk m c 2 t) (iblk m c 3 t)
    | ⟨6, _⟩ => dwAt m c t.val t.isLt
    | ⟨7, _⟩ => dbAt m c t.val t.isLt
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]

theorem after4 (c : Dev nD) (t : Fin cfg0.N) : (dats m 0 c).after 4 t = Block.da (iblk m c 0 t) (iblk m c 2 t) (iblk m c 3 t) := by dsimp only [dats]
theorem after5 (c : Dev nD) (t : Fin cfg0.N) : (dats m 0 c).after 5 t = Block.dg (iblk m c 0 t) (iblk m c 1 t) (iblk m c 2 t) (iblk m c 3 t) := by dsimp only [dats]
theorem after6 (c : Dev nD) (t : Fin cfg0.N) : (dats m 0 c).after 6 t = dwAt m c t.val t.isLt := by dsimp only [dats]
theorem after7 (c : Dev nD) (t : Fin cfg0.N) : (dats m 0 c).after 7 t = dbAt m c t.val t.isLt := by dsimp only [dats]

/-! An input's buffer holds its block at every point. -/

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d

/-- The accumulated blocks are still in their buffers within a lane block. -/
theorem before6 (c : Dev nD) (t : Fin cfg0.N) (h : ¬t.val % 4 = 0) (d) :
    (dats m 0 c).before 6 t d = dwAt m c (t.val - 1) (Nat.lt_of_le_of_lt (Nat.sub_le _ _) t.isLt) := by
  rw [Dat.before_out_kept _ 6 rfl t (by omega)
    (Bool.eq_false_iff.mpr fun e => by have := (flush0_6 _).mp e; dsimp only at this; omega) (fun _ => rfl) (fun _ _ => rfl)]
  dsimp only [dats]

theorem before7 (c : Dev nD) (t : Fin cfg0.N) (h : ¬t.val % 4 = 0) (d) :
    (dats m 0 c).before 7 t d = dbAt m c (t.val - 1) (Nat.lt_of_le_of_lt (Nat.sub_le _ _) t.isLt) := by
  rw [Dat.before_out_kept _ 7 rfl t (by omega)
    (Bool.eq_false_iff.mpr fun e => by have := (flush0_7 _).mp e; dsimp only at this; omega) (fun _ => rfl) (fun _ _ => rfl)]
  dsimp only [dats]

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

set_option maxHeartbeats 4000000 in
/-- The body at any point ends, and leaves the inputs' blocks as they were. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0, before1, before2, before3]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl, after0, after1, after2, after3, after4, after5, after6, after7]
  unfold Pipeline.ΦA
  rw [scopedRest0_eq]
  iintro ⟨⟨⟨⟨%S0, HS0⟩, ⟨%S1, HS1⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  by_cases h : t.val % 4 = 0
  · iapply ((Run.first c (grid0.coords t) _ _ _ _ _ _ _ _ _ _ _ _ _ _ _ _ (Memref.whole cc0_scratch0) (Memref.isWhole_whole _) (Memref.whole cc0_scratch1) (Memref.isWhole_whole _) ((first_iff t).mpr h)
      (iblk m c 0 t) (iblk m c 1 t) (iblk m c 2 t) (iblk m c 3 t) _ _ _ _ S0 S1).2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [HS0]; · rw [owns_whole]; iexact HS0
    isplitl [HS1]; · rw [owns_whole]; iexact HS1
    iintro ⟨H0, H1, H2, H3, H4, H5, H6, H7, ⟨%T0, HS0⟩, ⟨%T1, HS1⟩⟩
    isplitl [HS0 HS1 Hg]
    · isplitl [HS0 HS1]
      · isplitl [HS0]
        · iexists T0; simp only [Memref.view_whole, View.set_whole]; iexact HS0
        iexists T1; simp only [Memref.view_whole, View.set_whole]; iexact HS1
      iexact Hg
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact FirstLeft.da_at c _ _ _ _ _ _ _ _ _ _ _ _ _ _ _ _ _ _ _ _ _ _ _ _ _ _ _ _ _ _ _ _
    isplitl [H5]
    · unfold owns; iexists _; isplitr
      swap; · iexact H5
      ipureintro; exact FirstLeft.dg_at c _ _ _ _ _ _ _ _ _ _ _ _ _ _ _ _ _ _ _ _ _ _ _ _ _ _ _ _ _ _ _ _
    isplitl [H6]
    · unfold owns; iexists _; isplitr
      swap; · iexact H6
      ipureintro; rw [dwAt_first m c t h]; funext y; obtain ⟨r, l, rfl⟩ : ∃ (r : Fin 32) (l : Fin 128), y = ix2 r l := ⟨_, _, eq_ix2 y⟩; exact FirstLeft.dw_at c _ _ _ _ _ _ _ _ _ _ _ _ _ _ _ _ _ _ _ _ _ _ _ _ _ _ _ _ _ _ _ _ r l
    unfold owns; iexists _; isplitr
    swap; · iexact H7
    ipureintro; rw [dbAt_first m c t h]; funext y; obtain ⟨r, l, rfl⟩ : ∃ (r : Fin 8) (l : Fin 128), y = ix2 r l := ⟨_, _, eq_ix2 y⟩; exact FirstLeft.db_at c _ _ _ _ _ _ _ _ _ _ _ _ _ _ _ _ _ _ _ _ _ _ _ _ _ _ _ _ _ _ _ _ r l
  · simp only [before6 m c t h, before7 m c t h]
    iapply ((Run.next c (grid0.coords t) _ _ _ _ _ _ _ _ _ _ _ _ _ _ _ _ (Memref.whole cc0_scratch0) (Memref.isWhole_whole _) (Memref.whole cc0_scratch1) (Memref.isWhole_whole _) (fun e => h ((first_iff t).mp e))
      (iblk m c 0 t) (iblk m c 1 t) (iblk m c 2 t) (iblk m c 3 t) _ _ _ _ S0 S1).2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [HS0]; · rw [owns_whole]; iexact HS0
    isplitl [HS1]; · rw [owns_whole]; iexact HS1
    iintro ⟨H0, H1, H2, H3, H4, H5, H6, H7, ⟨%T0, HS0⟩, ⟨%T1, HS1⟩⟩
    isplitl [HS0 HS1 Hg]
    · isplitl [HS0 HS1]
      · isplitl [HS0]
        · iexists T0; simp only [Memref.view_whole, View.set_whole]; iexact HS0
        iexists T1; simp only [Memref.view_whole, View.set_whole]; iexact HS1
      iexact Hg
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact NextLeft.da_at c _ _ _ _ _ _ _ _ _ _ _ _ _ _ _ _ _ _ _ _ _ _ _ _ _ _ _ _ _ _ _ _
    isplitl [H5]
    · unfold owns; iexists _; isplitr
      swap; · iexact H5
      ipureintro; exact NextLeft.dg_at c _ _ _ _ _ _ _ _ _ _ _ _ _ _ _ _ _ _ _ _ _ _ _ _ _ _ _ _ _ _ _ _
    isplitl [H6]
    · unfold owns; iexists _; isplitr
      swap; · iexact H6
      ipureintro; rw [dwAt_next m c t h]; funext y; obtain ⟨r, l, rfl⟩ : ∃ (r : Fin 32) (l : Fin 128), y = ix2 r l := ⟨_, _, eq_ix2 y⟩; exact NextLeft.dw_at c _ _ _ _ _ _ _ _ _ _ _ _ _ _ _ _ _ _ _ _ _ _ _ _ _ _ _ _ _ _ _ _ r l
    unfold owns; iexists _; isplitr
    swap; · iexact H7
    ipureintro; rw [dbAt_next m c t h]; funext y; obtain ⟨r, l, rfl⟩ : ∃ (r : Fin 8) (l : Fin 128), y = ix2 r l := ⟨_, _, eq_ix2 y⟩; exact NextLeft.db_at c _ _ _ _ _ _ _ _ _ _ _ _ _ _ _ _ _ _ _ _ _ _ _ _ _ _ _ _ _ _ _ _ r l

theorem body_row (t : Fin cfg0.N) : defs₀ (F := Ideal) .tc cfg0.body (cfg0.bodyArgs t (cfg0.slots t)) = bodyAt0 t := by
  unfold defs₀; rw [Defs.onTc_tc]

theorem obligation (c : Dev nD) : BodyObligation (dats m 0 c) (defs₀ (F := Ideal)) Variants.none () Set.univ := fun t => by
  rw [bigSep_W0, bigSep_W0, body_row]
  exact triple_restated (sound_body m c t) rfl .rfl fun _ => .rfl

set_option backward.isDefEq.respectTransparency.types false in
/-- The launch ends with every array at what the points leave, and every semaphore at zero. -/
theorem launched : θ_run defs (onTc (τ := τ) (main (F := Ideal))) (s₀ m ρ)
    (fun r => Pipeline.FramePost cfgs (dats m) 0 (V m) r ∧ r.2.sem = fun _ => 0) :=
  Pipeline.θ_run_frame_shared (Q' := _) cfgs (dats m) (0 : Fin 1) launch₀0 defs₀ Variants.none m ρ main
    (hbody := fun c => (obligation m c).loose) (hq := fun c w _ => rfl)
    (howed := fun _ _ => rfl) (V := V m) (hmain := hmain m Variants.none) (hA := A_eq m) (hΦ := fun _ _ => rfl)

/-- The launch ends with the results at what the points leave and the arguments unchanged. -/
theorem run_blocks : θ_run defs (onTc (τ := τ) (main (F := Ideal))) ⟨m, fun _ => 0, ρ⟩ (fun r => ∀ c : Dev nD,
      r.2.mem ((c.tc : Thread nD τ).loc main_v4_0) = (dats m 0 c).arrAt 4 cfg0.N
      ∧ r.2.mem ((c.tc : Thread nD τ).loc main_v4_1) = (dats m 0 c).arrAt 5 cfg0.N
      ∧ r.2.mem ((c.tc : Thread nD τ).loc main_v4_2) = (dats m 0 c).arrAt 6 cfg0.N
      ∧ r.2.mem ((c.tc : Thread nD τ).loc main_v4_3) = (dats m 0 c).arrAt 7 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h.1.1 c).1 4, (h.1.1 c).1 5, (h.1.1 c).1 6, (h.1.1 c).1 7, h.2 c⟩)
    (θ_run_and (launched m ρ) (frame_of m ρ (dats m) (A_eq m) ((θ_run defs _ _).mono (fun _ h => h.1) (launched m ρ))))

end Cert.Conv.Exact

end
-- ==== Proof.Conv.Reference.lean ====
/- The reference's four results, read at an index. Its sums over the 31 taps are one fold each. -/
module

public import proofs.«01_k».proof.Proof.Gen.Reference6Ideal.Read
public import proofs.«01_k».proof.Proof.Conv.Spec

@[expose] public section

set_option maxRecDepth 16384

noncomputable section

namespace Cert.Conv.Ref

open Cert.Reference6Ideal Cert.Reference6Ideal.Gen Cert.Reference6Ideal.Read Idealize.ShloMosaic Idealize.ShloMosaic.TcCoe Idealize.SL.Sem
open Cert.Lift Cert.Conv
open scoped BigOperators

variable (x0 : FVec Ideal S4x2048x512 .f32) (x1 : FVec Ideal S4x2048x2560 .f32) (x2 : FVec Ideal S1x31x512 .f32)

theorem slices_u (j : ℕ) (h : j ≤ 30) : S4x2078x512.Slices ![0, j, 0] S4x2048x512 :=
  ⟨rfl, fun a => match a with
    | ⟨0, _⟩ => le_refl _
    | ⟨1, _⟩ => by show j + 2048 ≤ 2078; omega
    | ⟨2, _⟩ => le_refl _⟩

theorem slices_w (j : ℕ) (h : j ≤ 30) : S1x31x512.Slices ![0, j, 0] S1x1x512 :=
  ⟨rfl, fun a => match a with
    | ⟨0, _⟩ => le_refl _
    | ⟨1, _⟩ => by show j + 1 ≤ 31; omega
    | ⟨2, _⟩ => le_refl _⟩

theorem pads_u (j : ℕ) (h : j ≤ 30) : S4x2048x512.Pads (![0, j, 0] : Fin 3 → Nat) ![0, 30 - j, 0] ![0, 0, 0] S4x2078x512 :=
  ⟨rfl, fun a => match a with
    | ⟨0, _⟩ => rfl
    | ⟨1, _⟩ => by show 2078 = j + 2048 + 0 * (2048 - 1) + (30 - j); omega
    | ⟨2, _⟩ => rfl⟩

theorem pads_w (j : ℕ) (h : j ≤ 30) : S1x1x512.Pads (![0, j, 0] : Fin 3 → Nat) ![0, 30 - j, 0] ![0, 0, 0] S1x31x512 :=
  ⟨rfl, fun a => match a with
    | ⟨0, _⟩ => rfl
    | ⟨1, _⟩ => by show 31 = j + 1 + 0 * (1 - 1) + (30 - j); omega
    | ⟨2, _⟩ => rfl⟩

/-- Tap `j` passed back to the padded input. -/
def tapU (j : ℕ) (h : j ≤ 30) : FVec Ideal S4x2078x512 .f32 :=
  pad S4x2078x512 ![0, j, 0] ![0, 30 - j, 0] ![0, 0, 0]
    (mulf (val_main_v238 (F := Ideal) x0) (broadcastInDim S4x2048x512 ![0, 1, 2] bcast_S1x1x512_S4x2048x512_0_1_2
      (broadcastInDim S1x1x512 ![2] bcast_S512_S1x1x512_2
        (shapeCast S512 (extractStridedSlice S1x1x512 ![0, j, 0] x2 (slices_w j h)) shapeCasts_S1x1x512_S512))))
    (constant (F := Ideal) S_ .f32 0x00000000#32) (pads_u j h) h_S_

/-- Tap `j`'s weight gradient, in its row. -/
def tapW (j : ℕ) (h : j ≤ 30) : FVec Ideal S1x31x512 .f32 :=
  pad S1x31x512 ![0, j, 0] ![0, 30 - j, 0] ![0, 0, 0]
    (broadcastInDim S1x1x512 ![2] bcast_S512_S1x1x512_2 (Host.reduceAdd (shapeCast S1x1x512
      (Host.reduceAdd (mulf (extractStridedSlice S4x2048x512 ![0, j, 0] (val_main_v14 (F := Ideal) x1) (slices_u j h)) (val_main_v238 (F := Ideal) x0))
        (constant (F := Ideal) S_ .f32 0x00000000#32) reducesTo_S4x2048x512_S512_d0_1 h_S_) shapeCasts_S512_S1x1x512)
      (constant (F := Ideal) S_ .f32 0x00000000#32) reducesTo_S1x1x512_S512_d0_1 h_S_))
    (constant (F := Ideal) S_ .f32 0x00000000#32) (pads_w j h) h_S_

/-- The taps from the last down to `30 - k`, added up in the reference's order. -/
def sumU : (k : ℕ) → k ≤ 30 → FVec Ideal S4x2078x512 .f32
  | 0, _ => tapU x0 x2 30 (le_refl _)
  | k + 1, h => addf (sumU k (by omega)) (tapU x0 x2 (29 - k) (by omega))

/-- The same of the weights. -/
def sumW : (k : ℕ) → k ≤ 30 → FVec Ideal S1x31x512 .f32
  | 0, _ => tapW x0 x1 30 (le_refl _)
  | k + 1, h => addf (sumW k (by omega)) (tapW x0 x1 (29 - k) (by omega))

theorem v580 : val_main_v580 (F := Ideal) x0 x2 = sumU x0 x2 30 (le_refl _) := rfl

theorem v578 : val_main_v578 (F := Ideal) x0 x1 = sumW x0 x1 30 (le_refl _) := rfl

variable {x0 x1 x2}

theorem v238 (b : Fin 4) (t : Fin 2048) (c : Fin 512) : val_main_v238 (F := Ideal) x0 (ix3 b t c) = x0 (ix3 b t c) := by
  pointwise [val_main_v238]

/-- The sequence `b` of channel `c` of the cotangent, -/
def dOf (x0 : FVec Ideal S4x2048x512 .f32) (b : Fin 4) (c : Fin 512) (t : Fin 2048) : EReal := x0 (ix3 b t c)

/-- of the linear unit's value, -/
def aOf (x1 : FVec Ideal S4x2048x2560 .f32) (b : Fin 4) (c : Fin 512) (t : Fin 2048) : EReal := x1 (ix3 b t ⟨c.val, by omega⟩)

/-- of its gate, -/
def gOf (x1 : FVec Ideal S4x2048x2560 .f32) (b : Fin 4) (c : Fin 512) (t : Fin 2048) : EReal := x1 (ix3 b t ⟨512 + c.val, by omega⟩)

/-- of its result, -/
def uOf (x1 : FVec Ideal S4x2048x2560 .f32) (b : Fin 4) (c : Fin 512) (t : Fin 2048) : EReal := aOf x1 b c t * sg (gOf x1 b c t)

/-- and the channel's weights. -/
def wOf (x2 : FVec Ideal S1x31x512 .f32) (c : Fin 512) : ℕ → EReal := atNat fun j : Fin 31 => x2 (ix3 0 j c)

theorem v1 (b : Fin 4) (t : Fin 2048) (c : Fin 512) : val_main_v1 (F := Ideal) x1 (ix3 b t c) = aOf x1 b c t := by
  unfold aOf
  pointwise [val_main_v1]

theorem v8 (b : Fin 4) (t : Fin 2048) (c : Fin 512) : val_main_v8 (F := Ideal) x1 (ix3 b t c) = sg (gOf x1 b c t) := by
  unfold sg gOf
  pointwise [val_main_v8, val_main_v7, val_main_v6, val_main_v5, val_main_v4, val_main_v3, val_main_v2, val_main_cst_0, val_main_cst_1]

theorem v11 (b : Fin 4) (t : Fin 2048) (c : Fin 512) : val_main_v11 (F := Ideal) x1 (ix3 b t c) = sg (gOf x1 b c t) * (1 - sg (gOf x1 b c t)) := by
  have e := v8 (x1 := x1) b t c
  pointwise [val_main_v11, val_main_v10, val_main_v9, val_main_cst_2, e]

theorem v14 (b : Fin 4) (y : Fin 2078) (c : Fin 512) : val_main_v14 (F := Ideal) x1 (ix3 b y c) = shift 15 (uOf x1 b c) y.val := by
  unfold shift uOf
  have e1 := fun t => v1 (x1 := x1) b t c
  have e8 := fun t => v8 (x1 := x1) b t c
  pointwise [val_main_v14, val_main_v13, val_main_v12, val_main_cst_3, e1, e8]
  by_cases h1 : y.val < 15
  · rw [dif_pos h1, dif_neg (by omega)]
  · rw [dif_neg h1]
    by_cases h2 : y.val < 2063
    · rw [dif_pos (by omega), dif_pos (by omega)]
    · rw [dif_neg (by omega), dif_neg (by omega)]

theorem tapU_apply (j : ℕ) (h : j ≤ 30) (b : Fin 4) (y : Fin 2078) (c : Fin 512) :
    tapU x0 x2 j h (ix3 b y c) = shift j (dOf x0 b c) y.val * wOf x2 c j := by
  unfold tapU shift wOf atNat
  pointwise
  rw [dif_pos (show j < 31 by omega)]
  by_cases hy : j ≤ y.val ∧ y.val < j + 2048
  · rw [dif_pos hy, dif_pos (by omega), v238]; rfl
  · rw [dif_neg hy, dif_neg (by omega), zero_mul]

theorem tapW_apply (j : ℕ) (h : j ≤ 30) (r : Fin 31) (c : Fin 512) :
    tapW x0 x1 j h (ix3 0 r c) = if r.val = j then ∑ b : Fin 4, dW (dOf x0 b c) (uOf x1 b c) j else 0 := by
  unfold tapW
  pointwise
  by_cases hr : r.val = j
  · rw [dif_pos (by omega), if_pos hr, reduce01]
    simp only [zero_add, Fin.sum_univ_one]
    pointwise
    rw [reduce01]
    simp only [zero_add]
    refine Finset.sum_congr rfl fun b _ => Finset.sum_congr rfl fun t _ => ?_
    have e := fun y => v14 (x1 := x1) b y c
    have e' := v238 (x0 := x0) b t c
    pointwise [e, e']
    rw [mul_comm, Nat.add_comm]; rfl
  · rw [dif_neg (by omega), if_neg hr]

theorem sumU_apply (b : Fin 4) (y : Fin 2078) (c : Fin 512) : ∀ (k : ℕ) (h : k ≤ 30),
    sumU x0 x2 k h (ix3 b y c) = ∑ i ∈ Finset.range (k + 1), shift (30 - i) (dOf x0 b c) y.val * wOf x2 c (30 - i)
  | 0, h => by rw [sumU, tapU_apply, Finset.sum_range_one]
  | k + 1, h => by
    rw [sumU, Finset.sum_range_succ, ← sumU_apply b y c k (by omega)]
    refine congrArg₂ (· + ·) rfl ?_
    rw [tapU_apply, show 30 - (k + 1) = 29 - k by omega]

theorem sumW_apply (r : Fin 31) (c : Fin 512) : ∀ (k : ℕ) (h : k ≤ 30),
    sumW x0 x1 k h (ix3 0 r c) = if 30 - k ≤ r.val then ∑ b : Fin 4, dW (dOf x0 b c) (uOf x1 b c) r.val else 0
  | 0, h => by
    rw [sumW, tapW_apply]
    by_cases hr : r.val = 30
    · rw [if_pos hr, if_pos (by omega), hr]
    · rw [if_neg hr, if_neg (by omega)]
  | k + 1, h => by
    have e : sumW x0 x1 (k + 1) h (ix3 0 r c) = sumW x0 x1 k (by omega) (ix3 0 r c) + tapW x0 x1 (29 - k) (by omega) (ix3 0 r c) := rfl
    rw [e, sumW_apply r c k (by omega), tapW_apply]
    by_cases hr : r.val = 29 - k
    · rw [if_pos hr, if_neg (by omega), if_pos (by omega), zero_add, hr]
    · rw [if_neg hr, add_zero]
      by_cases h' : 30 - k ≤ r.val
      · rw [if_pos h', if_pos (by omega)]
      · rw [if_neg h', if_neg (by omega)]

theorem v582 (b : Fin 4) (t : Fin 2048) (c : Fin 512) : val_main_v582 (F := Ideal) x0 x2 (ix3 b t c) = dU (dOf x0 b c) (wOf x2 c) t.val := by
  have e := fun y => (congrFun (v580 x0 x2) (ix3 b y c)).trans (sumU_apply b y c 30 (le_refl _))
  pointwise [val_main_v582, e]
  unfold dU
  rw [← Finset.sum_range_reflect]
  refine Finset.sum_congr rfl fun i hi => ?_
  have hi' := Finset.mem_range.mp hi
  rw [show 30 - (31 - 1 - i) = i by omega, Nat.add_comm]

theorem v591 (b : Fin 4) (t : Fin 2048) (c : Fin 512) :
    val_main_v591 (F := Ideal) x0 x1 x2 (ix3 b t c) = dU (dOf x0 b c) (wOf x2 c) t.val * sg (gOf x1 b c t) := by
  have e1 := v582 (x0 := x0) (x2 := x2) b t c
  have e2 := v8 (x1 := x1) b t c
  pointwise [val_main_v591, val_main_v590, val_main_v589, val_main_v588, val_main_v587, val_main_v585, val_main_cst_133, e1, e2]
  rw [dif_neg (fun h => h.1), zero_add]

theorem v593 (b : Fin 4) (t : Fin 2048) (c : Fin 512) :
    val_main_v593 (F := Ideal) x0 x1 x2 (ix3 b t c) = aOf x1 b c t * dU (dOf x0 b c) (wOf x2 c) t.val * (sg (gOf x1 b c t) * (1 - sg (gOf x1 b c t))) := by
  have e1 := v582 (x0 := x0) (x2 := x2) b t c
  have e2 := v11 (x1 := x1) b t c
  have e3 := v1 (x1 := x1) b t c
  pointwise [val_main_v593, val_main_v592, val_main_v589, val_main_v588, val_main_v587, val_main_v586, val_main_v584, val_main_cst_134, e1, e2, e3]

theorem v596 (r : Fin 32) (c : Fin 512) :
    val_main_v596 (F := Ideal) x0 x1 (ix2 r c) = if r.val < 31 then ∑ b : Fin 4, dW (dOf x0 b c) (uOf x1 b c) r.val else 0 := by
  have e := fun r => (congrFun (v578 x0 x1) (ix3 0 r c)).trans (sumW_apply r c 30 (le_refl _))
  pointwise [val_main_v596, val_main_v595, val_main_v594, val_main_cst_135, e]
  by_cases h : r.val < 31
  · rw [dif_pos h, if_pos h]
  · rw [dif_neg h, if_neg h]

theorem v599 (r : Fin 8) (c : Fin 512) :
    val_main_v599 (F := Ideal) x0 (ix2 r c) = if r.val < 1 then ∑ b : Fin 4, ∑ t : Fin 2048, dOf x0 b c t else 0 := by
  pointwise [val_main_v599, val_main_v598, val_main_v597, val_main_v241, val_main_v240, val_main_v239, val_main_cst_136, val_main_cst_7, val_main_cst_8]
  by_cases h : r.val < 1
  · rw [dif_pos h, if_pos h, reduce01]
    simp only [zero_add, Fin.sum_univ_one]
    pointwise
    rw [reduce01, zero_add]; rfl
  · rw [dif_neg h, if_neg h]

end Cert.Conv.Ref

end
-- ==== Proof.Conv.Host.lean ====
/- The blocks of the gated convolution's gradient as entries of the arguments: sequence `t % 4` and channels `128 * (t / 4) + l`. -/
module

public import proofs.«01_k».proof.Proof.Conv.Exact
public import proofs.«01_k».proof.Proof.Conv.Reference
public import Idealize.ShloMosaic.Lib.Pipeline.Value
public import Idealize.ShloMosaic.Lib.Pipeline.ValueKit

@[expose] public section

set_option maxRecDepth 16384

noncomputable section

namespace Cert.Conv.Array

open Cert.Kernel6Ideal Cert.Kernel6Ideal.Gen Idealize.ShloMosaic Idealize.ShloMosaic.TcCoe Idealize.SL.Sem
open Idealize.ShloMosaic.Pipeline (Dat)
open Cert.Lift Cert.Conv Cert.Conv.Exact Cert.Conv.Ref
open Cert.Conv.Planes (dIn uIn)
open scoped BigOperators

variable (m : (ℓ : Loc nD τ sig) → Buf (Elt Ideal) ℓ) (c : Dev nD)

theorem idx : ∀ t : Fin cfg0.N, win0_0.index t = ![t.val % 4, 0, t.val / 4] ∧ win0_1.index t = ![t.val / 4, t.val % 4, 0, 0]
    ∧ win0_2.index t = ![4 + t.val / 4, t.val % 4, 0, 0] ∧ win0_3.index t = ![0, t.val / 4] ∧ win0_4.index t = ![t.val % 4, 0, t.val / 4]
    ∧ win0_5.index t = ![t.val % 4, 0, t.val / 4] ∧ win0_6.index t = ![0, t.val / 4] ∧ win0_7.index t = ![0, t.val / 4] ∧ t.val < 16 :=
  (by decide +kernel : ∀ t : Fin grid0.N, _)

theorem lt (t : Fin cfg0.N) : t.val < 16 := (idx t).2.2.2.2.2.2.2.2

/-- The sequence of grid point `t`, -/
def bat (t : Fin cfg0.N) : Fin 4 := ⟨t.val % 4, by omega⟩

/-- and its channels. -/
def ch (t : Fin cfg0.N) (l : Fin 128) : Fin 512 := ⟨t.val / 4 * 128 + l.val, by have := lt t; omega⟩

/-- The first argument in memory, -/
abbrev arg0 : FVec Ideal S4x2048x512 .f32 := m ((c : Thread nD τ).loc main_arg0)

/-- the second, -/
abbrev arg1 : FVec Ideal S4x2048x2560 .f32 := m ((c : Thread nD τ).loc main_arg1)

/-- and the third. -/
abbrev arg2 : FVec Ideal S1x31x512 .f32 := m ((c : Thread nD τ).loc main_arg2)

theorem planes (k : Fin 20) (b : Fin 4) (s : Fin 2048) (l : Fin 128) :
    V m c main_v2 (ix4 k b s l) = arg1 m c (ix3 b s ⟨k.val * 128 + l.val, by omega⟩) := by
  simp only [V, List.flatten_cons, List.flatten_nil, hostOps0, List.cons_append, List.nil_append]
  after_results_simp
  pointwise
  exact congrArg₂ (fun b s => arg1 m c (ix3 b s ⟨k.val * 128 + l.val, by omega⟩)) (Fin.ext (by show (b.val * 2048 + s.val) / 2048 = b.val; omega))
    (Fin.ext (by show (b.val * 2048 + s.val) % 2048 = s.val; omega))

theorem taps (j : Fin 31) (l : Fin 512) : V m c main_v3 (ix2 j l) = arg2 m c (ix3 0 j l) := by
  simp only [V, List.flatten_cons, List.flatten_nil, hostOps0, List.cons_append, List.nil_append]
  after_results_simp
  pointwise

theorem blk0 (t : Fin cfg0.N) (s : Fin 2048) (l : Fin 128) : iblk m c 0 t (ix3 0 s l) = dOf (arg0 m c) (bat t) (ch t l) s := by
  have e : ((cfg0.win 0).blk t).view.emb (ix3 0 s l) = ix3 (bat t) s (ch t l) := by blk_ext [idx t, bat, ch]
  exact (congrArg (V m c main_arg0) e).trans (congrFun (V_main_arg0 m c) _)

theorem blk1 (t : Fin cfg0.N) (s : Fin 2048) (l : Fin 128) : iblk m c 1 t (ix4 0 0 s l) = aOf (arg1 m c) (bat t) (ch t l) s := by
  have e : ((cfg0.win 1).blk t).view.emb (ix4 0 0 s l) = ix4 ⟨t.val / 4, by have := lt t; omega⟩ (bat t) s l := by blk_ext [idx t, bat]
  exact (congrArg (V m c main_v2) e).trans (planes m c _ _ _ _)

theorem blk2 (t : Fin cfg0.N) (s : Fin 2048) (l : Fin 128) : iblk m c 2 t (ix4 0 0 s l) = gOf (arg1 m c) (bat t) (ch t l) s := by
  have e : ((cfg0.win 2).blk t).view.emb (ix4 0 0 s l) = ix4 ⟨4 + t.val / 4, by have := lt t; omega⟩ (bat t) s l := by blk_ext [idx t, bat]
  refine (congrArg (V m c main_v2) e).trans ((planes m c _ _ _ _).trans (congrArg (fun k => arg1 m c (ix3 (bat t) s k)) (Fin.ext ?_)))
  show (4 + t.val / 4) * 128 + l.val = 512 + (t.val / 4 * 128 + l.val)
  omega

theorem blk3 (t : Fin cfg0.N) (j : Fin 31) (l : Fin 128) : iblk m c 3 t (ix2 j l) = arg2 m c (ix3 0 j (ch t l)) := by
  have e : ((cfg0.win 3).blk t).view.emb (ix2 j l) = ix2 j (ch t l) := by blk_ext [idx t, ch]
  exact (congrArg (V m c main_v3) e).trans (taps m c _ _)

/-! The pieces of the blocks' gradients. -/

theorem d_eq (t : Fin cfg0.N) (l : Fin 128) : dIn (iblk m c 0 t) l = dOf (arg0 m c) (bat t) (ch t l) := funext fun s => blk0 m c t s l

theorem u_eq (t : Fin cfg0.N) (l : Fin 128) : uIn (iblk m c 1 t) (iblk m c 2 t) l = uOf (arg1 m c) (bat t) (ch t l) :=
  funext fun s => congrArg₂ (fun a g => a * sg g) (blk1 m c t s l) (blk2 m c t s l)

theorem w_eq (t : Fin cfg0.N) (l : Fin 128) : (atNat fun j : Fin 31 => iblk m c 3 t (ix2 j l)) = wOf (arg2 m c) (ch t l) :=
  congrArg atNat (funext fun j => blk3 m c t j l)

theorem du_eq (t : Fin cfg0.N) (s : Fin 2048) (l : Fin 128) :
    Block.du (iblk m c 0 t) (iblk m c 3 t) s l = dU (dOf (arg0 m c) (bat t) (ch t l)) (wOf (arg2 m c) (ch t l)) s.val :=
  congrArg₂ (fun d w => dU d w s.val) (d_eq m c t l) (w_eq m c t l)

end Cert.Conv.Array

end
-- ==== Proof.Conv.Array.lean ====
/- What the four result arrays of the gated convolution's gradient hold after the run: the reference's results. -/
module

public import proofs.«01_k».proof.Proof.Conv.Host

@[expose] public section

set_option maxRecDepth 16384

noncomputable section

namespace Cert.Conv.Array

open Cert.Kernel6Ideal Cert.Kernel6Ideal.Gen Idealize.ShloMosaic Idealize.ShloMosaic.TcCoe Idealize.SL.Sem
open Idealize.ShloMosaic.Pipeline (Dat)
open Cert.Lift Cert.Conv Cert.Conv.Exact Cert.Conv.Ref
open scoped BigOperators

variable (m : (ℓ : Loc nD τ sig) → Buf (Elt Ideal) ℓ) (c : Dev nD)

/-- The reference's results on the arguments in memory. -/
abbrev out0 : FVec Ideal S4x2048x512 .bf16 := Cert.Reference6Ideal.Read.val_main_v591 (F := Ideal) (arg0 m c) (arg1 m c) (arg2 m c)
abbrev out1 : FVec Ideal S4x2048x512 .bf16 := Cert.Reference6Ideal.Read.val_main_v593 (F := Ideal) (arg0 m c) (arg1 m c) (arg2 m c)
abbrev out2 : FVec Ideal S32x512 .f32 := Cert.Reference6Ideal.Read.val_main_v596 (F := Ideal) (arg0 m c) (arg1 m c)
abbrev out3 : FVec Ideal S8x512 .f32 := Cert.Reference6Ideal.Read.val_main_v599 (F := Ideal) (arg0 m c)

theorem final4 : (dats m 0 c).arrAt 4 cfg0.N = out0 m c := by
  refine (dats m 0 c).arrAt_eq_of_covers 4 _ (by decide +kernel) fun t hf y => ?_
  obtain ⟨s, l, rfl⟩ : ∃ (s : Fin 2048) (l : Fin 128), y = ix3 0 s l := Rows.exists_ix3 y
  have e : ((cfg0.win 4).blk t).view.emb (ix3 0 s l) = ix3 (bat t) s (ch t l) := by blk_ext [idx t, bat, ch]
  refine Eq.trans ?_ (congrArg (out0 m c) e).symm
  refine Eq.trans ?_ (v591 (bat t) s (ch t l)).symm
  rw [after4]
  exact congrArg₂ (fun d g => d * sg g) (du_eq m c t s l) (blk2 m c t s l)

theorem final5 : (dats m 0 c).arrAt 5 cfg0.N = out1 m c := by
  refine (dats m 0 c).arrAt_eq_of_covers 5 _ (by decide +kernel) fun t hf y => ?_
  obtain ⟨s, l, rfl⟩ : ∃ (s : Fin 2048) (l : Fin 128), y = ix3 0 s l := Rows.exists_ix3 y
  have e : ((cfg0.win 5).blk t).view.emb (ix3 0 s l) = ix3 (bat t) s (ch t l) := by blk_ext [idx t, bat, ch]
  refine Eq.trans ?_ (congrArg (out1 m c) e).symm
  refine Eq.trans ?_ (v593 (bat t) s (ch t l)).symm
  rw [after5]
  refine Eq.trans (?_ : _ = Block.du (iblk m c 0 t) (iblk m c 3 t) s l * iblk m c 1 t (ix4 0 0 s l) * sg (iblk m c 2 t (ix4 0 0 s l))
    * (1 - sg (iblk m c 2 t (ix4 0 0 s l)))) ?_
  · rfl
  · rw [du_eq, blk1, blk2, mul_assoc, mul_comm (dU _ _ _)]

/-- The last point of a lane block has seen its sequences in turn. -/
theorem bat_at (t : Fin cfg0.N) (b : Fin 4) (h) : bat ⟨4 * (t.val / 4) + b.val, h⟩ = b :=
  Fin.ext (by show (4 * (t.val / 4) + b.val) % 4 = b.val; omega)

theorem ch_at (t : Fin cfg0.N) (b : Fin 4) (h) (l : Fin 128) : ch ⟨4 * (t.val / 4) + b.val, h⟩ l = ch t l :=
  Fin.ext (by show (4 * (t.val / 4) + b.val) / 4 * 128 + l.val = t.val / 4 * 128 + l.val; omega)

theorem final6 : (dats m 0 c).arrAt 6 cfg0.N = out2 m c := by
  refine (dats m 0 c).arrAt_eq_of_covers 6 _ (by decide +kernel) fun t hf y => ?_
  obtain ⟨r, l, rfl⟩ : ∃ (r : Fin 32) (l : Fin 128), y = ix2 r l := ⟨_, _, eq_ix2 y⟩
  have e : ((cfg0.win 6).blk t).view.emb (ix2 r l) = ix2 r (ch t l) := by blk_ext [idx t, ch]
  refine Eq.trans ?_ (congrArg (out2 m c) e).symm
  refine Eq.trans ?_ (v596 r (ch t l)).symm
  rw [after6, Pipeline.eq_sum_fin_of_reset_step_apply_of_flush (fun n h => dwAt m c n h) 4 (fun _ => 0)
    (fun t j => Block.dw (iblk m c 0 t) (iblk m c 1 t) (iblk m c 2 t) (j 0) (j 1)) (fun t h0 j => congrFun (dwAt_first m c t h0) j)
    (fun t h0 j => congrFun (dwAt_next m c t h0) j) t ((flush0_6 t).mp hf) _, zero_add]
  show ∑ b : Fin 4, Block.dw _ _ _ r l = _
  unfold Block.dw
  by_cases h1 : r.val < 31
  · simp only [h1, if_true]
    exact Finset.sum_congr rfl fun b _ => by rw [d_eq, u_eq, bat_at, ch_at]
  · simp only [h1, if_false, Finset.sum_const_zero]

theorem final7 : (dats m 0 c).arrAt 7 cfg0.N = out3 m c := by
  refine (dats m 0 c).arrAt_eq_of_covers 7 _ (by decide +kernel) fun t hf y => ?_
  obtain ⟨r, l, rfl⟩ : ∃ (r : Fin 8) (l : Fin 128), y = ix2 r l := ⟨_, _, eq_ix2 y⟩
  have e : ((cfg0.win 7).blk t).view.emb (ix2 r l) = ix2 r (ch t l) := by blk_ext [idx t, ch]
  refine Eq.trans ?_ (congrArg (out3 m c) e).symm
  refine Eq.trans ?_ (v599 r (ch t l)).symm
  rw [after7, Pipeline.eq_sum_fin_of_reset_step_apply_of_flush (fun n h => dbAt m c n h) 4 (fun _ => 0)
    (fun t j => Block.db (iblk m c 0 t) (j 0) (j 1)) (fun t h0 j => congrFun (dbAt_first m c t h0) j)
    (fun t h0 j => congrFun (dbAt_next m c t h0) j) t ((flush0_7 t).mp hf) _, zero_add]
  show ∑ b : Fin 4, Block.db _ r l = _
  unfold Block.db
  by_cases h1 : r.val = 0
  · simp only [h1, if_true, show (0 : ℕ) < 1 from Nat.one_pos]
    exact Finset.sum_congr rfl fun b _ => Finset.sum_congr rfl fun s _ => by rw [d_eq, bat_at, ch_at]
  · simp only [h1, if_false, show ¬r.val < 1 by omega, Finset.sum_const_zero]

end Cert.Conv.Array

end
-- ==== Proof.Conv.Claim.lean ====
/- The value claim of the gated convolution's gradient. -/
module

public import proofs.«01_k».proof.Defs
public import proofs.«01_k».proof.Proof.Gen.Reference6Ideal.Run
public import proofs.«01_k».proof.Proof.Conv.Array

@[expose] public section

set_option maxRecDepth 16384

noncomputable section

namespace Cert.Conv

open Idealize.ShloMosaic Idealize.ShloMosaic.TcCoe Idealize.SL.Sem

set_option maxHeartbeats 4000000 in
theorem algebraic : Cert.algebraic_Kernel6Ideal_Reference6Ideal := by
  pair_intro
  · run_from Cert.Conv.Exact.run_blocks m g
  · run_from Cert.Reference6Ideal.Value.run m' g'
    · obtain ⟨e0, e1, e2⟩ := hagree c
      rw [Cert.Reference6Ideal.Read.val_main_v591_eq]
      try simp only [e0, e1, e2]
      exact (Array.final4 m c).symm
    · obtain ⟨e0, e1, e2⟩ := hagree c
      rw [Cert.Reference6Ideal.Read.val_main_v593_eq]
      try simp only [e0, e1, e2]
      exact (Array.final5 m c).symm
    · obtain ⟨e0, e1, e2⟩ := hagree c
      rw [Cert.Reference6Ideal.Read.val_main_v596_eq]
      try simp only [e0, e1, e2]
      exact (Array.final6 m c).symm
    · refine Eq.trans ?_ (Array.final7 m c).symm
      rfl

end Cert.Conv

end
-- ==== Proof.MixOutFwd.Spec.lean ====
/- The forward output mix as formulas over the extended reals: the normalised and activated branch, the output projection, the gated residual
   and the modulated norm of the next block. No argument needs to be finite: kernel and reference differ in the order of the sums alone. -/
module

public import proofs.«01_k».proof.Proof.Lift

@[expose] public section

set_option maxRecDepth 16384

noncomputable section

namespace Cert.MixOutFwd

open Idealize.ShloMosaic Cert.Lift
open scoped BigOperators

/-- The arguments: the convolution branch's values `U`, the attention branch's `Y`, the residual stream `X`, the three rows of the modulation
    (gate `GM`, shift `SH` and scale `SC`), the norms' parameters `G`, `B` and `GF` and the output projection `W`. -/
structure Data where
  U : Fin 4 → Fin 2048 → Fin 512 → EReal
  Y : Fin 4 → Fin 2048 → Fin 512 → EReal
  X : Fin 4 → Fin 2048 → Fin 1024 → EReal
  GM : Fin 4 → Fin 1024 → EReal
  SH : Fin 4 → Fin 1024 → EReal
  SC : Fin 4 → Fin 1024 → EReal
  G : Fin 512 → EReal
  B : Fin 512 → EReal
  GF : Fin 1024 → EReal
  W : Fin 1024 → Fin 1024 → EReal

/-- The data the eight argument arrays hold. -/
def data (x0 x1 : FVec Ideal ⟨3, ![4, 2048, 512]⟩ .f32) (x2 : FVec Ideal ⟨3, ![4, 2048, 1024]⟩ .f32) (x3 : FVec Ideal ⟨2, ![4, 6144]⟩ .f32)
    (x4 x5 : FVec Ideal ⟨2, ![1, 512]⟩ .f32) (x6 : FVec Ideal ⟨2, ![1, 1024]⟩ .f32) (x7 : FVec Ideal ⟨3, ![1, 1024, 1024]⟩ .f32) : Data :=
  ⟨fun b s k => x0 (ix3 b s k), fun b s k => x1 (ix3 b s k), fun b s k => x2 (ix3 b s k), fun b k => x3 (ix2 b ⟨2048 + k.val, by omega⟩),
    fun b k => x3 (ix2 b ⟨3072 + k.val, by omega⟩), fun b k => x3 (ix2 b ⟨4096 + k.val, by omega⟩), fun k => x4 (ix2 0 k), fun k => x5 (ix2 0 k),
    fun k => x6 (ix2 0 k), fun a k => x7 (ix3 0 a k)⟩

/-- The row less its mean. -/
def cen (u : Fin 512 → EReal) (k : Fin 512) : EReal := u k - Ideal.div (∑ j, u j) ((512 : ℝ) : EReal)

/-- The normalised row. -/
def norm (u g b : Fin 512 → EReal) (k : Fin 512) : EReal :=
  cen u k * Ideal.rsqrt (Ideal.div (∑ j, cen u j * cen u j) ((512 : ℝ) : EReal) + ((eps : ℝ) : EReal)) * g k + b k

/-- `silu z`. -/
def silu (z : EReal) : EReal := z * Ideal.div 1 (1 + Ideal.exp (-z))

/-- The modulated norm of a row. -/
def modulated (x g sc sh : Fin 1024 → EReal) (k : Fin 1024) : EReal :=
  x k * Ideal.rsqrt (Ideal.div (∑ j, x j * x j) ((1024 : ℝ) : EReal) + ((eps : ℝ) : EReal)) * g k * (1 + sc k) + sh k

variable (p : Data)

/-- The convolution branch's result. -/
def yc (b : Fin 4) (s : Fin 2048) (k : Fin 512) : EReal := silu (norm (p.U b s) p.G p.B k)

/-- The output projection: of the convolution branch by the first 512 rows, of the attention branch by the others. -/
def mix (b : Fin 4) (s : Fin 2048) (l : Fin 1024) : EReal :=
  ∑ k : Fin 512, yc p b s k * p.W ⟨k.val, by omega⟩ l + ∑ k : Fin 512, p.Y b s k * p.W ⟨512 + k.val, by omega⟩ l

/-- The residual stream after the mix. -/
def x1 (b : Fin 4) (s : Fin 2048) (l : Fin 1024) : EReal := p.X b s l + p.GM b l * mix p b s l

/-- The next block's input. -/
def h2 (b : Fin 4) (s : Fin 2048) (l : Fin 1024) : EReal := modulated (x1 p b s) p.GF (p.SC b) (p.SH b) l

/-! The four results, token by token. -/

def flat {n : ℕ} (f : Fin 4 → Fin 2048 → Fin n → EReal) : (⟨2, ![8192, n]⟩ : Shape).Idx → EReal := fun i =>
  f ⟨(i 0).val / 2048, by have := (i 0).isLt; change _ < 8192 at this; omega⟩ ⟨(i 0).val % 2048, by omega⟩ (i 1)

/-- A sum over 1024 rows in two halves. -/
theorem sum_halves (f : Fin 1024 → EReal) : ∑ k, f k = ∑ k : Fin 512, f ⟨k.val, by omega⟩ + ∑ k : Fin 512, f ⟨512 + k.val, by omega⟩ :=
  Fin.sum_univ_add (a := 512) (b := 512) f

end Cert.MixOutFwd

end
-- ==== Proof.MixOutFwd.Block.lean ====
/- What the output mix's body computes from one block of 512 tokens. -/
module

public import proofs.«01_k».proof.Proof.Gen.Kernel7Ideal.Skeleton
public import proofs.«01_k».proof.Proof.MixOutFwd.Spec

@[expose] public section

set_option maxRecDepth 16384

noncomputable section

namespace Cert.MixOutFwd.Block

open Cert.Kernel7Ideal Cert.Kernel7Ideal.Gen Idealize.ShloMosaic Idealize.ShloMosaic.TcCoe Idealize.SL.Sem
open Cert.Lift Cert.MixOutFwd

/-- The loads of a grid point hold the positions numbered by `ρ` of sequence `b`, the modulation's rows and the halves of the projection. -/
structure Blk (p : Data) (b : Fin 4) (ρ : Fin 512 → Fin 2048) (xu : FVec Ideal S512x512 .f32) (xy : FVec Ideal S512x512 .bf16)
    (xx : FVec Ideal S512x1024 .f32) (ygm ysh ysc : FVec Ideal S1x1x1024 .f32) (xg xb : FVec Ideal S1x512 .f32) (xf : FVec Ideal S1x1024 .f32)
    (wa wb : FVec Ideal S512x1024 .bf16) : Prop where
  u : ∀ r k, xu (ix2 r k) = p.U b (ρ r) k
  y : ∀ r k, xy (ix2 r k) = p.Y b (ρ r) k
  x : ∀ r k, xx (ix2 r k) = p.X b (ρ r) k
  gm : ∀ k : Fin 1024, ygm (ix3 0 0 k) = p.GM b k
  sh : ∀ k : Fin 1024, ysh (ix3 0 0 k) = p.SH b k
  sc : ∀ k : Fin 1024, ysc (ix3 0 0 k) = p.SC b k
  g : ∀ k : Fin 512, xg (ix2 0 k) = p.G k
  b : ∀ k : Fin 512, xb (ix2 0 k) = p.B k
  f : ∀ k : Fin 1024, xf (ix2 0 k) = p.GF k
  wa : ∀ (a : Fin 512) (k : Fin 1024), wa (ix2 a k) = p.W ⟨a.val, by omega⟩ k
  wb : ∀ (a : Fin 512) (k : Fin 1024), wb (ix2 a k) = p.W ⟨512 + a.val, by omega⟩ k

variable {p : Data} {b : Fin 4} {ρ : Fin 512 → Fin 2048} {xu : FVec Ideal S512x512 .f32} {xy : FVec Ideal S512x512 .bf16}
    {xx : FVec Ideal S512x1024 .f32} {ygm ysh ysc : FVec Ideal S1x1x1024 .f32} {xg xb : FVec Ideal S1x512 .f32} {xf : FVec Ideal S1x1024 .f32}
    {wa wb : FVec Ideal S512x1024 .bf16} (h : Blk p b ρ xu xy xx ygm ysh ysc xg xb xf wa wb)
include h

theorem yc_at (r k : Fin 512) : k0_pay2 (F := Ideal) xu xg xb (ix2 r k) = yc p b (ρ r) k := by
  pointwise [k0_pay2]
  simp only [h.u, h.g, h.b, w512, wEps, zero_add, zero_sub]; rfl

theorem mix_at (r : Fin 512) (l : Fin 1024) : k0_pay4 (F := Ideal) (k0_pay3 xu xg xb wa) xy wb (ix2 r l) = mix p b (ρ r) l := by
  pointwise [k0_pay4, k0_pay3]
  simp only [yc_at h, h.y, h.wa, h.wb, zero_add]; rfl

theorem x1_at (r : Fin 512) (l : Fin 1024) : k0_pay6 (F := Ideal) (k0_pay3 xu xg xb wa) xy wb xx ygm (ix2 r l) = x1 p b (ρ r) l := by
  pointwise [k0_pay6]
  rw [mix_at h, h.x, h.gm]; rfl

theorem h2_at (r : Fin 512) (l : Fin 1024) :
    k0_pay1 (F := Ideal) (k0_pay7 (k0_pay3 xu xg xb wa) xy wb xx ygm xf ysc) ysh (ix2 r l) = h2 p b (ρ r) l := by
  pointwise [k0_pay1, k0_pay7]
  simp only [x1_at h, h.f, h.sc, h.sh, w1024, wEps, zero_add]; rfl

end Cert.MixOutFwd.Block

end
-- ==== Proof.MixOutFwd.Array.lean ====
/- What the four result arrays of the output mix hold after the run. -/
module

public import proofs.«01_k».proof.Proof.Gen.Kernel7Ideal.Value
public import Idealize.ShloMosaic.Lib.Pipeline.ValueKit
public import proofs.«01_k».proof.Proof.MixOutFwd.Block
public import proofs.«01_k».proof.Proof.Rows

@[expose] public section

set_option maxRecDepth 16384

noncomputable section

namespace Cert.MixOutFwd.Array

open Cert.Kernel7Ideal Cert.Kernel7Ideal.Gen Idealize.ShloMosaic Idealize.ShloMosaic.TcCoe Idealize.SL.Sem
open Idealize.ShloMosaic.Pipeline (Dat)
open Cert.Lift Cert.MixOutFwd

variable (m : (ℓ : Loc nD τ sig) → Buf (Elt Ideal) ℓ) {c : Dev nD}

/-- The data the arguments in memory hold. -/
abbrev dat (c : Dev nD) : Data :=
  data (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7))

theorem idx : ∀ t : Fin cfg0.N, win0_0.index t = ![t.val, 0] ∧ win0_1.index t = ![t.val, 0] ∧ win0_2.index t = ![t.val, 0]
    ∧ win0_3.index t = ![t.val / 4, 0, 0] ∧ win0_4.index t = ![0, 0] ∧ win0_5.index t = ![0, 0] ∧ win0_6.index t = ![0, 0]
    ∧ win0_7.index t = ![0, 0] ∧ win0_8.index t = ![t.val, 0] ∧ win0_9.index t = ![t.val, 0] ∧ win0_10.index t = ![t.val, 0]
    ∧ win0_11.index t = ![t.val, 0] ∧ t.val < 16 :=
  (by decide +kernel : ∀ t : Fin grid0.N, _)

theorem lt (t : Fin cfg0.N) : t.val < 16 := (idx t).2.2.2.2.2.2.2.2.2.2.2.2

/-- The sequence grid point `t` works on. -/
def bat (t : Fin cfg0.N) : Fin 4 := ⟨t.val / 4, by have := lt t; omega⟩

/-- The positions of grid point `t` in its sequence. -/
def pos (t : Fin cfg0.N) (r : Fin 512) : Fin 2048 := ⟨512 * (t.val % 4) + r.val, by omega⟩

/-- The rows of grid point `t` among all tokens. -/
def row (t : Fin cfg0.N) (r : Fin 512) : Fin 8192 := ⟨512 * t.val + r.val, by have := lt t; omega⟩

theorem row_div (t : Fin cfg0.N) (r : Fin 512) (h : (row t r).val / 2048 < 4) : (⟨(row t r).val / 2048, h⟩ : Fin 4) = bat t :=
  Fin.ext (by show (512 * t.val + r.val) / 2048 = t.val / 4; omega)

theorem row_mod (t : Fin cfg0.N) (r : Fin 512) (h : (row t r).val % 2048 < 2048) : (⟨(row t r).val % 2048, h⟩ : Fin 2048) = pos t r :=
  Fin.ext (by show (512 * t.val + r.val) % 2048 = 512 * (t.val % 4) + r.val; omega)

/-! The arrays the host lines prepare for the kernel. -/

theorem tokens (r : Fin 8192) (k : Fin 512) :
    V m c main_v2 (ix2 r k) = m ((c : Thread nD τ).loc main_arg0) (ix3 ⟨r.val / 2048, by omega⟩ ⟨r.val % 2048, by omega⟩ k)
      ∧ V m c main_v4 (ix2 r k) = m ((c : Thread nD τ).loc main_arg1) (ix3 ⟨r.val / 2048, by omega⟩ ⟨r.val % 2048, by omega⟩ k) := by
  simp only [V, List.flatten_cons, List.flatten_nil, hostOps0, hostOps0_1, hostOps0_2, List.cons_append, List.nil_append]
  refine ⟨?_, ?_⟩ <;> (after_results_simp; pointwise)

theorem stream (r : Fin 8192) (k : Fin 1024) :
    V m c main_v5 (ix2 r k) = m ((c : Thread nD τ).loc main_arg2) (ix3 ⟨r.val / 2048, by omega⟩ ⟨r.val % 2048, by omega⟩ k) := by
  simp only [V, List.flatten_cons, List.flatten_nil, hostOps0, hostOps0_1, hostOps0_2, List.cons_append, List.nil_append]
  after_results_simp
  pointwise

theorem rows8 (b : Fin 4) (k : Fin 1024) :
    V m c main_v1 (ix3 b 2 k) = m ((c : Thread nD τ).loc main_arg3) (ix2 b ⟨2048 + k.val, by omega⟩)
      ∧ V m c main_v1 (ix3 b 3 k) = m ((c : Thread nD τ).loc main_arg3) (ix2 b ⟨3072 + k.val, by omega⟩)
      ∧ V m c main_v1 (ix3 b 4 k) = m ((c : Thread nD τ).loc main_arg3) (ix2 b ⟨4096 + k.val, by omega⟩) := by
  simp only [V, List.flatten_cons, List.flatten_nil, hostOps0, hostOps0_1, hostOps0_2, List.cons_append, List.nil_append]
  refine ⟨?_, ?_, ?_⟩ <;>
    (after_results_simp; pointwise; simp only [StableHlo.TRef.toBuf, StableHlo.TRef.ofBuf, cast_eq]; pointwise)

theorem kept (k : Fin 512) (l : Fin 1024) :
    V m c main_arg4 (ix2 0 k) = m ((c : Thread nD τ).loc main_arg4) (ix2 0 k)
      ∧ V m c main_arg5 (ix2 0 k) = m ((c : Thread nD τ).loc main_arg5) (ix2 0 k)
      ∧ V m c main_arg6 (ix2 0 l) = m ((c : Thread nD τ).loc main_arg6) (ix2 0 l) := by
  simp only [V, List.flatten_cons, List.flatten_nil, hostOps0, hostOps0_1, hostOps0_2, List.cons_append, List.nil_append]
  refine ⟨?_, ?_, ?_⟩ <;> after_results_simp

theorem weights (a k : Fin 1024) : V m c main_v7 (ix2 a k) = m ((c : Thread nD τ).loc main_arg7) (ix3 0 a k) := by
  simp only [V, List.flatten_cons, List.flatten_nil, hostOps0, hostOps0_1, hostOps0_2, List.cons_append, List.nil_append]
  after_results_simp
  pointwise

theorem win3 (t : Fin cfg0.N) (o : Fin 8) (k : Fin 1024) : iblk m c 3 t (ix3 0 o k) = V m c main_v1 (ix3 (bat t) o k) := by
  have e : ((cfg0.win 3).blk t).view.emb (ix3 0 o k) = ix3 (bat t) o k := by blk_ext [idx t, bat]
  exact congrArg (V m c main_v1) e

theorem win7 (t : Fin cfg0.N) (a k : Fin 1024) : iblk m c 7 t (ix2 a k) = V m c main_v7 (ix2 a k) := by
  have e : ((cfg0.win 7).blk t).view.emb (ix2 a k) = ix2 a k := by blk_ext [idx t]
  exact congrArg (V m c main_v7) e

set_option maxHeartbeats 2000000 in
/-- The loads of grid point `t`. -/
theorem blk (t : Fin cfg0.N) :
    Block.Blk (dat m c) (bat t) (pos t) (View.ld (iblk m c 0 t) r0_0) (View.ld (iblk m c 1 t) r0_0) (View.ld (iblk m c 2 t) r0_4)
      (View.ld (iblk m c 3 t) r0_5) (View.ld (iblk m c 3 t) r0_8) (View.ld (iblk m c 3 t) r0_7) (View.ld (iblk m c 4 t) r0_1)
      (View.ld (iblk m c 5 t) r0_1) (View.ld (iblk m c 6 t) r0_6) (View.ld (iblk m c 7 t) r0_2) (View.ld (iblk m c 7 t) r0_3) where
  u r k := by
    rw [← row_div t r (by omega), ← row_mod t r (by omega), Rows.ld_rows0]
    have e : ((cfg0.win 0).blk t).view.emb (ix2 r k) = ix2 (row t r) k := by blk_ext [idx t, row]
    exact (congrArg (V m c main_v2) e).trans (tokens m (row t r) k).1
  y r k := by
    rw [← row_div t r (by omega), ← row_mod t r (by omega), Rows.ld_rows0]
    have e : ((cfg0.win 1).blk t).view.emb (ix2 r k) = ix2 (row t r) k := by blk_ext [idx t, row]
    exact (congrArg (V m c main_v4) e).trans (tokens m (row t r) k).2
  x r k := by
    rw [← row_div t r (by omega), ← row_mod t r (by omega), Rows.ld_rows0]
    have e : ((cfg0.win 2).blk t).view.emb (ix2 r k) = ix2 (row t r) k := by blk_ext [idx t, row]
    exact (congrArg (V m c main_v5) e).trans (stream m (row t r) k)
  gm k := by
    rw [Rows.ld_row3]
    exact (win3 m t 2 k).trans (rows8 m (bat t) k).1
  sh k := by
    rw [Rows.ld_row3]
    exact (win3 m t 3 k).trans (rows8 m (bat t) k).2.1
  sc k := by
    rw [Rows.ld_row3]
    exact (win3 m t 4 k).trans (rows8 m (bat t) k).2.2
  g k := by
    rw [Rows.ld_rows0]
    have e : ((cfg0.win 4).blk t).view.emb (ix2 0 k) = ix2 0 k := by blk_ext [idx t]
    exact (congrArg (V m c main_arg4) e).trans (kept m k 0).1
  b k := by
    rw [Rows.ld_rows0]
    have e : ((cfg0.win 5).blk t).view.emb (ix2 0 k) = ix2 0 k := by blk_ext [idx t]
    exact (congrArg (V m c main_arg5) e).trans (kept m k 0).2.1
  f k := by
    rw [Rows.ld_rows0]
    have e : ((cfg0.win 6).blk t).view.emb (ix2 0 k) = ix2 0 k := by blk_ext [idx t]
    exact (congrArg (V m c main_arg6) e).trans (kept m 0 k).2.2
  wa a k := by
    rw [Rows.ld_rows0]
    exact (win7 m t _ k).trans (weights m _ k)
  wb a k := by
    rw [Rows.ld_rows]
    exact (win7 m t _ k).trans (weights m _ k)

/-! What grid point `t` leaves in its four blocks. -/

theorem at8 (t : Fin cfg0.N) (r : Fin 512) (l : Fin 512) :
    out0_8 (F := Ideal) (iblk m c 0 t) (iblk m c 1 t) (iblk m c 2 t) (iblk m c 3 t) (iblk m c 4 t)
    (iblk m c 5 t) (iblk m c 6 t) (iblk m c 7 t) (ix2 r l) = yc (dat m c) (bat t) (pos t r) l := by
  unfold_out out0_8
  exact (Rows.canon_fill (Val := Elt Ideal) _ _ _ r l).trans (Block.yc_at (blk m t) r l)

theorem at9 (t : Fin cfg0.N) (r : Fin 512) (l : Fin 1024) :
    out0_9 (F := Ideal) (iblk m c 0 t) (iblk m c 1 t) (iblk m c 2 t) (iblk m c 3 t) (iblk m c 4 t)
    (iblk m c 5 t) (iblk m c 6 t) (iblk m c 7 t) (ix2 r l) = mix (dat m c) (bat t) (pos t r) l := by
  unfold_out out0_9
  exact (Rows.canon_fill (Val := Elt Ideal) _ _ _ r l).trans (Block.mix_at (blk m t) r l)

theorem at10 (t : Fin cfg0.N) (r : Fin 512) (l : Fin 1024) :
    out0_10 (F := Ideal) (iblk m c 0 t) (iblk m c 1 t) (iblk m c 2 t) (iblk m c 3 t) (iblk m c 4 t)
    (iblk m c 5 t) (iblk m c 6 t) (iblk m c 7 t) (ix2 r l) = x1 (dat m c) (bat t) (pos t r) l := by
  unfold_out out0_10
  exact (Rows.canon_fill (Val := Elt Ideal) _ _ _ r l).trans (Block.x1_at (blk m t) r l)

theorem at11 (t : Fin cfg0.N) (r : Fin 512) (l : Fin 1024) :
    out0_11 (F := Ideal) (iblk m c 0 t) (iblk m c 1 t) (iblk m c 2 t) (iblk m c 3 t) (iblk m c 4 t)
    (iblk m c 5 t) (iblk m c 6 t) (iblk m c 7 t) (ix2 r l) = h2 (dat m c) (bat t) (pos t r) l := by
  unfold_out out0_11
  exact (Rows.canon_fill (Val := Elt Ideal) _ _ _ r l).trans (Block.h2_at (blk m t) r l)

set_option maxHeartbeats 2000000 in
theorem final8 : (dats m 0 c).arrAt 8 cfg0.N = flat (yc (dat m c)) := by
  refine (dats m 0 c).arrAt_eq_of_covers 8 _ (by decide +kernel) fun t hf y => ?_
  obtain ⟨r, l, rfl⟩ : ∃ (r : Fin 512) (l : Fin 512), y = ix2 r l := ⟨_, _, eq_ix2 y⟩
  have e : ((cfg0.win 8).blk t).view.emb (ix2 r l) = ix2 (row t r) l := by blk_ext [idx t, row]
  refine Eq.trans ?_ (congrArg (flat (yc (dat m c))) e).symm
  refine Eq.trans ?_ (congrArg₂ (fun b s => yc (dat m c) b s l) (row_div t r _) (row_mod t r _)).symm
  rw [after0_8]
  exact at8 m t r l

set_option maxHeartbeats 2000000 in
theorem final9 : (dats m 0 c).arrAt 9 cfg0.N = flat (mix (dat m c)) := by
  refine (dats m 0 c).arrAt_eq_of_covers 9 _ (by decide +kernel) fun t hf y => ?_
  obtain ⟨r, l, rfl⟩ : ∃ (r : Fin 512) (l : Fin 1024), y = ix2 r l := ⟨_, _, eq_ix2 y⟩
  have e : ((cfg0.win 9).blk t).view.emb (ix2 r l) = ix2 (row t r) l := by blk_ext [idx t, row]
  refine Eq.trans ?_ (congrArg (flat (mix (dat m c))) e).symm
  refine Eq.trans ?_ (congrArg₂ (fun b s => mix (dat m c) b s l) (row_div t r _) (row_mod t r _)).symm
  rw [after0_9]
  exact at9 m t r l

set_option maxHeartbeats 2000000 in
theorem final10 : (dats m 0 c).arrAt 10 cfg0.N = flat (x1 (dat m c)) := by
  refine (dats m 0 c).arrAt_eq_of_covers 10 _ (by decide +kernel) fun t hf y => ?_
  obtain ⟨r, l, rfl⟩ : ∃ (r : Fin 512) (l : Fin 1024), y = ix2 r l := ⟨_, _, eq_ix2 y⟩
  have e : ((cfg0.win 10).blk t).view.emb (ix2 r l) = ix2 (row t r) l := by blk_ext [idx t, row]
  refine Eq.trans ?_ (congrArg (flat (x1 (dat m c))) e).symm
  refine Eq.trans ?_ (congrArg₂ (fun b s => x1 (dat m c) b s l) (row_div t r _) (row_mod t r _)).symm
  rw [after0_10]
  exact at10 m t r l

set_option maxHeartbeats 2000000 in
theorem final11 : (dats m 0 c).arrAt 11 cfg0.N = flat (h2 (dat m c)) := by
  refine (dats m 0 c).arrAt_eq_of_covers 11 _ (by decide +kernel) fun t hf y => ?_
  obtain ⟨r, l, rfl⟩ : ∃ (r : Fin 512) (l : Fin 1024), y = ix2 r l := ⟨_, _, eq_ix2 y⟩
  have e : ((cfg0.win 11).blk t).view.emb (ix2 r l) = ix2 (row t r) l := by blk_ext [idx t, row]
  refine Eq.trans ?_ (congrArg (flat (h2 (dat m c))) e).symm
  refine Eq.trans ?_ (congrArg₂ (fun b s => h2 (dat m c) b s l) (row_div t r _) (row_mod t r _)).symm
  rw [after0_11]
  exact at11 m t r l

end Cert.MixOutFwd.Array

end
-- ==== Proof.MixOutFwd.Reference.lean ====
/- The reference's four results are the formulas. -/
module

public import proofs.«01_k».proof.Proof.Gen.Reference7Ideal.Read
public import proofs.«01_k».proof.Proof.MixOutFwd.Spec

@[expose] public section

set_option maxRecDepth 16384

noncomputable section

namespace Cert.MixOutFwd.Ref

open Cert.Reference7Ideal Cert.Reference7Ideal.Gen Cert.Reference7Ideal.Read Idealize.ShloMosaic Idealize.ShloMosaic.TcCoe Idealize.SL.Sem
open Cert.Lift Cert.MixOutFwd

variable (x0 x1 : FVec Ideal S4x2048x512 .f32) (x2 : FVec Ideal S4x2048x1024 .f32) (x3 : FVec Ideal S4x6144 .f32) (x4 x5 : FVec Ideal S1x512 .f32)
  (x6 : FVec Ideal S1x1024 .f32) (x7 : FVec Ideal S1x1024x1024 .f32)

local notation "p" => data x0 x1 x2 x3 x4 x5 x6 x7

theorem v14 (b : Fin 4) (s : Fin 2048) :
    val_main_v14 (F := Ideal) x0 (ix3 b s 0) = Ideal.div (∑ j, x0 (ix3 b s j)) ((512 : ℝ) : EReal) := by
  pointwise [val_main_v14, val_main_v13, val_main_v12, val_main_v11, val_main_cst, val_main_cst_0]
  rw [w512]

theorem v16 (b : Fin 4) (s : Fin 2048) (k : Fin 512) : val_main_v16 (F := Ideal) x0 (ix3 b s k) = cen (Data.U p b s) k := by
  pointwise [val_main_v16, val_main_v15]
  rw [v14]; rfl

theorem v23 (b : Fin 4) (s : Fin 2048) (k : Fin 512) : val_main_v23 (F := Ideal) x0 (ix3 b s k) = cen (Data.U p b s) k := by
  pointwise [val_main_v23, val_main_v22]
  rw [v14]; rfl

theorem v34 (b : Fin 4) (s : Fin 2048) (k : Fin 512) :
    val_main_v34 (F := Ideal) x0 x4 x5 (ix3 b s k) = norm (Data.U p b s) (Data.G p) (Data.B p) k := by
  pointwise [val_main_v34, val_main_v33, val_main_v32, val_main_v31, val_main_v30, val_main_v29, val_main_v28, val_main_v27, val_main_v26,
    val_main_v25, val_main_v24, val_main_v21, val_main_v20, val_main_v19, val_main_v18, val_main_v17, val_main_v10, val_main_v9, val_main_cst_1,
    val_main_cst_2, val_main_cst_3]
  simp only [v16 x0 x1 x2 x3 x4 x5 x6 x7, v23 x0 x1 x2 x3 x4 x5 x6 x7, w512, wEps, zero_add]; rfl

theorem v35 (b : Fin 4) (s : Fin 2048) (k : Fin 512) : val_main_v35 (F := Ideal) x0 x4 x5 (ix3 b s k) = yc p b s k := by
  pointwise [val_main_v35, val_main_call0_v5, val_main_call0_v4, val_main_call0_v3, val_main_call0_v2, val_main_call0_v1, val_main_call0_v0,
    val_main_call0_cst, val_main_call0_cst_0]
  rw [v34 x0 x1 x2 x3 x4 x5 x6 x7]; rfl

theorem v36 (b : Fin 4) (s : Fin 2048) (k : Fin 512) :
    val_main_v36 (F := Ideal) x0 x1 x4 x5 (ix3 b s ⟨k.val, by omega⟩) = yc p b s k
      ∧ val_main_v36 (F := Ideal) x0 x1 x4 x5 (ix3 b s ⟨512 + k.val, by omega⟩) = x1 (ix3 b s k) := by
  constructor
  · exact (concatenate_pair_apply_left (t := S4x2048x1024) (s₁ := S4x2048x512) (s₂ := S4x2048x512) (2 : Fin 3) (val_main_v35 (F := Ideal) x0 x4 x5) x1
      concatenates_S4x2048x512_S4x2048x512_S4x2048x1024_d2 (ix3 b s ⟨k.val, by omega⟩) rfl (ix3 b s k) fun a => match a with
        | ⟨0, _⟩ => rfl
        | ⟨1, _⟩ => rfl
        | ⟨2, _⟩ => rfl).trans (v35 x0 x1 x2 x3 x4 x5 x6 x7 b s k)
  · exact concatenate_pair_apply_right (t := S4x2048x1024) (s₁ := S4x2048x512) (s₂ := S4x2048x512) (2 : Fin 3) (val_main_v35 (F := Ideal) x0 x4 x5) x1
      concatenates_S4x2048x512_S4x2048x512_S4x2048x1024_d2 (ix3 b s ⟨512 + k.val, by omega⟩) rfl rfl (ix3 b s k) (fun a ha => match a with
        | ⟨0, _⟩ => rfl
        | ⟨1, _⟩ => rfl
        | ⟨2, _⟩ => absurd rfl ha) (by show k.val + 512 = 512 + k.val; omega)

theorem v38 (b : Fin 4) (s : Fin 2048) (l : Fin 1024) : val_main_v38 (F := Ideal) x0 x1 x4 x5 x7 (ix3 b s l) = mix p b s l := by
  rw [val_main_v38_apply, sum_halves]
  have eL : ∀ k : Fin 1024, lidx_main_v38 (ix3 b s l) k = ix3 b s k := fun k => by funext a; fin_cases a <;> rfl
  have w : ∀ k : Fin 1024, val_main_v37 (F := Ideal) x7 (ridx_main_v38 (ix3 b s l) k) = x7 (ix3 0 k l) := fun k => by
    have eR : ridx_main_v38 (ix3 b s l) k = ix2 k l := by funext a; fin_cases a <;> rfl
    rw [eR]
    pointwise [val_main_v37]
  simp only [eL, w, (v36 x0 x1 x2 x3 x4 x5 x6 x7 b s _).1, (v36 x0 x1 x2 x3 x4 x5 x6 x7 b s _).2]
  rfl

theorem v41 (b : Fin 4) (s : Fin 2048) (l : Fin 1024) :
    val_main_v41 (F := Ideal) x0 x1 x2 x3 x4 x5 x7 (ix3 b s l) = Cert.MixOutFwd.x1 p b s l := by
  pointwise [val_main_v41, val_main_v40, val_main_v39, val_main_v6, val_main_v2]
  rw [v38 x0 x1 x2 x3 x4 x5 x6 x7]; rfl

theorem v61 (b : Fin 4) (s : Fin 2048) (l : Fin 1024) : val_main_v61 (F := Ideal) x0 x1 x2 x3 x4 x5 x6 x7 (ix3 b s l) = h2 p b s l := by
  pointwise [val_main_v61, val_main_v60, val_main_v59, val_main_v58, val_main_v57, val_main_v56, val_main_v55, val_main_v54, val_main_v53,
    val_main_v52, val_main_v51, val_main_v50, val_main_v49, val_main_v48, val_main_v47, val_main_v46, val_main_v45, val_main_v44, val_main_v43,
    val_main_v42, val_main_v8, val_main_v7, val_main_v4, val_main_v3, val_main_cst_4, val_main_cst_5, val_main_cst_6, val_main_cst_7]
  simp only [v41 x0 x1 x2 x3 x4 x5 x6 x7, w1024, wEps, zero_add]; rfl

theorem out0_eq : val_main_v63 (F := Ideal) x0 x4 x5 = flat (yc p) := by
  funext i
  obtain ⟨r, l, rfl⟩ : ∃ (r : Fin 8192) (l : Fin 512), i = ix2 r l := ⟨_, _, eq_ix2 i⟩
  pointwise [val_main_v63, val_main_v62]
  exact v35 x0 x1 x2 x3 x4 x5 x6 x7 _ _ _

theorem out1_eq : val_main_v65 (F := Ideal) x0 x1 x4 x5 x7 = flat (mix p) := by
  funext i
  obtain ⟨r, l, rfl⟩ : ∃ (r : Fin 8192) (l : Fin 1024), i = ix2 r l := ⟨_, _, eq_ix2 i⟩
  pointwise [val_main_v65, val_main_v64]
  exact v38 x0 x1 x2 x3 x4 x5 x6 x7 _ _ _

theorem out2_eq : val_main_v66 (F := Ideal) x0 x1 x2 x3 x4 x5 x7 = flat (Cert.MixOutFwd.x1 p) := by
  funext i
  obtain ⟨r, l, rfl⟩ : ∃ (r : Fin 8192) (l : Fin 1024), i = ix2 r l := ⟨_, _, eq_ix2 i⟩
  pointwise [val_main_v66]
  exact v41 x0 x1 x2 x3 x4 x5 x6 x7 _ _ _

theorem out3_eq : val_main_v68 (F := Ideal) x0 x1 x2 x3 x4 x5 x6 x7 = flat (h2 p) := by
  funext i
  obtain ⟨r, l, rfl⟩ : ∃ (r : Fin 8192) (l : Fin 1024), i = ix2 r l := ⟨_, _, eq_ix2 i⟩
  pointwise [val_main_v68, val_main_v67]
  exact v61 x0 x1 x2 x3 x4 x5 x6 x7 _ _ _

end Cert.MixOutFwd.Ref

end
-- ==== Proof.MixOutFwd.Claim.lean ====
/- The value claim of the forward output mix. -/
module

public import proofs.«01_k».proof.Defs
public import proofs.«01_k».proof.Proof.Gen.Reference7Ideal.Run
public import proofs.«01_k».proof.Proof.MixOutFwd.Array
public import proofs.«01_k».proof.Proof.MixOutFwd.Reference

@[expose] public section

set_option maxRecDepth 16384

noncomputable section

namespace Cert.MixOutFwd

open Idealize.ShloMosaic Idealize.ShloMosaic.TcCoe Idealize.SL.Sem

set_option maxHeartbeats 4000000 in
theorem algebraic : Cert.algebraic_Kernel7Ideal_Reference7Ideal := by
  pair_intro
  · run_from Cert.Kernel7Ideal.Value.run_blocks m g
  · run_from Cert.Reference7Ideal.Value.run m' g'
    · obtain ⟨e0, e1, e2, e3, e4, e5, e6, e7⟩ := hagree c
      rw [Cert.Reference7Ideal.Read.val_main_v63_eq]
      try simp only [e0, e1, e2, e3, e4, e5, e6, e7]
      exact (Ref.out0_eq _ _ _ _ _ _ _ _).trans (Array.final8 m (c := c)).symm
    · obtain ⟨e0, e1, e2, e3, e4, e5, e6, e7⟩ := hagree c
      rw [Cert.Reference7Ideal.Read.val_main_v65_eq]
      try simp only [e0, e1, e2, e3, e4, e5, e6, e7]
      exact (Ref.out1_eq _ _ _ _ _ _ _ _).trans (Array.final9 m (c := c)).symm
    · obtain ⟨e0, e1, e2, e3, e4, e5, e6, e7⟩ := hagree c
      rw [Cert.Reference7Ideal.Read.val_main_v66_eq]
      try simp only [e0, e1, e2, e3, e4, e5, e6, e7]
      exact (Ref.out2_eq _ _ _ _ _ _ _ _).trans (Array.final10 m (c := c)).symm
    · obtain ⟨e0, e1, e2, e3, e4, e5, e6, e7⟩ := hagree c
      rw [Cert.Reference7Ideal.Read.val_main_v68_eq]
      try simp only [e0, e1, e2, e3, e4, e5, e6, e7]
      exact (Ref.out3_eq _ _ _ _ _ _ _ _).trans (Array.final11 m (c := c)).symm

end Cert.MixOutFwd

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_finite
public import proofs.«01_k».proof.Proof.MixOut.Claim
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Pre_finite2
public import proofs.«01_k».proof.Proof.MixIn.Claim
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Ada.Claim
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Loss.Claim
public import proofs.«01_k».proof.Proof.Gen.Kernel5
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame.RunC
public import proofs.«01_k».proof.Proof.FfnBwd.Frame
public import proofs.«01_k».proof.Proof.FfnBwd.Bits
public import proofs.«01_k».proof.Proof.Gen.Reference5Ideal
public import proofs.«01_k».proof.Proof.Gen.Reference5Ideal.Run
public import proofs.«01_k».proof.Proof.Gen.Reference5Ideal.Read
public import proofs.«01_k».proof.Proof.Gen.Pre_finite5
public import proofs.«01_k».proof.Proof.FfnBwd.Claim
public import proofs.«01_k».proof.Proof.Gen.Kernel6
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Loops
public import proofs.«01_k».proof.Proof.Conv.Frame
public import proofs.«01_k».proof.Proof.Conv.Bits
public import proofs.«01_k».proof.Proof.Gen.Reference6Ideal
public import proofs.«01_k».proof.Proof.Gen.Reference6Ideal.Run
public import proofs.«01_k».proof.Proof.Gen.Reference6Ideal.Read
public import proofs.«01_k».proof.Proof.Conv.Claim
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.MixOutFwd.Claim
public import Idealize.ShloMosaic.Adequacy
public import Idealize.ShloMosaic.Init

@[expose] public section

noncomputable section

namespace Cert.Proof

open Idealize.ShloMosaic Idealize.SL.Sem Cert.Kernel

theorem frame_reference : Cert.quiescent_ReferenceIdeal := fun m ρ _ =>
  (θ_run _ _ _).mono (fun r h => ⟨fun c => (h c).2.2.2, sem_eq_zero_of_no_sems (by decide) r.2⟩) (Cert.ReferenceIdeal.Value.run m ρ)

theorem frame_reference2 : Cert.quiescent_Reference2Ideal := fun m ρ _ =>
  (θ_run _ _ _).mono (fun r h => ⟨fun c => (h c).2.2.2, sem_eq_zero_of_no_sems (by decide) r.2⟩) (Cert.Reference2Ideal.Value.run m ρ)

theorem frame_reference3 : Cert.quiescent_Reference3Ideal := fun m ρ _ =>
  (θ_run _ _ _).mono (fun r h => ⟨fun c => (h c).2.2, sem_eq_zero_of_no_sems (by decide) r.2⟩) (Cert.Reference3Ideal.Value.run m ρ)

theorem frame_reference4 : Cert.quiescent_Reference4Ideal := fun m ρ _ =>
  (θ_run _ _ _).mono (fun r h => ⟨fun c => (h c).2.2.2.2.2.2, sem_eq_zero_of_no_sems (by decide) r.2⟩) (Cert.Reference4Ideal.Value.run m ρ)

theorem frame_reference5 : Cert.quiescent_Reference5Ideal := fun m ρ _ =>
  (θ_run _ _ _).mono (fun r h => ⟨fun c => (h c).2.2.2.2.2.2.2, sem_eq_zero_of_no_sems (by decide) r.2⟩) (Cert.Reference5Ideal.Value.run m ρ)

theorem frame_reference6 : Cert.quiescent_Reference6Ideal := fun m ρ _ =>
  (θ_run _ _ _).mono (fun r h => ⟨fun c => (h c).2.2.2.2, sem_eq_zero_of_no_sems (by decide) r.2⟩) (Cert.Reference6Ideal.Value.run m ρ)

theorem frame_reference7 : Cert.quiescent_Reference7Ideal := fun m ρ _ =>
  (θ_run _ _ _).mono (fun r h => ⟨fun c => (h c).2.2.2.2, sem_eq_zero_of_no_sems (by decide) r.2⟩) (Cert.Reference7Ideal.Value.run m ρ)

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts,
  Cert.Pre_finite.Gen.facts, Cert.Pre_finite2.Gen.facts, Cert.Pre_finite5.Gen.facts,
  fun m ρ _ => Cert.Kernel.Gen.frame m ρ, fun m ρ _ => Cert.KernelIdeal.Gen.frame m ρ, fun m ρ _ => Cert.KernelIdeal.Gen.frame m ρ, frame_reference, fun m ρ _ => frame_reference m ρ trivial,
  fun m ρ _ => Cert.Kernel2.Gen.frame m ρ, fun m ρ _ => Cert.Kernel2Ideal.Gen.frame m ρ, fun m ρ _ => Cert.Kernel2Ideal.Gen.frame m ρ, frame_reference2, fun m ρ _ => frame_reference2 m ρ trivial,
  fun m ρ _ => Cert.Kernel3.Gen.frame m ρ, fun m ρ _ => Cert.Kernel3Ideal.Gen.frame m ρ, frame_reference3,
  fun m ρ _ => Cert.Kernel4.Gen.frame m ρ, fun m ρ _ => Cert.Kernel4Ideal.Gen.frame m ρ, frame_reference4,
  Cert.FfnBwd.frame_bits, fun m ρ _ => Cert.FfnBwd.Frame.frame m ρ, fun m ρ _ => Cert.FfnBwd.Frame.frame m ρ, frame_reference5, fun m ρ _ => frame_reference5 m ρ trivial,
  Cert.Conv.frame_bits, fun m ρ _ => Cert.Conv.Frame.frame m ρ, frame_reference6,
  fun m ρ _ => Cert.Kernel7.Gen.frame m ρ, fun m ρ _ => Cert.Kernel7Ideal.Gen.frame m ρ, frame_reference7,
  trivial, Cert.MixOut.algebraic, trivial, Cert.MixIn.algebraic, trivial, Cert.Ada.algebraic, trivial, Cert.Loss.algebraic, trivial, Cert.FfnBwd.algebraic, trivial, Cert.Conv.algebraic, trivial, Cert.MixOutFwd.algebraic⟩

end Cert.Proof

end
